-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpGateDx (m : (ℓ : Loc Cert.UpGateDx.nD Cert.UpGateDx.τ Cert.UpGateDx.sig) → Buf (Elt Bits) ℓ) : Prop :=
  True

def Pre_UpGateDxIdeal (m : (ℓ : Loc Cert.UpGateDxIdeal.nD Cert.UpGateDxIdeal.τ Cert.UpGateDxIdeal.sig) → Buf (Elt Ideal) ℓ) : Prop :=
  True

def Pre_UpGateDxRefIdeal (m : (ℓ : Loc Cert.UpGateDxRefIdeal.nD Cert.UpGateDxRefIdeal.τ Cert.UpGateDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamModel (m : (ℓ : Loc Cert.AdamModel.nD Cert.AdamModel.τ Cert.AdamModel.sig) → Buf (Elt Bits) ℓ) : Prop :=
  True

def Pre_AdamModelIdeal (m : (ℓ : Loc Cert.AdamModelIdeal.nD Cert.AdamModelIdeal.τ Cert.AdamModelIdeal.sig) → Buf (Elt Ideal) ℓ) : Prop :=
  True

def Pre_AdamModelRefIdeal (m : (ℓ : Loc Cert.AdamModelRefIdeal.nD Cert.AdamModelRefIdeal.τ Cert.AdamModelRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamWidth (m : (ℓ : Loc Cert.AdamWidth.nD Cert.AdamWidth.τ Cert.AdamWidth.sig) → Buf (Elt Bits) ℓ) : Prop :=
  True

def Pre_AdamWidthIdeal (m : (ℓ : Loc Cert.AdamWidthIdeal.nD Cert.AdamWidthIdeal.τ Cert.AdamWidthIdeal.sig) → Buf (Elt Ideal) ℓ) : Prop :=
  True

def Pre_AdamWidthRefIdeal (m : (ℓ : Loc Cert.AdamWidthRefIdeal.nD Cert.AdamWidthRefIdeal.τ Cert.AdamWidthRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamState (m : (ℓ : Loc Cert.AdamState.nD Cert.AdamState.τ Cert.AdamState.sig) → Buf (Elt Bits) ℓ) : Prop :=
  True

def Pre_AdamStateIdeal (m : (ℓ : Loc Cert.AdamStateIdeal.nD Cert.AdamStateIdeal.τ Cert.AdamStateIdeal.sig) → Buf (Elt Ideal) ℓ) : Prop :=
  True

def Pre_AdamStateRefIdeal (m : (ℓ : Loc Cert.AdamStateRefIdeal.nD Cert.AdamStateRefIdeal.τ Cert.AdamStateRefIdeal.sig) → Buf (Elt Ideal) ℓ) : Prop :=
  True

def Pre_AdamMatrix (m : (ℓ : Loc Cert.AdamMatrix.nD Cert.AdamMatrix.τ Cert.AdamMatrix.sig) → Buf (Elt Bits) ℓ) : Prop :=
  True

def Pre_AdamMatrixIdeal (m : (ℓ : Loc Cert.AdamMatrixIdeal.nD Cert.AdamMatrixIdeal.τ Cert.AdamMatrixIdeal.sig) → Buf (Elt Ideal) ℓ) : Prop :=
  True

def Pre_AdamMatrixRefIdeal (m : (ℓ : Loc Cert.AdamMatrixRefIdeal.nD Cert.AdamMatrixRefIdeal.τ Cert.AdamMatrixRefIdeal.sig) → Buf (Elt Ideal) ℓ) : Prop :=
  True

def Pre_AdamStep (m : (ℓ : Loc Cert.AdamStep.nD Cert.AdamStep.τ Cert.AdamStep.sig) → Buf (Elt Bits) ℓ) : Prop :=
  True

def Pre_AdamStepIdeal (m : (ℓ : Loc Cert.AdamStepIdeal.nD Cert.AdamStepIdeal.τ Cert.AdamStepIdeal.sig) → Buf (Elt Ideal) ℓ) : Prop :=
  True

def Pre_AdamStepRefIdeal (m : (ℓ : Loc Cert.AdamStepRefIdeal.nD Cert.AdamStepRefIdeal.τ Cert.AdamStepRefIdeal.sig) → Buf (Elt Ideal) ℓ) : Prop :=
  True

def Pre_AdamIn [hPre_in_slab : Cert.Pre_in_slab.Facts] (m : (ℓ : Loc Cert.AdamIn.nD Cert.AdamIn.τ Cert.AdamIn.sig) → Buf (Elt Bits) ℓ) : Prop :=
  ∀ c : Dev Cert.AdamIn.nD,
    (Cert.Pre_in_slab.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5)) (m ((c.tc : Thread Cert.AdamIn.nD Cert.AdamIn.τ).loc Cert.AdamIn.main_arg6))) = (fun _ => 1#1)

def Pre_AdamInIdeal [hPre_in_slab : Cert.Pre_in_slab.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_in_slab.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5)) (m ((c.tc : Thread Cert.AdamInIdeal.nD Cert.AdamInIdeal.τ).loc Cert.AdamInIdeal.main_arg6))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_in_slab [hPre_in_slab : Cert.Pre_in_slab.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_in_slab.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5)) (m ((c.tc : Thread Cert.AdamInRefIdeal.nD Cert.AdamInRefIdeal.τ).loc Cert.AdamInRefIdeal.main_arg6))) = (fun _ => 1#1)

def Pre_AdamGlu [hPre_glu_slab : Cert.Pre_glu_slab.Facts] (m : (ℓ : Loc Cert.AdamGlu.nD Cert.AdamGlu.τ Cert.AdamGlu.sig) → Buf (Elt Bits) ℓ) : Prop :=
  ∀ c : Dev Cert.AdamGlu.nD,
    (Cert.Pre_glu_slab.fn (F := Bits) (m ((c.tc : Thread Cert.AdamGlu.nD Cert.AdamGlu.τ).loc Cert.AdamGlu.main_arg0)) (m ((c.tc : Thread Cert.AdamGlu.nD Cert.AdamGlu.τ).loc Cert.AdamGlu.main_arg1)) (m ((c.tc : Thread Cert.AdamGlu.nD Cert.AdamGlu.τ).loc Cert.AdamGlu.main_arg2)) (m ((c.tc : Thread Cert.AdamGlu.nD Cert.AdamGlu.τ).loc Cert.AdamGlu.main_arg3)) (m ((c.tc : Thread Cert.AdamGlu.nD Cert.AdamGlu.τ).loc Cert.AdamGlu.main_arg4)) (m ((c.tc : Thread Cert.AdamGlu.nD Cert.AdamGlu.τ).loc Cert.AdamGlu.main_arg5)) (m ((c.tc : Thread Cert.AdamGlu.nD Cert.AdamGlu.τ).loc Cert.AdamGlu.main_arg6))) = (fun _ => 1#1)

def Pre_AdamGluIdeal [hPre_glu_slab : Cert.Pre_glu_slab.Facts] (m : (ℓ : Loc Cert.AdamGluIdeal.nD Cert.AdamGluIdeal.τ Cert.AdamGluIdeal.sig) → Buf (Elt Ideal) ℓ) : Prop :=
  ∀ c : Dev Cert.AdamGluIdeal.nD,
    (Cert.Pre_glu_slab.fn (F := Ideal) (m ((c.tc : Thread Cert.AdamGluIdeal.nD Cert.AdamGluIdeal.τ).loc Cert.AdamGluIdeal.main_arg0)) (m ((c.tc : Thread Cert.AdamGluIdeal.nD Cert.AdamGluIdeal.τ).loc Cert.AdamGluIdeal.main_arg1)) (m ((c.tc : Thread Cert.AdamGluIdeal.nD Cert.AdamGluIdeal.τ).loc Cert.AdamGluIdeal.main_arg2)) (m ((c.tc : Thread Cert.AdamGluIdeal.nD Cert.AdamGluIdeal.τ).loc Cert.AdamGluIdeal.main_arg3)) (m ((c.tc : Thread Cert.AdamGluIdeal.nD Cert.AdamGluIdeal.τ).loc Cert.AdamGluIdeal.main_arg4)) (m ((c.tc : Thread Cert.AdamGluIdeal.nD Cert.AdamGluIdeal.τ).loc Cert.AdamGluIdeal.main_arg5)) (m ((c.tc : Thread Cert.AdamGluIdeal.nD Cert.AdamGluIdeal.τ).loc Cert.AdamGluIdeal.main_arg6))) = (fun _ => 1#1)

def Pre_AdamGluRefIdeal (m : (ℓ : Loc Cert.AdamGluRefIdeal.nD Cert.AdamGluRefIdeal.τ Cert.AdamGluRefIdeal.sig) → Buf (Elt Ideal) ℓ) : Prop :=
  True

def Pre_AdamGluRefIdeal_glu_slab [hPre_glu_slab : Cert.Pre_glu_slab.Facts] (m : (ℓ : Loc Cert.AdamGluRefIdeal.nD Cert.AdamGluRefIdeal.τ Cert.AdamGluRefIdeal.sig) → Buf (Elt Ideal) ℓ) : Prop :=
  ∀ c : Dev Cert.AdamGluRefIdeal.nD,
    (Cert.Pre_glu_slab.fn (F := Ideal) (m ((c.tc : Thread Cert.AdamGluRefIdeal.nD Cert.AdamGluRefIdeal.τ).loc Cert.AdamGluRefIdeal.main_arg0)) (m ((c.tc : Thread Cert.AdamGluRefIdeal.nD Cert.AdamGluRefIdeal.τ).loc Cert.AdamGluRefIdeal.main_arg1)) (m ((c.tc : Thread Cert.AdamGluRefIdeal.nD Cert.AdamGluRefIdeal.τ).loc Cert.AdamGluRefIdeal.main_arg2)) (m ((c.tc : Thread Cert.AdamGluRefIdeal.nD Cert.AdamGluRefIdeal.τ).loc Cert.AdamGluRefIdeal.main_arg3)) (m ((c.tc : Thread Cert.AdamGluRefIdeal.nD Cert.AdamGluRefIdeal.τ).loc Cert.AdamGluRefIdeal.main_arg4)) (m ((c.tc : Thread Cert.AdamGluRefIdeal.nD Cert.AdamGluRefIdeal.τ).loc Cert.AdamGluRefIdeal.main_arg5)) (m ((c.tc : Thread Cert.AdamGluRefIdeal.nD Cert.AdamGluRefIdeal.τ).loc Cert.AdamGluRefIdeal.main_arg6))) = (fun _ => 1#1)

def Pre_AdamOut [hPre_out_slab : Cert.Pre_out_slab.Facts] (m : (ℓ : Loc Cert.AdamOut.nD Cert.AdamOut.τ Cert.AdamOut.sig) → Buf (Elt Bits) ℓ) : Prop :=
  ∀ c : Dev Cert.AdamOut.nD,
    (Cert.Pre_out_slab.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5)) (m ((c.tc : Thread Cert.AdamOut.nD Cert.AdamOut.τ).loc Cert.AdamOut.main_arg6))) = (fun _ => 1#1)

def Pre_AdamOutIdeal [hPre_out_slab : Cert.Pre_out_slab.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_out_slab.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5)) (m ((c.tc : Thread Cert.AdamOutIdeal.nD Cert.AdamOutIdeal.τ).loc Cert.AdamOutIdeal.main_arg6))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_out_slab [hPre_out_slab : Cert.Pre_out_slab.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_out_slab.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5)) (m ((c.tc : Thread Cert.AdamOutRefIdeal.nD Cert.AdamOutRefIdeal.τ).loc Cert.AdamOutRefIdeal.main_arg6))) = (fun _ => 1#1)

def Pre_AdamGate [hPre_gate_slab : Cert.Pre_gate_slab.Facts] (m : (ℓ : Loc Cert.AdamGate.nD Cert.AdamGate.τ Cert.AdamGate.sig) → Buf (Elt Bits) ℓ) : Prop :=
  ∀ c : Dev Cert.AdamGate.nD,
    (Cert.Pre_gate_slab.fn (F := Bits) (m ((c.tc : Thread Cert.AdamGate.nD Cert.AdamGate.τ).loc Cert.AdamGate.main_arg0)) (m ((c.tc : Thread Cert.AdamGate.nD Cert.AdamGate.τ).loc Cert.AdamGate.main_arg1)) (m ((c.tc : Thread Cert.AdamGate.nD Cert.AdamGate.τ).loc Cert.AdamGate.main_arg2)) (m ((c.tc : Thread Cert.AdamGate.nD Cert.AdamGate.τ).loc Cert.AdamGate.main_arg3)) (m ((c.tc : Thread Cert.AdamGate.nD Cert.AdamGate.τ).loc Cert.AdamGate.main_arg4)) (m ((c.tc : Thread Cert.AdamGate.nD Cert.AdamGate.τ).loc Cert.AdamGate.main_arg5)) (m ((c.tc : Thread Cert.AdamGate.nD Cert.AdamGate.τ).loc Cert.AdamGate.main_arg6))) = (fun _ => 1#1)

def Pre_AdamGateIdeal [hPre_gate_slab : Cert.Pre_gate_slab.Facts] (m : (ℓ : Loc Cert.AdamGateIdeal.nD Cert.AdamGateIdeal.τ Cert.AdamGateIdeal.sig) → Buf (Elt Ideal) ℓ) : Prop :=
  ∀ c : Dev Cert.AdamGateIdeal.nD,
    (Cert.Pre_gate_slab.fn (F := Ideal) (m ((c.tc : Thread Cert.AdamGateIdeal.nD Cert.AdamGateIdeal.τ).loc Cert.AdamGateIdeal.main_arg0)) (m ((c.tc : Thread Cert.AdamGateIdeal.nD Cert.AdamGateIdeal.τ).loc Cert.AdamGateIdeal.main_arg1)) (m ((c.tc : Thread Cert.AdamGateIdeal.nD Cert.AdamGateIdeal.τ).loc Cert.AdamGateIdeal.main_arg2)) (m ((c.tc : Thread Cert.AdamGateIdeal.nD Cert.AdamGateIdeal.τ).loc Cert.AdamGateIdeal.main_arg3)) (m ((c.tc : Thread Cert.AdamGateIdeal.nD Cert.AdamGateIdeal.τ).loc Cert.AdamGateIdeal.main_arg4)) (m ((c.tc : Thread Cert.AdamGateIdeal.nD Cert.AdamGateIdeal.τ).loc Cert.AdamGateIdeal.main_arg5)) (m ((c.tc : Thread Cert.AdamGateIdeal.nD Cert.AdamGateIdeal.τ).loc Cert.AdamGateIdeal.main_arg6))) = (fun _ => 1#1)

def Pre_AdamGateRefIdeal (m : (ℓ : Loc Cert.AdamGateRefIdeal.nD Cert.AdamGateRefIdeal.τ Cert.AdamGateRefIdeal.sig) → Buf (Elt Ideal) ℓ) : Prop :=
  True

def Pre_AdamGateRefIdeal_gate_slab [hPre_gate_slab : Cert.Pre_gate_slab.Facts] (m : (ℓ : Loc Cert.AdamGateRefIdeal.nD Cert.AdamGateRefIdeal.τ Cert.AdamGateRefIdeal.sig) → Buf (Elt Ideal) ℓ) : Prop :=
  ∀ c : Dev Cert.AdamGateRefIdeal.nD,
    (Cert.Pre_gate_slab.fn (F := Ideal) (m ((c.tc : Thread Cert.AdamGateRefIdeal.nD Cert.AdamGateRefIdeal.τ).loc Cert.AdamGateRefIdeal.main_arg0)) (m ((c.tc : Thread Cert.AdamGateRefIdeal.nD Cert.AdamGateRefIdeal.τ).loc Cert.AdamGateRefIdeal.main_arg1)) (m ((c.tc : Thread Cert.AdamGateRefIdeal.nD Cert.AdamGateRefIdeal.τ).loc Cert.AdamGateRefIdeal.main_arg2)) (m ((c.tc : Thread Cert.AdamGateRefIdeal.nD Cert.AdamGateRefIdeal.τ).loc Cert.AdamGateRefIdeal.main_arg3)) (m ((c.tc : Thread Cert.AdamGateRefIdeal.nD Cert.AdamGateRefIdeal.τ).loc Cert.AdamGateRefIdeal.main_arg4)) (m ((c.tc : Thread Cert.AdamGateRefIdeal.nD Cert.AdamGateRefIdeal.τ).loc Cert.AdamGateRefIdeal.main_arg5)) (m ((c.tc : Thread Cert.AdamGateRefIdeal.nD Cert.AdamGateRefIdeal.τ).loc Cert.AdamGateRefIdeal.main_arg6))) = (fun _ => 1#1)

def Pre_AdamDown [hPre_down_slab : Cert.Pre_down_slab.Facts] (m : (ℓ : Loc Cert.AdamDown.nD Cert.AdamDown.τ Cert.AdamDown.sig) → Buf (Elt Bits) ℓ) : Prop :=
  ∀ c : Dev Cert.AdamDown.nD,
    (Cert.Pre_down_slab.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5)) (m ((c.tc : Thread Cert.AdamDown.nD Cert.AdamDown.τ).loc Cert.AdamDown.main_arg6))) = (fun _ => 1#1)

def Pre_AdamDownIdeal [hPre_down_slab : Cert.Pre_down_slab.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_down_slab.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5)) (m ((c.tc : Thread Cert.AdamDownIdeal.nD Cert.AdamDownIdeal.τ).loc Cert.AdamDownIdeal.main_arg6))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_down_slab [hPre_down_slab : Cert.Pre_down_slab.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_down_slab.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5)) (m ((c.tc : Thread Cert.AdamDownRefIdeal.nD Cert.AdamDownRefIdeal.τ).loc Cert.AdamDownRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpGateDx [hUpGateDx : Cert.UpGateDx.Facts] : Prop :=
  ∀ (m : (ℓ : Loc Cert.UpGateDx.nD Cert.UpGateDx.τ Cert.UpGateDx.sig) → Buf (Elt Bits) ℓ) (g : Dev Cert.UpGateDx.nD → PrngReg), Pre_UpGateDx m →
    θ_run (Cert.UpGateDx.defs (F := Bits)) (onTc (τ := Cert.UpGateDx.τ) (Cert.UpGateDx.main (F := Bits))) ⟨m, fun _ => 0, g⟩ (fun r => (∀ c : Dev Cert.UpGateDx.nD,
      r.2.mem ((c.tc : Thread Cert.UpGateDx.nD Cert.UpGateDx.τ).loc Cert.UpGateDx.main_arg0) = m ((c.tc : Thread Cert.UpGateDx.nD Cert.UpGateDx.τ).loc Cert.UpGateDx.main_arg0)
      ∧ r.2.mem ((c.tc : Thread Cert.UpGateDx.nD Cert.UpGateDx.τ).loc Cert.UpGateDx.main_arg1) = m ((c.tc : Thread Cert.UpGateDx.nD Cert.UpGateDx.τ).loc Cert.UpGateDx.main_arg1)
      ∧ r.2.mem ((c.tc : Thread Cert.UpGateDx.nD Cert.UpGateDx.τ).loc Cert.UpGateDx.main_arg2) = m ((c.tc : Thread Cert.UpGateDx.nD Cert.UpGateDx.τ).loc Cert.UpGateDx.main_arg2)
      ∧ r.2.mem ((c.tc : Thread Cert.UpGateDx.nD Cert.UpGateDx.τ).loc Cert.UpGateDx.main_arg3) = m ((c.tc : Thread Cert.UpGateDx.nD Cert.UpGateDx.τ).loc Cert.UpGateDx.main_arg3))
      ∧ r.2.sem = fun _ => 0)

def quiescent_UpGateDxIdeal [hUpGateDxIdeal : Cert.UpGateDxIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg), Pre_UpGateDxIdeal m →
    θ_run (Cert.UpGateDxIdeal.defs (F := Ideal)) (onTc (τ := Cert.UpGateDxIdeal.τ) (Cert.UpGateDxIdeal.main (F := Ideal))) ⟨m, fun _ => 0, g⟩ (fun r => (∀ c : Dev Cert.UpGateDxIdeal.nD,
      r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
      ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1)
      ∧ r.2.mem ((c.tc : Thread Cert.UpGateDxIdeal.nD Cert.UpGateDxIdeal.τ).loc Cert.UpGateDxIdeal.main_arg2) = m ((c.tc : Thread Cert.UpGateDxIdeal.nD Cert.UpGateDxIdeal.τ).loc Cert.UpGateDxIdeal.main_arg2)
      ∧ r.2.mem ((c.tc : Thread Cert.UpGateDxIdeal.nD Cert.UpGateDxIdeal.τ).loc Cert.UpGateDxIdeal.main_arg3) = m ((c.tc : Thread Cert.UpGateDxIdeal.nD Cert.UpGateDxIdeal.τ).loc Cert.UpGateDxIdeal.main_arg3))
      ∧ r.2.sem = fun _ => 0)

def quiescent_UpGateDxRefIdeal [hUpGateDxRefIdeal : Cert.UpGateDxRefIdeal.Facts] : Prop :=
  ∀ (m : (ℓ : Loc Cert.UpGateDxRefIdeal.nD Cert.UpGateDxRefIdeal.τ Cert.UpGateDxRefIdeal.sig) → Buf (Elt Ideal) ℓ) (g : Dev Cert.UpGateDxRefIdeal.nD → PrngReg), Pre_UpGateDxRefIdeal m →
    θ_run (Cert.UpGateDxRefIdeal.defs (F := Ideal)) (onTc (τ := Cert.UpGateDxRefIdeal.τ) (Cert.UpGateDxRefIdeal.main (F := Ideal))) ⟨m, fun _ => 0, g⟩ (fun r => (∀ c : Dev Cert.UpGateDxRefIdeal.nD,
      r.2.mem ((c.tc : Thread Cert.UpGateDxRefIdeal.nD Cert.UpGateDxRefIdeal.τ).loc Cert.UpGateDxRefIdeal.main_arg0) = m ((c.tc : Thread Cert.UpGateDxRefIdeal.nD Cert.UpGateDxRefIdeal.τ).loc Cert.UpGateDxRefIdeal.main_arg0)
      ∧ r.2.mem ((c.tc : Thread Cert.UpGateDxRefIdeal.nD Cert.UpGateDxRefIdeal.τ).loc Cert.UpGateDxRefIdeal.main_arg1) = m ((c.tc : Thread Cert.UpGateDxRefIdeal.nD Cert.UpGateDxRefIdeal.τ).loc Cert.UpGateDxRefIdeal.main_arg1)
      ∧ r.2.mem ((c.tc : Thread Cert.UpGateDxRefIdeal.nD Cert.UpGateDxRefIdeal.τ).loc Cert.UpGateDxRefIdeal.main_arg2) = m ((c.tc : Thread Cert.UpGateDxRefIdeal.nD Cert.UpGateDxRefIdeal.τ).loc Cert.UpGateDxRefIdeal.main_arg2)
      ∧ r.2.mem ((c.tc : Thread Cert.UpGateDxRefIdeal.nD Cert.UpGateDxRefIdeal.τ).loc Cert.UpGateDxRefIdeal.main_arg3) = m ((c.tc : Thread Cert.UpGateDxRefIdeal.nD Cert.UpGateDxRefIdeal.τ).loc Cert.UpGateDxRefIdeal.main_arg3))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamModel [hAdamModel : Cert.AdamModel.Facts] : Prop :=
  ∀ (m : (ℓ : Loc Cert.AdamModel.nD Cert.AdamModel.τ Cert.AdamModel.sig) → Buf (Elt Bits) ℓ) (g : Dev Cert.AdamModel.nD → PrngReg), Pre_AdamModel m →
    θ_run (Cert.AdamModel.defs (F := Bits)) (onTc (τ := Cert.AdamModel.τ) (Cert.AdamModel.main (F := Bits))) ⟨m, fun _ => 0, g⟩ (fun r => (∀ c : Dev Cert.AdamModel.nD,
      r.2.mem ((c.tc : Thread Cert.AdamModel.nD Cert.AdamModel.τ).loc Cert.AdamModel.main_arg0) = m ((c.tc : Thread Cert.AdamModel.nD Cert.AdamModel.τ).loc Cert.AdamModel.main_arg0)
      ∧ r.2.mem ((c.tc : Thread Cert.AdamModel.nD Cert.AdamModel.τ).loc Cert.AdamModel.main_arg1) = m ((c.tc : Thread Cert.AdamModel.nD Cert.AdamModel.τ).loc Cert.AdamModel.main_arg1)
      ∧ r.2.mem ((c.tc : Thread Cert.AdamModel.nD Cert.AdamModel.τ).loc Cert.AdamModel.main_arg2) = m ((c.tc : Thread Cert.AdamModel.nD Cert.AdamModel.τ).loc Cert.AdamModel.main_arg2)
      ∧ r.2.mem ((c.tc : Thread Cert.AdamModel.nD Cert.AdamModel.τ).loc Cert.AdamModel.main_arg3) = m ((c.tc : Thread Cert.AdamModel.nD Cert.AdamModel.τ).loc Cert.AdamModel.main_arg3)
      ∧ r.2.mem ((c.tc : Thread Cert.AdamModel.nD Cert.AdamModel.τ).loc Cert.AdamModel.main_arg4) = m ((c.tc : Thread Cert.AdamModel.nD Cert.AdamModel.τ).loc Cert.AdamModel.main_arg4))
      ∧ r.2.sem = fun _ => 0)

def quiescent_AdamModelIdeal [hAdamModelIdeal : Cert.AdamModelIdeal.Facts] : Prop :=
  ∀ (m : (ℓ : Loc Cert.AdamModelIdeal.nD Cert.AdamModelIdeal.τ Cert.AdamModelIdeal.sig) → Buf (Elt Ideal) ℓ) (g : Dev Cert.AdamModelIdeal.nD → PrngReg), Pre_AdamModelIdeal m →
    θ_run (Cert.AdamModelIdeal.defs (F := Ideal)) (onTc (τ := Cert.AdamModelIdeal.τ) (Cert.AdamModelIdeal.main (F := Ideal))) ⟨m, fun _ => 0, g⟩ (fun r => (∀ c : Dev Cert.AdamModelIdeal.nD,
      r.2.mem ((c.tc : Thread Cert.AdamModelIdeal.nD Cert.AdamModelIdeal.τ).loc Cert.AdamModelIdeal.main_arg0) = m ((c.tc : Thread Cert.AdamModelIdeal.nD Cert.AdamModelIdeal.τ).loc Cert.AdamModelIdeal.main_arg0)
      ∧ r.2.mem ((c.tc : Thread Cert.AdamModelIdeal.nD Cert.AdamModelIdeal.τ).loc Cert.AdamModelIdeal.main_arg1) = m ((c.tc : Thread Cert.AdamModelIdeal.nD Cert.AdamModelIdeal.τ).loc Cert.AdamModelIdeal.main_arg1)
      ∧ r.2.mem ((c.tc : Thread Cert.AdamModelIdeal.nD Cert.AdamModelIdeal.τ).loc Cert.AdamModelIdeal.main_arg2) = m ((c.tc : Thread Cert.AdamModelIdeal.nD Cert.AdamModelIdeal.τ).loc Cert.AdamModelIdeal.main_arg2)
      ∧ r.2.mem ((c.tc : Thread Cert.AdamModelIdeal.nD Cert.AdamModelIdeal.τ).loc Cert.AdamModelIdeal.main_arg3) = m ((c.tc : Thread Cert.AdamModelIdeal.nD Cert.AdamModelIdeal.τ).loc Cert.AdamModelIdeal.main_arg3)
      ∧ r.2.mem ((c.tc : Thread Cert.AdamModelIdeal.nD Cert.AdamModelIdeal.τ).loc Cert.AdamModelIdeal.main_arg4) = m ((c.tc : Thread Cert.AdamModelIdeal.nD Cert.AdamModelIdeal.τ).loc Cert.AdamModelIdeal.main_arg4))
      ∧ r.2.sem = fun _ => 0)

def quiescent_AdamModelRefIdeal [hAdamModelRefIdeal : Cert.AdamModelRefIdeal.Facts] : Prop :=
  ∀ (m : (ℓ : Loc Cert.AdamModelRefIdeal.nD Cert.AdamModelRefIdeal.τ Cert.AdamModelRefIdeal.sig) → Buf (Elt Ideal) ℓ) (g : Dev Cert.AdamModelRefIdeal.nD → PrngReg), Pre_AdamModelRefIdeal m →
    θ_run (Cert.AdamModelRefIdeal.defs (F := Ideal)) (onTc (τ := Cert.AdamModelRefIdeal.τ) (Cert.AdamModelRefIdeal.main (F := Ideal))) ⟨m, fun _ => 0, g⟩ (fun r => (∀ c : Dev Cert.AdamModelRefIdeal.nD,
      r.2.mem ((c.tc : Thread Cert.AdamModelRefIdeal.nD Cert.AdamModelRefIdeal.τ).loc Cert.AdamModelRefIdeal.main_arg0) = m ((c.tc : Thread Cert.AdamModelRefIdeal.nD Cert.AdamModelRefIdeal.τ).loc Cert.AdamModelRefIdeal.main_arg0)
      ∧ r.2.mem ((c.tc : Thread Cert.AdamModelRefIdeal.nD Cert.AdamModelRefIdeal.τ).loc Cert.AdamModelRefIdeal.main_arg1) = m ((c.tc : Thread Cert.AdamModelRefIdeal.nD Cert.AdamModelRefIdeal.τ).loc Cert.AdamModelRefIdeal.main_arg1)
      ∧ r.2.mem ((c.tc : Thread Cert.AdamModelRefIdeal.nD Cert.AdamModelRefIdeal.τ).loc Cert.AdamModelRefIdeal.main_arg2) = m ((c.tc : Thread Cert.AdamModelRefIdeal.nD Cert.AdamModelRefIdeal.τ).loc Cert.AdamModelRefIdeal.main_arg2)
      ∧ r.2.mem ((c.tc : Thread Cert.AdamModelRefIdeal.nD Cert.AdamModelRefIdeal.τ).loc Cert.AdamModelRefIdeal.main_arg3) = m ((c.tc : Thread Cert.AdamModelRefIdeal.nD Cert.AdamModelRefIdeal.τ).loc Cert.AdamModelRefIdeal.main_arg3)
      ∧ r.2.mem ((c.tc : Thread Cert.AdamModelRefIdeal.nD Cert.AdamModelRefIdeal.τ).loc Cert.AdamModelRefIdeal.main_arg4) = m ((c.tc : Thread Cert.AdamModelRefIdeal.nD Cert.AdamModelRefIdeal.τ).loc Cert.AdamModelRefIdeal.main_arg4))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3)
      ∧ r.2.mem ((c.tc : Thread Cert.AdamHead.nD Cert.AdamHead.τ).loc Cert.AdamHead.main_arg4) = m ((c.tc : Thread Cert.AdamHead.nD Cert.AdamHead.τ).loc Cert.AdamHead.main_arg4))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
      ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3)
      ∧ r.2.mem ((c.tc : Thread Cert.AdamHeadRefIdeal.nD Cert.AdamHeadRefIdeal.τ).loc Cert.AdamHeadRefIdeal.main_arg4) = m ((c.tc : Thread Cert.AdamHeadRefIdeal.nD Cert.AdamHeadRefIdeal.τ).loc Cert.AdamHeadRefIdeal.main_arg4))
      ∧ r.2.sem = fun _ => 0)

def quiescent_AdamWidth [hAdamWidth : Cert.AdamWidth.Facts] : Prop :=
  ∀ (m : (ℓ : Loc Cert.AdamWidth.nD Cert.AdamWidth.τ Cert.AdamWidth.sig) → Buf (Elt Bits) ℓ) (g : Dev Cert.AdamWidth.nD → PrngReg), Pre_AdamWidth m →
    θ_run (Cert.AdamWidth.defs (F := Bits)) (onTc (τ := Cert.AdamWidth.τ) (Cert.AdamWidth.main (F := Bits))) ⟨m, fun _ => 0, g⟩ (fun r => (∀ c : Dev Cert.AdamWidth.nD,
      r.2.mem ((c.tc : Thread Cert.AdamWidth.nD Cert.AdamWidth.τ).loc Cert.AdamWidth.main_arg0) = m ((c.tc : Thread Cert.AdamWidth.nD Cert.AdamWidth.τ).loc Cert.AdamWidth.main_arg0)
      ∧ r.2.mem ((c.tc : Thread Cert.AdamWidth.nD Cert.AdamWidth.τ).loc Cert.AdamWidth.main_arg1) = m ((c.tc : Thread Cert.AdamWidth.nD Cert.AdamWidth.τ).loc Cert.AdamWidth.main_arg1)
      ∧ r.2.mem ((c.tc : Thread Cert.AdamWidth.nD Cert.AdamWidth.τ).loc Cert.AdamWidth.main_arg2) = m ((c.tc : Thread Cert.AdamWidth.nD Cert.AdamWidth.τ).loc Cert.AdamWidth.main_arg2)
      ∧ r.2.mem ((c.tc : Thread Cert.AdamWidth.nD Cert.AdamWidth.τ).loc Cert.AdamWidth.main_arg3) = m ((c.tc : Thread Cert.AdamWidth.nD Cert.AdamWidth.τ).loc Cert.AdamWidth.main_arg3)
      ∧ r.2.mem ((c.tc : Thread Cert.AdamWidth.nD Cert.AdamWidth.τ).loc Cert.AdamWidth.main_arg4) = m ((c.tc : Thread Cert.AdamWidth.nD Cert.AdamWidth.τ).loc Cert.AdamWidth.main_arg4))
      ∧ r.2.sem = fun _ => 0)

def quiescent_AdamWidthIdeal [hAdamWidthIdeal : Cert.AdamWidthIdeal.Facts] : Prop :=
  ∀ (m : (ℓ : Loc Cert.AdamWidthIdeal.nD Cert.AdamWidthIdeal.τ Cert.AdamWidthIdeal.sig) → Buf (Elt Ideal) ℓ) (g : Dev Cert.AdamWidthIdeal.nD → PrngReg), Pre_AdamWidthIdeal m →
    θ_run (Cert.AdamWidthIdeal.defs (F := Ideal)) (onTc (τ := Cert.AdamWidthIdeal.τ) (Cert.AdamWidthIdeal.main (F := Ideal))) ⟨m, fun _ => 0, g⟩ (fun r => (∀ c : Dev Cert.AdamWidthIdeal.nD,
      r.2.mem ((c.tc : Thread Cert.AdamWidthIdeal.nD Cert.AdamWidthIdeal.τ).loc Cert.AdamWidthIdeal.main_arg0) = m ((c.tc : Thread Cert.AdamWidthIdeal.nD Cert.AdamWidthIdeal.τ).loc Cert.AdamWidthIdeal.main_arg0)
      ∧ r.2.mem ((c.tc : Thread Cert.AdamWidthIdeal.nD Cert.AdamWidthIdeal.τ).loc Cert.AdamWidthIdeal.main_arg1) = m ((c.tc : Thread Cert.AdamWidthIdeal.nD Cert.AdamWidthIdeal.τ).loc Cert.AdamWidthIdeal.main_arg1)
      ∧ r.2.mem ((c.tc : Thread Cert.AdamWidthIdeal.nD Cert.AdamWidthIdeal.τ).loc Cert.AdamWidthIdeal.main_arg2) = m ((c.tc : Thread Cert.AdamWidthIdeal.nD Cert.AdamWidthIdeal.τ).loc Cert.AdamWidthIdeal.main_arg2)
      ∧ r.2.mem ((c.tc : Thread Cert.AdamWidthIdeal.nD Cert.AdamWidthIdeal.τ).loc Cert.AdamWidthIdeal.main_arg3) = m ((c.tc : Thread Cert.AdamWidthIdeal.nD Cert.AdamWidthIdeal.τ).loc Cert.AdamWidthIdeal.main_arg3)
      ∧ r.2.mem ((c.tc : Thread Cert.AdamWidthIdeal.nD Cert.AdamWidthIdeal.τ).loc Cert.AdamWidthIdeal.main_arg4) = m ((c.tc : Thread Cert.AdamWidthIdeal.nD Cert.AdamWidthIdeal.τ).loc Cert.AdamWidthIdeal.main_arg4))
      ∧ r.2.sem = fun _ => 0)

def quiescent_AdamWidthRefIdeal [hAdamWidthRefIdeal : Cert.AdamWidthRefIdeal.Facts] : Prop :=
  ∀ (m : (ℓ : Loc Cert.AdamWidthRefIdeal.nD Cert.AdamWidthRefIdeal.τ Cert.AdamWidthRefIdeal.sig) → Buf (Elt Ideal) ℓ) (g : Dev Cert.AdamWidthRefIdeal.nD → PrngReg), Pre_AdamWidthRefIdeal m →
    θ_run (Cert.AdamWidthRefIdeal.defs (F := Ideal)) (onTc (τ := Cert.AdamWidthRefIdeal.τ) (Cert.AdamWidthRefIdeal.main (F := Ideal))) ⟨m, fun _ => 0, g⟩ (fun r => (∀ c : Dev Cert.AdamWidthRefIdeal.nD,
      r.2.mem ((c.tc : Thread Cert.AdamWidthRefIdeal.nD Cert.AdamWidthRefIdeal.τ).loc Cert.AdamWidthRefIdeal.main_arg0) = m ((c.tc : Thread Cert.AdamWidthRefIdeal.nD Cert.AdamWidthRefIdeal.τ).loc Cert.AdamWidthRefIdeal.main_arg0)
      ∧ r.2.mem ((c.tc : Thread Cert.AdamWidthRefIdeal.nD Cert.AdamWidthRefIdeal.τ).loc Cert.AdamWidthRefIdeal.main_arg1) = m ((c.tc : Thread Cert.AdamWidthRefIdeal.nD Cert.AdamWidthRefIdeal.τ).loc Cert.AdamWidthRefIdeal.main_arg1)
      ∧ r.2.mem ((c.tc : Thread Cert.AdamWidthRefIdeal.nD Cert.AdamWidthRefIdeal.τ).loc Cert.AdamWidthRefIdeal.main_arg2) = m ((c.tc : Thread Cert.AdamWidthRefIdeal.nD Cert.AdamWidthRefIdeal.τ).loc Cert.AdamWidthRefIdeal.main_arg2)
      ∧ r.2.mem ((c.tc : Thread Cert.AdamWidthRefIdeal.nD Cert.AdamWidthRefIdeal.τ).loc Cert.AdamWidthRefIdeal.main_arg3) = m ((c.tc : Thread Cert.AdamWidthRefIdeal.nD Cert.AdamWidthRefIdeal.τ).loc Cert.AdamWidthRefIdeal.main_arg3)
      ∧ r.2.mem ((c.tc : Thread Cert.AdamWidthRefIdeal.nD Cert.AdamWidthRefIdeal.τ).loc Cert.AdamWidthRefIdeal.main_arg4) = m ((c.tc : Thread Cert.AdamWidthRefIdeal.nD Cert.AdamWidthRefIdeal.τ).loc Cert.AdamWidthRefIdeal.main_arg4))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3)
      ∧ r.2.mem ((c.tc : Thread Cert.AdamBias.nD Cert.AdamBias.τ).loc Cert.AdamBias.main_arg4) = m ((c.tc : Thread Cert.AdamBias.nD Cert.AdamBias.τ).loc Cert.AdamBias.main_arg4))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
      ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3)
      ∧ r.2.mem ((c.tc : Thread Cert.AdamBiasRefIdeal.nD Cert.AdamBiasRefIdeal.τ).loc Cert.AdamBiasRefIdeal.main_arg4) = m ((c.tc : Thread Cert.AdamBiasRefIdeal.nD Cert.AdamBiasRefIdeal.τ).loc Cert.AdamBiasRefIdeal.main_arg4))
      ∧ r.2.sem = fun _ => 0)

def quiescent_AdamState [hAdamState : Cert.AdamState.Facts] : Prop :=
  ∀ (m : (ℓ : Loc Cert.AdamState.nD Cert.AdamState.τ Cert.AdamState.sig) → Buf (Elt Bits) ℓ) (g : Dev Cert.AdamState.nD → PrngReg), Pre_AdamState m →
    θ_run (Cert.AdamState.defs (F := Bits)) (onTc (τ := Cert.AdamState.τ) (Cert.AdamState.main (F := Bits))) ⟨m, fun _ => 0, g⟩ (fun r => (∀ c : Dev Cert.AdamState.nD,
      r.2.mem ((c.tc : Thread Cert.AdamState.nD Cert.AdamState.τ).loc Cert.AdamState.main_arg0) = m ((c.tc : Thread Cert.AdamState.nD Cert.AdamState.τ).loc Cert.AdamState.main_arg0)
      ∧ r.2.mem ((c.tc : Thread Cert.AdamState.nD Cert.AdamState.τ).loc Cert.AdamState.main_arg1) = m ((c.tc : Thread Cert.AdamState.nD Cert.AdamState.τ).loc Cert.AdamState.main_arg1)
      ∧ r.2.mem ((c.tc : Thread Cert.AdamState.nD Cert.AdamState.τ).loc Cert.AdamState.main_arg2) = m ((c.tc : Thread Cert.AdamState.nD Cert.AdamState.τ).loc Cert.AdamState.main_arg2)
      ∧ r.2.mem ((c.tc : Thread Cert.AdamState.nD Cert.AdamState.τ).loc Cert.AdamState.main_arg3) = m ((c.tc : Thread Cert.AdamState.nD Cert.AdamState.τ).loc Cert.AdamState.main_arg3)
      ∧ r.2.mem ((c.tc : Thread Cert.AdamState.nD Cert.AdamState.τ).loc Cert.AdamState.main_arg4) = m ((c.tc : Thread Cert.AdamState.nD Cert.AdamState.τ).loc Cert.AdamState.main_arg4))
      ∧ r.2.sem = fun _ => 0)

def quiescent_AdamStateIdeal [hAdamStateIdeal : Cert.AdamStateIdeal.Facts] : Prop :=
  ∀ (m : (ℓ : Loc Cert.AdamStateIdeal.nD Cert.AdamStateIdeal.τ Cert.AdamStateIdeal.sig) → Buf (Elt Ideal) ℓ) (g : Dev Cert.AdamStateIdeal.nD → PrngReg), Pre_AdamStateIdeal m →
    θ_run (Cert.AdamStateIdeal.defs (F := Ideal)) (onTc (τ := Cert.AdamStateIdeal.τ) (Cert.AdamStateIdeal.main (F := Ideal))) ⟨m, fun _ => 0, g⟩ (fun r => (∀ c : Dev Cert.AdamStateIdeal.nD,
      r.2.mem ((c.tc : Thread Cert.AdamStateIdeal.nD Cert.AdamStateIdeal.τ).loc Cert.AdamStateIdeal.main_arg0) = m ((c.tc : Thread Cert.AdamStateIdeal.nD Cert.AdamStateIdeal.τ).loc Cert.AdamStateIdeal.main_arg0)
      ∧ r.2.mem ((c.tc : Thread Cert.AdamStateIdeal.nD Cert.AdamStateIdeal.τ).loc Cert.AdamStateIdeal.main_arg1) = m ((c.tc : Thread Cert.AdamStateIdeal.nD Cert.AdamStateIdeal.τ).loc Cert.AdamStateIdeal.main_arg1)
      ∧ r.2.mem ((c.tc : Thread Cert.AdamStateIdeal.nD Cert.AdamStateIdeal.τ).loc Cert.AdamStateIdeal.main_arg2) = m ((c.tc : Thread Cert.AdamStateIdeal.nD Cert.AdamStateIdeal.τ).loc Cert.AdamStateIdeal.main_arg2)
      ∧ r.2.mem ((c.tc : Thread Cert.AdamStateIdeal.nD Cert.AdamStateIdeal.τ).loc Cert.AdamStateIdeal.main_arg3) = m ((c.tc : Thread Cert.AdamStateIdeal.nD Cert.AdamStateIdeal.τ).loc Cert.AdamStateIdeal.main_arg3)
      ∧ r.2.mem ((c.tc : Thread Cert.AdamStateIdeal.nD Cert.AdamStateIdeal.τ).loc Cert.AdamStateIdeal.main_arg4) = m ((c.tc : Thread Cert.AdamStateIdeal.nD Cert.AdamStateIdeal.τ).loc Cert.AdamStateIdeal.main_arg4))
      ∧ r.2.sem = fun _ => 0)

def quiescent_AdamStateRefIdeal [hAdamStateRefIdeal : Cert.AdamStateRefIdeal.Facts] : Prop :=
  ∀ (m : (ℓ : Loc Cert.AdamStateRefIdeal.nD Cert.AdamStateRefIdeal.τ Cert.AdamStateRefIdeal.sig) → Buf (Elt Ideal) ℓ) (g : Dev Cert.AdamStateRefIdeal.nD → PrngReg), Pre_AdamStateRefIdeal m →
    θ_run (Cert.AdamStateRefIdeal.defs (F := Ideal)) (onTc (τ := Cert.AdamStateRefIdeal.τ) (Cert.AdamStateRefIdeal.main (F := Ideal))) ⟨m, fun _ => 0, g⟩ (fun r => (∀ c : Dev Cert.AdamStateRefIdeal.nD,
      r.2.mem ((c.tc : Thread Cert.AdamStateRefIdeal.nD Cert.AdamStateRefIdeal.τ).loc Cert.AdamStateRefIdeal.main_arg0) = m ((c.tc : Thread Cert.AdamStateRefIdeal.nD Cert.AdamStateRefIdeal.τ).loc Cert.AdamStateRefIdeal.main_arg0)
      ∧ r.2.mem ((c.tc : Thread Cert.AdamStateRefIdeal.nD Cert.AdamStateRefIdeal.τ).loc Cert.AdamStateRefIdeal.main_arg1) = m ((c.tc : Thread Cert.AdamStateRefIdeal.nD Cert.AdamStateRefIdeal.τ).loc Cert.AdamStateRefIdeal.main_arg1)
      ∧ r.2.mem ((c.tc : Thread Cert.AdamStateRefIdeal.nD Cert.AdamStateRefIdeal.τ).loc Cert.AdamStateRefIdeal.main_arg2) = m ((c.tc : Thread Cert.AdamStateRefIdeal.nD Cert.AdamStateRefIdeal.τ).loc Cert.AdamStateRefIdeal.main_arg2)
      ∧ r.2.mem ((c.tc : Thread Cert.AdamStateRefIdeal.nD Cert.AdamStateRefIdeal.τ).loc Cert.AdamStateRefIdeal.main_arg3) = m ((c.tc : Thread Cert.AdamStateRefIdeal.nD Cert.AdamStateRefIdeal.τ).loc Cert.AdamStateRefIdeal.main_arg3)
      ∧ r.2.mem ((c.tc : Thread Cert.AdamStateRefIdeal.nD Cert.AdamStateRefIdeal.τ).loc Cert.AdamStateRefIdeal.main_arg4) = m ((c.tc : Thread Cert.AdamStateRefIdeal.nD Cert.AdamStateRefIdeal.τ).loc Cert.AdamStateRefIdeal.main_arg4))
      ∧ r.2.sem = fun _ => 0)

def quiescent_AdamMatrix [hAdamMatrix : Cert.AdamMatrix.Facts] : Prop :=
  ∀ (m : (ℓ : Loc Cert.AdamMatrix.nD Cert.AdamMatrix.τ Cert.AdamMatrix.sig) → Buf (Elt Bits) ℓ) (g : Dev Cert.AdamMatrix.nD → PrngReg), Pre_AdamMatrix m →
    θ_run (Cert.AdamMatrix.defs (F := Bits)) (onTc (τ := Cert.AdamMatrix.τ) (Cert.AdamMatrix.main (F := Bits))) ⟨m, fun _ => 0, g⟩ (fun r => (∀ c : Dev Cert.AdamMatrix.nD,
      r.2.mem ((c.tc : Thread Cert.AdamMatrix.nD Cert.AdamMatrix.τ).loc Cert.AdamMatrix.main_arg0) = m ((c.tc : Thread Cert.AdamMatrix.nD Cert.AdamMatrix.τ).loc Cert.AdamMatrix.main_arg0)
      ∧ r.2.mem ((c.tc : Thread Cert.AdamMatrix.nD Cert.AdamMatrix.τ).loc Cert.AdamMatrix.main_arg1) = m ((c.tc : Thread Cert.AdamMatrix.nD Cert.AdamMatrix.τ).loc Cert.AdamMatrix.main_arg1)
      ∧ r.2.mem ((c.tc : Thread Cert.AdamMatrix.nD Cert.AdamMatrix.τ).loc Cert.AdamMatrix.main_arg2) = m ((c.tc : Thread Cert.AdamMatrix.nD Cert.AdamMatrix.τ).loc Cert.AdamMatrix.main_arg2)
      ∧ r.2.mem ((c.tc : Thread Cert.AdamMatrix.nD Cert.AdamMatrix.τ).loc Cert.AdamMatrix.main_arg3) = m ((c.tc : Thread Cert.AdamMatrix.nD Cert.AdamMatrix.τ).loc Cert.AdamMatrix.main_arg3)
      ∧ r.2.mem ((c.tc : Thread Cert.AdamMatrix.nD Cert.AdamMatrix.τ).loc Cert.AdamMatrix.main_arg4) = m ((c.tc : Thread Cert.AdamMatrix.nD Cert.AdamMatrix.τ).loc Cert.AdamMatrix.main_arg4))
      ∧ r.2.sem = fun _ => 0)

def quiescent_AdamMatrixIdeal [hAdamMatrixIdeal : Cert.AdamMatrixIdeal.Facts] : Prop :=
  ∀ (m : (ℓ : Loc Cert.AdamMatrixIdeal.nD Cert.AdamMatrixIdeal.τ Cert.AdamMatrixIdeal.sig) → Buf (Elt Ideal) ℓ) (g : Dev Cert.AdamMatrixIdeal.nD → PrngReg), Pre_AdamMatrixIdeal m →
    θ_run (Cert.AdamMatrixIdeal.defs (F := Ideal)) (onTc (τ := Cert.AdamMatrixIdeal.τ) (Cert.AdamMatrixIdeal.main (F := Ideal))) ⟨m, fun _ => 0, g⟩ (fun r => (∀ c : Dev Cert.AdamMatrixIdeal.nD,
      r.2.mem ((c.tc : Thread Cert.AdamMatrixIdeal.nD Cert.AdamMatrixIdeal.τ).loc Cert.AdamMatrixIdeal.main_arg0) = m ((c.tc : Thread Cert.AdamMatrixIdeal.nD Cert.AdamMatrixIdeal.τ).loc Cert.AdamMatrixIdeal.main_arg0)
      ∧ r.2.mem ((c.tc : Thread Cert.AdamMatrixIdeal.nD Cert.AdamMatrixIdeal.τ).loc Cert.AdamMatrixIdeal.main_arg1) = m ((c.tc : Thread Cert.AdamMatrixIdeal.nD Cert.AdamMatrixIdeal.τ).loc Cert.AdamMatrixIdeal.main_arg1)
      ∧ r.2.mem ((c.tc : Thread Cert.AdamMatrixIdeal.nD Cert.AdamMatrixIdeal.τ).loc Cert.AdamMatrixIdeal.main_arg2) = m ((c.tc : Thread Cert.AdamMatrixIdeal.nD Cert.AdamMatrixIdeal.τ).loc Cert.AdamMatrixIdeal.main_arg2)
      ∧ r.2.mem ((c.tc : Thread Cert.AdamMatrixIdeal.nD Cert.AdamMatrixIdeal.τ).loc Cert.AdamMatrixIdeal.main_arg3) = m ((c.tc : Thread Cert.AdamMatrixIdeal.nD Cert.AdamMatrixIdeal.τ).loc Cert.AdamMatrixIdeal.main_arg3)
      ∧ r.2.mem ((c.tc : Thread Cert.AdamMatrixIdeal.nD Cert.AdamMatrixIdeal.τ).loc Cert.AdamMatrixIdeal.main_arg4) = m ((c.tc : Thread Cert.AdamMatrixIdeal.nD Cert.AdamMatrixIdeal.τ).loc Cert.AdamMatrixIdeal.main_arg4))
      ∧ r.2.sem = fun _ => 0)

def quiescent_AdamMatrixRefIdeal [hAdamMatrixRefIdeal : Cert.AdamMatrixRefIdeal.Facts] : Prop :=
  ∀ (m : (ℓ : Loc Cert.AdamMatrixRefIdeal.nD Cert.AdamMatrixRefIdeal.τ Cert.AdamMatrixRefIdeal.sig) → Buf (Elt Ideal) ℓ) (g : Dev Cert.AdamMatrixRefIdeal.nD → PrngReg), Pre_AdamMatrixRefIdeal m →
    θ_run (Cert.AdamMatrixRefIdeal.defs (F := Ideal)) (onTc (τ := Cert.AdamMatrixRefIdeal.τ) (Cert.AdamMatrixRefIdeal.main (F := Ideal))) ⟨m, fun _ => 0, g⟩ (fun r => (∀ c : Dev Cert.AdamMatrixRefIdeal.nD,
      r.2.mem ((c.tc : Thread Cert.AdamMatrixRefIdeal.nD Cert.AdamMatrixRefIdeal.τ).loc Cert.AdamMatrixRefIdeal.main_arg0) = m ((c.tc : Thread Cert.AdamMatrixRefIdeal.nD Cert.AdamMatrixRefIdeal.τ).loc Cert.AdamMatrixRefIdeal.main_arg0)
      ∧ r.2.mem ((c.tc : Thread Cert.AdamMatrixRefIdeal.nD Cert.AdamMatrixRefIdeal.τ).loc Cert.AdamMatrixRefIdeal.main_arg1) = m ((c.tc : Thread Cert.AdamMatrixRefIdeal.nD Cert.AdamMatrixRefIdeal.τ).loc Cert.AdamMatrixRefIdeal.main_arg1)
      ∧ r.2.mem ((c.tc : Thread Cert.AdamMatrixRefIdeal.nD Cert.AdamMatrixRefIdeal.τ).loc Cert.AdamMatrixRefIdeal.main_arg2) = m ((c.tc : Thread Cert.AdamMatrixRefIdeal.nD Cert.AdamMatrixRefIdeal.τ).loc Cert.AdamMatrixRefIdeal.main_arg2)
      ∧ r.2.mem ((c.tc : Thread Cert.AdamMatrixRefIdeal.nD Cert.AdamMatrixRefIdeal.τ).loc Cert.AdamMatrixRefIdeal.main_arg3) = m ((c.tc : Thread Cert.AdamMatrixRefIdeal.nD Cert.AdamMatrixRefIdeal.τ).loc Cert.AdamMatrixRefIdeal.main_arg3)
      ∧ r.2.mem ((c.tc : Thread Cert.AdamMatrixRefIdeal.nD Cert.AdamMatrixRefIdeal.τ).loc Cert.AdamMatrixRefIdeal.main_arg4) = m ((c.tc : Thread Cert.AdamMatrixRefIdeal.nD Cert.AdamMatrixRefIdeal.τ).loc Cert.AdamMatrixRefIdeal.main_arg4))
      ∧ r.2.sem = fun _ => 0)

def quiescent_AdamStep [hAdamStep : Cert.AdamStep.Facts] : Prop :=
  ∀ (m : (ℓ : Loc Cert.AdamStep.nD Cert.AdamStep.τ Cert.AdamStep.sig) → Buf (Elt Bits) ℓ) (g : Dev Cert.AdamStep.nD → PrngReg), Pre_AdamStep m →
    θ_run (Cert.AdamStep.defs (F := Bits)) (onTc (τ := Cert.AdamStep.τ) (Cert.AdamStep.main (F := Bits))) ⟨m, fun _ => 0, g⟩ (fun r => (∀ c : Dev Cert.AdamStep.nD,
      r.2.mem ((c.tc : Thread Cert.AdamStep.nD Cert.AdamStep.τ).loc Cert.AdamStep.main_arg0) = m ((c.tc : Thread Cert.AdamStep.nD Cert.AdamStep.τ).loc Cert.AdamStep.main_arg0)
      ∧ r.2.mem ((c.tc : Thread Cert.AdamStep.nD Cert.AdamStep.τ).loc Cert.AdamStep.main_arg1) = m ((c.tc : Thread Cert.AdamStep.nD Cert.AdamStep.τ).loc Cert.AdamStep.main_arg1)
      ∧ r.2.mem ((c.tc : Thread Cert.AdamStep.nD Cert.AdamStep.τ).loc Cert.AdamStep.main_arg2) = m ((c.tc : Thread Cert.AdamStep.nD Cert.AdamStep.τ).loc Cert.AdamStep.main_arg2)
      ∧ r.2.mem ((c.tc : Thread Cert.AdamStep.nD Cert.AdamStep.τ).loc Cert.AdamStep.main_arg3) = m ((c.tc : Thread Cert.AdamStep.nD Cert.AdamStep.τ).loc Cert.AdamStep.main_arg3)
      ∧ r.2.mem ((c.tc : Thread Cert.AdamStep.nD Cert.AdamStep.τ).loc Cert.AdamStep.main_arg4) = m ((c.tc : Thread Cert.AdamStep.nD Cert.AdamStep.τ).loc Cert.AdamStep.main_arg4))
      ∧ r.2.sem = fun _ => 0)

def quiescent_AdamStepIdeal [hAdamStepIdeal : Cert.AdamStepIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg), Pre_AdamStepIdeal m →
    θ_run (Cert.AdamStepIdeal.defs (F := Ideal)) (onTc (τ := Cert.AdamStepIdeal.τ) (Cert.AdamStepIdeal.main (F := Ideal))) ⟨m, fun _ => 0, g⟩ (fun r => (∀ c : Dev Cert.AdamStepIdeal.nD,
      r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
      ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
      ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
      ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3)
      ∧ r.2.mem ((c.tc : Thread Cert.AdamStepIdeal.nD Cert.AdamStepIdeal.τ).loc Cert.AdamStepIdeal.main_arg4) = m ((c.tc : Thread Cert.AdamStepIdeal.nD Cert.AdamStepIdeal.τ).loc Cert.AdamStepIdeal.main_arg4))
      ∧ r.2.sem = fun _ => 0)

def quiescent_AdamStepRefIdeal [hAdamStepRefIdeal : Cert.AdamStepRefIdeal.Facts] : Prop :=
  ∀ (m : (ℓ : Loc Cert.AdamStepRefIdeal.nD Cert.AdamStepRefIdeal.τ Cert.AdamStepRefIdeal.sig) → Buf (Elt Ideal) ℓ) (g : Dev Cert.AdamStepRefIdeal.nD → PrngReg), Pre_AdamStepRefIdeal m →
    θ_run (Cert.AdamStepRefIdeal.defs (F := Ideal)) (onTc (τ := Cert.AdamStepRefIdeal.τ) (Cert.AdamStepRefIdeal.main (F := Ideal))) ⟨m, fun _ => 0, g⟩ (fun r => (∀ c : Dev Cert.AdamStepRefIdeal.nD,
      r.2.mem ((c.tc : Thread Cert.AdamStepRefIdeal.nD Cert.AdamStepRefIdeal.τ).loc Cert.AdamStepRefIdeal.main_arg0) = m ((c.tc : Thread Cert.AdamStepRefIdeal.nD Cert.AdamStepRefIdeal.τ).loc Cert.AdamStepRefIdeal.main_arg0)
      ∧ r.2.mem ((c.tc : Thread Cert.AdamStepRefIdeal.nD Cert.AdamStepRefIdeal.τ).loc Cert.AdamStepRefIdeal.main_arg1) = m ((c.tc : Thread Cert.AdamStepRefIdeal.nD Cert.AdamStepRefIdeal.τ).loc Cert.AdamStepRefIdeal.main_arg1)
      ∧ r.2.mem ((c.tc : Thread Cert.AdamStepRefIdeal.nD Cert.AdamStepRefIdeal.τ).loc Cert.AdamStepRefIdeal.main_arg2) = m ((c.tc : Thread Cert.AdamStepRefIdeal.nD Cert.AdamStepRefIdeal.τ).loc Cert.AdamStepRefIdeal.main_arg2)
      ∧ r.2.mem ((c.tc : Thread Cert.AdamStepRefIdeal.nD Cert.AdamStepRefIdeal.τ).loc Cert.AdamStepRefIdeal.main_arg3) = m ((c.tc : Thread Cert.AdamStepRefIdeal.nD Cert.AdamStepRefIdeal.τ).loc Cert.AdamStepRefIdeal.main_arg3)
      ∧ r.2.mem ((c.tc : Thread Cert.AdamStepRefIdeal.nD Cert.AdamStepRefIdeal.τ).loc Cert.AdamStepRefIdeal.main_arg4) = m ((c.tc : Thread Cert.AdamStepRefIdeal.nD Cert.AdamStepRefIdeal.τ).loc Cert.AdamStepRefIdeal.main_arg4))
      ∧ r.2.sem = fun _ => 0)

def quiescent_AdamIn [hAdamIn : Cert.AdamIn.Facts] [hPre_in_slab : Cert.Pre_in_slab.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] [hPre_in_slab : Cert.Pre_in_slab.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamInRefIdeal_pre_in_slab [hAdamInRefIdeal : Cert.AdamInRefIdeal.Facts] [hPre_in_slab : Cert.Pre_in_slab.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_in_slab m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamGlu [hAdamGlu : Cert.AdamGlu.Facts] [hPre_glu_slab : Cert.Pre_glu_slab.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4)
      ∧ r.2.mem ((c.tc : Thread Cert.AdamGlu.nD Cert.AdamGlu.τ).loc Cert.AdamGlu.main_arg5) = m ((c.tc : Thread Cert.AdamGlu.nD Cert.AdamGlu.τ).loc Cert.AdamGlu.main_arg5)
      ∧ r.2.mem ((c.tc : Thread Cert.AdamGlu.nD Cert.AdamGlu.τ).loc Cert.AdamGlu.main_arg6) = m ((c.tc : Thread Cert.AdamGlu.nD Cert.AdamGlu.τ).loc Cert.AdamGlu.main_arg6))
      ∧ r.2.sem = fun _ => 0)

def quiescent_AdamGluIdeal [hAdamGluIdeal : Cert.AdamGluIdeal.Facts] [hPre_glu_slab : Cert.Pre_glu_slab.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
      ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
      ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4)
      ∧ r.2.mem ((c.tc : Thread Cert.AdamGluRefIdeal.nD Cert.AdamGluRefIdeal.τ).loc Cert.AdamGluRefIdeal.main_arg5) = m ((c.tc : Thread Cert.AdamGluRefIdeal.nD Cert.AdamGluRefIdeal.τ).loc Cert.AdamGluRefIdeal.main_arg5)
      ∧ r.2.mem ((c.tc : Thread Cert.AdamGluRefIdeal.nD Cert.AdamGluRefIdeal.τ).loc Cert.AdamGluRefIdeal.main_arg6) = m ((c.tc : Thread Cert.AdamGluRefIdeal.nD Cert.AdamGluRefIdeal.τ).loc Cert.AdamGluRefIdeal.main_arg6))
      ∧ r.2.sem = fun _ => 0)

def quiescent_AdamGluRefIdeal_pre_glu_slab [hAdamGluRefIdeal : Cert.AdamGluRefIdeal.Facts] [hPre_glu_slab : Cert.Pre_glu_slab.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal_glu_slab m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4)
      ∧ r.2.mem ((c.tc : Thread Cert.AdamGluRefIdeal.nD Cert.AdamGluRefIdeal.τ).loc Cert.AdamGluRefIdeal.main_arg5) = m ((c.tc : Thread Cert.AdamGluRefIdeal.nD Cert.AdamGluRefIdeal.τ).loc Cert.AdamGluRefIdeal.main_arg5)
      ∧ r.2.mem ((c.tc : Thread Cert.AdamGluRefIdeal.nD Cert.AdamGluRefIdeal.τ).loc Cert.AdamGluRefIdeal.main_arg6) = m ((c.tc : Thread Cert.AdamGluRefIdeal.nD Cert.AdamGluRefIdeal.τ).loc Cert.AdamGluRefIdeal.main_arg6))
      ∧ r.2.sem = fun _ => 0)

def quiescent_AdamOut [hAdamOut : Cert.AdamOut.Facts] [hPre_out_slab : Cert.Pre_out_slab.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] [hPre_out_slab : Cert.Pre_out_slab.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamOutRefIdeal_pre_out_slab [hAdamOutRefIdeal : Cert.AdamOutRefIdeal.Facts] [hPre_out_slab : Cert.Pre_out_slab.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_out_slab m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamGate [hAdamGate : Cert.AdamGate.Facts] [hPre_gate_slab : Cert.Pre_gate_slab.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6))
      ∧ r.2.sem = fun _ => 0)

def quiescent_AdamGateIdeal [hAdamGateIdeal : Cert.AdamGateIdeal.Facts] [hPre_gate_slab : Cert.Pre_gate_slab.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6))
      ∧ r.2.sem = fun _ => 0)

def quiescent_AdamGateRefIdeal_pre_gate_slab [hAdamGateRefIdeal : Cert.AdamGateRefIdeal.Facts] [hPre_gate_slab : Cert.Pre_gate_slab.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal_gate_slab m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6))
      ∧ r.2.sem = fun _ => 0)

def quiescent_AdamDown [hAdamDown : Cert.AdamDown.Facts] [hPre_down_slab : Cert.Pre_down_slab.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] [hPre_down_slab : Cert.Pre_down_slab.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_AdamDownRefIdeal_pre_down_slab [hAdamDownRefIdeal : Cert.AdamDownRefIdeal.Facts] [hPre_down_slab : Cert.Pre_down_slab.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_down_slab m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def preserves_Kernel_KernelIdeal : Prop :=
  True

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v5)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpGateDx_UpGateDxIdeal : Prop :=
  True

def algebraic_UpGateDxIdeal_UpGateDxRefIdeal [hUpGateDxIdeal : Cert.UpGateDxIdeal.Facts] [hUpGateDxRefIdeal : Cert.UpGateDxRefIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg)
    (m' : (ℓ : Loc Cert.UpGateDxRefIdeal.nD Cert.UpGateDxRefIdeal.τ Cert.UpGateDxRefIdeal.sig) → Buf (Elt Ideal) ℓ) (g' : Dev Cert.UpGateDxRefIdeal.nD → PrngReg), Pre_UpGateDxIdeal m →
    (∀ c : Dev Cert.UpGateDxIdeal.nD,
      m' ((c.tc : Thread Cert.UpGateDxRefIdeal.nD Cert.UpGateDxRefIdeal.τ).loc Cert.UpGateDxRefIdeal.main_arg0) = m ((c.tc : Thread Cert.UpGateDxIdeal.nD Cert.UpGateDxIdeal.τ).loc Cert.UpGateDxIdeal.main_arg0)
      ∧ m' ((c.tc : Thread Cert.UpGateDxRefIdeal.nD Cert.UpGateDxRefIdeal.τ).loc Cert.UpGateDxRefIdeal.main_arg1) = m ((c.tc : Thread Cert.UpGateDxIdeal.nD Cert.UpGateDxIdeal.τ).loc Cert.UpGateDxIdeal.main_arg1)
      ∧ m' ((c.tc : Thread Cert.UpGateDxRefIdeal.nD Cert.UpGateDxRefIdeal.τ).loc Cert.UpGateDxRefIdeal.main_arg2) = m ((c.tc : Thread Cert.UpGateDxIdeal.nD Cert.UpGateDxIdeal.τ).loc Cert.UpGateDxIdeal.main_arg2)
      ∧ m' ((c.tc : Thread Cert.UpGateDxRefIdeal.nD Cert.UpGateDxRefIdeal.τ).loc Cert.UpGateDxRefIdeal.main_arg3) = m ((c.tc : Thread Cert.UpGateDxIdeal.nD Cert.UpGateDxIdeal.τ).loc Cert.UpGateDxIdeal.main_arg3)) →
    ∃ (v0 : (c : Dev Cert.UpGateDxIdeal.nD) → Buf (Elt Ideal) ((c.tc : Thread Cert.UpGateDxIdeal.nD Cert.UpGateDxIdeal.τ).loc Cert.UpGateDxIdeal.main_v12)),
      θ_run (Cert.UpGateDxIdeal.defs (F := Ideal)) (onTc (τ := Cert.UpGateDxIdeal.τ) (Cert.UpGateDxIdeal.main (F := Ideal))) ⟨m, fun _ => 0, g⟩ (fun r => ∀ c : Dev Cert.UpGateDxIdeal.nD,
          r.2.mem ((c.tc : Thread Cert.UpGateDxIdeal.nD Cert.UpGateDxIdeal.τ).loc Cert.UpGateDxIdeal.main_v12) = v0 c
          ∧ r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
          ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1)
          ∧ r.2.mem ((c.tc : Thread Cert.UpGateDxIdeal.nD Cert.UpGateDxIdeal.τ).loc Cert.UpGateDxIdeal.main_arg2) = m ((c.tc : Thread Cert.UpGateDxIdeal.nD Cert.UpGateDxIdeal.τ).loc Cert.UpGateDxIdeal.main_arg2)
          ∧ r.2.mem ((c.tc : Thread Cert.UpGateDxIdeal.nD Cert.UpGateDxIdeal.τ).loc Cert.UpGateDxIdeal.main_arg3) = m ((c.tc : Thread Cert.UpGateDxIdeal.nD Cert.UpGateDxIdeal.τ).loc Cert.UpGateDxIdeal.main_arg3))
      ∧ θ_run (Cert.UpGateDxRefIdeal.defs (F := Ideal)) (onTc (τ := Cert.UpGateDxRefIdeal.τ) (Cert.UpGateDxRefIdeal.main (F := Ideal))) ⟨m', fun _ => 0, g'⟩ (fun r => ∀ c : Dev Cert.UpGateDxRefIdeal.nD,
          r.2.mem ((c.tc : Thread Cert.UpGateDxRefIdeal.nD Cert.UpGateDxRefIdeal.τ).loc Cert.UpGateDxRefIdeal.main_v5) = v0 c
          ∧ r.2.mem ((c.tc : Thread Cert.UpGateDxRefIdeal.nD Cert.UpGateDxRefIdeal.τ).loc Cert.UpGateDxRefIdeal.main_arg0) = m' ((c.tc : Thread Cert.UpGateDxRefIdeal.nD Cert.UpGateDxRefIdeal.τ).loc Cert.UpGateDxRefIdeal.main_arg0)
          ∧ r.2.mem ((c.tc : Thread Cert.UpGateDxRefIdeal.nD Cert.UpGateDxRefIdeal.τ).loc Cert.UpGateDxRefIdeal.main_arg1) = m' ((c.tc : Thread Cert.UpGateDxRefIdeal.nD Cert.UpGateDxRefIdeal.τ).loc Cert.UpGateDxRefIdeal.main_arg1)
          ∧ r.2.mem ((c.tc : Thread Cert.UpGateDxRefIdeal.nD Cert.UpGateDxRefIdeal.τ).loc Cert.UpGateDxRefIdeal.main_arg2) = m' ((c.tc : Thread Cert.UpGateDxRefIdeal.nD Cert.UpGateDxRefIdeal.τ).loc Cert.UpGateDxRefIdeal.main_arg2)
          ∧ r.2.mem ((c.tc : Thread Cert.UpGateDxRefIdeal.nD Cert.UpGateDxRefIdeal.τ).loc Cert.UpGateDxRefIdeal.main_arg3) = m' ((c.tc : Thread Cert.UpGateDxRefIdeal.nD Cert.UpGateDxRefIdeal.τ).loc Cert.UpGateDxRefIdeal.main_arg3))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v5)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v5) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v5) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v5)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v5) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v2)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v2) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v3) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v3)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v3) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v3) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)) →
    ∃ (v0 : (c : Dev Cert.GluProjIdeal.nD) → Buf (Elt Ideal) ((c.tc : Thread Cert.GluProjIdeal.nD Cert.GluProjIdeal.τ).loc Cert.GluProjIdeal.main_v1)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v1) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v0) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v7_0)) (v1 : (c : Dev Cert.GateUpIdeal.nD) → Buf (Elt Ideal) ((c.tc : Thread Cert.GateUpIdeal.nD Cert.GateUpIdeal.τ).loc Cert.GateUpIdeal.main_v7_1)) (v2 : (c : Dev Cert.GateUpIdeal.nD) → Buf (Elt Ideal) ((c.tc : Thread Cert.GateUpIdeal.nD Cert.GateUpIdeal.τ).loc Cert.GateUpIdeal.main_v7_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v7_0) = v0 c
          ∧ r.2.mem ((c.tc : Thread Cert.GateUpIdeal.nD Cert.GateUpIdeal.τ).loc Cert.GateUpIdeal.main_v7_1) = v1 c
          ∧ r.2.mem ((c.tc : Thread Cert.GateUpIdeal.nD Cert.GateUpIdeal.τ).loc Cert.GateUpIdeal.main_v7_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v13) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v6)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v4)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v4) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v35) = v0 c
          ∧ r.2.mem ((c.tc : Thread Cert.RmsRefIdeal.nD Cert.RmsRefIdeal.τ).loc Cert.RmsRefIdeal.main_v18) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v3_2)) (v3 : (c : Dev Cert.MixOutIdeal.nD) → Buf (Elt Ideal) ((c.tc : Thread Cert.MixOutIdeal.nD Cert.MixOutIdeal.τ).loc Cert.MixOutIdeal.main_v3_3)) (v4 : (c : Dev Cert.MixOutIdeal.nD) → Buf (Elt Ideal) ((c.tc : Thread Cert.MixOutIdeal.nD Cert.MixOutIdeal.τ).loc Cert.MixOutIdeal.main_v3_4)) (v5 : (c : Dev Cert.MixOutIdeal.nD) → Buf (Elt Ideal) ((c.tc : Thread Cert.MixOutIdeal.nD Cert.MixOutIdeal.τ).loc Cert.MixOutIdeal.main_v3_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v3_2) = v2 c
          ∧ r.2.mem ((c.tc : Thread Cert.MixOutIdeal.nD Cert.MixOutIdeal.τ).loc Cert.MixOutIdeal.main_v3_3) = v3 c
          ∧ r.2.mem ((c.tc : Thread Cert.MixOutIdeal.nD Cert.MixOutIdeal.τ).loc Cert.MixOutIdeal.main_v3_4) = v4 c
          ∧ r.2.mem ((c.tc : Thread Cert.MixOutIdeal.nD Cert.MixOutIdeal.τ).loc Cert.MixOutIdeal.main_v3_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v90) = v0 c
          ∧ r.2.mem ((c.tc : Thread Cert.MixOutRefIdeal.nD Cert.MixOutRefIdeal.τ).loc Cert.MixOutRefIdeal.main_v68) = v1 c
          ∧ r.2.mem ((c.tc : Thread Cert.MixOutRefIdeal.nD Cert.MixOutRefIdeal.τ).loc Cert.MixOutRefIdeal.main_v91) = v2 c
          ∧ r.2.mem ((c.tc : Thread Cert.MixOutRefIdeal.nD Cert.MixOutRefIdeal.τ).loc Cert.MixOutRefIdeal.main_v74) = v3 c
          ∧ r.2.mem ((c.tc : Thread Cert.MixOutRefIdeal.nD Cert.MixOutRefIdeal.τ).loc Cert.MixOutRefIdeal.main_v50) = v4 c
          ∧ r.2.mem ((c.tc : Thread Cert.MixOutRefIdeal.nD Cert.MixOutRefIdeal.τ).loc Cert.MixOutRefIdeal.main_v71) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_v20) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamModel_AdamModelIdeal : Prop :=
  True

def algebraic_AdamModelIdeal_AdamModelRefIdeal [hAdamModelIdeal : Cert.AdamModelIdeal.Facts] [hAdamModelRefIdeal : Cert.AdamModelRefIdeal.Facts] : Prop :=
  ∀ (m : (ℓ : Loc Cert.AdamModelIdeal.nD Cert.AdamModelIdeal.τ Cert.AdamModelIdeal.sig) → Buf (Elt Ideal) ℓ) (g : Dev Cert.AdamModelIdeal.nD → PrngReg)
    (m' : (ℓ : Loc Cert.AdamModelRefIdeal.nD Cert.AdamModelRefIdeal.τ Cert.AdamModelRefIdeal.sig) → Buf (Elt Ideal) ℓ) (g' : Dev Cert.AdamModelRefIdeal.nD → PrngReg), Pre_AdamModelIdeal m →
    (∀ c : Dev Cert.AdamModelIdeal.nD,
      m' ((c.tc : Thread Cert.AdamModelRefIdeal.nD Cert.AdamModelRefIdeal.τ).loc Cert.AdamModelRefIdeal.main_arg0) = m ((c.tc : Thread Cert.AdamModelIdeal.nD Cert.AdamModelIdeal.τ).loc Cert.AdamModelIdeal.main_arg0)
      ∧ m' ((c.tc : Thread Cert.AdamModelRefIdeal.nD Cert.AdamModelRefIdeal.τ).loc Cert.AdamModelRefIdeal.main_arg1) = m ((c.tc : Thread Cert.AdamModelIdeal.nD Cert.AdamModelIdeal.τ).loc Cert.AdamModelIdeal.main_arg1)
      ∧ m' ((c.tc : Thread Cert.AdamModelRefIdeal.nD Cert.AdamModelRefIdeal.τ).loc Cert.AdamModelRefIdeal.main_arg2) = m ((c.tc : Thread Cert.AdamModelIdeal.nD Cert.AdamModelIdeal.τ).loc Cert.AdamModelIdeal.main_arg2)
      ∧ m' ((c.tc : Thread Cert.AdamModelRefIdeal.nD Cert.AdamModelRefIdeal.τ).loc Cert.AdamModelRefIdeal.main_arg3) = m ((c.tc : Thread Cert.AdamModelIdeal.nD Cert.AdamModelIdeal.τ).loc Cert.AdamModelIdeal.main_arg3)
      ∧ m' ((c.tc : Thread Cert.AdamModelRefIdeal.nD Cert.AdamModelRefIdeal.τ).loc Cert.AdamModelRefIdeal.main_arg4) = m ((c.tc : Thread Cert.AdamModelIdeal.nD Cert.AdamModelIdeal.τ).loc Cert.AdamModelIdeal.main_arg4)) →
    ∃ (v0 : (c : Dev Cert.AdamModelIdeal.nD) → Buf (Elt Ideal) ((c.tc : Thread Cert.AdamModelIdeal.nD Cert.AdamModelIdeal.τ).loc Cert.AdamModelIdeal.main_v0_0)) (v1 : (c : Dev Cert.AdamModelIdeal.nD) → Buf (Elt Ideal) ((c.tc : Thread Cert.AdamModelIdeal.nD Cert.AdamModelIdeal.τ).loc Cert.AdamModelIdeal.main_v0_1)) (v2 : (c : Dev Cert.AdamModelIdeal.nD) → Buf (Elt Ideal) ((c.tc : Thread Cert.AdamModelIdeal.nD Cert.AdamModelIdeal.τ).loc Cert.AdamModelIdeal.main_v0_2)) (v3 : (c : Dev Cert.AdamModelIdeal.nD) → Buf (Elt Ideal) ((c.tc : Thread Cert.AdamModelIdeal.nD Cert.AdamModelIdeal.τ).loc Cert.AdamModelIdeal.main_v0_3)),
      θ_run (Cert.AdamModelIdeal.defs (F := Ideal)) (onTc (τ := Cert.AdamModelIdeal.τ) (Cert.AdamModelIdeal.main (F := Ideal))) ⟨m, fun _ => 0, g⟩ (fun r => ∀ c : Dev Cert.AdamModelIdeal.nD,
          r.2.mem ((c.tc : Thread Cert.AdamModelIdeal.nD Cert.AdamModelIdeal.τ).loc Cert.AdamModelIdeal.main_v0_0) = v0 c
          ∧ r.2.mem ((c.tc : Thread Cert.AdamModelIdeal.nD Cert.AdamModelIdeal.τ).loc Cert.AdamModelIdeal.main_v0_1) = v1 c
          ∧ r.2.mem ((c.tc : Thread Cert.AdamModelIdeal.nD Cert.AdamModelIdeal.τ).loc Cert.AdamModelIdeal.main_v0_2) = v2 c
          ∧ r.2.mem ((c.tc : Thread Cert.AdamModelIdeal.nD Cert.AdamModelIdeal.τ).loc Cert.AdamModelIdeal.main_v0_3) = v3 c
          ∧ r.2.mem ((c.tc : Thread Cert.AdamModelIdeal.nD Cert.AdamModelIdeal.τ).loc Cert.AdamModelIdeal.main_arg0) = m ((c.tc : Thread Cert.AdamModelIdeal.nD Cert.AdamModelIdeal.τ).loc Cert.AdamModelIdeal.main_arg0)
          ∧ r.2.mem ((c.tc : Thread Cert.AdamModelIdeal.nD Cert.AdamModelIdeal.τ).loc Cert.AdamModelIdeal.main_arg1) = m ((c.tc : Thread Cert.AdamModelIdeal.nD Cert.AdamModelIdeal.τ).loc Cert.AdamModelIdeal.main_arg1)
          ∧ r.2.mem ((c.tc : Thread Cert.AdamModelIdeal.nD Cert.AdamModelIdeal.τ).loc Cert.AdamModelIdeal.main_arg2) = m ((c.tc : Thread Cert.AdamModelIdeal.nD Cert.AdamModelIdeal.τ).loc Cert.AdamModelIdeal.main_arg2)
          ∧ r.2.mem ((c.tc : Thread Cert.AdamModelIdeal.nD Cert.AdamModelIdeal.τ).loc Cert.AdamModelIdeal.main_arg3) = m ((c.tc : Thread Cert.AdamModelIdeal.nD Cert.AdamModelIdeal.τ).loc Cert.AdamModelIdeal.main_arg3)
          ∧ r.2.mem ((c.tc : Thread Cert.AdamModelIdeal.nD Cert.AdamModelIdeal.τ).loc Cert.AdamModelIdeal.main_arg4) = m ((c.tc : Thread Cert.AdamModelIdeal.nD Cert.AdamModelIdeal.τ).loc Cert.AdamModelIdeal.main_arg4))
      ∧ θ_run (Cert.AdamModelRefIdeal.defs (F := Ideal)) (onTc (τ := Cert.AdamModelRefIdeal.τ) (Cert.AdamModelRefIdeal.main (F := Ideal))) ⟨m', fun _ => 0, g'⟩ (fun r => ∀ c : Dev Cert.AdamModelRefIdeal.nD,
          r.2.mem ((c.tc : Thread Cert.AdamModelRefIdeal.nD Cert.AdamModelRefIdeal.τ).loc Cert.AdamModelRefIdeal.main_v0) = v0 c
          ∧ r.2.mem ((c.tc : Thread Cert.AdamModelRefIdeal.nD Cert.AdamModelRefIdeal.τ).loc Cert.AdamModelRefIdeal.main_v24) = v1 c
          ∧ r.2.mem ((c.tc : Thread Cert.AdamModelRefIdeal.nD Cert.AdamModelRefIdeal.τ).loc Cert.AdamModelRefIdeal.main_v5) = v2 c
          ∧ r.2.mem ((c.tc : Thread Cert.AdamModelRefIdeal.nD Cert.AdamModelRefIdeal.τ).loc Cert.AdamModelRefIdeal.main_v11) = v3 c
          ∧ r.2.mem ((c.tc : Thread Cert.AdamModelRefIdeal.nD Cert.AdamModelRefIdeal.τ).loc Cert.AdamModelRefIdeal.main_arg0) = m' ((c.tc : Thread Cert.AdamModelRefIdeal.nD Cert.AdamModelRefIdeal.τ).loc Cert.AdamModelRefIdeal.main_arg0)
          ∧ r.2.mem ((c.tc : Thread Cert.AdamModelRefIdeal.nD Cert.AdamModelRefIdeal.τ).loc Cert.AdamModelRefIdeal.main_arg1) = m' ((c.tc : Thread Cert.AdamModelRefIdeal.nD Cert.AdamModelRefIdeal.τ).loc Cert.AdamModelRefIdeal.main_arg1)
          ∧ r.2.mem ((c.tc : Thread Cert.AdamModelRefIdeal.nD Cert.AdamModelRefIdeal.τ).loc Cert.AdamModelRefIdeal.main_arg2) = m' ((c.tc : Thread Cert.AdamModelRefIdeal.nD Cert.AdamModelRefIdeal.τ).loc Cert.AdamModelRefIdeal.main_arg2)
          ∧ r.2.mem ((c.tc : Thread Cert.AdamModelRefIdeal.nD Cert.AdamModelRefIdeal.τ).loc Cert.AdamModelRefIdeal.main_arg3) = m' ((c.tc : Thread Cert.AdamModelRefIdeal.nD Cert.AdamModelRefIdeal.τ).loc Cert.AdamModelRefIdeal.main_arg3)
          ∧ r.2.mem ((c.tc : Thread Cert.AdamModelRefIdeal.nD Cert.AdamModelRefIdeal.τ).loc Cert.AdamModelRefIdeal.main_arg4) = m' ((c.tc : Thread Cert.AdamModelRefIdeal.nD Cert.AdamModelRefIdeal.τ).loc Cert.AdamModelRefIdeal.main_arg4))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)
      ∧ m' ((c.tc : Thread Cert.AdamHeadRefIdeal.nD Cert.AdamHeadRefIdeal.τ).loc Cert.AdamHeadRefIdeal.main_arg4) = m ((c.tc : Thread Cert.AdamHeadIdeal.nD Cert.AdamHeadIdeal.τ).loc Cert.AdamHeadIdeal.main_arg4)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
          ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v0) = v0 c
          ∧ r.2.mem ((c.tc : Thread Cert.AdamHeadRefIdeal.nD Cert.AdamHeadRefIdeal.τ).loc Cert.AdamHeadRefIdeal.main_v24) = v1 c
          ∧ r.2.mem ((c.tc : Thread Cert.AdamHeadRefIdeal.nD Cert.AdamHeadRefIdeal.τ).loc Cert.AdamHeadRefIdeal.main_v5) = v2 c
          ∧ r.2.mem ((c.tc : Thread Cert.AdamHeadRefIdeal.nD Cert.AdamHeadRefIdeal.τ).loc Cert.AdamHeadRefIdeal.main_v11) = v3 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3)
          ∧ r.2.mem ((c.tc : Thread Cert.AdamHeadRefIdeal.nD Cert.AdamHeadRefIdeal.τ).loc Cert.AdamHeadRefIdeal.main_arg4) = m' ((c.tc : Thread Cert.AdamHeadRefIdeal.nD Cert.AdamHeadRefIdeal.τ).loc Cert.AdamHeadRefIdeal.main_arg4))

def preserves_AdamWidth_AdamWidthIdeal : Prop :=
  True

def algebraic_AdamWidthIdeal_AdamWidthRefIdeal [hAdamWidthIdeal : Cert.AdamWidthIdeal.Facts] [hAdamWidthRefIdeal : Cert.AdamWidthRefIdeal.Facts] : Prop :=
  ∀ (m : (ℓ : Loc Cert.AdamWidthIdeal.nD Cert.AdamWidthIdeal.τ Cert.AdamWidthIdeal.sig) → Buf (Elt Ideal) ℓ) (g : Dev Cert.AdamWidthIdeal.nD → PrngReg)
    (m' : (ℓ : Loc Cert.AdamWidthRefIdeal.nD Cert.AdamWidthRefIdeal.τ Cert.AdamWidthRefIdeal.sig) → Buf (Elt Ideal) ℓ) (g' : Dev Cert.AdamWidthRefIdeal.nD → PrngReg), Pre_AdamWidthIdeal m →
    (∀ c : Dev Cert.AdamWidthIdeal.nD,
      m' ((c.tc : Thread Cert.AdamWidthRefIdeal.nD Cert.AdamWidthRefIdeal.τ).loc Cert.AdamWidthRefIdeal.main_arg0) = m ((c.tc : Thread Cert.AdamWidthIdeal.nD Cert.AdamWidthIdeal.τ).loc Cert.AdamWidthIdeal.main_arg0)
      ∧ m' ((c.tc : Thread Cert.AdamWidthRefIdeal.nD Cert.AdamWidthRefIdeal.τ).loc Cert.AdamWidthRefIdeal.main_arg1) = m ((c.tc : Thread Cert.AdamWidthIdeal.nD Cert.AdamWidthIdeal.τ).loc Cert.AdamWidthIdeal.main_arg1)
      ∧ m' ((c.tc : Thread Cert.AdamWidthRefIdeal.nD Cert.AdamWidthRefIdeal.τ).loc Cert.AdamWidthRefIdeal.main_arg2) = m ((c.tc : Thread Cert.AdamWidthIdeal.nD Cert.AdamWidthIdeal.τ).loc Cert.AdamWidthIdeal.main_arg2)
      ∧ m' ((c.tc : Thread Cert.AdamWidthRefIdeal.nD Cert.AdamWidthRefIdeal.τ).loc Cert.AdamWidthRefIdeal.main_arg3) = m ((c.tc : Thread Cert.AdamWidthIdeal.nD Cert.AdamWidthIdeal.τ).loc Cert.AdamWidthIdeal.main_arg3)
      ∧ m' ((c.tc : Thread Cert.AdamWidthRefIdeal.nD Cert.AdamWidthRefIdeal.τ).loc Cert.AdamWidthRefIdeal.main_arg4) = m ((c.tc : Thread Cert.AdamWidthIdeal.nD Cert.AdamWidthIdeal.τ).loc Cert.AdamWidthIdeal.main_arg4)) →
    ∃ (v0 : (c : Dev Cert.AdamWidthIdeal.nD) → Buf (Elt Ideal) ((c.tc : Thread Cert.AdamWidthIdeal.nD Cert.AdamWidthIdeal.τ).loc Cert.AdamWidthIdeal.main_v0_0)) (v1 : (c : Dev Cert.AdamWidthIdeal.nD) → Buf (Elt Ideal) ((c.tc : Thread Cert.AdamWidthIdeal.nD Cert.AdamWidthIdeal.τ).loc Cert.AdamWidthIdeal.main_v0_1)) (v2 : (c : Dev Cert.AdamWidthIdeal.nD) → Buf (Elt Ideal) ((c.tc : Thread Cert.AdamWidthIdeal.nD Cert.AdamWidthIdeal.τ).loc Cert.AdamWidthIdeal.main_v0_2)) (v3 : (c : Dev Cert.AdamWidthIdeal.nD) → Buf (Elt Ideal) ((c.tc : Thread Cert.AdamWidthIdeal.nD Cert.AdamWidthIdeal.τ).loc Cert.AdamWidthIdeal.main_v0_3)),
      θ_run (Cert.AdamWidthIdeal.defs (F := Ideal)) (onTc (τ := Cert.AdamWidthIdeal.τ) (Cert.AdamWidthIdeal.main (F := Ideal))) ⟨m, fun _ => 0, g⟩ (fun r => ∀ c : Dev Cert.AdamWidthIdeal.nD,
          r.2.mem ((c.tc : Thread Cert.AdamWidthIdeal.nD Cert.AdamWidthIdeal.τ).loc Cert.AdamWidthIdeal.main_v0_0) = v0 c
          ∧ r.2.mem ((c.tc : Thread Cert.AdamWidthIdeal.nD Cert.AdamWidthIdeal.τ).loc Cert.AdamWidthIdeal.main_v0_1) = v1 c
          ∧ r.2.mem ((c.tc : Thread Cert.AdamWidthIdeal.nD Cert.AdamWidthIdeal.τ).loc Cert.AdamWidthIdeal.main_v0_2) = v2 c
          ∧ r.2.mem ((c.tc : Thread Cert.AdamWidthIdeal.nD Cert.AdamWidthIdeal.τ).loc Cert.AdamWidthIdeal.main_v0_3) = v3 c
          ∧ r.2.mem ((c.tc : Thread Cert.AdamWidthIdeal.nD Cert.AdamWidthIdeal.τ).loc Cert.AdamWidthIdeal.main_arg0) = m ((c.tc : Thread Cert.AdamWidthIdeal.nD Cert.AdamWidthIdeal.τ).loc Cert.AdamWidthIdeal.main_arg0)
          ∧ r.2.mem ((c.tc : Thread Cert.AdamWidthIdeal.nD Cert.AdamWidthIdeal.τ).loc Cert.AdamWidthIdeal.main_arg1) = m ((c.tc : Thread Cert.AdamWidthIdeal.nD Cert.AdamWidthIdeal.τ).loc Cert.AdamWidthIdeal.main_arg1)
          ∧ r.2.mem ((c.tc : Thread Cert.AdamWidthIdeal.nD Cert.AdamWidthIdeal.τ).loc Cert.AdamWidthIdeal.main_arg2) = m ((c.tc : Thread Cert.AdamWidthIdeal.nD Cert.AdamWidthIdeal.τ).loc Cert.AdamWidthIdeal.main_arg2)
          ∧ r.2.mem ((c.tc : Thread Cert.AdamWidthIdeal.nD Cert.AdamWidthIdeal.τ).loc Cert.AdamWidthIdeal.main_arg3) = m ((c.tc : Thread Cert.AdamWidthIdeal.nD Cert.AdamWidthIdeal.τ).loc Cert.AdamWidthIdeal.main_arg3)
          ∧ r.2.mem ((c.tc : Thread Cert.AdamWidthIdeal.nD Cert.AdamWidthIdeal.τ).loc Cert.AdamWidthIdeal.main_arg4) = m ((c.tc : Thread Cert.AdamWidthIdeal.nD Cert.AdamWidthIdeal.τ).loc Cert.AdamWidthIdeal.main_arg4))
      ∧ θ_run (Cert.AdamWidthRefIdeal.defs (F := Ideal)) (onTc (τ := Cert.AdamWidthRefIdeal.τ) (Cert.AdamWidthRefIdeal.main (F := Ideal))) ⟨m', fun _ => 0, g'⟩ (fun r => ∀ c : Dev Cert.AdamWidthRefIdeal.nD,
          r.2.mem ((c.tc : Thread Cert.AdamWidthRefIdeal.nD Cert.AdamWidthRefIdeal.τ).loc Cert.AdamWidthRefIdeal.main_v0) = v0 c
          ∧ r.2.mem ((c.tc : Thread Cert.AdamWidthRefIdeal.nD Cert.AdamWidthRefIdeal.τ).loc Cert.AdamWidthRefIdeal.main_v24) = v1 c
          ∧ r.2.mem ((c.tc : Thread Cert.AdamWidthRefIdeal.nD Cert.AdamWidthRefIdeal.τ).loc Cert.AdamWidthRefIdeal.main_v5) = v2 c
          ∧ r.2.mem ((c.tc : Thread Cert.AdamWidthRefIdeal.nD Cert.AdamWidthRefIdeal.τ).loc Cert.AdamWidthRefIdeal.main_v11) = v3 c
          ∧ r.2.mem ((c.tc : Thread Cert.AdamWidthRefIdeal.nD Cert.AdamWidthRefIdeal.τ).loc Cert.AdamWidthRefIdeal.main_arg0) = m' ((c.tc : Thread Cert.AdamWidthRefIdeal.nD Cert.AdamWidthRefIdeal.τ).loc Cert.AdamWidthRefIdeal.main_arg0)
          ∧ r.2.mem ((c.tc : Thread Cert.AdamWidthRefIdeal.nD Cert.AdamWidthRefIdeal.τ).loc Cert.AdamWidthRefIdeal.main_arg1) = m' ((c.tc : Thread Cert.AdamWidthRefIdeal.nD Cert.AdamWidthRefIdeal.τ).loc Cert.AdamWidthRefIdeal.main_arg1)
          ∧ r.2.mem ((c.tc : Thread Cert.AdamWidthRefIdeal.nD Cert.AdamWidthRefIdeal.τ).loc Cert.AdamWidthRefIdeal.main_arg2) = m' ((c.tc : Thread Cert.AdamWidthRefIdeal.nD Cert.AdamWidthRefIdeal.τ).loc Cert.AdamWidthRefIdeal.main_arg2)
          ∧ r.2.mem ((c.tc : Thread Cert.AdamWidthRefIdeal.nD Cert.AdamWidthRefIdeal.τ).loc Cert.AdamWidthRefIdeal.main_arg3) = m' ((c.tc : Thread Cert.AdamWidthRefIdeal.nD Cert.AdamWidthRefIdeal.τ).loc Cert.AdamWidthRefIdeal.main_arg3)
          ∧ r.2.mem ((c.tc : Thread Cert.AdamWidthRefIdeal.nD Cert.AdamWidthRefIdeal.τ).loc Cert.AdamWidthRefIdeal.main_arg4) = m' ((c.tc : Thread Cert.AdamWidthRefIdeal.nD Cert.AdamWidthRefIdeal.τ).loc Cert.AdamWidthRefIdeal.main_arg4))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)
      ∧ m' ((c.tc : Thread Cert.AdamBiasRefIdeal.nD Cert.AdamBiasRefIdeal.τ).loc Cert.AdamBiasRefIdeal.main_arg4) = m ((c.tc : Thread Cert.AdamBiasIdeal.nD Cert.AdamBiasIdeal.τ).loc Cert.AdamBiasIdeal.main_arg4)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
          ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v0) = v0 c
          ∧ r.2.mem ((c.tc : Thread Cert.AdamBiasRefIdeal.nD Cert.AdamBiasRefIdeal.τ).loc Cert.AdamBiasRefIdeal.main_v24) = v1 c
          ∧ r.2.mem ((c.tc : Thread Cert.AdamBiasRefIdeal.nD Cert.AdamBiasRefIdeal.τ).loc Cert.AdamBiasRefIdeal.main_v5) = v2 c
          ∧ r.2.mem ((c.tc : Thread Cert.AdamBiasRefIdeal.nD Cert.AdamBiasRefIdeal.τ).loc Cert.AdamBiasRefIdeal.main_v11) = v3 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3)
          ∧ r.2.mem ((c.tc : Thread Cert.AdamBiasRefIdeal.nD Cert.AdamBiasRefIdeal.τ).loc Cert.AdamBiasRefIdeal.main_arg4) = m' ((c.tc : Thread Cert.AdamBiasRefIdeal.nD Cert.AdamBiasRefIdeal.τ).loc Cert.AdamBiasRefIdeal.main_arg4))

def preserves_AdamState_AdamStateIdeal : Prop :=
  True

def algebraic_AdamStateIdeal_AdamStateRefIdeal [hAdamStateIdeal : Cert.AdamStateIdeal.Facts] [hAdamStateRefIdeal : Cert.AdamStateRefIdeal.Facts] : Prop :=
  ∀ (m : (ℓ : Loc Cert.AdamStateIdeal.nD Cert.AdamStateIdeal.τ Cert.AdamStateIdeal.sig) → Buf (Elt Ideal) ℓ) (g : Dev Cert.AdamStateIdeal.nD → PrngReg)
    (m' : (ℓ : Loc Cert.AdamStateRefIdeal.nD Cert.AdamStateRefIdeal.τ Cert.AdamStateRefIdeal.sig) → Buf (Elt Ideal) ℓ) (g' : Dev Cert.AdamStateRefIdeal.nD → PrngReg), Pre_AdamStateIdeal m →
    (∀ c : Dev Cert.AdamStateIdeal.nD,
      m' ((c.tc : Thread Cert.AdamStateRefIdeal.nD Cert.AdamStateRefIdeal.τ).loc Cert.AdamStateRefIdeal.main_arg0) = m ((c.tc : Thread Cert.AdamStateIdeal.nD Cert.AdamStateIdeal.τ).loc Cert.AdamStateIdeal.main_arg0)
      ∧ m' ((c.tc : Thread Cert.AdamStateRefIdeal.nD Cert.AdamStateRefIdeal.τ).loc Cert.AdamStateRefIdeal.main_arg1) = m ((c.tc : Thread Cert.AdamStateIdeal.nD Cert.AdamStateIdeal.τ).loc Cert.AdamStateIdeal.main_arg1)
      ∧ m' ((c.tc : Thread Cert.AdamStateRefIdeal.nD Cert.AdamStateRefIdeal.τ).loc Cert.AdamStateRefIdeal.main_arg2) = m ((c.tc : Thread Cert.AdamStateIdeal.nD Cert.AdamStateIdeal.τ).loc Cert.AdamStateIdeal.main_arg2)
      ∧ m' ((c.tc : Thread Cert.AdamStateRefIdeal.nD Cert.AdamStateRefIdeal.τ).loc Cert.AdamStateRefIdeal.main_arg3) = m ((c.tc : Thread Cert.AdamStateIdeal.nD Cert.AdamStateIdeal.τ).loc Cert.AdamStateIdeal.main_arg3)
      ∧ m' ((c.tc : Thread Cert.AdamStateRefIdeal.nD Cert.AdamStateRefIdeal.τ).loc Cert.AdamStateRefIdeal.main_arg4) = m ((c.tc : Thread Cert.AdamStateIdeal.nD Cert.AdamStateIdeal.τ).loc Cert.AdamStateIdeal.main_arg4)) →
    ∃ (v0 : (c : Dev Cert.AdamStateIdeal.nD) → Buf (Elt Ideal) ((c.tc : Thread Cert.AdamStateIdeal.nD Cert.AdamStateIdeal.τ).loc Cert.AdamStateIdeal.main_v0_0)) (v1 : (c : Dev Cert.AdamStateIdeal.nD) → Buf (Elt Ideal) ((c.tc : Thread Cert.AdamStateIdeal.nD Cert.AdamStateIdeal.τ).loc Cert.AdamStateIdeal.main_v0_1)) (v2 : (c : Dev Cert.AdamStateIdeal.nD) → Buf (Elt Ideal) ((c.tc : Thread Cert.AdamStateIdeal.nD Cert.AdamStateIdeal.τ).loc Cert.AdamStateIdeal.main_v0_2)) (v3 : (c : Dev Cert.AdamStateIdeal.nD) → Buf (Elt Ideal) ((c.tc : Thread Cert.AdamStateIdeal.nD Cert.AdamStateIdeal.τ).loc Cert.AdamStateIdeal.main_v0_3)),
      θ_run (Cert.AdamStateIdeal.defs (F := Ideal)) (onTc (τ := Cert.AdamStateIdeal.τ) (Cert.AdamStateIdeal.main (F := Ideal))) ⟨m, fun _ => 0, g⟩ (fun r => ∀ c : Dev Cert.AdamStateIdeal.nD,
          r.2.mem ((c.tc : Thread Cert.AdamStateIdeal.nD Cert.AdamStateIdeal.τ).loc Cert.AdamStateIdeal.main_v0_0) = v0 c
          ∧ r.2.mem ((c.tc : Thread Cert.AdamStateIdeal.nD Cert.AdamStateIdeal.τ).loc Cert.AdamStateIdeal.main_v0_1) = v1 c
          ∧ r.2.mem ((c.tc : Thread Cert.AdamStateIdeal.nD Cert.AdamStateIdeal.τ).loc Cert.AdamStateIdeal.main_v0_2) = v2 c
          ∧ r.2.mem ((c.tc : Thread Cert.AdamStateIdeal.nD Cert.AdamStateIdeal.τ).loc Cert.AdamStateIdeal.main_v0_3) = v3 c
          ∧ r.2.mem ((c.tc : Thread Cert.AdamStateIdeal.nD Cert.AdamStateIdeal.τ).loc Cert.AdamStateIdeal.main_arg0) = m ((c.tc : Thread Cert.AdamStateIdeal.nD Cert.AdamStateIdeal.τ).loc Cert.AdamStateIdeal.main_arg0)
          ∧ r.2.mem ((c.tc : Thread Cert.AdamStateIdeal.nD Cert.AdamStateIdeal.τ).loc Cert.AdamStateIdeal.main_arg1) = m ((c.tc : Thread Cert.AdamStateIdeal.nD Cert.AdamStateIdeal.τ).loc Cert.AdamStateIdeal.main_arg1)
          ∧ r.2.mem ((c.tc : Thread Cert.AdamStateIdeal.nD Cert.AdamStateIdeal.τ).loc Cert.AdamStateIdeal.main_arg2) = m ((c.tc : Thread Cert.AdamStateIdeal.nD Cert.AdamStateIdeal.τ).loc Cert.AdamStateIdeal.main_arg2)
          ∧ r.2.mem ((c.tc : Thread Cert.AdamStateIdeal.nD Cert.AdamStateIdeal.τ).loc Cert.AdamStateIdeal.main_arg3) = m ((c.tc : Thread Cert.AdamStateIdeal.nD Cert.AdamStateIdeal.τ).loc Cert.AdamStateIdeal.main_arg3)
          ∧ r.2.mem ((c.tc : Thread Cert.AdamStateIdeal.nD Cert.AdamStateIdeal.τ).loc Cert.AdamStateIdeal.main_arg4) = m ((c.tc : Thread Cert.AdamStateIdeal.nD Cert.AdamStateIdeal.τ).loc Cert.AdamStateIdeal.main_arg4))
      ∧ θ_run (Cert.AdamStateRefIdeal.defs (F := Ideal)) (onTc (τ := Cert.AdamStateRefIdeal.τ) (Cert.AdamStateRefIdeal.main (F := Ideal))) ⟨m', fun _ => 0, g'⟩ (fun r => ∀ c : Dev Cert.AdamStateRefIdeal.nD,
          r.2.mem ((c.tc : Thread Cert.AdamStateRefIdeal.nD Cert.AdamStateRefIdeal.τ).loc Cert.AdamStateRefIdeal.main_v0) = v0 c
          ∧ r.2.mem ((c.tc : Thread Cert.AdamStateRefIdeal.nD Cert.AdamStateRefIdeal.τ).loc Cert.AdamStateRefIdeal.main_v24) = v1 c
          ∧ r.2.mem ((c.tc : Thread Cert.AdamStateRefIdeal.nD Cert.AdamStateRefIdeal.τ).loc Cert.AdamStateRefIdeal.main_v5) = v2 c
          ∧ r.2.mem ((c.tc : Thread Cert.AdamStateRefIdeal.nD Cert.AdamStateRefIdeal.τ).loc Cert.AdamStateRefIdeal.main_v11) = v3 c
          ∧ r.2.mem ((c.tc : Thread Cert.AdamStateRefIdeal.nD Cert.AdamStateRefIdeal.τ).loc Cert.AdamStateRefIdeal.main_arg0) = m' ((c.tc : Thread Cert.AdamStateRefIdeal.nD Cert.AdamStateRefIdeal.τ).loc Cert.AdamStateRefIdeal.main_arg0)
          ∧ r.2.mem ((c.tc : Thread Cert.AdamStateRefIdeal.nD Cert.AdamStateRefIdeal.τ).loc Cert.AdamStateRefIdeal.main_arg1) = m' ((c.tc : Thread Cert.AdamStateRefIdeal.nD Cert.AdamStateRefIdeal.τ).loc Cert.AdamStateRefIdeal.main_arg1)
          ∧ r.2.mem ((c.tc : Thread Cert.AdamStateRefIdeal.nD Cert.AdamStateRefIdeal.τ).loc Cert.AdamStateRefIdeal.main_arg2) = m' ((c.tc : Thread Cert.AdamStateRefIdeal.nD Cert.AdamStateRefIdeal.τ).loc Cert.AdamStateRefIdeal.main_arg2)
          ∧ r.2.mem ((c.tc : Thread Cert.AdamStateRefIdeal.nD Cert.AdamStateRefIdeal.τ).loc Cert.AdamStateRefIdeal.main_arg3) = m' ((c.tc : Thread Cert.AdamStateRefIdeal.nD Cert.AdamStateRefIdeal.τ).loc Cert.AdamStateRefIdeal.main_arg3)
          ∧ r.2.mem ((c.tc : Thread Cert.AdamStateRefIdeal.nD Cert.AdamStateRefIdeal.τ).loc Cert.AdamStateRefIdeal.main_arg4) = m' ((c.tc : Thread Cert.AdamStateRefIdeal.nD Cert.AdamStateRefIdeal.τ).loc Cert.AdamStateRefIdeal.main_arg4))

def preserves_AdamMatrix_AdamMatrixIdeal : Prop :=
  True

def algebraic_AdamMatrixIdeal_AdamMatrixRefIdeal [hAdamMatrixIdeal : Cert.AdamMatrixIdeal.Facts] [hAdamMatrixRefIdeal : Cert.AdamMatrixRefIdeal.Facts] : Prop :=
  ∀ (m : (ℓ : Loc Cert.AdamMatrixIdeal.nD Cert.AdamMatrixIdeal.τ Cert.AdamMatrixIdeal.sig) → Buf (Elt Ideal) ℓ) (g : Dev Cert.AdamMatrixIdeal.nD → PrngReg)
    (m' : (ℓ : Loc Cert.AdamMatrixRefIdeal.nD Cert.AdamMatrixRefIdeal.τ Cert.AdamMatrixRefIdeal.sig) → Buf (Elt Ideal) ℓ) (g' : Dev Cert.AdamMatrixRefIdeal.nD → PrngReg), Pre_AdamMatrixIdeal m →
    (∀ c : Dev Cert.AdamMatrixIdeal.nD,
      m' ((c.tc : Thread Cert.AdamMatrixRefIdeal.nD Cert.AdamMatrixRefIdeal.τ).loc Cert.AdamMatrixRefIdeal.main_arg0) = m ((c.tc : Thread Cert.AdamMatrixIdeal.nD Cert.AdamMatrixIdeal.τ).loc Cert.AdamMatrixIdeal.main_arg0)
      ∧ m' ((c.tc : Thread Cert.AdamMatrixRefIdeal.nD Cert.AdamMatrixRefIdeal.τ).loc Cert.AdamMatrixRefIdeal.main_arg1) = m ((c.tc : Thread Cert.AdamMatrixIdeal.nD Cert.AdamMatrixIdeal.τ).loc Cert.AdamMatrixIdeal.main_arg1)
      ∧ m' ((c.tc : Thread Cert.AdamMatrixRefIdeal.nD Cert.AdamMatrixRefIdeal.τ).loc Cert.AdamMatrixRefIdeal.main_arg2) = m ((c.tc : Thread Cert.AdamMatrixIdeal.nD Cert.AdamMatrixIdeal.τ).loc Cert.AdamMatrixIdeal.main_arg2)
      ∧ m' ((c.tc : Thread Cert.AdamMatrixRefIdeal.nD Cert.AdamMatrixRefIdeal.τ).loc Cert.AdamMatrixRefIdeal.main_arg3) = m ((c.tc : Thread Cert.AdamMatrixIdeal.nD Cert.AdamMatrixIdeal.τ).loc Cert.AdamMatrixIdeal.main_arg3)
      ∧ m' ((c.tc : Thread Cert.AdamMatrixRefIdeal.nD Cert.AdamMatrixRefIdeal.τ).loc Cert.AdamMatrixRefIdeal.main_arg4) = m ((c.tc : Thread Cert.AdamMatrixIdeal.nD Cert.AdamMatrixIdeal.τ).loc Cert.AdamMatrixIdeal.main_arg4)) →
    ∃ (v0 : (c : Dev Cert.AdamMatrixIdeal.nD) → Buf (Elt Ideal) ((c.tc : Thread Cert.AdamMatrixIdeal.nD Cert.AdamMatrixIdeal.τ).loc Cert.AdamMatrixIdeal.main_v0_0)) (v1 : (c : Dev Cert.AdamMatrixIdeal.nD) → Buf (Elt Ideal) ((c.tc : Thread Cert.AdamMatrixIdeal.nD Cert.AdamMatrixIdeal.τ).loc Cert.AdamMatrixIdeal.main_v0_1)) (v2 : (c : Dev Cert.AdamMatrixIdeal.nD) → Buf (Elt Ideal) ((c.tc : Thread Cert.AdamMatrixIdeal.nD Cert.AdamMatrixIdeal.τ).loc Cert.AdamMatrixIdeal.main_v0_2)) (v3 : (c : Dev Cert.AdamMatrixIdeal.nD) → Buf (Elt Ideal) ((c.tc : Thread Cert.AdamMatrixIdeal.nD Cert.AdamMatrixIdeal.τ).loc Cert.AdamMatrixIdeal.main_v0_3)),
      θ_run (Cert.AdamMatrixIdeal.defs (F := Ideal)) (onTc (τ := Cert.AdamMatrixIdeal.τ) (Cert.AdamMatrixIdeal.main (F := Ideal))) ⟨m, fun _ => 0, g⟩ (fun r => ∀ c : Dev Cert.AdamMatrixIdeal.nD,
          r.2.mem ((c.tc : Thread Cert.AdamMatrixIdeal.nD Cert.AdamMatrixIdeal.τ).loc Cert.AdamMatrixIdeal.main_v0_0) = v0 c
          ∧ r.2.mem ((c.tc : Thread Cert.AdamMatrixIdeal.nD Cert.AdamMatrixIdeal.τ).loc Cert.AdamMatrixIdeal.main_v0_1) = v1 c
          ∧ r.2.mem ((c.tc : Thread Cert.AdamMatrixIdeal.nD Cert.AdamMatrixIdeal.τ).loc Cert.AdamMatrixIdeal.main_v0_2) = v2 c
          ∧ r.2.mem ((c.tc : Thread Cert.AdamMatrixIdeal.nD Cert.AdamMatrixIdeal.τ).loc Cert.AdamMatrixIdeal.main_v0_3) = v3 c
          ∧ r.2.mem ((c.tc : Thread Cert.AdamMatrixIdeal.nD Cert.AdamMatrixIdeal.τ).loc Cert.AdamMatrixIdeal.main_arg0) = m ((c.tc : Thread Cert.AdamMatrixIdeal.nD Cert.AdamMatrixIdeal.τ).loc Cert.AdamMatrixIdeal.main_arg0)
          ∧ r.2.mem ((c.tc : Thread Cert.AdamMatrixIdeal.nD Cert.AdamMatrixIdeal.τ).loc Cert.AdamMatrixIdeal.main_arg1) = m ((c.tc : Thread Cert.AdamMatrixIdeal.nD Cert.AdamMatrixIdeal.τ).loc Cert.AdamMatrixIdeal.main_arg1)
          ∧ r.2.mem ((c.tc : Thread Cert.AdamMatrixIdeal.nD Cert.AdamMatrixIdeal.τ).loc Cert.AdamMatrixIdeal.main_arg2) = m ((c.tc : Thread Cert.AdamMatrixIdeal.nD Cert.AdamMatrixIdeal.τ).loc Cert.AdamMatrixIdeal.main_arg2)
          ∧ r.2.mem ((c.tc : Thread Cert.AdamMatrixIdeal.nD Cert.AdamMatrixIdeal.τ).loc Cert.AdamMatrixIdeal.main_arg3) = m ((c.tc : Thread Cert.AdamMatrixIdeal.nD Cert.AdamMatrixIdeal.τ).loc Cert.AdamMatrixIdeal.main_arg3)
          ∧ r.2.mem ((c.tc : Thread Cert.AdamMatrixIdeal.nD Cert.AdamMatrixIdeal.τ).loc Cert.AdamMatrixIdeal.main_arg4) = m ((c.tc : Thread Cert.AdamMatrixIdeal.nD Cert.AdamMatrixIdeal.τ).loc Cert.AdamMatrixIdeal.main_arg4))
      ∧ θ_run (Cert.AdamMatrixRefIdeal.defs (F := Ideal)) (onTc (τ := Cert.AdamMatrixRefIdeal.τ) (Cert.AdamMatrixRefIdeal.main (F := Ideal))) ⟨m', fun _ => 0, g'⟩ (fun r => ∀ c : Dev Cert.AdamMatrixRefIdeal.nD,
          r.2.mem ((c.tc : Thread Cert.AdamMatrixRefIdeal.nD Cert.AdamMatrixRefIdeal.τ).loc Cert.AdamMatrixRefIdeal.main_v0) = v0 c
          ∧ r.2.mem ((c.tc : Thread Cert.AdamMatrixRefIdeal.nD Cert.AdamMatrixRefIdeal.τ).loc Cert.AdamMatrixRefIdeal.main_v24) = v1 c
          ∧ r.2.mem ((c.tc : Thread Cert.AdamMatrixRefIdeal.nD Cert.AdamMatrixRefIdeal.τ).loc Cert.AdamMatrixRefIdeal.main_v5) = v2 c
          ∧ r.2.mem ((c.tc : Thread Cert.AdamMatrixRefIdeal.nD Cert.AdamMatrixRefIdeal.τ).loc Cert.AdamMatrixRefIdeal.main_v11) = v3 c
          ∧ r.2.mem ((c.tc : Thread Cert.AdamMatrixRefIdeal.nD Cert.AdamMatrixRefIdeal.τ).loc Cert.AdamMatrixRefIdeal.main_arg0) = m' ((c.tc : Thread Cert.AdamMatrixRefIdeal.nD Cert.AdamMatrixRefIdeal.τ).loc Cert.AdamMatrixRefIdeal.main_arg0)
          ∧ r.2.mem ((c.tc : Thread Cert.AdamMatrixRefIdeal.nD Cert.AdamMatrixRefIdeal.τ).loc Cert.AdamMatrixRefIdeal.main_arg1) = m' ((c.tc : Thread Cert.AdamMatrixRefIdeal.nD Cert.AdamMatrixRefIdeal.τ).loc Cert.AdamMatrixRefIdeal.main_arg1)
          ∧ r.2.mem ((c.tc : Thread Cert.AdamMatrixRefIdeal.nD Cert.AdamMatrixRefIdeal.τ).loc Cert.AdamMatrixRefIdeal.main_arg2) = m' ((c.tc : Thread Cert.AdamMatrixRefIdeal.nD Cert.AdamMatrixRefIdeal.τ).loc Cert.AdamMatrixRefIdeal.main_arg2)
          ∧ r.2.mem ((c.tc : Thread Cert.AdamMatrixRefIdeal.nD Cert.AdamMatrixRefIdeal.τ).loc Cert.AdamMatrixRefIdeal.main_arg3) = m' ((c.tc : Thread Cert.AdamMatrixRefIdeal.nD Cert.AdamMatrixRefIdeal.τ).loc Cert.AdamMatrixRefIdeal.main_arg3)
          ∧ r.2.mem ((c.tc : Thread Cert.AdamMatrixRefIdeal.nD Cert.AdamMatrixRefIdeal.τ).loc Cert.AdamMatrixRefIdeal.main_arg4) = m' ((c.tc : Thread Cert.AdamMatrixRefIdeal.nD Cert.AdamMatrixRefIdeal.τ).loc Cert.AdamMatrixRefIdeal.main_arg4))

def preserves_AdamStep_AdamStepIdeal : Prop :=
  True

def algebraic_AdamStepIdeal_AdamStepRefIdeal [hAdamStepIdeal : Cert.AdamStepIdeal.Facts] [hAdamStepRefIdeal : Cert.AdamStepRefIdeal.Facts] : Prop :=
  ∀ (m : (ℓ : Loc Cert.AdamStepIdeal.nD Cert.AdamStepIdeal.τ Cert.AdamStepIdeal.sig) → Buf (Elt Ideal) ℓ) (g : Dev Cert.AdamStepIdeal.nD → PrngReg)
    (m' : (ℓ : Loc Cert.AdamStepRefIdeal.nD Cert.AdamStepRefIdeal.τ Cert.AdamStepRefIdeal.sig) → Buf (Elt Ideal) ℓ) (g' : Dev Cert.AdamStepRefIdeal.nD → PrngReg), Pre_AdamStepIdeal m →
    (∀ c : Dev Cert.AdamStepIdeal.nD,
      m' ((c.tc : Thread Cert.AdamStepRefIdeal.nD Cert.AdamStepRefIdeal.τ).loc Cert.AdamStepRefIdeal.main_arg0) = m ((c.tc : Thread Cert.AdamStepIdeal.nD Cert.AdamStepIdeal.τ).loc Cert.AdamStepIdeal.main_arg0)
      ∧ m' ((c.tc : Thread Cert.AdamStepRefIdeal.nD Cert.AdamStepRefIdeal.τ).loc Cert.AdamStepRefIdeal.main_arg1) = m ((c.tc : Thread Cert.AdamStepIdeal.nD Cert.AdamStepIdeal.τ).loc Cert.AdamStepIdeal.main_arg1)
      ∧ m' ((c.tc : Thread Cert.AdamStepRefIdeal.nD Cert.AdamStepRefIdeal.τ).loc Cert.AdamStepRefIdeal.main_arg2) = m ((c.tc : Thread Cert.AdamStepIdeal.nD Cert.AdamStepIdeal.τ).loc Cert.AdamStepIdeal.main_arg2)
      ∧ m' ((c.tc : Thread Cert.AdamStepRefIdeal.nD Cert.AdamStepRefIdeal.τ).loc Cert.AdamStepRefIdeal.main_arg3) = m ((c.tc : Thread Cert.AdamStepIdeal.nD Cert.AdamStepIdeal.τ).loc Cert.AdamStepIdeal.main_arg3)
      ∧ m' ((c.tc : Thread Cert.AdamStepRefIdeal.nD Cert.AdamStepRefIdeal.τ).loc Cert.AdamStepRefIdeal.main_arg4) = m ((c.tc : Thread Cert.AdamStepIdeal.nD Cert.AdamStepIdeal.τ).loc Cert.AdamStepIdeal.main_arg4)) →
    ∃ (v0 : (c : Dev Cert.AdamStepIdeal.nD) → Buf (Elt Ideal) ((c.tc : Thread Cert.AdamStepIdeal.nD Cert.AdamStepIdeal.τ).loc Cert.AdamStepIdeal.main_v0_0)) (v1 : (c : Dev Cert.AdamStepIdeal.nD) → Buf (Elt Ideal) ((c.tc : Thread Cert.AdamStepIdeal.nD Cert.AdamStepIdeal.τ).loc Cert.AdamStepIdeal.main_v0_1)) (v2 : (c : Dev Cert.AdamStepIdeal.nD) → Buf (Elt Ideal) ((c.tc : Thread Cert.AdamStepIdeal.nD Cert.AdamStepIdeal.τ).loc Cert.AdamStepIdeal.main_v0_2)) (v3 : (c : Dev Cert.AdamStepIdeal.nD) → Buf (Elt Ideal) ((c.tc : Thread Cert.AdamStepIdeal.nD Cert.AdamStepIdeal.τ).loc Cert.AdamStepIdeal.main_v0_3)),
      θ_run (Cert.AdamStepIdeal.defs (F := Ideal)) (onTc (τ := Cert.AdamStepIdeal.τ) (Cert.AdamStepIdeal.main (F := Ideal))) ⟨m, fun _ => 0, g⟩ (fun r => ∀ c : Dev Cert.AdamStepIdeal.nD,
          r.2.mem ((c.tc : Thread Cert.AdamStepIdeal.nD Cert.AdamStepIdeal.τ).loc Cert.AdamStepIdeal.main_v0_0) = v0 c
          ∧ r.2.mem ((c.tc : Thread Cert.AdamStepIdeal.nD Cert.AdamStepIdeal.τ).loc Cert.AdamStepIdeal.main_v0_1) = v1 c
          ∧ r.2.mem ((c.tc : Thread Cert.AdamStepIdeal.nD Cert.AdamStepIdeal.τ).loc Cert.AdamStepIdeal.main_v0_2) = v2 c
          ∧ r.2.mem ((c.tc : Thread Cert.AdamStepIdeal.nD Cert.AdamStepIdeal.τ).loc Cert.AdamStepIdeal.main_v0_3) = v3 c
          ∧ r.2.mem ((c.tc : Thread Cert.AdamStepIdeal.nD Cert.AdamStepIdeal.τ).loc Cert.AdamStepIdeal.main_arg0) = m ((c.tc : Thread Cert.AdamStepIdeal.nD Cert.AdamStepIdeal.τ).loc Cert.AdamStepIdeal.main_arg0)
          ∧ r.2.mem ((c.tc : Thread Cert.AdamStepIdeal.nD Cert.AdamStepIdeal.τ).loc Cert.AdamStepIdeal.main_arg1) = m ((c.tc : Thread Cert.AdamStepIdeal.nD Cert.AdamStepIdeal.τ).loc Cert.AdamStepIdeal.main_arg1)
          ∧ r.2.mem ((c.tc : Thread Cert.AdamStepIdeal.nD Cert.AdamStepIdeal.τ).loc Cert.AdamStepIdeal.main_arg2) = m ((c.tc : Thread Cert.AdamStepIdeal.nD Cert.AdamStepIdeal.τ).loc Cert.AdamStepIdeal.main_arg2)
          ∧ r.2.mem ((c.tc : Thread Cert.AdamStepIdeal.nD Cert.AdamStepIdeal.τ).loc Cert.AdamStepIdeal.main_arg3) = m ((c.tc : Thread Cert.AdamStepIdeal.nD Cert.AdamStepIdeal.τ).loc Cert.AdamStepIdeal.main_arg3)
          ∧ r.2.mem ((c.tc : Thread Cert.AdamStepIdeal.nD Cert.AdamStepIdeal.τ).loc Cert.AdamStepIdeal.main_arg4) = m ((c.tc : Thread Cert.AdamStepIdeal.nD Cert.AdamStepIdeal.τ).loc Cert.AdamStepIdeal.main_arg4))
      ∧ θ_run (Cert.AdamStepRefIdeal.defs (F := Ideal)) (onTc (τ := Cert.AdamStepRefIdeal.τ) (Cert.AdamStepRefIdeal.main (F := Ideal))) ⟨m', fun _ => 0, g'⟩ (fun r => ∀ c : Dev Cert.AdamStepRefIdeal.nD,
          r.2.mem ((c.tc : Thread Cert.AdamStepRefIdeal.nD Cert.AdamStepRefIdeal.τ).loc Cert.AdamStepRefIdeal.main_v0) = v0 c
          ∧ r.2.mem ((c.tc : Thread Cert.AdamStepRefIdeal.nD Cert.AdamStepRefIdeal.τ).loc Cert.AdamStepRefIdeal.main_v24) = v1 c
          ∧ r.2.mem ((c.tc : Thread Cert.AdamStepRefIdeal.nD Cert.AdamStepRefIdeal.τ).loc Cert.AdamStepRefIdeal.main_v5) = v2 c
          ∧ r.2.mem ((c.tc : Thread Cert.AdamStepRefIdeal.nD Cert.AdamStepRefIdeal.τ).loc Cert.AdamStepRefIdeal.main_v11) = v3 c
          ∧ r.2.mem ((c.tc : Thread Cert.AdamStepRefIdeal.nD Cert.AdamStepRefIdeal.τ).loc Cert.AdamStepRefIdeal.main_arg0) = m' ((c.tc : Thread Cert.AdamStepRefIdeal.nD Cert.AdamStepRefIdeal.τ).loc Cert.AdamStepRefIdeal.main_arg0)
          ∧ r.2.mem ((c.tc : Thread Cert.AdamStepRefIdeal.nD Cert.AdamStepRefIdeal.τ).loc Cert.AdamStepRefIdeal.main_arg1) = m' ((c.tc : Thread Cert.AdamStepRefIdeal.nD Cert.AdamStepRefIdeal.τ).loc Cert.AdamStepRefIdeal.main_arg1)
          ∧ r.2.mem ((c.tc : Thread Cert.AdamStepRefIdeal.nD Cert.AdamStepRefIdeal.τ).loc Cert.AdamStepRefIdeal.main_arg2) = m' ((c.tc : Thread Cert.AdamStepRefIdeal.nD Cert.AdamStepRefIdeal.τ).loc Cert.AdamStepRefIdeal.main_arg2)
          ∧ r.2.mem ((c.tc : Thread Cert.AdamStepRefIdeal.nD Cert.AdamStepRefIdeal.τ).loc Cert.AdamStepRefIdeal.main_arg3) = m' ((c.tc : Thread Cert.AdamStepRefIdeal.nD Cert.AdamStepRefIdeal.τ).loc Cert.AdamStepRefIdeal.main_arg3)
          ∧ r.2.mem ((c.tc : Thread Cert.AdamStepRefIdeal.nD Cert.AdamStepRefIdeal.τ).loc Cert.AdamStepRefIdeal.main_arg4) = m' ((c.tc : Thread Cert.AdamStepRefIdeal.nD Cert.AdamStepRefIdeal.τ).loc Cert.AdamStepRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] [hPre_in_slab : Cert.Pre_in_slab.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v12) = v0 c
          ∧ r.2.mem ((c.tc : Thread Cert.AdamInRefIdeal.nD Cert.AdamInRefIdeal.τ).loc Cert.AdamInRefIdeal.main_v36) = v1 c
          ∧ r.2.mem ((c.tc : Thread Cert.AdamInRefIdeal.nD Cert.AdamInRefIdeal.τ).loc Cert.AdamInRefIdeal.main_v17) = v2 c
          ∧ r.2.mem ((c.tc : Thread Cert.AdamInRefIdeal.nD Cert.AdamInRefIdeal.τ).loc Cert.AdamInRefIdeal.main_v23) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamGlu_AdamGluIdeal : Prop :=
  True

def algebraic_AdamGluIdeal_AdamGluRefIdeal [hAdamGluIdeal : Cert.AdamGluIdeal.Facts] [hAdamGluRefIdeal : Cert.AdamGluRefIdeal.Facts] [hPre_glu_slab : Cert.Pre_glu_slab.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)
      ∧ m' ((c.tc : Thread Cert.AdamGluRefIdeal.nD Cert.AdamGluRefIdeal.τ).loc Cert.AdamGluRefIdeal.main_arg5) = m ((c.tc : Thread Cert.AdamGluIdeal.nD Cert.AdamGluIdeal.τ).loc Cert.AdamGluIdeal.main_arg5)
      ∧ m' ((c.tc : Thread Cert.AdamGluRefIdeal.nD Cert.AdamGluRefIdeal.τ).loc Cert.AdamGluRefIdeal.main_arg6) = m ((c.tc : Thread Cert.AdamGluIdeal.nD Cert.AdamGluIdeal.τ).loc Cert.AdamGluIdeal.main_arg6)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
          ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
          ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v12) = v0 c
          ∧ r.2.mem ((c.tc : Thread Cert.AdamGluRefIdeal.nD Cert.AdamGluRefIdeal.τ).loc Cert.AdamGluRefIdeal.main_v36) = v1 c
          ∧ r.2.mem ((c.tc : Thread Cert.AdamGluRefIdeal.nD Cert.AdamGluRefIdeal.τ).loc Cert.AdamGluRefIdeal.main_v17) = v2 c
          ∧ r.2.mem ((c.tc : Thread Cert.AdamGluRefIdeal.nD Cert.AdamGluRefIdeal.τ).loc Cert.AdamGluRefIdeal.main_v23) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4)
          ∧ r.2.mem ((c.tc : Thread Cert.AdamGluRefIdeal.nD Cert.AdamGluRefIdeal.τ).loc Cert.AdamGluRefIdeal.main_arg5) = m' ((c.tc : Thread Cert.AdamGluRefIdeal.nD Cert.AdamGluRefIdeal.τ).loc Cert.AdamGluRefIdeal.main_arg5)
          ∧ r.2.mem ((c.tc : Thread Cert.AdamGluRefIdeal.nD Cert.AdamGluRefIdeal.τ).loc Cert.AdamGluRefIdeal.main_arg6) = m' ((c.tc : Thread Cert.AdamGluRefIdeal.nD Cert.AdamGluRefIdeal.τ).loc Cert.AdamGluRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_out_slab : Cert.Pre_out_slab.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v12) = v0 c
          ∧ r.2.mem ((c.tc : Thread Cert.AdamOutRefIdeal.nD Cert.AdamOutRefIdeal.τ).loc Cert.AdamOutRefIdeal.main_v36) = v1 c
          ∧ r.2.mem ((c.tc : Thread Cert.AdamOutRefIdeal.nD Cert.AdamOutRefIdeal.τ).loc Cert.AdamOutRefIdeal.main_v17) = v2 c
          ∧ r.2.mem ((c.tc : Thread Cert.AdamOutRefIdeal.nD Cert.AdamOutRefIdeal.τ).loc Cert.AdamOutRefIdeal.main_v23) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamGate_AdamGateIdeal : Prop :=
  True

def algebraic_AdamGateIdeal_AdamGateRefIdeal [hAdamGateIdeal : Cert.AdamGateIdeal.Facts] [hAdamGateRefIdeal : Cert.AdamGateRefIdeal.Facts] [hPre_gate_slab : Cert.Pre_gate_slab.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)
      ∧ m' ((c.tc : Thread Cert.AdamGateRefIdeal.nD Cert.AdamGateRefIdeal.τ).loc Cert.AdamGateRefIdeal.main_arg5) = m ((c.tc : Thread Cert.AdamGateIdeal.nD Cert.AdamGateIdeal.τ).loc Cert.AdamGateIdeal.main_arg5)
      ∧ m' ((c.tc : Thread Cert.AdamGateRefIdeal.nD Cert.AdamGateRefIdeal.τ).loc Cert.AdamGateRefIdeal.main_arg6) = m ((c.tc : Thread Cert.AdamGateIdeal.nD Cert.AdamGateIdeal.τ).loc Cert.AdamGateIdeal.main_arg6)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v12) = v0 c
          ∧ r.2.mem ((c.tc : Thread Cert.AdamGateRefIdeal.nD Cert.AdamGateRefIdeal.τ).loc Cert.AdamGateRefIdeal.main_v36) = v1 c
          ∧ r.2.mem ((c.tc : Thread Cert.AdamGateRefIdeal.nD Cert.AdamGateRefIdeal.τ).loc Cert.AdamGateRefIdeal.main_v17) = v2 c
          ∧ r.2.mem ((c.tc : Thread Cert.AdamGateRefIdeal.nD Cert.AdamGateRefIdeal.τ).loc Cert.AdamGateRefIdeal.main_v23) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4)
          ∧ r.2.mem ((c.tc : Thread Cert.AdamGateRefIdeal.nD Cert.AdamGateRefIdeal.τ).loc Cert.AdamGateRefIdeal.main_arg5) = m' ((c.tc : Thread Cert.AdamGateRefIdeal.nD Cert.AdamGateRefIdeal.τ).loc Cert.AdamGateRefIdeal.main_arg5)
          ∧ r.2.mem ((c.tc : Thread Cert.AdamGateRefIdeal.nD Cert.AdamGateRefIdeal.τ).loc Cert.AdamGateRefIdeal.main_arg6) = m' ((c.tc : Thread Cert.AdamGateRefIdeal.nD Cert.AdamGateRefIdeal.τ).loc Cert.AdamGateRefIdeal.main_arg6))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_down_slab : Cert.Pre_down_slab.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v12) = v0 c
          ∧ r.2.mem ((c.tc : Thread Cert.AdamDownRefIdeal.nD Cert.AdamDownRefIdeal.τ).loc Cert.AdamDownRefIdeal.main_v36) = v1 c
          ∧ r.2.mem ((c.tc : Thread Cert.AdamDownRefIdeal.nD Cert.AdamDownRefIdeal.τ).loc Cert.AdamDownRefIdeal.main_v17) = v2 c
          ∧ r.2.mem ((c.tc : Thread Cert.AdamDownRefIdeal.nD Cert.AdamDownRefIdeal.τ).loc Cert.AdamDownRefIdeal.main_v23) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def Claim : Prop :=
  ∃ (hKernel : Cert.Kernel.Facts) (hKernelIdeal : Cert.KernelIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpGateDx : Cert.UpGateDx.Facts) (hUpGateDxIdeal : Cert.UpGateDxIdeal.Facts) (hUpGateDxRefIdeal : Cert.UpGateDxRefIdeal.Facts) (hGateDw : Cert.GateDw.Facts) (hGateDwIdeal : Cert.GateDwIdeal.Facts) (hGateDwRefIdeal : Cert.GateDwRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hInProj : Cert.InProj.Facts) (hInProjIdeal : Cert.InProjIdeal.Facts) (hInProjRefIdeal : Cert.InProjRefIdeal.Facts) (hGluProj : Cert.GluProj.Facts) (hGluProjIdeal : Cert.GluProjIdeal.Facts) (hGluProjRefIdeal : Cert.GluProjRefIdeal.Facts) (hGateUp : Cert.GateUp.Facts) (hGateUpIdeal : Cert.GateUpIdeal.Facts) (hGateUpRefIdeal : Cert.GateUpRefIdeal.Facts) (hFfnDown : Cert.FfnDown.Facts) (hFfnDownIdeal : Cert.FfnDownIdeal.Facts) (hFfnDownRefIdeal : Cert.FfnDownRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hOutProj : Cert.OutProj.Facts) (hOutProjIdeal : Cert.OutProjIdeal.Facts) (hOutProjRefIdeal : Cert.OutProjRefIdeal.Facts) (hRms : Cert.Rms.Facts) (hRmsIdeal : Cert.RmsIdeal.Facts) (hRmsRefIdeal : Cert.RmsRefIdeal.Facts) (hMixOut : Cert.MixOut.Facts) (hMixOutIdeal : Cert.MixOutIdeal.Facts) (hMixOutRefIdeal : Cert.MixOutRefIdeal.Facts) (hLoss : Cert.Loss.Facts) (hLossIdeal : Cert.LossIdeal.Facts) (hLossRefIdeal : Cert.LossRefIdeal.Facts) (hAdamModel : Cert.AdamModel.Facts) (hAdamModelIdeal : Cert.AdamModelIdeal.Facts) (hAdamModelRefIdeal : Cert.AdamModelRefIdeal.Facts) (hAdamHead : Cert.AdamHead.Facts) (hAdamHeadIdeal : Cert.AdamHeadIdeal.Facts) (hAdamHeadRefIdeal : Cert.AdamHeadRefIdeal.Facts) (hAdamWidth : Cert.AdamWidth.Facts) (hAdamWidthIdeal : Cert.AdamWidthIdeal.Facts) (hAdamWidthRefIdeal : Cert.AdamWidthRefIdeal.Facts) (hAdamBias : Cert.AdamBias.Facts) (hAdamBiasIdeal : Cert.AdamBiasIdeal.Facts) (hAdamBiasRefIdeal : Cert.AdamBiasRefIdeal.Facts) (hAdamState : Cert.AdamState.Facts) (hAdamStateIdeal : Cert.AdamStateIdeal.Facts) (hAdamStateRefIdeal : Cert.AdamStateRefIdeal.Facts) (hAdamMatrix : Cert.AdamMatrix.Facts) (hAdamMatrixIdeal : Cert.AdamMatrixIdeal.Facts) (hAdamMatrixRefIdeal : Cert.AdamMatrixRefIdeal.Facts) (hAdamStep : Cert.AdamStep.Facts) (hAdamStepIdeal : Cert.AdamStepIdeal.Facts) (hAdamStepRefIdeal : Cert.AdamStepRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hPre_in_slab : Cert.Pre_in_slab.Facts) (hPre_glu_slab : Cert.Pre_glu_slab.Facts) (hPre_out_slab : Cert.Pre_out_slab.Facts) (hPre_gate_slab : Cert.Pre_gate_slab.Facts) (hPre_down_slab : Cert.Pre_down_slab.Facts),
    quiescent_Kernel (hKernel := hKernel)
    ∧ quiescent_KernelIdeal (hKernelIdeal := hKernelIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpGateDx (hUpGateDx := hUpGateDx)
    ∧ quiescent_UpGateDxIdeal (hUpGateDxIdeal := hUpGateDxIdeal)
    ∧ quiescent_UpGateDxRefIdeal (hUpGateDxRefIdeal := hUpGateDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Rms (hRms := hRms)
    ∧ quiescent_RmsIdeal (hRmsIdeal := hRmsIdeal)
    ∧ quiescent_RmsRefIdeal (hRmsRefIdeal := hRmsRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Loss (hLoss := hLoss)
    ∧ quiescent_LossIdeal (hLossIdeal := hLossIdeal)
    ∧ quiescent_LossRefIdeal (hLossRefIdeal := hLossRefIdeal)
    ∧ quiescent_AdamModel (hAdamModel := hAdamModel)
    ∧ quiescent_AdamModelIdeal (hAdamModelIdeal := hAdamModelIdeal)
    ∧ quiescent_AdamModelRefIdeal (hAdamModelRefIdeal := hAdamModelRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamWidth (hAdamWidth := hAdamWidth)
    ∧ quiescent_AdamWidthIdeal (hAdamWidthIdeal := hAdamWidthIdeal)
    ∧ quiescent_AdamWidthRefIdeal (hAdamWidthRefIdeal := hAdamWidthRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamState (hAdamState := hAdamState)
    ∧ quiescent_AdamStateIdeal (hAdamStateIdeal := hAdamStateIdeal)
    ∧ quiescent_AdamStateRefIdeal (hAdamStateRefIdeal := hAdamStateRefIdeal)
    ∧ quiescent_AdamMatrix (hAdamMatrix := hAdamMatrix)
    ∧ quiescent_AdamMatrixIdeal (hAdamMatrixIdeal := hAdamMatrixIdeal)
    ∧ quiescent_AdamMatrixRefIdeal (hAdamMatrixRefIdeal := hAdamMatrixRefIdeal)
    ∧ quiescent_AdamStep (hAdamStep := hAdamStep)
    ∧ quiescent_AdamStepIdeal (hAdamStepIdeal := hAdamStepIdeal)
    ∧ quiescent_AdamStepRefIdeal (hAdamStepRefIdeal := hAdamStepRefIdeal)
    ∧ quiescent_AdamIn (hAdamIn := hAdamIn) (hPre_in_slab := hPre_in_slab)
    ∧ quiescent_AdamInIdeal (hAdamInIdeal := hAdamInIdeal) (hPre_in_slab := hPre_in_slab)
    ∧ quiescent_AdamInRefIdeal (hAdamInRefIdeal := hAdamInRefIdeal)
    ∧ quiescent_AdamInRefIdeal_pre_in_slab (hAdamInRefIdeal := hAdamInRefIdeal) (hPre_in_slab := hPre_in_slab)
    ∧ quiescent_AdamGlu (hAdamGlu := hAdamGlu) (hPre_glu_slab := hPre_glu_slab)
    ∧ quiescent_AdamGluIdeal (hAdamGluIdeal := hAdamGluIdeal) (hPre_glu_slab := hPre_glu_slab)
    ∧ quiescent_AdamGluRefIdeal (hAdamGluRefIdeal := hAdamGluRefIdeal)
    ∧ quiescent_AdamGluRefIdeal_pre_glu_slab (hAdamGluRefIdeal := hAdamGluRefIdeal) (hPre_glu_slab := hPre_glu_slab)
    ∧ quiescent_AdamOut (hAdamOut := hAdamOut) (hPre_out_slab := hPre_out_slab)
    ∧ quiescent_AdamOutIdeal (hAdamOutIdeal := hAdamOutIdeal) (hPre_out_slab := hPre_out_slab)
    ∧ quiescent_AdamOutRefIdeal (hAdamOutRefIdeal := hAdamOutRefIdeal)
    ∧ quiescent_AdamOutRefIdeal_pre_out_slab (hAdamOutRefIdeal := hAdamOutRefIdeal) (hPre_out_slab := hPre_out_slab)
    ∧ quiescent_AdamGate (hAdamGate := hAdamGate) (hPre_gate_slab := hPre_gate_slab)
    ∧ quiescent_AdamGateIdeal (hAdamGateIdeal := hAdamGateIdeal) (hPre_gate_slab := hPre_gate_slab)
    ∧ quiescent_AdamGateRefIdeal (hAdamGateRefIdeal := hAdamGateRefIdeal)
    ∧ quiescent_AdamGateRefIdeal_pre_gate_slab (hAdamGateRefIdeal := hAdamGateRefIdeal) (hPre_gate_slab := hPre_gate_slab)
    ∧ quiescent_AdamDown (hAdamDown := hAdamDown) (hPre_down_slab := hPre_down_slab)
    ∧ quiescent_AdamDownIdeal (hAdamDownIdeal := hAdamDownIdeal) (hPre_down_slab := hPre_down_slab)
    ∧ quiescent_AdamDownRefIdeal (hAdamDownRefIdeal := hAdamDownRefIdeal)
    ∧ quiescent_AdamDownRefIdeal_pre_down_slab (hAdamDownRefIdeal := hAdamDownRefIdeal) (hPre_down_slab := hPre_down_slab)
    ∧ preserves_Kernel_KernelIdeal
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpGateDx_UpGateDxIdeal
    ∧ algebraic_UpGateDxIdeal_UpGateDxRefIdeal (hUpGateDxIdeal := hUpGateDxIdeal) (hUpGateDxRefIdeal := hUpGateDxRefIdeal)
    ∧ preserves_GateDw_GateDwIdeal
    ∧ algebraic_GateDwIdeal_GateDwRefIdeal (hGateDwIdeal := hGateDwIdeal) (hGateDwRefIdeal := hGateDwRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_InProj_InProjIdeal
    ∧ algebraic_InProjIdeal_InProjRefIdeal (hInProjIdeal := hInProjIdeal) (hInProjRefIdeal := hInProjRefIdeal)
    ∧ preserves_GluProj_GluProjIdeal
    ∧ algebraic_GluProjIdeal_GluProjRefIdeal (hGluProjIdeal := hGluProjIdeal) (hGluProjRefIdeal := hGluProjRefIdeal)
    ∧ preserves_GateUp_GateUpIdeal
    ∧ algebraic_GateUpIdeal_GateUpRefIdeal (hGateUpIdeal := hGateUpIdeal) (hGateUpRefIdeal := hGateUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_OutProj_OutProjIdeal
    ∧ algebraic_OutProjIdeal_OutProjRefIdeal (hOutProjIdeal := hOutProjIdeal) (hOutProjRefIdeal := hOutProjRefIdeal)
    ∧ preserves_Rms_RmsIdeal
    ∧ algebraic_RmsIdeal_RmsRefIdeal (hRmsIdeal := hRmsIdeal) (hRmsRefIdeal := hRmsRefIdeal)
    ∧ preserves_MixOut_MixOutIdeal
    ∧ algebraic_MixOutIdeal_MixOutRefIdeal (hMixOutIdeal := hMixOutIdeal) (hMixOutRefIdeal := hMixOutRefIdeal)
    ∧ preserves_Loss_LossIdeal
    ∧ algebraic_LossIdeal_LossRefIdeal (hLossIdeal := hLossIdeal) (hLossRefIdeal := hLossRefIdeal)
    ∧ preserves_AdamModel_AdamModelIdeal
    ∧ algebraic_AdamModelIdeal_AdamModelRefIdeal (hAdamModelIdeal := hAdamModelIdeal) (hAdamModelRefIdeal := hAdamModelRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamWidth_AdamWidthIdeal
    ∧ algebraic_AdamWidthIdeal_AdamWidthRefIdeal (hAdamWidthIdeal := hAdamWidthIdeal) (hAdamWidthRefIdeal := hAdamWidthRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamState_AdamStateIdeal
    ∧ algebraic_AdamStateIdeal_AdamStateRefIdeal (hAdamStateIdeal := hAdamStateIdeal) (hAdamStateRefIdeal := hAdamStateRefIdeal)
    ∧ preserves_AdamMatrix_AdamMatrixIdeal
    ∧ algebraic_AdamMatrixIdeal_AdamMatrixRefIdeal (hAdamMatrixIdeal := hAdamMatrixIdeal) (hAdamMatrixRefIdeal := hAdamMatrixRefIdeal)
    ∧ preserves_AdamStep_AdamStepIdeal
    ∧ algebraic_AdamStepIdeal_AdamStepRefIdeal (hAdamStepIdeal := hAdamStepIdeal) (hAdamStepRefIdeal := hAdamStepRefIdeal)
    ∧ preserves_AdamIn_AdamInIdeal
    ∧ algebraic_AdamInIdeal_AdamInRefIdeal (hAdamInIdeal := hAdamInIdeal) (hAdamInRefIdeal := hAdamInRefIdeal) (hPre_in_slab := hPre_in_slab)
    ∧ preserves_AdamGlu_AdamGluIdeal
    ∧ algebraic_AdamGluIdeal_AdamGluRefIdeal (hAdamGluIdeal := hAdamGluIdeal) (hAdamGluRefIdeal := hAdamGluRefIdeal) (hPre_glu_slab := hPre_glu_slab)
    ∧ preserves_AdamOut_AdamOutIdeal
    ∧ algebraic_AdamOutIdeal_AdamOutRefIdeal (hAdamOutIdeal := hAdamOutIdeal) (hAdamOutRefIdeal := hAdamOutRefIdeal) (hPre_out_slab := hPre_out_slab)
    ∧ preserves_AdamGate_AdamGateIdeal
    ∧ algebraic_AdamGateIdeal_AdamGateRefIdeal (hAdamGateIdeal := hAdamGateIdeal) (hAdamGateRefIdeal := hAdamGateRefIdeal) (hPre_gate_slab := hPre_gate_slab)
    ∧ preserves_AdamDown_AdamDownIdeal
    ∧ algebraic_AdamDownIdeal_AdamDownRefIdeal (hAdamDownIdeal := hAdamDownIdeal) (hAdamDownRefIdeal := hAdamDownRefIdeal) (hPre_down_slab := hPre_down_slab)
-- ==== Pre_down_slab.lean ====
abbrev S704x2048 : Shape := ⟨2, ![704, 2048]⟩
abbrev S8x704x2048 : Shape := ⟨3, ![8, 704, 2048]⟩
abbrev S4x704x2048 : Shape := ⟨3, ![4, 704, 2048]⟩
abbrev S3x704x2048 : Shape := ⟨3, ![3, 704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S704x2048 .f32) (main_arg1 : FVec F S704x2048 .f32) (main_arg2 : FVec F S704x2048 .f32) (main_arg3 : FVec F S8x704x2048 .f32) (main_arg4 : FVec F S4x704x2048 .f32) (main_arg5 : FVec F S3x704x2048 .bf16) (main_arg6 : IVec S1 32) : IVec S1 1 :=
  let main_c : IVec S_ 32 := constantI S_ 32 0#32
  let main_v0 : IVec S1 32 := broadcastInDim S1 ![] bcast_S_S1 main_c
  let main_v1 : IVec S1 1 := cmpi .sge main_arg6 main_v0
  let main_c_0 : IVec S_ 32 := constantI S_ 32 8#32
  let main_v2 : IVec S1 32 := broadcastInDim S1 ![] bcast_S_S1 main_c_0
  let main_v3 : IVec S1 1 := cmpi .slt main_arg6 main_v2
  let main_v4 : IVec S1 1 := andi main_v1 main_v3
  main_v4
-- ==== Pre_gate_slab.lean ====
abbrev S2048x704 : Shape := ⟨2, ![2048, 704]⟩
abbrev S8x2048x704 : Shape := ⟨3, ![8, 2048, 704]⟩
abbrev S4x2048x704 : Shape := ⟨3, ![4, 2048, 704]⟩
abbrev S3x2048x704 : Shape := ⟨3, ![3, 2048, 704]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x704 .f32) (main_arg1 : FVec F S2048x704 .f32) (main_arg2 : FVec F S2048x704 .f32) (main_arg3 : FVec F S8x2048x704 .f32) (main_arg4 : FVec F S4x2048x704 .f32) (main_arg5 : FVec F S3x2048x704 .bf16) (main_arg6 : IVec S1 32) : IVec S1 1 :=
  let main_c : IVec S_ 32 := constantI S_ 32 0#32
  let main_v0 : IVec S1 32 := broadcastInDim S1 ![] bcast_S_S1 main_c
  let main_v1 : IVec S1 1 := cmpi .sge main_arg6 main_v0
  let main_c_0 : IVec S_ 32 := constantI S_ 32 8#32
  let main_v2 : IVec S1 32 := broadcastInDim S1 ![] bcast_S_S1 main_c_0
  let main_v3 : IVec S1 1 := cmpi .slt main_arg6 main_v2
  let main_v4 : IVec S1 1 := andi main_v1 main_v3
  main_v4
-- ==== Pre_glu_slab.lean ====
abbrev S128x1024 : Shape := ⟨2, ![128, 1024]⟩
abbrev S8x128x1024 : Shape := ⟨3, ![8, 128, 1024]⟩
abbrev S4x128x1024 : Shape := ⟨3, ![4, 128, 1024]⟩
abbrev S3x128x1024 : Shape := ⟨3, ![3, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S128x1024 .f32) (main_arg1 : FVec F S128x1024 .f32) (main_arg2 : FVec F S128x1024 .f32) (main_arg3 : FVec F S8x128x1024 .f32) (main_arg4 : FVec F S4x128x1024 .f32) (main_arg5 : FVec F S3x128x1024 .bf16) (main_arg6 : IVec S1 32) : IVec S1 1 :=
  let main_c : IVec S_ 32 := constantI S_ 32 0#32
  let main_v0 : IVec S1 32 := broadcastInDim S1 ![] bcast_S_S1 main_c
  let main_v1 : IVec S1 1 := cmpi .sge main_arg6 main_v0
  let main_c_0 : IVec S_ 32 := constantI S_ 32 8#32
  let main_v2 : IVec S1 32 := broadcastInDim S1 ![] bcast_S_S1 main_c_0
  let main_v3 : IVec S1 1 := cmpi .slt main_arg6 main_v2
  let main_v4 : IVec S1 1 := andi main_v1 main_v3
  main_v4
-- ==== Pre_in_slab.lean ====
abbrev S2048x512 : Shape := ⟨2, ![2048, 512]⟩
abbrev S8x2048x512 : Shape := ⟨3, ![8, 2048, 512]⟩
abbrev S4x2048x512 : Shape := ⟨3, ![4, 2048, 512]⟩
abbrev S3x2048x512 : Shape := ⟨3, ![3, 2048, 512]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x512 .f32) (main_arg1 : FVec F S2048x512 .f32) (main_arg2 : FVec F S2048x512 .f32) (main_arg3 : FVec F S8x2048x512 .f32) (main_arg4 : FVec F S4x2048x512 .f32) (main_arg5 : FVec F S3x2048x512 .bf16) (main_arg6 : IVec S1 32) : IVec S1 1 :=
  let main_c : IVec S_ 32 := constantI S_ 32 0#32
  let main_v0 : IVec S1 32 := broadcastInDim S1 ![] bcast_S_S1 main_c
  let main_v1 : IVec S1 1 := cmpi .sge main_arg6 main_v0
  let main_c_0 : IVec S_ 32 := constantI S_ 32 8#32
  let main_v2 : IVec S1 32 := broadcastInDim S1 ![] bcast_S_S1 main_c_0
  let main_v3 : IVec S1 1 := cmpi .slt main_arg6 main_v2
  let main_v4 : IVec S1 1 := andi main_v1 main_v3
  main_v4
-- ==== Pre_out_slab.lean ====
abbrev S256x2048 : Shape := ⟨2, ![256, 2048]⟩
abbrev S8x256x2048 : Shape := ⟨3, ![8, 256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x2048 .f32) (main_arg1 : FVec F S256x2048 .f32) (main_arg2 : FVec F S256x2048 .f32) (main_arg3 : FVec F S8x256x2048 .f32) (main_arg4 : FVec F S4x256x2048 .f32) (main_arg5 : FVec F S3x256x2048 .bf16) (main_arg6 : IVec S1 32) : IVec S1 1 :=
  let main_c : IVec S_ 32 := constantI S_ 32 0#32
  let main_v0 : IVec S1 32 := broadcastInDim S1 ![] bcast_S_S1 main_c
  let main_v1 : IVec S1 1 := cmpi .sge main_arg6 main_v0
  let main_c_0 : IVec S_ 32 := constantI S_ 32 8#32
  let main_v2 : IVec S1 32 := broadcastInDim S1 ![] bcast_S_S1 main_c_0
  let main_v3 : IVec S1 1 := cmpi .slt main_arg6 main_v2
  let main_v4 : IVec S1 1 := andi main_v1 main_v3
  main_v4
-- ==== Kernel.lean ====
abbrev S4096x1024 : Shape := ⟨2, ![4096, 1024]⟩
abbrev S64x64 : Shape := ⟨2, ![64, 64]⟩
abbrev S64x64x16 : Shape := ⟨3, ![64, 64, 16]⟩
abbrev S64x16x64 : Shape := ⟨3, ![64, 16, 64]⟩
abbrev S1x4096 : Shape := ⟨2, ![1, 4096]⟩
abbrev S8x4096 : Shape := ⟨2, ![8, 4096]⟩
abbrev S1x64x16x64 : Shape := ⟨4, ![1, 64, 16, 64]⟩
abbrev S2x64x16x64 : Shape := ⟨4, ![2, 64, 16, 64]⟩
abbrev S2x8x8x16x64 : Shape := ⟨5, ![2, 8, 8, 16, 64]⟩
abbrev S8x8 : Shape := ⟨2, ![8, 8]⟩
abbrev S_ : Shape := ⟨0, ![]⟩
abbrev S2x8x8x16x1x64 : Shape := ⟨6, ![2, 8, 8, 16, 1, 64]⟩
abbrev S1x1x8x1x8x1 : Shape := ⟨6, ![1, 1, 8, 1, 8, 1]⟩
abbrev S2x8x8x16x8x64 : Shape := ⟨6, ![2, 8, 8, 16, 8, 64]⟩
abbrev S2x8x128x512 : Shape := ⟨4, ![2, 8, 128, 512]⟩
abbrev S1x64x64x16 : Shape := ⟨4, ![1, 64, 64, 16]⟩
abbrev S2x64x64x16 : Shape := ⟨4, ![2, 64, 64, 16]⟩
abbrev S2x8x8x64x16 : Shape := ⟨5, ![2, 8, 8, 64, 16]⟩
abbrev S2x8x8x64x1x16 : Shape := ⟨6, ![2, 8, 8, 64, 1, 16]⟩
abbrev S2x8x8x64x8x16 : Shape := ⟨6, ![2, 8, 8, 64, 8, 16]⟩
abbrev S2x8x512x128 : Shape := ⟨4, ![2, 8, 512, 128]⟩
abbrev S8 : Shape := ⟨1, ![8]⟩
abbrev S8x1 : Shape := ⟨2, ![8, 1]⟩
abbrev S4096 : Shape := ⟨1, ![4096]⟩
abbrev S1x8x4096 : Shape := ⟨3, ![1, 8, 4096]⟩
abbrev S8x8x4096 : Shape := ⟨3, ![8, 8, 4096]⟩
abbrev S1x8x128x512 : Shape := ⟨4, ![1, 8, 128, 512]⟩
abbrev S8x128x512 : Shape := ⟨3, ![8, 128, 512]⟩
abbrev S1x8x512x128 : Shape := ⟨4, ![1, 8, 512, 128]⟩
abbrev S8x512x128 : Shape := ⟨3, ![8, 512, 128]⟩
abbrev S4096x4096 : Shape := ⟨2, ![4096, 4096]⟩
abbrev S512x1024 : Shape := ⟨2, ![512, 1024]⟩
abbrev S512x4096 : Shape := ⟨2, ![512, 4096]⟩
abbrev S2x8x4096 : Shape := ⟨3, ![2, 8, 4096]⟩
abbrev S4x512x512 : Shape := ⟨3, ![4, 512, 512]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S64x8x512 : Shape := ⟨3, ![64, 8, 512]⟩
abbrev S1x8x512 : Shape := ⟨3, ![1, 8, 512]⟩
abbrev S8x512 : Shape := ⟨2, ![8, 512]⟩
abbrev S1x512x512 : Shape := ⟨3, ![1, 512, 512]⟩
abbrev S1x512 : Shape := ⟨2, ![1, 512]⟩
abbrev S1x512x128 : Shape := ⟨3, ![1, 512, 128]⟩

abbrev nBuf : Space → Nat
  | .hbm => 201
  | .vmem => 16
  | .smem => 0
  | _ => 0

abbrev hbmTy0_0 (i : Nat) : BufTy := match i % 128 with
  | 0 => ⟨S4096x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S1x4096, .f32⟩
  | 8 => ⟨S1x4096, .f32⟩
  | 9 => ⟨S1x4096, .f32⟩
  | 10 => ⟨S1x4096, .f32⟩
  | 11 => ⟨S1x4096, .f32⟩
  | 12 => ⟨S1x4096, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S1x4096, .f32⟩
  | 20 => ⟨S1x4096, .f32⟩
  | 21 => ⟨S1x4096, .f32⟩
  | 22 => ⟨S1x4096, .f32⟩
  | 23 => ⟨S1x4096, .f32⟩
  | 24 => ⟨S1x4096, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S1x4096, .f32⟩
  | 32 => ⟨S1x4096, .f32⟩
  | 33 => ⟨S1x4096, .f32⟩
  | 34 => ⟨S1x4096, .f32⟩
  | 35 => ⟨S1x4096, .f32⟩
  | 36 => ⟨S1x4096, .f32⟩
  | 37 => ⟨S1x4096, .f32⟩
  | 38 => ⟨S1x4096, .f32⟩
  | 39 => ⟨S1x4096, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x4096, .f32⟩
  | 47 => ⟨S1x4096, .f32⟩
  | 48 => ⟨S1x4096, .f32⟩
  | 49 => ⟨S1x4096, .f32⟩
  | 50 => ⟨S1x4096, .f32⟩
  | 51 => ⟨S1x4096, .f32⟩
  | 52 => ⟨S1x4096, .f32⟩
  | 53 => ⟨S1x4096, .f32⟩
  | 54 => ⟨S1x4096, .f32⟩
  | 55 => ⟨S1x4096, .f32⟩
  | 56 => ⟨S1x4096, .f32⟩
  | 57 => ⟨S8x4096, .f32⟩
  | 58 => ⟨S8x4096, .f32⟩
  | 59 => ⟨S64x16x64, .f32⟩
  | 60 => ⟨S1x64x16x64, .f32⟩
  | 61 => ⟨S1x64x16x64, .f32⟩
  | 62 => ⟨S2x64x16x64, .f32⟩
  | 63 => ⟨S2x8x8x16x64, .f32⟩
  | 64 => ⟨S8x8, .i32⟩
  | 65 => ⟨S8x8, .i32⟩
  | 66 => ⟨S_, .i32⟩
  | 67 => ⟨S8x8, .i32⟩
  | 68 => ⟨S8x8, .i32⟩
  | 69 => ⟨S8x8, .i1⟩
  | 70 => ⟨S8x8, .f32⟩
  | 71 => ⟨S2x8x8x16x1x64, .f32⟩
  | 72 => ⟨S1x1x8x1x8x1, .f32⟩
  | 73 => ⟨S2x8x8x16x8x64, .f32⟩
  | 74 => ⟨S2x8x8x16x8x64, .f32⟩
  | 75 => ⟨S2x8x8x16x8x64, .f32⟩
  | 76 => ⟨S2x8x8x16x8x64, .bf16⟩
  | 77 => ⟨S2x8x128x512, .bf16⟩
  | 78 => ⟨S1x64x64x16, .f32⟩
  | 79 => ⟨S1x64x64x16, .f32⟩
  | 80 => ⟨S2x64x64x16, .f32⟩
  | 81 => ⟨S2x8x8x64x16, .f32⟩
  | 82 => ⟨S8x8, .i32⟩
  | 83 => ⟨S8x8, .i32⟩
  | 84 => ⟨S_, .i32⟩
  | 85 => ⟨S8x8, .i32⟩
  | 86 => ⟨S8x8, .i32⟩
  | 87 => ⟨S8x8, .i1⟩
  | 88 => ⟨S8x8, .f32⟩
  | 89 => ⟨S2x8x8x64x1x16, .f32⟩
  | 90 => ⟨S1x1x8x1x8x1, .f32⟩
  | 91 => ⟨S2x8x8x64x8x16, .f32⟩
  | 92 => ⟨S2x8x8x64x8x16, .f32⟩
  | 93 => ⟨S2x8x8x64x8x16, .f32⟩
  | 94 => ⟨S2x8x8x64x8x16, .bf16⟩
  | 95 => ⟨S2x8x512x128, .bf16⟩
  | 96 => ⟨S8x4096, .f32⟩
  | 97 => ⟨S8, .i32⟩
  | 98 => ⟨S8x1, .i32⟩
  | 99 => ⟨S_, .i32⟩
  | 100 => ⟨S8x1, .i32⟩
  | 101 => ⟨S8x1, .i1⟩
  | 102 => ⟨S1x4096, .f32⟩
  | 103 => ⟨S4096, .f32⟩
  | 104 => ⟨S1x4096, .f32⟩
  | 105 => ⟨S_, .f32⟩
  | 106 => ⟨S_, .f32⟩
  | 107 => ⟨S8x4096, .i1⟩
  | 108 => ⟨S8x4096, .f32⟩
  | 109 => ⟨S8x4096, .f32⟩
  | 110 => ⟨S8x4096, .f32⟩
  | 111 => ⟨S1x4096, .f32⟩
  | 112 => ⟨S4096, .f32⟩
  | 113 => ⟨S1x4096, .f32⟩
  | 114 => ⟨S_, .f32⟩
  | 115 => ⟨S_, .f32⟩
  | 116 => ⟨S8x4096, .i1⟩
  | 117 => ⟨S8x4096, .f32⟩
  | 118 => ⟨S8x4096, .f32⟩
  | 119 => ⟨S8x4096, .f32⟩
  | 120 => ⟨S_, .i32⟩
  | 121 => ⟨S8x1, .i32⟩
  | 122 => ⟨S8x1, .i1⟩
  | 123 => ⟨S1x4096, .f32⟩
  | 124 => ⟨S4096, .f32⟩
  | 125 => ⟨S1x4096, .f32⟩
  | 126 => ⟨S_, .f32⟩
  | 127 => ⟨S_, .f32⟩
  | _ => ⟨S4096x1024, .f32⟩

abbrev hbmTy0_1 (i : Nat) : BufTy := match i % 128 with
  | 0 => ⟨S8x4096, .i1⟩
  | 1 => ⟨S8x4096, .f32⟩
  | 2 => ⟨S8x4096, .f32⟩
  | 3 => ⟨S8x4096, .f32⟩
  | 4 => ⟨S1x4096, .f32⟩
  | 5 => ⟨S4096, .f32⟩
  | 6 => ⟨S1x4096, .f32⟩
  | 7 => ⟨S_, .f32⟩
  | 8 => ⟨S_, .f32⟩
  | 9 => ⟨S8x4096, .i1⟩
  | 10 => ⟨S8x4096, .f32⟩
  | 11 => ⟨S8x4096, .f32⟩
  | 12 => ⟨S8x4096, .f32⟩
  | 13 => ⟨S_, .i32⟩
  | 14 => ⟨S8x1, .i32⟩
  | 15 => ⟨S8x1, .i1⟩
  | 16 => ⟨S1x4096, .f32⟩
  | 17 => ⟨S4096, .f32⟩
  | 18 => ⟨S1x4096, .f32⟩
  | 19 => ⟨S_, .f32⟩
  | 20 => ⟨S_, .f32⟩
  | 21 => ⟨S8x4096, .i1⟩
  | 22 => ⟨S8x4096, .f32⟩
  | 23 => ⟨S8x4096, .f32⟩
  | 24 => ⟨S8x4096, .f32⟩
  | 25 => ⟨S1x4096, .f32⟩
  | 26 => ⟨S4096, .f32⟩
  | 27 => ⟨S1x4096, .f32⟩
  | 28 => ⟨S_, .f32⟩
  | 29 => ⟨S_, .f32⟩
  | 30 => ⟨S8x4096, .i1⟩
  | 31 => ⟨S8x4096, .f32⟩
  | 32 => ⟨S8x4096, .f32⟩
  | 33 => ⟨S8x4096, .f32⟩
  | 34 => ⟨S8, .i32⟩
  | 35 => ⟨S_, .i32⟩
  | 36 => ⟨S8, .i32⟩
  | 37 => ⟨S8, .i1⟩
  | 38 => ⟨S_, .i32⟩
  | 39 => ⟨S8, .i32⟩
  | 40 => ⟨S8, .i32⟩
  | 41 => ⟨S8, .i32⟩
  | 42 => ⟨S8x1, .i32⟩
  | 43 => ⟨S8x4096, .f32⟩
  | 44 => ⟨S_, .i32⟩
  | 45 => ⟨S8, .i32⟩
  | 46 => ⟨S8, .i1⟩
  | 47 => ⟨S_, .i32⟩
  | 48 => ⟨S8, .i32⟩
  | 49 => ⟨S8, .i32⟩
  | 50 => ⟨S8, .i32⟩
  | 51 => ⟨S8x1, .i32⟩
  | 52 => ⟨S8x4096, .f32⟩
  | 53 => ⟨S1x8x4096, .f32⟩
  | 54 => ⟨S1x8x4096, .f32⟩
  | 55 => ⟨S1x8x4096, .f32⟩
  | 56 => ⟨S1x8x4096, .f32⟩
  | 57 => ⟨S1x8x4096, .f32⟩
  | 58 => ⟨S1x8x4096, .f32⟩
  | 59 => ⟨S1x8x4096, .f32⟩
  | 60 => ⟨S1x8x4096, .f32⟩
  | 61 => ⟨S8x8x4096, .f32⟩
  | 62 => ⟨S1x8x128x512, .bf16⟩
  | 63 => ⟨S8x128x512, .bf16⟩
  | 64 => ⟨S1x8x128x512, .bf16⟩
  | 65 => ⟨S8x128x512, .bf16⟩
  | 66 => ⟨S1x8x512x128, .bf16⟩
  | 67 => ⟨S8x512x128, .bf16⟩
  | 68 => ⟨S1x8x512x128, .bf16⟩
  | 69 => ⟨S8x512x128, .bf16⟩
  | 70 => ⟨S4096x4096, .bf16⟩
  | 71 => ⟨S4096x4096, .bf16⟩
  | 72 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S8x128x512, .bf16⟩
  | .local _ .vmem, ⟨3, _⟩ => ⟨S8x128x512, .bf16⟩
  | .local _ .vmem, ⟨4, _⟩ => ⟨S8x8x4096, .f32⟩
  | .local _ .vmem, ⟨5, _⟩ => ⟨S8x512x128, .bf16⟩
  | .local _ .vmem, ⟨6, _⟩ => ⟨S8x512x128, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S2x8x4096, .f32⟩
  | .local _ .vmem, ⟨14, _⟩ => ⟨S4x512x512, .f32⟩
  | .local _ .vmem, ⟨15, _⟩ => ⟨S4x512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_c : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_c_0 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_c_1 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_2 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_call1_v3 : Ref sig .tc := ⟨.hbm, 118, rfl⟩
abbrev main_v99 : Ref sig .tc := ⟨.hbm, 119, rfl⟩
abbrev main_c_3 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_4 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_5 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_v109 : Ref sig .tc := ⟨.hbm, 140, rfl⟩
abbrev main_c_6 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_7 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_8 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_v119 : Ref sig .tc := ⟨.hbm, 161, rfl⟩
abbrev main_v120 : Ref sig .tc := ⟨.hbm, 162, rfl⟩
abbrev main_c_9 : Ref sig .tc := ⟨.hbm, 163, rfl⟩
abbrev main_v121 : Ref sig .tc := ⟨.hbm, 164, rfl⟩
abbrev main_v122 : Ref sig .tc := ⟨.hbm, 165, rfl⟩
abbrev main_c_10 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_11 : Ref sig .tc := ⟨.hbm, 172, rfl⟩
abbrev main_v128 : Ref sig .tc := ⟨.hbm, 173, rfl⟩
abbrev main_v129 : Ref sig .tc := ⟨.hbm, 174, rfl⟩
abbrev main_c_12 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152_0 : Ref sig .tc := ⟨.hbm, 198, rfl⟩
abbrev main_v152_1 : Ref sig .tc := ⟨.hbm, 199, rfl⟩
abbrev main_v152_2 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_191 : BitVec 32 := 0#32
  let c64_i32 : BitVec 32 := 64#32
  let v347 : BitVec 32 := Scalar.addi c0_i32_191 c64_i32
  let c1_i32_192 : BitVec 32 := 1#32
  ⟨c0_i32_191, v347, c1_i32_192⟩
def k0_mult1 (k0_t1 : Fin k0_t1_loop.trips) : BitVec 32 :=
  let c0_i32_191 : BitVec 32 := 0#32
  let c1_i32_192 : BitVec 32 := 1#32
  let arg13 : BitVec 32 := Scf.iv c0_i32_191 c1_i32_192 k0_t1
  let c8_i32 : BitVec 32 := 8#32
  let v871 : BitVec 32 := Scalar.muli arg13 c8_i32
  v871
def k0_off1 (k0_t1 : Fin k0_t1_loop.trips) : Fin 3 → Nat :=
  let c0_607 : Index := 0#32
  let c0_i32_191 : BitVec 32 := 0#32
  let c1_i32_192 : BitVec 32 := 1#32
  let arg13 : BitVec 32 := Scf.iv c0_i32_191 c1_i32_192 k0_t1
  let c8_i32 : BitVec 32 := 8#32
  let v871 : BitVec 32 := Scalar.muli arg13 c8_i32
  let v872 : BitVec 32 := v871
  let v873 : Index := Scalar.indexCast v872
  let c0_608 : Index := 0#32
  ![0, v873.toNat, 0]
def k0_off2 (k0_t1 : Fin k0_t1_loop.trips) : Fin 3 → Nat :=
  let c1_615 : Index := 1#32
  let c0_i32_191 : BitVec 32 := 0#32
  let c1_i32_192 : BitVec 32 := 1#32
  let arg13 : BitVec 32 := Scf.iv c0_i32_191 c1_i32_192 k0_t1
  let c8_i32 : BitVec 32 := 8#32
  let v871 : BitVec 32 := Scalar.muli arg13 c8_i32
  let v872 : BitVec 32 := v871
  let v901 : Index := Scalar.indexCast v872
  let c0_616 : Index := 0#32
  ![1, v901.toNat, 0]
def k0_off3 (k0_t1 : Fin k0_t1_loop.trips) : Fin 3 → Nat :=
  let c2_623 : Index := 2#32
  let c0_i32_191 : BitVec 32 := 0#32
  let c1_i32_192 : BitVec 32 := 1#32
  let arg13 : BitVec 32 := Scf.iv c0_i32_191 c1_i32_192 k0_t1
  let c8_i32 : BitVec 32 := 8#32
  let v871 : BitVec 32 := Scalar.muli arg13 c8_i32
  let v872 : BitVec 32 := v871
  let v929 : Index := Scalar.indexCast v872
  let c0_624 : Index := 0#32
  ![2, v929.toNat, 0]
def k0_off4 (k0_t1 : Fin k0_t1_loop.trips) : Fin 3 → Nat :=
  let c3_631 : Index := 3#32
  let c0_i32_191 : BitVec 32 := 0#32
  let c1_i32_192 : BitVec 32 := 1#32
  let arg13 : BitVec 32 := Scf.iv c0_i32_191 c1_i32_192 k0_t1
  let c8_i32 : BitVec 32 := 8#32
  let v871 : BitVec 32 := Scalar.muli arg13 c8_i32
  let v872 : BitVec 32 := v871
  let v957 : Index := Scalar.indexCast v872
  let c0_632 : Index := 0#32
  ![3, v957.toNat, 0]
@[reducible] def k0_t2_loop : Scf.Loop 32 :=
  let c0_i32_499 : BitVec 32 := 0#32
  let c64_i32_500 : BitVec 32 := 64#32
  let v781 : BitVec 32 := Scalar.addi c0_i32_499 c64_i32_500
  let c1_i32_501 : BitVec 32 := 1#32
  ⟨c0_i32_499, v781, c1_i32_501⟩
def k0_mult2 (k0_t2 : Fin k0_t2_loop.trips) : BitVec 32 :=
  let c0_i32_499 : BitVec 32 := 0#32
  let c1_i32_501 : BitVec 32 := 1#32
  let arg13 : BitVec 32 := Scf.iv c0_i32_499 c1_i32_501 k0_t2
  let c8_i32 : BitVec 32 := 8#32
  let v871 : BitVec 32 := Scalar.muli arg13 c8_i32
  v871
def k0_off5 (k0_t2 : Fin k0_t2_loop.trips) : Fin 3 → Nat :=
  let c0_607 : Index := 0#32
  let c0_i32_499 : BitVec 32 := 0#32
  let c1_i32_501 : BitVec 32 := 1#32
  let arg13 : BitVec 32 := Scf.iv c0_i32_499 c1_i32_501 k0_t2
  let c8_i32 : BitVec 32 := 8#32
  let v871 : BitVec 32 := Scalar.muli arg13 c8_i32
  let v872 : BitVec 32 := v871
  let v873 : Index := Scalar.indexCast v872
  let c0_608 : Index := 0#32
  ![0, v873.toNat, 0]
def k0_off6 (k0_t2 : Fin k0_t2_loop.trips) : Fin 3 → Nat :=
  let c1_615 : Index := 1#32
  let c0_i32_499 : BitVec 32 := 0#32
  let c1_i32_501 : BitVec 32 := 1#32
  let arg13 : BitVec 32 := Scf.iv c0_i32_499 c1_i32_501 k0_t2
  let c8_i32 : BitVec 32 := 8#32
  let v871 : BitVec 32 := Scalar.muli arg13 c8_i32
  let v872 : BitVec 32 := v871
  let v901 : Index := Scalar.indexCast v872
  let c0_616 : Index := 0#32
  ![1, v901.toNat, 0]
def k0_off7 (k0_t2 : Fin k0_t2_loop.trips) : Fin 3 → Nat :=
  let c2_623 : Index := 2#32
  let c0_i32_499 : BitVec 32 := 0#32
  let c1_i32_501 : BitVec 32 := 1#32
  let arg13 : BitVec 32 := Scf.iv c0_i32_499 c1_i32_501 k0_t2
  let c8_i32 : BitVec 32 := 8#32
  let v871 : BitVec 32 := Scalar.muli arg13 c8_i32
  let v872 : BitVec 32 := v871
  let v929 : Index := Scalar.indexCast v872
  let c0_624 : Index := 0#32
  ![2, v929.toNat, 0]
def k0_off8 (k0_t2 : Fin k0_t2_loop.trips) : Fin 3 → Nat :=
  let c3_631 : Index := 3#32
  let c0_i32_499 : BitVec 32 := 0#32
  let c1_i32_501 : BitVec 32 := 1#32
  let arg13 : BitVec 32 := Scf.iv c0_i32_499 c1_i32_501 k0_t2
  let c8_i32 : BitVec 32 := 8#32
  let v871 : BitVec 32 := Scalar.muli arg13 c8_i32
  let v872 : BitVec 32 := v871
  let v957 : Index := Scalar.indexCast v872
  let c0_632 : Index := 0#32
  ![3, v957.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownDx.lean ====
abbrev S5632x2048 : Shape := ⟨2, ![5632, 2048]⟩
abbrev S4096x2048 : Shape := ⟨2, ![4096, 2048]⟩
abbrev S8x704x2048 : Shape := ⟨3, ![8, 704, 2048]⟩
abbrev S8x4096x704 : Shape := ⟨3, ![8, 4096, 704]⟩
abbrev S2048x2048 : Shape := ⟨2, ![2048, 2048]⟩
abbrev S1x704x2048 : Shape := ⟨3, ![1, 704, 2048]⟩
abbrev S1x2048x704 : Shape := ⟨3, ![1, 2048, 704]⟩
abbrev S8x128 : Shape := ⟨2, ![8, 128]⟩
abbrev S704x2048 : Shape := ⟨2, ![704, 2048]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S5632x2048, .bf16⟩
  | .hbm, ⟨3, _⟩ => ⟨S8x704x2048, .bf16⟩
  | .hbm, ⟨4, _⟩ => ⟨S4096x2048, .bf16⟩
  | .hbm, ⟨5, _⟩ => ⟨S8x4096x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x2048x704, .bf16⟩
  | .local _ .vmem, ⟨5, _⟩ => ⟨S1x2048x704, .bf16⟩
  | .local _ .vmem, ⟨6, _⟩ => ⟨S8x128, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S4096x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | .hbm, ⟨6, _⟩ => ⟨S4096x8x704, .f32⟩
  | .hbm, ⟨7, _⟩ => ⟨S8x4096x704, .f32⟩
  | .hbm, ⟨8, _⟩ => ⟨S8x4096x704, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x4096 : Shape := ⟨3, ![8, 704, 4096]⟩
abbrev S8x704x2048 : Shape := ⟨3, ![8, 704, 2048]⟩
abbrev S1x704x2048 : Shape := ⟨3, ![1, 704, 2048]⟩
abbrev S2048x2048 : Shape := ⟨2, ![2048, 2048]⟩
abbrev S704x2048 : Shape := ⟨2, ![704, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S8x704x4096, .bf16⟩
  | .hbm, ⟨6, _⟩ => ⟨S4096x2048, .bf16⟩
  | .hbm, ⟨7, _⟩ => ⟨S8x704x2048, .f32⟩
  | .local _ .vmem, ⟨0, _⟩ => ⟨S1x704x2048, .bf16⟩
  | .local _ .vmem, ⟨1, _⟩ => ⟨S1x704x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .f32⟩
  | .local _ .vmem, ⟨5, _⟩ => ⟨S1x704x2048, .f32⟩
  | .local _ .vmem, ⟨6, _⟩ => ⟨S704x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S8x704x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpGateDx.lean ====
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S2048x8x704 : Shape := ⟨3, ![2048, 8, 704]⟩
abbrev S8x2048x704 : Shape := ⟨3, ![8, 2048, 704]⟩
abbrev S4096x2048 : Shape := ⟨2, ![4096, 2048]⟩
abbrev S1x1024x704 : Shape := ⟨3, ![1, 1024, 704]⟩
abbrev S1x2048x704 : Shape := ⟨3, ![1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 17
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S4096x5632, .f32⟩
  | .hbm, ⟨3, _⟩ => ⟨S4096x5632, .f32⟩
  | .hbm, ⟨4, _⟩ => ⟨S4096x5632, .bf16⟩
  | .hbm, ⟨5, _⟩ => ⟨S4096x8x704, .bf16⟩
  | .hbm, ⟨6, _⟩ => ⟨S8x4096x704, .bf16⟩
  | .hbm, ⟨7, _⟩ => ⟨S2048x5632, .bf16⟩
  | .hbm, ⟨8, _⟩ => ⟨S2048x8x704, .bf16⟩
  | .hbm, ⟨9, _⟩ => ⟨S8x2048x704, .bf16⟩
  | .hbm, ⟨10, _⟩ => ⟨S4096x5632, .bf16⟩
  | .hbm, ⟨11, _⟩ => ⟨S4096x8x704, .bf16⟩
  | .hbm, ⟨12, _⟩ => ⟨S8x4096x704, .bf16⟩
  | .hbm, ⟨13, _⟩ => ⟨S2048x5632, .bf16⟩
  | .hbm, ⟨14, _⟩ => ⟨S2048x8x704, .bf16⟩
  | .hbm, ⟨15, _⟩ => ⟨S8x2048x704, .bf16⟩
  | .hbm, ⟨16, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpGateDxRefIdeal.lean ====
abbrev S2048x5632 : Shape := ⟨2, ![2048, 5632]⟩
abbrev S4096x5632 : Shape := ⟨2, ![4096, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S4096x5632, .f32⟩
  | .hbm, ⟨3, _⟩ => ⟨S4096x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GateDw.lean ====
abbrev S4096x2048 : Shape := ⟨2, ![4096, 2048]⟩
abbrev S4096x5632 : Shape := ⟨2, ![4096, 5632]⟩
abbrev S2048x4096 : Shape := ⟨2, ![2048, 4096]⟩
abbrev S4096x8x704 : Shape := ⟨3, ![4096, 8, 704]⟩
abbrev S8x4096x704 : Shape := ⟨3, ![8, 4096, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S2048x4096, .bf16⟩
  | .hbm, ⟨4, _⟩ => ⟨S4096x5632, .bf16⟩
  | .hbm, ⟨5, _⟩ => ⟨S4096x8x704, .bf16⟩
  | .hbm, ⟨6, _⟩ => ⟨S8x4096x704, .bf16⟩
  | .hbm, ⟨7, _⟩ => ⟨S8x2048x704, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .f32⟩
  | .local _ .vmem, ⟨5, _⟩ => ⟨S1x2048x704, .f32⟩
  | .local _ .vmem, ⟨6, _⟩ => ⟨S2048x704, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateDwRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S8x2048x704, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S4096x2048 : Shape := ⟨2, ![4096, 2048]⟩
abbrev S4096x5632 : Shape := ⟨2, ![4096, 5632]⟩
abbrev S2048x4096 : Shape := ⟨2, ![2048, 4096]⟩
abbrev S4096x8x704 : Shape := ⟨3, ![4096, 8, 704]⟩
abbrev S8x4096x704 : Shape := ⟨3, ![8, 4096, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S2048x4096, .bf16⟩
  | .hbm, ⟨4, _⟩ => ⟨S4096x5632, .bf16⟩
  | .hbm, ⟨5, _⟩ => ⟨S4096x8x704, .bf16⟩
  | .hbm, ⟨6, _⟩ => ⟨S8x4096x704, .bf16⟩
  | .hbm, ⟨7, _⟩ => ⟨S8x2048x704, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .f32⟩
  | .local _ .vmem, ⟨5, _⟩ => ⟨S1x2048x704, .f32⟩
  | .local _ .vmem, ⟨6, _⟩ => ⟨S2048x704, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDwRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S8x2048x704, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S2048x2048 : Shape := ⟨2, ![2048, 2048]⟩
abbrev S4096x2048 : Shape := ⟨2, ![4096, 2048]⟩
abbrev S512x2048 : Shape := ⟨2, ![512, 2048]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S2048x2048, .bf16⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x2048 : Shape := ⟨2, ![4096, 2048]⟩
abbrev S2048x4096 : Shape := ⟨2, ![2048, 4096]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S2048x4096, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluDx.lean ====
abbrev S1024x1024 : Shape := ⟨2, ![1024, 1024]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 6
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GluDw.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x4096, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== GluDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x4096 : Shape := ⟨2, ![4096, 4096]⟩
abbrev S2048x2048 : Shape := ⟨2, ![2048, 2048]⟩
abbrev S1x2048x512 : Shape := ⟨3, ![1, 2048, 512]⟩
abbrev S2048x512 : Shape := ⟨2, ![2048, 512]⟩
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x2048, .bf16⟩
  | .hbm, ⟨3, _⟩ => ⟨S2048x4096, .bf16⟩
  | .hbm, ⟨4, _⟩ => ⟨S2048x8x512, .bf16⟩
  | .hbm, ⟨5, _⟩ => ⟨S8x2048x512, .bf16⟩
  | .hbm, ⟨6, _⟩ => ⟨S4096x4096, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluProj.lean ====
abbrev S4096x1024 : Shape := ⟨2, ![4096, 1024]⟩
abbrev S1024x1024 : Shape := ⟨2, ![1024, 1024]⟩
abbrev S512x1024 : Shape := ⟨2, ![512, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluProjRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateUp.lean ====
abbrev S4096x2048 : Shape := ⟨2, ![4096, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x4096x704 : Shape := ⟨3, ![8, 4096, 704]⟩
abbrev S8x704x4096 : Shape := ⟨3, ![8, 704, 4096]⟩
abbrev S1024x2048 : Shape := ⟨2, ![1024, 2048]⟩
abbrev S1x2048x704 : Shape := ⟨3, ![1, 2048, 704]⟩
abbrev S1x1024x704 : Shape := ⟨3, ![1, 1024, 704]⟩
abbrev S1x704x1024 : Shape := ⟨3, ![1, 704, 1024]⟩
abbrev S8x128 : Shape := ⟨2, ![8, 128]⟩
abbrev S2048x704 : Shape := ⟨2, ![2048, 704]⟩
abbrev S1024x704 : Shape := ⟨2, ![1024, 704]⟩
abbrev S704x1024 : Shape := ⟨2, ![704, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S2048x5632, .bf16⟩
  | .hbm, ⟨5, _⟩ => ⟨S2048x8x704, .bf16⟩
  | .hbm, ⟨6, _⟩ => ⟨S8x2048x704, .bf16⟩
  | .hbm, ⟨7, _⟩ => ⟨S2048x5632, .bf16⟩
  | .hbm, ⟨8, _⟩ => ⟨S2048x8x704, .bf16⟩
  | .hbm, ⟨9, _⟩ => ⟨S8x2048x704, .bf16⟩
  | .hbm, ⟨10, _⟩ => ⟨S8x4096x704, .bf16⟩
  | .hbm, ⟨11, _⟩ => ⟨S8x4096x704, .bf16⟩
  | .hbm, ⟨12, _⟩ => ⟨S8x704x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩
abbrev S8x704x4096 : Shape := ⟨3, ![8, 704, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x8x704, .f32⟩
  | .hbm, ⟨16, _⟩ => ⟨S8x4096x704, .f32⟩
  | .hbm, ⟨17, _⟩ => ⟨S8x4096x704, .bf16⟩
  | .hbm, ⟨18, _⟩ => ⟨S4096x8x704, .f32⟩
  | .hbm, ⟨19, _⟩ => ⟨S8x4096x704, .f32⟩
  | .hbm, ⟨20, _⟩ => ⟨S8x4096x704, .bf16⟩
  | .hbm, ⟨21, _⟩ => ⟨S4096x8x704, .f32⟩
  | .hbm, ⟨22, _⟩ => ⟨S8x4096x704, .f32⟩
  | .hbm, ⟨23, _⟩ => ⟨S8x704x4096, .f32⟩
  | .hbm, ⟨24, _⟩ => ⟨S8x704x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x8x704 : Shape := ⟨3, ![4096, 8, 704]⟩
abbrev S8x4096x704 : Shape := ⟨3, ![8, 4096, 704]⟩
abbrev S8x704x4096 : Shape := ⟨3, ![8, 704, 4096]⟩
abbrev S8x704x2048 : Shape := ⟨3, ![8, 704, 2048]⟩
abbrev S4096x2048 : Shape := ⟨2, ![4096, 2048]⟩
abbrev S2x704x1024 : Shape := ⟨3, ![2, 704, 1024]⟩
abbrev S2x704x2048 : Shape := ⟨3, ![2, 704, 2048]⟩
abbrev S1024x2048 : Shape := ⟨2, ![1024, 2048]⟩
abbrev S1x704x1024 : Shape := ⟨3, ![1, 704, 1024]⟩
abbrev S704x1024 : Shape := ⟨2, ![704, 1024]⟩
abbrev S1x704x2048 : Shape := ⟨3, ![1, 704, 2048]⟩
abbrev S704x2048 : Shape := ⟨2, ![704, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S8x704x4096, .bf16⟩
  | .hbm, ⟨6, _⟩ => ⟨S5632x2048, .bf16⟩
  | .hbm, ⟨7, _⟩ => ⟨S8x704x2048, .bf16⟩
  | .hbm, ⟨8, _⟩ => ⟨S4096x2048, .f32⟩
  | .local _ .vmem, ⟨0, _⟩ => ⟨S2x704x1024, .bf16⟩
  | .local _ .vmem, ⟨1, _⟩ => ⟨S2x704x1024, .bf16⟩
  | .local _ .vmem, ⟨2, _⟩ => ⟨S2x704x2048, .bf16⟩
  | .local _ .vmem, ⟨3, _⟩ => ⟨S2x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDw.lean ====
abbrev S4096x2048 : Shape := ⟨2, ![4096, 2048]⟩
abbrev S4096x4096 : Shape := ⟨2, ![4096, 4096]⟩
abbrev S2048x4096 : Shape := ⟨2, ![2048, 4096]⟩
abbrev S8x2048x512 : Shape := ⟨3, ![8, 2048, 512]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S2048x4096, .bf16⟩
  | .hbm, ⟨4, _⟩ => ⟨S4096x4096, .bf16⟩
  | .hbm, ⟨5, _⟩ => ⟨S8x2048x512, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x2048x512, .f32⟩
  | .local _ .vmem, ⟨5, _⟩ => ⟨S1x2048x512, .f32⟩
  | .local _ .vmem, ⟨6, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S2048x4096 : Shape := ⟨2, ![2048, 4096]⟩
abbrev S4096x4096 : Shape := ⟨2, ![4096, 4096]⟩
abbrev S2048x8x512 : Shape := ⟨3, ![2048, 8, 512]⟩
abbrev S8x2048x512 : Shape := ⟨3, ![8, 2048, 512]⟩
abbrev S4096x2048 : Shape := ⟨2, ![4096, 2048]⟩
abbrev S1024x1024 : Shape := ⟨2, ![1024, 1024]⟩
abbrev S2x2048x512 : Shape := ⟨3, ![2, 2048, 512]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .bf16⟩
  | .hbm, ⟨3, _⟩ => ⟨S2048x4096, .bf16⟩
  | .hbm, ⟨4, _⟩ => ⟨S2048x8x512, .bf16⟩
  | .hbm, ⟨5, _⟩ => ⟨S8x2048x512, .bf16⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2x2048x512, .bf16⟩
  | .local _ .vmem, ⟨3, _⟩ => ⟨S2x2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDxRefIdeal.lean ====
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S512x2048 : Shape := ⟨2, ![512, 2048]⟩
abbrev S8x128 : Shape := ⟨2, ![8, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Rms.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v41 : BitVec 32 := Scalar.extui v38
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v43 : BitVec 1 := Scalar.xori v38 v_true
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== MixOut.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v97 : BitVec 32 := Scalar.extui v94
  let c0_i32_39 : BitVec 32 := 0#32
  let v98 : BitVec 1 := Scalar.cmpi .ne v97 c0_i32_39
  v98

def k0_cond2 (i : grid0.Coords) : BitVec 1 :=
  let arg0 : BitVec 32 := BitVec.ofNat 32 (i 0).val
  let c0_i32 : BitVec 32 := 0#32
  let v94 : BitVec 1 := Scalar.cmpi .eq arg0 c0_i32
  let v_true : BitVec 1 := 1#1
  let v99 : BitVec 1 := Scalar.xori v94 v_true
  let v100 : BitVec 32 := Scalar.extui v99
  let c0_i32_40 : BitVec 32 := 0#32
  let v101 : BitVec 1 := Scalar.cmpi .ne v100 c0_i32_40
  v101

def k0_cond3 (i : grid0.Coords) : BitVec 1 :=
  let arg0 : BitVec 32 := BitVec.ofNat 32 (i 0).val
  let c0_i32 : BitVec 32 := 0#32
  let v94 : BitVec 1 := Scalar.cmpi .eq arg0 c0_i32
  let v104 : BitVec 32 := Scalar.extui v94
  let c0_i32_42 : BitVec 32 := 0#32
  let v105 : BitVec 1 := Scalar.cmpi .ne v104 c0_i32_42
  v105

def k0_cond4 (i : grid0.Coords) : BitVec 1 :=
  let arg0 : BitVec 32 := BitVec.ofNat 32 (i 0).val
  let c0_i32 : BitVec 32 := 0#32
  let v94 : BitVec 1 := Scalar.cmpi .eq arg0 c0_i32
  let true_43 : BitVec 1 := 1#1
  let v106 : BitVec 1 := Scalar.xori v94 true_43
  let v107 : BitVec 32 := Scalar.extui v106
  let c0_i32_44 : BitVec 32 := 0#32
  let v108 : BitVec 1 := Scalar.cmpi .ne v107 c0_i32_44
  v108

def k0_cond5 (i : grid0.Coords) : BitVec 1 :=
  let arg0 : BitVec 32 := BitVec.ofNat 32 (i 0).val
  let c0_i32 : BitVec 32 := 0#32
  let v94 : BitVec 1 := Scalar.cmpi .eq arg0 c0_i32
  let v111 : BitVec 32 := Scalar.extui v94
  let c0_i32_46 : BitVec 32 := 0#32
  let v112 : BitVec 1 := Scalar.cmpi .ne v111 c0_i32_46
  v112

def k0_cond6 (i : grid0.Coords) : BitVec 1 :=
  let arg0 : BitVec 32 := BitVec.ofNat 32 (i 0).val
  let c0_i32 : BitVec 32 := 0#32
  let v94 : BitVec 1 := Scalar.cmpi .eq arg0 c0_i32
  let true_47 : BitVec 1 := 1#1
  let v113 : BitVec 1 := Scalar.xori v94 true_47
  let v114 : BitVec 32 := Scalar.extui v113
  let c0_i32_48 : BitVec 32 := 0#32
  let v115 : BitVec 1 := Scalar.cmpi .ne v114 c0_i32_48
  v115

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixOutRefIdeal.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x2048, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1024, .f32⟩
  | .hbm, ⟨107, _⟩ => ⟨S4096x1, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S4096, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v16 : BitVec 32 := Scalar.extui v13
  let c0_i32_11 : BitVec 32 := 0#32
  let v17 : BitVec 1 := Scalar.cmpi .ne v16 c0_i32_11
  v17

def k0_cond2 (i : grid0.Coords) : BitVec 1 :=
  let arg0 : BitVec 32 := BitVec.ofNat 32 (i 0).val
  let c0_i32 : BitVec 32 := 0#32
  let v13 : BitVec 1 := Scalar.cmpi .eq arg0 c0_i32
  let v_true : BitVec 1 := 1#1
  let v18 : BitVec 1 := Scalar.xori v13 v_true
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x2048, .f32⟩
  | .hbm, ⟨26, _⟩ => ⟨S4096x2048, .f32⟩
  | .hbm, ⟨27, _⟩ => ⟨S4096x2048, .bf16⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== AdamModel.lean ====
abbrev S1x2048 : Shape := ⟨2, ![1, 2048]⟩
abbrev S8x1x2048 : Shape := ⟨3, ![8, 1, 2048]⟩
abbrev S1 : Shape := ⟨1, ![1]⟩
abbrev S1x1x2048 : Shape := ⟨3, ![1, 1, 2048]⟩

abbrev nBuf : Space → Nat
  | .hbm => 8
  | .vmem => 8
  | .smem => 1
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S8x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S8x1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .smem, ⟨0, _⟩ => ⟨S1, .i32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamModelIdeal.lean ====
abbrev S1x2048 : Shape := ⟨2, ![1, 2048]⟩
abbrev S8x1x2048 : Shape := ⟨3, ![8, 1, 2048]⟩
abbrev S1 : Shape := ⟨1, ![1]⟩
abbrev S1x1x2048 : Shape := ⟨3, ![1, 1, 2048]⟩

abbrev nBuf : Space → Nat
  | .hbm => 8
  | .vmem => 8
  | .smem => 1
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S8x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S8x1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .smem, ⟨0, _⟩ => ⟨S1, .i32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamModelRefIdeal.lean ====
abbrev S1x2048 : Shape := ⟨2, ![1, 2048]⟩
abbrev S8x1x2048 : Shape := ⟨3, ![8, 1, 2048]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S8x1x2048, .f32⟩
  | .hbm, ⟨4, _⟩ => ⟨S1, .i32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamHead.lean ====
abbrev S1x64 : Shape := ⟨2, ![1, 64]⟩
abbrev S8x1x64 : Shape := ⟨3, ![8, 1, 64]⟩
abbrev S1 : Shape := ⟨1, ![1]⟩
abbrev S1x1x64 : Shape := ⟨3, ![1, 1, 64]⟩

abbrev nBuf : Space → Nat
  | .hbm => 8
  | .vmem => 8
  | .smem => 1
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S8x1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S8x1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .smem, ⟨0, _⟩ => ⟨S1, .i32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadIdeal.lean ====
abbrev S1x64 : Shape := ⟨2, ![1, 64]⟩
abbrev S8x1x64 : Shape := ⟨3, ![8, 1, 64]⟩
abbrev S1 : Shape := ⟨1, ![1]⟩
abbrev S1x1x64 : Shape := ⟨3, ![1, 1, 64]⟩

abbrev nBuf : Space → Nat
  | .hbm => 8
  | .vmem => 8
  | .smem => 1
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S8x1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S8x1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .smem, ⟨0, _⟩ => ⟨S1, .i32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadRefIdeal.lean ====
abbrev S1x64 : Shape := ⟨2, ![1, 64]⟩
abbrev S8x1x64 : Shape := ⟨3, ![8, 1, 64]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S8x1x64, .f32⟩
  | .hbm, ⟨4, _⟩ => ⟨S1, .i32⟩
  | .hbm, ⟨5, _⟩ => ⟨S_, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S_, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S_, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamWidth.lean ====
abbrev S1x1024 : Shape := ⟨2, ![1, 1024]⟩
abbrev S8x1x1024 : Shape := ⟨3, ![8, 1, 1024]⟩
abbrev S1 : Shape := ⟨1, ![1]⟩
abbrev S1x1x1024 : Shape := ⟨3, ![1, 1, 1024]⟩

abbrev nBuf : Space → Nat
  | .hbm => 8
  | .vmem => 8
  | .smem => 1
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .smem, ⟨0, _⟩ => ⟨S1, .i32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWidthIdeal.lean ====
abbrev S1x1024 : Shape := ⟨2, ![1, 1024]⟩
abbrev S8x1x1024 : Shape := ⟨3, ![8, 1, 1024]⟩
abbrev S1 : Shape := ⟨1, ![1]⟩
abbrev S1x1x1024 : Shape := ⟨3, ![1, 1, 1024]⟩

abbrev nBuf : Space → Nat
  | .hbm => 8
  | .vmem => 8
  | .smem => 1
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .smem, ⟨0, _⟩ => ⟨S1, .i32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWidthRefIdeal.lean ====
abbrev S1x1024 : Shape := ⟨2, ![1, 1024]⟩
abbrev S8x1x1024 : Shape := ⟨3, ![8, 1, 1024]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1, .i32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamBias.lean ====
abbrev S240x31 : Shape := ⟨2, ![240, 31]⟩
abbrev S8x240x31 : Shape := ⟨3, ![8, 240, 31]⟩
abbrev S1 : Shape := ⟨1, ![1]⟩
abbrev S1x240x31 : Shape := ⟨3, ![1, 240, 31]⟩

abbrev nBuf : Space → Nat
  | .hbm => 8
  | .vmem => 8
  | .smem => 1
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S8x240x31, .f32⟩
  | .hbm, ⟨4, _⟩ => ⟨S240x31, .f32⟩
  | .hbm, ⟨5, _⟩ => ⟨S240x31, .f32⟩
  | .hbm, ⟨6, _⟩ => ⟨S240x31, .f32⟩
  | .hbm, ⟨7, _⟩ => ⟨S240x31, .f32⟩
  | .local _ .vmem, ⟨0, _⟩ => ⟨S240x31, .f32⟩
  | .local _ .vmem, ⟨1, _⟩ => ⟨S240x31, .f32⟩
  | .local _ .vmem, ⟨2, _⟩ => ⟨S240x31, .f32⟩
  | .local _ .vmem, ⟨3, _⟩ => ⟨S8x240x31, .f32⟩
  | .local _ .vmem, ⟨4, _⟩ => ⟨S240x31, .f32⟩
  | .local _ .vmem, ⟨5, _⟩ => ⟨S240x31, .f32⟩
  | .local _ .vmem, ⟨6, _⟩ => ⟨S240x31, .f32⟩
  | .local _ .vmem, ⟨7, _⟩ => ⟨S240x31, .f32⟩
  | .local _ .smem, ⟨0, _⟩ => ⟨S1, .i32⟩
  | _, _ => ⟨S240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S240x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S240x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x240x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S240x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S240x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S240x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S240x31 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasIdeal.lean ====
abbrev S240x31 : Shape := ⟨2, ![240, 31]⟩
abbrev S8x240x31 : Shape := ⟨3, ![8, 240, 31]⟩
abbrev S1 : Shape := ⟨1, ![1]⟩
abbrev S1x240x31 : Shape := ⟨3, ![1, 240, 31]⟩

abbrev nBuf : Space → Nat
  | .hbm => 8
  | .vmem => 8
  | .smem => 1
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S8x240x31, .f32⟩
  | .hbm, ⟨4, _⟩ => ⟨S240x31, .f32⟩
  | .hbm, ⟨5, _⟩ => ⟨S240x31, .f32⟩
  | .hbm, ⟨6, _⟩ => ⟨S240x31, .f32⟩
  | .hbm, ⟨7, _⟩ => ⟨S240x31, .f32⟩
  | .local _ .vmem, ⟨0, _⟩ => ⟨S240x31, .f32⟩
  | .local _ .vmem, ⟨1, _⟩ => ⟨S240x31, .f32⟩
  | .local _ .vmem, ⟨2, _⟩ => ⟨S240x31, .f32⟩
  | .local _ .vmem, ⟨3, _⟩ => ⟨S8x240x31, .f32⟩
  | .local _ .vmem, ⟨4, _⟩ => ⟨S240x31, .f32⟩
  | .local _ .vmem, ⟨5, _⟩ => ⟨S240x31, .f32⟩
  | .local _ .vmem, ⟨6, _⟩ => ⟨S240x31, .f32⟩
  | .local _ .vmem, ⟨7, _⟩ => ⟨S240x31, .f32⟩
  | .local _ .smem, ⟨0, _⟩ => ⟨S1, .i32⟩
  | _, _ => ⟨S240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S240x31 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S240x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x240x31 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S240x31 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S240x31 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S240x31 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S240x31 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasRefIdeal.lean ====
abbrev S240x31 : Shape := ⟨2, ![240, 31]⟩
abbrev S8x240x31 : Shape := ⟨3, ![8, 240, 31]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S8x240x31, .f32⟩
  | .hbm, ⟨4, _⟩ => ⟨S1, .i32⟩
  | .hbm, ⟨5, _⟩ => ⟨S_, .f32⟩
  | .hbm, ⟨6, _⟩ => ⟨S240x31, .f32⟩
  | .hbm, ⟨7, _⟩ => ⟨S_, .f32⟩
  | .hbm, ⟨8, _⟩ => ⟨S240x31, .f32⟩
  | .hbm, ⟨9, _⟩ => ⟨S240x31, .f32⟩
  | .hbm, ⟨10, _⟩ => ⟨S_, .f32⟩
  | .hbm, ⟨11, _⟩ => ⟨S240x31, .f32⟩
  | .hbm, ⟨12, _⟩ => ⟨S240x31, .f32⟩
  | .hbm, ⟨13, _⟩ => ⟨S240x31, .f32⟩
  | .hbm, ⟨14, _⟩ => ⟨S_, .f32⟩
  | .hbm, ⟨15, _⟩ => ⟨S240x31, .f32⟩
  | .hbm, ⟨16, _⟩ => ⟨S240x31, .f32⟩
  | .hbm, ⟨17, _⟩ => ⟨S240x31, .f32⟩
  | .hbm, ⟨18, _⟩ => ⟨S_, .f32⟩
  | .hbm, ⟨19, _⟩ => ⟨S240x31, .f32⟩
  | .hbm, ⟨20, _⟩ => ⟨S240x31, .f32⟩
  | .hbm, ⟨21, _⟩ => ⟨S240x31, .f32⟩
  | .hbm, ⟨22, _⟩ => ⟨S_, .f32⟩
  | .hbm, ⟨23, _⟩ => ⟨S240x31, .f32⟩
  | .hbm, ⟨24, _⟩ => ⟨S240x31, .f32⟩
  | .hbm, ⟨25, _⟩ => ⟨S_, .f32⟩
  | .hbm, ⟨26, _⟩ => ⟨S240x31, .f32⟩
  | .hbm, ⟨27, _⟩ => ⟨S240x31, .f32⟩
  | .hbm, ⟨28, _⟩ => ⟨S240x31, .f32⟩
  | .hbm, ⟨29, _⟩ => ⟨S_, .f32⟩
  | .hbm, ⟨30, _⟩ => ⟨S240x31, .f32⟩
  | .hbm, ⟨31, _⟩ => ⟨S240x31, .f32⟩
  | .hbm, ⟨32, _⟩ => ⟨S240x31, .f32⟩
  | .hbm, ⟨33, _⟩ => ⟨S_, .f32⟩
  | .hbm, ⟨34, _⟩ => ⟨S240x31, .f32⟩
  | .hbm, ⟨35, _⟩ => ⟨S240x31, .f32⟩
  | .hbm, ⟨36, _⟩ => ⟨S240x31, .f32⟩
  | .hbm, ⟨37, _⟩ => ⟨S_, .f32⟩
  | .hbm, ⟨38, _⟩ => ⟨S240x31, .f32⟩
  | .hbm, ⟨39, _⟩ => ⟨S240x31, .f32⟩
  | _, _ => ⟨S240x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamState.lean ====
abbrev S128x64 : Shape := ⟨2, ![128, 64]⟩
abbrev S8x128x64 : Shape := ⟨3, ![8, 128, 64]⟩
abbrev S1 : Shape := ⟨1, ![1]⟩
abbrev S1x128x64 : Shape := ⟨3, ![1, 128, 64]⟩

abbrev nBuf : Space → Nat
  | .hbm => 8
  | .vmem => 8
  | .smem => 1
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S8x128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S8x128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .smem, ⟨0, _⟩ => ⟨S1, .i32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamStateIdeal.lean ====
abbrev S128x64 : Shape := ⟨2, ![128, 64]⟩
abbrev S8x128x64 : Shape := ⟨3, ![8, 128, 64]⟩
abbrev S1 : Shape := ⟨1, ![1]⟩
abbrev S1x128x64 : Shape := ⟨3, ![1, 128, 64]⟩

abbrev nBuf : Space → Nat
  | .hbm => 8
  | .vmem => 8
  | .smem => 1
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S8x128x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S8x128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .smem, ⟨0, _⟩ => ⟨S1, .i32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamStateRefIdeal.lean ====
abbrev S128x64 : Shape := ⟨2, ![128, 64]⟩
abbrev S8x128x64 : Shape := ⟨3, ![8, 128, 64]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S8x128x64, .f32⟩
  | .hbm, ⟨4, _⟩ => ⟨S1, .i32⟩
  | .hbm, ⟨5, _⟩ => ⟨S_, .f32⟩
  | .hbm, ⟨6, _⟩ => ⟨S128x64, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S_, .f32⟩
  | .hbm, ⟨11, _⟩ => ⟨S128x64, .f32⟩
  | .hbm, ⟨12, _⟩ => ⟨S128x64, .f32⟩
  | .hbm, ⟨13, _⟩ => ⟨S128x64, .f32⟩
  | .hbm, ⟨14, _⟩ => ⟨S_, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S_, .f32⟩
  | .hbm, ⟨19, _⟩ => ⟨S128x64, .f32⟩
  | .hbm, ⟨20, _⟩ => ⟨S128x64, .f32⟩
  | .hbm, ⟨21, _⟩ => ⟨S128x64, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S_, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S_, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S_, .f32⟩
  | .hbm, ⟨34, _⟩ => ⟨S128x64, .f32⟩
  | .hbm, ⟨35, _⟩ => ⟨S128x64, .f32⟩
  | .hbm, ⟨36, _⟩ => ⟨S128x64, .f32⟩
  | .hbm, ⟨37, _⟩ => ⟨S_, .f32⟩
  | .hbm, ⟨38, _⟩ => ⟨S128x64, .f32⟩
  | .hbm, ⟨39, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamMatrix.lean ====
abbrev S1024x128 : Shape := ⟨2, ![1024, 128]⟩
abbrev S8x1024x128 : Shape := ⟨3, ![8, 1024, 128]⟩
abbrev S1 : Shape := ⟨1, ![1]⟩
abbrev S1x1024x128 : Shape := ⟨3, ![1, 1024, 128]⟩

abbrev nBuf : Space → Nat
  | .hbm => 8
  | .vmem => 8
  | .smem => 1
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S8x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .smem, ⟨0, _⟩ => ⟨S1, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMatrixIdeal.lean ====
abbrev S1024x128 : Shape := ⟨2, ![1024, 128]⟩
abbrev S8x1024x128 : Shape := ⟨3, ![8, 1024, 128]⟩
abbrev S1 : Shape := ⟨1, ![1]⟩
abbrev S1x1024x128 : Shape := ⟨3, ![1, 1024, 128]⟩

abbrev nBuf : Space → Nat
  | .hbm => 8
  | .vmem => 8
  | .smem => 1
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S8x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .smem, ⟨0, _⟩ => ⟨S1, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMatrixRefIdeal.lean ====
abbrev S1024x128 : Shape := ⟨2, ![1024, 128]⟩
abbrev S8x1024x128 : Shape := ⟨3, ![8, 1024, 128]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .f32⟩
  | .hbm, ⟨4, _⟩ => ⟨S1, .i32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamStep.lean ====
abbrev S2x64 : Shape := ⟨2, ![2, 64]⟩
abbrev S8x2x64 : Shape := ⟨3, ![8, 2, 64]⟩
abbrev S1 : Shape := ⟨1, ![1]⟩
abbrev S1x2x64 : Shape := ⟨3, ![1, 2, 64]⟩

abbrev nBuf : Space → Nat
  | .hbm => 8
  | .vmem => 8
  | .smem => 1
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S8x2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S8x2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | .local _ .smem, ⟨0, _⟩ => ⟨S1, .i32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamStepRefIdeal.lean ====
abbrev S2x64 : Shape := ⟨2, ![2, 64]⟩
abbrev S8x2x64 : Shape := ⟨3, ![8, 2, 64]⟩
abbrev S1 : Shape := ⟨1, ![1]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S8x2x64, .f32⟩
  | .hbm, ⟨4, _⟩ => ⟨S1, .i32⟩
  | .hbm, ⟨5, _⟩ => ⟨S_, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S_, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S_, .f32⟩
  | .hbm, ⟨15, _⟩ => ⟨S2x64, .f32⟩
  | .hbm, ⟨16, _⟩ => ⟨S2x64, .f32⟩
  | .hbm, ⟨17, _⟩ => ⟨S2x64, .f32⟩
  | .hbm, ⟨18, _⟩ => ⟨S_, .f32⟩
  | .hbm, ⟨19, _⟩ => ⟨S2x64, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S_, .f32⟩
  | .hbm, ⟨26, _⟩ => ⟨S2x64, .f32⟩
  | .hbm, ⟨27, _⟩ => ⟨S2x64, .f32⟩
  | .hbm, ⟨28, _⟩ => ⟨S2x64, .f32⟩
  | .hbm, ⟨29, _⟩ => ⟨S_, .f32⟩
  | .hbm, ⟨30, _⟩ => ⟨S2x64, .f32⟩
  | .hbm, ⟨31, _⟩ => ⟨S2x64, .f32⟩
  | .hbm, ⟨32, _⟩ => ⟨S2x64, .f32⟩
  | .hbm, ⟨33, _⟩ => ⟨S_, .f32⟩
  | .hbm, ⟨34, _⟩ => ⟨S2x64, .f32⟩
  | .hbm, ⟨35, _⟩ => ⟨S2x64, .f32⟩
  | .hbm, ⟨36, _⟩ => ⟨S2x64, .f32⟩
  | .hbm, ⟨37, _⟩ => ⟨S_, .f32⟩
  | .hbm, ⟨38, _⟩ => ⟨S2x64, .f32⟩
  | .hbm, ⟨39, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== AdamIn.lean ====
abbrev S2048x512 : Shape := ⟨2, ![2048, 512]⟩
abbrev S8x2048x512 : Shape := ⟨3, ![8, 2048, 512]⟩
abbrev S4x2048x512 : Shape := ⟨3, ![4, 2048, 512]⟩
abbrev S3x2048x512 : Shape := ⟨3, ![3, 2048, 512]⟩
abbrev S1 : Shape := ⟨1, ![1]⟩
abbrev S256x512 : Shape := ⟨2, ![256, 512]⟩
abbrev S1x256x512 : Shape := ⟨3, ![1, 256, 512]⟩
abbrev S3x256x512 : Shape := ⟨3, ![3, 256, 512]⟩

abbrev nBuf : Space → Nat
  | .hbm => 10
  | .vmem => 20
  | .smem => 1
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .f32⟩
  | .hbm, ⟨4, _⟩ => ⟨S4x2048x512, .f32⟩
  | .hbm, ⟨5, _⟩ => ⟨S3x2048x512, .bf16⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S3x256x512, .bf16⟩
  | .local _ .vmem, ⟨11, _⟩ => ⟨S3x256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .smem, ⟨0, _⟩ => ⟨S1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamInIdeal.lean ====
abbrev S2048x512 : Shape := ⟨2, ![2048, 512]⟩
abbrev S8x2048x512 : Shape := ⟨3, ![8, 2048, 512]⟩
abbrev S4x2048x512 : Shape := ⟨3, ![4, 2048, 512]⟩
abbrev S3x2048x512 : Shape := ⟨3, ![3, 2048, 512]⟩
abbrev S1 : Shape := ⟨1, ![1]⟩
abbrev S256x512 : Shape := ⟨2, ![256, 512]⟩
abbrev S1x256x512 : Shape := ⟨3, ![1, 256, 512]⟩
abbrev S3x256x512 : Shape := ⟨3, ![3, 256, 512]⟩

abbrev nBuf : Space → Nat
  | .hbm => 10
  | .vmem => 20
  | .smem => 1
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .f32⟩
  | .hbm, ⟨4, _⟩ => ⟨S4x2048x512, .f32⟩
  | .hbm, ⟨5, _⟩ => ⟨S3x2048x512, .bf16⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S3x256x512, .bf16⟩
  | .local _ .vmem, ⟨11, _⟩ => ⟨S3x256x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .smem, ⟨0, _⟩ => ⟨S1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamInRefIdeal.lean ====
abbrev S2048x512 : Shape := ⟨2, ![2048, 512]⟩
abbrev S8x2048x512 : Shape := ⟨3, ![8, 2048, 512]⟩
abbrev S4x2048x512 : Shape := ⟨3, ![4, 2048, 512]⟩
abbrev S3x2048x512 : Shape := ⟨3, ![3, 2048, 512]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x2048x512 : Shape := ⟨3, ![1, 2048, 512]⟩

abbrev nBuf : Space → Nat
  | .hbm => 59
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .f32⟩
  | .hbm, ⟨4, _⟩ => ⟨S4x2048x512, .f32⟩
  | .hbm, ⟨5, _⟩ => ⟨S3x2048x512, .bf16⟩
  | .hbm, ⟨6, _⟩ => ⟨S1, .i32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x2048x512, .i1⟩
  | .hbm, ⟨15, _⟩ => ⟨S8x2048x512, .f32⟩
  | .hbm, ⟨16, _⟩ => ⟨S8x2048x512, .f32⟩
  | .hbm, ⟨17, _⟩ => ⟨S_, .f32⟩
  | .hbm, ⟨18, _⟩ => ⟨S2048x512, .f32⟩
  | .hbm, ⟨19, _⟩ => ⟨S1x2048x512, .f32⟩
  | .hbm, ⟨20, _⟩ => ⟨S2048x512, .f32⟩
  | .hbm, ⟨21, _⟩ => ⟨S2048x512, .f32⟩
  | .hbm, ⟨22, _⟩ => ⟨S3x2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== AdamGlu.lean ====
abbrev S128x1024 : Shape := ⟨2, ![128, 1024]⟩
abbrev S8x128x1024 : Shape := ⟨3, ![8, 128, 1024]⟩
abbrev S4x128x1024 : Shape := ⟨3, ![4, 128, 1024]⟩
abbrev S3x128x1024 : Shape := ⟨3, ![3, 128, 1024]⟩
abbrev S1 : Shape := ⟨1, ![1]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S4x128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .f32⟩
  | .local _ .vmem, ⟨4, _⟩ => ⟨S1x128x1024, .f32⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamGluIdeal.lean ====
abbrev S128x1024 : Shape := ⟨2, ![128, 1024]⟩
abbrev S8x128x1024 : Shape := ⟨3, ![8, 128, 1024]⟩
abbrev S4x128x1024 : Shape := ⟨3, ![4, 128, 1024]⟩
abbrev S3x128x1024 : Shape := ⟨3, ![3, 128, 1024]⟩
abbrev S1 : Shape := ⟨1, ![1]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S4x128x1024, .f32⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .f32⟩
  | .local _ .vmem, ⟨4, _⟩ => ⟨S1x128x1024, .f32⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamGluRefIdeal.lean ====
abbrev S128x1024 : Shape := ⟨2, ![128, 1024]⟩
abbrev S8x128x1024 : Shape := ⟨3, ![8, 128, 1024]⟩
abbrev S4x128x1024 : Shape := ⟨3, ![4, 128, 1024]⟩
abbrev S3x128x1024 : Shape := ⟨3, ![3, 128, 1024]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x128x1024 : Shape := ⟨3, ![1, 128, 1024]⟩

abbrev nBuf : Space → Nat
  | .hbm => 59
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S4x128x1024, .f32⟩
  | .hbm, ⟨5, _⟩ => ⟨S3x128x1024, .bf16⟩
  | .hbm, ⟨6, _⟩ => ⟨S1, .i32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x128x1024, .i1⟩
  | .hbm, ⟨15, _⟩ => ⟨S8x128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S128x1024, .f32⟩
  | .hbm, ⟨21, _⟩ => ⟨S128x1024, .f32⟩
  | .hbm, ⟨22, _⟩ => ⟨S3x128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== AdamOut.lean ====
abbrev S256x2048 : Shape := ⟨2, ![256, 2048]⟩
abbrev S8x256x2048 : Shape := ⟨3, ![8, 256, 2048]⟩
abbrev S4x256x2048 : Shape := ⟨3, ![4, 256, 2048]⟩
abbrev S3x256x2048 : Shape := ⟨3, ![3, 256, 2048]⟩
abbrev S1 : Shape := ⟨1, ![1]⟩
abbrev S1x256x2048 : Shape := ⟨3, ![1, 256, 2048]⟩

abbrev nBuf : Space → Nat
  | .hbm => 10
  | .vmem => 10
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .f32⟩
  | .hbm, ⟨4, _⟩ => ⟨S4x256x2048, .f32⟩
  | .hbm, ⟨5, _⟩ => ⟨S3x256x2048, .bf16⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .f32⟩
  | .local _ .vmem, ⟨4, _⟩ => ⟨S1x256x2048, .f32⟩
  | .local _ .vmem, ⟨5, _⟩ => ⟨S3x256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamOutIdeal.lean ====
abbrev S256x2048 : Shape := ⟨2, ![256, 2048]⟩
abbrev S8x256x2048 : Shape := ⟨3, ![8, 256, 2048]⟩
abbrev S4x256x2048 : Shape := ⟨3, ![4, 256, 2048]⟩
abbrev S3x256x2048 : Shape := ⟨3, ![3, 256, 2048]⟩
abbrev S1 : Shape := ⟨1, ![1]⟩
abbrev S1x256x2048 : Shape := ⟨3, ![1, 256, 2048]⟩

abbrev nBuf : Space → Nat
  | .hbm => 10
  | .vmem => 10
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .f32⟩
  | .hbm, ⟨4, _⟩ => ⟨S4x256x2048, .f32⟩
  | .hbm, ⟨5, _⟩ => ⟨S3x256x2048, .bf16⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .f32⟩
  | .local _ .vmem, ⟨4, _⟩ => ⟨S1x256x2048, .f32⟩
  | .local _ .vmem, ⟨5, _⟩ => ⟨S3x256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== AdamOutRefIdeal.lean ====
abbrev S256x2048 : Shape := ⟨2, ![256, 2048]⟩
abbrev S8x256x2048 : Shape := ⟨3, ![8, 256, 2048]⟩
abbrev S4x256x2048 : Shape := ⟨3, ![4, 256, 2048]⟩
abbrev S3x256x2048 : Shape := ⟨3, ![3, 256, 2048]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x256x2048 : Shape := ⟨3, ![1, 256, 2048]⟩

abbrev nBuf : Space → Nat
  | .hbm => 59
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .f32⟩
  | .hbm, ⟨4, _⟩ => ⟨S4x256x2048, .f32⟩
  | .hbm, ⟨5, _⟩ => ⟨S3x256x2048, .bf16⟩
  | .hbm, ⟨6, _⟩ => ⟨S1, .i32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x256x2048, .i1⟩
  | .hbm, ⟨15, _⟩ => ⟨S8x256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S256x2048, .f32⟩
  | .hbm, ⟨21, _⟩ => ⟨S256x2048, .f32⟩
  | .hbm, ⟨22, _⟩ => ⟨S3x256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S256x2048, .f32⟩
  | .hbm, ⟨58, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== AdamGate.lean ====
abbrev S2048x704 : Shape := ⟨2, ![2048, 704]⟩
abbrev S8x2048x704 : Shape := ⟨3, ![8, 2048, 704]⟩
abbrev S4x2048x704 : Shape := ⟨3, ![4, 2048, 704]⟩
abbrev S3x2048x704 : Shape := ⟨3, ![3, 2048, 704]⟩
abbrev S1 : Shape := ⟨1, ![1]⟩
abbrev S256x704 : Shape := ⟨2, ![256, 704]⟩
abbrev S1x256x704 : Shape := ⟨3, ![1, 256, 704]⟩
abbrev S3x256x704 : Shape := ⟨3, ![3, 256, 704]⟩

abbrev nBuf : Space → Nat
  | .hbm => 10
  | .vmem => 20
  | .smem => 1
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .f32⟩
  | .hbm, ⟨4, _⟩ => ⟨S4x2048x704, .f32⟩
  | .hbm, ⟨5, _⟩ => ⟨S3x2048x704, .bf16⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S3x256x704, .bf16⟩
  | .local _ .vmem, ⟨11, _⟩ => ⟨S3x256x704, .bf16⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .smem, ⟨0, _⟩ => ⟨S1, .i32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamGateIdeal.lean ====
abbrev S2048x704 : Shape := ⟨2, ![2048, 704]⟩
abbrev S8x2048x704 : Shape := ⟨3, ![8, 2048, 704]⟩
abbrev S4x2048x704 : Shape := ⟨3, ![4, 2048, 704]⟩
abbrev S3x2048x704 : Shape := ⟨3, ![3, 2048, 704]⟩
abbrev S1 : Shape := ⟨1, ![1]⟩
abbrev S256x704 : Shape := ⟨2, ![256, 704]⟩
abbrev S1x256x704 : Shape := ⟨3, ![1, 256, 704]⟩
abbrev S3x256x704 : Shape := ⟨3, ![3, 256, 704]⟩

abbrev nBuf : Space → Nat
  | .hbm => 10
  | .vmem => 20
  | .smem => 1
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .f32⟩
  | .hbm, ⟨4, _⟩ => ⟨S4x2048x704, .f32⟩
  | .hbm, ⟨5, _⟩ => ⟨S3x2048x704, .bf16⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S3x256x704, .bf16⟩
  | .local _ .vmem, ⟨11, _⟩ => ⟨S3x256x704, .bf16⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .smem, ⟨0, _⟩ => ⟨S1, .i32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamGateRefIdeal.lean ====
abbrev S2048x704 : Shape := ⟨2, ![2048, 704]⟩
abbrev S8x2048x704 : Shape := ⟨3, ![8, 2048, 704]⟩
abbrev S4x2048x704 : Shape := ⟨3, ![4, 2048, 704]⟩
abbrev S3x2048x704 : Shape := ⟨3, ![3, 2048, 704]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x2048x704 : Shape := ⟨3, ![1, 2048, 704]⟩

abbrev nBuf : Space → Nat
  | .hbm => 59
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .f32⟩
  | .hbm, ⟨4, _⟩ => ⟨S4x2048x704, .f32⟩
  | .hbm, ⟨5, _⟩ => ⟨S3x2048x704, .bf16⟩
  | .hbm, ⟨6, _⟩ => ⟨S1, .i32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x2048x704, .i1⟩
  | .hbm, ⟨15, _⟩ => ⟨S8x2048x704, .f32⟩
  | .hbm, ⟨16, _⟩ => ⟨S8x2048x704, .f32⟩
  | .hbm, ⟨17, _⟩ => ⟨S_, .f32⟩
  | .hbm, ⟨18, _⟩ => ⟨S2048x704, .f32⟩
  | .hbm, ⟨19, _⟩ => ⟨S1x2048x704, .f32⟩
  | .hbm, ⟨20, _⟩ => ⟨S2048x704, .f32⟩
  | .hbm, ⟨21, _⟩ => ⟨S2048x704, .f32⟩
  | .hbm, ⟨22, _⟩ => ⟨S3x2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | .hbm, ⟨40, _⟩ => ⟨S2048x704, .f32⟩
  | .hbm, ⟨41, _⟩ => ⟨S_, .f32⟩
  | .hbm, ⟨42, _⟩ => ⟨S2048x704, .f32⟩
  | .hbm, ⟨43, _⟩ => ⟨S2048x704, .f32⟩
  | .hbm, ⟨44, _⟩ => ⟨S_, .f32⟩
  | .hbm, ⟨45, _⟩ => ⟨S2048x704, .f32⟩
  | .hbm, ⟨46, _⟩ => ⟨S2048x704, .f32⟩
  | .hbm, ⟨47, _⟩ => ⟨S2048x704, .f32⟩
  | .hbm, ⟨48, _⟩ => ⟨S_, .f32⟩
  | .hbm, ⟨49, _⟩ => ⟨S2048x704, .f32⟩
  | .hbm, ⟨50, _⟩ => ⟨S2048x704, .f32⟩
  | .hbm, ⟨51, _⟩ => ⟨S2048x704, .f32⟩
  | .hbm, ⟨52, _⟩ => ⟨S_, .f32⟩
  | .hbm, ⟨53, _⟩ => ⟨S2048x704, .f32⟩
  | .hbm, ⟨54, _⟩ => ⟨S2048x704, .f32⟩
  | .hbm, ⟨55, _⟩ => ⟨S2048x704, .f32⟩
  | .hbm, ⟨56, _⟩ => ⟨S_, .f32⟩
  | .hbm, ⟨57, _⟩ => ⟨S2048x704, .f32⟩
  | .hbm, ⟨58, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== AdamDown.lean ====
abbrev S704x2048 : Shape := ⟨2, ![704, 2048]⟩
abbrev S8x704x2048 : Shape := ⟨3, ![8, 704, 2048]⟩
abbrev S4x704x2048 : Shape := ⟨3, ![4, 704, 2048]⟩
abbrev S3x704x2048 : Shape := ⟨3, ![3, 704, 2048]⟩
abbrev S1 : Shape := ⟨1, ![1]⟩
abbrev S64x2048 : Shape := ⟨2, ![64, 2048]⟩
abbrev S1x64x2048 : Shape := ⟨3, ![1, 64, 2048]⟩
abbrev S3x64x2048 : Shape := ⟨3, ![3, 64, 2048]⟩

abbrev nBuf : Space → Nat
  | .hbm => 10
  | .vmem => 20
  | .smem => 1
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S8x704x2048, .f32⟩
  | .hbm, ⟨4, _⟩ => ⟨S4x704x2048, .f32⟩
  | .hbm, ⟨5, _⟩ => ⟨S3x704x2048, .bf16⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S3x64x2048, .bf16⟩
  | .local _ .vmem, ⟨11, _⟩ => ⟨S3x64x2048, .bf16⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .smem, ⟨0, _⟩ => ⟨S1, .i32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AdamDownRefIdeal.lean ====
abbrev S704x2048 : Shape := ⟨2, ![704, 2048]⟩
abbrev S8x704x2048 : Shape := ⟨3, ![8, 704, 2048]⟩
abbrev S4x704x2048 : Shape := ⟨3, ![4, 704, 2048]⟩
abbrev S3x704x2048 : Shape := ⟨3, ![3, 704, 2048]⟩
abbrev S1 : Shape := ⟨1, ![1]⟩
abbrev S8 : Shape := ⟨1, ![8]⟩
abbrev S8x1x1 : Shape := ⟨3, ![8, 1, 1]⟩
abbrev S_ : Shape := ⟨0, ![]⟩
abbrev S1x704x2048 : Shape := ⟨3, ![1, 704, 2048]⟩

abbrev nBuf : Space → Nat
  | .hbm => 59
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S8x704x2048, .f32⟩
  | .hbm, ⟨4, _⟩ => ⟨S4x704x2048, .f32⟩
  | .hbm, ⟨5, _⟩ => ⟨S3x704x2048, .bf16⟩
  | .hbm, ⟨6, _⟩ => ⟨S1, .i32⟩
  | .hbm, ⟨7, _⟩ => ⟨S8, .i32⟩
  | .hbm, ⟨8, _⟩ => ⟨S8x1x1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x704x2048, .i1⟩
  | .hbm, ⟨15, _⟩ => ⟨S8x704x2048, .f32⟩
  | .hbm, ⟨16, _⟩ => ⟨S8x704x2048, .f32⟩
  | .hbm, ⟨17, _⟩ => ⟨S_, .f32⟩
  | .hbm, ⟨18, _⟩ => ⟨S704x2048, .f32⟩
  | .hbm, ⟨19, _⟩ => ⟨S1x704x2048, .f32⟩
  | .hbm, ⟨20, _⟩ => ⟨S704x2048, .f32⟩
  | .hbm, ⟨21, _⟩ => ⟨S704x2048, .f32⟩
  | .hbm, ⟨22, _⟩ => ⟨S3x704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | .hbm, ⟨40, _⟩ => ⟨S704x2048, .f32⟩
  | .hbm, ⟨41, _⟩ => ⟨S_, .f32⟩
  | .hbm, ⟨42, _⟩ => ⟨S704x2048, .f32⟩
  | .hbm, ⟨43, _⟩ => ⟨S704x2048, .f32⟩
  | .hbm, ⟨44, _⟩ => ⟨S_, .f32⟩
  | .hbm, ⟨45, _⟩ => ⟨S704x2048, .f32⟩
  | .hbm, ⟨46, _⟩ => ⟨S704x2048, .f32⟩
  | .hbm, ⟨47, _⟩ => ⟨S704x2048, .f32⟩
  | .hbm, ⟨48, _⟩ => ⟨S_, .f32⟩
  | .hbm, ⟨49, _⟩ => ⟨S704x2048, .f32⟩
  | .hbm, ⟨50, _⟩ => ⟨S704x2048, .f32⟩
  | .hbm, ⟨51, _⟩ => ⟨S704x2048, .f32⟩
  | .hbm, ⟨52, _⟩ => ⟨S_, .f32⟩
  | .hbm, ⟨53, _⟩ => ⟨S704x2048, .f32⟩
  | .hbm, ⟨54, _⟩ => ⟨S704x2048, .f32⟩
  | .hbm, ⟨55, _⟩ => ⟨S704x2048, .f32⟩
  | .hbm, ⟨56, _⟩ => ⟨S_, .f32⟩
  | .hbm, ⟨57, _⟩ => ⟨S704x2048, .f32⟩
  | .hbm, ⟨58, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.DownDx.lean ====
module

public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pointwise
public import Idealize.ShloMosaic.Lib.StableHlo.ReadAt
public import Idealize.ShloMosaic.Lib.Tactic

/-! # The gradient of the feed-forward hidden layer, `dx2 · w_downᵀ`, in blocks of rows and of columns -/

@[expose] public section

set_option maxRecDepth 16384

noncomputable section

open Idealize.ShloMosaic Idealize.ShloMosaic.TcCoe Idealize.SL.Sem
open Idealize.ShloMosaic.Pipeline (Dat)
open scoped BigOperators

namespace Cert.DownDxIdeal.Product

open Cert.DownDxIdeal Cert.DownDxIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: column block `j` holds the columns `704 j …` of the product. -/
def product (x : S4096x2048.Idx → EReal) (w : S5632x2048.Idx → EReal) : S8x4096x704.Idx → EReal := fun i =>
  ∑ k : Fin 2048, x (ix2 (i 1) k) * w (ix2 ⟨(i 0).val * 704 + (i 2).val, by
    have h0 : (i 0).val < 8 := (i 0).isLt; have h2 : (i 2).val < 704 := (i 2).isLt; omega⟩ k)

/-- One point leaves the product of its blocks. -/
theorem left_eq (c : Dev nD) (t : Fin cfg0.N) : outsAt0 m c t = k0_pay1 (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  rw [View.canon_unit_zero zero3]
  simp only [View.readAt_eq_ld, (hs0_0 t).read_unread, (hs0_1 t).read_unread, View.ld_unit_zero (S := S2048x2048) zero2,
    View.ld_unit_zero (S := S1x704x2048) zero3]

theorem index_at : ∀ t : Fin cfg0.N, win0_0.index t 0 = t.val / 8 ∧ win0_0.index t 1 = 0
    ∧ win0_1.index t 0 = t.val % 8 ∧ win0_1.index t 1 = 0 ∧ win0_1.index t 2 = 0
    ∧ win0_2.index t 0 = t.val % 8 ∧ win0_2.index t 1 = t.val / 8 ∧ win0_2.index t 2 = 0 :=
  (by decide +kernel : ∀ t : Fin grid0.N, _)

theorem points (t : Fin cfg0.N) : t.val < 16 := Nat.lt_of_lt_of_eq t.isLt N_0

theorem rows_at (c : Dev nD) (t : Fin cfg0.N) (a : Fin 2048) (k : Fin 2048) :
    (iblk m c 0 t : S2048x2048.Idx → EReal) (ix2 a k)
      = (m ((c : Thread nD τ).loc main_arg1) : S4096x2048.Idx → EReal) (ix2 ⟨t.val / 8 * 2048 + a.val, by have := points t; omega⟩ k) := by
  have hV : ∀ j : S4096x2048.Idx, (V m c main_v2 : S4096x2048.Idx → EReal) j = (m ((c : Thread nD τ).loc main_arg1) : S4096x2048.Idx → EReal) j := by
    intro j
    unfold V
    after_reads_at
  unfold iblk
  rw [View.read_apply]
  refine (hV _).trans (congrArg _ ?_)
  obtain ⟨e0, e1, -⟩ := index_at t
  funext b; apply Fin.ext
  match b with
  | ⟨0, _⟩ => show win0_0.index t 0 * 2048 + 1 * a.val = t.val / 8 * 2048 + a.val; rw [e0]; omega
  | ⟨1, _⟩ => show win0_0.index t 1 * 2048 + 1 * k.val = k.val; rw [e1]; omega

theorem columns_at (c : Dev nD) (t : Fin cfg0.N) (a : Fin 704) (k : Fin 2048) :
    (iblk m c 1 t : S1x704x2048.Idx → EReal) (ix3 0 a k)
      = (m ((c : Thread nD τ).loc main_arg0) : S5632x2048.Idx → EReal) (ix2 ⟨t.val % 8 * 704 + a.val, by omega⟩ k) := by
  have hV : ∀ (b : Fin 8) (a : Fin 704) (k : Fin 2048), (V m c main_v1 : S8x704x2048.Idx → EReal) (ix3 b a k)
      = (m ((c : Thread nD τ).loc main_arg0) : S5632x2048.Idx → EReal) (ix2 ⟨b.val * 704 + a.val, by omega⟩ k) := by
    intro b a k
    unfold V
    after_reads_at
  unfold iblk
  rw [View.read_apply]
  obtain ⟨-, -, e0, e1, e2, -⟩ := index_at t
  have he : ((cfg0.win 1).blk t).view.emb (ix3 0 a k) = (ix3 ⟨t.val % 8, by omega⟩ a k : S8x704x2048.Idx) := by
    funext b; apply Fin.ext
    match b with
    | ⟨0, _⟩ => show win0_1.index t 0 * 1 + 1 * 0 = t.val % 8; rw [e0]; omega
    | ⟨1, _⟩ => show win0_1.index t 1 * 704 + 1 * a.val = a.val; rw [e1]; omega
    | ⟨2, _⟩ => show win0_1.index t 2 * 2048 + 1 * k.val = k.val; rw [e2]; omega
  rw [he]
  exact hV _ a k

/-- The result of the call. -/
abbrev result (c : Dev nD) : Buf (Elt Ideal) ((c : Thread nD τ).loc main_v3) :=
  product (m ((c : Thread nD τ).loc main_arg1)) (m ((c : Thread nD τ).loc main_arg0))

theorem flushed_eq (c : Dev nD) (t : Fin cfg0.N) :
    (dats m 0 c).flushed 2 t = ((cfg0.win 2).blk t).view.read (Elt Ideal) (result m c) := by
  rw [Value.flushed2, left_eq]
  obtain ⟨-, -, -, -, -, e0, e1, e2⟩ := index_at t
  funext y
  show (k0_pay1 (iblk m c 0 t) (iblk m c 1 t) : S1x2048x704.Idx → EReal) y = product _ _ (((cfg0.win 2).blk t).view.emb y)
  have hy : ∃ (a : Fin 2048) (b : Fin 704), y = (ix3 0 a b : S1x2048x704.Idx) :=
    ⟨y 1, y 2, by rw [eq_ix3 (y : S1x2048x704.Idx)]; congr 1; exact Subsingleton.elim (α := Fin 1) _ _⟩
  obtain ⟨a, b, rfl⟩ := hy
  have he : ((cfg0.win 2).blk t).view.emb (ix3 0 a b : S1x2048x704.Idx)
      = (ix3 ⟨t.val % 8, by omega⟩ ⟨t.val / 8 * 2048 + a.val, by have := points t; omega⟩ b : S8x4096x704.Idx) := by
    funext z; apply Fin.ext
    match z with
    | ⟨0, _⟩ => show win0_2.index t 0 * 1 + 1 * 0 = t.val % 8; rw [e0]; omega
    | ⟨1, _⟩ => show win0_2.index t 1 * 2048 + 1 * a.val = t.val / 8 * 2048 + a.val; rw [e1]; omega
    | ⟨2, _⟩ => show win0_2.index t 2 * 704 + 1 * b.val = b.val; rw [e2]; omega
  rw [he]
  pointwise [k0_pay1]
  refine Finset.sum_congr rfl fun k _ => ?_
  rw [rows_at, columns_at]
  rfl

theorem covered (i : S8x4096x704.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 704 := (i 2).isLt
  let t : Fin cfg0.N := ⟨(i 1).val / 2048 * 8 + (i 0).val, by rw [show cfg0.N = 16 from N_0]; omega⟩
  have ht : t.val = (i 1).val / 2048 * 8 + (i 0).val := rfl
  refine ⟨t, flush0_2 t, ?_⟩
  obtain ⟨-, -, -, -, -, e0, e1, e2⟩ := index_at t
  clear_value t
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 2048 ≤ (i 1).val ∧ (i 1).val < win0_2.index t 1 * 2048 + 2048; rw [e1]; omega
  | ⟨2, _⟩ => show win0_2.index t 2 * 704 ≤ (i 2).val ∧ (i 2).val < win0_2.index t 2 * 704 + 704; rw [e2]; omega

theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (result m c) (fun t _ => flushed_eq m c t) covered),
      (h c).2⟩) (Value.run_blocks m ρ)

end Cert.DownDxIdeal.Product

namespace Cert.DownDxRefIdeal.Product

open Cert.DownDxRefIdeal Cert.DownDxRefIdeal.Read

theorem value_eq (x : S4096x2048.Idx → EReal) (w : S5632x2048.Idx → EReal) :
    (val_main_v5 (F := Ideal) w x : S8x4096x704.Idx → EReal) = Cert.DownDxIdeal.Product.product x w := by
  funext i
  idx_vars i
  unfold val_main_v5 val_main_v4 val_main_v3 val_main_v2
  pointwise
  refine Finset.sum_congr rfl fun k _ => ?_
  rfl

end Cert.DownDxRefIdeal.Product

end
-- ==== Proof.Blocks.lean ====
module

public import Mathlib.Data.EReal.Operations
public import Mathlib.Algebra.BigOperators.Fin

/-! # Sums taken in blocks -/

@[expose] public section

namespace Cert.Blocks

open scoped BigOperators

/-- A sum over `K` blocks of `B` terms each is the sum over all `K * B` terms. -/
theorem sum_blocks {M : Type} [AddCommMonoid M] (K B : ℕ) (f : ℕ → M) :
    ∑ s ∈ Finset.range K, ∑ k : Fin B, f (s * B + k.val) = ∑ k : Fin (K * B), f k.val := by
  rw [Fin.sum_univ_eq_sum_range (fun k => f k)]
  induction K with
  | zero => simp
  | succ K ih =>
    rw [Finset.sum_range_succ, ih, Nat.succ_mul, Finset.sum_range_add, Fin.sum_univ_eq_sum_range (fun k => f (K * B + k))]

/-- A running sum that starts afresh every `K` steps is a sum over the steps since the last fresh start. -/
theorem sum_since {M : Type} [AddCommMonoid M] (K : ℕ) (run add : ℕ → M) (N : ℕ)
    (fresh : ∀ n, n < N → n % K = 0 → run n = add n)
    (more : ∀ n, n + 1 < N → ¬(n + 1) % K = 0 → run (n + 1) = run n + add (n + 1)) :
    ∀ n, n < N → run n = ∑ s ∈ Finset.range (n % K + 1), add (n - n % K + s) := by
  intro n
  induction n with
  | zero => intro h; rw [fresh 0 h (Nat.zero_mod _)]; simp
  | succ n ih =>
    intro h
    by_cases hz : (n + 1) % K = 0
    · rw [fresh _ h hz, hz]; simp
    · have hK : K ≠ 1 := fun e => hz (by rw [e, Nat.mod_one])
      have hm : (n + 1) % K = n % K + 1 := by
        rcases Nat.eq_zero_or_pos K with e | hpos
        · subst e; simp
        · have h1 := Nat.mod_lt n hpos
          have h2 : (n + 1) % K = (n % K + 1) % K := by rw [Nat.add_mod, Nat.mod_eq_of_lt (a := 1) (by omega)]
          rcases Nat.lt_or_ge (n % K + 1) K with h3 | h3
          · rw [h2, Nat.mod_eq_of_lt h3]
          · exact absurd (by rw [h2, show n % K + 1 = K from by omega, Nat.mod_self]) hz
      have hle := Nat.mod_le n K
      rw [more n h hz, ih (by omega), hm, Finset.sum_range_succ _ (n % K + 1),
        show n + 1 - (n % K + 1) = n - n % K from by omega, show n - n % K + (n % K + 1) = n + 1 from by omega]

end Cert.Blocks
-- ==== Proof.DownDw.lean ====
module

public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the down projection, `actᵀ · dx2`, in blocks of hidden columns and of rows -/

@[expose] public section

set_option maxRecDepth 16384

noncomputable section

open Idealize.ShloMosaic Idealize.ShloMosaic.TcCoe Idealize.SL.Sem
open Idealize.ShloMosaic.Pipeline (Dat)
open scoped BigOperators

namespace Cert.DownDwIdeal.Product

open Cert.DownDwIdeal Cert.DownDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: row block `j` of the result holds the rows `704 j …` of the product. -/
def product (act : S4096x5632.Idx → EReal) (x : S4096x2048.Idx → EReal) : S8x704x2048.Idx → EReal := fun i =>
  ∑ s : Fin 4096, act (ix2 s ⟨(i 0).val * 704 + (i 1).val, by
    have h0 : (i 0).val < 8 := (i 0).isLt; have h1 : (i 1).val < 704 := (i 1).isLt; omega⟩) * x (ix2 s (i 2))

/-- What point `t` adds to the sum. -/
abbrev addend (c : Dev nD) (t : Fin cfg0.N) : Vec Ideal S704x2048 .f32 := k0_pay1 (iblk m c 0 t) (iblk m c 1 t)

/-- Two arrays added, element by element. -/
abbrev plus (a b : Vec Ideal S704x2048 .f32) : Vec Ideal S704x2048 .f32 := addf (F := Ideal) (s := S704x2048) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1x704x2048) zero3, View.ld_unit_zero (S := S2048x2048) zero2, View.ld_unit_zero (S := S704x2048) zero2, shapeCast_self]

theorem sum_B (c : Dev nD) (t : Fin cfg0.N) (h0 : ¬cond0_0 (grid0.coords t)) (h1 : cond0_1 (grid0.coords t)) (h2 : cond0_2 (grid0.coords t)) (acc : Vec Ideal S704x2048 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1x704x2048) zero3, View.ld_unit_zero (S := S2048x2048) zero2, View.ld_unit_zero (S := S704x2048) zero2, shapeCast_self]

theorem out_B (c : Dev nD) (t : Fin cfg0.N) (h0 : ¬cond0_0 (grid0.coords t)) (h1 : cond0_1 (grid0.coords t)) (h2 : cond0_2 (grid0.coords t)) (acc : Vec Ideal S704x2048 .f32) :
    out0_B_2 c (grid0.coords t) (ms0_0 t) (hs0_0 t) (ms0_1 t) (hs0_1 t) (ms0_2 t) (hs0_2 t) scM0_0 (Memref.isWhole_whole _) h0 h1 h2 (iblk m c 0 t) (iblk m c 1 t) acc = k0_pay4 (plus acc (addend m c t)) := by
  unfold out0_B_2
  rw [View.read_writes_eq_canon _ _ _ (fun y => cover0_B_2 _ _ _ _ _ _ _ _ _ _ _ _ _ _ _ _ y)]
  unfold kernelRun0_B
  dsimp only
  sl_unfold_words
  rw [View.canon_unit_zero zero3]
  rw [View.readCov_unit_zero (S := S704x2048) _ zero2]
  unfold k0_pay4 k0_pay3
  simp only [View.readAt_eq_ld, (hs0_0 t).read_unread, (hs0_1 t).read_unread, (Memref.isWhole_whole _ : scM0_0.IsWhole).read_unread, View.ld_unit_zero (S := S1x704x2048) zero3, View.ld_unit_zero (S := S2048x2048) zero2, View.ld_unit_zero (S := S704x2048) zero2, shapeCast_self]

theorem points (t : Fin cfg0.N) : t.val < 16 := Nat.lt_of_lt_of_eq t.isLt N_0

attribute [local irreducible] outsAt0 sout0_A_0 sout0_B_0 out0_B_2

/-- The running sum after point `n`, and what point `n` adds, at one place (zero outside the grid). -/
def sumAt (c : Dev nD) (i : S704x2048.Idx) (n : ℕ) : EReal := if h : n < cfg0.N then (outsAt0 m c n h).2 i else 0
def addAt (c : Dev nD) (i : S704x2048.Idx) (n : ℕ) : EReal := if h : n < cfg0.N then addend m c ⟨n, h⟩ i else 0

theorem outs_eq (c : Dev nD) (t : Fin cfg0.N) (hz : ¬t.val % 2 = 0) :
    (outsAt0 m c t.val t.isLt).2 = plus (outsAt0 m c (t.val - 1) (by have := t.isLt; omega)).2 (addend m c t) := by
  have hr : t.val % 2 < 2 := Nat.mod_lt _ (by decide)
  have h1 : t.val % 2 = 1 := by omega
  have e := congrArg Prod.snd (outsAt0_B m c t hz h1 h1)
  dsimp only at e
  exact e.trans (sum_B m c t _ _ _ _)

theorem outs_first (c : Dev nD) (t : Fin cfg0.N) (hz : t.val % 2 = 0) : (outsAt0 m c t.val t.isLt).2 = addend m c t := by
  have hp := points t
  have h1 : ¬t.val % 2 = 1 := by omega
  have h2 : ¬t.val % 2 = 1 := by omega
  have e := congrArg Prod.snd (outsAt0_A m c t hz h1 h2)
  dsimp only at e
  exact e.trans (sum_A m c t _ _ _)

theorem sum_at (c : Dev nD) (i : S704x2048.Idx) (t : Fin cfg0.N) : sumAt m c i t.val = (outsAt0 m c t.val t.isLt).2 i := dif_pos t.isLt
theorem add_at (c : Dev nD) (i : S704x2048.Idx) (t : Fin cfg0.N) : addAt m c i t.val = addend m c t i := dif_pos t.isLt

theorem sum_eq (c : Dev nD) (i : S704x2048.Idx) : ∀ n, n < cfg0.N →
    sumAt m c i n = ∑ s ∈ Finset.range (n % 2 + 1), addAt m c i (n - n % 2 + s) := by
  refine Cert.Blocks.sum_since 2 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 2 = 1) (i : S704x2048.Idx) :
    (outsAt0 m c t.val t.isLt).2 i = ∑ s ∈ Finset.range 2, addAt m c i (t.val / 2 * 2 + s) := by
  have h := sum_eq m c i t.val t.isLt
  rw [sum_at, hf] at h
  rw [h, show t.val - 1 = t.val / 2 * 2 from by omega]

theorem left_eq (c : Dev nD) (t : Fin cfg0.N) (hf : t.val % 2 = 1) :
    (outsAt0 m c t.val t.isLt).1 = k0_pay4 ((outsAt0 m c t.val t.isLt).2) := by
  have hz : ¬t.val % 2 = 0 := by omega
  rw [outs_eq m c t hz]
  have e := congrArg Prod.fst (outsAt0_B m c t hz hf hf)
  dsimp only at e
  exact e.trans (out_B m c t _ _ _ _)

theorem index_at : ∀ t : Fin cfg0.N, win0_0.index t 0 = t.val / 2 ∧ win0_0.index t 1 = 0 ∧ win0_0.index t 2 = t.val % 2 ∧ win0_1.index t 0 = t.val % 2 ∧ win0_1.index t 1 = 0 ∧ win0_2.index t 0 = t.val / 2 ∧ win0_2.index t 1 = 0 ∧ win0_2.index t 2 = 0 :=
  (by decide +kernel : ∀ t : Fin grid0.N, _)

theorem left_at (c : Dev nD) (t : Fin cfg0.N) (f : Fin 704) (s : Fin 2048) :
    (iblk m c 0 t : S1x704x2048.Idx → EReal) (ix3 0 f s)
      = (m ((c : Thread nD τ).loc main_arg0) : S4096x5632.Idx → EReal) (ix2 ⟨t.val % 2 * 2048 + s.val, by omega⟩ ⟨t.val / 2 * 704 + f.val, by have := points t; omega⟩) := by
  have hV : ∀ (j : Fin 8) (f : Fin 704) (s : Fin 4096), (V m c main_v3 : S8x704x4096.Idx → EReal) (ix3 j f s)
      = (m ((c : Thread nD τ).loc main_arg0) : S4096x5632.Idx → EReal) (ix2 s ⟨j.val * 704 + f.val, by omega⟩) := by
    intro j f s
    unfold V
    after_reads_at
  unfold iblk
  rw [View.read_apply]
  obtain ⟨e0, e1, e2, -, -, -, -, -⟩ := index_at t
  have he : ((cfg0.win 0).blk t).view.emb (ix3 0 f s) = (ix3 ⟨t.val / 2, by have := points t; omega⟩ ⟨f.val, by have := points t; omega⟩ ⟨t.val % 2 * 2048 + s.val, by have := points t; omega⟩ : S8x704x4096.Idx) := by
    funext b; apply Fin.ext
    match b with
    | ⟨0, _⟩ => show win0_0.index t 0 * 1 + 1 * 0 = t.val / 2; rw [e0]; omega
    | ⟨1, _⟩ => show win0_0.index t 1 * 704 + 1 * f.val = f.val; rw [e1]; omega
    | ⟨2, _⟩ => show win0_0.index t 2 * 2048 + 1 * s.val = t.val % 2 * 2048 + s.val; rw [e2]; omega
  rw [he]
  exact hV _ _ _

theorem right_at (c : Dev nD) (t : Fin cfg0.N) (s : Fin 2048) (d : Fin 2048) :
    (iblk m c 1 t : S2048x2048.Idx → EReal) (ix2 s d)
      = (m ((c : Thread nD τ).loc main_arg1) : S4096x2048.Idx → EReal) (ix2 ⟨t.val % 2 * 2048 + s.val, by omega⟩ d) := by
  have hV : ∀ (s : Fin 4096) (d : Fin 2048), (V m c main_v4 : S4096x2048.Idx → EReal) (ix2 s d)
      = (m ((c : Thread nD τ).loc main_arg1) : S4096x2048.Idx → EReal) (ix2 s d) := by
    intro s d
    unfold V
    after_reads_at
  unfold iblk
  rw [View.read_apply]
  obtain ⟨-, -, -, e0, e1, -, -, -⟩ := index_at t
  have he : ((cfg0.win 1).blk t).view.emb (ix2 s d) = (ix2 ⟨t.val % 2 * 2048 + s.val, by have := points t; omega⟩ ⟨d.val, by have := points t; omega⟩ : S4096x2048.Idx) := by
    funext b; apply Fin.ext
    match b with
    | ⟨0, _⟩ => show win0_1.index t 0 * 2048 + 1 * s.val = t.val % 2 * 2048 + s.val; rw [e0]; omega
    | ⟨1, _⟩ => show win0_1.index t 1 * 2048 + 1 * d.val = d.val; rw [e1]; omega
  rw [he]
  exact hV _ _

/-- The term at row `n` of the product (rows counted around, so that every number names one). -/
def term (act : S4096x5632.Idx → EReal) (x : S4096x2048.Idx → EReal) (j : Fin 8) (f : Fin 704) (d : Fin 2048) (n : ℕ) : EReal :=
  act (ix2 ⟨n % 4096, Nat.mod_lt _ (by decide)⟩ ⟨j.val * 704 + f.val, by omega⟩)
    * x (ix2 ⟨n % 4096, Nat.mod_lt _ (by decide)⟩ d)

theorem add_eq (c : Dev nD) (t : Fin cfg0.N) (f : Fin 704) (d : Fin 2048) :
    (addend m c t : S704x2048.Idx → EReal) (ix2 f d)
      = ∑ k : Fin 2048, term (m ((c : Thread nD τ).loc main_arg0)) (m ((c : Thread nD τ).loc main_arg1)) ⟨t.val / 2, by have := points t; omega⟩ f d (t.val % 2 * 2048 + k.val) := by
  show (k0_pay1 (iblk m c 0 t) (iblk m c 1 t) : S704x2048.Idx → EReal) (ix2 f d) = _
  pointwise [k0_pay1]
  refine Finset.sum_congr rfl fun k _ => ?_
  have hm : (t.val % 2 * 2048 + k.val) % 4096 = t.val % 2 * 2048 + k.val := by omega
  rw [left_at, right_at]
  unfold term
  simp only [hm]

theorem total_eq (c : Dev nD) (t : Fin cfg0.N) (f : Fin 704) (d : Fin 2048) :
    ∑ s ∈ Finset.range 2, addAt m c (ix2 f d) (t.val / 2 * 2 + s)
      = product (m ((c : Thread nD τ).loc main_arg0)) (m ((c : Thread nD τ).loc main_arg1)) (ix3 ⟨t.val / 2, by have := points t; omega⟩ f d) := by
  have hp := points t
  have hs : ∀ s ∈ Finset.range 2, addAt m c (ix2 f d) (t.val / 2 * 2 + s)
      = ∑ k : Fin 2048, term (m ((c : Thread nD τ).loc main_arg0)) (m ((c : Thread nD τ).loc main_arg1)) ⟨t.val / 2, by omega⟩ f d (s * 2048 + k.val) := by
    intro s hs
    have hs2 : s < 2 := Finset.mem_range.mp hs
    unfold addAt
    rw [dif_pos (Nat.lt_of_lt_of_eq (by omega) N_0.symm), add_eq]
    simp only [show (t.val / 2 * 2 + s) / 2 = t.val / 2 from by omega, show (t.val / 2 * 2 + s) % 2 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v5) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 2 = 1 := (flush0_2 t).mp hf
  rw [Value.flushed2, left_eq m c t hl]
  obtain ⟨-, -, -, -, -, e0, e1, e2⟩ := index_at t
  funext y
  show (k0_pay4 ((outsAt0 m c t.val t.isLt).2) : S1x704x2048.Idx → EReal) y = product _ _ (((cfg0.win 2).blk t).view.emb y)
  have hy : ∃ (f : Fin 704) (d : Fin 2048), y = (ix3 0 f d : S1x704x2048.Idx) :=
    ⟨y 1, y 2, by rw [eq_ix3 (y : S1x704x2048.Idx)]; congr 1; exact Subsingleton.elim (α := Fin 1) _ _⟩
  obtain ⟨f, d, rfl⟩ := hy
  have he : ((cfg0.win 2).blk t).view.emb (ix3 0 f d : S1x704x2048.Idx)
      = (ix3 ⟨t.val / 2, by have := points t; omega⟩ ⟨f.val, by have := points t; omega⟩ ⟨d.val, by have := points t; omega⟩ : S8x704x2048.Idx) := by
    funext z; apply Fin.ext
    match z with
    | ⟨0, _⟩ => show win0_2.index t 0 * 1 + 1 * 0 = t.val / 2; rw [e0]; omega
    | ⟨1, _⟩ => show win0_2.index t 1 * 704 + 1 * f.val = f.val; rw [e1]; omega
    | ⟨2, _⟩ => show win0_2.index t 2 * 2048 + 1 * d.val = d.val; rw [e2]; omega
  rw [he]
  have hs : (k0_pay4 ((outsAt0 m c t.val t.isLt).2) : S1x704x2048.Idx → EReal) (ix3 0 f d) = (outsAt0 m c t.val t.isLt).2 (ix2 f d) := by
    pointwise [k0_pay4]
  rw [hs, full_eq m c t hl]
  exact total_eq m c t f d

theorem covered (i : S8x704x2048.Idx) : ∃ t : Fin cfg0.N, (cfg0.win 2).flush t = true ∧ i ∈ ((cfg0.win 2).blk t).view.set := by
  have h0 : (i 0).val < 8 := (i 0).isLt
  have h1 : (i 1).val < 704 := (i 1).isLt
  have h2 : (i 2).val < 2048 := (i 2).isLt
  let t : Fin cfg0.N := ⟨(i 0).val * 2 + 1, by rw [show cfg0.N = 16 from N_0]; omega⟩
  have ht : t.val = (i 0).val * 2 + 1 := rfl
  refine ⟨t, (flush0_2 t).mpr (by omega), ?_⟩
  obtain ⟨-, -, -, -, -, e0, e1, e2⟩ := index_at t
  clear_value t
  show i ∈ ((View.whole main_v5).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 704 ≤ (i 1).val ∧ (i 1).val < win0_2.index t 1 * 704 + 704; rw [e1]; omega
  | ⟨2, _⟩ => show win0_2.index t 2 * 2048 ≤ (i 2).val ∧ (i 2).val < win0_2.index t 2 * 2048 + 2048; rw [e2]; omega

theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.DownDwIdeal.Product

namespace Cert.DownDwRefIdeal.Product

open Cert.DownDwRefIdeal Cert.DownDwRefIdeal.Read

theorem value_eq (act : S4096x5632.Idx → EReal) (x : S4096x2048.Idx → EReal) :
    (val_main_v4 (F := Ideal) act x : S8x704x2048.Idx → EReal) = Cert.DownDwIdeal.Product.product act x := by
  funext i
  idx_vars i
  unfold val_main_v4 val_main_v3 val_main_v2
  pointwise
  exact Finset.sum_congr rfl fun k _ => mul_comm _ _

end Cert.DownDwRefIdeal.Product

end
-- ==== Proof.UpGateDx.lean ====
module

public import proofs.«01_k».proof.Proof.Gen.UpGateDxIdeal.Value
public import proofs.«01_k».proof.Proof.Gen.UpGateDxRefIdeal.Run
public import proofs.«01_k».proof.Proof.Gen.UpGateDxRefIdeal.Read
public import proofs.«01_k».proof.Proof.Blocks
public import Idealize.ShloMosaic.Lib.Pointwise
public import Idealize.ShloMosaic.Lib.StableHlo.ReadAt
public import Idealize.ShloMosaic.Lib.Tactic

/-! # The gradient at the feed-forward input, `d_gate · w_gateᵀ + d_up · w_upᵀ`, in blocks of rows and of hidden columns -/

@[expose] public section

set_option maxRecDepth 16384

noncomputable section

open Idealize.ShloMosaic Idealize.ShloMosaic.TcCoe Idealize.SL.Sem
open Idealize.ShloMosaic.Pipeline (Dat)
open scoped BigOperators

namespace Cert.UpGateDxIdeal.Product

open Cert.UpGateDxIdeal Cert.UpGateDxIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: both products, summed over the hidden columns. -/
def product (wg wu : S2048x5632.Idx → EReal) (dg du : S4096x5632.Idx → EReal) : S4096x2048.Idx → EReal := fun i =>
  ∑ k : Fin 5632, (dg (ix2 (i 0) k) * wg (ix2 (i 1) k) + du (ix2 (i 0) k) * wu (ix2 (i 1) k))

/-- What point `t` adds to the sum. -/
abbrev addend (c : Dev nD) (t : Fin cfg0.N) : Vec Ideal S1024x2048 .f32 := k0_pay1 (iblk m c 0 t) (iblk m c 1 t) (iblk m c 2 t) (iblk m c 3 t)

/-- Two arrays added, element by element. -/
abbrev plus (a b : Vec Ideal S1024x2048 .f32) : Vec Ideal S1024x2048 .f32 := addf (F := Ideal) (s := S1024x2048) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 h2 (iblk m c 0 t) (iblk m c 1 t) (iblk m c 2 t) (iblk m c 3 t) = addend m c t := by
  unfold sout0_A_0
  rw [View.read_writes_eq_canon _ _ _ (fun y => scover0_A_0 _ _ _ _ _ _ _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (hs0_2 t).read_unread, (hs0_3 t).read_unread, (Memref.isWhole_whole _ : scM0_0.IsWhole).read_unread, View.ld_unit_zero (S := S1024x2048) zero2, View.ld_unit_zero (S := S1x1024x704) zero3, View.ld_unit_zero (S := S1x2048x704) zero3, shapeCast_self]

theorem sum_B (c : Dev nD) (t : Fin cfg0.N) (h0 : ¬cond0_0 (grid0.coords t)) (h1 : cond0_1 (grid0.coords t)) (h2 : ¬cond0_2 (grid0.coords t)) (acc : Vec Ideal S1024x2048 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 h2 (iblk m c 0 t) (iblk m c 1 t) (iblk m c 2 t) (iblk m c 3 t) acc = plus acc (addend m c t) := by
  unfold sout0_B_0
  rw [View.read_writes_eq_canon _ _ _ (fun y => scover0_B_0 _ _ _ _ _ _ _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (hs0_2 t).read_unread, (hs0_3 t).read_unread, (Memref.isWhole_whole _ : scM0_0.IsWhole).read_unread, View.ld_unit_zero (S := S1024x2048) zero2, View.ld_unit_zero (S := S1x1024x704) zero3, View.ld_unit_zero (S := S1x2048x704) zero3, shapeCast_self]

theorem sum_C (c : Dev nD) (t : Fin cfg0.N) (h0 : ¬cond0_0 (grid0.coords t)) (h1 : cond0_1 (grid0.coords t)) (h2 : cond0_2 (grid0.coords t)) (acc : Vec Ideal S1024x2048 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 h2 (iblk m c 0 t) (iblk m c 1 t) (iblk m c 2 t) (iblk m c 3 t) acc = plus acc (addend m c t) := by
  unfold sout0_C_0
  rw [View.read_writes_eq_canon _ _ _ (fun y => scover0_C_0 _ _ _ _ _ _ _ _ _ _ _ _ _ _ _ _ _ _ _ _ _ _ y)]
  unfold kernelRun0_C
  dsimp only
  try sl_unfold_words
  rw [View.canon_unit_zero zero2]
  unfold k0_pay3
  simp only [View.readAt_eq_ld, (hs0_0 t).read_unread, (hs0_1 t).read_unread, (hs0_2 t).read_unread, (hs0_3 t).read_unread, (Memref.isWhole_whole _ : scM0_0.IsWhole).read_unread, View.ld_unit_zero (S := S1024x2048) zero2, View.ld_unit_zero (S := S1x1024x704) zero3, View.ld_unit_zero (S := S1x2048x704) zero3, shapeCast_self]

theorem out_C (c : Dev nD) (t : Fin cfg0.N) (h0 : ¬cond0_0 (grid0.coords t)) (h1 : cond0_1 (grid0.coords t)) (h2 : cond0_2 (grid0.coords t)) (acc : Vec Ideal S1024x2048 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 h2 (iblk m c 0 t) (iblk m c 1 t) (iblk m c 2 t) (iblk m c 3 t) acc = (plus acc (addend m c t)) := by
  unfold out0_C_4
  rw [View.read_writes_eq_canon _ _ _ (fun y => cover0_C_4 _ _ _ _ _ _ _ _ _ _ _ _ _ _ _ _ _ _ _ _ _ _ y)]
  unfold kernelRun0_C
  dsimp only
  sl_unfold_words
  rw [View.canon_unit_zero zero2]
  rw [View.readCov_unit_zero (S := S1024x2048) _ zero2]
  unfold k0_pay3
  simp only [View.readAt_eq_ld, (hs0_0 t).read_unread, (hs0_1 t).read_unread, (hs0_2 t).read_unread, (hs0_3 t).read_unread, (Memref.isWhole_whole _ : scM0_0.IsWhole).read_unread, View.ld_unit_zero (S := S1024x2048) zero2, View.ld_unit_zero (S := S1x1024x704) zero3, View.ld_unit_zero (S := S1x2048x704) zero3, shapeCast_self]

theorem points (t : Fin cfg0.N) : t.val < 32 := Nat.lt_of_lt_of_eq t.isLt N_0

attribute [local irreducible] outsAt0 sout0_A_0 sout0_B_0 sout0_C_0 out0_C_4

/-- The running sum after point `n`, and what point `n` adds, at one place (zero outside the grid). -/
def sumAt (c : Dev nD) (i : S1024x2048.Idx) (n : ℕ) : EReal := if h : n < cfg0.N then (outsAt0 m c n h).2 i else 0
def addAt (c : Dev nD) (i : S1024x2048.Idx) (n : ℕ) : EReal := if h : n < cfg0.N then addend m c ⟨n, h⟩ i else 0

theorem outs_eq (c : Dev nD) (t : Fin cfg0.N) (hz : ¬t.val % 8 = 0) :
    (outsAt0 m c t.val t.isLt).2 = plus (outsAt0 m c (t.val - 1) (by have := t.isLt; omega)).2 (addend m c t) := by
  have hr : t.val % 8 < 8 := Nat.mod_lt _ (by decide)
  have h1 : 1 ≤ t.val % 8 := by omega
  by_cases h2 : t.val % 8 = 7
  · rw [outsAt0_C m c t hz h1 h2]
    exact sum_C ..
  · rw [outsAt0_B m c t hz h1 h2]
    exact sum_B ..

theorem outs_first (c : Dev nD) (t : Fin cfg0.N) (hz : t.val % 8 = 0) : (outsAt0 m c t.val t.isLt).2 = addend m c t := by
  have hp := points t
  have h1 : ¬1 ≤ t.val % 8 := by omega
  have h2 : ¬t.val % 8 = 7 := by omega
  have e := congrArg Prod.snd (outsAt0_A m c t hz h1 h2)
  dsimp only at e
  exact e.trans (sum_A m c t _ _ _)

theorem sum_at (c : Dev nD) (i : S1024x2048.Idx) (t : Fin cfg0.N) : sumAt m c i t.val = (outsAt0 m c t.val t.isLt).2 i := dif_pos t.isLt
theorem add_at (c : Dev nD) (i : S1024x2048.Idx) (t : Fin cfg0.N) : addAt m c i t.val = addend m c t i := dif_pos t.isLt

theorem sum_eq (c : Dev nD) (i : S1024x2048.Idx) : ∀ n, n < cfg0.N →
    sumAt m c i n = ∑ s ∈ Finset.range (n % 8 + 1), addAt m c i (n - n % 8 + s) := by
  refine Cert.Blocks.sum_since 8 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 8 = 7) (i : S1024x2048.Idx) :
    (outsAt0 m c t.val t.isLt).2 i = ∑ s ∈ Finset.range 8, addAt m c i (t.val / 8 * 8 + s) := by
  have h := sum_eq m c i t.val t.isLt
  rw [sum_at, hf] at h
  rw [h, show t.val - 7 = t.val / 8 * 8 from by omega]

theorem left_eq (c : Dev nD) (t : Fin cfg0.N) (hf : t.val % 8 = 7) :
    (outsAt0 m c t.val t.isLt).1 = ((outsAt0 m c t.val t.isLt).2) := by
  have hz : ¬t.val % 8 = 0 := by omega
  rw [outs_eq m c t hz]
  have e := congrArg Prod.fst (outsAt0_C m c t hz (by omega) hf)
  dsimp only at e
  exact e.trans (out_C m c t _ _ _ _)

theorem index_at : ∀ t : Fin cfg0.N, win0_0.index t 0 = t.val % 8 ∧ win0_0.index t 1 = t.val / 8 ∧ win0_0.index t 2 = 0 ∧ win0_1.index t 0 = t.val % 8 ∧ win0_1.index t 1 = 0 ∧ win0_1.index t 2 = 0 ∧ win0_2.index t 0 = t.val % 8 ∧ win0_2.index t 1 = t.val / 8 ∧ win0_2.index t 2 = 0 ∧ win0_3.index t 0 = t.val % 8 ∧ win0_3.index t 1 = 0 ∧ win0_3.index t 2 = 0 ∧ win0_4.index t 0 = t.val / 8 ∧ win0_4.index t 1 = 0 :=
  (by decide +kernel : ∀ t : Fin grid0.N, _)

theorem gate_at (c : Dev nD) (t : Fin cfg0.N) (a : Fin 1024) (k : Fin 704) :
    (iblk m c 0 t : S1x1024x704.Idx → EReal) (ix3 0 a k)
      = (m ((c : Thread nD τ).loc main_arg2) : S4096x5632.Idx → EReal) (ix2 ⟨t.val / 8 * 1024 + a.val, by have := points t; omega⟩ ⟨t.val % 8 * 704 + k.val, by omega⟩) := by
  have hV : ∀ (j : Fin 8) (s : Fin 4096) (k : Fin 704), (V m c main_v2 : S8x4096x704.Idx → EReal) (ix3 j s k)
      = (m ((c : Thread nD τ).loc main_arg2) : S4096x5632.Idx → EReal) (ix2 s ⟨j.val * 704 + k.val, by omega⟩) := by
    intro j s k
    unfold V
    after_reads_at
  unfold iblk
  rw [View.read_apply]
  obtain ⟨e0, e1, e2, -, -, -, -, -, -, -, -, -, -, -⟩ := index_at t
  have he : ((cfg0.win 0).blk t).view.emb (ix3 0 a k) = (ix3 ⟨t.val % 8, by have := points t; omega⟩ ⟨t.val / 8 * 1024 + a.val, by have := points t; omega⟩ ⟨k.val, by have := points t; omega⟩ : S8x4096x704.Idx) := by
    funext b; apply Fin.ext
    match b with
    | ⟨0, _⟩ => show win0_0.index t 0 * 1 + 1 * 0 = t.val % 8; rw [e0]; omega
    | ⟨1, _⟩ => show win0_0.index t 1 * 1024 + 1 * a.val = t.val / 8 * 1024 + a.val; rw [e1]; omega
    | ⟨2, _⟩ => show win0_0.index t 2 * 704 + 1 * k.val = k.val; rw [e2]; omega
  rw [he]
  exact hV _ _ _

theorem gate_weight_at (c : Dev nD) (t : Fin cfg0.N) (d : Fin 2048) (k : Fin 704) :
    (iblk m c 1 t : S1x2048x704.Idx → EReal) (ix3 0 d k)
      = (m ((c : Thread nD τ).loc main_arg0) : S2048x5632.Idx → EReal) (ix2 d ⟨t.val % 8 * 704 + k.val, by omega⟩) := by
  have hV : ∀ (j : Fin 8) (d : Fin 2048) (k : Fin 704), (V m c main_v5 : S8x2048x704.Idx → EReal) (ix3 j d k)
      = (m ((c : Thread nD τ).loc main_arg0) : S2048x5632.Idx → EReal) (ix2 d ⟨j.val * 704 + k.val, by omega⟩) := by
    intro j d k
    unfold V
    after_reads_at
  unfold iblk
  rw [View.read_apply]
  obtain ⟨-, -, -, e0, e1, e2, -, -, -, -, -, -, -, -⟩ := index_at t
  have he : ((cfg0.win 1).blk t).view.emb (ix3 0 d k) = (ix3 ⟨t.val % 8, by have := points t; omega⟩ ⟨d.val, by have := points t; omega⟩ ⟨k.val, by have := points t; omega⟩ : S8x2048x704.Idx) := by
    funext b; apply Fin.ext
    match b with
    | ⟨0, _⟩ => show win0_1.index t 0 * 1 + 1 * 0 = t.val % 8; rw [e0]; omega
    | ⟨1, _⟩ => show win0_1.index t 1 * 2048 + 1 * d.val = d.val; rw [e1]; omega
    | ⟨2, _⟩ => show win0_1.index t 2 * 704 + 1 * k.val = k.val; rw [e2]; omega
  rw [he]
  exact hV _ _ _

theorem up_at (c : Dev nD) (t : Fin cfg0.N) (a : Fin 1024) (k : Fin 704) :
    (iblk m c 2 t : S1x1024x704.Idx → EReal) (ix3 0 a k)
      = (m ((c : Thread nD τ).loc main_arg3) : S4096x5632.Idx → EReal) (ix2 ⟨t.val / 8 * 1024 + a.val, by have := points t; omega⟩ ⟨t.val % 8 * 704 + k.val, by omega⟩) := by
  have hV : ∀ (j : Fin 8) (s : Fin 4096) (k : Fin 704), (V m c main_v8 : S8x4096x704.Idx → EReal) (ix3 j s k)
      = (m ((c : Thread nD τ).loc main_arg3) : S4096x5632.Idx → EReal) (ix2 s ⟨j.val * 704 + k.val, by omega⟩) := by
    intro j s k
    unfold V
    after_reads_at
  unfold iblk
  rw [View.read_apply]
  obtain ⟨-, -, -, -, -, -, e0, e1, e2, -, -, -, -, -⟩ := index_at t
  have he : ((cfg0.win 2).blk t).view.emb (ix3 0 a k) = (ix3 ⟨t.val % 8, by have := points t; omega⟩ ⟨t.val / 8 * 1024 + a.val, by have := points t; omega⟩ ⟨k.val, by have := points t; omega⟩ : S8x4096x704.Idx) := by
    funext b; apply Fin.ext
    match b with
    | ⟨0, _⟩ => show win0_2.index t 0 * 1 + 1 * 0 = t.val % 8; rw [e0]; omega
    | ⟨1, _⟩ => show win0_2.index t 1 * 1024 + 1 * a.val = t.val / 8 * 1024 + a.val; rw [e1]; omega
    | ⟨2, _⟩ => show win0_2.index t 2 * 704 + 1 * k.val = k.val; rw [e2]; omega
  rw [he]
  exact hV _ _ _

theorem up_weight_at (c : Dev nD) (t : Fin cfg0.N) (d : Fin 2048) (k : Fin 704) :
    (iblk m c 3 t : S1x2048x704.Idx → EReal) (ix3 0 d k)
      = (m ((c : Thread nD τ).loc main_arg1) : S2048x5632.Idx → EReal) (ix2 d ⟨t.val % 8 * 704 + k.val, by omega⟩) := by
  have hV : ∀ (j : Fin 8) (d : Fin 2048) (k : Fin 704), (V m c main_v11 : S8x2048x704.Idx → EReal) (ix3 j d k)
      = (m ((c : Thread nD τ).loc main_arg1) : S2048x5632.Idx → EReal) (ix2 d ⟨j.val * 704 + k.val, by omega⟩) := by
    intro j d k
    unfold V
    after_reads_at
  unfold iblk
  rw [View.read_apply]
  obtain ⟨-, -, -, -, -, -, -, -, -, e0, e1, e2, -, -⟩ := index_at t
  have he : ((cfg0.win 3).blk t).view.emb (ix3 0 d k) = (ix3 ⟨t.val % 8, by have := points t; omega⟩ ⟨d.val, by have := points t; omega⟩ ⟨k.val, by have := points t; omega⟩ : S8x2048x704.Idx) := by
    funext b; apply Fin.ext
    match b with
    | ⟨0, _⟩ => show win0_3.index t 0 * 1 + 1 * 0 = t.val % 8; rw [e0]; omega
    | ⟨1, _⟩ => show win0_3.index t 1 * 2048 + 1 * d.val = d.val; rw [e1]; omega
    | ⟨2, _⟩ => show win0_3.index t 2 * 704 + 1 * k.val = k.val; rw [e2]; omega
  rw [he]
  exact hV _ _ _

/-- The term at hidden column `n` (columns counted around, so that every number names one). -/
def term (wg wu : S2048x5632.Idx → EReal) (dg du : S4096x5632.Idx → EReal) (r : Fin 4096) (d : Fin 2048) (n : ℕ) : EReal :=
  dg (ix2 r ⟨n % 5632, Nat.mod_lt _ (by decide)⟩)
      * wg (ix2 d ⟨n % 5632, Nat.mod_lt _ (by decide)⟩)
    + du (ix2 r ⟨n % 5632, Nat.mod_lt _ (by decide)⟩)
      * wu (ix2 d ⟨n % 5632, Nat.mod_lt _ (by decide)⟩)

theorem add_eq (c : Dev nD) (t : Fin cfg0.N) (a : Fin 1024) (d : Fin 2048) :
    (addend m c t : S1024x2048.Idx → EReal) (ix2 a d)
      = ∑ k : Fin 704, term (m ((c : Thread nD τ).loc main_arg0)) (m ((c : Thread nD τ).loc main_arg1)) (m ((c : Thread nD τ).loc main_arg2)) (m ((c : Thread nD τ).loc main_arg3)) ⟨t.val / 8 * 1024 + a.val, by have := points t; omega⟩ d (t.val % 8 * 704 + k.val) := by
  show (k0_pay1 (iblk m c 0 t) (iblk m c 1 t) (iblk m c 2 t) (iblk m c 3 t) : S1024x2048.Idx → EReal) (ix2 a d) = _
  pointwise [k0_pay1]
  rw [← Finset.sum_add_distrib]
  refine Finset.sum_congr rfl fun k _ => ?_
  have hm : (t.val % 8 * 704 + k.val) % 5632 = t.val % 8 * 704 + k.val := by omega
  rw [gate_at, gate_weight_at, up_at, up_weight_at]
  unfold term
  simp only [hm]

theorem total_eq (c : Dev nD) (t : Fin cfg0.N) (a : Fin 1024) (d : Fin 2048) :
    ∑ s ∈ Finset.range 8, addAt m c (ix2 a d) (t.val / 8 * 8 + s)
      = product (m ((c : Thread nD τ).loc main_arg0)) (m ((c : Thread nD τ).loc main_arg1)) (m ((c : Thread nD τ).loc main_arg2))
          (m ((c : Thread nD τ).loc main_arg3)) (ix2 ⟨t.val / 8 * 1024 + a.val, by have := points t; omega⟩ d) := by
  have hp := points t
  have hs : ∀ s ∈ Finset.range 8, addAt m c (ix2 a d) (t.val / 8 * 8 + s)
      = ∑ k : Fin 704, term (m ((c : Thread nD τ).loc main_arg0)) (m ((c : Thread nD τ).loc main_arg1)) (m ((c : Thread nD τ).loc main_arg2)) (m ((c : Thread nD τ).loc main_arg3)) ⟨t.val / 8 * 1024 + a.val, by omega⟩ d (s * 704 + k.val) := by
    intro s hs
    have hs2 : s < 8 := Finset.mem_range.mp hs
    unfold addAt
    rw [dif_pos (Nat.lt_of_lt_of_eq (by omega) N_0.symm), add_eq]
    simp only [show (t.val / 8 * 8 + s) / 8 = t.val / 8 from by omega, show (t.val / 8 * 8 + s) % 8 = s from by omega]
  rw [Finset.sum_congr rfl hs, Cert.Blocks.sum_blocks]
  refine Finset.sum_congr rfl fun k _ => ?_
  have hm : k.val % 5632 = k.val := Nat.mod_eq_of_lt k.isLt
  unfold term
  simp only [hm]
  rfl

/-- The result of the call. -/
abbrev result (c : Dev nD) : Buf (Elt Ideal) ((c : Thread nD τ).loc main_v12) :=
  product (m ((c : Thread nD τ).loc main_arg0)) (m ((c : Thread nD τ).loc main_arg1)) (m ((c : Thread nD τ).loc main_arg2)) (m ((c : Thread nD τ).loc main_arg3))

theorem flushed_eq (c : Dev nD) (t : Fin cfg0.N) (hf : (cfg0.win 4).flush t = true) :
    (dats m 0 c).flushed 4 t = ((cfg0.win 4).blk t).view.read (Elt Ideal) (result m c) := by
  have hl : t.val % 8 = 7 := (flush0_4 t).mp hf
  rw [Value.flushed4, left_eq m c t hl]
  obtain ⟨-, -, -, -, -, -, -, -, -, -, -, -, e0, e1⟩ := index_at t
  funext y
  show (((outsAt0 m c t.val t.isLt).2) : S1024x2048.Idx → EReal) y = product _ _ _ _ (((cfg0.win 4).blk t).view.emb y)
  have hy : ∃ (a : Fin 1024) (d : Fin 2048), y = (ix2 a d : S1024x2048.Idx) :=
    ⟨y 0, y 1, eq_ix2 (y : S1024x2048.Idx)⟩
  obtain ⟨a, d, rfl⟩ := hy
  have he : ((cfg0.win 4).blk t).view.emb (ix2 a d : S1024x2048.Idx)
      = (ix2 ⟨t.val / 8 * 1024 + a.val, by have := points t; omega⟩ ⟨d.val, by have := points t; omega⟩ : S4096x2048.Idx) := by
    funext z; apply Fin.ext
    match z with
    | ⟨0, _⟩ => show win0_4.index t 0 * 1024 + 1 * a.val = t.val / 8 * 1024 + a.val; rw [e0]; omega
    | ⟨1, _⟩ => show win0_4.index t 1 * 2048 + 1 * d.val = d.val; rw [e1]; omega
  rw [he]
  have hs : (((outsAt0 m c t.val t.isLt).2) : S1024x2048.Idx → EReal) (ix2 a d) = (outsAt0 m c t.val t.isLt).2 (ix2 a d) := by
    rfl
  rw [hs, full_eq m c t hl]
  exact total_eq m c t a d

theorem covered (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  let t : Fin cfg0.N := ⟨(i 0).val / 1024 * 8 + 7, by rw [show cfg0.N = 32 from N_0]; omega⟩
  have ht : t.val = (i 0).val / 1024 * 8 + 7 := rfl
  refine ⟨t, (flush0_4 t).mpr (by omega), ?_⟩
  obtain ⟨-, -, -, -, -, -, -, -, -, -, -, -, e0, e1⟩ := index_at t
  clear_value t
  show i ∈ ((View.whole main_v12).slice (win0_4.rect t)).set
  rw [View.set_slice_whole, Rect.mem_set_unit]
  intro a
  match a with
  | ⟨0, _⟩ => show win0_4.index t 0 * 1024 ≤ (i 0).val ∧ (i 0).val < win0_4.index t 0 * 1024 + 1024; rw [e0]; omega
  | ⟨1, _⟩ => show win0_4.index t 1 * 2048 ≤ (i 1).val ∧ (i 1).val < win0_4.index t 1 * 2048 + 2048; rw [e1]; omega

theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
  := (θ_run defs _ _).mono (fun r h c => ⟨(h c).1.trans ((dats m 0 c).arrAt_eq_of_cover 4 (result m c) (fun t hf => flushed_eq m c t hf) covered),
      (h c).2⟩) (Value.run_blocks m ρ)

end Cert.UpGateDxIdeal.Product

namespace Cert.UpGateDxRefIdeal.Product

open Cert.UpGateDxRefIdeal Cert.UpGateDxRefIdeal.Read

theorem value_eq (wg wu : S2048x5632.Idx → EReal) (dg du : S4096x5632.Idx → EReal) :
    (val_main_v5 (F := Ideal) wg wu dg du : S4096x2048.Idx → EReal) = Cert.UpGateDxIdeal.Product.product wg wu dg du := by
  funext i
  idx_vars i
  unfold val_main_v5 val_main_v4 val_main_v3
  pointwise [Cert.UpGateDxIdeal.Product.product]
  rw [Finset.sum_add_distrib, add_comm]

end Cert.UpGateDxRefIdeal.Product

end
-- ==== Proof.GateDw.lean ====
module

public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the gate projection, `hᵀ · d_gate`, in blocks of hidden columns and of rows -/

@[expose] public section

set_option maxRecDepth 16384

noncomputable section

open Idealize.ShloMosaic Idealize.ShloMosaic.TcCoe Idealize.SL.Sem
open Idealize.ShloMosaic.Pipeline (Dat)
open scoped BigOperators

namespace Cert.GateDwIdeal.Product

open Cert.GateDwIdeal Cert.GateDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: column block `j` of the result holds the columns `704 j …` of the product. -/
def product (h : S4096x2048.Idx → EReal) (x : S4096x5632.Idx → EReal) : S8x2048x704.Idx → EReal := fun i =>
  ∑ s : Fin 4096, h (ix2 s (i 1)) * x (ix2 s ⟨(i 0).val * 704 + (i 2).val, by
    have h0 : (i 0).val < 8 := (i 0).isLt; have h2 : (i 2).val < 704 := (i 2).isLt; omega⟩)

/-- What point `t` adds to the sum. -/
abbrev addend (c : Dev nD) (t : Fin cfg0.N) : Vec Ideal S2048x704 .f32 := k0_pay1 (iblk m c 0 t) (iblk m c 1 t)

/-- Two arrays added, element by element. -/
abbrev plus (a b : Vec Ideal S2048x704 .f32) : Vec Ideal S2048x704 .f32 := addf (F := Ideal) (s := S2048x704) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem sum_B (c : Dev nD) (t : Fin cfg0.N) (h0 : ¬cond0_0 (grid0.coords t)) (h1 : cond0_1 (grid0.coords t)) (h2 : cond0_2 (grid0.coords t)) (acc : Vec Ideal S2048x704 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem out_B (c : Dev nD) (t : Fin cfg0.N) (h0 : ¬cond0_0 (grid0.coords t)) (h1 : cond0_1 (grid0.coords t)) (h2 : cond0_2 (grid0.coords t)) (acc : Vec Ideal S2048x704 .f32) :
    out0_B_2 c (grid0.coords t) (ms0_0 t) (hs0_0 t) (ms0_1 t) (hs0_1 t) (ms0_2 t) (hs0_2 t) scM0_0 (Memref.isWhole_whole _) h0 h1 h2 (iblk m c 0 t) (iblk m c 1 t) acc = k0_pay4 (plus acc (addend m c t)) := by
  unfold out0_B_2
  rw [View.read_writes_eq_canon _ _ _ (fun y => cover0_B_2 _ _ _ _ _ _ _ _ _ _ _ _ _ _ _ _ y)]
  unfold kernelRun0_B
  dsimp only
  sl_unfold_words
  rw [View.canon_unit_zero zero3]
  rw [View.readCov_unit_zero (S := S2048x704) _ zero2]
  unfold k0_pay4 k0_pay3
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem points (t : Fin cfg0.N) : t.val < 16 := Nat.lt_of_lt_of_eq t.isLt N_0

attribute [local irreducible] outsAt0 sout0_A_0 sout0_B_0 out0_B_2

/-- The running sum after point `n`, and what point `n` adds, at one place (zero outside the grid). -/
def sumAt (c : Dev nD) (i : S2048x704.Idx) (n : ℕ) : EReal := if h : n < cfg0.N then (outsAt0 m c n h).2 i else 0
def addAt (c : Dev nD) (i : S2048x704.Idx) (n : ℕ) : EReal := if h : n < cfg0.N then addend m c ⟨n, h⟩ i else 0

theorem outs_eq (c : Dev nD) (t : Fin cfg0.N) (hz : ¬t.val % 2 = 0) :
    (outsAt0 m c t.val t.isLt).2 = plus (outsAt0 m c (t.val - 1) (by have := t.isLt; omega)).2 (addend m c t) := by
  have hr : t.val % 2 < 2 := Nat.mod_lt _ (by decide)
  have h1 : t.val % 2 = 1 := by omega
  have e := congrArg Prod.snd (outsAt0_B m c t hz h1 h1)
  dsimp only at e
  exact e.trans (sum_B m c t _ _ _ _)

theorem outs_first (c : Dev nD) (t : Fin cfg0.N) (hz : t.val % 2 = 0) : (outsAt0 m c t.val t.isLt).2 = addend m c t := by
  have hp := points t
  have h1 : ¬t.val % 2 = 1 := by omega
  have h2 : ¬t.val % 2 = 1 := by omega
  have e := congrArg Prod.snd (outsAt0_A m c t hz h1 h2)
  dsimp only at e
  exact e.trans (sum_A m c t _ _ _)

theorem sum_at (c : Dev nD) (i : S2048x704.Idx) (t : Fin cfg0.N) : sumAt m c i t.val = (outsAt0 m c t.val t.isLt).2 i := dif_pos t.isLt
theorem add_at (c : Dev nD) (i : S2048x704.Idx) (t : Fin cfg0.N) : addAt m c i t.val = addend m c t i := dif_pos t.isLt

theorem sum_eq (c : Dev nD) (i : S2048x704.Idx) : ∀ n, n < cfg0.N →
    sumAt m c i n = ∑ s ∈ Finset.range (n % 2 + 1), addAt m c i (n - n % 2 + s) := by
  refine Cert.Blocks.sum_since 2 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 2 = 1) (i : S2048x704.Idx) :
    (outsAt0 m c t.val t.isLt).2 i = ∑ s ∈ Finset.range 2, addAt m c i (t.val / 2 * 2 + s) := by
  have h := sum_eq m c i t.val t.isLt
  rw [sum_at, hf] at h
  rw [h, show t.val - 1 = t.val / 2 * 2 from by omega]

theorem left_eq (c : Dev nD) (t : Fin cfg0.N) (hf : t.val % 2 = 1) :
    (outsAt0 m c t.val t.isLt).1 = k0_pay4 ((outsAt0 m c t.val t.isLt).2) := by
  have hz : ¬t.val % 2 = 0 := by omega
  rw [outs_eq m c t hz]
  have e := congrArg Prod.fst (outsAt0_B m c t hz hf hf)
  dsimp only at e
  exact e.trans (out_B m c t _ _ _ _)

theorem index_at : ∀ t : Fin cfg0.N, win0_0.index t 0 = 0 ∧ win0_0.index t 1 = t.val % 2 ∧ win0_1.index t 0 = t.val / 2 ∧ win0_1.index t 1 = t.val % 2 ∧ win0_1.index t 2 = 0 ∧ win0_2.index t 0 = t.val / 2 ∧ win0_2.index t 1 = 0 ∧ win0_2.index t 2 = 0 :=
  (by decide +kernel : ∀ t : Fin grid0.N, _)

theorem left_at (c : Dev nD) (t : Fin cfg0.N) (d : Fin 2048) (s : Fin 2048) :
    (iblk m c 0 t : S2048x2048.Idx → EReal) (ix2 d s)
      = (m ((c : Thread nD τ).loc main_arg0) : S4096x2048.Idx → EReal) (ix2 ⟨t.val % 2 * 2048 + s.val, by omega⟩ d) := by
  have hV : ∀ (d : Fin 2048) (s : Fin 4096), (V m c main_v1 : S2048x4096.Idx → EReal) (ix2 d s)
      = (m ((c : Thread nD τ).loc main_arg0) : S4096x2048.Idx → EReal) (ix2 s d) := by
    intro d s
    unfold V
    after_reads_at
  unfold iblk
  rw [View.read_apply]
  obtain ⟨e0, e1, -, -, -, -, -, -⟩ := index_at t
  have he : ((cfg0.win 0).blk t).view.emb (ix2 d s) = (ix2 ⟨d.val, by have := points t; omega⟩ ⟨t.val % 2 * 2048 + s.val, by have := points t; omega⟩ : S2048x4096.Idx) := by
    funext b; apply Fin.ext
    match b with
    | ⟨0, _⟩ => show win0_0.index t 0 * 2048 + 1 * d.val = d.val; rw [e0]; omega
    | ⟨1, _⟩ => show win0_0.index t 1 * 2048 + 1 * s.val = t.val % 2 * 2048 + s.val; rw [e1]; omega
  rw [he]
  exact hV _ _

theorem right_at (c : Dev nD) (t : Fin cfg0.N) (s : Fin 2048) (f : Fin 704) :
    (iblk m c 1 t : S1x2048x704.Idx → EReal) (ix3 0 s f)
      = (m ((c : Thread nD τ).loc main_arg1) : S4096x5632.Idx → EReal) (ix2 ⟨t.val % 2 * 2048 + s.val, by omega⟩ ⟨t.val / 2 * 704 + f.val, by have := points t; omega⟩) := by
  have hV : ∀ (j : Fin 8) (s : Fin 4096) (f : Fin 704), (V m c main_v4 : S8x4096x704.Idx → EReal) (ix3 j s f)
      = (m ((c : Thread nD τ).loc main_arg1) : S4096x5632.Idx → EReal) (ix2 s ⟨j.val * 704 + f.val, by omega⟩) := by
    intro j s f
    unfold V
    after_reads_at
  unfold iblk
  rw [View.read_apply]
  obtain ⟨-, -, e0, e1, e2, -, -, -⟩ := index_at t
  have he : ((cfg0.win 1).blk t).view.emb (ix3 0 s f) = (ix3 ⟨t.val / 2, by have := points t; omega⟩ ⟨t.val % 2 * 2048 + s.val, by have := points t; omega⟩ ⟨f.val, by have := points t; omega⟩ : S8x4096x704.Idx) := by
    funext b; apply Fin.ext
    match b with
    | ⟨0, _⟩ => show win0_1.index t 0 * 1 + 1 * 0 = t.val / 2; rw [e0]; omega
    | ⟨1, _⟩ => show win0_1.index t 1 * 2048 + 1 * s.val = t.val % 2 * 2048 + s.val; rw [e1]; omega
    | ⟨2, _⟩ => show win0_1.index t 2 * 704 + 1 * f.val = f.val; rw [e2]; omega
  rw [he]
  exact hV _ _ _

/-- The term at row `n` of the product (rows counted around, so that every number names one). -/
def term (h : S4096x2048.Idx → EReal) (x : S4096x5632.Idx → EReal) (j : Fin 8) (d : Fin 2048) (f : Fin 704) (n : ℕ) : EReal :=
  h (ix2 ⟨n % 4096, Nat.mod_lt _ (by decide)⟩ d)
    * x (ix2 ⟨n % 4096, Nat.mod_lt _ (by decide)⟩ ⟨j.val * 704 + f.val, by omega⟩)

theorem add_eq (c : Dev nD) (t : Fin cfg0.N) (d : Fin 2048) (f : Fin 704) :
    (addend m c t : S2048x704.Idx → EReal) (ix2 d f)
      = ∑ k : Fin 2048, term (m ((c : Thread nD τ).loc main_arg0)) (m ((c : Thread nD τ).loc main_arg1)) ⟨t.val / 2, by have := points t; omega⟩ d f (t.val % 2 * 2048 + k.val) := by
  show (k0_pay1 (iblk m c 0 t) (iblk m c 1 t) : S2048x704.Idx → EReal) (ix2 d f) = _
  pointwise [k0_pay1]
  refine Finset.sum_congr rfl fun k _ => ?_
  have hm : (t.val % 2 * 2048 + k.val) % 4096 = t.val % 2 * 2048 + k.val := by omega
  rw [left_at, right_at]
  unfold term
  simp only [hm]

theorem total_eq (c : Dev nD) (t : Fin cfg0.N) (d : Fin 2048) (f : Fin 704) :
    ∑ s ∈ Finset.range 2, addAt m c (ix2 d f) (t.val / 2 * 2 + s)
      = product (m ((c : Thread nD τ).loc main_arg0)) (m ((c : Thread nD τ).loc main_arg1)) (ix3 ⟨t.val / 2, by have := points t; omega⟩ d f) := by
  have hp := points t
  have hs : ∀ s ∈ Finset.range 2, addAt m c (ix2 d f) (t.val / 2 * 2 + s)
      = ∑ k : Fin 2048, term (m ((c : Thread nD τ).loc main_arg0)) (m ((c : Thread nD τ).loc main_arg1)) ⟨t.val / 2, by omega⟩ d f (s * 2048 + k.val) := by
    intro s hs
    have hs2 : s < 2 := Finset.mem_range.mp hs
    unfold addAt
    rw [dif_pos (Nat.lt_of_lt_of_eq (by omega) N_0.symm), add_eq]
    simp only [show (t.val / 2 * 2 + s) / 2 = t.val / 2 from by omega, show (t.val / 2 * 2 + s) % 2 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v5) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 2 = 1 := (flush0_2 t).mp hf
  rw [Value.flushed2, left_eq m c t hl]
  obtain ⟨-, -, -, -, -, e0, e1, e2⟩ := index_at t
  funext y
  show (k0_pay4 ((outsAt0 m c t.val t.isLt).2) : S1x2048x704.Idx → EReal) y = product _ _ (((cfg0.win 2).blk t).view.emb y)
  have hy : ∃ (d : Fin 2048) (f : Fin 704), y = (ix3 0 d f : S1x2048x704.Idx) :=
    ⟨y 1, y 2, by rw [eq_ix3 (y : S1x2048x704.Idx)]; congr 1; exact Subsingleton.elim (α := Fin 1) _ _⟩
  obtain ⟨d, f, rfl⟩ := hy
  have he : ((cfg0.win 2).blk t).view.emb (ix3 0 d f : S1x2048x704.Idx)
      = (ix3 ⟨t.val / 2, by have := points t; omega⟩ ⟨d.val, by have := points t; omega⟩ ⟨f.val, by have := points t; omega⟩ : S8x2048x704.Idx) := by
    funext z; apply Fin.ext
    match z with
    | ⟨0, _⟩ => show win0_2.index t 0 * 1 + 1 * 0 = t.val / 2; rw [e0]; omega
    | ⟨1, _⟩ => show win0_2.index t 1 * 2048 + 1 * d.val = d.val; rw [e1]; omega
    | ⟨2, _⟩ => show win0_2.index t 2 * 704 + 1 * f.val = f.val; rw [e2]; omega
  rw [he]
  have hs : (k0_pay4 ((outsAt0 m c t.val t.isLt).2) : S1x2048x704.Idx → EReal) (ix3 0 d f) = (outsAt0 m c t.val t.isLt).2 (ix2 d f) := by
    pointwise [k0_pay4]
  rw [hs, full_eq m c t hl]
  exact total_eq m c t d f

theorem covered (i : S8x2048x704.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 704 := (i 2).isLt
  let t : Fin cfg0.N := ⟨(i 0).val * 2 + 1, by rw [show cfg0.N = 16 from N_0]; omega⟩
  have ht : t.val = (i 0).val * 2 + 1 := rfl
  refine ⟨t, (flush0_2 t).mpr (by omega), ?_⟩
  obtain ⟨-, -, -, -, -, e0, e1, e2⟩ := index_at t
  clear_value t
  show i ∈ ((View.whole main_v5).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 2048 ≤ (i 1).val ∧ (i 1).val < win0_2.index t 1 * 2048 + 2048; rw [e1]; omega
  | ⟨2, _⟩ => show win0_2.index t 2 * 704 ≤ (i 2).val ∧ (i 2).val < win0_2.index t 2 * 704 + 704; rw [e2]; omega

theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.GateDwIdeal.Product

namespace Cert.GateDwRefIdeal.Product

open Cert.GateDwRefIdeal Cert.GateDwRefIdeal.Read

theorem value_eq (h : S4096x2048.Idx → EReal) (x : S4096x5632.Idx → EReal) :
    (val_main_v5 (F := Ideal) h x : S8x2048x704.Idx → EReal) = Cert.GateDwIdeal.Product.product h x := by
  funext i
  idx_vars i
  unfold val_main_v5 val_main_v4 val_main_v3 val_main_v2
  pointwise
  exact Finset.sum_congr rfl fun k _ => mul_comm _ _

end Cert.GateDwRefIdeal.Product

end
-- ==== Proof.UpDw.lean ====
module

public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the up projection, `hᵀ · d_up`, in blocks of hidden columns and of rows -/

@[expose] public section

set_option maxRecDepth 16384

noncomputable section

open Idealize.ShloMosaic Idealize.ShloMosaic.TcCoe Idealize.SL.Sem
open Idealize.ShloMosaic.Pipeline (Dat)
open scoped BigOperators

namespace Cert.UpDwIdeal.Product

open Cert.UpDwIdeal Cert.UpDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: column block `j` of the result holds the columns `704 j …` of the product. -/
def product (h : S4096x2048.Idx → EReal) (x : S4096x5632.Idx → EReal) : S8x2048x704.Idx → EReal := fun i =>
  ∑ s : Fin 4096, h (ix2 s (i 1)) * x (ix2 s ⟨(i 0).val * 704 + (i 2).val, by
    have h0 : (i 0).val < 8 := (i 0).isLt; have h2 : (i 2).val < 704 := (i 2).isLt; omega⟩)

/-- What point `t` adds to the sum. -/
abbrev addend (c : Dev nD) (t : Fin cfg0.N) : Vec Ideal S2048x704 .f32 := k0_pay1 (iblk m c 0 t) (iblk m c 1 t)

/-- Two arrays added, element by element. -/
abbrev plus (a b : Vec Ideal S2048x704 .f32) : Vec Ideal S2048x704 .f32 := addf (F := Ideal) (s := S2048x704) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem sum_B (c : Dev nD) (t : Fin cfg0.N) (h0 : ¬cond0_0 (grid0.coords t)) (h1 : cond0_1 (grid0.coords t)) (h2 : cond0_2 (grid0.coords t)) (acc : Vec Ideal S2048x704 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem out_B (c : Dev nD) (t : Fin cfg0.N) (h0 : ¬cond0_0 (grid0.coords t)) (h1 : cond0_1 (grid0.coords t)) (h2 : cond0_2 (grid0.coords t)) (acc : Vec Ideal S2048x704 .f32) :
    out0_B_2 c (grid0.coords t) (ms0_0 t) (hs0_0 t) (ms0_1 t) (hs0_1 t) (ms0_2 t) (hs0_2 t) scM0_0 (Memref.isWhole_whole _) h0 h1 h2 (iblk m c 0 t) (iblk m c 1 t) acc = k0_pay4 (plus acc (addend m c t)) := by
  unfold out0_B_2
  rw [View.read_writes_eq_canon _ _ _ (fun y => cover0_B_2 _ _ _ _ _ _ _ _ _ _ _ _ _ _ _ _ y)]
  unfold kernelRun0_B
  dsimp only
  sl_unfold_words
  rw [View.canon_unit_zero zero3]
  rw [View.readCov_unit_zero (S := S2048x704) _ zero2]
  unfold k0_pay4 k0_pay3
  simp only [View.readAt_eq_ld, (hs0_0 t).read_unread, (hs0_1 t).read_unread, (Memref.isWhole_whole _ : scM0_0.IsWhole).read_unread, View.ld_unit_zero (S := S1x2048x704) zero3, View.ld_unit_zero (S := S2048x2048) zero2, View.ld_unit_zero (S := S2048x704) zero2, shapeCast_self]

theorem points (t : Fin cfg0.N) : t.val < 16 := Nat.lt_of_lt_of_eq t.isLt N_0

attribute [local irreducible] outsAt0 sout0_A_0 sout0_B_0 out0_B_2

/-- The running sum after point `n`, and what point `n` adds, at one place (zero outside the grid). -/
def sumAt (c : Dev nD) (i : S2048x704.Idx) (n : ℕ) : EReal := if h : n < cfg0.N then (outsAt0 m c n h).2 i else 0
def addAt (c : Dev nD) (i : S2048x704.Idx) (n : ℕ) : EReal := if h : n < cfg0.N then addend m c ⟨n, h⟩ i else 0

theorem outs_eq (c : Dev nD) (t : Fin cfg0.N) (hz : ¬t.val % 2 = 0) :
    (outsAt0 m c t.val t.isLt).2 = plus (outsAt0 m c (t.val - 1) (by have := t.isLt; omega)).2 (addend m c t) := by
  have hr : t.val % 2 < 2 := Nat.mod_lt _ (by decide)
  have h1 : t.val % 2 = 1 := by omega
  have e := congrArg Prod.snd (outsAt0_B m c t hz h1 h1)
  dsimp only at e
  exact e.trans (sum_B m c t _ _ _ _)

theorem outs_first (c : Dev nD) (t : Fin cfg0.N) (hz : t.val % 2 = 0) : (outsAt0 m c t.val t.isLt).2 = addend m c t := by
  have hp := points t
  have h1 : ¬t.val % 2 = 1 := by omega
  have h2 : ¬t.val % 2 = 1 := by omega
  have e := congrArg Prod.snd (outsAt0_A m c t hz h1 h2)
  dsimp only at e
  exact e.trans (sum_A m c t _ _ _)

theorem sum_at (c : Dev nD) (i : S2048x704.Idx) (t : Fin cfg0.N) : sumAt m c i t.val = (outsAt0 m c t.val t.isLt).2 i := dif_pos t.isLt
theorem add_at (c : Dev nD) (i : S2048x704.Idx) (t : Fin cfg0.N) : addAt m c i t.val = addend m c t i := dif_pos t.isLt

theorem sum_eq (c : Dev nD) (i : S2048x704.Idx) : ∀ n, n < cfg0.N →
    sumAt m c i n = ∑ s ∈ Finset.range (n % 2 + 1), addAt m c i (n - n % 2 + s) := by
  refine Cert.Blocks.sum_since 2 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 2 = 1) (i : S2048x704.Idx) :
    (outsAt0 m c t.val t.isLt).2 i = ∑ s ∈ Finset.range 2, addAt m c i (t.val / 2 * 2 + s) := by
  have h := sum_eq m c i t.val t.isLt
  rw [sum_at, hf] at h
  rw [h, show t.val - 1 = t.val / 2 * 2 from by omega]

theorem left_eq (c : Dev nD) (t : Fin cfg0.N) (hf : t.val % 2 = 1) :
    (outsAt0 m c t.val t.isLt).1 = k0_pay4 ((outsAt0 m c t.val t.isLt).2) := by
  have hz : ¬t.val % 2 = 0 := by omega
  rw [outs_eq m c t hz]
  have e := congrArg Prod.fst (outsAt0_B m c t hz hf hf)
  dsimp only at e
  exact e.trans (out_B m c t _ _ _ _)

theorem index_at : ∀ t : Fin cfg0.N, win0_0.index t 0 = 0 ∧ win0_0.index t 1 = t.val % 2 ∧ win0_1.index t 0 = t.val / 2 ∧ win0_1.index t 1 = t.val % 2 ∧ win0_1.index t 2 = 0 ∧ win0_2.index t 0 = t.val / 2 ∧ win0_2.index t 1 = 0 ∧ win0_2.index t 2 = 0 :=
  (by decide +kernel : ∀ t : Fin grid0.N, _)

theorem left_at (c : Dev nD) (t : Fin cfg0.N) (d : Fin 2048) (s : Fin 2048) :
    (iblk m c 0 t : S2048x2048.Idx → EReal) (ix2 d s)
      = (m ((c : Thread nD τ).loc main_arg0) : S4096x2048.Idx → EReal) (ix2 ⟨t.val % 2 * 2048 + s.val, by omega⟩ d) := by
  have hV : ∀ (d : Fin 2048) (s : Fin 4096), (V m c main_v1 : S2048x4096.Idx → EReal) (ix2 d s)
      = (m ((c : Thread nD τ).loc main_arg0) : S4096x2048.Idx → EReal) (ix2 s d) := by
    intro d s
    unfold V
    after_reads_at
  unfold iblk
  rw [View.read_apply]
  obtain ⟨e0, e1, -, -, -, -, -, -⟩ := index_at t
  have he : ((cfg0.win 0).blk t).view.emb (ix2 d s) = (ix2 ⟨d.val, by have := points t; omega⟩ ⟨t.val % 2 * 2048 + s.val, by have := points t; omega⟩ : S2048x4096.Idx) := by
    funext b; apply Fin.ext
    match b with
    | ⟨0, _⟩ => show win0_0.index t 0 * 2048 + 1 * d.val = d.val; rw [e0]; omega
    | ⟨1, _⟩ => show win0_0.index t 1 * 2048 + 1 * s.val = t.val % 2 * 2048 + s.val; rw [e1]; omega
  rw [he]
  exact hV _ _

theorem right_at (c : Dev nD) (t : Fin cfg0.N) (s : Fin 2048) (f : Fin 704) :
    (iblk m c 1 t : S1x2048x704.Idx → EReal) (ix3 0 s f)
      = (m ((c : Thread nD τ).loc main_arg1) : S4096x5632.Idx → EReal) (ix2 ⟨t.val % 2 * 2048 + s.val, by omega⟩ ⟨t.val / 2 * 704 + f.val, by have := points t; omega⟩) := by
  have hV : ∀ (j : Fin 8) (s : Fin 4096) (f : Fin 704), (V m c main_v4 : S8x4096x704.Idx → EReal) (ix3 j s f)
      = (m ((c : Thread nD τ).loc main_arg1) : S4096x5632.Idx → EReal) (ix2 s ⟨j.val * 704 + f.val, by omega⟩) := by
    intro j s f
    unfold V
    after_reads_at
  unfold iblk
  rw [View.read_apply]
  obtain ⟨-, -, e0, e1, e2, -, -, -⟩ := index_at t
  have he : ((cfg0.win 1).blk t).view.emb (ix3 0 s f) = (ix3 ⟨t.val / 2, by have := points t; omega⟩ ⟨t.val % 2 * 2048 + s.val, by have := points t; omega⟩ ⟨f.val, by have := points t; omega⟩ : S8x4096x704.Idx) := by
    funext b; apply Fin.ext
    match b with
    | ⟨0, _⟩ => show win0_1.index t 0 * 1 + 1 * 0 = t.val / 2; rw [e0]; omega
    | ⟨1, _⟩ => show win0_1.index t 1 * 2048 + 1 * s.val = t.val % 2 * 2048 + s.val; rw [e1]; omega
    | ⟨2, _⟩ => show win0_1.index t 2 * 704 + 1 * f.val = f.val; rw [e2]; omega
  rw [he]
  exact hV _ _ _

/-- The term at row `n` of the product (rows counted around, so that every number names one). -/
def term (h : S4096x2048.Idx → EReal) (x : S4096x5632.Idx → EReal) (j : Fin 8) (d : Fin 2048) (f : Fin 704) (n : ℕ) : EReal :=
  h (ix2 ⟨n % 4096, Nat.mod_lt _ (by decide)⟩ d)
    * x (ix2 ⟨n % 4096, Nat.mod_lt _ (by decide)⟩ ⟨j.val * 704 + f.val, by omega⟩)

theorem add_eq (c : Dev nD) (t : Fin cfg0.N) (d : Fin 2048) (f : Fin 704) :
    (addend m c t : S2048x704.Idx → EReal) (ix2 d f)
      = ∑ k : Fin 2048, term (m ((c : Thread nD τ).loc main_arg0)) (m ((c : Thread nD τ).loc main_arg1)) ⟨t.val / 2, by have := points t; omega⟩ d f (t.val % 2 * 2048 + k.val) := by
  show (k0_pay1 (iblk m c 0 t) (iblk m c 1 t) : S2048x704.Idx → EReal) (ix2 d f) = _
  pointwise [k0_pay1]
  refine Finset.sum_congr rfl fun k _ => ?_
  have hm : (t.val % 2 * 2048 + k.val) % 4096 = t.val % 2 * 2048 + k.val := by omega
  rw [left_at, right_at]
  unfold term
  simp only [hm]

theorem total_eq (c : Dev nD) (t : Fin cfg0.N) (d : Fin 2048) (f : Fin 704) :
    ∑ s ∈ Finset.range 2, addAt m c (ix2 d f) (t.val / 2 * 2 + s)
      = product (m ((c : Thread nD τ).loc main_arg0)) (m ((c : Thread nD τ).loc main_arg1)) (ix3 ⟨t.val / 2, by have := points t; omega⟩ d f) := by
  have hp := points t
  have hs : ∀ s ∈ Finset.range 2, addAt m c (ix2 d f) (t.val / 2 * 2 + s)
      = ∑ k : Fin 2048, term (m ((c : Thread nD τ).loc main_arg0)) (m ((c : Thread nD τ).loc main_arg1)) ⟨t.val / 2, by omega⟩ d f (s * 2048 + k.val) := by
    intro s hs
    have hs2 : s < 2 := Finset.mem_range.mp hs
    unfold addAt
    rw [dif_pos (Nat.lt_of_lt_of_eq (by omega) N_0.symm), add_eq]
    simp only [show (t.val / 2 * 2 + s) / 2 = t.val / 2 from by omega, show (t.val / 2 * 2 + s) % 2 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v5) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 2 = 1 := (flush0_2 t).mp hf
  rw [Value.flushed2, left_eq m c t hl]
  obtain ⟨-, -, -, -, -, e0, e1, e2⟩ := index_at t
  funext y
  show (k0_pay4 ((outsAt0 m c t.val t.isLt).2) : S1x2048x704.Idx → EReal) y = product _ _ (((cfg0.win 2).blk t).view.emb y)
  have hy : ∃ (d : Fin 2048) (f : Fin 704), y = (ix3 0 d f : S1x2048x704.Idx) :=
    ⟨y 1, y 2, by rw [eq_ix3 (y : S1x2048x704.Idx)]; congr 1; exact Subsingleton.elim (α := Fin 1) _ _⟩
  obtain ⟨d, f, rfl⟩ := hy
  have he : ((cfg0.win 2).blk t).view.emb (ix3 0 d f : S1x2048x704.Idx)
      = (ix3 ⟨t.val / 2, by have := points t; omega⟩ ⟨d.val, by have := points t; omega⟩ ⟨f.val, by have := points t; omega⟩ : S8x2048x704.Idx) := by
    funext z; apply Fin.ext
    match z with
    | ⟨0, _⟩ => show win0_2.index t 0 * 1 + 1 * 0 = t.val / 2; rw [e0]; omega
    | ⟨1, _⟩ => show win0_2.index t 1 * 2048 + 1 * d.val = d.val; rw [e1]; omega
    | ⟨2, _⟩ => show win0_2.index t 2 * 704 + 1 * f.val = f.val; rw [e2]; omega
  rw [he]
  have hs : (k0_pay4 ((outsAt0 m c t.val t.isLt).2) : S1x2048x704.Idx → EReal) (ix3 0 d f) = (outsAt0 m c t.val t.isLt).2 (ix2 d f) := by
    pointwise [k0_pay4]
  rw [hs, full_eq m c t hl]
  exact total_eq m c t d f

theorem covered (i : S8x2048x704.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 704 := (i 2).isLt
  let t : Fin cfg0.N := ⟨(i 0).val * 2 + 1, by rw [show cfg0.N = 16 from N_0]; omega⟩
  have ht : t.val = (i 0).val * 2 + 1 := rfl
  refine ⟨t, (flush0_2 t).mpr (by omega), ?_⟩
  obtain ⟨-, -, -, -, -, e0, e1, e2⟩ := index_at t
  clear_value t
  show i ∈ ((View.whole main_v5).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 2048 ≤ (i 1).val ∧ (i 1).val < win0_2.index t 1 * 2048 + 2048; rw [e1]; omega
  | ⟨2, _⟩ => show win0_2.index t 2 * 704 ≤ (i 2).val ∧ (i 2).val < win0_2.index t 2 * 704 + 704; rw [e2]; omega

theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.UpDwIdeal.Product

namespace Cert.UpDwRefIdeal.Product

open Cert.UpDwRefIdeal Cert.UpDwRefIdeal.Read

theorem value_eq (h : S4096x2048.Idx → EReal) (x : S4096x5632.Idx → EReal) :
    (val_main_v5 (F := Ideal) h x : S8x2048x704.Idx → EReal) = Cert.UpDwIdeal.Product.product h x := by
  funext i
  idx_vars i
  unfold val_main_v5 val_main_v4 val_main_v3 val_main_v2
  pointwise
  exact Finset.sum_congr rfl fun k _ => mul_comm _ _

end Cert.UpDwRefIdeal.Product

end
-- ==== Proof.OutDx.lean ====
module

public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Pointwise
public import Idealize.ShloMosaic.Lib.StableHlo.ReadAt
public import Idealize.ShloMosaic.Lib.Tactic

/-! # The gradient at the output projection's input, `dx1 · w_outᵀ`, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.OutDxIdeal.Product

open Cert.OutDxIdeal Cert.OutDxIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the rows of the weight. -/
def product (w : S2048x2048.Idx → EReal) (x : S4096x2048.Idx → EReal) : S4096x2048.Idx → EReal := fun i =>
  ∑ k : Fin 2048, x (ix2 (i 0) k) * w (ix2 (i 1) k)

/-- One point leaves the product of its blocks. -/
theorem left_eq (c : Dev nD) (t : Fin cfg0.N) : outsAt0 m c t = k0_pay1 (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  rw [View.canon_unit_zero zero2]
  simp only [View.readAt_eq_ld, (hs0_0 t).read_unread, (hs0_1 t).read_unread, View.ld_unit_zero (S := S2048x2048) zero2, View.ld_unit_zero (S := S512x2048) zero2]

theorem points (t : Fin cfg0.N) : t.val < 8 := Nat.lt_of_lt_of_eq t.isLt N_0

theorem index_at : ∀ t : Fin cfg0.N, win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem rows_at (c : Dev nD) (t : Fin cfg0.N) (a : Fin 512) (k : Fin 2048) :
    (iblk m c 0 t : S512x2048.Idx → EReal) (ix2 a k)
      = (m ((c : Thread nD τ).loc main_arg1) : S4096x2048.Idx → EReal) (ix2 ⟨t.val * 512 + a.val, by have := points t; omega⟩ k) := by
  have hV : ∀ (a : Fin 4096) (k : Fin 2048), (V m c main_arg1 : S4096x2048.Idx → EReal) (ix2 a k)
      = (m ((c : Thread nD τ).loc main_arg1) : S4096x2048.Idx → EReal) (ix2 a k) := by
    intro a k
    unfold V
    after_reads_at
  unfold iblk
  rw [View.read_apply]
  obtain ⟨e0, e1, -, -, -, -⟩ := index_at t
  have he : ((cfg0.win 0).blk t).view.emb (ix2 a k) = (ix2 ⟨t.val * 512 + a.val, by have := points t; omega⟩ ⟨k.val, by have := points t; omega⟩ : S4096x2048.Idx) := by
    funext z; apply Fin.ext
    match z with
    | ⟨0, _⟩ => show win0_0.index t 0 * 512 + 1 * a.val = t.val * 512 + a.val; rw [e0]; omega
    | ⟨1, _⟩ => show win0_0.index t 1 * 2048 + 1 * k.val = k.val; rw [e1]; omega
  rw [he]
  exact hV _ _

theorem weight_at (c : Dev nD) (t : Fin cfg0.N) (b : Fin 2048) (k : Fin 2048) :
    (iblk m c 1 t : S2048x2048.Idx → EReal) (ix2 b k)
      = (m ((c : Thread nD τ).loc main_arg0) : S2048x2048.Idx → EReal) (ix2 b k) := by
  have hV : ∀ (b : Fin 2048) (k : Fin 2048), (V m c main_v0 : S2048x2048.Idx → EReal) (ix2 b k)
      = (m ((c : Thread nD τ).loc main_arg0) : S2048x2048.Idx → EReal) (ix2 b k) := by
    intro b k
    unfold V
    after_reads_at
  unfold iblk
  rw [View.read_apply]
  obtain ⟨-, -, e0, e1, -, -⟩ := index_at t
  have he : ((cfg0.win 1).blk t).view.emb (ix2 b k) = (ix2 ⟨b.val, by have := points t; omega⟩ ⟨k.val, by have := points t; omega⟩ : S2048x2048.Idx) := by
    funext z; apply Fin.ext
    match z with
    | ⟨0, _⟩ => show win0_1.index t 0 * 2048 + 1 * b.val = b.val; rw [e0]; omega
    | ⟨1, _⟩ => show win0_1.index t 1 * 2048 + 1 * k.val = k.val; rw [e1]; omega
  rw [he]
  exact hV _ _

/-- The result of the call. -/
abbrev result (c : Dev nD) : Buf (Elt Ideal) ((c : Thread nD τ).loc main_v1) :=
  product (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (result m c) := by
  rw [Value.flushed2, left_eq]
  obtain ⟨-, -, -, -, e0, e1⟩ := index_at t
  funext y
  show (k0_pay1 (iblk m c 0 t) (iblk m c 1 t) : S512x2048.Idx → EReal) y = product _ _ (((cfg0.win 2).blk t).view.emb y)
  have hy : ∃ (a : Fin 512) (b : Fin 2048), y = (ix2 a b : S512x2048.Idx) :=
    ⟨y 0, y 1, eq_ix2 (y : S512x2048.Idx)⟩
  obtain ⟨a, b, rfl⟩ := hy
  have he : ((cfg0.win 2).blk t).view.emb (ix2 a b : S512x2048.Idx)
      = (ix2 ⟨t.val * 512 + a.val, by have := points t; omega⟩ ⟨b.val, by have := points t; omega⟩ : S4096x2048.Idx) := by
    funext z; apply Fin.ext
    match z with
    | ⟨0, _⟩ => show win0_2.index t 0 * 512 + 1 * a.val = t.val * 512 + a.val; rw [e0]; omega
    | ⟨1, _⟩ => show win0_2.index t 1 * 2048 + 1 * b.val = b.val; rw [e1]; omega
  rw [he]
  pointwise [k0_pay1]
  refine Finset.sum_congr rfl fun k _ => ?_
  rw [rows_at, weight_at]
  rfl

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  let t : Fin cfg0.N := ⟨(i 0).val / 512, by rw [show cfg0.N = 8 from N_0]; omega⟩
  have ht : t.val = (i 0).val / 512 := rfl
  refine ⟨t, flush0_2 t, ?_⟩
  obtain ⟨-, -, -, -, e0, e1⟩ := index_at t
  clear_value t
  show i ∈ ((View.whole main_v1).slice (win0_2.rect t)).set
  rw [View.set_slice_whole, Rect.mem_set_unit]
  intro a
  match a with
  | ⟨0, _⟩ => show win0_2.index t 0 * 512 ≤ (i 0).val ∧ (i 0).val < win0_2.index t 0 * 512 + 512; rw [e0]; omega
  | ⟨1, _⟩ => show win0_2.index t 1 * 2048 ≤ (i 1).val ∧ (i 1).val < win0_2.index t 1 * 2048 + 2048; rw [e1]; omega

theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t _ => flushed_eq m c t) covered),
      (h c).2⟩) (Value.run_blocks m ρ)

end Cert.OutDxIdeal.Product

namespace Cert.OutDxRefIdeal.Product

open Cert.OutDxRefIdeal Cert.OutDxRefIdeal.Read

theorem value_eq (w : S2048x2048.Idx → EReal) (x : S4096x2048.Idx → EReal) :
    (val_main_v2 (F := Ideal) w x : S4096x2048.Idx → EReal) = Cert.OutDxIdeal.Product.product w x := by
  funext i
  idx_vars i
  unfold val_main_v2
  pointwise
  rfl

end Cert.OutDxRefIdeal.Product

end
-- ==== Proof.OutDw.lean ====
module

public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the output projection, `yᵀ · dx1`, in blocks of columns of `y` and of rows -/

@[expose] public section

set_option maxRecDepth 16384

noncomputable section

open Idealize.ShloMosaic Idealize.ShloMosaic.TcCoe Idealize.SL.Sem
open Idealize.ShloMosaic.Pipeline (Dat)
open scoped BigOperators

namespace Cert.OutDwIdeal.Product

open Cert.OutDwIdeal Cert.OutDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the transposed left factor times the right factor. -/
def product (y : S4096x2048.Idx → EReal) (x : S4096x2048.Idx → EReal) : S2048x2048.Idx → EReal := fun i =>
  ∑ s : Fin 4096, y (ix2 s (i 0)) * x (ix2 s (i 1))

/-- What point `t` adds to the sum. -/
abbrev addend (c : Dev nD) (t : Fin cfg0.N) : Vec Ideal S1024x2048 .f32 := k0_pay1 (iblk m c 0 t) (iblk m c 1 t)

/-- Two arrays added, element by element. -/
abbrev plus (a b : Vec Ideal S1024x2048 .f32) : Vec Ideal S1024x2048 .f32 := addf (F := Ideal) (s := S1024x2048) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self]

theorem sum_B (c : Dev nD) (t : Fin cfg0.N) (h0 : ¬cond0_0 (grid0.coords t)) (h1 : cond0_1 (grid0.coords t)) (h2 : ¬cond0_2 (grid0.coords t)) (acc : Vec Ideal S1024x2048 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self]

theorem sum_C (c : Dev nD) (t : Fin cfg0.N) (h0 : ¬cond0_0 (grid0.coords t)) (h1 : cond0_1 (grid0.coords t)) (h2 : cond0_2 (grid0.coords t)) (acc : Vec Ideal S1024x2048 .f32) :
    sout0_C_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_C_0
  rw [View.read_writes_eq_canon _ _ _ (fun y => scover0_C_0 _ _ _ _ _ _ _ _ _ _ _ _ _ _ _ _ y)]
  unfold kernelRun0_C
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self]

theorem out_C (c : Dev nD) (t : Fin cfg0.N) (h0 : ¬cond0_0 (grid0.coords t)) (h1 : cond0_1 (grid0.coords t)) (h2 : cond0_2 (grid0.coords t)) (acc : Vec Ideal S1024x2048 .f32) :
    out0_C_2 c (grid0.coords t) (ms0_0 t) (hs0_0 t) (ms0_1 t) (hs0_1 t) (ms0_2 t) (hs0_2 t) scM0_0 (Memref.isWhole_whole _) h0 h1 h2 (iblk m c 0 t) (iblk m c 1 t) acc = (plus acc (addend m c t)) := by
  unfold out0_C_2
  rw [View.read_writes_eq_canon _ _ _ (fun y => cover0_C_2 _ _ _ _ _ _ _ _ _ _ _ _ _ _ _ _ y)]
  unfold kernelRun0_C
  dsimp only
  sl_unfold_words
  rw [View.canon_unit_zero zero2]
  rw [View.readCov_unit_zero (S := S1024x2048) _ zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self]

theorem points (t : Fin cfg0.N) : t.val < 8 := Nat.lt_of_lt_of_eq t.isLt N_0

attribute [local irreducible] outsAt0 sout0_A_0 sout0_B_0 sout0_C_0 out0_C_2

/-- The running sum after point `n`, and what point `n` adds, at one place (zero outside the grid). -/
def sumAt (c : Dev nD) (i : S1024x2048.Idx) (n : ℕ) : EReal := if h : n < cfg0.N then (outsAt0 m c n h).2 i else 0
def addAt (c : Dev nD) (i : S1024x2048.Idx) (n : ℕ) : EReal := if h : n < cfg0.N then addend m c ⟨n, h⟩ i else 0

theorem outs_eq (c : Dev nD) (t : Fin cfg0.N) (hz : ¬t.val % 4 = 0) :
    (outsAt0 m c t.val t.isLt).2 = plus (outsAt0 m c (t.val - 1) (by have := t.isLt; omega)).2 (addend m c t) := by
  have hr : t.val % 4 < 4 := Nat.mod_lt _ (by decide)
  have h1 : 1 ≤ t.val % 4 := by omega
  by_cases h2 : t.val % 4 = 3
  · rw [outsAt0_C m c t hz h1 h2]
    exact sum_C ..
  · rw [outsAt0_B m c t hz h1 h2]
    exact sum_B ..

theorem outs_first (c : Dev nD) (t : Fin cfg0.N) (hz : t.val % 4 = 0) : (outsAt0 m c t.val t.isLt).2 = addend m c t := by
  have hp := points t
  have h1 : ¬1 ≤ t.val % 4 := by omega
  have h2 : ¬t.val % 4 = 3 := by omega
  have e := congrArg Prod.snd (outsAt0_A m c t hz h1 h2)
  dsimp only at e
  exact e.trans (sum_A m c t _ _ _)

theorem sum_at (c : Dev nD) (i : S1024x2048.Idx) (t : Fin cfg0.N) : sumAt m c i t.val = (outsAt0 m c t.val t.isLt).2 i := dif_pos t.isLt
theorem add_at (c : Dev nD) (i : S1024x2048.Idx) (t : Fin cfg0.N) : addAt m c i t.val = addend m c t i := dif_pos t.isLt

theorem sum_eq (c : Dev nD) (i : S1024x2048.Idx) : ∀ n, n < cfg0.N →
    sumAt m c i n = ∑ s ∈ Finset.range (n % 4 + 1), addAt m c i (n - n % 4 + s) := by
  refine Cert.Blocks.sum_since 4 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 4 = 3) (i : S1024x2048.Idx) :
    (outsAt0 m c t.val t.isLt).2 i = ∑ s ∈ Finset.range 4, addAt m c i (t.val / 4 * 4 + s) := by
  have h := sum_eq m c i t.val t.isLt
  rw [sum_at, hf] at h
  rw [h, show t.val - 3 = t.val / 4 * 4 from by omega]

theorem left_eq (c : Dev nD) (t : Fin cfg0.N) (hf : t.val % 4 = 3) :
    (outsAt0 m c t.val t.isLt).1 = ((outsAt0 m c t.val t.isLt).2) := by
  have hz : ¬t.val % 4 = 0 := by omega
  rw [outs_eq m c t hz]
  have e := congrArg Prod.fst (outsAt0_C m c t hz (by omega) hf)
  dsimp only at e
  exact e.trans (out_C m c t _ _ _ _)

theorem index_at : ∀ t : Fin cfg0.N, win0_0.index t 0 = t.val / 4 ∧ win0_0.index t 1 = t.val % 4 ∧ win0_1.index t 0 = t.val % 4 ∧ win0_1.index t 1 = 0 ∧ win0_2.index t 0 = t.val / 4 ∧ win0_2.index t 1 = 0 :=
  (by decide +kernel : ∀ t : Fin grid0.N, _)

theorem left_at (c : Dev nD) (t : Fin cfg0.N) (f : Fin 1024) (s : Fin 1024) :
    (iblk m c 0 t : S1024x1024.Idx → EReal) (ix2 f s)
      = (m ((c : Thread nD τ).loc main_arg0) : S4096x2048.Idx → EReal) (ix2 ⟨t.val % 4 * 1024 + s.val, by have := points t; omega⟩ ⟨t.val / 4 * 1024 + f.val, by have := points t; omega⟩) := by
  have hV : ∀ (f : Fin 2048) (s : Fin 4096), (V m c main_v1 : S2048x4096.Idx → EReal) (ix2 f s)
      = (m ((c : Thread nD τ).loc main_arg0) : S4096x2048.Idx → EReal) (ix2 s f) := by
    intro f s
    unfold V
    after_reads_at
  unfold iblk
  rw [View.read_apply]
  obtain ⟨e0, e1, -, -, -, -⟩ := index_at t
  have he : ((cfg0.win 0).blk t).view.emb (ix2 f s) = (ix2 ⟨t.val / 4 * 1024 + f.val, by have := points t; omega⟩ ⟨t.val % 4 * 1024 + s.val, by have := points t; omega⟩ : S2048x4096.Idx) := by
    funext b; apply Fin.ext
    match b with
    | ⟨0, _⟩ => show win0_0.index t 0 * 1024 + 1 * f.val = t.val / 4 * 1024 + f.val; rw [e0]; omega
    | ⟨1, _⟩ => show win0_0.index t 1 * 1024 + 1 * s.val = t.val % 4 * 1024 + s.val; rw [e1]; omega
  rw [he]
  exact hV _ _

theorem right_at (c : Dev nD) (t : Fin cfg0.N) (s : Fin 1024) (d : Fin 2048) :
    (iblk m c 1 t : S1024x2048.Idx → EReal) (ix2 s d)
      = (m ((c : Thread nD τ).loc main_arg1) : S4096x2048.Idx → EReal) (ix2 ⟨t.val % 4 * 1024 + s.val, by have := points t; omega⟩ d) := by
  have hV : ∀ (s : Fin 4096) (d : Fin 2048), (V m c main_arg1 : S4096x2048.Idx → EReal) (ix2 s d)
      = (m ((c : Thread nD τ).loc main_arg1) : S4096x2048.Idx → EReal) (ix2 s d) := by
    intro s d
    unfold V
    after_reads_at
  unfold iblk
  rw [View.read_apply]
  obtain ⟨-, -, e0, e1, -, -⟩ := index_at t
  have he : ((cfg0.win 1).blk t).view.emb (ix2 s d) = (ix2 ⟨t.val % 4 * 1024 + s.val, by have := points t; omega⟩ ⟨d.val, by have := points t; omega⟩ : S4096x2048.Idx) := by
    funext b; apply Fin.ext
    match b with
    | ⟨0, _⟩ => show win0_1.index t 0 * 1024 + 1 * s.val = t.val % 4 * 1024 + s.val; rw [e0]; omega
    | ⟨1, _⟩ => show win0_1.index t 1 * 2048 + 1 * d.val = d.val; rw [e1]; omega
  rw [he]
  exact hV _ _

/-- The term at row `n` of the product (rows counted around, so that every number names one). -/
def term (y : S4096x2048.Idx → EReal) (x : S4096x2048.Idx → EReal) (f : Fin 2048) (d : Fin 2048) (n : ℕ) : EReal :=
  y (ix2 ⟨n % 4096, Nat.mod_lt _ (by decide)⟩ f) * x (ix2 ⟨n % 4096, Nat.mod_lt _ (by decide)⟩ d)

theorem add_eq (c : Dev nD) (t : Fin cfg0.N) (f : Fin 1024) (d : Fin 2048) :
    (addend m c t : S1024x2048.Idx → EReal) (ix2 f d)
      = ∑ k : Fin 1024, term (m ((c : Thread nD τ).loc main_arg0)) (m ((c : Thread nD τ).loc main_arg1)) ⟨t.val / 4 * 1024 + f.val, by have := points t; omega⟩ d (t.val % 4 * 1024 + k.val) := by
  have hp := points t
  show (k0_pay1 (iblk m c 0 t) (iblk m c 1 t) : S1024x2048.Idx → EReal) (ix2 f d) = _
  pointwise [k0_pay1]
  refine Finset.sum_congr rfl fun k _ => ?_
  have hm : (t.val % 4 * 1024 + k.val) % 4096 = t.val % 4 * 1024 + k.val := by omega
  rw [left_at, right_at]
  unfold term
  simp only [hm]

theorem total_eq (c : Dev nD) (t : Fin cfg0.N) (f : Fin 1024) (d : Fin 2048) :
    ∑ s ∈ Finset.range 4, addAt m c (ix2 f d) (t.val / 4 * 4 + s)
      = product (m ((c : Thread nD τ).loc main_arg0)) (m ((c : Thread nD τ).loc main_arg1)) (ix2 ⟨t.val / 4 * 1024 + f.val, by have := points t; omega⟩ d) := by
  have hp := points t
  have hs : ∀ s ∈ Finset.range 4, addAt m c (ix2 f d) (t.val / 4 * 4 + s)
      = ∑ k : Fin 1024, term (m ((c : Thread nD τ).loc main_arg0)) (m ((c : Thread nD τ).loc main_arg1)) ⟨t.val / 4 * 1024 + f.val, by have := points t; omega⟩ d (s * 1024 + k.val) := by
    intro s hs
    have hs2 : s < 4 := Finset.mem_range.mp hs
    unfold addAt
    rw [dif_pos (Nat.lt_of_lt_of_eq (by omega) N_0.symm), add_eq]
    simp only [show (t.val / 4 * 4 + s) / 4 = t.val / 4 from by omega, show (t.val / 4 * 4 + s) % 4 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v2) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 4 = 3 := (flush0_2 t).mp hf
  rw [Value.flushed2, left_eq m c t hl]
  obtain ⟨-, -, -, -, e0, e1⟩ := index_at t
  funext y
  show (((outsAt0 m c t.val t.isLt).2) : S1024x2048.Idx → EReal) y = product _ _ (((cfg0.win 2).blk t).view.emb y)
  have hy : ∃ (f : Fin 1024) (d : Fin 2048), y = (ix2 f d : S1024x2048.Idx) :=
    ⟨y 0, y 1, eq_ix2 (y : S1024x2048.Idx)⟩
  obtain ⟨f, d, rfl⟩ := hy
  have he : ((cfg0.win 2).blk t).view.emb (ix2 f d : S1024x2048.Idx)
      = (ix2 ⟨t.val / 4 * 1024 + f.val, by have := points t; omega⟩ ⟨d.val, by have := points t; omega⟩ : S2048x2048.Idx) := by
    funext z; apply Fin.ext
    match z with
    | ⟨0, _⟩ => show win0_2.index t 0 * 1024 + 1 * f.val = t.val / 4 * 1024 + f.val; rw [e0]; omega
    | ⟨1, _⟩ => show win0_2.index t 1 * 2048 + 1 * d.val = d.val; rw [e1]; omega
  rw [he]
  have hs : (((outsAt0 m c t.val t.isLt).2) : S1024x2048.Idx → EReal) (ix2 f d) = (outsAt0 m c t.val t.isLt).2 (ix2 f d) := by
    rfl
  rw [hs, full_eq m c t hl]
  exact total_eq m c t f d

theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  let t : Fin cfg0.N := ⟨(i 0).val / 1024 * 4 + 3, by rw [show cfg0.N = 8 from N_0]; omega⟩
  have ht : t.val = (i 0).val / 1024 * 4 + 3 := rfl
  refine ⟨t, (flush0_2 t).mpr (by omega), ?_⟩
  obtain ⟨-, -, -, -, e0, e1⟩ := index_at t
  clear_value t
  show i ∈ ((View.whole main_v2).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 2048 ≤ (i 1).val ∧ (i 1).val < win0_2.index t 1 * 2048 + 2048; rw [e1]; omega

theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.OutDwIdeal.Product

namespace Cert.OutDwRefIdeal.Product

open Cert.OutDwRefIdeal Cert.OutDwRefIdeal.Read

theorem value_eq (y : S4096x2048.Idx → EReal) (x : S4096x2048.Idx → EReal) :
    (val_main_v3 (F := Ideal) y x : S2048x2048.Idx → EReal) = Cert.OutDwIdeal.Product.product y x := by
  funext i
  idx_vars i
  unfold val_main_v3 val_main_v2
  pointwise
  exact Finset.sum_congr rfl fun k _ => mul_comm _ _

end Cert.OutDwRefIdeal.Product

end
-- ==== Proof.GluDx.lean ====
module

public import proofs.«01_k».proof.Proof.Gen.GluDxIdeal.Value
public import proofs.«01_k».proof.Proof.Gen.GluDxRefIdeal.Run
public import proofs.«01_k».proof.Proof.Gen.GluDxRefIdeal.Read
public import Idealize.ShloMosaic.Lib.Pointwise
public import Idealize.ShloMosaic.Lib.StableHlo.ReadAt
public import Idealize.ShloMosaic.Lib.Tactic

/-! # The gradient at the gated linear unit's input, `d_direct + d_t · w_gluᵀ`, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.GluDxIdeal.Product

open Cert.GluDxIdeal Cert.GluDxIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the rows of the weight, and what came directly. -/
def product (w : S1024x1024.Idx → EReal) (x y : S4096x1024.Idx → EReal) : S4096x1024.Idx → EReal := fun i =>
  (∑ k : Fin 1024, y (ix2 (i 0) k) * w (ix2 (i 1) k)) + x i

/-- One point leaves the product of its blocks. -/
theorem left_eq (c : Dev nD) (t : Fin cfg0.N) : outsAt0 m c t = k0_pay1 (iblk m c 0 t) (iblk m c 1 t) (iblk m c 2 t) := by
  unfold outsAt0 out0_A_3
  rw [View.read_writes_eq_canon _ _ _ (fun y => cover0_A_3 _ _ _ _ _ _ _ _ _ _ _ _ _ _ _ y)]
  unfold kernelRun0_A
  dsimp only
  rw [View.canon_unit_zero zero2]
  simp only [View.readAt_eq_ld, (hs0_0 t).read_unread, (hs0_1 t).read_unread, (hs0_2 t).read_unread, View.ld_unit_zero (S := S1024x1024) zero2, View.ld_unit_zero (S := S512x1024) zero2]

theorem points (t : Fin cfg0.N) : t.val < 8 := Nat.lt_of_lt_of_eq t.isLt N_0

theorem index_at : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 :=
  (by decide +kernel : ∀ t : Fin grid0.N, _)

theorem rows_at (c : Dev nD) (t : Fin cfg0.N) (a : Fin 512) (k : Fin 1024) :
    (iblk m c 0 t : S512x1024.Idx → EReal) (ix2 a k)
      = (m ((c : Thread nD τ).loc main_arg2) : S4096x1024.Idx → EReal) (ix2 ⟨t.val * 512 + a.val, by have := points t; omega⟩ k) := by
  have hV : ∀ (a : Fin 4096) (k : Fin 1024), (V m c main_v0 : S4096x1024.Idx → EReal) (ix2 a k)
      = (m ((c : Thread nD τ).loc main_arg2) : S4096x1024.Idx → EReal) (ix2 a k) := by
    intro a k
    unfold V
    after_reads_at
  unfold iblk
  rw [View.read_apply]
  obtain ⟨e0, e1, -, -, -, -, -, -⟩ := index_at t
  have he : ((cfg0.win 0).blk t).view.emb (ix2 a k) = (ix2 ⟨t.val * 512 + a.val, by have := points t; omega⟩ ⟨k.val, by have := points t; omega⟩ : S4096x1024.Idx) := by
    funext z; apply Fin.ext
    match z with
    | ⟨0, _⟩ => show win0_0.index t 0 * 512 + 1 * a.val = t.val * 512 + a.val; rw [e0]; omega
    | ⟨1, _⟩ => show win0_0.index t 1 * 1024 + 1 * k.val = k.val; rw [e1]; omega
  rw [he]
  exact hV _ _

theorem weight_at (c : Dev nD) (t : Fin cfg0.N) (b : Fin 1024) (k : Fin 1024) :
    (iblk m c 1 t : S1024x1024.Idx → EReal) (ix2 b k)
      = (m ((c : Thread nD τ).loc main_arg0) : S1024x1024.Idx → EReal) (ix2 b k) := by
  have hV : ∀ (b : Fin 1024) (k : Fin 1024), (V m c main_v1 : S1024x1024.Idx → EReal) (ix2 b k)
      = (m ((c : Thread nD τ).loc main_arg0) : S1024x1024.Idx → EReal) (ix2 b k) := by
    intro b k
    unfold V
    after_reads_at
  unfold iblk
  rw [View.read_apply]
  obtain ⟨-, -, e0, e1, -, -, -, -⟩ := index_at t
  have he : ((cfg0.win 1).blk t).view.emb (ix2 b k) = (ix2 ⟨b.val, by have := points t; omega⟩ ⟨k.val, by have := points t; omega⟩ : S1024x1024.Idx) := by
    funext z; apply Fin.ext
    match z with
    | ⟨0, _⟩ => show win0_1.index t 0 * 1024 + 1 * b.val = b.val; rw [e0]; omega
    | ⟨1, _⟩ => show win0_1.index t 1 * 1024 + 1 * k.val = k.val; rw [e1]; omega
  rw [he]
  exact hV _ _

theorem direct_at (c : Dev nD) (t : Fin cfg0.N) (a : Fin 512) (b : Fin 1024) :
    (iblk m c 2 t : S512x1024.Idx → EReal) (ix2 a b)
      = (m ((c : Thread nD τ).loc main_arg1) : S4096x1024.Idx → EReal) (ix2 ⟨t.val * 512 + a.val, by have := points t; omega⟩ b) := by
  have hV : ∀ (a : Fin 4096) (b : Fin 1024), (V m c main_arg1 : S4096x1024.Idx → EReal) (ix2 a b)
      = (m ((c : Thread nD τ).loc main_arg1) : S4096x1024.Idx → EReal) (ix2 a b) := by
    intro a b
    unfold V
    after_reads_at
  unfold iblk
  rw [View.read_apply]
  obtain ⟨-, -, -, -, e0, e1, -, -⟩ := index_at t
  have he : ((cfg0.win 2).blk t).view.emb (ix2 a b) = (ix2 ⟨t.val * 512 + a.val, by have := points t; omega⟩ ⟨b.val, by have := points t; omega⟩ : S4096x1024.Idx) := by
    funext z; apply Fin.ext
    match z with
    | ⟨0, _⟩ => show win0_2.index t 0 * 512 + 1 * a.val = t.val * 512 + a.val; rw [e0]; omega
    | ⟨1, _⟩ => show win0_2.index t 1 * 1024 + 1 * b.val = b.val; rw [e1]; omega
  rw [he]
  exact hV _ _

/-- The result of the call. -/
abbrev result (c : Dev nD) : Buf (Elt Ideal) ((c : Thread nD τ).loc main_v2) :=
  product (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (result m c) := by
  rw [Value.flushed3, left_eq]
  obtain ⟨-, -, -, -, -, -, e0, e1⟩ := index_at t
  funext y
  show (k0_pay1 (iblk m c 0 t) (iblk m c 1 t) (iblk m c 2 t) : S512x1024.Idx → EReal) y = product _ _ _ (((cfg0.win 3).blk t).view.emb y)
  have hy : ∃ (a : Fin 512) (b : Fin 1024), y = (ix2 a b : S512x1024.Idx) :=
    ⟨y 0, y 1, eq_ix2 (y : S512x1024.Idx)⟩
  obtain ⟨a, b, rfl⟩ := hy
  have he : ((cfg0.win 3).blk t).view.emb (ix2 a b : S512x1024.Idx)
      = (ix2 ⟨t.val * 512 + a.val, by have := points t; omega⟩ ⟨b.val, by have := points t; omega⟩ : S4096x1024.Idx) := by
    funext z; apply Fin.ext
    match z with
    | ⟨0, _⟩ => show win0_3.index t 0 * 512 + 1 * a.val = t.val * 512 + a.val; rw [e0]; omega
    | ⟨1, _⟩ => show win0_3.index t 1 * 1024 + 1 * b.val = b.val; rw [e1]; omega
  rw [he]
  pointwise [k0_pay1]
  rw [direct_at]
  refine congrArg (· + _) (Finset.sum_congr rfl fun k _ => ?_)
  rw [rows_at, weight_at]
  rfl

theorem covered (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  let t : Fin cfg0.N := ⟨(i 0).val / 512, by rw [show cfg0.N = 8 from N_0]; omega⟩
  have ht : t.val = (i 0).val / 512 := rfl
  refine ⟨t, flush0_3 t, ?_⟩
  obtain ⟨-, -, -, -, -, -, e0, e1⟩ := index_at t
  clear_value t
  show i ∈ ((View.whole main_v2).slice (win0_3.rect t)).set
  rw [View.set_slice_whole, Rect.mem_set_unit]
  intro a
  match a with
  | ⟨0, _⟩ => show win0_3.index t 0 * 512 ≤ (i 0).val ∧ (i 0).val < win0_3.index t 0 * 512 + 512; rw [e0]; omega
  | ⟨1, _⟩ => show win0_3.index t 1 * 1024 ≤ (i 1).val ∧ (i 1).val < win0_3.index t 1 * 1024 + 1024; rw [e1]; omega

theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
  := (θ_run defs _ _).mono (fun r h c => ⟨(h c).1.trans ((dats m 0 c).arrAt_eq_of_cover 3 (result m c) (fun t _ => flushed_eq m c t) covered),
      (h c).2⟩) (Value.run_blocks m ρ)

end Cert.GluDxIdeal.Product

namespace Cert.GluDxRefIdeal.Product

open Cert.GluDxRefIdeal Cert.GluDxRefIdeal.Read

theorem value_eq (w : S1024x1024.Idx → EReal) (x y : S4096x1024.Idx → EReal) :
    (val_main_v3 (F := Ideal) w x y : S4096x1024.Idx → EReal) = Cert.GluDxIdeal.Product.product w x y := by
  funext i
  idx_vars i
  unfold val_main_v3 val_main_v2
  pointwise
  rw [add_comm]
  rfl

end Cert.GluDxRefIdeal.Product

end
-- ==== Proof.GluDw.lean ====
module

public import proofs.«01_k».proof.Proof.Gen.GluDwIdeal.Value
public import proofs.«01_k».proof.Proof.Gen.GluDwRefIdeal.Run
public import proofs.«01_k».proof.Proof.Gen.GluDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the gated linear unit's projection, `yᵀ · d_t`, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.GluDwIdeal.Product

open Cert.GluDwIdeal Cert.GluDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the transposed left factor times the right factor. -/
def product (y : S4096x1024.Idx → EReal) (x : S4096x1024.Idx → EReal) : S1024x1024.Idx → EReal := fun i =>
  ∑ s : Fin 4096, y (ix2 s (i 0)) * x (ix2 s (i 1))

/-- What point `t` adds to the sum. -/
abbrev addend (c : Dev nD) (t : Fin cfg0.N) : Vec Ideal S1024x1024 .f32 := k0_pay1 (iblk m c 0 t) (iblk m c 1 t)

/-- Two arrays added, element by element. -/
abbrev plus (a b : Vec Ideal S1024x1024 .f32) : Vec Ideal S1024x1024 .f32 := addf (F := Ideal) (s := S1024x1024) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1024x1024) zero2, shapeCast_self]

theorem sum_B (c : Dev nD) (t : Fin cfg0.N) (h0 : ¬cond0_0 (grid0.coords t)) (h1 : cond0_1 (grid0.coords t)) (h2 : ¬cond0_2 (grid0.coords t)) (acc : Vec Ideal S1024x1024 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, shapeCast_self]

theorem sum_C (c : Dev nD) (t : Fin cfg0.N) (h0 : ¬cond0_0 (grid0.coords t)) (h1 : cond0_1 (grid0.coords t)) (h2 : cond0_2 (grid0.coords t)) (acc : Vec Ideal S1024x1024 .f32) :
    sout0_C_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_C_0
  rw [View.read_writes_eq_canon _ _ _ (fun y => scover0_C_0 _ _ _ _ _ _ _ _ _ _ _ _ _ _ _ _ y)]
  unfold kernelRun0_C
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, shapeCast_self]

theorem out_C (c : Dev nD) (t : Fin cfg0.N) (h0 : ¬cond0_0 (grid0.coords t)) (h1 : cond0_1 (grid0.coords t)) (h2 : cond0_2 (grid0.coords t)) (acc : Vec Ideal S1024x1024 .f32) :
    out0_C_2 c (grid0.coords t) (ms0_0 t) (hs0_0 t) (ms0_1 t) (hs0_1 t) (ms0_2 t) (hs0_2 t) scM0_0 (Memref.isWhole_whole _) h0 h1 h2 (iblk m c 0 t) (iblk m c 1 t) acc = (plus acc (addend m c t)) := by
  unfold out0_C_2
  rw [View.read_writes_eq_canon _ _ _ (fun y => cover0_C_2 _ _ _ _ _ _ _ _ _ _ _ _ _ _ _ _ y)]
  unfold kernelRun0_C
  dsimp only
  sl_unfold_words
  rw [View.canon_unit_zero zero2]
  rw [View.readCov_unit_zero (S := S1024x1024) _ zero2]
  unfold k0_pay3
  simp only [View.readAt_eq_ld, (hs0_0 t).read_unread, (hs0_1 t).read_unread, (Memref.isWhole_whole _ : scM0_0.IsWhole).read_unread, View.ld_unit_zero (S := S1024x1024) zero2, shapeCast_self]

theorem points (t : Fin cfg0.N) : t.val < 4 := Nat.lt_of_lt_of_eq t.isLt N_0

attribute [local irreducible] outsAt0 sout0_A_0 sout0_B_0 sout0_C_0 out0_C_2

/-- The running sum after point `n`, and what point `n` adds, at one place (zero outside the grid). -/
def sumAt (c : Dev nD) (i : S1024x1024.Idx) (n : ℕ) : EReal := if h : n < cfg0.N then (outsAt0 m c n h).2 i else 0
def addAt (c : Dev nD) (i : S1024x1024.Idx) (n : ℕ) : EReal := if h : n < cfg0.N then addend m c ⟨n, h⟩ i else 0

theorem outs_eq (c : Dev nD) (t : Fin cfg0.N) (hz : ¬t.val % 4 = 0) :
    (outsAt0 m c t.val t.isLt).2 = plus (outsAt0 m c (t.val - 1) (by have := t.isLt; omega)).2 (addend m c t) := by
  have hr : t.val % 4 < 4 := Nat.mod_lt _ (by decide)
  have h1 : 1 ≤ t.val := by omega
  by_cases h2 : t.val % 4 = 3
  · rw [outsAt0_C m c t hz h1 h2]
    exact sum_C ..
  · rw [outsAt0_B m c t hz h1 h2]
    exact sum_B ..

theorem outs_first (c : Dev nD) (t : Fin cfg0.N) (hz : t.val % 4 = 0) : (outsAt0 m c t.val t.isLt).2 = addend m c t := by
  have hp := points t
  have h1 : ¬1 ≤ t.val := by omega
  have h2 : ¬t.val % 4 = 3 := by omega
  have e := congrArg Prod.snd (outsAt0_A m c t hz h1 h2)
  dsimp only at e
  exact e.trans (sum_A m c t _ _ _)

theorem sum_at (c : Dev nD) (i : S1024x1024.Idx) (t : Fin cfg0.N) : sumAt m c i t.val = (outsAt0 m c t.val t.isLt).2 i := dif_pos t.isLt
theorem add_at (c : Dev nD) (i : S1024x1024.Idx) (t : Fin cfg0.N) : addAt m c i t.val = addend m c t i := dif_pos t.isLt

theorem sum_eq (c : Dev nD) (i : S1024x1024.Idx) : ∀ n, n < cfg0.N →
    sumAt m c i n = ∑ s ∈ Finset.range (n % 4 + 1), addAt m c i (n - n % 4 + s) := by
  refine Cert.Blocks.sum_since 4 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 4 = 3) (i : S1024x1024.Idx) :
    (outsAt0 m c t.val t.isLt).2 i = ∑ s ∈ Finset.range 4, addAt m c i (t.val / 4 * 4 + s) := by
  have h := sum_eq m c i t.val t.isLt
  rw [sum_at, hf] at h
  rw [h, show t.val - 3 = t.val / 4 * 4 from by omega]

theorem left_eq (c : Dev nD) (t : Fin cfg0.N) (hf : t.val % 4 = 3) :
    (outsAt0 m c t.val t.isLt).1 = ((outsAt0 m c t.val t.isLt).2) := by
  have hz : ¬t.val % 4 = 0 := by omega
  rw [outs_eq m c t hz]
  have e := congrArg Prod.fst (outsAt0_C m c t hz (by omega) hf)
  dsimp only at e
  exact e.trans (out_C m c t _ _ _ _)

theorem index_at : ∀ t : Fin cfg0.N, win0_0.index t 0 = 0 ∧ win0_0.index t 1 = t.val ∧ win0_1.index t 0 = t.val ∧ win0_1.index t 1 = 0 ∧ win0_2.index t 0 = 0 ∧ win0_2.index t 1 = 0 :=
  (by decide +kernel : ∀ t : Fin grid0.N, _)

theorem left_at (c : Dev nD) (t : Fin cfg0.N) (f : Fin 1024) (s : Fin 1024) :
    (iblk m c 0 t : S1024x1024.Idx → EReal) (ix2 f s)
      = (m ((c : Thread nD τ).loc main_arg0) : S4096x1024.Idx → EReal) (ix2 ⟨t.val * 1024 + s.val, by have := points t; omega⟩ f) := by
  have hV : ∀ (f : Fin 1024) (s : Fin 4096), (V m c main_v1 : S1024x4096.Idx → EReal) (ix2 f s)
      = (m ((c : Thread nD τ).loc main_arg0) : S4096x1024.Idx → EReal) (ix2 s f) := by
    intro f s
    unfold V
    after_reads_at
  unfold iblk
  rw [View.read_apply]
  obtain ⟨e0, e1, -, -, -, -⟩ := index_at t
  have he : ((cfg0.win 0).blk t).view.emb (ix2 f s) = (ix2 ⟨f.val, by have := points t; omega⟩ ⟨t.val * 1024 + s.val, by have := points t; omega⟩ : S1024x4096.Idx) := by
    funext b; apply Fin.ext
    match b with
    | ⟨0, _⟩ => show win0_0.index t 0 * 1024 + 1 * f.val = f.val; rw [e0]; omega
    | ⟨1, _⟩ => show win0_0.index t 1 * 1024 + 1 * s.val = t.val * 1024 + s.val; rw [e1]; omega
  rw [he]
  exact hV _ _

theorem right_at (c : Dev nD) (t : Fin cfg0.N) (s : Fin 1024) (d : Fin 1024) :
    (iblk m c 1 t : S1024x1024.Idx → EReal) (ix2 s d)
      = (m ((c : Thread nD τ).loc main_arg1) : S4096x1024.Idx → EReal) (ix2 ⟨t.val * 1024 + s.val, by have := points t; omega⟩ d) := by
  have hV : ∀ (s : Fin 4096) (d : Fin 1024), (V m c main_v2 : S4096x1024.Idx → EReal) (ix2 s d)
      = (m ((c : Thread nD τ).loc main_arg1) : S4096x1024.Idx → EReal) (ix2 s d) := by
    intro s d
    unfold V
    after_reads_at
  unfold iblk
  rw [View.read_apply]
  obtain ⟨-, -, e0, e1, -, -⟩ := index_at t
  have he : ((cfg0.win 1).blk t).view.emb (ix2 s d) = (ix2 ⟨t.val * 1024 + s.val, by have := points t; omega⟩ ⟨d.val, by have := points t; omega⟩ : S4096x1024.Idx) := by
    funext b; apply Fin.ext
    match b with
    | ⟨0, _⟩ => show win0_1.index t 0 * 1024 + 1 * s.val = t.val * 1024 + s.val; rw [e0]; omega
    | ⟨1, _⟩ => show win0_1.index t 1 * 1024 + 1 * d.val = d.val; rw [e1]; omega
  rw [he]
  exact hV _ _

/-- The term at row `n` of the product (rows counted around, so that every number names one). -/
def term (y : S4096x1024.Idx → EReal) (x : S4096x1024.Idx → EReal) (f : Fin 1024) (d : Fin 1024) (n : ℕ) : EReal :=
  y (ix2 ⟨n % 4096, Nat.mod_lt _ (by decide)⟩ f) * x (ix2 ⟨n % 4096, Nat.mod_lt _ (by decide)⟩ d)

theorem add_eq (c : Dev nD) (t : Fin cfg0.N) (f : Fin 1024) (d : Fin 1024) :
    (addend m c t : S1024x1024.Idx → EReal) (ix2 f d)
      = ∑ k : Fin 1024, term (m ((c : Thread nD τ).loc main_arg0)) (m ((c : Thread nD τ).loc main_arg1)) f d (t.val * 1024 + k.val) := by
  have hp := points t
  show (k0_pay1 (iblk m c 0 t) (iblk m c 1 t) : S1024x1024.Idx → EReal) (ix2 f d) = _
  pointwise [k0_pay1]
  refine Finset.sum_congr rfl fun k _ => ?_
  have hm : (t.val * 1024 + k.val) % 4096 = t.val * 1024 + k.val := by omega
  rw [left_at, right_at]
  unfold term
  simp only [hm]

theorem total_eq (c : Dev nD) (t : Fin cfg0.N) (f : Fin 1024) (d : Fin 1024) :
    ∑ s ∈ Finset.range 4, addAt m c (ix2 f d) (t.val / 4 * 4 + s)
      = product (m ((c : Thread nD τ).loc main_arg0)) (m ((c : Thread nD τ).loc main_arg1)) (ix2 f d) := by
  have hp := points t
  have hs : ∀ s ∈ Finset.range 4, addAt m c (ix2 f d) (t.val / 4 * 4 + s)
      = ∑ k : Fin 1024, term (m ((c : Thread nD τ).loc main_arg0)) (m ((c : Thread nD τ).loc main_arg1)) f d (s * 1024 + k.val) := by
    intro s hs
    have hs2 : s < 4 := Finset.mem_range.mp hs
    unfold addAt
    rw [dif_pos (Nat.lt_of_lt_of_eq (by omega) N_0.symm), add_eq]
    simp only [show t.val / 4 * 4 + s = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v3) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 4 = 3 := (flush0_2 t).mp hf
  rw [Value.flushed2, left_eq m c t hl]
  obtain ⟨-, -, -, -, e0, e1⟩ := index_at t
  funext y
  show (((outsAt0 m c t.val t.isLt).2) : S1024x1024.Idx → EReal) y = product _ _ (((cfg0.win 2).blk t).view.emb y)
  have hy : ∃ (f : Fin 1024) (d : Fin 1024), y = (ix2 f d : S1024x1024.Idx) :=
    ⟨y 0, y 1, eq_ix2 (y : S1024x1024.Idx)⟩
  obtain ⟨f, d, rfl⟩ := hy
  have he : ((cfg0.win 2).blk t).view.emb (ix2 f d : S1024x1024.Idx)
      = (ix2 ⟨f.val, by have := points t; omega⟩ ⟨d.val, by have := points t; omega⟩ : S1024x1024.Idx) := by
    funext z; apply Fin.ext
    match z with
    | ⟨0, _⟩ => show win0_2.index t 0 * 1024 + 1 * f.val = f.val; rw [e0]; omega
    | ⟨1, _⟩ => show win0_2.index t 1 * 1024 + 1 * d.val = d.val; rw [e1]; omega
  rw [he]
  have hs : (((outsAt0 m c t.val t.isLt).2) : S1024x1024.Idx → EReal) (ix2 f d) = (outsAt0 m c t.val t.isLt).2 (ix2 f d) := by
    rfl
  rw [hs, full_eq m c t hl]
  exact total_eq m c t f d

theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  let t : Fin cfg0.N := ⟨3, by rw [show cfg0.N = 4 from N_0]; omega⟩
  have ht : t.val = 3 := rfl
  refine ⟨t, (flush0_2 t).mpr (by omega), ?_⟩
  obtain ⟨-, -, -, -, e0, e1⟩ := index_at t
  clear_value t
  show i ∈ ((View.whole main_v3).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.GluDwIdeal.Product

namespace Cert.GluDwRefIdeal.Product

open Cert.GluDwRefIdeal Cert.GluDwRefIdeal.Read

theorem value_eq (y : S4096x1024.Idx → EReal) (x : S4096x1024.Idx → EReal) :
    (val_main_v3 (F := Ideal) y x : S1024x1024.Idx → EReal) = Cert.GluDwIdeal.Product.product y x := by
  funext i
  idx_vars i
  unfold val_main_v3 val_main_v2
  pointwise
  exact Finset.sum_congr rfl fun k _ => mul_comm _ _

end Cert.GluDwRefIdeal.Product

end
-- ==== Proof.InProj.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise
public import Idealize.ShloMosaic.Lib.StableHlo.ReadAt
public import Idealize.ShloMosaic.Lib.Tactic

/-! # The input projection, `h · w_in`, in blocks of rows and of columns -/

@[expose] public section

set_option maxRecDepth 16384

noncomputable section

open Idealize.ShloMosaic Idealize.ShloMosaic.TcCoe Idealize.SL.Sem
open Idealize.ShloMosaic.Pipeline (Dat)
open scoped BigOperators

namespace Cert.InProjIdeal.Product

open Cert.InProjIdeal Cert.InProjIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the columns of the weight. -/
def product (h : S4096x2048.Idx → EReal) (w : S2048x4096.Idx → EReal) : S4096x4096.Idx → EReal := fun i =>
  ∑ k : Fin 2048, h (ix2 (i 0) k) * w (ix2 k (i 1))

/-- One point leaves the product of its blocks. -/
theorem left_eq (c : Dev nD) (t : Fin cfg0.N) : outsAt0 m c t = k0_pay1 (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  rw [View.canon_unit_zero zero2]
  simp only [View.readAt_eq_ld, (hs0_0 t).read_unread, (hs0_1 t).read_unread, View.ld_unit_zero (S := S1x2048x512) zero3, View.ld_unit_zero (S := S2048x2048) zero2]

theorem points (t : Fin cfg0.N) : t.val < 16 := Nat.lt_of_lt_of_eq t.isLt N_0

theorem index_at : ∀ t : Fin cfg0.N, win0_0.index t 0 = t.val / 8 ∧ win0_0.index t 1 = 0 ∧ win0_1.index t 0 = t.val % 8 ∧ win0_1.index t 1 = 0 ∧ win0_1.index t 2 = 0 ∧ win0_2.index t 0 = t.val / 8 ∧ win0_2.index t 1 = t.val % 8 :=
  (by decide +kernel : ∀ t : Fin grid0.N, _)

theorem rows_at (c : Dev nD) (t : Fin cfg0.N) (a : Fin 2048) (k : Fin 2048) :
    (iblk m c 0 t : S2048x2048.Idx → EReal) (ix2 a k)
      = (m ((c : Thread nD τ).loc main_arg0) : S4096x2048.Idx → EReal) (ix2 ⟨t.val / 8 * 2048 + a.val, by have := points t; omega⟩ k) := by
  have hV : ∀ (a : Fin 4096) (k : Fin 2048), (V m c main_v0 : S4096x2048.Idx → EReal) (ix2 a k)
      = (m ((c : Thread nD τ).loc main_arg0) : S4096x2048.Idx → EReal) (ix2 a k) := by
    intro a k
    unfold V
    after_reads_at
  unfold iblk
  rw [View.read_apply]
  obtain ⟨e0, e1, -, -, -, -, -⟩ := index_at t
  have he : ((cfg0.win 0).blk t).view.emb (ix2 a k) = (ix2 ⟨t.val / 8 * 2048 + a.val, by have := points t; omega⟩ ⟨k.val, by have := points t; omega⟩ : S4096x2048.Idx) := by
    funext z; apply Fin.ext
    match z with
    | ⟨0, _⟩ => show win0_0.index t 0 * 2048 + 1 * a.val = t.val / 8 * 2048 + a.val; rw [e0]; omega
    | ⟨1, _⟩ => show win0_0.index t 1 * 2048 + 1 * k.val = k.val; rw [e1]; omega
  rw [he]
  exact hV _ _

theorem weight_at (c : Dev nD) (t : Fin cfg0.N) (k : Fin 2048) (b : Fin 512) :
    (iblk m c 1 t : S1x2048x512.Idx → EReal) (ix3 0 k b)
      = (m ((c : Thread nD τ).loc main_arg1) : S2048x4096.Idx → EReal) (ix2 k ⟨t.val % 8 * 512 + b.val, by omega⟩) := by
  have hV : ∀ (j : Fin 8) (k : Fin 2048) (b : Fin 512), (V m c main_v3 : S8x2048x512.Idx → EReal) (ix3 j k b)
      = (m ((c : Thread nD τ).loc main_arg1) : S2048x4096.Idx → EReal) (ix2 k ⟨j.val * 512 + b.val, by omega⟩) := by
    intro j k b
    unfold V
    after_reads_at
  unfold iblk
  rw [View.read_apply]
  obtain ⟨-, -, e0, e1, e2, -, -⟩ := index_at t
  have he : ((cfg0.win 1).blk t).view.emb (ix3 0 k b) = (ix3 ⟨t.val % 8, by have := points t; omega⟩ ⟨k.val, by have := points t; omega⟩ ⟨b.val, by have := points t; omega⟩ : S8x2048x512.Idx) := by
    funext z; apply Fin.ext
    match z with
    | ⟨0, _⟩ => show win0_1.index t 0 * 1 + 1 * 0 = t.val % 8; rw [e0]; omega
    | ⟨1, _⟩ => show win0_1.index t 1 * 2048 + 1 * k.val = k.val; rw [e1]; omega
    | ⟨2, _⟩ => show win0_1.index t 2 * 512 + 1 * b.val = b.val; rw [e2]; omega
  rw [he]
  exact hV _ _ _

/-- The result of the call. -/
abbrev result (c : Dev nD) : Buf (Elt Ideal) ((c : Thread nD τ).loc main_v4) :=
  product (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (result m c) := by
  rw [Value.flushed2, left_eq]
  obtain ⟨-, -, -, -, -, e0, e1⟩ := index_at t
  funext y
  show (k0_pay1 (iblk m c 0 t) (iblk m c 1 t) : S2048x512.Idx → EReal) y = product _ _ (((cfg0.win 2).blk t).view.emb y)
  have hy : ∃ (a : Fin 2048) (b : Fin 512), y = (ix2 a b : S2048x512.Idx) :=
    ⟨y 0, y 1, eq_ix2 (y : S2048x512.Idx)⟩
  obtain ⟨a, b, rfl⟩ := hy
  have he : ((cfg0.win 2).blk t).view.emb (ix2 a b : S2048x512.Idx)
      = (ix2 ⟨t.val / 8 * 2048 + a.val, by have := points t; omega⟩ ⟨t.val % 8 * 512 + b.val, by have := points t; omega⟩ : S4096x4096.Idx) := by
    funext z; apply Fin.ext
    match z with
    | ⟨0, _⟩ => show win0_2.index t 0 * 2048 + 1 * a.val = t.val / 8 * 2048 + a.val; rw [e0]; omega
    | ⟨1, _⟩ => show win0_2.index t 1 * 512 + 1 * b.val = t.val % 8 * 512 + b.val; rw [e1]; omega
  rw [he]
  pointwise [k0_pay1]
  refine Finset.sum_congr rfl fun k _ => ?_
  rw [rows_at, weight_at]
  rfl

theorem covered (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  let t : Fin cfg0.N := ⟨(i 0).val / 2048 * 8 + (i 1).val / 512, by rw [show cfg0.N = 16 from N_0]; omega⟩
  have ht : t.val = (i 0).val / 2048 * 8 + (i 1).val / 512 := rfl
  refine ⟨t, flush0_2 t, ?_⟩
  obtain ⟨-, -, -, -, -, e0, e1⟩ := index_at t
  clear_value t
  show i ∈ ((View.whole main_v4).slice (win0_2.rect t)).set
  rw [View.set_slice_whole, Rect.mem_set_unit]
  intro a
  match a with
  | ⟨0, _⟩ => show win0_2.index t 0 * 2048 ≤ (i 0).val ∧ (i 0).val < win0_2.index t 0 * 2048 + 2048; rw [e0]; omega
  | ⟨1, _⟩ => show win0_2.index t 1 * 512 ≤ (i 1).val ∧ (i 1).val < win0_2.index t 1 * 512 + 512; rw [e1]; omega

theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t _ => flushed_eq m c t) covered),
      (h c).2⟩) (Value.run_blocks m ρ)

end Cert.InProjIdeal.Product

namespace Cert.InProjRefIdeal.Product

open Cert.InProjRefIdeal Cert.InProjRefIdeal.Read

theorem value_eq (h : S4096x2048.Idx → EReal) (w : S2048x4096.Idx → EReal) :
    (val_main_v0 (F := Ideal) h w : S4096x4096.Idx → EReal) = Cert.InProjIdeal.Product.product h w := by
  funext i
  idx_vars i
  unfold val_main_v0
  pointwise
  rfl

end Cert.InProjRefIdeal.Product

end
-- ==== Proof.GluProj.lean ====
module

public import proofs.«01_k».proof.Proof.Gen.GluProjIdeal.Value
public import proofs.«01_k».proof.Proof.Gen.GluProjRefIdeal.Run
public import proofs.«01_k».proof.Proof.Gen.GluProjRefIdeal.Read
public import Idealize.ShloMosaic.Lib.Pointwise
public import Idealize.ShloMosaic.Lib.StableHlo.ReadAt
public import Idealize.ShloMosaic.Lib.Tactic

/-! # The gated linear unit's projection, `y · w_glu`, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.GluProjIdeal.Product

open Cert.GluProjIdeal Cert.GluProjIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the columns of the weight. -/
def product (y : S4096x1024.Idx → EReal) (w : S1024x1024.Idx → EReal) : S4096x1024.Idx → EReal := fun i =>
  ∑ k : Fin 1024, y (ix2 (i 0) k) * w (ix2 k (i 1))

/-- One point leaves the product of its blocks. -/
theorem left_eq (c : Dev nD) (t : Fin cfg0.N) : outsAt0 m c t = k0_pay1 (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  rw [View.canon_unit_zero zero2]
  simp only [View.readAt_eq_ld, (hs0_0 t).read_unread, (hs0_1 t).read_unread, View.ld_unit_zero (S := S1024x1024) zero2, View.ld_unit_zero (S := S512x1024) zero2]

theorem points (t : Fin cfg0.N) : t.val < 8 := Nat.lt_of_lt_of_eq t.isLt N_0

theorem index_at : ∀ t : Fin cfg0.N, win0_0.index t 0 = t.val ∧ win0_0.index t 1 = 0 ∧ win0_1.index t 0 = 0 ∧ win0_1.index t 1 = 0 ∧ win0_2.index t 0 = t.val ∧ win0_2.index t 1 = 0 :=
  (by decide +kernel : ∀ t : Fin grid0.N, _)

theorem rows_at (c : Dev nD) (t : Fin cfg0.N) (a : Fin 512) (k : Fin 1024) :
    (iblk m c 0 t : S512x1024.Idx → EReal) (ix2 a k)
      = (m ((c : Thread nD τ).loc main_arg0) : S4096x1024.Idx → EReal) (ix2 ⟨t.val * 512 + a.val, by have := points t; omega⟩ k) := by
  have hV : ∀ (a : Fin 4096) (k : Fin 1024), (V m c main_arg0 : S4096x1024.Idx → EReal) (ix2 a k)
      = (m ((c : Thread nD τ).loc main_arg0) : S4096x1024.Idx → EReal) (ix2 a k) := by
    intro a k
    unfold V
    after_reads_at
  unfold iblk
  rw [View.read_apply]
  obtain ⟨e0, e1, -, -, -, -⟩ := index_at t
  have he : ((cfg0.win 0).blk t).view.emb (ix2 a k) = (ix2 ⟨t.val * 512 + a.val, by have := points t; omega⟩ ⟨k.val, by have := points t; omega⟩ : S4096x1024.Idx) := by
    funext z; apply Fin.ext
    match z with
    | ⟨0, _⟩ => show win0_0.index t 0 * 512 + 1 * a.val = t.val * 512 + a.val; rw [e0]; omega
    | ⟨1, _⟩ => show win0_0.index t 1 * 1024 + 1 * k.val = k.val; rw [e1]; omega
  rw [he]
  exact hV _ _

theorem weight_at (c : Dev nD) (t : Fin cfg0.N) (k : Fin 1024) (b : Fin 1024) :
    (iblk m c 1 t : S1024x1024.Idx → EReal) (ix2 k b)
      = (m ((c : Thread nD τ).loc main_arg1) : S1024x1024.Idx → EReal) (ix2 k b) := by
  have hV : ∀ (k : Fin 1024) (b : Fin 1024), (V m c main_v0 : S1024x1024.Idx → EReal) (ix2 k b)
      = (m ((c : Thread nD τ).loc main_arg1) : S1024x1024.Idx → EReal) (ix2 k b) := by
    intro k b
    unfold V
    after_reads_at
  unfold iblk
  rw [View.read_apply]
  obtain ⟨-, -, e0, e1, -, -⟩ := index_at t
  have he : ((cfg0.win 1).blk t).view.emb (ix2 k b) = (ix2 ⟨k.val, by have := points t; omega⟩ ⟨b.val, by have := points t; omega⟩ : S1024x1024.Idx) := by
    funext z; apply Fin.ext
    match z with
    | ⟨0, _⟩ => show win0_1.index t 0 * 1024 + 1 * k.val = k.val; rw [e0]; omega
    | ⟨1, _⟩ => show win0_1.index t 1 * 1024 + 1 * b.val = b.val; rw [e1]; omega
  rw [he]
  exact hV _ _

/-- The result of the call. -/
abbrev result (c : Dev nD) : Buf (Elt Ideal) ((c : Thread nD τ).loc main_v1) :=
  product (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (result m c) := by
  rw [Value.flushed2, left_eq]
  obtain ⟨-, -, -, -, e0, e1⟩ := index_at t
  funext y
  show (k0_pay1 (iblk m c 0 t) (iblk m c 1 t) : S512x1024.Idx → EReal) y = product _ _ (((cfg0.win 2).blk t).view.emb y)
  have hy : ∃ (a : Fin 512) (b : Fin 1024), y = (ix2 a b : S512x1024.Idx) :=
    ⟨y 0, y 1, eq_ix2 (y : S512x1024.Idx)⟩
  obtain ⟨a, b, rfl⟩ := hy
  have he : ((cfg0.win 2).blk t).view.emb (ix2 a b : S512x1024.Idx)
      = (ix2 ⟨t.val * 512 + a.val, by have := points t; omega⟩ ⟨b.val, by have := points t; omega⟩ : S4096x1024.Idx) := by
    funext z; apply Fin.ext
    match z with
    | ⟨0, _⟩ => show win0_2.index t 0 * 512 + 1 * a.val = t.val * 512 + a.val; rw [e0]; omega
    | ⟨1, _⟩ => show win0_2.index t 1 * 1024 + 1 * b.val = b.val; rw [e1]; omega
  rw [he]
  pointwise [k0_pay1]
  refine Finset.sum_congr rfl fun k _ => ?_
  rw [rows_at, weight_at]
  rfl

theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  let t : Fin cfg0.N := ⟨(i 0).val / 512, by rw [show cfg0.N = 8 from N_0]; omega⟩
  have ht : t.val = (i 0).val / 512 := rfl
  refine ⟨t, flush0_2 t, ?_⟩
  obtain ⟨-, -, -, -, e0, e1⟩ := index_at t
  clear_value t
  show i ∈ ((View.whole main_v1).slice (win0_2.rect t)).set
  rw [View.set_slice_whole, Rect.mem_set_unit]
  intro a
  match a with
  | ⟨0, _⟩ => show win0_2.index t 0 * 512 ≤ (i 0).val ∧ (i 0).val < win0_2.index t 0 * 512 + 512; rw [e0]; omega
  | ⟨1, _⟩ => show win0_2.index t 1 * 1024 ≤ (i 1).val ∧ (i 1).val < win0_2.index t 1 * 1024 + 1024; rw [e1]; omega

theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t _ => flushed_eq m c t) covered),
      (h c).2⟩) (Value.run_blocks m ρ)

end Cert.GluProjIdeal.Product

namespace Cert.GluProjRefIdeal.Product

open Cert.GluProjRefIdeal Cert.GluProjRefIdeal.Read

theorem value_eq (y : S4096x1024.Idx → EReal) (w : S1024x1024.Idx → EReal) :
    (val_main_v0 (F := Ideal) y w : S4096x1024.Idx → EReal) = Cert.GluProjIdeal.Product.product y w := by
  funext i
  idx_vars i
  unfold val_main_v0
  pointwise
  rfl

end Cert.GluProjRefIdeal.Product

end
-- ==== Proof.GateUp.lean ====
module

public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pointwise
public import Idealize.ShloMosaic.Lib.StableHlo.ReadAt
public import Idealize.ShloMosaic.Lib.Tactic

/-! # The gate and up projections, and the gated product, in blocks of rows and of hidden columns -/

@[expose] public section

set_option maxRecDepth 16384

noncomputable section

open Idealize.ShloMosaic Idealize.ShloMosaic.TcCoe Idealize.SL.Sem
open Idealize.ShloMosaic.Pipeline (Dat)
open scoped BigOperators

namespace Cert.GateUpIdeal.Product

open Cert.GateUpIdeal Cert.GateUpIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Column block `j` of a projection holds the columns `704 j …` of the product. -/
def projection (h : S4096x2048.Idx → EReal) (w : S2048x5632.Idx → EReal) : S8x4096x704.Idx → EReal := fun i =>
  ∑ k : Fin 2048, h (ix2 (i 1) k) * w (ix2 k ⟨(i 0).val * 704 + (i 2).val, by
    have h0 : (i 0).val < 8 := (i 0).isLt; have h2 : (i 2).val < 704 := (i 2).isLt; omega⟩)

/-- The gated product, transposed within each column block. -/
def gated (h : S4096x2048.Idx → EReal) (wg wu : S2048x5632.Idx → EReal) : S8x704x4096.Idx → EReal := fun i =>
  projection h wg (ix3 (i 0) (i 2) (i 1)) * Ideal.div 1 (1 + Ideal.exp (-projection h wg (ix3 (i 0) (i 2) (i 1))))
    * projection h wu (ix3 (i 0) (i 2) (i 1))

theorem points (t : Fin cfg0.N) : t.val < 32 := Nat.lt_of_lt_of_eq t.isLt N_0

theorem left3_eq (c : Dev nD) (t : Fin cfg0.N) : (outsAt0 m c t).1 = k0_pay4 (F := Ideal) (iblk m c 0 t) (iblk m c 1 t) := by
  unfold outsAt0
  dsimp only
  unfold out0_A_3
  rw [View.read_writes_eq_canon _ _ _ (fun y => cover0_A_3 _ _ _ _ _ _ _ _ _ _ _ _ _ _ _ _ _ _ _ y)]
  unfold kernelRun0_A
  dsimp only
  rw [View.canon_unit_zero zero3]
  simp only [View.readAt_eq_ld, (hs0_0 t).read_unread, (hs0_1 t).read_unread, (hs0_2 t).read_unread, View.ld_unit_zero (S := S1024x2048) zero2, View.ld_unit_zero (S := S1x2048x704) zero3]

theorem left4_eq (c : Dev nD) (t : Fin cfg0.N) : (outsAt0 m c t).2.1 = k0_pay5 (F := Ideal) (iblk m c 0 t) (iblk m c 2 t) := by
  unfold outsAt0
  dsimp only
  unfold out0_A_4
  rw [View.read_writes_eq_canon _ _ _ (fun y => cover0_A_4 _ _ _ _ _ _ _ _ _ _ _ _ _ _ _ _ _ _ _ y)]
  unfold kernelRun0_A
  dsimp only
  rw [View.canon_unit_zero zero3]
  simp only [View.readAt_eq_ld, (hs0_0 t).read_unread, (hs0_1 t).read_unread, (hs0_2 t).read_unread, View.ld_unit_zero (S := S1024x2048) zero2, View.ld_unit_zero (S := S1x2048x704) zero3]

theorem left5_eq (c : Dev nD) (t : Fin cfg0.N) : (outsAt0 m c t).2.2 = k0_pay6 (F := Ideal) (iblk m c 0 t) (iblk m c 1 t) (iblk m c 2 t) := by
  unfold outsAt0
  dsimp only
  unfold out0_A_5
  rw [View.read_writes_eq_canon _ _ _ (fun y => cover0_A_5 _ _ _ _ _ _ _ _ _ _ _ _ _ _ _ _ _ _ _ y)]
  unfold kernelRun0_A
  dsimp only
  rw [View.canon_unit_zero zero3]
  simp only [View.readAt_eq_ld, (hs0_0 t).read_unread, (hs0_1 t).read_unread, (hs0_2 t).read_unread, View.ld_unit_zero (S := S1024x2048) zero2, View.ld_unit_zero (S := S1x2048x704) zero3]

theorem index_at : ∀ t : Fin cfg0.N, win0_0.index t 0 = t.val / 8 ∧ win0_0.index t 1 = 0
    ∧ win0_1.index t 0 = t.val % 8 ∧ win0_1.index t 1 = 0 ∧ win0_1.index t 2 = 0
    ∧ win0_2.index t 0 = t.val % 8 ∧ win0_2.index t 1 = 0 ∧ win0_2.index t 2 = 0
    ∧ win0_3.index t 0 = t.val % 8 ∧ win0_3.index t 1 = t.val / 8 ∧ win0_3.index t 2 = 0
    ∧ win0_4.index t 0 = t.val % 8 ∧ win0_4.index t 1 = t.val / 8 ∧ win0_4.index t 2 = 0
    ∧ win0_5.index t 0 = t.val % 8 ∧ win0_5.index t 1 = 0 ∧ win0_5.index t 2 = t.val / 8 :=
  (by decide +kernel : ∀ t : Fin grid0.N, _)

theorem rows_at (c : Dev nD) (t : Fin cfg0.N) (a : Fin 1024) (k : Fin 2048) :
    (iblk m c 0 t : S1024x2048.Idx → EReal) (ix2 a k)
      = (m ((c : Thread nD τ).loc main_arg0) : S4096x2048.Idx → EReal) (ix2 ⟨t.val / 8 * 1024 + a.val, by have := points t; omega⟩ k) := by
  have hV : ∀ (a : Fin 4096) (k : Fin 2048), (V m c main_v0 : S4096x2048.Idx → EReal) (ix2 a k) = (m ((c : Thread nD τ).loc main_arg0) : S4096x2048.Idx → EReal) (ix2 a k) := by
    intro a k
    unfold V
    after_reads_at
  unfold iblk
  rw [View.read_apply]
  obtain ⟨e0, e1, -⟩ := index_at t
  have he : ((cfg0.win 0).blk t).view.emb (ix2 a k) = (ix2 ⟨t.val / 8 * 1024 + a.val, by have := points t; omega⟩ k : S4096x2048.Idx) := by
    funext z; apply Fin.ext
    match z with
    | ⟨0, _⟩ => show win0_0.index t 0 * 1024 + 1 * a.val = t.val / 8 * 1024 + a.val; rw [e0]; omega
    | ⟨1, _⟩ => show win0_0.index t 1 * 2048 + 1 * k.val = k.val; rw [e1]; omega
  rw [he]
  exact hV _ _

theorem gate_weight_at (c : Dev nD) (t : Fin cfg0.N) (k : Fin 2048) (f : Fin 704) :
    (iblk m c 1 t : S1x2048x704.Idx → EReal) (ix3 0 k f)
      = (m ((c : Thread nD τ).loc main_arg1) : S2048x5632.Idx → EReal) (ix2 k ⟨t.val % 8 * 704 + f.val, by omega⟩) := by
  have hV : ∀ (j : Fin 8) (k : Fin 2048) (f : Fin 704), (V m c main_v3 : S8x2048x704.Idx → EReal) (ix3 j k f)
      = (m ((c : Thread nD τ).loc main_arg1) : S2048x5632.Idx → EReal) (ix2 k ⟨j.val * 704 + f.val, by omega⟩) := by
    intro j k f
    unfold V
    after_reads_at
  unfold iblk
  rw [View.read_apply]
  obtain ⟨-, -, e0, e1, e2, -⟩ := index_at t
  have he : ((cfg0.win 1).blk t).view.emb (ix3 0 k f) = (ix3 ⟨t.val % 8, by omega⟩ k f : S8x2048x704.Idx) := by
    funext z; apply Fin.ext
    match z with
    | ⟨0, _⟩ => show win0_1.index t 0 * 1 + 1 * 0 = t.val % 8; rw [e0]; omega
    | ⟨1, _⟩ => show win0_1.index t 1 * 2048 + 1 * k.val = k.val; rw [e1]; omega
    | ⟨2, _⟩ => show win0_1.index t 2 * 704 + 1 * f.val = f.val; rw [e2]; omega
  rw [he]
  exact hV _ k f

theorem up_weight_at (c : Dev nD) (t : Fin cfg0.N) (k : Fin 2048) (f : Fin 704) :
    (iblk m c 2 t : S1x2048x704.Idx → EReal) (ix3 0 k f)
      = (m ((c : Thread nD τ).loc main_arg2) : S2048x5632.Idx → EReal) (ix2 k ⟨t.val % 8 * 704 + f.val, by omega⟩) := by
  have hV : ∀ (j : Fin 8) (k : Fin 2048) (f : Fin 704), (V m c main_v6 : S8x2048x704.Idx → EReal) (ix3 j k f)
      = (m ((c : Thread nD τ).loc main_arg2) : S2048x5632.Idx → EReal) (ix2 k ⟨j.val * 704 + f.val, by omega⟩) := by
    intro j k f
    unfold V
    after_reads_at
  unfold iblk
  rw [View.read_apply]
  obtain ⟨-, -, -, -, -, e0, e1, e2, -⟩ := index_at t
  have he : ((cfg0.win 2).blk t).view.emb (ix3 0 k f) = (ix3 ⟨t.val % 8, by omega⟩ k f : S8x2048x704.Idx) := by
    funext z; apply Fin.ext
    match z with
    | ⟨0, _⟩ => show win0_2.index t 0 * 1 + 1 * 0 = t.val % 8; rw [e0]; omega
    | ⟨1, _⟩ => show win0_2.index t 1 * 2048 + 1 * k.val = k.val; rw [e1]; omega
    | ⟨2, _⟩ => show win0_2.index t 2 * 704 + 1 * f.val = f.val; rw [e2]; omega
  rw [he]
  exact hV _ k f

/-- A block of a projection. -/
theorem gate_sum (c : Dev nD) (t : Fin cfg0.N) (a : Fin 1024) (f : Fin 704) :
    (∑ k : Fin 2048, @HMul.hMul EReal EReal EReal instHMul ((iblk m c 0 t : S1024x2048.Idx → EReal) (ix2 a k)) ((iblk m c 1 t : S1x2048x704.Idx → EReal) (ix3 0 k f)))
      = projection (m ((c : Thread nD τ).loc main_arg0)) (m ((c : Thread nD τ).loc main_arg1)) (ix3 ⟨t.val % 8, by omega⟩ ⟨t.val / 8 * 1024 + a.val, by have := points t; omega⟩ f) :=
  Finset.sum_congr rfl fun k _ => by rw [rows_at, gate_weight_at]; rfl

theorem up_sum (c : Dev nD) (t : Fin cfg0.N) (a : Fin 1024) (f : Fin 704) :
    (∑ k : Fin 2048, @HMul.hMul EReal EReal EReal instHMul ((iblk m c 0 t : S1024x2048.Idx → EReal) (ix2 a k)) ((iblk m c 2 t : S1x2048x704.Idx → EReal) (ix3 0 k f)))
      = projection (m ((c : Thread nD τ).loc main_arg0)) (m ((c : Thread nD τ).loc main_arg2)) (ix3 ⟨t.val % 8, by omega⟩ ⟨t.val / 8 * 1024 + a.val, by have := points t; omega⟩ f) :=
  Finset.sum_congr rfl fun k _ => by rw [rows_at, up_weight_at]; rfl

/-- The results of the call. -/
abbrev result3 (c : Dev nD) : Buf (Elt Ideal) ((c : Thread nD τ).loc main_v7_0) := projection (m ((c : Thread nD τ).loc main_arg0)) (m ((c : Thread nD τ).loc main_arg1))
abbrev result4 (c : Dev nD) : Buf (Elt Ideal) ((c : Thread nD τ).loc main_v7_1) := projection (m ((c : Thread nD τ).loc main_arg0)) (m ((c : Thread nD τ).loc main_arg2))
abbrev result5 (c : Dev nD) : Buf (Elt Ideal) ((c : Thread nD τ).loc main_v7_2) := gated (m ((c : Thread nD τ).loc main_arg0)) (m ((c : Thread nD τ).loc main_arg1)) (m ((c : Thread nD τ).loc main_arg2))

theorem flushed3_eq (c : Dev nD) (t : Fin cfg0.N) :
    (dats m 0 c).flushed 3 t = ((cfg0.win 3).blk t).view.read (Elt Ideal) (result3 m c) := by
  rw [Value.flushed3, left3_eq]
  obtain ⟨-, -, -, -, -, -, -, -, e0, e1, e2, -⟩ := index_at t
  funext y
  show (k0_pay4 (iblk m c 0 t) (iblk m c 1 t) : S1x1024x704.Idx → EReal) y = projection _ _ (((cfg0.win 3).blk t).view.emb y)
  have hy : ∃ (a : Fin 1024) (b : Fin 704), y = (ix3 0 a b : S1x1024x704.Idx) :=
    ⟨y 1, y 2, by rw [eq_ix3 (y : S1x1024x704.Idx)]; congr 1; exact Subsingleton.elim (α := Fin 1) _ _⟩
  obtain ⟨a, b, rfl⟩ := hy
  have he : ((cfg0.win 3).blk t).view.emb (ix3 0 a b : S1x1024x704.Idx)
      = (ix3 ⟨t.val % 8, by omega⟩ ⟨t.val / 8 * 1024 + a.val, by have := points t; omega⟩ ⟨b.val, by have := points t; omega⟩ : S8x4096x704.Idx) := by
    funext z; apply Fin.ext
    match z with
    | ⟨0, _⟩ => show win0_3.index t 0 * 1 + 1 * 0 = t.val % 8; rw [e0]; omega
    | ⟨1, _⟩ => show win0_3.index t 1 * 1024 + 1 * a.val = t.val / 8 * 1024 + a.val; rw [e1]; omega
    | ⟨2, _⟩ => show win0_3.index t 2 * 704 + 1 * b.val = b.val; rw [e2]; omega
  rw [he]
  pointwise [k0_pay4, k0_pay2, k0_pay1]
  exact gate_sum m c t a b

theorem covered3 (i : S8x4096x704.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 704 := (i 2).isLt
  let t : Fin cfg0.N := ⟨(i 1).val / 1024 * 8 + (i 0).val, by rw [show cfg0.N = 32 from N_0]; omega⟩
  have ht : t.val = (i 1).val / 1024 * 8 + (i 0).val := rfl
  refine ⟨t, flush0_3 t, ?_⟩
  obtain ⟨-, -, -, -, -, -, -, -, e0, e1, e2, -⟩ := index_at t
  clear_value t
  show i ∈ ((View.whole main_v7_0).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 1024 ≤ (i 1).val ∧ (i 1).val < win0_3.index t 1 * 1024 + 1024; rw [e1]; omega
  | ⟨2, _⟩ => show win0_3.index t 2 * 704 ≤ (i 2).val ∧ (i 2).val < win0_3.index t 2 * 704 + 704; rw [e2]; omega

theorem flushed4_eq (c : Dev nD) (t : Fin cfg0.N) :
    (dats m 0 c).flushed 4 t = ((cfg0.win 4).blk t).view.read (Elt Ideal) (result4 m c) := by
  rw [Value.flushed4, left4_eq]
  obtain ⟨-, -, -, -, -, -, -, -, -, -, -, e0, e1, e2, -⟩ := index_at t
  funext y
  show (k0_pay5 (iblk m c 0 t) (iblk m c 2 t) : S1x1024x704.Idx → EReal) y = projection _ _ (((cfg0.win 4).blk t).view.emb y)
  have hy : ∃ (a : Fin 1024) (b : Fin 704), y = (ix3 0 a b : S1x1024x704.Idx) :=
    ⟨y 1, y 2, by rw [eq_ix3 (y : S1x1024x704.Idx)]; congr 1; exact Subsingleton.elim (α := Fin 1) _ _⟩
  obtain ⟨a, b, rfl⟩ := hy
  have he : ((cfg0.win 4).blk t).view.emb (ix3 0 a b : S1x1024x704.Idx)
      = (ix3 ⟨t.val % 8, by omega⟩ ⟨t.val / 8 * 1024 + a.val, by have := points t; omega⟩ ⟨b.val, by have := points t; omega⟩ : S8x4096x704.Idx) := by
    funext z; apply Fin.ext
    match z with
    | ⟨0, _⟩ => show win0_4.index t 0 * 1 + 1 * 0 = t.val % 8; rw [e0]; omega
    | ⟨1, _⟩ => show win0_4.index t 1 * 1024 + 1 * a.val = t.val / 8 * 1024 + a.val; rw [e1]; omega
    | ⟨2, _⟩ => show win0_4.index t 2 * 704 + 1 * b.val = b.val; rw [e2]; omega
  rw [he]
  pointwise [k0_pay5, k0_pay3, k0_pay1]
  exact up_sum m c t a b

theorem covered4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 704 := (i 2).isLt
  let t : Fin cfg0.N := ⟨(i 1).val / 1024 * 8 + (i 0).val, by rw [show cfg0.N = 32 from N_0]; omega⟩
  have ht : t.val = (i 1).val / 1024 * 8 + (i 0).val := rfl
  refine ⟨t, flush0_4 t, ?_⟩
  obtain ⟨-, -, -, -, -, -, -, -, -, -, -, e0, e1, e2, -⟩ := index_at t
  clear_value t
  show i ∈ ((View.whole main_v7_1).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 1024 ≤ (i 1).val ∧ (i 1).val < win0_4.index t 1 * 1024 + 1024; rw [e1]; omega
  | ⟨2, _⟩ => show win0_4.index t 2 * 704 ≤ (i 2).val ∧ (i 2).val < win0_4.index t 2 * 704 + 704; rw [e2]; omega

theorem flushed5_eq (c : Dev nD) (t : Fin cfg0.N) :
    (dats m 0 c).flushed 5 t = ((cfg0.win 5).blk t).view.read (Elt Ideal) (result5 m c) := by
  rw [Value.flushed5, left5_eq]
  obtain ⟨-, -, -, -, -, -, -, -, -, -, -, -, -, -, e0, e1, e2⟩ := index_at t
  funext y
  show (k0_pay6 (iblk m c 0 t) (iblk m c 1 t) (iblk m c 2 t) : S1x704x1024.Idx → EReal) y = gated _ _ _ (((cfg0.win 5).blk t).view.emb y)
  have hy : ∃ (a : Fin 704) (b : Fin 1024), y = (ix3 0 a b : S1x704x1024.Idx) :=
    ⟨y 1, y 2, by rw [eq_ix3 (y : S1x704x1024.Idx)]; congr 1; exact Subsingleton.elim (α := Fin 1) _ _⟩
  obtain ⟨a, b, rfl⟩ := hy
  have he : ((cfg0.win 5).blk t).view.emb (ix3 0 a b : S1x704x1024.Idx)
      = (ix3 ⟨t.val % 8, by omega⟩ ⟨a.val, by have := points t; omega⟩ ⟨t.val / 8 * 1024 + b.val, by have := points t; omega⟩ : S8x704x4096.Idx) := by
    funext z; apply Fin.ext
    match z with
    | ⟨0, _⟩ => show win0_5.index t 0 * 1 + 1 * 0 = t.val % 8; rw [e0]; omega
    | ⟨1, _⟩ => show win0_5.index t 1 * 704 + 1 * a.val = a.val; rw [e1]; omega
    | ⟨2, _⟩ => show win0_5.index t 2 * 1024 + 1 * b.val = t.val / 8 * 1024 + b.val; rw [e2]; omega
  rw [he]
  pointwise [k0_pay6, k0_pay2, k0_pay3, k0_pay1]
  rw [zero_sub]
  have hg := gate_sum m c t b a
  have hu := up_sum m c t b a
  unfold gated
  refine congr (congrArg HMul.hMul ?_) hu
  exact congrArg (fun g : EReal => g * Ideal.div 1 (1 + Ideal.exp (-g))) hg

theorem covered5 (i : S8x704x4096.Idx) : ∃ t : Fin cfg0.N, (cfg0.win 5).flush t = true ∧ i ∈ ((cfg0.win 5).blk t).view.set := by
  have h0 : (i 0).val < 8 := (i 0).isLt
  have h1 : (i 1).val < 704 := (i 1).isLt
  have h2 : (i 2).val < 4096 := (i 2).isLt
  let t : Fin cfg0.N := ⟨(i 2).val / 1024 * 8 + (i 0).val, by rw [show cfg0.N = 32 from N_0]; omega⟩
  have ht : t.val = (i 2).val / 1024 * 8 + (i 0).val := rfl
  refine ⟨t, flush0_5 t, ?_⟩
  obtain ⟨-, -, -, -, -, -, -, -, -, -, -, -, -, -, e0, e1, e2⟩ := index_at t
  clear_value t
  show i ∈ ((View.whole main_v7_2).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0]; omega
  | ⟨1, _⟩ => show win0_5.index t 1 * 704 ≤ (i 1).val ∧ (i 1).val < win0_5.index t 1 * 704 + 704; rw [e1]; omega
  | ⟨2, _⟩ => show win0_5.index t 2 * 1024 ≤ (i 2).val ∧ (i 2).val < win0_5.index t 2 * 1024 + 1024; rw [e2]; omega

theorem run : θ_run defs (onTc (τ := τ) (main (F := Ideal))) ⟨m, fun _ => 0, ρ⟩ fun r => ∀ c : Dev nD,
      r.2.mem ((c : Thread nD τ).loc main_v7_0) = result3 m c
      ∧ r.2.mem ((c : Thread nD τ).loc main_v7_1) = result4 m c
      ∧ r.2.mem ((c : Thread nD τ).loc main_v7_2) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (result3 m c) (fun t _ => flushed3_eq m c t) covered3),
      (h c).2.1.trans ((dats m 0 c).arrAt_eq_of_cover 4 (result4 m c) (fun t _ => flushed4_eq m c t) covered4),
      (h c).2.2.1.trans ((dats m 0 c).arrAt_eq_of_cover 5 (result5 m c) (fun t _ => flushed5_eq m c t) covered5),
      (h c).2.2.2⟩) (Value.run_blocks m ρ)

end Cert.GateUpIdeal.Product

namespace Cert.GateUpRefIdeal.Product

open Cert.GateUpRefIdeal Cert.GateUpRefIdeal.Read

theorem gate_eq (h : S4096x2048.Idx → EReal) (wg : S2048x5632.Idx → EReal) :
    (val_main_v6 (F := Ideal) h wg : S8x4096x704.Idx → EReal) = Cert.GateUpIdeal.Product.projection h wg := by
  funext i
  idx_vars i
  unfold val_main_v6 val_main_v5 val_main_v4 val_main_v0
  pointwise
  rfl

theorem up_eq (h : S4096x2048.Idx → EReal) (wu : S2048x5632.Idx → EReal) :
    (val_main_v9 (F := Ideal) h wu : S8x4096x704.Idx → EReal) = Cert.GateUpIdeal.Product.projection h wu := by
  funext i
  idx_vars i
  unfold val_main_v9 val_main_v8 val_main_v7 val_main_v1
  pointwise
  rfl

theorem gated_eq (h : S4096x2048.Idx → EReal) (wg wu : S2048x5632.Idx → EReal) :
    (val_main_v13 (F := Ideal) h wg wu : S8x704x4096.Idx → EReal) = Cert.GateUpIdeal.Product.gated h wg wu := by
  funext i
  idx_vars i
  unfold val_main_v13 val_main_v12 val_main_v11 val_main_v10 val_main_v3 val_main_v2 val_main_v1 val_main_v0 val_main_call0_v5 val_main_call0_v4
    val_main_call0_v3 val_main_call0_v2 val_main_call0_v1 val_main_call0_v0 val_main_call0_cst val_main_call0_cst_0
  pointwise
  unfold val_main_v0
  pointwise
  rfl

end Cert.GateUpRefIdeal.Product

end
-- ==== Proof.FfnDown.lean ====
module

public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Blocks
public import Idealize.ShloMosaic.Lib.Pointwise
public import Idealize.ShloMosaic.Lib.StableHlo.ReadAt
public import Idealize.ShloMosaic.Lib.Tactic

/-! # The down projection, `act · w_down`, in blocks of rows and of hidden columns -/

@[expose] public section

set_option maxRecDepth 16384

noncomputable section

open Idealize.ShloMosaic Idealize.ShloMosaic.TcCoe Idealize.SL.Sem
open Idealize.ShloMosaic.Pipeline (Dat)
open scoped BigOperators

namespace Cert.FfnDownIdeal.Product

open Cert.FfnDownIdeal Cert.FfnDownIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the columns of the weight. -/
def product (act : S4096x5632.Idx → EReal) (w : S5632x2048.Idx → EReal) : S4096x2048.Idx → EReal := fun i =>
  ∑ k : Fin 5632, act (ix2 (i 0) k) * w (ix2 k (i 1))

/-- What point `t` adds to the sum. -/
abbrev addend (c : Dev nD) (t : Fin cfg0.N) : Vec Ideal S1024x2048 .f32 := k0_pay1 (View.ld (Val := Elt Ideal) (e' := .bf16) (iblk m c 0 t : Vec Ideal S2x704x1024 .bf16) (Rect.unit (s := S2x704x1024) ![0, 0, 0] S1x704x1024.size inb_S2x704x1024_S1x704x1024_0_0_0)) (View.ld (Val := Elt Ideal) (e' := .bf16) (iblk m c 1 t : Vec Ideal S2x704x2048 .bf16) (Rect.unit (s := S2x704x2048) ![0, 0, 0] S1x704x2048.size inb_S2x704x2048_S1x704x2048_0_0_0)) (View.ld (Val := Elt Ideal) (e' := .bf16) (iblk m c 0 t : Vec Ideal S2x704x1024 .bf16) (Rect.unit (s := S2x704x1024) ![1, 0, 0] S1x704x1024.size inb_S2x704x1024_S1x704x1024_1_0_0)) (View.ld (Val := Elt Ideal) (e' := .bf16) (iblk m c 1 t : Vec Ideal S2x704x2048 .bf16) (Rect.unit (s := S2x704x2048) ![1, 0, 0] S1x704x2048.size inb_S2x704x2048_S1x704x2048_1_0_0))

/-- Two arrays added, element by element. -/
abbrev plus (a b : Vec Ideal S1024x2048 .f32) : Vec Ideal S1024x2048 .f32 := addf (F := Ideal) (s := S1024x2048) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1024x2048) zero2, shapeCast_self] <;> rfl

theorem sum_B (c : Dev nD) (t : Fin cfg0.N) (h0 : ¬cond0_0 (grid0.coords t)) (h1 : cond0_1 (grid0.coords t)) (h2 : ¬cond0_2 (grid0.coords t)) (acc : Vec Ideal S1024x2048 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x2048) zero2, shapeCast_self] <;> rfl

theorem sum_C (c : Dev nD) (t : Fin cfg0.N) (h0 : ¬cond0_0 (grid0.coords t)) (h1 : cond0_1 (grid0.coords t)) (h2 : cond0_2 (grid0.coords t)) (acc : Vec Ideal S1024x2048 .f32) :
    sout0_C_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_C_0
  rw [View.read_writes_eq_canon _ _ _ (fun y => scover0_C_0 _ _ _ _ _ _ _ _ _ _ _ _ _ _ _ _ y)]
  unfold kernelRun0_C
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x2048) zero2, shapeCast_self] <;> rfl

theorem out_C (c : Dev nD) (t : Fin cfg0.N) (h0 : ¬cond0_0 (grid0.coords t)) (h1 : cond0_1 (grid0.coords t)) (h2 : cond0_2 (grid0.coords t)) (acc : Vec Ideal S1024x2048 .f32) :
    out0_C_2 c (grid0.coords t) (ms0_0 t) (hs0_0 t) (ms0_1 t) (hs0_1 t) (ms0_2 t) (hs0_2 t) scM0_0 (Memref.isWhole_whole _) h0 h1 h2 (iblk m c 0 t) (iblk m c 1 t) acc = (plus acc (addend m c t)) := by
  unfold out0_C_2
  rw [View.read_writes_eq_canon _ _ _ (fun y => cover0_C_2 _ _ _ _ _ _ _ _ _ _ _ _ _ _ _ _ y)]
  unfold kernelRun0_C
  dsimp only
  sl_unfold_words
  rw [View.canon_unit_zero zero2]
  rw [View.readCov_unit_zero (S := S1024x2048) _ zero2]
  unfold k0_pay3
  simp only [View.readAt_eq_ld, (hs0_0 t).read_unread, (hs0_1 t).read_unread, (Memref.isWhole_whole _ : scM0_0.IsWhole).read_unread, View.ld_unit_zero (S := S1024x2048) zero2, shapeCast_self] <;> rfl

theorem points (t : Fin cfg0.N) : t.val < 16 := Nat.lt_of_lt_of_eq t.isLt N_0

attribute [local irreducible] outsAt0 sout0_A_0 sout0_B_0 sout0_C_0 out0_C_2

/-- The running sum after point `n`, and what point `n` adds, at one place (zero outside the grid). -/
def sumAt (c : Dev nD) (i : S1024x2048.Idx) (n : ℕ) : EReal := if h : n < cfg0.N then (outsAt0 m c n h).2 i else 0
def addAt (c : Dev nD) (i : S1024x2048.Idx) (n : ℕ) : EReal := if h : n < cfg0.N then addend m c ⟨n, h⟩ i else 0

theorem outs_eq (c : Dev nD) (t : Fin cfg0.N) (hz : ¬t.val % 4 = 0) :
    (outsAt0 m c t.val t.isLt).2 = plus (outsAt0 m c (t.val - 1) (by have := t.isLt; omega)).2 (addend m c t) := by
  have hr : t.val % 4 < 4 := Nat.mod_lt _ (by decide)
  have h1 : 1 ≤ t.val % 4 := by omega
  by_cases h2 : t.val % 4 = 3
  · rw [outsAt0_C m c t hz h1 h2]
    exact sum_C ..
  · rw [outsAt0_B m c t hz h1 h2]
    exact sum_B ..

theorem outs_first (c : Dev nD) (t : Fin cfg0.N) (hz : t.val % 4 = 0) : (outsAt0 m c t.val t.isLt).2 = addend m c t := by
  have hp := points t
  have h1 : ¬1 ≤ t.val % 4 := by omega
  have h2 : ¬t.val % 4 = 3 := by omega
  have e := congrArg Prod.snd (outsAt0_A m c t hz h1 h2)
  dsimp only at e
  exact e.trans (sum_A m c t _ _ _)

theorem sum_at (c : Dev nD) (i : S1024x2048.Idx) (t : Fin cfg0.N) : sumAt m c i t.val = (outsAt0 m c t.val t.isLt).2 i := dif_pos t.isLt
theorem add_at (c : Dev nD) (i : S1024x2048.Idx) (t : Fin cfg0.N) : addAt m c i t.val = addend m c t i := dif_pos t.isLt

theorem sum_eq (c : Dev nD) (i : S1024x2048.Idx) : ∀ n, n < cfg0.N →
    sumAt m c i n = ∑ s ∈ Finset.range (n % 4 + 1), addAt m c i (n - n % 4 + s) := by
  refine Cert.Blocks.sum_since 4 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 4 = 3) (i : S1024x2048.Idx) :
    (outsAt0 m c t.val t.isLt).2 i = ∑ s ∈ Finset.range 4, addAt m c i (t.val / 4 * 4 + s) := by
  have h := sum_eq m c i t.val t.isLt
  rw [sum_at, hf] at h
  rw [h, show t.val - 3 = t.val / 4 * 4 from by omega]

theorem left_eq (c : Dev nD) (t : Fin cfg0.N) (hf : t.val % 4 = 3) :
    (outsAt0 m c t.val t.isLt).1 = ((outsAt0 m c t.val t.isLt).2) := by
  have hz : ¬t.val % 4 = 0 := by omega
  rw [outs_eq m c t hz]
  have e := congrArg Prod.fst (outsAt0_C m c t hz (by omega) hf)
  dsimp only at e
  exact e.trans (out_C m c t _ _ _ _)

theorem index_at : ∀ t : Fin cfg0.N, win0_0.index t 0 = t.val % 4 ∧ win0_0.index t 1 = 0 ∧ win0_0.index t 2 = t.val / 4 ∧ win0_1.index t 0 = t.val % 4 ∧ win0_1.index t 1 = 0 ∧ win0_1.index t 2 = 0 ∧ win0_2.index t 0 = t.val / 4 ∧ win0_2.index t 1 = 0 :=
  (by decide +kernel : ∀ t : Fin grid0.N, _)

theorem left_at (c : Dev nD) (t : Fin cfg0.N) (s : Fin 2) (k : Fin 704) (a : Fin 1024) :
    (iblk m c 0 t : S2x704x1024.Idx → EReal) (ix3 s k a)
      = (m ((c : Thread nD τ).loc main_arg0) : S4096x5632.Idx → EReal) (ix2 ⟨t.val / 4 * 1024 + a.val, by have := points t; omega⟩ ⟨(t.val % 4 * 2 + s.val) * 704 + k.val, by omega⟩) := by
  have hV : ∀ (j : Fin 8) (k : Fin 704) (a : Fin 4096), (V m c main_v3 : S8x704x4096.Idx → EReal) (ix3 j k a)
      = (m ((c : Thread nD τ).loc main_arg0) : S4096x5632.Idx → EReal) (ix2 a ⟨j.val * 704 + k.val, by omega⟩) := by
    intro j k a
    unfold V
    after_reads_at
  unfold iblk
  rw [View.read_apply]
  obtain ⟨e0, e1, e2, -, -, -, -, -⟩ := index_at t
  have he : ((cfg0.win 0).blk t).view.emb (ix3 s k a) = (ix3 ⟨t.val % 4 * 2 + s.val, by have := points t; omega⟩ ⟨k.val, by have := points t; omega⟩ ⟨t.val / 4 * 1024 + a.val, by have := points t; omega⟩ : S8x704x4096.Idx) := by
    funext z; apply Fin.ext
    match z with
    | ⟨0, _⟩ => show win0_0.index t 0 * 2 + 1 * s.val = t.val % 4 * 2 + s.val; rw [e0]; omega
    | ⟨1, _⟩ => show win0_0.index t 1 * 704 + 1 * k.val = k.val; rw [e1]; omega
    | ⟨2, _⟩ => show win0_0.index t 2 * 1024 + 1 * a.val = t.val / 4 * 1024 + a.val; rw [e2]; omega
  rw [he]
  exact hV _ _ _

theorem right_at (c : Dev nD) (t : Fin cfg0.N) (s : Fin 2) (k : Fin 704) (d : Fin 2048) :
    (iblk m c 1 t : S2x704x2048.Idx → EReal) (ix3 s k d)
      = (m ((c : Thread nD τ).loc main_arg1) : S5632x2048.Idx → EReal) (ix2 ⟨(t.val % 4 * 2 + s.val) * 704 + k.val, by omega⟩ d) := by
  have hV : ∀ (j : Fin 8) (k : Fin 704) (d : Fin 2048), (V m c main_v5 : S8x704x2048.Idx → EReal) (ix3 j k d)
      = (m ((c : Thread nD τ).loc main_arg1) : S5632x2048.Idx → EReal) (ix2 ⟨j.val * 704 + k.val, by omega⟩ d) := by
    intro j k d
    unfold V
    after_reads_at
  unfold iblk
  rw [View.read_apply]
  obtain ⟨-, -, -, e0, e1, e2, -, -⟩ := index_at t
  have he : ((cfg0.win 1).blk t).view.emb (ix3 s k d) = (ix3 ⟨t.val % 4 * 2 + s.val, by have := points t; omega⟩ ⟨k.val, by have := points t; omega⟩ ⟨d.val, by have := points t; omega⟩ : S8x704x2048.Idx) := by
    funext z; apply Fin.ext
    match z with
    | ⟨0, _⟩ => show win0_1.index t 0 * 2 + 1 * s.val = t.val % 4 * 2 + s.val; rw [e0]; omega
    | ⟨1, _⟩ => show win0_1.index t 1 * 704 + 1 * k.val = k.val; rw [e1]; omega
    | ⟨2, _⟩ => show win0_1.index t 2 * 2048 + 1 * d.val = d.val; rw [e2]; omega
  rw [he]
  exact hV _ _ _

/-- The term at hidden column `n` (columns counted around, so that every number names one). -/
def term (act : S4096x5632.Idx → EReal) (w : S5632x2048.Idx → EReal) (r : Fin 4096) (d : Fin 2048) (n : ℕ) : EReal :=
  act (ix2 r ⟨n % 5632, Nat.mod_lt _ (by decide)⟩) * w (ix2 ⟨n % 5632, Nat.mod_lt _ (by decide)⟩ d)

theorem add_eq (c : Dev nD) (t : Fin cfg0.N) (a : Fin 1024) (d : Fin 2048) :
    (addend m c t : S1024x2048.Idx → EReal) (ix2 a d)
      = ∑ k : Fin 1408, term (m ((c : Thread nD τ).loc main_arg0)) (m ((c : Thread nD τ).loc main_arg1)) ⟨t.val / 4 * 1024 + a.val, by have := points t; omega⟩ d (t.val % 4 * 1408 + k.val) := by
  have hp := points t
  refine Eq.trans ?_ (Cert.Blocks.sum_blocks 2 704 (fun n => term (m ((c : Thread nD τ).loc main_arg0)) (m ((c : Thread nD τ).loc main_arg1)) ⟨t.val / 4 * 1024 + a.val, by omega⟩ d (t.val % 4 * 1408 + n)))
  rw [Finset.sum_range_succ, Finset.sum_range_one]
  unfold addend
  pointwise [k0_pay1]
  have each : ∀ (s : Fin 2) (k : Fin 704), @HMul.hMul EReal EReal EReal instHMul ((iblk m c 0 t : S2x704x1024.Idx → EReal) (ix3 s k a)) ((iblk m c 1 t : S2x704x2048.Idx → EReal) (ix3 s k d))
      = term (m ((c : Thread nD τ).loc main_arg0)) (m ((c : Thread nD τ).loc main_arg1)) ⟨t.val / 4 * 1024 + a.val, by omega⟩ d (t.val % 4 * 1408 + (s.val * 704 + k.val)) := by
    intro s k
    have hm : (t.val % 4 * 1408 + (s.val * 704 + k.val)) % 5632 = (t.val % 4 * 2 + s.val) * 704 + k.val := by omega
    rw [left_at, right_at]
    unfold term
    simp only [hm]
  refine congr (congrArg HAdd.hAdd (Finset.sum_congr rfl fun k _ => ?_)) (Finset.sum_congr rfl fun k _ => ?_)
  · exact (each 0 k).trans (by rw [show ((0 : Fin 2).val * 704 + k.val) = k.val by simp])
  · exact (each 1 k).trans (by rw [show ((1 : Fin 2).val * 704 + k.val) = 704 + k.val by simp])

theorem total_eq (c : Dev nD) (t : Fin cfg0.N) (a : Fin 1024) (d : Fin 2048) :
    ∑ s ∈ Finset.range 4, addAt m c (ix2 a d) (t.val / 4 * 4 + s)
      = product (m ((c : Thread nD τ).loc main_arg0)) (m ((c : Thread nD τ).loc main_arg1)) (ix2 ⟨t.val / 4 * 1024 + a.val, by have := points t; omega⟩ d) := by
  have hp := points t
  have hs : ∀ s ∈ Finset.range 4, addAt m c (ix2 a d) (t.val / 4 * 4 + s)
      = ∑ k : Fin 1408, term (m ((c : Thread nD τ).loc main_arg0)) (m ((c : Thread nD τ).loc main_arg1)) ⟨t.val / 4 * 1024 + a.val, by omega⟩ d (s * 1408 + k.val) := by
    intro s hs
    have hs2 : s < 4 := Finset.mem_range.mp hs
    unfold addAt
    rw [dif_pos (Nat.lt_of_lt_of_eq (by omega) N_0.symm), add_eq]
    simp only [show (t.val / 4 * 4 + s) / 4 = t.val / 4 from by omega, show (t.val / 4 * 4 + s) % 4 = s from by omega]
  rw [Finset.sum_congr rfl hs, Cert.Blocks.sum_blocks]
  refine Finset.sum_congr rfl fun k _ => ?_
  have hm : k.val % 5632 = k.val := Nat.mod_eq_of_lt k.isLt
  unfold term
  simp only [hm]
  rfl

/-- The result of the call. -/
abbrev result (c : Dev nD) : Buf (Elt Ideal) ((c : Thread nD τ).loc main_v6) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 4 = 3 := (flush0_2 t).mp hf
  rw [Value.flushed2, left_eq m c t hl]
  obtain ⟨-, -, -, -, -, -, e0, e1⟩ := index_at t
  funext y
  show (((outsAt0 m c t.val t.isLt).2) : S1024x2048.Idx → EReal) y = product _ _ (((cfg0.win 2).blk t).view.emb y)
  have hy : ∃ (a : Fin 1024) (d : Fin 2048), y = (ix2 a d : S1024x2048.Idx) :=
    ⟨y 0, y 1, eq_ix2 (y : S1024x2048.Idx)⟩
  obtain ⟨a, d, rfl⟩ := hy
  have he : ((cfg0.win 2).blk t).view.emb (ix2 a d : S1024x2048.Idx)
      = (ix2 ⟨t.val / 4 * 1024 + a.val, by have := points t; omega⟩ ⟨d.val, by have := points t; omega⟩ : S4096x2048.Idx) := by
    funext z; apply Fin.ext
    match z with
    | ⟨0, _⟩ => show win0_2.index t 0 * 1024 + 1 * a.val = t.val / 4 * 1024 + a.val; rw [e0]; omega
    | ⟨1, _⟩ => show win0_2.index t 1 * 2048 + 1 * d.val = d.val; rw [e1]; omega
  rw [he]
  have hs : (((outsAt0 m c t.val t.isLt).2) : S1024x2048.Idx → EReal) (ix2 a d) = (outsAt0 m c t.val t.isLt).2 (ix2 a d) := by
    rfl
  rw [hs, full_eq m c t hl]
  exact total_eq m c t a d

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  let t : Fin cfg0.N := ⟨(i 0).val / 1024 * 4 + 3, by rw [show cfg0.N = 16 from N_0]; omega⟩
  have ht : t.val = (i 0).val / 1024 * 4 + 3 := rfl
  refine ⟨t, (flush0_2 t).mpr (by omega), ?_⟩
  obtain ⟨-, -, -, -, -, -, e0, e1⟩ := index_at t
  clear_value t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 2048 ≤ (i 1).val ∧ (i 1).val < win0_2.index t 1 * 2048 + 2048; rw [e1]; omega

theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.FfnDownIdeal.Product

namespace Cert.FfnDownRefIdeal.Product

open Cert.FfnDownRefIdeal Cert.FfnDownRefIdeal.Read

theorem value_eq (act : S4096x5632.Idx → EReal) (w : S5632x2048.Idx → EReal) :
    (val_main_v0 (F := Ideal) act w : S4096x2048.Idx → EReal) = Cert.FfnDownIdeal.Product.product act w := by
  funext i
  idx_vars i
  unfold val_main_v0
  pointwise
  rfl

end Cert.FfnDownRefIdeal.Product

end
-- ==== Proof.InDw.lean ====
module

public import proofs.«01_k».proof.Proof.Gen.InDwIdeal.Value
public import proofs.«01_k».proof.Proof.Gen.InDwRefIdeal.Run
public import proofs.«01_k».proof.Proof.Gen.InDwRefIdeal.Read
public import proofs.«01_k».proof.Proof.Blocks
public import Idealize.ShloMosaic.Lib.Pointwise
public import Idealize.ShloMosaic.Lib.StableHlo.ReadAt
public import Idealize.ShloMosaic.Lib.Tactic

/-! # The gradient of the input projection, `hᵀ · d_z`, in blocks of columns and of rows -/

@[expose] public section

set_option maxRecDepth 16384

noncomputable section

open Idealize.ShloMosaic Idealize.ShloMosaic.TcCoe Idealize.SL.Sem
open Idealize.ShloMosaic.Pipeline (Dat)
open scoped BigOperators

namespace Cert.InDwIdeal.Product

open Cert.InDwIdeal Cert.InDwIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: column block `j` of the result holds the columns `512 j …` of the product. -/
def product (h : S4096x2048.Idx → EReal) (x : S4096x4096.Idx → EReal) : S8x2048x512.Idx → EReal := fun i =>
  ∑ s : Fin 4096, h (ix2 s (i 1)) * x (ix2 s ⟨(i 0).val * 512 + (i 2).val, by
    have h0 : (i 0).val < 8 := (i 0).isLt; have h2 : (i 2).val < 512 := (i 2).isLt; omega⟩)

/-- What point `t` adds to the sum. -/
abbrev addend (c : Dev nD) (t : Fin cfg0.N) : Vec Ideal S2048x512 .f32 := k0_pay1 (iblk m c 0 t) (iblk m c 1 t)

/-- Two arrays added, element by element. -/
abbrev plus (a b : Vec Ideal S2048x512 .f32) : Vec Ideal S2048x512 .f32 := addf (F := Ideal) (s := S2048x512) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S2048x2048) zero2, View.ld_unit_zero (S := S2048x512) zero2, shapeCast_self]

theorem sum_B (c : Dev nD) (t : Fin cfg0.N) (h0 : ¬cond0_0 (grid0.coords t)) (h1 : cond0_1 (grid0.coords t)) (h2 : cond0_2 (grid0.coords t)) (acc : Vec Ideal S2048x512 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S2048x2048) zero2, View.ld_unit_zero (S := S2048x512) zero2, shapeCast_self]

theorem out_B (c : Dev nD) (t : Fin cfg0.N) (h0 : ¬cond0_0 (grid0.coords t)) (h1 : cond0_1 (grid0.coords t)) (h2 : cond0_2 (grid0.coords t)) (acc : Vec Ideal S2048x512 .f32) :
    out0_B_2 c (grid0.coords t) (ms0_0 t) (hs0_0 t) (ms0_1 t) (hs0_1 t) (ms0_2 t) (hs0_2 t) scM0_0 (Memref.isWhole_whole _) h0 h1 h2 (iblk m c 0 t) (iblk m c 1 t) acc = k0_pay4 (plus acc (addend m c t)) := by
  unfold out0_B_2
  rw [View.read_writes_eq_canon _ _ _ (fun y => cover0_B_2 _ _ _ _ _ _ _ _ _ _ _ _ _ _ _ _ y)]
  unfold kernelRun0_B
  dsimp only
  sl_unfold_words
  rw [View.canon_unit_zero zero3]
  rw [View.readCov_unit_zero (S := S2048x512) _ zero2]
  unfold k0_pay4 k0_pay3
  simp only [View.readAt_eq_ld, (hs0_0 t).read_unread, (hs0_1 t).read_unread, (Memref.isWhole_whole _ : scM0_0.IsWhole).read_unread, View.ld_unit_zero (S := S2048x2048) zero2, View.ld_unit_zero (S := S2048x512) zero2, shapeCast_self]

theorem points (t : Fin cfg0.N) : t.val < 16 := Nat.lt_of_lt_of_eq t.isLt N_0

attribute [local irreducible] outsAt0 sout0_A_0 sout0_B_0 out0_B_2

/-- The running sum after point `n`, and what point `n` adds, at one place (zero outside the grid). -/
def sumAt (c : Dev nD) (i : S2048x512.Idx) (n : ℕ) : EReal := if h : n < cfg0.N then (outsAt0 m c n h).2 i else 0
def addAt (c : Dev nD) (i : S2048x512.Idx) (n : ℕ) : EReal := if h : n < cfg0.N then addend m c ⟨n, h⟩ i else 0

theorem outs_eq (c : Dev nD) (t : Fin cfg0.N) (hz : ¬t.val % 2 = 0) :
    (outsAt0 m c t.val t.isLt).2 = plus (outsAt0 m c (t.val - 1) (by have := t.isLt; omega)).2 (addend m c t) := by
  have hr : t.val % 2 < 2 := Nat.mod_lt _ (by decide)
  have h1 : t.val % 2 = 1 := by omega
  have e := congrArg Prod.snd (outsAt0_B m c t hz h1 h1)
  dsimp only at e
  exact e.trans (sum_B m c t _ _ _ _)

theorem outs_first (c : Dev nD) (t : Fin cfg0.N) (hz : t.val % 2 = 0) : (outsAt0 m c t.val t.isLt).2 = addend m c t := by
  have hp := points t
  have h1 : ¬t.val % 2 = 1 := by omega
  have h2 : ¬t.val % 2 = 1 := by omega
  have e := congrArg Prod.snd (outsAt0_A m c t hz h1 h2)
  dsimp only at e
  exact e.trans (sum_A m c t _ _ _)

theorem sum_at (c : Dev nD) (i : S2048x512.Idx) (t : Fin cfg0.N) : sumAt m c i t.val = (outsAt0 m c t.val t.isLt).2 i := dif_pos t.isLt
theorem add_at (c : Dev nD) (i : S2048x512.Idx) (t : Fin cfg0.N) : addAt m c i t.val = addend m c t i := dif_pos t.isLt

theorem sum_eq (c : Dev nD) (i : S2048x512.Idx) : ∀ n, n < cfg0.N →
    sumAt m c i n = ∑ s ∈ Finset.range (n % 2 + 1), addAt m c i (n - n % 2 + s) := by
  refine Cert.Blocks.sum_since 2 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 2 = 1) (i : S2048x512.Idx) :
    (outsAt0 m c t.val t.isLt).2 i = ∑ s ∈ Finset.range 2, addAt m c i (t.val / 2 * 2 + s) := by
  have h := sum_eq m c i t.val t.isLt
  rw [sum_at, hf] at h
  rw [h, show t.val - 1 = t.val / 2 * 2 from by omega]

theorem left_eq (c : Dev nD) (t : Fin cfg0.N) (hf : t.val % 2 = 1) :
    (outsAt0 m c t.val t.isLt).1 = k0_pay4 ((outsAt0 m c t.val t.isLt).2) := by
  have hz : ¬t.val % 2 = 0 := by omega
  rw [outs_eq m c t hz]
  have e := congrArg Prod.fst (outsAt0_B m c t hz hf hf)
  dsimp only at e
  exact e.trans (out_B m c t _ _ _ _)

theorem index_at : ∀ t : Fin cfg0.N, win0_0.index t 0 = 0 ∧ win0_0.index t 1 = t.val % 2 ∧ win0_1.index t 0 = t.val % 2 ∧ win0_1.index t 1 = t.val / 2 ∧ win0_2.index t 0 = t.val / 2 ∧ win0_2.index t 1 = 0 ∧ win0_2.index t 2 = 0 :=
  (by decide +kernel : ∀ t : Fin grid0.N, _)

theorem left_at (c : Dev nD) (t : Fin cfg0.N) (d : Fin 2048) (s : Fin 2048) :
    (iblk m c 0 t : S2048x2048.Idx → EReal) (ix2 d s)
      = (m ((c : Thread nD τ).loc main_arg0) : S4096x2048.Idx → EReal) (ix2 ⟨t.val % 2 * 2048 + s.val, by omega⟩ d) := by
  have hV : ∀ (d : Fin 2048) (s : Fin 4096), (V m c main_v1 : S2048x4096.Idx → EReal) (ix2 d s)
      = (m ((c : Thread nD τ).loc main_arg0) : S4096x2048.Idx → EReal) (ix2 s d) := by
    intro d s
    unfold V
    after_reads_at
  unfold iblk
  rw [View.read_apply]
  obtain ⟨e0, e1, -, -, -, -, -⟩ := index_at t
  have he : ((cfg0.win 0).blk t).view.emb (ix2 d s) = (ix2 ⟨d.val, by have := points t; omega⟩ ⟨t.val % 2 * 2048 + s.val, by have := points t; omega⟩ : S2048x4096.Idx) := by
    funext z; apply Fin.ext
    match z with
    | ⟨0, _⟩ => show win0_0.index t 0 * 2048 + 1 * d.val = d.val; rw [e0]; omega
    | ⟨1, _⟩ => show win0_0.index t 1 * 2048 + 1 * s.val = t.val % 2 * 2048 + s.val; rw [e1]; omega
  rw [he]
  exact hV _ _

theorem right_at (c : Dev nD) (t : Fin cfg0.N) (s : Fin 2048) (f : Fin 512) :
    (iblk m c 1 t : S2048x512.Idx → EReal) (ix2 s f)
      = (m ((c : Thread nD τ).loc main_arg1) : S4096x4096.Idx → EReal) (ix2 ⟨t.val % 2 * 2048 + s.val, by omega⟩ ⟨t.val / 2 * 512 + f.val, by have := points t; omega⟩) := by
  have hV : ∀ (s : Fin 4096) (f : Fin 4096), (V m c main_v2 : S4096x4096.Idx → EReal) (ix2 s f)
      = (m ((c : Thread nD τ).loc main_arg1) : S4096x4096.Idx → EReal) (ix2 s f) := by
    intro s f
    unfold V
    after_reads_at
  unfold iblk
  rw [View.read_apply]
  obtain ⟨-, -, e0, e1, -, -, -⟩ := index_at t
  have he : ((cfg0.win 1).blk t).view.emb (ix2 s f) = (ix2 ⟨t.val % 2 * 2048 + s.val, by have := points t; omega⟩ ⟨t.val / 2 * 512 + f.val, by have := points t; omega⟩ : S4096x4096.Idx) := by
    funext z; apply Fin.ext
    match z with
    | ⟨0, _⟩ => show win0_1.index t 0 * 2048 + 1 * s.val = t.val % 2 * 2048 + s.val; rw [e0]; omega
    | ⟨1, _⟩ => show win0_1.index t 1 * 512 + 1 * f.val = t.val / 2 * 512 + f.val; rw [e1]; omega
  rw [he]
  exact hV _ _

/-- The term at row `n` of the product (rows counted around, so that every number names one). -/
def term (h : S4096x2048.Idx → EReal) (x : S4096x4096.Idx → EReal) (j : Fin 8) (d : Fin 2048) (f : Fin 512) (n : ℕ) : EReal :=
  h (ix2 ⟨n % 4096, Nat.mod_lt _ (by decide)⟩ d)
    * x (ix2 ⟨n % 4096, Nat.mod_lt _ (by decide)⟩ ⟨j.val * 512 + f.val, by omega⟩)

theorem add_eq (c : Dev nD) (t : Fin cfg0.N) (d : Fin 2048) (f : Fin 512) :
    (addend m c t : S2048x512.Idx → EReal) (ix2 d f)
      = ∑ k : Fin 2048, term (m ((c : Thread nD τ).loc main_arg0)) (m ((c : Thread nD τ).loc main_arg1)) ⟨t.val / 2, by have := points t; omega⟩ d f (t.val % 2 * 2048 + k.val) := by
  show (k0_pay1 (iblk m c 0 t) (iblk m c 1 t) : S2048x512.Idx → EReal) (ix2 d f) = _
  pointwise [k0_pay1]
  refine Finset.sum_congr rfl fun k _ => ?_
  have hm : (t.val % 2 * 2048 + k.val) % 4096 = t.val % 2 * 2048 + k.val := by omega
  rw [left_at, right_at]
  unfold term
  simp only [hm]

theorem total_eq (c : Dev nD) (t : Fin cfg0.N) (d : Fin 2048) (f : Fin 512) :
    ∑ s ∈ Finset.range 2, addAt m c (ix2 d f) (t.val / 2 * 2 + s)
      = product (m ((c : Thread nD τ).loc main_arg0)) (m ((c : Thread nD τ).loc main_arg1)) (ix3 ⟨t.val / 2, by have := points t; omega⟩ d f) := by
  have hp := points t
  have hs : ∀ s ∈ Finset.range 2, addAt m c (ix2 d f) (t.val / 2 * 2 + s)
      = ∑ k : Fin 2048, term (m ((c : Thread nD τ).loc main_arg0)) (m ((c : Thread nD τ).loc main_arg1)) ⟨t.val / 2, by omega⟩ d f (s * 2048 + k.val) := by
    intro s hs
    have hs2 : s < 2 := Finset.mem_range.mp hs
    unfold addAt
    rw [dif_pos (Nat.lt_of_lt_of_eq (by omega) N_0.symm), add_eq]
    simp only [show (t.val / 2 * 2 + s) / 2 = t.val / 2 from by omega, show (t.val / 2 * 2 + s) % 2 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v3) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 2 = 1 := (flush0_2 t).mp hf
  rw [Value.flushed2, left_eq m c t hl]
  obtain ⟨-, -, -, -, e0, e1, e2⟩ := index_at t
  funext y
  show (k0_pay4 ((outsAt0 m c t.val t.isLt).2) : S1x2048x512.Idx → EReal) y = product _ _ (((cfg0.win 2).blk t).view.emb y)
  have hy : ∃ (d : Fin 2048) (f : Fin 512), y = (ix3 0 d f : S1x2048x512.Idx) :=
    ⟨y 1, y 2, by rw [eq_ix3 (y : S1x2048x512.Idx)]; congr 1; exact Subsingleton.elim (α := Fin 1) _ _⟩
  obtain ⟨d, f, rfl⟩ := hy
  have he : ((cfg0.win 2).blk t).view.emb (ix3 0 d f : S1x2048x512.Idx)
      = (ix3 ⟨t.val / 2, by have := points t; omega⟩ ⟨d.val, by have := points t; omega⟩ ⟨f.val, by have := points t; omega⟩ : S8x2048x512.Idx) := by
    funext z; apply Fin.ext
    match z with
    | ⟨0, _⟩ => show win0_2.index t 0 * 1 + 1 * 0 = t.val / 2; rw [e0]; omega
    | ⟨1, _⟩ => show win0_2.index t 1 * 2048 + 1 * d.val = d.val; rw [e1]; omega
    | ⟨2, _⟩ => show win0_2.index t 2 * 512 + 1 * f.val = f.val; rw [e2]; omega
  rw [he]
  have hs : (k0_pay4 ((outsAt0 m c t.val t.isLt).2) : S1x2048x512.Idx → EReal) (ix3 0 d f) = (outsAt0 m c t.val t.isLt).2 (ix2 d f) := by
    pointwise [k0_pay4]
  rw [hs, full_eq m c t hl]
  exact total_eq m c t d f

theorem covered (i : S8x2048x512.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 512 := (i 2).isLt
  let t : Fin cfg0.N := ⟨(i 0).val * 2 + 1, by rw [show cfg0.N = 16 from N_0]; omega⟩
  have ht : t.val = (i 0).val * 2 + 1 := rfl
  refine ⟨t, (flush0_2 t).mpr (by omega), ?_⟩
  obtain ⟨-, -, -, -, e0, e1, e2⟩ := index_at t
  clear_value t
  show i ∈ ((View.whole main_v3).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 2048 ≤ (i 1).val ∧ (i 1).val < win0_2.index t 1 * 2048 + 2048; rw [e1]; omega
  | ⟨2, _⟩ => show win0_2.index t 2 * 512 ≤ (i 2).val ∧ (i 2).val < win0_2.index t 2 * 512 + 512; rw [e2]; omega

theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.InDwIdeal.Product

namespace Cert.InDwRefIdeal.Product

open Cert.InDwRefIdeal Cert.InDwRefIdeal.Read

theorem value_eq (h : S4096x2048.Idx → EReal) (x : S4096x4096.Idx → EReal) :
    (val_main_v5 (F := Ideal) h x : S8x2048x512.Idx → EReal) = Cert.InDwIdeal.Product.product h x := by
  funext i
  idx_vars i
  unfold val_main_v5 val_main_v4 val_main_v3 val_main_v2
  pointwise
  exact Finset.sum_congr rfl fun k _ => mul_comm _ _

end Cert.InDwRefIdeal.Product

end
-- ==== Proof.InDx.lean ====
module

public import proofs.«01_k».proof.Proof.Gen.InDxIdeal.Value
public import proofs.«01_k».proof.Proof.Gen.InDxRefIdeal.Run
public import proofs.«01_k».proof.Proof.Gen.InDxRefIdeal.Read
public import proofs.«01_k».proof.Proof.Blocks
public import Idealize.ShloMosaic.Lib.Pointwise
public import Idealize.ShloMosaic.Lib.StableHlo.ReadAt
public import Idealize.ShloMosaic.Lib.Tactic

/-! # The gradient at the input projection's input, `d_z · w_inᵀ`, in blocks of rows and of columns -/

@[expose] public section

set_option maxRecDepth 16384

noncomputable section

open Idealize.ShloMosaic Idealize.ShloMosaic.TcCoe Idealize.SL.Sem
open Idealize.ShloMosaic.Pipeline (Dat)
open scoped BigOperators

namespace Cert.InDxIdeal.Product

open Cert.InDxIdeal Cert.InDxIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the rows of the weight. -/
def product (w : S2048x4096.Idx → EReal) (z : S4096x4096.Idx → EReal) : S4096x2048.Idx → EReal := fun i =>
  ∑ k : Fin 4096, z (ix2 (i 0) k) * w (ix2 (i 1) k)

/-- What point `t` adds to the sum. -/
abbrev addend (c : Dev nD) (t : Fin cfg0.N) : Vec Ideal S1024x2048 .f32 := k0_pay1 (View.ld (Val := Elt Ideal) (e' := .bf16) (iblk m c 0 t : Vec Ideal S1024x1024 .bf16) (Rect.unit (s := S1024x1024) ![0, 0] S1024x512.size inb_S1024x1024_S1024x512_0_0)) (View.ld (Val := Elt Ideal) (e' := .bf16) (iblk m c 1 t : Vec Ideal S2x2048x512 .bf16) (Rect.unit (s := S2x2048x512) ![0, 0, 0] S1x2048x512.size inb_S2x2048x512_S1x2048x512_0_0_0)) (View.ld (Val := Elt Ideal) (e' := .bf16) (iblk m c 0 t : Vec Ideal S1024x1024 .bf16) (Rect.unit (s := S1024x1024) ![0, 512] S1024x512.size inb_S1024x1024_S1024x512_0_512)) (View.ld (Val := Elt Ideal) (e' := .bf16) (iblk m c 1 t : Vec Ideal S2x2048x512 .bf16) (Rect.unit (s := S2x2048x512) ![1, 0, 0] S1x2048x512.size inb_S2x2048x512_S1x2048x512_1_0_0))

/-- Two arrays added, element by element. -/
abbrev plus (a b : Vec Ideal S1024x2048 .f32) : Vec Ideal S1024x2048 .f32 := addf (F := Ideal) (s := S1024x2048) (φ := .f32) a b

theorem sum_A (c : Dev nD) (t : Fin cfg0.N) (h0 : cond0_0 (grid0.coords t)) (h1 : ¬cond0_1 (grid0.coords t)) (h2 : ¬cond0_2 (grid0.coords t)) :
    sout0_A_0 c (grid0.coords t) (ms0_0 t) (hs0_0 t) (ms0_1 t) (hs0_1 t) (ms0_2 t) (hs0_2 t) scM0_0 (Memref.isWhole_whole _) h0 h1 h2 (iblk m c 0 t) (iblk m c 1 t) = addend m c t := by
  unfold sout0_A_0
  rw [View.read_writes_eq_canon _ _ _ (fun y => scover0_A_0 _ _ _ _ _ _ _ _ _ _ _ _ _ _ _ y)]
  unfold kernelRun0_A
  dsimp only
  try sl_unfold_words
  rw [View.canon_unit_zero zero2]
  unfold k0_pay2
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self] <;> rfl

theorem sum_B (c : Dev nD) (t : Fin cfg0.N) (h0 : ¬cond0_0 (grid0.coords t)) (h1 : cond0_1 (grid0.coords t)) (h2 : ¬cond0_2 (grid0.coords t)) (acc : Vec Ideal S1024x2048 .f32) :
    sout0_B_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_B_0
  rw [View.read_writes_eq_canon _ _ _ (fun y => scover0_B_0 _ _ _ _ _ _ _ _ _ _ _ _ _ _ _ _ y)]
  unfold kernelRun0_B
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self] <;> rfl

theorem sum_C (c : Dev nD) (t : Fin cfg0.N) (h0 : ¬cond0_0 (grid0.coords t)) (h1 : cond0_1 (grid0.coords t)) (h2 : cond0_2 (grid0.coords t)) (acc : Vec Ideal S1024x2048 .f32) :
    sout0_C_0 c (grid0.coords t) (ms0_0 t) (hs0_0 t) (ms0_1 t) (hs0_1 t) (ms0_2 t) (hs0_2 t) scM0_0 (Memref.isWhole_whole _) h0 h1 h2 (iblk m c 0 t) (iblk m c 1 t) acc = plus acc (addend m c t) := by
  unfold sout0_C_0
  rw [View.read_writes_eq_canon _ _ _ (fun y => scover0_C_0 _ _ _ _ _ _ _ _ _ _ _ _ _ _ _ _ y)]
  unfold kernelRun0_C
  dsimp only
  try sl_unfold_words
  rw [View.canon_unit_zero zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self] <;> rfl

theorem out_C (c : Dev nD) (t : Fin cfg0.N) (h0 : ¬cond0_0 (grid0.coords t)) (h1 : cond0_1 (grid0.coords t)) (h2 : cond0_2 (grid0.coords t)) (acc : Vec Ideal S1024x2048 .f32) :
    out0_C_2 c (grid0.coords t) (ms0_0 t) (hs0_0 t) (ms0_1 t) (hs0_1 t) (ms0_2 t) (hs0_2 t) scM0_0 (Memref.isWhole_whole _) h0 h1 h2 (iblk m c 0 t) (iblk m c 1 t) acc = (plus acc (addend m c t)) := by
  unfold out0_C_2
  rw [View.read_writes_eq_canon _ _ _ (fun y => cover0_C_2 _ _ _ _ _ _ _ _ _ _ _ _ _ _ _ _ y)]
  unfold kernelRun0_C
  dsimp only
  sl_unfold_words
  rw [View.canon_unit_zero zero2]
  rw [View.readCov_unit_zero (S := S1024x2048) _ zero2]
  unfold k0_pay3
  simp only [View.readAt_eq_ld, (hs0_0 t).read_unread, (hs0_1 t).read_unread, (Memref.isWhole_whole _ : scM0_0.IsWhole).read_unread, View.ld_unit_zero (S := S1024x1024) zero2, View.ld_unit_zero (S := S1024x2048) zero2, shapeCast_self] <;> rfl

theorem points (t : Fin cfg0.N) : t.val < 16 := Nat.lt_of_lt_of_eq t.isLt N_0

attribute [local irreducible] outsAt0 sout0_A_0 sout0_B_0 sout0_C_0 out0_C_2

/-- The running sum after point `n`, and what point `n` adds, at one place (zero outside the grid). -/
def sumAt (c : Dev nD) (i : S1024x2048.Idx) (n : ℕ) : EReal := if h : n < cfg0.N then (outsAt0 m c n h).2 i else 0
def addAt (c : Dev nD) (i : S1024x2048.Idx) (n : ℕ) : EReal := if h : n < cfg0.N then addend m c ⟨n, h⟩ i else 0

theorem outs_eq (c : Dev nD) (t : Fin cfg0.N) (hz : ¬t.val % 4 = 0) :
    (outsAt0 m c t.val t.isLt).2 = plus (outsAt0 m c (t.val - 1) (by have := t.isLt; omega)).2 (addend m c t) := by
  have hr : t.val % 4 < 4 := Nat.mod_lt _ (by decide)
  have h1 : 1 ≤ t.val % 4 := by omega
  by_cases h2 : t.val % 4 = 3
  · rw [outsAt0_C m c t hz h1 h2]
    exact sum_C ..
  · rw [outsAt0_B m c t hz h1 h2]
    exact sum_B ..

theorem outs_first (c : Dev nD) (t : Fin cfg0.N) (hz : t.val % 4 = 0) : (outsAt0 m c t.val t.isLt).2 = addend m c t := by
  have hp := points t
  have h1 : ¬1 ≤ t.val % 4 := by omega
  have h2 : ¬t.val % 4 = 3 := by omega
  have e := congrArg Prod.snd (outsAt0_A m c t hz h1 h2)
  dsimp only at e
  exact e.trans (sum_A m c t _ _ _)

theorem sum_at (c : Dev nD) (i : S1024x2048.Idx) (t : Fin cfg0.N) : sumAt m c i t.val = (outsAt0 m c t.val t.isLt).2 i := dif_pos t.isLt
theorem add_at (c : Dev nD) (i : S1024x2048.Idx) (t : Fin cfg0.N) : addAt m c i t.val = addend m c t i := dif_pos t.isLt

theorem sum_eq (c : Dev nD) (i : S1024x2048.Idx) : ∀ n, n < cfg0.N →
    sumAt m c i n = ∑ s ∈ Finset.range (n % 4 + 1), addAt m c i (n - n % 4 + s) := by
  refine Cert.Blocks.sum_since 4 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

/-- The sum a point writes back. -/
theorem full_eq (c : Dev nD) (t : Fin cfg0.N) (hf : t.val % 4 = 3) (i : S1024x2048.Idx) :
    (outsAt0 m c t.val t.isLt).2 i = ∑ s ∈ Finset.range 4, addAt m c i (t.val / 4 * 4 + s) := by
  have h := sum_eq m c i t.val t.isLt
  rw [sum_at, hf] at h
  rw [h, show t.val - 3 = t.val / 4 * 4 from by omega]

theorem left_eq (c : Dev nD) (t : Fin cfg0.N) (hf : t.val % 4 = 3) :
    (outsAt0 m c t.val t.isLt).1 = ((outsAt0 m c t.val t.isLt).2) := by
  have hz : ¬t.val % 4 = 0 := by omega
  rw [outs_eq m c t hz]
  have e := congrArg Prod.fst (outsAt0_C m c t hz (by omega) hf)
  dsimp only at e
  exact e.trans (out_C m c t _ _ _ _)

theorem index_at : ∀ t : Fin cfg0.N, win0_0.index t 0 = t.val / 4 ∧ win0_0.index t 1 = t.val % 4 ∧ win0_1.index t 0 = t.val % 4 ∧ win0_1.index t 1 = 0 ∧ win0_1.index t 2 = 0 ∧ win0_2.index t 0 = t.val / 4 ∧ win0_2.index t 1 = 0 :=
  (by decide +kernel : ∀ t : Fin grid0.N, _)

theorem left_at (c : Dev nD) (t : Fin cfg0.N) (a : Fin 1024) (k : Fin 1024) :
    (iblk m c 0 t : S1024x1024.Idx → EReal) (ix2 a k)
      = (m ((c : Thread nD τ).loc main_arg1) : S4096x4096.Idx → EReal) (ix2 ⟨t.val / 4 * 1024 + a.val, by have := points t; omega⟩ ⟨t.val % 4 * 1024 + k.val, by omega⟩) := by
  have hV : ∀ (a : Fin 4096) (k : Fin 4096), (V m c main_v0 : S4096x4096.Idx → EReal) (ix2 a k)
      = (m ((c : Thread nD τ).loc main_arg1) : S4096x4096.Idx → EReal) (ix2 a k) := by
    intro a k
    unfold V
    after_reads_at
  unfold iblk
  rw [View.read_apply]
  obtain ⟨e0, e1, -, -, -, -, -⟩ := index_at t
  have he : ((cfg0.win 0).blk t).view.emb (ix2 a k) = (ix2 ⟨t.val / 4 * 1024 + a.val, by have := points t; omega⟩ ⟨t.val % 4 * 1024 + k.val, by have := points t; omega⟩ : S4096x4096.Idx) := by
    funext z; apply Fin.ext
    match z with
    | ⟨0, _⟩ => show win0_0.index t 0 * 1024 + 1 * a.val = t.val / 4 * 1024 + a.val; rw [e0]; omega
    | ⟨1, _⟩ => show win0_0.index t 1 * 1024 + 1 * k.val = t.val % 4 * 1024 + k.val; rw [e1]; omega
  rw [he]
  exact hV _ _

theorem right_at (c : Dev nD) (t : Fin cfg0.N) (s : Fin 2) (d : Fin 2048) (k : Fin 512) :
    (iblk m c 1 t : S2x2048x512.Idx → EReal) (ix3 s d k)
      = (m ((c : Thread nD τ).loc main_arg0) : S2048x4096.Idx → EReal) (ix2 d ⟨(t.val % 4 * 2 + s.val) * 512 + k.val, by omega⟩) := by
  have hV : ∀ (j : Fin 8) (d : Fin 2048) (k : Fin 512), (V m c main_v3 : S8x2048x512.Idx → EReal) (ix3 j d k)
      = (m ((c : Thread nD τ).loc main_arg0) : S2048x4096.Idx → EReal) (ix2 d ⟨j.val * 512 + k.val, by omega⟩) := by
    intro j d k
    unfold V
    after_reads_at
  unfold iblk
  rw [View.read_apply]
  obtain ⟨-, -, e0, e1, e2, -, -⟩ := index_at t
  have he : ((cfg0.win 1).blk t).view.emb (ix3 s d k) = (ix3 ⟨t.val % 4 * 2 + s.val, by have := points t; omega⟩ ⟨d.val, by have := points t; omega⟩ ⟨k.val, by have := points t; omega⟩ : S8x2048x512.Idx) := by
    funext z; apply Fin.ext
    match z with
    | ⟨0, _⟩ => show win0_1.index t 0 * 2 + 1 * s.val = t.val % 4 * 2 + s.val; rw [e0]; omega
    | ⟨1, _⟩ => show win0_1.index t 1 * 2048 + 1 * d.val = d.val; rw [e1]; omega
    | ⟨2, _⟩ => show win0_1.index t 2 * 512 + 1 * k.val = k.val; rw [e2]; omega
  rw [he]
  exact hV _ _ _

/-- The term at column `n` (columns counted around, so that every number names one). -/
def term (w : S2048x4096.Idx → EReal) (z : S4096x4096.Idx → EReal) (r : Fin 4096) (d : Fin 2048) (n : ℕ) : EReal :=
  z (ix2 r ⟨n % 4096, Nat.mod_lt _ (by decide)⟩) * w (ix2 d ⟨n % 4096, Nat.mod_lt _ (by decide)⟩)

theorem add_eq (c : Dev nD) (t : Fin cfg0.N) (a : Fin 1024) (d : Fin 2048) :
    (addend m c t : S1024x2048.Idx → EReal) (ix2 a d)
      = ∑ k : Fin 1024, term (m ((c : Thread nD τ).loc main_arg0)) (m ((c : Thread nD τ).loc main_arg1)) ⟨t.val / 4 * 1024 + a.val, by have := points t; omega⟩ d (t.val % 4 * 1024 + k.val) := by
  have hp := points t
  refine Eq.trans ?_ (Cert.Blocks.sum_blocks 2 512 (fun n => term (m ((c : Thread nD τ).loc main_arg0)) (m ((c : Thread nD τ).loc main_arg1)) ⟨t.val / 4 * 1024 + a.val, by omega⟩ d (t.val % 4 * 1024 + n)))
  rw [Finset.sum_range_succ, Finset.sum_range_one]
  unfold addend
  pointwise [k0_pay1]
  have each : ∀ (s : Fin 2) (k : Fin 512), @HMul.hMul EReal EReal EReal instHMul ((iblk m c 0 t : S1024x1024.Idx → EReal) (ix2 a ⟨s.val * 512 + k.val, by omega⟩)) ((iblk m c 1 t : S2x2048x512.Idx → EReal) (ix3 s d k))
      = term (m ((c : Thread nD τ).loc main_arg0)) (m ((c : Thread nD τ).loc main_arg1)) ⟨t.val / 4 * 1024 + a.val, by omega⟩ d (t.val % 4 * 1024 + (s.val * 512 + k.val)) := by
    intro s k
    have hm : (t.val % 4 * 1024 + (s.val * 512 + k.val)) % 4096 = t.val % 4 * 1024 + (s.val * 512 + k.val) := by omega
    have hn : (t.val % 4 * 2 + s.val) * 512 + k.val = t.val % 4 * 1024 + (s.val * 512 + k.val) := by omega
    rw [left_at, right_at]
    unfold term
    simp only [hm, hn]
  refine congr (congrArg HAdd.hAdd (Finset.sum_congr rfl fun k _ => ?_)) (Finset.sum_congr rfl fun k _ => ?_)
  · have h := each 0 k
    simp only [show ((0 : Fin 2).val * 512 + k.val) = k.val by simp] at h
    exact h
  · have h := each 1 k
    simp only [show ((1 : Fin 2).val * 512 + k.val) = 512 + k.val by simp] at h
    exact h

theorem total_eq (c : Dev nD) (t : Fin cfg0.N) (a : Fin 1024) (d : Fin 2048) :
    ∑ s ∈ Finset.range 4, addAt m c (ix2 a d) (t.val / 4 * 4 + s)
      = product (m ((c : Thread nD τ).loc main_arg0)) (m ((c : Thread nD τ).loc main_arg1)) (ix2 ⟨t.val / 4 * 1024 + a.val, by have := points t; omega⟩ d) := by
  have hp := points t
  have hs : ∀ s ∈ Finset.range 4, addAt m c (ix2 a d) (t.val / 4 * 4 + s)
      = ∑ k : Fin 1024, term (m ((c : Thread nD τ).loc main_arg0)) (m ((c : Thread nD τ).loc main_arg1)) ⟨t.val / 4 * 1024 + a.val, by omega⟩ d (s * 1024 + k.val) := by
    intro s hs
    have hs2 : s < 4 := Finset.mem_range.mp hs
    unfold addAt
    rw [dif_pos (Nat.lt_of_lt_of_eq (by omega) N_0.symm), add_eq]
    simp only [show (t.val / 4 * 4 + s) / 4 = t.val / 4 from by omega, show (t.val / 4 * 4 + s) % 4 = s from by omega]
  rw [Finset.sum_congr rfl hs, Cert.Blocks.sum_blocks]
  refine Finset.sum_congr rfl fun k _ => ?_
  have hm : k.val % 4096 = k.val := Nat.mod_eq_of_lt k.isLt
  unfold term
  simp only [hm]
  rfl

/-- The result of the call. -/
abbrev result (c : Dev nD) : Buf (Elt Ideal) ((c : Thread nD τ).loc main_v4) :=
  product (m ((c : Thread nD τ).loc main_arg0)) (m ((c : Thread nD τ).loc main_arg1))

theorem flushed_eq (c : Dev nD) (t : Fin cfg0.N) (hf : (cfg0.win 2).flush t = true) :
    (dats m 0 c).flushed 2 t = ((cfg0.win 2).blk t).view.read (Elt Ideal) (result m c) := by
  have hl : t.val % 4 = 3 := (flush0_2 t).mp hf
  rw [Value.flushed2, left_eq m c t hl]
  obtain ⟨-, -, -, -, -, e0, e1⟩ := index_at t
  funext y
  show (((outsAt0 m c t.val t.isLt).2) : S1024x2048.Idx → EReal) y = product _ _ (((cfg0.win 2).blk t).view.emb y)
  have hy : ∃ (a : Fin 1024) (d : Fin 2048), y = (ix2 a d : S1024x2048.Idx) :=
    ⟨y 0, y 1, eq_ix2 (y : S1024x2048.Idx)⟩
  obtain ⟨a, d, rfl⟩ := hy
  have he : ((cfg0.win 2).blk t).view.emb (ix2 a d : S1024x2048.Idx)
      = (ix2 ⟨t.val / 4 * 1024 + a.val, by have := points t; omega⟩ ⟨d.val, by have := points t; omega⟩ : S4096x2048.Idx) := by
    funext z; apply Fin.ext
    match z with
    | ⟨0, _⟩ => show win0_2.index t 0 * 1024 + 1 * a.val = t.val / 4 * 1024 + a.val; rw [e0]; omega
    | ⟨1, _⟩ => show win0_2.index t 1 * 2048 + 1 * d.val = d.val; rw [e1]; omega
  rw [he]
  have hs : (((outsAt0 m c t.val t.isLt).2) : S1024x2048.Idx → EReal) (ix2 a d) = (outsAt0 m c t.val t.isLt).2 (ix2 a d) := by
    rfl
  rw [hs, full_eq m c t hl]
  exact total_eq m c t a d

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  let t : Fin cfg0.N := ⟨(i 0).val / 1024 * 4 + 3, by rw [show cfg0.N = 16 from N_0]; omega⟩
  have ht : t.val = (i 0).val / 1024 * 4 + 3 := rfl
  refine ⟨t, (flush0_2 t).mpr (by omega), ?_⟩
  obtain ⟨-, -, -, -, -, e0, e1⟩ := index_at t
  clear_value t
  show i ∈ ((View.whole main_v4).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 2048 ≤ (i 1).val ∧ (i 1).val < win0_2.index t 1 * 2048 + 2048; rw [e1]; omega

theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
  := (θ_run defs _ _).mono (fun r h c => ⟨(h c).1.trans ((dats m 0 c).arrAt_eq_of_cover 2 (result m c) (fun t hf => flushed_eq m c t hf) covered),
      (h c).2⟩) (Value.run_blocks m ρ)

end Cert.InDxIdeal.Product

namespace Cert.InDxRefIdeal.Product

open Cert.InDxRefIdeal Cert.InDxRefIdeal.Read

theorem value_eq (w : S2048x4096.Idx → EReal) (z : S4096x4096.Idx → EReal) :
    (val_main_v2 (F := Ideal) w z : S4096x2048.Idx → EReal) = Cert.InDxIdeal.Product.product w z := by
  funext i
  idx_vars i
  unfold val_main_v2
  pointwise
  rfl

end Cert.InDxRefIdeal.Product

end
-- ==== Proof.OutProj.lean ====
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.StableHlo.ReadAt
public import Idealize.ShloMosaic.Lib.Tactic

/-! # The output projection and its residual, `x + y · w_out`, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.OutProjIdeal.Product

open Cert.OutProjIdeal Cert.OutProjIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The value: the rows against the columns of the weight, and the residual. -/
def product (y : S4096x2048.Idx → EReal) (w : S2048x2048.Idx → EReal) (x : S4096x2048.Idx → EReal) : S4096x2048.Idx → EReal := fun i =>
  (∑ k : Fin 2048, y (ix2 (i 0) k) * w (ix2 k (i 1))) + x i

/-- One point leaves the product of its blocks. -/
theorem left_eq (c : Dev nD) (t : Fin cfg0.N) : outsAt0 m c t = k0_pay1 (iblk m c 0 t) (iblk m c 1 t) (iblk m c 2 t) := by
  unfold outsAt0 out0_A_3
  rw [View.read_writes_eq_canon _ _ _ (fun y => cover0_A_3 _ _ _ _ _ _ _ _ _ _ _ _ _ _ _ y)]
  unfold kernelRun0_A
  dsimp only
  rw [View.canon_unit_zero zero2]
  simp only [View.readAt_eq_ld, (hs0_0 t).read_unread, (hs0_1 t).read_unread, (hs0_2 t).read_unread, View.ld_unit_zero (S := S2048x2048) zero2, View.ld_unit_zero (S := S512x2048) zero2]

theorem points (t : Fin cfg0.N) : t.val < 8 := Nat.lt_of_lt_of_eq t.isLt N_0

theorem index_at : ∀ t : Fin cfg0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 :=
  (by decide +kernel : ∀ t : Fin grid0.N, _)

theorem rows_at (c : Dev nD) (t : Fin cfg0.N) (a : Fin 512) (k : Fin 2048) :
    (iblk m c 0 t : S512x2048.Idx → EReal) (ix2 a k)
      = (m ((c : Thread nD τ).loc main_arg0) : S4096x2048.Idx → EReal) (ix2 ⟨t.val * 512 + a.val, by have := points t; omega⟩ k) := by
  have hV : ∀ (a : Fin 4096) (k : Fin 2048), (V m c main_v0 : S4096x2048.Idx → EReal) (ix2 a k)
      = (m ((c : Thread nD τ).loc main_arg0) : S4096x2048.Idx → EReal) (ix2 a k) := by
    intro a k
    unfold V
    after_reads_at
  unfold iblk
  rw [View.read_apply]
  obtain ⟨e0, e1, -, -, -, -, -, -⟩ := index_at t
  have he : ((cfg0.win 0).blk t).view.emb (ix2 a k) = (ix2 ⟨t.val * 512 + a.val, by have := points t; omega⟩ ⟨k.val, by have := points t; omega⟩ : S4096x2048.Idx) := by
    funext z; apply Fin.ext
    match z with
    | ⟨0, _⟩ => show win0_0.index t 0 * 512 + 1 * a.val = t.val * 512 + a.val; rw [e0]; omega
    | ⟨1, _⟩ => show win0_0.index t 1 * 2048 + 1 * k.val = k.val; rw [e1]; omega
  rw [he]
  exact hV _ _

theorem weight_at (c : Dev nD) (t : Fin cfg0.N) (k : Fin 2048) (b : Fin 2048) :
    (iblk m c 1 t : S2048x2048.Idx → EReal) (ix2 k b)
      = (m ((c : Thread nD τ).loc main_arg1) : S2048x2048.Idx → EReal) (ix2 k b) := by
  have hV : ∀ (k : Fin 2048) (b : Fin 2048), (V m c main_v1 : S2048x2048.Idx → EReal) (ix2 k b)
      = (m ((c : Thread nD τ).loc main_arg1) : S2048x2048.Idx → EReal) (ix2 k b) := by
    intro k b
    unfold V
    after_reads_at
  unfold iblk
  rw [View.read_apply]
  obtain ⟨-, -, e0, e1, -, -, -, -⟩ := index_at t
  have he : ((cfg0.win 1).blk t).view.emb (ix2 k b) = (ix2 ⟨k.val, by have := points t; omega⟩ ⟨b.val, by have := points t; omega⟩ : S2048x2048.Idx) := by
    funext z; apply Fin.ext
    match z with
    | ⟨0, _⟩ => show win0_1.index t 0 * 2048 + 1 * k.val = k.val; rw [e0]; omega
    | ⟨1, _⟩ => show win0_1.index t 1 * 2048 + 1 * b.val = b.val; rw [e1]; omega
  rw [he]
  exact hV _ _

theorem residual_at (c : Dev nD) (t : Fin cfg0.N) (a : Fin 512) (b : Fin 2048) :
    (iblk m c 2 t : S512x2048.Idx → EReal) (ix2 a b)
      = (m ((c : Thread nD τ).loc main_arg2) : S4096x2048.Idx → EReal) (ix2 ⟨t.val * 512 + a.val, by have := points t; omega⟩ b) := by
  have hV : ∀ (a : Fin 4096) (b : Fin 2048), (V m c main_arg2 : S4096x2048.Idx → EReal) (ix2 a b)
      = (m ((c : Thread nD τ).loc main_arg2) : S4096x2048.Idx → EReal) (ix2 a b) := by
    intro a b
    unfold V
    after_reads_at
  unfold iblk
  rw [View.read_apply]
  obtain ⟨-, -, -, -, e0, e1, -, -⟩ := index_at t
  have he : ((cfg0.win 2).blk t).view.emb (ix2 a b) = (ix2 ⟨t.val * 512 + a.val, by have := points t; omega⟩ ⟨b.val, by have := points t; omega⟩ : S4096x2048.Idx) := by
    funext z; apply Fin.ext
    match z with
    | ⟨0, _⟩ => show win0_2.index t 0 * 512 + 1 * a.val = t.val * 512 + a.val; rw [e0]; omega
    | ⟨1, _⟩ => show win0_2.index t 1 * 2048 + 1 * b.val = b.val; rw [e1]; omega
  rw [he]
  exact hV _ _

/-- The result of the call. -/
abbrev result (c : Dev nD) : Buf (Elt Ideal) ((c : Thread nD τ).loc main_v2) :=
  product (m ((c : Thread nD τ).loc main_arg0)) (m ((c : Thread nD τ).loc main_arg1)) (m ((c : Thread nD τ).loc main_arg2))

theorem flushed_eq (c : Dev nD) (t : Fin cfg0.N) :
    (dats m 0 c).flushed 3 t = ((cfg0.win 3).blk t).view.read (Elt Ideal) (result m c) := by
  rw [Value.flushed3, left_eq]
  obtain ⟨-, -, -, -, -, -, e0, e1⟩ := index_at t
  funext y
  show (k0_pay1 (iblk m c 0 t) (iblk m c 1 t) (iblk m c 2 t) : S512x2048.Idx → EReal) y = product _ _ _ (((cfg0.win 3).blk t).view.emb y)
  have hy : ∃ (a : Fin 512) (b : Fin 2048), y = (ix2 a b : S512x2048.Idx) :=
    ⟨y 0, y 1, eq_ix2 (y : S512x2048.Idx)⟩
  obtain ⟨a, b, rfl⟩ := hy
  have he : ((cfg0.win 3).blk t).view.emb (ix2 a b : S512x2048.Idx)
      = (ix2 ⟨t.val * 512 + a.val, by have := points t; omega⟩ ⟨b.val, by have := points t; omega⟩ : S4096x2048.Idx) := by
    funext z; apply Fin.ext
    match z with
    | ⟨0, _⟩ => show win0_3.index t 0 * 512 + 1 * a.val = t.val * 512 + a.val; rw [e0]; omega
    | ⟨1, _⟩ => show win0_3.index t 1 * 2048 + 1 * b.val = b.val; rw [e1]; omega
  rw [he]
  pointwise [k0_pay1]
  rw [residual_at]
  refine congrArg (· + _) (Finset.sum_congr rfl fun k _ => ?_)
  rw [rows_at, weight_at]
  rfl

theorem covered (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  let t : Fin cfg0.N := ⟨(i 0).val / 512, by rw [show cfg0.N = 8 from N_0]; omega⟩
  have ht : t.val = (i 0).val / 512 := rfl
  refine ⟨t, flush0_3 t, ?_⟩
  obtain ⟨-, -, -, -, -, -, e0, e1⟩ := index_at t
  clear_value t
  show i ∈ ((View.whole main_v2).slice (win0_3.rect t)).set
  rw [View.set_slice_whole, Rect.mem_set_unit]
  intro a
  match a with
  | ⟨0, _⟩ => show win0_3.index t 0 * 512 ≤ (i 0).val ∧ (i 0).val < win0_3.index t 0 * 512 + 512; rw [e0]; omega
  | ⟨1, _⟩ => show win0_3.index t 1 * 2048 ≤ (i 1).val ∧ (i 1).val < win0_3.index t 1 * 2048 + 2048; rw [e1]; omega

theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
  := (θ_run defs _ _).mono (fun r h c => ⟨(h c).1.trans ((dats m 0 c).arrAt_eq_of_cover 3 (result m c) (fun t _ => flushed_eq m c t) covered),
      (h c).2⟩) (Value.run_blocks m ρ)

end Cert.OutProjIdeal.Product

namespace Cert.OutProjRefIdeal.Product

open Cert.OutProjRefIdeal Cert.OutProjRefIdeal.Read

theorem value_eq (y : S4096x2048.Idx → EReal) (w : S2048x2048.Idx → EReal) (x : S4096x2048.Idx → EReal) :
    (val_main_v1 (F := Ideal) y w x : S4096x2048.Idx → EReal) = Cert.OutProjIdeal.Product.product y w x := by
  funext i
  idx_vars i
  unfold val_main_v1 val_main_v0
  pointwise
  rw [add_comm]
  rfl

end Cert.OutProjRefIdeal.Product

end
-- ==== Proof.Norm.lean ====
module

public import Idealize.ShloMosaic.PureOps.Ideal
public import Idealize.ShloMosaic.Lib.Pointwise
public import Mathlib.Algebra.BigOperators.Fin

/-! # The derivative of the root-mean-square norm of a row, in its two forms

A row `x` is scaled by `r = 1 / √u`, where `u` is the mean of its squares plus a positive constant. The derivative, applied to a row `a`,
is written in one form as `r · (a − x · r · mean (a · x · r))`, in the other as the sum of the three terms the chain rule gives. The two are
equal for all extended reals: when an element of `x` is infinite, `r` is zero and so is every term; otherwise `r` is a positive real and
distributes over sums. -/

@[expose] public section

noncomputable section

namespace Cert.Norm

open Idealize.ShloMosaic
open scoped BigOperators

/-- The constant the mean of the squares is kept from zero by, as a real. -/
def eps : ℝ := 8796093 / 8796093022208

theorem eps_pos : 0 < eps := by unfold eps; norm_num

theorem word_eps : Ideal.ofBits .f32 897988541#32 = (eps : EReal) := by
  unfold eps; simp [Ideal.ofBits, Ideal.ieee, -EReal.coe_mul]; norm_num

theorem word_2048 : Ideal.ofBits .f32 1157627904#32 = ((2048 : ℝ) : EReal) := by
  simp [Ideal.ofBits, Ideal.ieee, -EReal.coe_mul]; norm_num

theorem word_1024 : Ideal.ofBits .f32 1149239296#32 = ((1024 : ℝ) : EReal) := by
  simp [Ideal.ofBits, Ideal.ieee, -EReal.coe_mul]; norm_num

theorem word_neg_half : Ideal.ofBits .f32 3204448256#32 = ((-(1 / 2) : ℝ) : EReal) := by
  simp [Ideal.ofBits, Ideal.ieee, -EReal.coe_mul]; norm_num

/-- A real that is not negative distributes over a sum. -/
theorem mul_sum {n : ℕ} (r : ℝ) (hr : 0 ≤ r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast hr) (EReal.coe_ne_top _), ih]

/-- The sum of the squares of a row is a real that is not negative, or infinite. -/
theorem squares {n : ℕ} (x : Fin n → EReal) :
    (∃ q : ℝ, 0 ≤ q ∧ (∑ k, x k * x k) = (q : EReal)) ∨ (∑ k, x k * x k) = ⊤ := by
  induction n with
  | zero => exact .inl ⟨0, le_refl _, by simp⟩
  | succ n ih =>
    rw [Fin.sum_univ_succ]
    have h0 : (∃ q : ℝ, 0 ≤ q ∧ x 0 * x 0 = (q : EReal)) ∨ x 0 * x 0 = ⊤ := by
      induction x 0 using EReal.rec with
      | bot => exact .inr EReal.bot_mul_bot
      | top => exact .inr EReal.top_mul_top
      | coe a => exact .inl ⟨a * a, mul_self_nonneg a, (EReal.coe_mul a a).symm⟩
    rcases ih (fun k => x k.succ) with ⟨q, hq, e⟩ | e <;> rcases h0 with ⟨p, hp, f⟩ | f <;> rw [e, f]
    · exact .inl ⟨p + q, add_nonneg hp hq, (EReal.coe_add p q).symm⟩
    · exact .inr (EReal.top_add_coe q)
    · exact .inr (EReal.coe_add_top p)
    · exact .inr EReal.top_add_top

variable {n : ℕ}

/-- The mean of the squares of a row of `C` elements, plus the constant, and the scale of the row. -/
def mean (C : ℝ) (x : Fin n → EReal) : EReal := Ideal.div (∑ k, x k * x k) (C : EReal) + (eps : EReal)
def scale (C : ℝ) (x : Fin n → EReal) : EReal := Ideal.rsqrt (mean C x)

/-- The derivative in the first form. -/
def grad (C : ℝ) (x a : Fin n → EReal) (b : Fin n) : EReal :=
  scale C x * (a b - x b * scale C x * Ideal.div (∑ k, a k * (x k * scale C x)) (C : EReal))

/-- What the mean of the squares passes back to each element, but for the element. -/
def back (C : ℝ) (x a : Fin n → EReal) : EReal :=
  Ideal.div ((∑ k, x k * a k) * (((-(1 / 2) : ℝ) : EReal) * Ideal.div (scale C x) (mean C x))) (C : EReal)

theorem grad_eq (C : ℝ) (hC : 0 < C) (x a : Fin n → EReal) (b : Fin n) :
    grad C x a b = a b * scale C x + (x b * back C x a + back C x a * x b) := by
  unfold grad back
  rcases squares x with ⟨q, hq, e⟩ | e
  · have hu : 0 < q * (1 / C) + eps := add_pos_of_nonneg_of_pos (by positivity) eps_pos
    have hm : mean C x = ((q * (1 / C) + eps : ℝ) : EReal) := by
      unfold mean; rw [e, Ideal.div_coe hC.ne', ← EReal.coe_mul, ← EReal.coe_add]
    generalize q * (1 / C) + eps = u at hu hm
    have hs : scale C x = (((Real.sqrt u)⁻¹ : ℝ) : EReal) := by
      unfold scale; rw [hm, Ideal.rsqrt_coe, if_neg (not_lt.mpr hu.le), if_neg hu.ne']
    have hr : 0 < (Real.sqrt u)⁻¹ := inv_pos.mpr (Real.sqrt_pos.mpr hu)
    have hru : 1 / u = (Real.sqrt u)⁻¹ * (Real.sqrt u)⁻¹ := by rw [← mul_inv, Real.mul_self_sqrt hu.le, one_div]
    rw [hs, hm]
    generalize (Real.sqrt u)⁻¹ = r at hr hru
    rw [Ideal.div_coe hu.ne', hru, Ideal.div_coe hC.ne', Ideal.div_coe hC.ne']
    have hsum : (∑ k, a k * (x k * (r : EReal))) = (r : EReal) * ∑ k, x k * a k := by
      rw [mul_sum r hr.le]
      exact Finset.sum_congr rfl fun k _ => by rw [mul_comm (r : EReal), mul_comm (x k) (a k), mul_assoc]
    rw [hsum]
    generalize (∑ k, x k * a k) = T
    generalize x b = y
    generalize a b = z
    have twice : ∀ w : EReal, w + w = ((2 : ℝ) : EReal) * w := by
      intro w
      induction w using EReal.rec with
      | bot => rw [EReal.coe_mul_bot_of_pos (by norm_num)]; rfl
      | top => rw [EReal.coe_mul_top_of_pos (by norm_num)]; rfl
      | coe w => rw [← EReal.coe_add, ← EReal.coe_mul]; congr 1; ring
    rw [sub_eq_add_neg, EReal.left_distrib_of_nonneg_of_ne_top (by exact_mod_cast hr.le) (EReal.coe_ne_top _), mul_comm (r : EReal) z]
    congr 1
    rw [mul_comm _ y, twice]
    have lhs : (r : EReal) * -(y * (r : EReal) * ((r : EReal) * T * ((1 / C : ℝ) : EReal))) = (y * T) * ((-(r * r * r * (1 / C)) : ℝ) : EReal) := by
      rw [mul_neg, EReal.coe_neg, mul_neg, EReal.coe_mul, EReal.coe_mul, EReal.coe_mul]
      congr 1
      ac_rfl
    have rhs : ((2 : ℝ) : EReal) * (y * (T * (((-(1 / 2) : ℝ) : EReal) * ((r : EReal) * ((r * r : ℝ) : EReal))) * ((1 / C : ℝ) : EReal)))
        = (y * T) * ((2 * (-(1 / 2)) * (r * (r * r)) * (1 / C) : ℝ) : EReal) := by
      rw [EReal.coe_mul _ (1 / C), EReal.coe_mul _ (r * (r * r)), EReal.coe_mul 2, EReal.coe_mul r (r * r)]
      ac_rfl
    rw [lhs, rhs]
    congr 2
    ring
  · have hm : mean C x = ⊤ := by
      unfold mean
      rw [e, Ideal.div_coe hC.ne', EReal.top_mul_coe_of_pos (by positivity), EReal.top_add_coe]
    have hs : scale C x = 0 := by unfold scale; rw [hm]; rfl
    have hd : Ideal.div 0 (⊤ : EReal) = 0 := by simp [Ideal.div]
    rw [hs, hm, hd]
    simp [Ideal.div, hC.ne']

end Cert.Norm

end
-- ==== Proof.Rms.lean ====
module

public import proofs.«01_k».proof.Proof.Gen.RmsIdeal.Value
public import proofs.«01_k».proof.Proof.Gen.RmsRefIdeal.Run
public import proofs.«01_k».proof.Proof.Gen.RmsRefIdeal.Read
public import proofs.«01_k».proof.Proof.Blocks
public import proofs.«01_k».proof.Proof.Norm
public import Idealize.ShloMosaic.Lib.Pointwise
public import Idealize.ShloMosaic.Lib.StableHlo.ReadAt
public import Idealize.ShloMosaic.Lib.Tactic

/-! # The derivative of the row norm, added to a residual gradient, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.RmsIdeal.Product

open Cert.RmsIdeal Cert.RmsIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- The gradient of the rows. -/
def rows (d h x : S4096x2048.Idx → EReal) (g : S2048.Idx → EReal) : S4096x2048.Idx → EReal := fun i =>
  d i + Cert.Norm.grad 2048 (fun k => x (ix2 (i 0) k)) (fun k => h (ix2 (i 0) k) * g (ix1 k)) (i 1)

/-- What row `s` passes back to gain `b`, and the gradient of the gain. -/
def gainTerm (h x : S4096x2048.Idx → EReal) (s : Fin 4096) (b : Fin 2048) : EReal :=
  h (ix2 s b) * (x (ix2 s b) * Cert.Norm.scale 2048 fun k => x (ix2 s k))
def gain (h x : S4096x2048.Idx → EReal) : S1x2048.Idx → EReal := fun i => ∑ s : Fin 4096, gainTerm h x s (i 1)

theorem points (t : Fin cfg0.N) : t.val < 16 := Nat.lt_of_lt_of_eq t.isLt N_0

/-- What point `t` adds to the sum, and two arrays added. -/
abbrev addend (c : Dev nD) (t : Fin cfg0.N) : Vec Ideal S1x2048 .f32 := k0_pay1 (k0_pay4 (F := Ideal) (iblk m c 1 t) (iblk m c 2 t))
abbrev plus (a b : Vec Ideal S1x2048 .f32) : Vec Ideal S1x2048 .f32 := addf (F := Ideal) (s := S1x2048) (φ := .f32) a b

theorem rows_A (c : Dev nD) (t : Fin cfg0.N) (h0 : cond0_0 (grid0.coords t)) (h1 : ¬cond0_1 (grid0.coords t)) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 (iblk m c 0 t) (iblk m c 1 t) (iblk m c 2 t) (iblk m c 3 t) = k0_pay5 (F := Ideal) (iblk m c 0 t) (iblk m c 1 t) (iblk m c 2 t) (iblk m c 3 t) := by
  unfold out0_A_4
  rw [View.read_writes_eq_canon _ _ _ (fun y => cover0_A_4 _ _ _ _ _ _ _ _ _ _ _ _ _ _ _ _ _ _ _ _ y)]
  unfold kernelRun0_A
  dsimp only
  try sl_unfold_words
  rw [View.canon_unit_zero zero2]
  simp only [View.readAt_eq_ld, (hs0_0 t).read_unread, (hs0_1 t).read_unread, (hs0_2 t).read_unread, (hs0_3 t).read_unread, View.ld_unit_zero (S := S256x2048) zero2, View.ld_unit_zero (S := S1x2048) zero2]

theorem rows_B (c : Dev nD) (t : Fin cfg0.N) (h0 : ¬cond0_0 (grid0.coords t)) (h1 : cond0_1 (grid0.coords t)) (acc : Vec Ideal S1x2048 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 (iblk m c 0 t) (iblk m c 1 t) (iblk m c 2 t) (iblk m c 3 t) acc = k0_pay5 (F := Ideal) (iblk m c 0 t) (iblk m c 1 t) (iblk m c 2 t) (iblk m c 3 t) := by
  unfold out0_B_4
  rw [View.read_writes_eq_canon _ _ _ (fun y => cover0_B_4 _ _ _ _ _ _ _ _ _ _ _ _ _ _ _ _ _ _ _ _ _ y)]
  unfold kernelRun0_B
  dsimp only
  try sl_unfold_words
  rw [View.canon_unit_zero zero2]
  simp only [View.readAt_eq_ld, (hs0_0 t).read_unread, (hs0_1 t).read_unread, (hs0_2 t).read_unread, (hs0_3 t).read_unread, View.ld_unit_zero (S := S256x2048) zero2, View.ld_unit_zero (S := S1x2048) zero2]

theorem sum_A (c : Dev nD) (t : Fin cfg0.N) (h0 : cond0_0 (grid0.coords t)) (h1 : ¬cond0_1 (grid0.coords t)) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 (iblk m c 0 t) (iblk m c 1 t) (iblk m c 2 t) (iblk m c 3 t) = addend m c t := by
  unfold out0_A_5
  rw [View.read_writes_eq_canon _ _ _ (fun y => cover0_A_5 _ _ _ _ _ _ _ _ _ _ _ _ _ _ _ _ _ _ _ _ y)]
  unfold kernelRun0_A
  dsimp only
  try sl_unfold_words
  rw [View.canon_unit_zero zero2]
  simp only [View.readAt_eq_ld, (hs0_0 t).read_unread, (hs0_1 t).read_unread, (hs0_2 t).read_unread, (hs0_3 t).read_unread, View.ld_unit_zero (S := S256x2048) zero2, View.ld_unit_zero (S := S1x2048) zero2]

theorem sum_B (c : Dev nD) (t : Fin cfg0.N) (h0 : ¬cond0_0 (grid0.coords t)) (h1 : cond0_1 (grid0.coords t)) (acc : Vec Ideal S1x2048 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) h0 h1 (iblk m c 0 t) (iblk m c 1 t) (iblk m c 2 t) (iblk m c 3 t) acc = plus acc (addend m c t) := by
  unfold out0_B_5
  rw [View.read_writes_eq_canon _ _ _ (fun y => cover0_B_5 _ _ _ _ _ _ _ _ _ _ _ _ _ _ _ _ _ _ _ _ _ y)]
  unfold kernelRun0_B
  dsimp only
  try sl_unfold_words
  rw [View.canon_unit_zero zero2]
  unfold k0_pay2
  simp only [View.readAt_eq_ld, (hs0_0 t).read_unread, (hs0_1 t).read_unread, (hs0_2 t).read_unread, (hs0_3 t).read_unread, (hs0_5 t).read_unread, View.ld_unit_zero (S := S256x2048) zero2, View.ld_unit_zero (S := S1x2048) zero2, shapeCast_self]

attribute [local irreducible] outsAt0 out0_A_4 out0_A_5 out0_B_4 out0_B_5

theorem outs_rows (c : Dev nD) (t : Fin cfg0.N) : (outsAt0 m c t.val t.isLt).1 = k0_pay5 (F := Ideal) (iblk m c 0 t) (iblk m c 1 t) (iblk m c 2 t) (iblk m c 3 t) := by
  have hp := points t
  by_cases hz : t.val % 16 = 0
  · have e := congrArg Prod.fst (outsAt0_A m c t hz (by omega))
    dsimp only at e
    exact e.trans (rows_A m c t _ _)
  · have e := congrArg Prod.fst (outsAt0_B m c t hz (by omega))
    dsimp only at e
    exact e.trans (rows_B m c t _ _ _)

/-- The running sum after point `n`, and what point `n` adds, at one place (zero outside the grid). -/
def sumAt (c : Dev nD) (i : S1x2048.Idx) (n : ℕ) : EReal := if h : n < cfg0.N then (outsAt0 m c n h).2 i else 0
def addAt (c : Dev nD) (i : S1x2048.Idx) (n : ℕ) : EReal := if h : n < cfg0.N then addend m c ⟨n, h⟩ i else 0

theorem outs_eq (c : Dev nD) (t : Fin cfg0.N) (hz : ¬t.val % 16 = 0) :
    (outsAt0 m c t.val t.isLt).2 = plus (outsAt0 m c (t.val - 1) (by have := t.isLt; omega)).2 (addend m c t) := by
  have e := congrArg Prod.snd (outsAt0_B m c t hz (by omega))
  dsimp only at e
  exact e.trans (sum_B m c t _ _ _)

theorem outs_first (c : Dev nD) (t : Fin cfg0.N) (hz : t.val % 16 = 0) : (outsAt0 m c t.val t.isLt).2 = addend m c t := by
  have hp := points t
  have e := congrArg Prod.snd (outsAt0_A m c t hz (by omega))
  dsimp only at e
  exact e.trans (sum_A m c t _ _)

theorem sum_at (c : Dev nD) (i : S1x2048.Idx) (t : Fin cfg0.N) : sumAt m c i t.val = (outsAt0 m c t.val t.isLt).2 i := dif_pos t.isLt
theorem add_at (c : Dev nD) (i : S1x2048.Idx) (t : Fin cfg0.N) : addAt m c i t.val = addend m c t i := dif_pos t.isLt

theorem sum_eq (c : Dev nD) (i : S1x2048.Idx) : ∀ n, n < cfg0.N →
    sumAt m c i n = ∑ s ∈ Finset.range (n % 16 + 1), addAt m c i (n - n % 16 + s) := by
  refine Cert.Blocks.sum_since 16 (sumAt m c i) (addAt m c i) cfg0.N ?_ ?_
  · intro n h hz
    exact (sum_at m c i ⟨n, h⟩).trans ((congrFun (outs_first m c ⟨n, h⟩ hz) i).trans (add_at m c i ⟨n, h⟩).symm)
  · intro n h hz
    refine (sum_at m c i ⟨n + 1, h⟩).trans ((congrFun (outs_eq m c ⟨n + 1, h⟩ hz) i).trans ?_)
    refine congr (congrArg HAdd.hAdd ?_) (add_at m c i ⟨n + 1, h⟩).symm
    exact (sum_at m c i ⟨n, Nat.lt_of_succ_lt h⟩).symm

theorem index_at : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0 :=
  (by decide +kernel : ∀ t : Fin grid0.N, _)

/-- Row `a` of block `t`. -/
abbrev row (t : Fin cfg0.N) (a : Fin 256) : Fin 4096 := ⟨t.val * 256 + a.val, by have := points t; omega⟩

theorem residual_at (c : Dev nD) (t : Fin cfg0.N) (a : Fin 256) (k : Fin 2048) :
    (iblk m c 0 t : S256x2048.Idx → EReal) (ix2 a k) = (m ((c : Thread nD τ).loc main_arg0) : S4096x2048.Idx → EReal) (ix2 (row t a) k) := by
  have hV : ∀ i : S4096x2048.Idx, (V m c main_arg0 : S4096x2048.Idx → EReal) i = (m ((c : Thread nD τ).loc main_arg0) : S4096x2048.Idx → EReal) i :=
    fun i => congrFun (V_main_arg0 m c) i
  unfold iblk
  rw [View.read_apply]
  obtain ⟨e0, e1, -⟩ := index_at t
  have he : ((cfg0.win 0).blk t).view.emb (ix2 a k) = (ix2 (row t a) k : S4096x2048.Idx) := by
    funext z; apply Fin.ext
    match z with
    | ⟨0, _⟩ => show win0_0.index t 0 * 256 + 1 * a.val = t.val * 256 + a.val; rw [e0]; omega
    | ⟨1, _⟩ => show win0_0.index t 1 * 2048 + 1 * k.val = k.val; rw [e1]; omega
  rw [he]
  exact hV _

theorem grads_at (c : Dev nD) (t : Fin cfg0.N) (a : Fin 256) (k : Fin 2048) :
    (iblk m c 1 t : S256x2048.Idx → EReal) (ix2 a k) = (m ((c : Thread nD τ).loc main_arg1) : S4096x2048.Idx → EReal) (ix2 (row t a) k) := by
  have hV : ∀ i : S4096x2048.Idx, (V m c main_arg1 : S4096x2048.Idx → EReal) i = (m ((c : Thread nD τ).loc main_arg1) : S4096x2048.Idx → EReal) i :=
    fun i => congrFun (V_main_arg1 m c) i
  unfold iblk
  rw [View.read_apply]
  obtain ⟨-, -, e0, e1, -⟩ := index_at t
  have he : ((cfg0.win 1).blk t).view.emb (ix2 a k) = (ix2 (row t a) k : S4096x2048.Idx) := by
    funext z; apply Fin.ext
    match z with
    | ⟨0, _⟩ => show win0_1.index t 0 * 256 + 1 * a.val = t.val * 256 + a.val; rw [e0]; omega
    | ⟨1, _⟩ => show win0_1.index t 1 * 2048 + 1 * k.val = k.val; rw [e1]; omega
  rw [he]
  exact hV _

theorem inputs_at (c : Dev nD) (t : Fin cfg0.N) (a : Fin 256) (k : Fin 2048) :
    (iblk m c 2 t : S256x2048.Idx → EReal) (ix2 a k) = (m ((c : Thread nD τ).loc main_arg2) : S4096x2048.Idx → EReal) (ix2 (row t a) k) := by
  have hV : ∀ i : S4096x2048.Idx, (V m c main_arg2 : S4096x2048.Idx → EReal) i = (m ((c : Thread nD τ).loc main_arg2) : S4096x2048.Idx → EReal) i :=
    fun i => congrFun (V_main_arg2 m c) i
  unfold iblk
  rw [View.read_apply]
  obtain ⟨-, -, -, -, e0, e1, -⟩ := index_at t
  have he : ((cfg0.win 2).blk t).view.emb (ix2 a k) = (ix2 (row t a) k : S4096x2048.Idx) := by
    funext z; apply Fin.ext
    match z with
    | ⟨0, _⟩ => show win0_2.index t 0 * 256 + 1 * a.val = t.val * 256 + a.val; rw [e0]; omega
    | ⟨1, _⟩ => show win0_2.index t 1 * 2048 + 1 * k.val = k.val; rw [e1]; omega
  rw [he]
  exact hV _

theorem gains_at (c : Dev nD) (t : Fin cfg0.N) (k : Fin 2048) :
    (iblk m c 3 t : S1x2048.Idx → EReal) (ix2 0 k) = (m ((c : Thread nD τ).loc main_arg3) : S2048.Idx → EReal) (ix1 k) := by
  have hV : ∀ k : Fin 2048, (V m c main_v0 : S1x2048.Idx → EReal) (ix2 0 k) = (m ((c : Thread nD τ).loc main_arg3) : S2048.Idx → EReal) (ix1 k) := by
    intro k
    unfold V
    after_reads_at
  unfold iblk
  rw [View.read_apply]
  obtain ⟨-, -, -, -, -, -, e0, e1, -⟩ := index_at t
  have he : ((cfg0.win 3).blk t).view.emb (ix2 0 k) = (ix2 0 k : S1x2048.Idx) := by
    funext z; apply Fin.ext
    match z with
    | ⟨0, _⟩ => show win0_3.index t 0 * 1 + 1 * 0 = 0; rw [e0]
    | ⟨1, _⟩ => show win0_3.index t 1 * 2048 + 1 * k.val = k.val; rw [e1]; omega
  rw [he]
  exact hV _

/-- A block of the gradient of the rows. -/
theorem rows_tile (d h x : S256x2048.Idx → EReal) (g : S1x2048.Idx → EReal) (a : Fin 256) (b : Fin 2048) :
    (k0_pay5 (F := Ideal) d h x g : S256x2048.Idx → EReal) (ix2 a b)
      = d (ix2 a b) + Cert.Norm.grad 2048 (fun k => x (ix2 a k)) (fun k => h (ix2 a k) * g (ix2 0 k)) b := by
  pointwise [k0_pay5, k0_pay3]
  rw [Cert.Norm.word_2048, Cert.Norm.word_eps]
  rfl

/-- What a block adds to the gradient of the gain. -/
theorem gain_tile (h x : S256x2048.Idx → EReal) (b : Fin 2048) :
    (k0_pay1 (k0_pay4 (F := Ideal) h x) : S1x2048.Idx → EReal) (ix2 0 b)
      = ∑ a : Fin 256, h (ix2 a b) * (x (ix2 a b) * Cert.Norm.scale 2048 fun k => x (ix2 a k)) := by
  pointwise [k0_pay1, k0_pay4, k0_pay3]
  rw [Cert.Norm.word_2048, Cert.Norm.word_eps]
  rfl

/-- The results of the call. -/
abbrev result4 (c : Dev nD) : Buf (Elt Ideal) ((c : Thread nD τ).loc main_v1_0) :=
  rows (m ((c : Thread nD τ).loc main_arg0)) (m ((c : Thread nD τ).loc main_arg1)) (m ((c : Thread nD τ).loc main_arg2)) (m ((c : Thread nD τ).loc main_arg3))
abbrev result5 (c : Dev nD) : Buf (Elt Ideal) ((c : Thread nD τ).loc main_v1_1) := gain (m ((c : Thread nD τ).loc main_arg1)) (m ((c : Thread nD τ).loc main_arg2))

/-- The term of row `n` (rows counted around, so that every number names one). -/
def termAt (h x : S4096x2048.Idx → EReal) (b : Fin 2048) (n : ℕ) : EReal := gainTerm h x ⟨n % 4096, Nat.mod_lt _ (by decide)⟩ b

theorem add_eq (c : Dev nD) (t : Fin cfg0.N) (b : Fin 2048) :
    (addend m c t : S1x2048.Idx → EReal) (ix2 0 b)
      = ∑ a : Fin 256, termAt (m ((c : Thread nD τ).loc main_arg1)) (m ((c : Thread nD τ).loc main_arg2)) b (t.val * 256 + a.val) := by
  refine (gain_tile (iblk m c 1 t) (iblk m c 2 t) b).trans (Finset.sum_congr rfl fun a _ => ?_)
  have hp := points t
  have hm : (t.val * 256 + a.val) % 4096 = t.val * 256 + a.val := by omega
  rw [grads_at]
  simp only [inputs_at]
  unfold termAt gainTerm
  simp only [hm]

theorem flushed4_eq (c : Dev nD) (t : Fin cfg0.N) :
    (dats m 0 c).flushed 4 t = ((cfg0.win 4).blk t).view.read (Elt Ideal) (result4 m c) := by
  rw [Value.flushed4, outs_rows]
  obtain ⟨-, -, -, -, -, -, -, -, e0, e1, -⟩ := index_at t
  funext y
  show (k0_pay5 (F := Ideal) (iblk m c 0 t) (iblk m c 1 t) (iblk m c 2 t) (iblk m c 3 t) : S256x2048.Idx → EReal) y = rows _ _ _ _ (((cfg0.win 4).blk t).view.emb y)
  have hy : ∃ (a : Fin 256) (b : Fin 2048), y = (ix2 a b : S256x2048.Idx) := ⟨y 0, y 1, eq_ix2 (y : S256x2048.Idx)⟩
  obtain ⟨a, b, rfl⟩ := hy
  have he : ((cfg0.win 4).blk t).view.emb (ix2 a b : S256x2048.Idx) = (ix2 (row t a) b : S4096x2048.Idx) := by
    funext z; apply Fin.ext
    match z with
    | ⟨0, _⟩ => show win0_4.index t 0 * 256 + 1 * a.val = t.val * 256 + a.val; rw [e0]; omega
    | ⟨1, _⟩ => show win0_4.index t 1 * 2048 + 1 * b.val = b.val; rw [e1]; omega
  rw [he]
  refine (rows_tile (iblk m c 0 t) (iblk m c 1 t) (iblk m c 2 t) (iblk m c 3 t) a b).trans ?_
  rw [residual_at]
  simp only [inputs_at, grads_at, gains_at]
  rfl

theorem covered4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  let t : Fin cfg0.N := ⟨(i 0).val / 256, by rw [show cfg0.N = 16 from N_0]; omega⟩
  have ht : t.val = (i 0).val / 256 := rfl
  refine ⟨t, flush0_4 t, ?_⟩
  obtain ⟨-, -, -, -, -, -, -, -, e0, e1, -⟩ := index_at t
  clear_value t
  show i ∈ ((View.whole main_v1_0).slice (win0_4.rect t)).set
  rw [View.set_slice_whole, Rect.mem_set_unit]
  intro a
  match a with
  | ⟨0, _⟩ => show win0_4.index t 0 * 256 ≤ (i 0).val ∧ (i 0).val < win0_4.index t 0 * 256 + 256; rw [e0]; omega
  | ⟨1, _⟩ => show win0_4.index t 1 * 2048 ≤ (i 1).val ∧ (i 1).val < win0_4.index t 1 * 2048 + 2048; rw [e1]; omega

/-- After the last point the sum is over all the rows. -/
theorem total_eq (c : Dev nD) (t : Fin cfg0.N) (hl : t.val = 15) (b : Fin 2048) :
    (outsAt0 m c t.val t.isLt).2 (ix2 0 b) = result5 m c (ix2 0 b) := by
  have h := sum_eq m c (ix2 0 b) t.val t.isLt
  rw [sum_at, show t.val % 16 + 1 = 16 from by omega, show t.val - t.val % 16 = 0 from by omega] at h
  rw [h]
  have hs : ∀ s ∈ Finset.range 16, addAt m c (ix2 0 b) (0 + s)
      = ∑ a : Fin 256, termAt (m ((c : Thread nD τ).loc main_arg1)) (m ((c : Thread nD τ).loc main_arg2)) b (s * 256 + a.val) := by
    intro s hs
    have hs2 : s < 16 := Finset.mem_range.mp hs
    rw [Nat.zero_add]
    unfold addAt
    rw [dif_pos (Nat.lt_of_lt_of_eq hs2 N_0.symm), add_eq]
  rw [Finset.sum_congr rfl hs, Cert.Blocks.sum_blocks]
  refine Finset.sum_congr rfl fun k _ => ?_
  have hm : k.val % 4096 = k.val := Nat.mod_eq_of_lt k.isLt
  unfold termAt
  simp only [hm]
  rfl

theorem flushed5_eq (c : Dev nD) (t : Fin cfg0.N) (hf : (cfg0.win 5).flush t = true) :
    (dats m 0 c).flushed 5 t = ((cfg0.win 5).blk t).view.read (Elt Ideal) (result5 m c) := by
  have hp := points t
  have hl : t.val = 15 := by have := (flush0_5 t).mp hf; omega
  rw [Value.flushed5]
  obtain ⟨-, -, -, -, -, -, -, -, -, -, e0, e1⟩ := index_at t
  funext y
  show (outsAt0 m c t.val t.isLt).2 y = result5 m c (((cfg0.win 5).blk t).view.emb y)
  have hy : ∃ b : Fin 2048, y = (ix2 0 b : S1x2048.Idx) :=
    ⟨y 1, by rw [eq_ix2 (y : S1x2048.Idx)]; congr 1; exact Subsingleton.elim (α := Fin 1) _ _⟩
  obtain ⟨b, rfl⟩ := hy
  have he : ((cfg0.win 5).blk t).view.emb (ix2 0 b : S1x2048.Idx) = (ix2 0 b : S1x2048.Idx) := by
    funext z; apply Fin.ext
    match z with
    | ⟨0, _⟩ => show win0_5.index t 0 * 1 + 1 * 0 = 0; rw [e0]
    | ⟨1, _⟩ => show win0_5.index t 1 * 2048 + 1 * b.val = b.val; rw [e1]; omega
  rw [he]
  exact total_eq m c t hl b

theorem covered5 (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨15, by rw [show cfg0.N = 16 from N_0]; omega⟩
  have ht : t.val = 15 := rfl
  refine ⟨t, (flush0_5 t).mpr (by omega), ?_⟩
  obtain ⟨-, -, -, -, -, -, -, -, -, -, e0, e1⟩ := index_at t
  clear_value t
  show i ∈ ((View.whole main_v1_1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0]; omega
  | ⟨1, _⟩ => show win0_5.index t 1 * 2048 ≤ (i 1).val ∧ (i 1).val < win0_5.index t 1 * 2048 + 2048; rw [e1]; omega

theorem run : θ_run defs (onTc (τ := τ) (main (F := Ideal))) ⟨m, fun _ => 0, ρ⟩ fun r => ∀ c : Dev nD,
      r.2.mem ((c : Thread nD τ).loc main_v1_0) = result4 m c
      ∧ r.2.mem ((c : Thread nD τ).loc main_v1_1) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (result4 m c) (fun t _ => flushed4_eq m c t) covered4),
      (h c).2.1.trans ((dats m 0 c).arrAt_eq_of_cover 5 (result5 m c) (fun t hf => flushed5_eq m c t hf) covered5),
      (h c).2.2⟩) (Value.run_blocks m ρ)

end Cert.RmsIdeal.Product

namespace Cert.RmsRefIdeal.Product

open Cert.RmsRefIdeal Cert.RmsRefIdeal.Read

theorem rows_eq (d h x : S4096x2048.Idx → EReal) (g : S2048.Idx → EReal) :
    (val_main_v35 (F := Ideal) d h x g : S4096x2048.Idx → EReal) = Cert.RmsIdeal.Product.rows d h x g := by
  funext i
  idx_vars i
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
  rw [Cert.Norm.word_2048, Cert.Norm.word_eps, Cert.Norm.word_neg_half]
  show _ = d (ix2 i0 i1) + Cert.Norm.grad 2048 (fun k => x (ix2 i0 k)) (fun k => h (ix2 i0 k) * g (ix1 k)) i1
  rw [Cert.Norm.grad_eq 2048 (by norm_num), Fin.sum_univ_one, ← add_assoc, ← add_assoc]
  rfl

theorem gain_eq (h x : S4096x2048.Idx → EReal) :
    (val_main_v18 (F := Ideal) h x : S1x2048.Idx → EReal) = Cert.RmsIdeal.Product.gain h x := by
  funext i
  idx_vars i
  unfold val_main_v18 val_main_v17 val_main_v16 val_main_v13 val_main_v12 val_main_v8 val_main_v7 val_main_v6 val_main_v5 val_main_v4 val_main_v3 val_main_v2 val_main_v1 val_main_cst val_main_cst_0 val_main_cst_1 val_main_cst_3
  pointwise
  rw [Cert.Norm.word_2048, Cert.Norm.word_eps]
  exact Finset.sum_congr rfl fun s _ => mul_comm _ _

end Cert.RmsRefIdeal.Product

end
-- ==== Proof.MixOutRows.lean ====
module

public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Norm
public import Idealize.ShloMosaic.Lib.Pointwise

/-! # The backward pass from the mixed branches, row by row, and the reference's arrays

The two branches are normed and set side by side. The second branch is gated before its norm. -/

@[expose] public section

set_option maxRecDepth 16384

noncomputable section

open Idealize.ShloMosaic
open scoped BigOperators

namespace Cert.Branches

open Cert.MixOutIdeal

/-- The gradient of a row at its left and right halves. -/
def left (dy : Fin 2048 → EReal) (k : Fin 1024) : EReal := dy ⟨k.val, by omega⟩
def right (dy : Fin 2048 → EReal) (k : Fin 1024) : EReal := dy ⟨1024 + k.val, by omega⟩

/-- The gate of the second branch, and the gated branch. -/
def gate (t b : Fin 1024 → EReal) (k : Fin 1024) : EReal := Ideal.div 1 (1 + Ideal.exp (-(t k + b k)))
def gated (yg t b : Fin 1024 → EReal) (k : Fin 1024) : EReal := yg k * gate t b k

/-- The gradients at the first branch and at the gated second branch. -/
def first (dy : Fin 2048 → EReal) (ya g : Fin 1024 → EReal) : Fin 1024 → EReal := Cert.Norm.grad 1024 ya fun k => left dy k * g k
def second (dy : Fin 2048 → EReal) (yg t b g : Fin 1024 → EReal) : Fin 1024 → EReal :=
  Cert.Norm.grad 1024 (gated yg t b) fun k => right dy k * g k

/-- The gradients at the second branch and at its gate's argument. -/
def state (dy : Fin 2048 → EReal) (yg t b g : Fin 1024 → EReal) (k : Fin 1024) : EReal := second dy yg t b g k * gate t b k
def argument (dy : Fin 2048 → EReal) (yg t b g : Fin 1024 → EReal) (k : Fin 1024) : EReal :=
  second dy yg t b g k * yg k * gate t b k * (1 - gate t b k)

/-- What a row passes back to the gains of the two norms. -/
def firstGain (dy : Fin 2048 → EReal) (ya : Fin 1024 → EReal) (k : Fin 1024) : EReal := left dy k * (ya k * Cert.Norm.scale 1024 ya)
def secondGain (dy : Fin 2048 → EReal) (yg t b : Fin 1024 → EReal) (k : Fin 1024) : EReal :=
  right dy k * (gated yg t b k * Cert.Norm.scale 1024 (gated yg t b))

/-! The arrays the call leaves. -/
variable (dy : S4096x2048.Idx → EReal) (ya yg t : S4096x1024.Idx → EReal) (b ga gs : S1024.Idx → EReal)

abbrev wide (x : S4096x2048.Idx → EReal) (s : Fin 4096) : Fin 2048 → EReal := fun k => x (ix2 s k)
abbrev narrow (x : S4096x1024.Idx → EReal) (s : Fin 4096) : Fin 1024 → EReal := fun k => x (ix2 s k)
abbrev flat (x : S1024.Idx → EReal) : Fin 1024 → EReal := fun k => x (ix1 k)

def firsts : S4096x1024.Idx → EReal := fun i => first (wide dy (i 0)) (narrow ya (i 0)) (flat ga) (i 1)
def states : S4096x1024.Idx → EReal := fun i => state (wide dy (i 0)) (narrow yg (i 0)) (narrow t (i 0)) (flat b) (flat gs) (i 1)
def arguments : S4096x1024.Idx → EReal := fun i => argument (wide dy (i 0)) (narrow yg (i 0)) (narrow t (i 0)) (flat b) (flat gs) (i 1)

/-! The three sums over the rows. -/

def firstSums : S1x1024.Idx → EReal := fun i => ∑ s : Fin 4096, firstGain (wide dy s) (narrow ya s) (i 1)
def secondSums : S1x1024.Idx → EReal := fun i => ∑ s : Fin 4096, secondGain (wide dy s) (narrow yg s) (narrow t s) (flat b) (i 1)
def argumentSums : S1x1024.Idx → EReal := fun i => ∑ s : Fin 4096, argument (wide dy s) (narrow yg s) (narrow t s) (flat b) (flat gs) (i 1)

end Cert.Branches

namespace Cert.MixOutRefIdeal.Product

open Cert.MixOutRefIdeal Cert.MixOutRefIdeal.Read Cert.Branches

variable (dy : S4096x2048.Idx → EReal) (ya yg t : S4096x1024.Idx → EReal) (b ga gs : S1024.Idx → EReal)

theorem firsts_eq : (val_main_v90 (F := Ideal) dy ya ga : S4096x1024.Idx → EReal) = firsts dy ya ga := by
  funext i
  idx_vars i
  unfold val_main_v90 val_main_v89 val_main_v88 val_main_v87 val_main_v86 val_main_v85 val_main_v84 val_main_v83 val_main_v82 val_main_v81 val_main_v80 val_main_v79 val_main_v78 val_main_v77 val_main_v76 val_main_v75 val_main_v46 val_main_v13 val_main_v12 val_main_v11 val_main_v10 val_main_v9 val_main_v8 val_main_v7 val_main_v6 val_main_v5 val_main_v4 val_main_v3 val_main_v1 val_main_cst val_main_cst_0 val_main_cst_1 val_main_cst_2 val_main_cst_16 val_main_cst_17 val_main_cst_18
  pointwise
  rw [Cert.Norm.word_1024, Cert.Norm.word_eps, Cert.Norm.word_neg_half]
  show _ = Cert.Norm.grad 1024 (narrow ya i0) (fun k => left (wide dy i0) k * flat ga k) i1
  rw [Cert.Norm.grad_eq 1024 (by norm_num), Fin.sum_univ_one, ← add_assoc]
  rfl

/-- The gradient at the gated second branch. -/
theorem second_eq (i0 : Fin 4096) (i1 : Fin 1024) : (val_main_v66 (F := Ideal) dy yg t b gs : S4096x1024.Idx → EReal) (ix2 i0 i1)
    = second (wide dy i0) (narrow yg i0) (narrow t i0) (flat b) (flat gs) i1 := by
  unfold val_main_v66 val_main_v65 val_main_v64 val_main_v63 val_main_v62 val_main_v61 val_main_v60 val_main_v59 val_main_v58 val_main_v57 val_main_v56 val_main_v55 val_main_v54 val_main_v53 val_main_v52 val_main_v51 val_main_v47 val_main_v40 val_main_v39 val_main_v38 val_main_v37 val_main_v36 val_main_v35 val_main_v34 val_main_v33 val_main_v32 val_main_v31 val_main_v30 val_main_v29 val_main_v25 val_main_v24 val_main_v23 val_main_v22 val_main_v21 val_main_v20 val_main_v19 val_main_v18 val_main_v2 val_main_v0 val_main_cst_3 val_main_cst_4 val_main_cst_6 val_main_cst_7 val_main_cst_8 val_main_cst_9 val_main_cst_11 val_main_cst_12 val_main_cst_13
  pointwise
  rw [Cert.Norm.word_1024, Cert.Norm.word_eps, Cert.Norm.word_neg_half]
  show _ = Cert.Norm.grad 1024 (gated (narrow yg i0) (narrow t i0) (flat b)) (fun k => right (wide dy i0) k * flat gs k) i1
  rw [Cert.Norm.grad_eq 1024 (by norm_num), Fin.sum_univ_one, ← add_assoc]
  rfl

theorem states_eq : (val_main_v68 (F := Ideal) dy yg t b gs : S4096x1024.Idx → EReal) = states dy yg t b gs := by
  funext i
  idx_vars i
  show (val_main_v66 (F := Ideal) dy yg t b gs : S4096x1024.Idx → EReal) (ix2 i0 i1) * (val_main_v25 (F := Ideal) t b : S4096x1024.Idx → EReal) (ix2 i0 i1) = _
  rw [second_eq]
  unfold val_main_v25 val_main_v24 val_main_v23 val_main_v22 val_main_v21 val_main_v20 val_main_v19 val_main_v18 val_main_v0 val_main_cst_3 val_main_cst_4
  pointwise
  rfl

theorem argument_eq (i0 : Fin 4096) (i1 : Fin 1024) : (val_main_v69 (F := Ideal) dy yg t b gs : S4096x1024.Idx → EReal) (ix2 i0 i1)
    = argument (wide dy i0) (narrow yg i0) (narrow t i0) (flat b) (flat gs) i1 := by
  show yg (ix2 i0 i1) * (val_main_v66 (F := Ideal) dy yg t b gs : S4096x1024.Idx → EReal) (ix2 i0 i1) * (val_main_v28 (F := Ideal) t b : S4096x1024.Idx → EReal) (ix2 i0 i1) = _
  rw [second_eq]
  unfold val_main_v28 val_main_v27 val_main_v26 val_main_v25 val_main_v24 val_main_v23 val_main_v22 val_main_v21 val_main_v20 val_main_v19 val_main_v18 val_main_v0 val_main_cst_3 val_main_cst_4 val_main_cst_5
  pointwise
  unfold argument
  rw [mul_comm (yg (ix2 i0 i1)), mul_assoc _ (gate _ _ _)]
  rfl

theorem arguments_eq : (val_main_v91 (F := Ideal) dy yg t b gs : S4096x1024.Idx → EReal) = arguments dy yg t b gs := by
  funext i
  idx_vars i
  exact argument_eq dy yg t b gs i0 i1

theorem firstSums_eq : (val_main_v74 (F := Ideal) dy ya : S1x1024.Idx → EReal) = firstSums dy ya := by
  funext i
  idx_vars i
  unfold val_main_v74 val_main_v73 val_main_v72 val_main_v46 val_main_v15 val_main_v14 val_main_v10 val_main_v9 val_main_v8 val_main_v7 val_main_v6 val_main_v5 val_main_v4 val_main_v3 val_main_cst val_main_cst_0 val_main_cst_1 val_main_cst_15
  pointwise
  rw [Cert.Norm.word_1024, Cert.Norm.word_eps]
  exact Finset.sum_congr rfl fun s _ => mul_comm _ _

theorem secondSums_eq : (val_main_v50 (F := Ideal) dy yg t b : S1x1024.Idx → EReal) = secondSums dy yg t b := by
  funext i
  idx_vars i
  unfold val_main_v50 val_main_v49 val_main_v48 val_main_v47 val_main_v42 val_main_v41 val_main_v37 val_main_v36 val_main_v35 val_main_v34 val_main_v33 val_main_v32 val_main_v31 val_main_v30 val_main_v29 val_main_v25 val_main_v24 val_main_v23 val_main_v22 val_main_v21 val_main_v20 val_main_v19 val_main_v18 val_main_v0 val_main_cst_3 val_main_cst_4 val_main_cst_6 val_main_cst_7 val_main_cst_8 val_main_cst_10
  pointwise
  rw [Cert.Norm.word_1024, Cert.Norm.word_eps]
  exact Finset.sum_congr rfl fun s _ => mul_comm _ _

theorem argumentSums_eq : (val_main_v71 (F := Ideal) dy yg t b gs : S1x1024.Idx → EReal) = argumentSums dy yg t b gs := by
  funext i
  idx_vars i
  unfold val_main_v71 val_main_v70 val_main_cst_14
  pointwise
  exact Finset.sum_congr rfl fun s _ => argument_eq dy yg t b gs s i1

end Cert.MixOutRefIdeal.Product

end
-- ==== Proof.MixOut.lean ====
module

public import proofs.«01_k».proof.Proof.MixOutRows
public import proofs.«01_k».proof.Proof.Blocks
public import Idealize.ShloMosaic.Lib.StableHlo.ReadAt
public import Idealize.ShloMosaic.Lib.Tactic

/-! # The backward pass from the mixed branches, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.MixOutIdeal.Product

open Cert.MixOutIdeal Cert.MixOutIdeal.Gen Cert.Branches

variable (m : (ℓ : Loc nD τ sig) → Buf (Elt Ideal) ℓ) (ρ : Dev nD → PrngReg)

theorem zero2 : (![0, 0] : Fin 2 → Nat) = fun _ => 0 := funext fun a => by fin_cases a <;> rfl

theorem points (t : Fin cfg0.N) : t.val < 16 := Nat.lt_of_lt_of_eq t.isLt N_0

section
variable (dy : Vec Ideal S256x2048 .f32) (ya yg t : Vec Ideal S256x1024 .f32) (b ga gs : Vec Ideal S1x1024 .f32)

/-! What the body makes of its seven blocks. -/

abbrev firstBlock : FVec Ideal S256x1024 .f32 := k0_pay10 (k0_pay6 ya) (k0_pay7 dy ga) (k0_pay8 ya) k0_pay9
abbrev secondBlock : FVec Ideal S256x1024 .f32 := k0_pay14 dy (k0_pay2 gs) (k0_pay4 yg t b)
abbrev productBlock : FVec Ideal S256x1024 .f32 := k0_pay16 dy yg (k0_pay2 gs) (k0_pay3 t b) (k0_pay4 yg t b)
abbrev stateBlock : FVec Ideal S256x1024 .f32 := k0_pay18 (k0_pay3 t b) (secondBlock dy yg t b gs)
abbrev argumentBlock : FVec Ideal S256x1024 .bf16 := k0_pay19 (k0_pay3 t b) (productBlock dy yg t b gs)
abbrev addends (j : Fin 3) : Vec Ideal S1x1024 .f32 := match j with
  | 0 => k0_pay20 (k0_pay11 (k0_pay5 dy) (k0_pay6 ya))
  | 1 => k0_pay22 (k0_pay15 dy (k0_pay4 yg t b))
  | 2 => k0_pay24 (k0_pay3 t b) (productBlock dy yg t b gs)

abbrev wideAt (x : S256x2048.Idx → EReal) (a : Fin 256) : Fin 2048 → EReal := fun k => x (ix2 a k)
abbrev narrowAt (x : S256x1024.Idx → EReal) (a : Fin 256) : Fin 1024 → EReal := fun k => x (ix2 a k)
abbrev flatAt (x : S1x1024.Idx → EReal) : Fin 1024 → EReal := fun k => x (ix2 0 k)

theorem first_tile (a : Fin 256) (k : Fin 1024) : (firstBlock dy ya ga : S256x1024.Idx → EReal) (ix2 a k) = first (wideAt dy a) (narrowAt ya a) (flatAt ga) k := by
  pointwise [k0_pay10, k0_pay9, k0_pay8, k0_pay7, k0_pay6, k0_pay5]
  rw [Cert.Norm.word_1024, Cert.Norm.word_eps]
  rfl

theorem second_tile (a : Fin 256) (k : Fin 1024) :
    (secondBlock dy yg t b gs : S256x1024.Idx → EReal) (ix2 a k) = second (wideAt dy a) (narrowAt yg a) (narrowAt t a) (flatAt b) (flatAt gs) k := by
  pointwise [k0_pay14, k0_pay13, k0_pay12, k0_pay4, k0_pay3, k0_pay2]
  simp only [zero_sub]
  rw [Cert.Norm.word_1024, Cert.Norm.word_eps]
  rfl

theorem gate_tile (a : Fin 256) (k : Fin 1024) : (k0_pay3 (F := Ideal) t b : S256x1024.Idx → EReal) (ix2 a k) = gate (narrowAt t a) (flatAt b) k := by
  pointwise [k0_pay3]
  rw [zero_sub]
  rfl

theorem state_tile (a : Fin 256) (k : Fin 1024) :
    (stateBlock dy yg t b gs : S256x1024.Idx → EReal) (ix2 a k) = state (wideAt dy a) (narrowAt yg a) (narrowAt t a) (flatAt b) (flatAt gs) k :=
  congr (congrArg HMul.hMul (second_tile dy yg t b gs a k)) (gate_tile t b a k)

theorem one_sub_gate (a : Fin 256) (k : Fin 1024) (p : FVec Ideal S256x1024 .f32) :
    (k0_pay17 (k0_pay3 t b) p : S256x1024.Idx → EReal) (ix2 a k) = p (ix2 a k) * (1 - gate (narrowAt t a) (flatAt b) k) := by
  rw [← gate_tile]
  pointwise [k0_pay17]

theorem argument_tile (a : Fin 256) (k : Fin 1024) :
    (k0_pay17 (k0_pay3 t b) (productBlock dy yg t b gs) : S256x1024.Idx → EReal) (ix2 a k) = argument (wideAt dy a) (narrowAt yg a) (narrowAt t a) (flatAt b) (flatAt gs) k := by
  rw [one_sub_gate]
  unfold argument
  rw [← second_tile, ← gate_tile]
  rfl

/-- What row `a` of a block adds to each of the three sums. -/
def part (j : Fin 3) (a : Fin 256) (k : Fin 1024) : EReal := match j with
  | 0 => firstGain (wideAt dy a) (narrowAt ya a) k
  | 1 => secondGain (wideAt dy a) (narrowAt yg a) (narrowAt t a) (flatAt b) k
  | 2 => argument (wideAt dy a) (narrowAt yg a) (narrowAt t a) (flatAt b) (flatAt gs) k

theorem addends_tile (j : Fin 3) (k : Fin 1024) :
    (addends dy ya yg t b gs j : S1x1024.Idx → EReal) (ix2 0 k) = ∑ a : Fin 256, part dy ya yg t b gs j a k := by
  match j with
  | 0 =>
    show (k0_pay20 (k0_pay11 (k0_pay5 dy) (k0_pay6 ya)) : S1x1024.Idx → EReal) (ix2 0 k) = _
    pointwise [k0_pay20, k0_pay11, k0_pay6, k0_pay5]
    rw [Cert.Norm.word_1024, Cert.Norm.word_eps]
    rfl
  | 1 =>
    show (k0_pay22 (k0_pay15 dy (k0_pay4 yg t b)) : S1x1024.Idx → EReal) (ix2 0 k) = _
    pointwise [k0_pay22, k0_pay15, k0_pay13, k0_pay12, k0_pay4, k0_pay3]
    simp only [zero_sub]
    rw [Cert.Norm.word_1024, Cert.Norm.word_eps]
    rfl
  | 2 =>
    show (k0_pay24 (k0_pay3 t b) (productBlock dy yg t b gs) : S1x1024.Idx → EReal) (ix2 0 k) = _
    pointwise [k0_pay24]
    exact Finset.sum_congr rfl fun a _ => argument_tile dy yg t b gs a k

end

abbrev plus (a b : Vec Ideal S1x1024 .f32) : Vec Ideal S1x1024 .f32 := addf (F := Ideal) (s := S1x1024) (φ := .f32) a b

/-- What point `t` adds to the sums. -/
abbrev addend (c : Dev nD) (t : Fin cfg0.N) (j : Fin 3) : Vec Ideal S1x1024 .f32 :=
  addends (iblk m c 0 t) (iblk m c 1 t) (iblk m c 2 t) (iblk m c 3 t) (iblk m c 4 t) (iblk m c 6 t) j

abbrev firstAt (c : Dev nD) (t : Fin cfg0.N) := firstBlock (iblk m c 0 t) (iblk m c 1 t) (iblk m c 5 t)
abbrev stateAt (c : Dev nD) (t : Fin cfg0.N) := stateBlock (iblk m c 0 t) (iblk m c 2 t) (iblk m c 3 t) (iblk m c 4 t) (iblk m c 6 t)
abbrev argumentAt (c : Dev nD) (t : Fin cfg0.N) := argumentBlock (iblk m c 0 t) (iblk m c 2 t) (iblk m c 3 t) (iblk m c 4 t) (iblk m c 6 t)

set_option maxHeartbeats 4000000 in
theorem outs_first (c : Dev nD) (t : Fin cfg0.N) (hz : t.val % 16 = 0) :
    outsAt0 m c t.val t.isLt = (firstAt m c t, stateAt m c t, argumentAt m c t, addend m c t 0, addend m c t 1, addend m c t 2) := by
  have hp := points t
  have h1 : ¬1 ≤ t.val := by omega
  rw [outsAt0_A m c t hz h1 hz h1 hz h1]
  unfold out0_A_7 out0_A_8 out0_A_9 out0_A_10 out0_A_11 out0_A_12
  rw [View.read_writes_eq_canon _ _ _ (fun y => cover0_A_7 _ _ _ _ _ _ _ _ _ _ _ _ _ _ _ _ _ _ _ _ _ _ _ _ _ _ _ _ _ _ _ _ _ _ _ _ _ _ _ _ _ y),
    View.read_writes_eq_canon _ _ _ (fun y => cover0_A_8 _ _ _ _ _ _ _ _ _ _ _ _ _ _ _ _ _ _ _ _ _ _ _ _ _ _ _ _ _ _ _ _ _ _ _ _ _ _ _ _ _ y),
    View.read_writes_eq_canon _ _ _ (fun y => cover0_A_9 _ _ _ _ _ _ _ _ _ _ _ _ _ _ _ _ _ _ _ _ _ _ _ _ _ _ _ _ _ _ _ _ _ _ _ _ _ _ _ _ _ y),
    View.read_writes_eq_canon _ _ _ (fun y => cover0_A_10 _ _ _ _ _ _ _ _ _ _ _ _ _ _ _ _ _ _ _ _ _ _ _ _ _ _ _ _ _ _ _ _ _ _ _ _ _ _ _ _ _ y),
    View.read_writes_eq_canon _ _ _ (fun y => cover0_A_11 _ _ _ _ _ _ _ _ _ _ _ _ _ _ _ _ _ _ _ _ _ _ _ _ _ _ _ _ _ _ _ _ _ _ _ _ _ _ _ _ _ y),
    View.read_writes_eq_canon _ _ _ (fun y => cover0_A_12 _ _ _ _ _ _ _ _ _ _ _ _ _ _ _ _ _ _ _ _ _ _ _ _ _ _ _ _ _ _ _ _ _ _ _ _ _ _ _ _ _ y)]
  unfold kernelRun0_A
  dsimp only
  try sl_unfold_words
  simp only [View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S256x2048) zero2, View.ld_unit_zero (S := S256x1024) zero2, View.ld_unit_zero (S := S1x1024) zero2]
  rw [View.canon_unit_zero zero2, View.canon_unit_zero zero2, View.canon_unit_zero zero2, View.canon_unit_zero zero2, View.canon_unit_zero zero2, View.canon_unit_zero zero2] <;> rfl

set_option maxHeartbeats 4000000 in
theorem outs_later (c : Dev nD) (t : Fin cfg0.N) (hz : ¬t.val % 16 = 0) :
    outsAt0 m c t.val t.isLt = (firstAt m c t, stateAt m c t, argumentAt m c t,
      plus (outsAt0 m c (t.val - 1) (by have := t.isLt; omega)).2.2.2.1 (addend m c t 0),
      plus (outsAt0 m c (t.val - 1) (by have := t.isLt; omega)).2.2.2.2.1 (addend m c t 1),
      plus (outsAt0 m c (t.val - 1) (by have := t.isLt; omega)).2.2.2.2.2 (addend m c t 2)) := by
  have h1 : 1 ≤ t.val := by omega
  rw [outsAt0_B m c t hz h1 hz h1 hz h1]
  generalize (outsAt0 m c (t.val - 1) _).2.2.2.1 = acc0
  generalize (outsAt0 m c (t.val - 1) _).2.2.2.2.1 = acc1
  generalize (outsAt0 m c (t.val - 1) _).2.2.2.2.2 = acc2
  unfold out0_B_7 out0_B_8 out0_B_9 out0_B_10 out0_B_11 out0_B_12
  rw [View.read_writes_eq_canon _ _ _ (fun y => cover0_B_7 _ _ _ _ _ _ _ _ _ _ _ _ _ _ _ _ _ _ _ _ _ _ _ _ _ _ _ _ _ _ _ _ _ _ _ _ _ _ _ _ _ _ _ _ y),
    View.read_writes_eq_canon _ _ _ (fun y => cover0_B_8 _ _ _ _ _ _ _ _ _ _ _ _ _ _ _ _ _ _ _ _ _ _ _ _ _ _ _ _ _ _ _ _ _ _ _ _ _ _ _ _ _ _ _ _ y),
    View.read_writes_eq_canon _ _ _ (fun y => cover0_B_9 _ _ _ _ _ _ _ _ _ _ _ _ _ _ _ _ _ _ _ _ _ _ _ _ _ _ _ _ _ _ _ _ _ _ _ _ _ _ _ _ _ _ _ _ y),
    View.read_writes_eq_canon _ _ _ (fun y => cover0_B_10 _ _ _ _ _ _ _ _ _ _ _ _ _ _ _ _ _ _ _ _ _ _ _ _ _ _ _ _ _ _ _ _ _ _ _ _ _ _ _ _ _ _ _ _ y),
    View.read_writes_eq_canon _ _ _ (fun y => cover0_B_11 _ _ _ _ _ _ _ _ _ _ _ _ _ _ _ _ _ _ _ _ _ _ _ _ _ _ _ _ _ _ _ _ _ _ _ _ _ _ _ _ _ _ _ _ y),
    View.read_writes_eq_canon _ _ _ (fun y => cover0_B_12 _ _ _ _ _ _ _ _ _ _ _ _ _ _ _ _ _ _ _ _ _ _ _ _ _ _ _ _ _ _ _ _ _ _ _ _ _ _ _ _ _ _ _ _ y)]
  unfold kernelRun0_B
  dsimp only
  try sl_unfold_words
  unfold k0_pay1 k0_pay21 k0_pay23
  simp only [View.readAt_eq_ld, (hs0_0 t).read_unread, (hs0_1 t).read_unread, (hs0_2 t).read_unread, (hs0_3 t).read_unread, (hs0_4 t).read_unread, (hs0_5 t).read_unread, (hs0_6 t).read_unread,
    (hs0_10 t).read_unread, (hs0_11 t).read_unread, (hs0_12 t).read_unread,
    View.ld_unit_zero (S := S256x2048) zero2, View.ld_unit_zero (S := S256x1024) zero2, View.ld_unit_zero (S := S1x1024) zero2, shapeCast_self]
  rw [View.canon_unit_zero zero2, View.canon_unit_zero zero2, View.canon_unit_zero zero2, View.canon_unit_zero zero2, View.canon_unit_zero zero2, View.canon_unit_zero zero2] <;> rfl

attribute [local irreducible] outsAt0

theorem outs_rows (c : Dev nD) (t : Fin cfg0.N) : (outsAt0 m c t.val t.isLt).1 = firstAt m c t
    ∧ (outsAt0 m c t.val t.isLt).2.1 = stateAt m c t ∧ (outsAt0 m c t.val t.isLt).2.2.1 = argumentAt m c t := by
  by_cases hz : t.val % 16 = 0
  · rw [outs_first m c t hz]; exact ⟨rfl, rfl, rfl⟩
  · rw [outs_later m c t hz]; exact ⟨rfl, rfl, rfl⟩

/-- The three running sums after point `n`. -/
def running (c : Dev nD) (n : ℕ) (h : n < cfg0.N) (j : Fin 3) : S1x1024.Idx → EReal := match j with
  | 0 => (outsAt0 m c n h).2.2.2.1
  | 1 => (outsAt0 m c n h).2.2.2.2.1
  | 2 => (outsAt0 m c n h).2.2.2.2.2

theorem running_first (c : Dev nD) (t : Fin cfg0.N) (j : Fin 3) (hz : t.val % 16 = 0) : running m c t.val t.isLt j = addend m c t j := by
  have e := outs_first m c t hz
  match j with
  | 0 => exact congrArg (fun o => o.2.2.2.1) e
  | 1 => exact congrArg (fun o => o.2.2.2.2.1) e
  | 2 => exact congrArg (fun o => o.2.2.2.2.2) e

theorem running_later (c : Dev nD) (t : Fin cfg0.N) (j : Fin 3) (hz : ¬t.val % 16 = 0) :
    running m c t.val t.isLt j = plus (running m c (t.val - 1) (by have := t.isLt; omega) j) (addend m c t j) := by
  have e := outs_later m c t hz
  match j with
  | 0 => exact congrArg (fun o => o.2.2.2.1) e
  | 1 => exact congrArg (fun o => o.2.2.2.2.1) e
  | 2 => exact congrArg (fun o => o.2.2.2.2.2) e

/-- The running sums, and what point `n` adds, at one place (zero outside the grid). -/
def sumAt (c : Dev nD) (j : Fin 3) (i : S1x1024.Idx) (n : ℕ) : EReal := if h : n < cfg0.N then running m c n h j i else 0
def addAt (c : Dev nD) (j : Fin 3) (i : S1x1024.Idx) (n : ℕ) : EReal := if h : n < cfg0.N then addend m c ⟨n, h⟩ j i else 0

theorem sum_at (c : Dev nD) (j : Fin 3) (i : S1x1024.Idx) (t : Fin cfg0.N) : sumAt m c j i t.val = running m c t.val t.isLt j i := dif_pos t.isLt
theorem add_at (c : Dev nD) (j : Fin 3) (i : S1x1024.Idx) (t : Fin cfg0.N) : addAt m c j i t.val = addend m c t j i := dif_pos t.isLt

theorem sum_eq (c : Dev nD) (j : Fin 3) (i : S1x1024.Idx) : ∀ n, n < cfg0.N →
    sumAt m c j i n = ∑ s ∈ Finset.range (n % 16 + 1), addAt m c j i (n - n % 16 + s) := by
  refine Cert.Blocks.sum_since 16 (sumAt m c j i) (addAt m c j i) cfg0.N ?_ ?_
  · intro n h hz
    exact (sum_at m c j i ⟨n, h⟩).trans ((congrFun (running_first m c ⟨n, h⟩ j hz) i).trans (add_at m c j i ⟨n, h⟩).symm)
  · intro n h hz
    refine (sum_at m c j i ⟨n + 1, h⟩).trans ((congrFun (running_later m c ⟨n + 1, h⟩ j hz) i).trans ?_)
    refine congr (congrArg HAdd.hAdd ?_) (add_at m c j i ⟨n + 1, h⟩).symm
    exact (sum_at m c j i ⟨n, Nat.lt_of_succ_lt h⟩).symm

/-- The blocks of rows move with the point; the rows of constants and the sums do not. -/
theorem index_at : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)
theorem index_row : ∀ t : Fin cfg0.N, (win0_4.index t 0 = 0 ∧ win0_4.index t 1 = 0) ∧ (win0_5.index t 0 = 0 ∧ win0_5.index t 1 = 0) ∧ (win0_6.index t 0 = 0 ∧ win0_6.index t 1 = 0) :=
  (by decide +kernel : ∀ t : Fin grid0.N, _)
theorem index_out : ∀ t : Fin cfg0.N, (win0_7.index t 0 = t.val ∧ win0_7.index t 1 = 0) ∧ (win0_8.index t 0 = t.val ∧ win0_8.index t 1 = 0) ∧ (win0_9.index t 0 = t.val ∧ win0_9.index t 1 = 0) :=
  (by decide +kernel : ∀ t : Fin grid0.N, _)
theorem index_sum : ∀ t : Fin cfg0.N, (win0_10.index t 0 = 0 ∧ win0_10.index t 1 = 0) ∧ (win0_11.index t 0 = 0 ∧ win0_11.index t 1 = 0) ∧ (win0_12.index t 0 = 0 ∧ win0_12.index t 1 = 0) :=
  (by decide +kernel : ∀ t : Fin grid0.N, _)

/-- Row `a` of block `t`. -/
abbrev row (t : Fin cfg0.N) (a : Fin 256) : Fin 4096 := ⟨t.val * 256 + a.val, by have := points t; omega⟩

/-! The arguments. -/

abbrev dyOf (c : Dev nD) : S4096x2048.Idx → EReal := m ((c : Thread nD τ).loc main_arg0)
abbrev yaOf (c : Dev nD) : S4096x1024.Idx → EReal := m ((c : Thread nD τ).loc main_arg1)
abbrev ygOf (c : Dev nD) : S4096x1024.Idx → EReal := m ((c : Thread nD τ).loc main_arg2)
abbrev tOf (c : Dev nD) : S4096x1024.Idx → EReal := m ((c : Thread nD τ).loc main_arg3)
abbrev bOf (c : Dev nD) : S1024.Idx → EReal := m ((c : Thread nD τ).loc main_arg4)
abbrev gaOf (c : Dev nD) : S1024.Idx → EReal := m ((c : Thread nD τ).loc main_arg5)
abbrev gsOf (c : Dev nD) : S1024.Idx → EReal := m ((c : Thread nD τ).loc main_arg6)

theorem dy_at (c : Dev nD) (t : Fin cfg0.N) (a : Fin 256) (k : Fin 2048) : (iblk m c 0 t : S256x2048.Idx → EReal) (ix2 a k) = dyOf m c (ix2 (row t a) k) := by
  have hV : ∀ i : S4096x2048.Idx, (V m c main_arg0 : S4096x2048.Idx → EReal) i = dyOf m c i := fun i => congrFun (V_main_arg0 m c) i
  unfold iblk
  rw [View.read_apply]
  obtain ⟨⟨e0, e1⟩, -⟩ := index_at t
  have he : ((cfg0.win 0).blk t).view.emb (ix2 a k) = (ix2 (row t a) k : S4096x2048.Idx) := by
    funext z; apply Fin.ext
    match z with
    | ⟨0, _⟩ => show win0_0.index t 0 * 256 + 1 * a.val = t.val * 256 + a.val; rw [e0]; omega
    | ⟨1, _⟩ => show win0_0.index t 1 * 2048 + 1 * k.val = k.val; rw [e1]; omega
  rw [he]
  exact hV _

theorem ya_at (c : Dev nD) (t : Fin cfg0.N) (a : Fin 256) (k : Fin 1024) : (iblk m c 1 t : S256x1024.Idx → EReal) (ix2 a k) = yaOf m c (ix2 (row t a) k) := by
  have hV : ∀ i : S4096x1024.Idx, (V m c main_arg1 : S4096x1024.Idx → EReal) i = yaOf m c i := fun i => congrFun (V_main_arg1 m c) i
  unfold iblk
  rw [View.read_apply]
  obtain ⟨-, ⟨e0, e1⟩, -⟩ := index_at t
  have he : ((cfg0.win 1).blk t).view.emb (ix2 a k) = (ix2 (row t a) k : S4096x1024.Idx) := by
    funext z; apply Fin.ext
    match z with
    | ⟨0, _⟩ => show win0_1.index t 0 * 256 + 1 * a.val = t.val * 256 + a.val; rw [e0]; omega
    | ⟨1, _⟩ => show win0_1.index t 1 * 1024 + 1 * k.val = k.val; rw [e1]; omega
  rw [he]
  exact hV _

theorem yg_at (c : Dev nD) (t : Fin cfg0.N) (a : Fin 256) (k : Fin 1024) : (iblk m c 2 t : S256x1024.Idx → EReal) (ix2 a k) = ygOf m c (ix2 (row t a) k) := by
  have hV : ∀ i : S4096x1024.Idx, (V m c main_arg2 : S4096x1024.Idx → EReal) i = ygOf m c i := fun i => congrFun (V_main_arg2 m c) i
  unfold iblk
  rw [View.read_apply]
  obtain ⟨-, -, ⟨e0, e1⟩, -⟩ := index_at t
  have he : ((cfg0.win 2).blk t).view.emb (ix2 a k) = (ix2 (row t a) k : S4096x1024.Idx) := by
    funext z; apply Fin.ext
    match z with
    | ⟨0, _⟩ => show win0_2.index t 0 * 256 + 1 * a.val = t.val * 256 + a.val; rw [e0]; omega
    | ⟨1, _⟩ => show win0_2.index t 1 * 1024 + 1 * k.val = k.val; rw [e1]; omega
  rw [he]
  exact hV _

theorem t_at (c : Dev nD) (t : Fin cfg0.N) (a : Fin 256) (k : Fin 1024) : (iblk m c 3 t : S256x1024.Idx → EReal) (ix2 a k) = tOf m c (ix2 (row t a) k) := by
  have hV : ∀ i : S4096x1024.Idx, (V m c main_arg3 : S4096x1024.Idx → EReal) i = tOf m c i := fun i => congrFun (V_main_arg3 m c) i
  unfold iblk
  rw [View.read_apply]
  obtain ⟨-, -, -, ⟨e0, e1⟩⟩ := index_at t
  have he : ((cfg0.win 3).blk t).view.emb (ix2 a k) = (ix2 (row t a) k : S4096x1024.Idx) := by
    funext z; apply Fin.ext
    match z with
    | ⟨0, _⟩ => show win0_3.index t 0 * 256 + 1 * a.val = t.val * 256 + a.val; rw [e0]; omega
    | ⟨1, _⟩ => show win0_3.index t 1 * 1024 + 1 * k.val = k.val; rw [e1]; omega
  rw [he]
  exact hV _

theorem b_at (c : Dev nD) (t : Fin cfg0.N) (k : Fin 1024) : (iblk m c 4 t : S1x1024.Idx → EReal) (ix2 0 k) = bOf m c (ix1 k) := by
  have hV : ∀ k : Fin 1024, (V m c main_v0 : S1x1024.Idx → EReal) (ix2 0 k) = bOf m c (ix1 k) := by
    intro k
    unfold V
    after_reads_at
  unfold iblk
  rw [View.read_apply]
  obtain ⟨⟨e0, e1⟩, -⟩ := index_row t
  have he : ((cfg0.win 4).blk t).view.emb (ix2 0 k) = (ix2 0 k : S1x1024.Idx) := by
    funext z; apply Fin.ext
    match z with
    | ⟨0, _⟩ => show win0_4.index t 0 * 1 + 1 * 0 = 0; rw [e0]
    | ⟨1, _⟩ => show win0_4.index t 1 * 1024 + 1 * k.val = k.val; rw [e1]; omega
  rw [he]
  exact hV _

theorem ga_at (c : Dev nD) (t : Fin cfg0.N) (k : Fin 1024) : (iblk m c 5 t : S1x1024.Idx → EReal) (ix2 0 k) = gaOf m c (ix1 k) := by
  have hV : ∀ k : Fin 1024, (V m c main_v1 : S1x1024.Idx → EReal) (ix2 0 k) = gaOf m c (ix1 k) := by
    intro k
    unfold V
    after_reads_at
  unfold iblk
  rw [View.read_apply]
  obtain ⟨-, ⟨e0, e1⟩, -⟩ := index_row t
  have he : ((cfg0.win 5).blk t).view.emb (ix2 0 k) = (ix2 0 k : S1x1024.Idx) := by
    funext z; apply Fin.ext
    match z with
    | ⟨0, _⟩ => show win0_5.index t 0 * 1 + 1 * 0 = 0; rw [e0]
    | ⟨1, _⟩ => show win0_5.index t 1 * 1024 + 1 * k.val = k.val; rw [e1]; omega
  rw [he]
  exact hV _

theorem gs_at (c : Dev nD) (t : Fin cfg0.N) (k : Fin 1024) : (iblk m c 6 t : S1x1024.Idx → EReal) (ix2 0 k) = gsOf m c (ix1 k) := by
  have hV : ∀ k : Fin 1024, (V m c main_v2 : S1x1024.Idx → EReal) (ix2 0 k) = gsOf m c (ix1 k) := by
    intro k
    unfold V
    after_reads_at
  unfold iblk
  rw [View.read_apply]
  obtain ⟨-, -, ⟨e0, e1⟩⟩ := index_row t
  have he : ((cfg0.win 6).blk t).view.emb (ix2 0 k) = (ix2 0 k : S1x1024.Idx) := by
    funext z; apply Fin.ext
    match z with
    | ⟨0, _⟩ => show win0_6.index t 0 * 1 + 1 * 0 = 0; rw [e0]
    | ⟨1, _⟩ => show win0_6.index t 1 * 1024 + 1 * k.val = k.val; rw [e1]; omega
  rw [he]
  exact hV _

/-! A row of a block is a row of the array. -/

theorem dy_row (c : Dev nD) (t : Fin cfg0.N) (a : Fin 256) : wideAt (iblk m c 0 t) a = wide (dyOf m c) (row t a) := funext fun k => dy_at m c t a k
theorem ya_row (c : Dev nD) (t : Fin cfg0.N) (a : Fin 256) : narrowAt (iblk m c 1 t) a = narrow (yaOf m c) (row t a) := funext fun k => ya_at m c t a k
theorem yg_row (c : Dev nD) (t : Fin cfg0.N) (a : Fin 256) : narrowAt (iblk m c 2 t) a = narrow (ygOf m c) (row t a) := funext fun k => yg_at m c t a k
theorem t_row (c : Dev nD) (t : Fin cfg0.N) (a : Fin 256) : narrowAt (iblk m c 3 t) a = narrow (tOf m c) (row t a) := funext fun k => t_at m c t a k
theorem b_row (c : Dev nD) (t : Fin cfg0.N) : flatAt (iblk m c 4 t) = flat (bOf m c) := funext fun k => b_at m c t k
theorem ga_row (c : Dev nD) (t : Fin cfg0.N) : flatAt (iblk m c 5 t) = flat (gaOf m c) := funext fun k => ga_at m c t k
theorem gs_row (c : Dev nD) (t : Fin cfg0.N) : flatAt (iblk m c 6 t) = flat (gsOf m c) := funext fun k => gs_at m c t k

/-! The results of the call. -/

abbrev result7 (c : Dev nD) : Buf (Elt Ideal) ((c : Thread nD τ).loc main_v3_0) := firsts (dyOf m c) (yaOf m c) (gaOf m c)
abbrev result8 (c : Dev nD) : Buf (Elt Ideal) ((c : Thread nD τ).loc main_v3_1) := states (dyOf m c) (ygOf m c) (tOf m c) (bOf m c) (gsOf m c)
abbrev result9 (c : Dev nD) : Buf (Elt Ideal) ((c : Thread nD τ).loc main_v3_2) := arguments (dyOf m c) (ygOf m c) (tOf m c) (bOf m c) (gsOf m c)
abbrev result10 (c : Dev nD) : Buf (Elt Ideal) ((c : Thread nD τ).loc main_v3_3) := firstSums (dyOf m c) (yaOf m c)
abbrev result11 (c : Dev nD) : Buf (Elt Ideal) ((c : Thread nD τ).loc main_v3_4) := secondSums (dyOf m c) (ygOf m c) (tOf m c) (bOf m c)
abbrev result12 (c : Dev nD) : Buf (Elt Ideal) ((c : Thread nD τ).loc main_v3_5) := argumentSums (dyOf m c) (ygOf m c) (tOf m c) (bOf m c) (gsOf m c)

/-- What row `s` adds to element `k` of each sum, and the same for any number (rows counted around, so that every number names one). -/
def term (c : Dev nD) (j : Fin 3) (s : Fin 4096) (k : Fin 1024) : EReal := match j with
  | 0 => firstGain (wide (dyOf m c) s) (narrow (yaOf m c) s) k
  | 1 => secondGain (wide (dyOf m c) s) (narrow (ygOf m c) s) (narrow (tOf m c) s) (flat (bOf m c)) k
  | 2 => argument (wide (dyOf m c) s) (narrow (ygOf m c) s) (narrow (tOf m c) s) (flat (bOf m c)) (flat (gsOf m c)) k
def termAt (c : Dev nD) (j : Fin 3) (k : Fin 1024) (n : ℕ) : EReal := term m c j ⟨n % 4096, Nat.mod_lt _ (by decide)⟩ k

theorem part_eq (c : Dev nD) (t : Fin cfg0.N) (j : Fin 3) (a : Fin 256) (k : Fin 1024) :
    part (iblk m c 0 t) (iblk m c 1 t) (iblk m c 2 t) (iblk m c 3 t) (iblk m c 4 t) (iblk m c 6 t) j a k = term m c j (row t a) k := by
  match j with
  | 0 => unfold part term; dsimp only; rw [dy_row, ya_row]
  | 1 => unfold part term; dsimp only; rw [dy_row, yg_row, t_row, b_row]
  | 2 => unfold part term; dsimp only; rw [dy_row, yg_row, t_row, b_row, gs_row]

theorem add_eq (c : Dev nD) (t : Fin cfg0.N) (j : Fin 3) (k : Fin 1024) :
    (addend m c t j : S1x1024.Idx → EReal) (ix2 0 k) = ∑ a : Fin 256, termAt m c j k (t.val * 256 + a.val) := by
  refine (addends_tile _ _ _ _ _ _ j k).trans (Finset.sum_congr rfl fun a _ => ?_)
  have hp := points t
  have hm : (t.val * 256 + a.val) % 4096 = t.val * 256 + a.val := by omega
  rw [part_eq]
  unfold termAt
  simp only [hm]

/-- After the last point the sums are over all the rows. -/
theorem total_eq (c : Dev nD) (t : Fin cfg0.N) (hl : t.val = 15) (j : Fin 3) (k : Fin 1024) :
    running m c t.val t.isLt j (ix2 0 k) = ∑ s : Fin 4096, term m c j s k := by
  have h := sum_eq m c j (ix2 0 k) t.val t.isLt
  rw [sum_at, show t.val % 16 + 1 = 16 from by omega, show t.val - t.val % 16 = 0 from by omega] at h
  rw [h]
  have hs : ∀ s ∈ Finset.range 16, addAt m c j (ix2 0 k) (0 + s) = ∑ a : Fin 256, termAt m c j k (s * 256 + a.val) := by
    intro s hs
    have hs2 : s < 16 := Finset.mem_range.mp hs
    rw [Nat.zero_add]
    unfold addAt
    rw [dif_pos (Nat.lt_of_lt_of_eq hs2 N_0.symm), add_eq]
  rw [Finset.sum_congr rfl hs, Cert.Blocks.sum_blocks]
  refine Finset.sum_congr rfl fun s _ => ?_
  have hm : s.val % 4096 = s.val := Nat.mod_eq_of_lt s.isLt
  unfold termAt
  simp only [hm]

theorem flushed7_eq (c : Dev nD) (t : Fin cfg0.N) :
    (dats m 0 c).flushed 7 t = ((cfg0.win 7).blk t).view.read (Elt Ideal) (result7 m c) := by
  rw [Value.flushed7, (outs_rows m c t).1]
  obtain ⟨⟨e0, e1⟩, -⟩ := index_out t
  funext y
  show (firstAt m c t : S256x1024.Idx → EReal) y = firsts _ _ _ (((cfg0.win 7).blk t).view.emb y)
  have hy : ∃ (a : Fin 256) (b : Fin 1024), y = (ix2 a b : S256x1024.Idx) := ⟨y 0, y 1, eq_ix2 (y : S256x1024.Idx)⟩
  obtain ⟨a, b, rfl⟩ := hy
  have he : ((cfg0.win 7).blk t).view.emb (ix2 a b : S256x1024.Idx) = (ix2 (row t a) b : S4096x1024.Idx) := by
    funext z; apply Fin.ext
    match z with
    | ⟨0, _⟩ => show win0_7.index t 0 * 256 + 1 * a.val = t.val * 256 + a.val; rw [e0]; omega
    | ⟨1, _⟩ => show win0_7.index t 1 * 1024 + 1 * b.val = b.val; rw [e1]; omega
  rw [he]
  refine (first_tile _ _ _ a b).trans ?_
  rw [dy_row, ya_row, ga_row]
  rfl

theorem covered7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  let t : Fin cfg0.N := ⟨(i 0).val / 256, by rw [show cfg0.N = 16 from N_0]; omega⟩
  have ht : t.val = (i 0).val / 256 := rfl
  refine ⟨t, flush0_7 t, ?_⟩
  obtain ⟨⟨e0, e1⟩, -⟩ := index_out t
  clear_value t
  show i ∈ ((View.whole main_v3_0).slice (win0_7.rect t)).set
  rw [View.set_slice_whole, Rect.mem_set_unit]
  intro a
  match a with
  | ⟨0, _⟩ => show win0_7.index t 0 * 256 ≤ (i 0).val ∧ (i 0).val < win0_7.index t 0 * 256 + 256; rw [e0]; omega
  | ⟨1, _⟩ => show win0_7.index t 1 * 1024 ≤ (i 1).val ∧ (i 1).val < win0_7.index t 1 * 1024 + 1024; rw [e1]; omega

theorem flushed8_eq (c : Dev nD) (t : Fin cfg0.N) :
    (dats m 0 c).flushed 8 t = ((cfg0.win 8).blk t).view.read (Elt Ideal) (result8 m c) := by
  rw [Value.flushed8, (outs_rows m c t).2.1]
  obtain ⟨-, ⟨e0, e1⟩, -⟩ := index_out t
  funext y
  show (stateAt m c t : S256x1024.Idx → EReal) y = states _ _ _ _ _ (((cfg0.win 8).blk t).view.emb y)
  have hy : ∃ (a : Fin 256) (b : Fin 1024), y = (ix2 a b : S256x1024.Idx) := ⟨y 0, y 1, eq_ix2 (y : S256x1024.Idx)⟩
  obtain ⟨a, b, rfl⟩ := hy
  have he : ((cfg0.win 8).blk t).view.emb (ix2 a b : S256x1024.Idx) = (ix2 (row t a) b : S4096x1024.Idx) := by
    funext z; apply Fin.ext
    match z with
    | ⟨0, _⟩ => show win0_8.index t 0 * 256 + 1 * a.val = t.val * 256 + a.val; rw [e0]; omega
    | ⟨1, _⟩ => show win0_8.index t 1 * 1024 + 1 * b.val = b.val; rw [e1]; omega
  rw [he]
  refine (state_tile _ _ _ _ _ a b).trans ?_
  rw [dy_row, yg_row, t_row, b_row, gs_row]
  rfl

theorem covered8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  let t : Fin cfg0.N := ⟨(i 0).val / 256, by rw [show cfg0.N = 16 from N_0]; omega⟩
  have ht : t.val = (i 0).val / 256 := rfl
  refine ⟨t, flush0_8 t, ?_⟩
  obtain ⟨-, ⟨e0, e1⟩, -⟩ := index_out t
  clear_value t
  show i ∈ ((View.whole main_v3_1).slice (win0_8.rect t)).set
  rw [View.set_slice_whole, Rect.mem_set_unit]
  intro a
  match a with
  | ⟨0, _⟩ => show win0_8.index t 0 * 256 ≤ (i 0).val ∧ (i 0).val < win0_8.index t 0 * 256 + 256; rw [e0]; omega
  | ⟨1, _⟩ => show win0_8.index t 1 * 1024 ≤ (i 1).val ∧ (i 1).val < win0_8.index t 1 * 1024 + 1024; rw [e1]; omega

theorem flushed9_eq (c : Dev nD) (t : Fin cfg0.N) :
    (dats m 0 c).flushed 9 t = ((cfg0.win 9).blk t).view.read (Elt Ideal) (result9 m c) := by
  rw [Value.flushed9, (outs_rows m c t).2.2]
  obtain ⟨-, -, ⟨e0, e1⟩⟩ := index_out t
  funext y
  show (argumentAt m c t : S256x1024.Idx → EReal) y = arguments _ _ _ _ _ (((cfg0.win 9).blk t).view.emb y)
  have hy : ∃ (a : Fin 256) (b : Fin 1024), y = (ix2 a b : S256x1024.Idx) := ⟨y 0, y 1, eq_ix2 (y : S256x1024.Idx)⟩
  obtain ⟨a, b, rfl⟩ := hy
  have he : ((cfg0.win 9).blk t).view.emb (ix2 a b : S256x1024.Idx) = (ix2 (row t a) b : S4096x1024.Idx) := by
    funext z; apply Fin.ext
    match z with
    | ⟨0, _⟩ => show win0_9.index t 0 * 256 + 1 * a.val = t.val * 256 + a.val; rw [e0]; omega
    | ⟨1, _⟩ => show win0_9.index t 1 * 1024 + 1 * b.val = b.val; rw [e1]; omega
  rw [he]
  refine (argument_tile _ _ _ _ _ a b).trans ?_
  rw [dy_row, yg_row, t_row, b_row, gs_row]
  rfl

theorem covered9 (i : S4096x1024.Idx) : ∃ t : Fin cfg0.N, (cfg0.win 9).flush t = true ∧ i ∈ ((cfg0.win 9).blk t).view.set := by
  have h0 : (i 0).val < 4096 := (i 0).isLt
  have h1 : (i 1).val < 1024 := (i 1).isLt
  let t : Fin cfg0.N := ⟨(i 0).val / 256, by rw [show cfg0.N = 16 from N_0]; omega⟩
  have ht : t.val = (i 0).val / 256 := rfl
  refine ⟨t, flush0_9 t, ?_⟩
  obtain ⟨-, -, ⟨e0, e1⟩⟩ := index_out t
  clear_value t
  show i ∈ ((View.whole main_v3_2).slice (win0_9.rect t)).set
  rw [View.set_slice_whole, Rect.mem_set_unit]
  intro a
  match a with
  | ⟨0, _⟩ => show win0_9.index t 0 * 256 ≤ (i 0).val ∧ (i 0).val < win0_9.index t 0 * 256 + 256; rw [e0]; omega
  | ⟨1, _⟩ => show win0_9.index t 1 * 1024 ≤ (i 1).val ∧ (i 1).val < win0_9.index t 1 * 1024 + 1024; rw [e1]; omega

theorem flushed10_eq (c : Dev nD) (t : Fin cfg0.N) (hf : (cfg0.win 10).flush t = true) :
    (dats m 0 c).flushed 10 t = ((cfg0.win 10).blk t).view.read (Elt Ideal) (result10 m c) := by
  have hp := points t
  have hl : t.val = 15 := by have := (flush0_10 t).mp hf; omega
  rw [Value.flushed10]
  obtain ⟨⟨e0, e1⟩, -⟩ := index_sum t
  funext y
  show running m c t.val t.isLt 0 y = result10 m c (((cfg0.win 10).blk t).view.emb y)
  have hy : ∃ b : Fin 1024, y = (ix2 0 b : S1x1024.Idx) := ⟨y 1, by rw [eq_ix2 (y : S1x1024.Idx)]; congr 1; exact Subsingleton.elim (α := Fin 1) _ _⟩
  obtain ⟨b, rfl⟩ := hy
  have he : ((cfg0.win 10).blk t).view.emb (ix2 0 b : S1x1024.Idx) = (ix2 0 b : S1x1024.Idx) := by
    funext z; apply Fin.ext
    match z with
    | ⟨0, _⟩ => show win0_10.index t 0 * 1 + 1 * 0 = 0; rw [e0]
    | ⟨1, _⟩ => show win0_10.index t 1 * 1024 + 1 * b.val = b.val; rw [e1]; omega
  rw [he]
  exact total_eq m c t hl 0 b

theorem covered10 (i : S1x1024.Idx) : ∃ t : Fin cfg0.N, (cfg0.win 10).flush t = true ∧ i ∈ ((cfg0.win 10).blk t).view.set := by
  have h0 : (i 0).val < 1 := (i 0).isLt
  have h1 : (i 1).val < 1024 := (i 1).isLt
  let t : Fin cfg0.N := ⟨15, by rw [show cfg0.N = 16 from N_0]; omega⟩
  have ht : t.val = 15 := rfl
  refine ⟨t, (flush0_10 t).mpr (by omega), ?_⟩
  obtain ⟨⟨e0, e1⟩, -⟩ := index_sum t
  clear_value t
  show i ∈ ((View.whole main_v3_3).slice (win0_10.rect t)).set
  rw [View.set_slice_whole, Rect.mem_set_unit]
  intro a
  match a with
  | ⟨0, _⟩ => show win0_10.index t 0 * 1 ≤ (i 0).val ∧ (i 0).val < win0_10.index t 0 * 1 + 1; rw [e0]; omega
  | ⟨1, _⟩ => show win0_10.index t 1 * 1024 ≤ (i 1).val ∧ (i 1).val < win0_10.index t 1 * 1024 + 1024; rw [e1]; omega

theorem flushed11_eq (c : Dev nD) (t : Fin cfg0.N) (hf : (cfg0.win 11).flush t = true) :
    (dats m 0 c).flushed 11 t = ((cfg0.win 11).blk t).view.read (Elt Ideal) (result11 m c) := by
  have hp := points t
  have hl : t.val = 15 := by have := (flush0_11 t).mp hf; omega
  rw [Value.flushed11]
  obtain ⟨-, ⟨e0, e1⟩, -⟩ := index_sum t
  funext y
  show running m c t.val t.isLt 1 y = result11 m c (((cfg0.win 11).blk t).view.emb y)
  have hy : ∃ b : Fin 1024, y = (ix2 0 b : S1x1024.Idx) := ⟨y 1, by rw [eq_ix2 (y : S1x1024.Idx)]; congr 1; exact Subsingleton.elim (α := Fin 1) _ _⟩
  obtain ⟨b, rfl⟩ := hy
  have he : ((cfg0.win 11).blk t).view.emb (ix2 0 b : S1x1024.Idx) = (ix2 0 b : S1x1024.Idx) := by
    funext z; apply Fin.ext
    match z with
    | ⟨0, _⟩ => show win0_11.index t 0 * 1 + 1 * 0 = 0; rw [e0]
    | ⟨1, _⟩ => show win0_11.index t 1 * 1024 + 1 * b.val = b.val; rw [e1]; omega
  rw [he]
  exact total_eq m c t hl 1 b

theorem covered11 (i : S1x1024.Idx) : ∃ t : Fin cfg0.N, (cfg0.win 11).flush t = true ∧ i ∈ ((cfg0.win 11).blk t).view.set := by
  have h0 : (i 0).val < 1 := (i 0).isLt
  have h1 : (i 1).val < 1024 := (i 1).isLt
  let t : Fin cfg0.N := ⟨15, by rw [show cfg0.N = 16 from N_0]; omega⟩
  have ht : t.val = 15 := rfl
  refine ⟨t, (flush0_11 t).mpr (by omega), ?_⟩
  obtain ⟨-, ⟨e0, e1⟩, -⟩ := index_sum t
  clear_value t
  show i ∈ ((View.whole main_v3_4).slice (win0_11.rect t)).set
  rw [View.set_slice_whole, Rect.mem_set_unit]
  intro a
  match a with
  | ⟨0, _⟩ => show win0_11.index t 0 * 1 ≤ (i 0).val ∧ (i 0).val < win0_11.index t 0 * 1 + 1; rw [e0]; omega
  | ⟨1, _⟩ => show win0_11.index t 1 * 1024 ≤ (i 1).val ∧ (i 1).val < win0_11.index t 1 * 1024 + 1024; rw [e1]; omega

theorem flushed12_eq (c : Dev nD) (t : Fin cfg0.N) (hf : (cfg0.win 12).flush t = true) :
    (dats m 0 c).flushed 12 t = ((cfg0.win 12).blk t).view.read (Elt Ideal) (result12 m c) := by
  have hp := points t
  have hl : t.val = 15 := by have := (flush0_12 t).mp hf; omega
  rw [Value.flushed12]
  obtain ⟨-, -, ⟨e0, e1⟩⟩ := index_sum t
  funext y
  show running m c t.val t.isLt 2 y = result12 m c (((cfg0.win 12).blk t).view.emb y)
  have hy : ∃ b : Fin 1024, y = (ix2 0 b : S1x1024.Idx) := ⟨y 1, by rw [eq_ix2 (y : S1x1024.Idx)]; congr 1; exact Subsingleton.elim (α := Fin 1) _ _⟩
  obtain ⟨b, rfl⟩ := hy
  have he : ((cfg0.win 12).blk t).view.emb (ix2 0 b : S1x1024.Idx) = (ix2 0 b : S1x1024.Idx) := by
    funext z; apply Fin.ext
    match z with
    | ⟨0, _⟩ => show win0_12.index t 0 * 1 + 1 * 0 = 0; rw [e0]
    | ⟨1, _⟩ => show win0_12.index t 1 * 1024 + 1 * b.val = b.val; rw [e1]; omega
  rw [he]
  exact total_eq m c t hl 2 b

theorem covered12 (i : S1x1024.Idx) : ∃ t : Fin cfg0.N, (cfg0.win 12).flush t = true ∧ i ∈ ((cfg0.win 12).blk t).view.set := by
  have h0 : (i 0).val < 1 := (i 0).isLt
  have h1 : (i 1).val < 1024 := (i 1).isLt
  let t : Fin cfg0.N := ⟨15, by rw [show cfg0.N = 16 from N_0]; omega⟩
  have ht : t.val = 15 := rfl
  refine ⟨t, (flush0_12 t).mpr (by omega), ?_⟩
  obtain ⟨-, -, ⟨e0, e1⟩⟩ := index_sum t
  clear_value t
  show i ∈ ((View.whole main_v3_5).slice (win0_12.rect t)).set
  rw [View.set_slice_whole, Rect.mem_set_unit]
  intro a
  match a with
  | ⟨0, _⟩ => show win0_12.index t 0 * 1 ≤ (i 0).val ∧ (i 0).val < win0_12.index t 0 * 1 + 1; rw [e0]; omega
  | ⟨1, _⟩ => show win0_12.index t 1 * 1024 ≤ (i 1).val ∧ (i 1).val < win0_12.index t 1 * 1024 + 1024; rw [e1]; omega

theorem run : θ_run defs (onTc (τ := τ) (main (F := Ideal))) ⟨m, fun _ => 0, ρ⟩ fun r => ∀ c : Dev nD,
      r.2.mem ((c : Thread nD τ).loc main_v3_0) = result7 m c
      ∧ r.2.mem ((c : Thread nD τ).loc main_v3_1) = result8 m c
      ∧ r.2.mem ((c : Thread nD τ).loc main_v3_2) = result9 m c
      ∧ r.2.mem ((c : Thread nD τ).loc main_v3_3) = result10 m c
      ∧ r.2.mem ((c : Thread nD τ).loc main_v3_4) = result11 m c
      ∧ r.2.mem ((c : Thread nD τ).loc main_v3_5) = result12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((dats m 0 c).arrAt_eq_of_cover 7 (result7 m c) (fun t _ => flushed7_eq m c t) covered7),
      (h c).2.1.trans ((dats m 0 c).arrAt_eq_of_cover 8 (result8 m c) (fun t _ => flushed8_eq m c t) covered8),
      (h c).2.2.1.trans ((dats m 0 c).arrAt_eq_of_cover 9 (result9 m c) (fun t _ => flushed9_eq m c t) covered9),
      (h c).2.2.2.1.trans ((dats m 0 c).arrAt_eq_of_cover 10 (result10 m c) (fun t hf => flushed10_eq m c t hf) covered10),
      (h c).2.2.2.2.1.trans ((dats m 0 c).arrAt_eq_of_cover 11 (result11 m c) (fun t hf => flushed11_eq m c t hf) covered11),
      (h c).2.2.2.2.2.1.trans ((dats m 0 c).arrAt_eq_of_cover 12 (result12 m c) (fun t hf => flushed12_eq m c t hf) covered12),
      (h c).2.2.2.2.2.2⟩) (Value.run_blocks m ρ)

end Cert.MixOutIdeal.Product

end
-- ==== Proof.Loss.lean ====
module

public import proofs.«01_k».proof.Proof.Gen.LossIdeal.Value
public import proofs.«01_k».proof.Proof.Gen.LossRefIdeal.Run
public import proofs.«01_k».proof.Proof.Gen.LossRefIdeal.Read
public import proofs.«01_k».proof.Proof.Blocks
public import proofs.«01_k».proof.Proof.Norm
public import Idealize.ShloMosaic.Lib.Pointwise
public import Idealize.ShloMosaic.Lib.StableHlo.ReadAt
public import Idealize.ShloMosaic.Lib.Tactic

/-! # The loss's gradient at the output and the sums of its squares, in blocks of rows -/

@[expose] public section

set_option maxRecDepth 16384

noncomputable section

open Idealize.ShloMosaic Idealize.ShloMosaic.TcCoe Idealize.SL.Sem
open Idealize.ShloMosaic.Pipeline (Dat)
open scoped BigOperators

namespace Cert.LossIdeal.Product

open Cert.LossIdeal Cert.LossIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- The weight of an element in the mean over its row. -/
def weight : EReal := Ideal.ofBits .f32 0x3A000000#32

/-- The output less its target, the gradient there, and the sums of the squares over the rows. -/
def diff (f x y : S4096x2048.Idx → EReal) : S4096x2048.Idx → EReal := fun i => f i + x i - y i
def grads (f x y : S4096x2048.Idx → EReal) : S4096x2048.Idx → EReal := fun i => diff f x y i * weight
def squares (f x y : S4096x2048.Idx → EReal) : S1x2048.Idx → EReal := fun i =>
  ∑ s : Fin 4096, diff f x y (ix2 s (i 1)) * diff f x y (ix2 s (i 1))

theorem points (t : Fin cfg0.N) : t.val < 16 := Nat.lt_of_lt_of_eq t.isLt N_0

/-- What point `t` adds to the sum, and two arrays added. -/
abbrev addend (c : Dev nD) (t : Fin cfg0.N) : Vec Ideal S1x2048 .f32 := k0_pay4 (F := Ideal) (iblk m c 0 t) (iblk m c 1 t) (iblk m c 2 t)
abbrev plus (a b : Vec Ideal S1x2048 .f32) : Vec Ideal S1x2048 .f32 := addf (F := Ideal) (s := S1x2048) (φ := .f32) a b

set_option maxHeartbeats 4000000 in
theorem outs_first (c : Dev nD) (t : Fin cfg0.N) (hz : t.val % 16 = 0) :
    outsAt0 m c t.val t.isLt = (k0_pay2 (iblk m c 0 t) (iblk m c 1 t) (iblk m c 2 t), k0_pay3 (iblk m c 0 t) (iblk m c 1 t) (iblk m c 2 t), addend m c t) := by
  have hp := points t
  rw [outsAt0_A m c t hz (by omega)]
  unfold out0_A_3 out0_A_4 out0_A_5
  rw [View.read_writes_eq_canon _ _ _ (fun y => cover0_A_3 _ _ _ _ _ _ _ _ _ _ _ _ _ _ _ _ _ _ _ y),
    View.read_writes_eq_canon _ _ _ (fun y => cover0_A_4 _ _ _ _ _ _ _ _ _ _ _ _ _ _ _ _ _ _ _ y),
    View.read_writes_eq_canon _ _ _ (fun y => cover0_A_5 _ _ _ _ _ _ _ _ _ _ _ _ _ _ _ _ _ _ _ y)]
  unfold kernelRun0_A
  dsimp only
  try sl_unfold_words
  simp only [View.readAt_eq_ld, (hs0_0 t).read_unread, (hs0_1 t).read_unread, (hs0_2 t).read_unread, View.ld_unit_zero (S := S256x2048) zero2, View.ld_unit_zero (S := S1x2048) zero2]
  rw [View.canon_unit_zero zero2, View.canon_unit_zero zero2, View.canon_unit_zero zero2]

set_option maxHeartbeats 4000000 in
theorem outs_later (c : Dev nD) (t : Fin cfg0.N) (hz : ¬t.val % 16 = 0) :
    outsAt0 m c t.val t.isLt = (k0_pay2 (iblk m c 0 t) (iblk m c 1 t) (iblk m c 2 t), k0_pay3 (iblk m c 0 t) (iblk m c 1 t) (iblk m c 2 t),
      plus (outsAt0 m c (t.val - 1) (by have := t.isLt; omega)).2.2 (addend m c t)) := by
  rw [outsAt0_B m c t hz (by omega)]
  generalize (outsAt0 m c (t.val - 1) _).2.2 = acc
  unfold out0_B_3 out0_B_4 out0_B_5
  rw [View.read_writes_eq_canon _ _ _ (fun y => cover0_B_3 _ _ _ _ _ _ _ _ _ _ _ _ _ _ _ _ _ _ _ _ y),
    View.read_writes_eq_canon _ _ _ (fun y => cover0_B_4 _ _ _ _ _ _ _ _ _ _ _ _ _ _ _ _ _ _ _ _ y),
    View.read_writes_eq_canon _ _ _ (fun y => cover0_B_5 _ _ _ _ _ _ _ _ _ _ _ _ _ _ _ _ _ _ _ _ y)]
  unfold kernelRun0_B
  dsimp only
  try sl_unfold_words
  unfold k0_pay5
  simp only [View.readAt_eq_ld, (hs0_0 t).read_unread, (hs0_1 t).read_unread, (hs0_2 t).read_unread, (hs0_5 t).read_unread, View.ld_unit_zero (S := S256x2048) zero2, View.ld_unit_zero (S := S1x2048) zero2, shapeCast_self]
  rw [View.canon_unit_zero zero2, View.canon_unit_zero zero2, View.canon_unit_zero zero2]

attribute [local irreducible] outsAt0

theorem outs_rows (c : Dev nD) (t : Fin cfg0.N) : (outsAt0 m c t.val t.isLt).1 = k0_pay2 (iblk m c 0 t) (iblk m c 1 t) (iblk m c 2 t)
    ∧ (outsAt0 m c t.val t.isLt).2.1 = k0_pay3 (iblk m c 0 t) (iblk m c 1 t) (iblk m c 2 t) := by
  by_cases hz : t.val % 16 = 0
  · rw [outs_first m c t hz]; exact ⟨rfl, rfl⟩
  · rw [outs_later m c t hz]; exact ⟨rfl, rfl⟩

/-- The running sum after point `n`, and what point `n` adds, at one place (zero outside the grid). -/
def sumAt (c : Dev nD) (i : S1x2048.Idx) (n : ℕ) : EReal := if h : n < cfg0.N then (outsAt0 m c n h).2.2 i else 0
def addAt (c : Dev nD) (i : S1x2048.Idx) (n : ℕ) : EReal := if h : n < cfg0.N then addend m c ⟨n, h⟩ i else 0

theorem sum_at (c : Dev nD) (i : S1x2048.Idx) (t : Fin cfg0.N) : sumAt m c i t.val = (outsAt0 m c t.val t.isLt).2.2 i := dif_pos t.isLt
theorem add_at (c : Dev nD) (i : S1x2048.Idx) (t : Fin cfg0.N) : addAt m c i t.val = addend m c t i := dif_pos t.isLt

theorem sum_eq (c : Dev nD) (i : S1x2048.Idx) : ∀ n, n < cfg0.N →
    sumAt m c i n = ∑ s ∈ Finset.range (n % 16 + 1), addAt m c i (n - n % 16 + s) := by
  refine Cert.Blocks.sum_since 16 (sumAt m c i) (addAt m c i) cfg0.N ?_ ?_
  · intro n h hz
    exact (sum_at m c i ⟨n, h⟩).trans ((congrFun (congrArg (fun o => o.2.2) (outs_first m c ⟨n, h⟩ hz)) i).trans (add_at m c i ⟨n, h⟩).symm)
  · intro n h hz
    refine (sum_at m c i ⟨n + 1, h⟩).trans ((congrFun (congrArg (fun o => o.2.2) (outs_later m c ⟨n + 1, h⟩ hz)) i).trans ?_)
    refine congr (congrArg HAdd.hAdd ?_) (add_at m c i ⟨n + 1, h⟩).symm
    exact (sum_at m c i ⟨n, Nat.lt_of_succ_lt h⟩).symm

theorem index_at : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ win0_5.index t 0 = 0 ∧ win0_5.index t 1 = 0 :=
  (by decide +kernel : ∀ t : Fin grid0.N, _)

/-- Row `a` of block `t`. -/
abbrev row (t : Fin cfg0.N) (a : Fin 256) : Fin 4096 := ⟨t.val * 256 + a.val, by have := points t; omega⟩

theorem ffn_at (c : Dev nD) (t : Fin cfg0.N) (a : Fin 256) (k : Fin 2048) :
    (iblk m c 0 t : S256x2048.Idx → EReal) (ix2 a k) = (m ((c : Thread nD τ).loc main_arg0) : S4096x2048.Idx → EReal) (ix2 (row t a) k) := by
  have hV : ∀ i : S4096x2048.Idx, (V m c main_arg0 : S4096x2048.Idx → EReal) i = (m ((c : Thread nD τ).loc main_arg0) : S4096x2048.Idx → EReal) i :=
    fun i => congrFun (V_main_arg0 m c) i
  unfold iblk
  rw [View.read_apply]
  obtain ⟨⟨e0, e1⟩, -⟩ := index_at t
  have he : ((cfg0.win 0).blk t).view.emb (ix2 a k) = (ix2 (row t a) k : S4096x2048.Idx) := by
    funext z; apply Fin.ext
    match z with
    | ⟨0, _⟩ => show win0_0.index t 0 * 256 + 1 * a.val = t.val * 256 + a.val; rw [e0]; omega
    | ⟨1, _⟩ => show win0_0.index t 1 * 2048 + 1 * k.val = k.val; rw [e1]; omega
  rw [he]
  exact hV _

theorem mixed_at (c : Dev nD) (t : Fin cfg0.N) (a : Fin 256) (k : Fin 2048) :
    (iblk m c 1 t : S256x2048.Idx → EReal) (ix2 a k) = (m ((c : Thread nD τ).loc main_arg1) : S4096x2048.Idx → EReal) (ix2 (row t a) k) := by
  have hV : ∀ i : S4096x2048.Idx, (V m c main_arg1 : S4096x2048.Idx → EReal) i = (m ((c : Thread nD τ).loc main_arg1) : S4096x2048.Idx → EReal) i :=
    fun i => congrFun (V_main_arg1 m c) i
  unfold iblk
  rw [View.read_apply]
  obtain ⟨-, ⟨e0, e1⟩, -⟩ := index_at t
  have he : ((cfg0.win 1).blk t).view.emb (ix2 a k) = (ix2 (row t a) k : S4096x2048.Idx) := by
    funext z; apply Fin.ext
    match z with
    | ⟨0, _⟩ => show win0_1.index t 0 * 256 + 1 * a.val = t.val * 256 + a.val; rw [e0]; omega
    | ⟨1, _⟩ => show win0_1.index t 1 * 2048 + 1 * k.val = k.val; rw [e1]; omega
  rw [he]
  exact hV _

theorem target_at (c : Dev nD) (t : Fin cfg0.N) (a : Fin 256) (k : Fin 2048) :
    (iblk m c 2 t : S256x2048.Idx → EReal) (ix2 a k) = (m ((c : Thread nD τ).loc main_arg2) : S4096x2048.Idx → EReal) (ix2 (row t a) k) := by
  have hV : ∀ i : S4096x2048.Idx, (V m c main_arg2 : S4096x2048.Idx → EReal) i = (m ((c : Thread nD τ).loc main_arg2) : S4096x2048.Idx → EReal) i :=
    fun i => congrFun (V_main_arg2 m c) i
  unfold iblk
  rw [View.read_apply]
  obtain ⟨-, -, ⟨e0, e1⟩, -⟩ := index_at t
  have he : ((cfg0.win 2).blk t).view.emb (ix2 a k) = (ix2 (row t a) k : S4096x2048.Idx) := by
    funext z; apply Fin.ext
    match z with
    | ⟨0, _⟩ => show win0_2.index t 0 * 256 + 1 * a.val = t.val * 256 + a.val; rw [e0]; omega
    | ⟨1, _⟩ => show win0_2.index t 1 * 2048 + 1 * k.val = k.val; rw [e1]; omega
  rw [he]
  exact hV _

/-- A block's output less its target. -/
theorem diff_tile (f x y : S256x2048.Idx → EReal) (i : S256x2048.Idx) : (k0_pay1 (F := Ideal) f x y : S256x2048.Idx → EReal) i = f i + x i - y i := by
  pointwise [k0_pay1]

theorem grad_tile (f x y : S256x2048.Idx → EReal) (i : S256x2048.Idx) : (k0_pay2 (F := Ideal) f x y : S256x2048.Idx → EReal) i = (f i + x i - y i) * weight := by
  pointwise [k0_pay2, k0_pay1]
  rfl

/-- What a block adds to the sums of the squares. -/
theorem square_tile (f x y : S256x2048.Idx → EReal) (b : Fin 2048) : (k0_pay4 (F := Ideal) f x y : S1x2048.Idx → EReal) (ix2 0 b)
    = ∑ a : Fin 256, (f (ix2 a b) + x (ix2 a b) - y (ix2 a b)) * (f (ix2 a b) + x (ix2 a b) - y (ix2 a b)) := by
  pointwise [k0_pay4, k0_pay1]

/-- The results of the call. -/
abbrev result3 (c : Dev nD) : Buf (Elt Ideal) ((c : Thread nD τ).loc main_v0_0) := grads (m ((c : Thread nD τ).loc main_arg0)) (m ((c : Thread nD τ).loc main_arg1)) (m ((c : Thread nD τ).loc main_arg2))
abbrev result4 (c : Dev nD) : Buf (Elt Ideal) ((c : Thread nD τ).loc main_v0_1) := grads (m ((c : Thread nD τ).loc main_arg0)) (m ((c : Thread nD τ).loc main_arg1)) (m ((c : Thread nD τ).loc main_arg2))
abbrev result5 (c : Dev nD) : Buf (Elt Ideal) ((c : Thread nD τ).loc main_v0_2) := squares (m ((c : Thread nD τ).loc main_arg0)) (m ((c : Thread nD τ).loc main_arg1)) (m ((c : Thread nD τ).loc main_arg2))

/-- The square in row `n` (rows counted around, so that every number names one). -/
def termAt (f x y : S4096x2048.Idx → EReal) (b : Fin 2048) (n : ℕ) : EReal :=
  diff f x y (ix2 ⟨n % 4096, Nat.mod_lt _ (by decide)⟩ b) * diff f x y (ix2 ⟨n % 4096, Nat.mod_lt _ (by decide)⟩ b)

theorem add_eq (c : Dev nD) (t : Fin cfg0.N) (b : Fin 2048) :
    (addend m c t : S1x2048.Idx → EReal) (ix2 0 b) = ∑ a : Fin 256, termAt (m ((c : Thread nD τ).loc main_arg0)) (m ((c : Thread nD τ).loc main_arg1)) (m ((c : Thread nD τ).loc main_arg2)) b (t.val * 256 + a.val) := by
  refine (square_tile (iblk m c 0 t) (iblk m c 1 t) (iblk m c 2 t) b).trans (Finset.sum_congr rfl fun a _ => ?_)
  have hp := points t
  have hm : (t.val * 256 + a.val) % 4096 = t.val * 256 + a.val := by omega
  rw [ffn_at, mixed_at, target_at]
  unfold termAt diff
  simp only [hm]

theorem flushed3_eq (c : Dev nD) (t : Fin cfg0.N) :
    (dats m 0 c).flushed 3 t = ((cfg0.win 3).blk t).view.read (Elt Ideal) (result3 m c) := by
  rw [Value.flushed3, (outs_rows m c t).1]
  obtain ⟨-, -, -, ⟨e0, e1⟩, -⟩ := index_at t
  funext y
  show (k0_pay2 (F := Ideal) (iblk m c 0 t) (iblk m c 1 t) (iblk m c 2 t) : S256x2048.Idx → EReal) y = grads _ _ _ (((cfg0.win 3).blk t).view.emb y)
  have hy : ∃ (a : Fin 256) (b : Fin 2048), y = (ix2 a b : S256x2048.Idx) := ⟨y 0, y 1, eq_ix2 (y : S256x2048.Idx)⟩
  obtain ⟨a, b, rfl⟩ := hy
  have he : ((cfg0.win 3).blk t).view.emb (ix2 a b : S256x2048.Idx) = (ix2 (row t a) b : S4096x2048.Idx) := by
    funext z; apply Fin.ext
    match z with
    | ⟨0, _⟩ => show win0_3.index t 0 * 256 + 1 * a.val = t.val * 256 + a.val; rw [e0]; omega
    | ⟨1, _⟩ => show win0_3.index t 1 * 2048 + 1 * b.val = b.val; rw [e1]; omega
  rw [he]
  refine (grad_tile (iblk m c 0 t) (iblk m c 1 t) (iblk m c 2 t) (ix2 a b)).trans ?_
  rw [ffn_at, mixed_at, target_at]
  rfl

theorem covered3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  let t : Fin cfg0.N := ⟨(i 0).val / 256, by rw [show cfg0.N = 16 from N_0]; omega⟩
  have ht : t.val = (i 0).val / 256 := rfl
  refine ⟨t, flush0_3 t, ?_⟩
  obtain ⟨-, -, -, ⟨e0, e1⟩, -⟩ := index_at t
  clear_value t
  show i ∈ ((View.whole main_v0_0).slice (win0_3.rect t)).set
  rw [View.set_slice_whole, Rect.mem_set_unit]
  intro a
  match a with
  | ⟨0, _⟩ => show win0_3.index t 0 * 256 ≤ (i 0).val ∧ (i 0).val < win0_3.index t 0 * 256 + 256; rw [e0]; omega
  | ⟨1, _⟩ => show win0_3.index t 1 * 2048 ≤ (i 1).val ∧ (i 1).val < win0_3.index t 1 * 2048 + 2048; rw [e1]; omega

theorem flushed4_eq (c : Dev nD) (t : Fin cfg0.N) :
    (dats m 0 c).flushed 4 t = ((cfg0.win 4).blk t).view.read (Elt Ideal) (result4 m c) := by
  rw [Value.flushed4, (outs_rows m c t).2]
  obtain ⟨-, -, -, -, ⟨e0, e1⟩, -⟩ := index_at t
  funext y
  show (k0_pay2 (F := Ideal) (iblk m c 0 t) (iblk m c 1 t) (iblk m c 2 t) : S256x2048.Idx → EReal) y = grads _ _ _ (((cfg0.win 4).blk t).view.emb y)
  have hy : ∃ (a : Fin 256) (b : Fin 2048), y = (ix2 a b : S256x2048.Idx) := ⟨y 0, y 1, eq_ix2 (y : S256x2048.Idx)⟩
  obtain ⟨a, b, rfl⟩ := hy
  have he : ((cfg0.win 4).blk t).view.emb (ix2 a b : S256x2048.Idx) = (ix2 (row t a) b : S4096x2048.Idx) := by
    funext z; apply Fin.ext
    match z with
    | ⟨0, _⟩ => show win0_4.index t 0 * 256 + 1 * a.val = t.val * 256 + a.val; rw [e0]; omega
    | ⟨1, _⟩ => show win0_4.index t 1 * 2048 + 1 * b.val = b.val; rw [e1]; omega
  rw [he]
  refine (grad_tile (iblk m c 0 t) (iblk m c 1 t) (iblk m c 2 t) (ix2 a b)).trans ?_
  rw [ffn_at, mixed_at, target_at]
  rfl

theorem covered4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  let t : Fin cfg0.N := ⟨(i 0).val / 256, by rw [show cfg0.N = 16 from N_0]; omega⟩
  have ht : t.val = (i 0).val / 256 := rfl
  refine ⟨t, flush0_4 t, ?_⟩
  obtain ⟨-, -, -, -, ⟨e0, e1⟩, -⟩ := index_at t
  clear_value t
  show i ∈ ((View.whole main_v0_1).slice (win0_4.rect t)).set
  rw [View.set_slice_whole, Rect.mem_set_unit]
  intro a
  match a with
  | ⟨0, _⟩ => show win0_4.index t 0 * 256 ≤ (i 0).val ∧ (i 0).val < win0_4.index t 0 * 256 + 256; rw [e0]; omega
  | ⟨1, _⟩ => show win0_4.index t 1 * 2048 ≤ (i 1).val ∧ (i 1).val < win0_4.index t 1 * 2048 + 2048; rw [e1]; omega

/-- After the last point the sum is over all the rows. -/
theorem total_eq (c : Dev nD) (t : Fin cfg0.N) (hl : t.val = 15) (b : Fin 2048) :
    (outsAt0 m c t.val t.isLt).2.2 (ix2 0 b) = result5 m c (ix2 0 b) := by
  have h := sum_eq m c (ix2 0 b) t.val t.isLt
  rw [sum_at, show t.val % 16 + 1 = 16 from by omega, show t.val - t.val % 16 = 0 from by omega] at h
  rw [h]
  have hs : ∀ s ∈ Finset.range 16, addAt m c (ix2 0 b) (0 + s)
      = ∑ a : Fin 256, termAt (m ((c : Thread nD τ).loc main_arg0)) (m ((c : Thread nD τ).loc main_arg1)) (m ((c : Thread nD τ).loc main_arg2)) b (s * 256 + a.val) := by
    intro s hs
    have hs2 : s < 16 := Finset.mem_range.mp hs
    rw [Nat.zero_add]
    unfold addAt
    rw [dif_pos (Nat.lt_of_lt_of_eq hs2 N_0.symm), add_eq]
  rw [Finset.sum_congr rfl hs, Cert.Blocks.sum_blocks]
  refine Finset.sum_congr rfl fun k _ => ?_
  have hm : k.val % 4096 = k.val := Nat.mod_eq_of_lt k.isLt
  unfold termAt
  simp only [hm]
  rfl

theorem flushed5_eq (c : Dev nD) (t : Fin cfg0.N) (hf : (cfg0.win 5).flush t = true) :
    (dats m 0 c).flushed 5 t = ((cfg0.win 5).blk t).view.read (Elt Ideal) (result5 m c) := by
  have hp := points t
  have hl : t.val = 15 := by have := (flush0_5 t).mp hf; omega
  rw [Value.flushed5]
  obtain ⟨-, -, -, -, -, e0, e1⟩ := index_at t
  funext y
  show (outsAt0 m c t.val t.isLt).2.2 y = result5 m c (((cfg0.win 5).blk t).view.emb y)
  have hy : ∃ b : Fin 2048, y = (ix2 0 b : S1x2048.Idx) :=
    ⟨y 1, by rw [eq_ix2 (y : S1x2048.Idx)]; congr 1; exact Subsingleton.elim (α := Fin 1) _ _⟩
  obtain ⟨b, rfl⟩ := hy
  have he : ((cfg0.win 5).blk t).view.emb (ix2 0 b : S1x2048.Idx) = (ix2 0 b : S1x2048.Idx) := by
    funext z; apply Fin.ext
    match z with
    | ⟨0, _⟩ => show win0_5.index t 0 * 1 + 1 * 0 = 0; rw [e0]
    | ⟨1, _⟩ => show win0_5.index t 1 * 2048 + 1 * b.val = b.val; rw [e1]; omega
  rw [he]
  exact total_eq m c t hl b

theorem covered5 (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨15, by rw [show cfg0.N = 16 from N_0]; omega⟩
  have ht : t.val = 15 := rfl
  refine ⟨t, (flush0_5 t).mpr (by omega), ?_⟩
  obtain ⟨-, -, -, -, -, e0, e1⟩ := index_at t
  clear_value t
  show i ∈ ((View.whole main_v0_2).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0]; omega
  | ⟨1, _⟩ => show win0_5.index t 1 * 2048 ≤ (i 1).val ∧ (i 1).val < win0_5.index t 1 * 2048 + 2048; rw [e1]; omega

theorem run : θ_run defs (onTc (τ := τ) (main (F := Ideal))) ⟨m, fun _ => 0, ρ⟩ fun r => ∀ c : Dev nD,
      r.2.mem ((c : Thread nD τ).loc main_v0_0) = result3 m c
      ∧ r.2.mem ((c : Thread nD τ).loc main_v0_1) = result4 m c
      ∧ r.2.mem ((c : Thread nD τ).loc main_v0_2) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (result3 m c) (fun t _ => flushed3_eq m c t) covered3),
      (h c).2.1.trans ((dats m 0 c).arrAt_eq_of_cover 4 (result4 m c) (fun t _ => flushed4_eq m c t) covered4),
      (h c).2.2.1.trans ((dats m 0 c).arrAt_eq_of_cover 5 (result5 m c) (fun t hf => flushed5_eq m c t hf) covered5),
      (h c).2.2.2⟩) (Value.run_blocks m ρ)

end Cert.LossIdeal.Product

namespace Cert.LossRefIdeal.Product

open Cert.LossRefIdeal Cert.LossRefIdeal.Read

/-- Half of twice an element over the length of its row is the element at its weight. -/
theorem half_twice (z : EReal) : Ideal.div (Ideal.ofBits .f32 0x3F000000#32) (Ideal.ofBits .f32 0x45000000#32)
    * (Ideal.ofBits .f32 0x40000000#32 * z) = z * Cert.LossIdeal.Product.weight := by
  have h0 : Ideal.ofBits .f32 0x3F000000#32 = ((1 / 2 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Cert.LossIdeal.Product.weight = ((1 / 2048 : ℝ) : EReal) := by unfold Cert.LossIdeal.Product.weight; simp [Ideal.ofBits, Ideal.ieee, -EReal.coe_mul]; norm_num
  rw [h0, h2, h3, Cert.Norm.word_2048, Ideal.div_coe (by norm_num), ← EReal.coe_mul, ← mul_assoc, ← EReal.coe_mul, mul_comm z]
  congr 2
  norm_num

theorem grads_eq (f x y : S4096x2048.Idx → EReal) : (val_main_v15 (F := Ideal) f x y : S4096x2048.Idx → EReal) = Cert.LossIdeal.Product.grads f x y := by
  funext i
  idx_vars i
  unfold val_main_v15 val_main_v14 val_main_v13 val_main_v12 val_main_v11 val_main_v10 val_main_v4 val_main_v3 val_main_v1 val_main_v0 val_main_cst val_main_cst_4 val_main_cst_5 val_main_cst_6
  pointwise
  refine (half_twice _).trans ?_
  rw [add_comm (x _)]
  rfl

theorem squares_eq (f x y : S4096x2048.Idx → EReal) : (val_main_v20 (F := Ideal) f x y : S1x2048.Idx → EReal) = Cert.LossIdeal.Product.squares f x y := by
  funext i
  idx_vars i
  unfold val_main_v20 val_main_v19 val_main_v18 val_main_v17 val_main_v0 val_main_cst_7
  pointwise
  refine Finset.sum_congr rfl fun s _ => ?_
  rw [add_comm (x _)]
  rfl

end Cert.LossRefIdeal.Product

end
-- ==== Proof.Adam.lean ====
module

public import Idealize.ShloMosaic.Lib.Pointwise
public import Idealize.ShloMosaic.Lib.Pipeline.Value
public import Idealize.ShloMosaic.PureOps.Ideal

/-! # The optimiser's step, element by element -/

@[expose] public section

noncomputable section

open Idealize.ShloMosaic
open scoped BigOperators

namespace Cert.Adam

/-- The running means of the gradient and of its square. -/
def mean (m g : EReal) : EReal := Ideal.ofBits .f32 0x3F666666#32 * m + Ideal.ofBits .f32 0x3DCCCCCD#32 * g
def square (v g : EReal) : EReal := Ideal.ofBits .f32 0x3F7FBE77#32 * v + Ideal.ofBits .f32 0x3A83126F#32 * (g * g)

/-- The change of a weight `w` whose running means are `m` and `v` after the step. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable {R C : ℕ}

/-- A matrix of `R` rows, and the eight devices' matrices in one array. -/
abbrev Mat (R C : ℕ) : Shape := ⟨2, ![R, C]⟩
abbrev Mats (R C : ℕ) : Shape := ⟨3, ![8, R, C]⟩

/-- The gradient: the sum of the devices' terms. -/
def grads (p : (Mats R C).Idx → EReal) : (Mat R C).Idx → EReal := fun i => ∑ d : Fin 8, p (ix3 d (i 0) (i 1))

/-- The running means after the step, and the change of the weights. -/
def means (m : (Mat R C).Idx → EReal) (p : (Mats R C).Idx → EReal) : (Mat R C).Idx → EReal := fun i => mean (m i) (grads p i)
def squares (v : (Mat R C).Idx → EReal) (p : (Mats R C).Idx → EReal) : (Mat R C).Idx → EReal := fun i => square (v i) (grads p i)
def changes (w m v : (Mat R C).Idx → EReal) (p : (Mats R C).Idx → EReal) : (Mat R C).Idx → EReal := fun i => change (w i) (means m p i) (squares v p i)

theorem zero2 : (![0, 0] : Fin 2 → Nat) = fun _ => 0 := funext fun a => by fin_cases a <;> rfl

end Cert.Adam

end
-- ==== Proof.AdamModel.lean ====
module

public import proofs.«01_k».proof.Proof.Gen.AdamModelIdeal.Frame
public import proofs.«01_k».proof.Proof.Gen.AdamModelRefIdeal.Run
public import proofs.«01_k».proof.Proof.Gen.AdamModelRefIdeal.Read
public import proofs.«01_k».proof.Proof.Adam
public import Idealize.ShloMosaic.Lib.Pointwise
public import Idealize.ShloMosaic.Lib.Tactic

/-! # The optimiser's step on the gains of the two norms over the model's width -/

@[expose] public section

set_option maxRecDepth 16384

noncomputable section

open Idealize.ShloMosaic Idealize.ShloMosaic.TcCoe Idealize.SL.Sem
open Idealize.ShloMosaic.Pipeline (Dat)
open scoped BigOperators

namespace Cert.AdamModelIdeal.Product

open Cert.AdamModelIdeal Cert.AdamModelIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 1) (C := 2048) x3
    ∧ out0_A_5 (F := Ideal) c i a2 h2 a3 h3 a4 h4 a5 h5 a6 h6 a7 h7 a8 h8 a9 h9 x0 x1 x2 x3 xt = changes (R := 1) (C := 2048) x0 x1 x2 x3
    ∧ out0_A_6 (F := Ideal) c i a2 h2 a3 h3 a4 h4 a5 h5 a6 h6 a7 h7 a8 h8 a9 h9 x0 x1 x2 x3 xt = means (R := 1) (C := 2048) x1 x3
    ∧ out0_A_7 (F := Ideal) c i a2 h2 a3 h3 a4 h4 a5 h5 a6 h6 a7 h7 a8 h8 a9 h9 x0 x1 x2 x3 xt = squares (R := 1) (C := 2048) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S1x2048) zero2]
    rw [View.canon_unit_zero zero2]
    funext j
    idx_vars j
    pointwise [k0_pay1, k0_pay2, k0_pay3, k0_pay4]
    simp only [changes, means, squares, grads, Fin.sum_univ_eight]
    obtain rfl : j0 = 0 := Subsingleton.elim _ _
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S1x2048.Idx → EReal) = m ((c : Thread nD τ).loc main_arg0)
    ∧ (iblk m trivial c 1 t : S1x2048.Idx → EReal) = m ((c : Thread nD τ).loc main_arg1)
    ∧ (iblk m trivial c 2 t : S1x2048.Idx → EReal) = m ((c : Thread nD τ).loc main_arg2)
    ∧ (iblk m trivial c 3 t : S8x1x2048.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S1x2048.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S1x2048.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S1x2048.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S1x2048.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 1) (C := 2048) (m ((c : Thread nD τ).loc main_arg3))
abbrev result5 (c : Dev nD) : Buf (Elt Ideal) ((c : Thread nD τ).loc main_v0_1) := changes (R := 1) (C := 2048) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 1) (C := 2048) (m ((c : Thread nD τ).loc main_arg1)) (m ((c : Thread nD τ).loc main_arg3))
abbrev result7 (c : Dev nD) : Buf (Elt Ideal) ((c : Thread nD τ).loc main_v0_3) := squares (R := 1) (C := 2048) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamModelIdeal.Product

namespace Cert.AdamModelRefIdeal.Product

open Cert.AdamModelRefIdeal Cert.AdamModelRefIdeal.Read Cert.Adam

theorem grads_eq (p : S8x1x2048.Idx → EReal) : (val_main_v0 (F := Ideal) p : S1x2048.Idx → EReal) = grads (R := 1) (C := 2048) p := by
  funext i
  idx_vars i
  obtain rfl : i0 = 0 := Subsingleton.elim _ _
  unfold val_main_v0 val_main_cst
  pointwise
  rfl

theorem means_eq (m : S1x2048.Idx → EReal) (p : S8x1x2048.Idx → EReal) : (val_main_v5 (F := Ideal) m p : S1x2048.Idx → EReal) = means (R := 1) (C := 2048) m p := by
  funext i
  unfold means
  rw [← grads_eq]
  unfold val_main_v5 val_main_v4 val_main_v3 val_main_v2 val_main_v1 val_main_cst_0 val_main_cst_1
  pointwise
  rfl

theorem squares_eq (v : S1x2048.Idx → EReal) (p : S8x1x2048.Idx → EReal) : (val_main_v11 (F := Ideal) v p : S1x2048.Idx → EReal) = squares (R := 1) (C := 2048) v p := by
  funext i
  unfold squares
  rw [← grads_eq]
  unfold val_main_v11 val_main_v10 val_main_v9 val_main_v8 val_main_v7 val_main_v6 val_main_cst_2 val_main_cst_3
  pointwise
  rfl

theorem changes_eq (w m v : S1x2048.Idx → EReal) (p : S8x1x2048.Idx → EReal) : (val_main_v24 (F := Ideal) w m v p : S1x2048.Idx → EReal) = changes (R := 1) (C := 2048) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamModelRefIdeal.Product

end
-- ==== Proof.AdamHead.lean ====
module

public import proofs.«01_k».proof.Proof.Gen.AdamHeadIdeal.Frame
public import proofs.«01_k».proof.Proof.Gen.AdamHeadRefIdeal.Run
public import proofs.«01_k».proof.Proof.Gen.AdamHeadRefIdeal.Read
public import proofs.«01_k».proof.Proof.Adam
public import Idealize.ShloMosaic.Lib.Pointwise
public import Idealize.ShloMosaic.Lib.Tactic

/-! # The optimiser's step on the gains of the queries and keys -/

@[expose] public section

set_option maxRecDepth 16384

noncomputable section

open Idealize.ShloMosaic Idealize.ShloMosaic.TcCoe Idealize.SL.Sem
open Idealize.ShloMosaic.Pipeline (Dat)
open scoped BigOperators

namespace Cert.AdamHeadIdeal.Product

open Cert.AdamHeadIdeal Cert.AdamHeadIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 1) (C := 64) x3
    ∧ out0_A_5 (F := Ideal) c i a2 h2 a3 h3 a4 h4 a5 h5 a6 h6 a7 h7 a8 h8 a9 h9 x0 x1 x2 x3 xt = changes (R := 1) (C := 64) x0 x1 x2 x3
    ∧ out0_A_6 (F := Ideal) c i a2 h2 a3 h3 a4 h4 a5 h5 a6 h6 a7 h7 a8 h8 a9 h9 x0 x1 x2 x3 xt = means (R := 1) (C := 64) x1 x3
    ∧ out0_A_7 (F := Ideal) c i a2 h2 a3 h3 a4 h4 a5 h5 a6 h6 a7 h7 a8 h8 a9 h9 x0 x1 x2 x3 xt = squares (R := 1) (C := 64) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S1x64) zero2]
    rw [View.canon_unit_zero zero2]
    funext j
    idx_vars j
    pointwise [k0_pay1, k0_pay2, k0_pay3, k0_pay4]
    simp only [changes, means, squares, grads, Fin.sum_univ_eight]
    obtain rfl : j0 = 0 := Subsingleton.elim _ _
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S1x64.Idx → EReal) = m ((c : Thread nD τ).loc main_arg0)
    ∧ (iblk m trivial c 1 t : S1x64.Idx → EReal) = m ((c : Thread nD τ).loc main_arg1)
    ∧ (iblk m trivial c 2 t : S1x64.Idx → EReal) = m ((c : Thread nD τ).loc main_arg2)
    ∧ (iblk m trivial c 3 t : S8x1x64.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S1x64.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S1x64.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S1x64.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S1x64.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 1) (C := 64) (m ((c : Thread nD τ).loc main_arg3))
abbrev result5 (c : Dev nD) : Buf (Elt Ideal) ((c : Thread nD τ).loc main_v0_1) := changes (R := 1) (C := 64) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 1) (C := 64) (m ((c : Thread nD τ).loc main_arg1)) (m ((c : Thread nD τ).loc main_arg3))
abbrev result7 (c : Dev nD) : Buf (Elt Ideal) ((c : Thread nD τ).loc main_v0_3) := squares (R := 1) (C := 64) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamHeadIdeal.Product

namespace Cert.AdamHeadRefIdeal.Product

open Cert.AdamHeadRefIdeal Cert.AdamHeadRefIdeal.Read Cert.Adam

theorem grads_eq (p : S8x1x64.Idx → EReal) : (val_main_v0 (F := Ideal) p : S1x64.Idx → EReal) = grads (R := 1) (C := 64) p := by
  funext i
  idx_vars i
  obtain rfl : i0 = 0 := Subsingleton.elim _ _
  unfold val_main_v0 val_main_cst
  pointwise
  rfl

theorem means_eq (m : S1x64.Idx → EReal) (p : S8x1x64.Idx → EReal) : (val_main_v5 (F := Ideal) m p : S1x64.Idx → EReal) = means (R := 1) (C := 64) m p := by
  funext i
  unfold means
  rw [← grads_eq]
  unfold val_main_v5 val_main_v4 val_main_v3 val_main_v2 val_main_v1 val_main_cst_0 val_main_cst_1
  pointwise
  rfl

theorem squares_eq (v : S1x64.Idx → EReal) (p : S8x1x64.Idx → EReal) : (val_main_v11 (F := Ideal) v p : S1x64.Idx → EReal) = squares (R := 1) (C := 64) v p := by
  funext i
  unfold squares
  rw [← grads_eq]
  unfold val_main_v11 val_main_v10 val_main_v9 val_main_v8 val_main_v7 val_main_v6 val_main_cst_2 val_main_cst_3
  pointwise
  rfl

theorem changes_eq (w m v : S1x64.Idx → EReal) (p : S8x1x64.Idx → EReal) : (val_main_v24 (F := Ideal) w m v p : S1x64.Idx → EReal) = changes (R := 1) (C := 64) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamHeadRefIdeal.Product

end
-- ==== Proof.AdamWidth.lean ====
module

public import proofs.«01_k».proof.Proof.Gen.AdamWidthIdeal.Frame
public import proofs.«01_k».proof.Proof.Gen.AdamWidthRefIdeal.Run
public import proofs.«01_k».proof.Proof.Gen.AdamWidthRefIdeal.Read
public import proofs.«01_k».proof.Proof.Adam
public import Idealize.ShloMosaic.Lib.Pointwise
public import Idealize.ShloMosaic.Lib.Tactic

/-! # The optimiser's step on the vectors of the mixer's width -/

@[expose] public section

set_option maxRecDepth 16384

noncomputable section

open Idealize.ShloMosaic Idealize.ShloMosaic.TcCoe Idealize.SL.Sem
open Idealize.ShloMosaic.Pipeline (Dat)
open scoped BigOperators

namespace Cert.AdamWidthIdeal.Product

open Cert.AdamWidthIdeal Cert.AdamWidthIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 1) (C := 1024) x3
    ∧ out0_A_5 (F := Ideal) c i a2 h2 a3 h3 a4 h4 a5 h5 a6 h6 a7 h7 a8 h8 a9 h9 x0 x1 x2 x3 xt = changes (R := 1) (C := 1024) x0 x1 x2 x3
    ∧ out0_A_6 (F := Ideal) c i a2 h2 a3 h3 a4 h4 a5 h5 a6 h6 a7 h7 a8 h8 a9 h9 x0 x1 x2 x3 xt = means (R := 1) (C := 1024) x1 x3
    ∧ out0_A_7 (F := Ideal) c i a2 h2 a3 h3 a4 h4 a5 h5 a6 h6 a7 h7 a8 h8 a9 h9 x0 x1 x2 x3 xt = squares (R := 1) (C := 1024) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S1x1024) zero2]
    rw [View.canon_unit_zero zero2]
    funext j
    idx_vars j
    pointwise [k0_pay1, k0_pay2, k0_pay3, k0_pay4]
    simp only [changes, means, squares, grads, Fin.sum_univ_eight]
    obtain rfl : j0 = 0 := Subsingleton.elim _ _
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S1x1024.Idx → EReal) = m ((c : Thread nD τ).loc main_arg0)
    ∧ (iblk m trivial c 1 t : S1x1024.Idx → EReal) = m ((c : Thread nD τ).loc main_arg1)
    ∧ (iblk m trivial c 2 t : S1x1024.Idx → EReal) = m ((c : Thread nD τ).loc main_arg2)
    ∧ (iblk m trivial c 3 t : S8x1x1024.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S1x1024.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S1x1024.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S1x1024.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S1x1024.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 1) (C := 1024) (m ((c : Thread nD τ).loc main_arg3))
abbrev result5 (c : Dev nD) : Buf (Elt Ideal) ((c : Thread nD τ).loc main_v0_1) := changes (R := 1) (C := 1024) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 1) (C := 1024) (m ((c : Thread nD τ).loc main_arg1)) (m ((c : Thread nD τ).loc main_arg3))
abbrev result7 (c : Dev nD) : Buf (Elt Ideal) ((c : Thread nD τ).loc main_v0_3) := squares (R := 1) (C := 1024) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamWidthIdeal.Product

namespace Cert.AdamWidthRefIdeal.Product

open Cert.AdamWidthRefIdeal Cert.AdamWidthRefIdeal.Read Cert.Adam

theorem grads_eq (p : S8x1x1024.Idx → EReal) : (val_main_v0 (F := Ideal) p : S1x1024.Idx → EReal) = grads (R := 1) (C := 1024) p := by
  funext i
  idx_vars i
  obtain rfl : i0 = 0 := Subsingleton.elim _ _
  unfold val_main_v0 val_main_cst
  pointwise
  rfl

theorem means_eq (m : S1x1024.Idx → EReal) (p : S8x1x1024.Idx → EReal) : (val_main_v5 (F := Ideal) m p : S1x1024.Idx → EReal) = means (R := 1) (C := 1024) m p := by
  funext i
  unfold means
  rw [← grads_eq]
  unfold val_main_v5 val_main_v4 val_main_v3 val_main_v2 val_main_v1 val_main_cst_0 val_main_cst_1
  pointwise
  rfl

theorem squares_eq (v : S1x1024.Idx → EReal) (p : S8x1x1024.Idx → EReal) : (val_main_v11 (F := Ideal) v p : S1x1024.Idx → EReal) = squares (R := 1) (C := 1024) v p := by
  funext i
  unfold squares
  rw [← grads_eq]
  unfold val_main_v11 val_main_v10 val_main_v9 val_main_v8 val_main_v7 val_main_v6 val_main_cst_2 val_main_cst_3
  pointwise
  rfl

theorem changes_eq (w m v : S1x1024.Idx → EReal) (p : S8x1x1024.Idx → EReal) : (val_main_v24 (F := Ideal) w m v p : S1x1024.Idx → EReal) = changes (R := 1) (C := 1024) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamWidthRefIdeal.Product

end
-- ==== Proof.AdamBias.lean ====
module

public import proofs.«01_k».proof.Proof.Gen.AdamBiasIdeal.Frame
public import proofs.«01_k».proof.Proof.Gen.AdamBiasRefIdeal.Run
public import proofs.«01_k».proof.Proof.Gen.AdamBiasRefIdeal.Read
public import proofs.«01_k».proof.Proof.Adam
public import Idealize.ShloMosaic.Lib.Pointwise
public import Idealize.ShloMosaic.Lib.Tactic

/-! # The optimiser's step on the attention's bias -/

@[expose] public section

set_option maxRecDepth 16384

noncomputable section

open Idealize.ShloMosaic Idealize.ShloMosaic.TcCoe Idealize.SL.Sem
open Idealize.ShloMosaic.Pipeline (Dat)
open scoped BigOperators

namespace Cert.AdamBiasIdeal.Product

open Cert.AdamBiasIdeal Cert.AdamBiasIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 240) (C := 31) x3
    ∧ out0_A_5 (F := Ideal) c i a2 h2 a3 h3 a4 h4 a5 h5 a6 h6 a7 h7 a8 h8 a9 h9 x0 x1 x2 x3 xt = changes (R := 240) (C := 31) x0 x1 x2 x3
    ∧ out0_A_6 (F := Ideal) c i a2 h2 a3 h3 a4 h4 a5 h5 a6 h6 a7 h7 a8 h8 a9 h9 x0 x1 x2 x3 xt = means (R := 240) (C := 31) x1 x3
    ∧ out0_A_7 (F := Ideal) c i a2 h2 a3 h3 a4 h4 a5 h5 a6 h6 a7 h7 a8 h8 a9 h9 x0 x1 x2 x3 xt = squares (R := 240) (C := 31) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S240x31) zero2]
    rw [View.canon_unit_zero zero2]
    funext j
    idx_vars j
    pointwise [k0_pay1, k0_pay2, k0_pay3, k0_pay4]
    simp only [changes, means, squares, grads, Fin.sum_univ_eight]
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S240x31.Idx → EReal) = m ((c : Thread nD τ).loc main_arg0)
    ∧ (iblk m trivial c 1 t : S240x31.Idx → EReal) = m ((c : Thread nD τ).loc main_arg1)
    ∧ (iblk m trivial c 2 t : S240x31.Idx → EReal) = m ((c : Thread nD τ).loc main_arg2)
    ∧ (iblk m trivial c 3 t : S8x240x31.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S240x31.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S240x31.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S240x31.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S240x31.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 240) (C := 31) (m ((c : Thread nD τ).loc main_arg3))
abbrev result5 (c : Dev nD) : Buf (Elt Ideal) ((c : Thread nD τ).loc main_v0_1) := changes (R := 240) (C := 31) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 240) (C := 31) (m ((c : Thread nD τ).loc main_arg1)) (m ((c : Thread nD τ).loc main_arg3))
abbrev result7 (c : Dev nD) : Buf (Elt Ideal) ((c : Thread nD τ).loc main_v0_3) := squares (R := 240) (C := 31) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamBiasIdeal.Product

namespace Cert.AdamBiasRefIdeal.Product

open Cert.AdamBiasRefIdeal Cert.AdamBiasRefIdeal.Read Cert.Adam

theorem grads_eq (p : S8x240x31.Idx → EReal) : (val_main_v0 (F := Ideal) p : S240x31.Idx → EReal) = grads (R := 240) (C := 31) p := by
  funext i
  idx_vars i
  unfold val_main_v0 val_main_cst
  pointwise
  rfl

theorem means_eq (m : S240x31.Idx → EReal) (p : S8x240x31.Idx → EReal) : (val_main_v5 (F := Ideal) m p : S240x31.Idx → EReal) = means (R := 240) (C := 31) m p := by
  funext i
  unfold means
  rw [← grads_eq]
  unfold val_main_v5 val_main_v4 val_main_v3 val_main_v2 val_main_v1 val_main_cst_0 val_main_cst_1
  pointwise
  rfl

theorem squares_eq (v : S240x31.Idx → EReal) (p : S8x240x31.Idx → EReal) : (val_main_v11 (F := Ideal) v p : S240x31.Idx → EReal) = squares (R := 240) (C := 31) v p := by
  funext i
  unfold squares
  rw [← grads_eq]
  unfold val_main_v11 val_main_v10 val_main_v9 val_main_v8 val_main_v7 val_main_v6 val_main_cst_2 val_main_cst_3
  pointwise
  rfl

theorem changes_eq (w m v : S240x31.Idx → EReal) (p : S8x240x31.Idx → EReal) : (val_main_v24 (F := Ideal) w m v p : S240x31.Idx → EReal) = changes (R := 240) (C := 31) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamBiasRefIdeal.Product

end
-- ==== Proof.AdamState.lean ====
module

public import proofs.«01_k».proof.Proof.Gen.AdamStateIdeal.Frame
public import proofs.«01_k».proof.Proof.Gen.AdamStateRefIdeal.Run
public import proofs.«01_k».proof.Proof.Gen.AdamStateRefIdeal.Read
public import proofs.«01_k».proof.Proof.Adam
public import Idealize.ShloMosaic.Lib.Pointwise
public import Idealize.ShloMosaic.Lib.Tactic

/-! # The optimiser's step on the recurrence's poles -/

@[expose] public section

set_option maxRecDepth 16384

noncomputable section

open Idealize.ShloMosaic Idealize.ShloMosaic.TcCoe Idealize.SL.Sem
open Idealize.ShloMosaic.Pipeline (Dat)
open scoped BigOperators

namespace Cert.AdamStateIdeal.Product

open Cert.AdamStateIdeal Cert.AdamStateIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 128) (C := 64) x3
    ∧ out0_A_5 (F := Ideal) c i a2 h2 a3 h3 a4 h4 a5 h5 a6 h6 a7 h7 a8 h8 a9 h9 x0 x1 x2 x3 xt = changes (R := 128) (C := 64) x0 x1 x2 x3
    ∧ out0_A_6 (F := Ideal) c i a2 h2 a3 h3 a4 h4 a5 h5 a6 h6 a7 h7 a8 h8 a9 h9 x0 x1 x2 x3 xt = means (R := 128) (C := 64) x1 x3
    ∧ out0_A_7 (F := Ideal) c i a2 h2 a3 h3 a4 h4 a5 h5 a6 h6 a7 h7 a8 h8 a9 h9 x0 x1 x2 x3 xt = squares (R := 128) (C := 64) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S128x64) zero2]
    rw [View.canon_unit_zero zero2]
    funext j
    idx_vars j
    pointwise [k0_pay1, k0_pay2, k0_pay3, k0_pay4]
    simp only [changes, means, squares, grads, Fin.sum_univ_eight]
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S128x64.Idx → EReal) = m ((c : Thread nD τ).loc main_arg0)
    ∧ (iblk m trivial c 1 t : S128x64.Idx → EReal) = m ((c : Thread nD τ).loc main_arg1)
    ∧ (iblk m trivial c 2 t : S128x64.Idx → EReal) = m ((c : Thread nD τ).loc main_arg2)
    ∧ (iblk m trivial c 3 t : S8x128x64.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S128x64.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S128x64.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S128x64.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S128x64.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 128) (C := 64) (m ((c : Thread nD τ).loc main_arg3))
abbrev result5 (c : Dev nD) : Buf (Elt Ideal) ((c : Thread nD τ).loc main_v0_1) := changes (R := 128) (C := 64) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 128) (C := 64) (m ((c : Thread nD τ).loc main_arg1)) (m ((c : Thread nD τ).loc main_arg3))
abbrev result7 (c : Dev nD) : Buf (Elt Ideal) ((c : Thread nD τ).loc main_v0_3) := squares (R := 128) (C := 64) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamStateIdeal.Product

namespace Cert.AdamStateRefIdeal.Product

open Cert.AdamStateRefIdeal Cert.AdamStateRefIdeal.Read Cert.Adam

theorem grads_eq (p : S8x128x64.Idx → EReal) : (val_main_v0 (F := Ideal) p : S128x64.Idx → EReal) = grads (R := 128) (C := 64) p := by
  funext i
  idx_vars i
  unfold val_main_v0 val_main_cst
  pointwise
  rfl

theorem means_eq (m : S128x64.Idx → EReal) (p : S8x128x64.Idx → EReal) : (val_main_v5 (F := Ideal) m p : S128x64.Idx → EReal) = means (R := 128) (C := 64) m p := by
  funext i
  unfold means
  rw [← grads_eq]
  unfold val_main_v5 val_main_v4 val_main_v3 val_main_v2 val_main_v1 val_main_cst_0 val_main_cst_1
  pointwise
  rfl

theorem squares_eq (v : S128x64.Idx → EReal) (p : S8x128x64.Idx → EReal) : (val_main_v11 (F := Ideal) v p : S128x64.Idx → EReal) = squares (R := 128) (C := 64) v p := by
  funext i
  unfold squares
  rw [← grads_eq]
  unfold val_main_v11 val_main_v10 val_main_v9 val_main_v8 val_main_v7 val_main_v6 val_main_cst_2 val_main_cst_3
  pointwise
  rfl

theorem changes_eq (w m v : S128x64.Idx → EReal) (p : S8x128x64.Idx → EReal) : (val_main_v24 (F := Ideal) w m v p : S128x64.Idx → EReal) = changes (R := 128) (C := 64) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamStateRefIdeal.Product

end
-- ==== Proof.AdamMatrix.lean ====
module

public import proofs.«01_k».proof.Proof.Gen.AdamMatrixIdeal.Frame
public import proofs.«01_k».proof.Proof.Gen.AdamMatrixRefIdeal.Run
public import proofs.«01_k».proof.Proof.Gen.AdamMatrixRefIdeal.Read
public import proofs.«01_k».proof.Proof.Adam
public import Idealize.ShloMosaic.Lib.Pointwise
public import Idealize.ShloMosaic.Lib.Tactic

/-! # The optimiser's step on the recurrence's matrices -/

@[expose] public section

set_option maxRecDepth 16384

noncomputable section

open Idealize.ShloMosaic Idealize.ShloMosaic.TcCoe Idealize.SL.Sem
open Idealize.ShloMosaic.Pipeline (Dat)
open scoped BigOperators

namespace Cert.AdamMatrixIdeal.Product

open Cert.AdamMatrixIdeal Cert.AdamMatrixIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 1024) (C := 128) x3
    ∧ out0_A_5 (F := Ideal) c i a2 h2 a3 h3 a4 h4 a5 h5 a6 h6 a7 h7 a8 h8 a9 h9 x0 x1 x2 x3 xt = changes (R := 1024) (C := 128) x0 x1 x2 x3
    ∧ out0_A_6 (F := Ideal) c i a2 h2 a3 h3 a4 h4 a5 h5 a6 h6 a7 h7 a8 h8 a9 h9 x0 x1 x2 x3 xt = means (R := 1024) (C := 128) x1 x3
    ∧ out0_A_7 (F := Ideal) c i a2 h2 a3 h3 a4 h4 a5 h5 a6 h6 a7 h7 a8 h8 a9 h9 x0 x1 x2 x3 xt = squares (R := 1024) (C := 128) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S1024x128) zero2]
    rw [View.canon_unit_zero zero2]
    funext j
    idx_vars j
    pointwise [k0_pay1, k0_pay2, k0_pay3, k0_pay4]
    simp only [changes, means, squares, grads, Fin.sum_univ_eight]
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S1024x128.Idx → EReal) = m ((c : Thread nD τ).loc main_arg0)
    ∧ (iblk m trivial c 1 t : S1024x128.Idx → EReal) = m ((c : Thread nD τ).loc main_arg1)
    ∧ (iblk m trivial c 2 t : S1024x128.Idx → EReal) = m ((c : Thread nD τ).loc main_arg2)
    ∧ (iblk m trivial c 3 t : S8x1024x128.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S1024x128.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S1024x128.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S1024x128.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S1024x128.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 1024) (C := 128) (m ((c : Thread nD τ).loc main_arg3))
abbrev result5 (c : Dev nD) : Buf (Elt Ideal) ((c : Thread nD τ).loc main_v0_1) := changes (R := 1024) (C := 128) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 1024) (C := 128) (m ((c : Thread nD τ).loc main_arg1)) (m ((c : Thread nD τ).loc main_arg3))
abbrev result7 (c : Dev nD) : Buf (Elt Ideal) ((c : Thread nD τ).loc main_v0_3) := squares (R := 1024) (C := 128) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamMatrixIdeal.Product

namespace Cert.AdamMatrixRefIdeal.Product

open Cert.AdamMatrixRefIdeal Cert.AdamMatrixRefIdeal.Read Cert.Adam

theorem grads_eq (p : S8x1024x128.Idx → EReal) : (val_main_v0 (F := Ideal) p : S1024x128.Idx → EReal) = grads (R := 1024) (C := 128) p := by
  funext i
  idx_vars i
  unfold val_main_v0 val_main_cst
  pointwise
  rfl

theorem means_eq (m : S1024x128.Idx → EReal) (p : S8x1024x128.Idx → EReal) : (val_main_v5 (F := Ideal) m p : S1024x128.Idx → EReal) = means (R := 1024) (C := 128) m p := by
  funext i
  unfold means
  rw [← grads_eq]
  unfold val_main_v5 val_main_v4 val_main_v3 val_main_v2 val_main_v1 val_main_cst_0 val_main_cst_1
  pointwise
  rfl

theorem squares_eq (v : S1024x128.Idx → EReal) (p : S8x1024x128.Idx → EReal) : (val_main_v11 (F := Ideal) v p : S1024x128.Idx → EReal) = squares (R := 1024) (C := 128) v p := by
  funext i
  unfold squares
  rw [← grads_eq]
  unfold val_main_v11 val_main_v10 val_main_v9 val_main_v8 val_main_v7 val_main_v6 val_main_cst_2 val_main_cst_3
  pointwise
  rfl

theorem changes_eq (w m v : S1024x128.Idx → EReal) (p : S8x1024x128.Idx → EReal) : (val_main_v24 (F := Ideal) w m v p : S1024x128.Idx → EReal) = changes (R := 1024) (C := 128) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamMatrixRefIdeal.Product

end
-- ==== Proof.AdamStep.lean ====
module

public import proofs.«01_k».proof.Proof.Gen.AdamStepIdeal.Frame
public import proofs.«01_k».proof.Proof.Gen.AdamStepRefIdeal.Run
public import proofs.«01_k».proof.Proof.Gen.AdamStepRefIdeal.Read
public import proofs.«01_k».proof.Proof.Adam
public import Idealize.ShloMosaic.Lib.Pointwise
public import Idealize.ShloMosaic.Lib.Tactic

/-! # The optimiser's step on the recurrence's steps -/

@[expose] public section

set_option maxRecDepth 16384

noncomputable section

open Idealize.ShloMosaic Idealize.ShloMosaic.TcCoe Idealize.SL.Sem
open Idealize.ShloMosaic.Pipeline (Dat)
open scoped BigOperators

namespace Cert.AdamStepIdeal.Product

open Cert.AdamStepIdeal Cert.AdamStepIdeal.Gen Cert.Adam

variable (m : (ℓ : Loc nD τ sig) → Buf (Elt Ideal) ℓ)

set_option maxHeartbeats 4000000 in
/-- What the body leaves in its outputs, from its inputs. -/
theorem body_eq : ∀ c i a2 h2 a3 h3 a4 h4 a5 h5 a6 h6 a7 h7 a8 h8 a9 h9 x0 x1 x2 x3 xt,
    out0_A_4 (F := Ideal) c i a2 h2 a3 h3 a4 h4 a5 h5 a6 h6 a7 h7 a8 h8 a9 h9 x0 x1 x2 x3 xt = grads (R := 2) (C := 64) x3
    ∧ out0_A_5 (F := Ideal) c i a2 h2 a3 h3 a4 h4 a5 h5 a6 h6 a7 h7 a8 h8 a9 h9 x0 x1 x2 x3 xt = changes (R := 2) (C := 64) x0 x1 x2 x3
    ∧ out0_A_6 (F := Ideal) c i a2 h2 a3 h3 a4 h4 a5 h5 a6 h6 a7 h7 a8 h8 a9 h9 x0 x1 x2 x3 xt = means (R := 2) (C := 64) x1 x3
    ∧ out0_A_7 (F := Ideal) c i a2 h2 a3 h3 a4 h4 a5 h5 a6 h6 a7 h7 a8 h8 a9 h9 x0 x1 x2 x3 xt = squares (R := 2) (C := 64) x2 x3 := by
  intro c i a2 h2 a3 h3 a4 h4 a5 h5 a6 h6 a7 h7 a8 h8 a9 h9 x0 x1 x2 x3 xt
  refine ⟨?_, ?_, ?_, ?_⟩
  on_goal 1 => (unfold out0_A_4; rw [View.read_writes_eq_canon _ _ _ (fun _ => cover0_A_4 ..)])
  on_goal 2 => (unfold out0_A_5; rw [View.read_writes_eq_canon _ _ _ (fun _ => cover0_A_5 ..)])
  on_goal 3 => (unfold out0_A_6; rw [View.read_writes_eq_canon _ _ _ (fun _ => cover0_A_6 ..)])
  on_goal 4 => (unfold out0_A_7; rw [View.read_writes_eq_canon _ _ _ (fun _ => cover0_A_7 ..)])
  all_goals
    unfold kernelRun0_A
    dsimp only
    try sl_unfold_words
    simp only [View.readAt_eq_ld, h2.read_unread, h3.read_unread, h4.read_unread, h5.read_unread, View.ld_unit_zero (S := S2x64) zero2]
    rw [View.canon_unit_zero zero2]
    funext j
    idx_vars j
    pointwise [k0_pay1, k0_pay2, k0_pay3, k0_pay4]
    simp only [changes, means, squares, grads, Fin.sum_univ_eight]
    rfl

/-- Each window's block is its whole array. -/
theorem index_at : ∀ t : Fin grid0.N, (cc0_transform_0 (grid0.coords t) = fun _ => 0) ∧ (cc0_transform_1 (grid0.coords t) = fun _ => 0) ∧ (cc0_transform_2 (grid0.coords t) = fun _ => 0)
    ∧ (cc0_transform_3 (grid0.coords t) = fun _ => 0) ∧ (cc0_transform_4 (grid0.coords t) = fun _ => 0) ∧ (cc0_transform_5 (grid0.coords t) = fun _ => 0)
    ∧ (cc0_transform_6 (grid0.coords t) = fun _ => 0) ∧ cc0_transform_7 (grid0.coords t) = fun _ => 0 :=
  (by decide +kernel : ∀ t : Fin grid0.N, _)

theorem blocks (c : Dev nD) (t : Fin (cfgM m trivial).N) :
    (iblk m trivial c 0 t : S2x64.Idx → EReal) = m ((c : Thread nD τ).loc main_arg0)
    ∧ (iblk m trivial c 1 t : S2x64.Idx → EReal) = m ((c : Thread nD τ).loc main_arg1)
    ∧ (iblk m trivial c 2 t : S2x64.Idx → EReal) = m ((c : Thread nD τ).loc main_arg2)
    ∧ (iblk m trivial c 3 t : S8x2x64.Idx → EReal) = m ((c : Thread nD τ).loc main_arg3) :=
  ⟨(funext fun y => congrArg (m ((c : Thread nD τ).loc main_arg0))
    (funext fun a => Fin.ext (((cfgM m trivial).win 0).rect_emb_val_of_index_zero t a (congrFun (index_at t).1 a) y))),
   (funext fun y => congrArg (m ((c : Thread nD τ).loc main_arg1))
    (funext fun a => Fin.ext (((cfgM m trivial).win 1).rect_emb_val_of_index_zero t a (congrFun (index_at t).2.1 a) y))),
   (funext fun y => congrArg (m ((c : Thread nD τ).loc main_arg2))
    (funext fun a => Fin.ext (((cfgM m trivial).win 2).rect_emb_val_of_index_zero t a (congrFun (index_at t).2.2.1 a) y))),
   (funext fun y => congrArg (m ((c : Thread nD τ).loc main_arg3))
    (funext fun a => Fin.ext (((cfgM m trivial).win 3).rect_emb_val_of_index_zero t a (congrFun (index_at t).2.2.2.1 a) y)))⟩

theorem emb4 (t : Fin (cfgM m trivial).N) (y : S2x64.Idx) : (((cfgM m trivial).win 4).blk t).view.emb y = y :=
  funext fun a => Fin.ext (((cfgM m trivial).win 4).rect_emb_val_of_index_zero t a (congrFun (index_at t).2.2.2.2.1 a) y)

theorem emb5 (t : Fin (cfgM m trivial).N) (y : S2x64.Idx) : (((cfgM m trivial).win 5).blk t).view.emb y = y :=
  funext fun a => Fin.ext (((cfgM m trivial).win 5).rect_emb_val_of_index_zero t a (congrFun (index_at t).2.2.2.2.2.1 a) y)

theorem emb6 (t : Fin (cfgM m trivial).N) (y : S2x64.Idx) : (((cfgM m trivial).win 6).blk t).view.emb y = y :=
  funext fun a => Fin.ext (((cfgM m trivial).win 6).rect_emb_val_of_index_zero t a (congrFun (index_at t).2.2.2.2.2.2.1 a) y)

theorem emb7 (t : Fin (cfgM m trivial).N) (y : S2x64.Idx) : (((cfgM m trivial).win 7).blk t).view.emb y = y :=
  funext fun a => Fin.ext (((cfgM m trivial).win 7).rect_emb_val_of_index_zero t a (congrFun (index_at t).2.2.2.2.2.2.2 a) y)

/-- The one point of the grid. -/
def only : Fin (cfgM m trivial).N := ⟨0, (by decide : 0 < grid0.N)⟩

/-- The results of the call. -/
abbrev result4 (c : Dev nD) : Buf (Elt Ideal) ((c : Thread nD τ).loc main_v0_0) := grads (R := 2) (C := 64) (m ((c : Thread nD τ).loc main_arg3))
abbrev result5 (c : Dev nD) : Buf (Elt Ideal) ((c : Thread nD τ).loc main_v0_1) := changes (R := 2) (C := 64) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v0_2) := means (R := 2) (C := 64) (m ((c : Thread nD τ).loc main_arg1)) (m ((c : Thread nD τ).loc main_arg3))
abbrev result7 (c : Dev nD) : Buf (Elt Ideal) ((c : Thread nD τ).loc main_v0_3) := squares (R := 2) (C := 64) (m ((c : Thread nD τ).loc main_arg2)) (m ((c : Thread nD τ).loc main_arg3))

attribute [local irreducible] out0_A_4 out0_A_5 out0_A_6 out0_A_7

theorem outs (c : Dev nD) (t : Fin (cfgM m trivial).N) : (outsAt0 m trivial c t).1 = result4 m c ∧ (outsAt0 m trivial c t).2.1 = result5 m c
    ∧ (outsAt0 m trivial c t).2.2.1 = result6 m c ∧ (outsAt0 m trivial c t).2.2.2 = result7 m c := by
  have h := body_eq c (grid0.coords t) (ms0_0 m trivial t) (hs0_0 m trivial t) (ms0_1 m trivial t) (hs0_1 m trivial t) (ms0_2 m trivial t) (hs0_2 m trivial t) (ms0_3 m trivial t) (hs0_3 m trivial t) (ms0_4 m trivial t) (hs0_4 m trivial t) (ms0_5 m trivial t) (hs0_5 m trivial t) (ms0_6 m trivial t) (hs0_6 m trivial t) (ms0_7 m trivial t) (hs0_7 m trivial t) (iblk m trivial c 0 t) (iblk m trivial c 1 t) (iblk m trivial c 2 t) (iblk m trivial c 3 t) (tbl m 0)
  have b := blocks m c t
  exact ⟨h.1.trans (by rw [b.2.2.2]), h.2.1.trans (by rw [b.1, b.2.1, b.2.2.1, b.2.2.2]), h.2.2.1.trans (by rw [b.2.1, b.2.2.2]),
    h.2.2.2.trans (by rw [b.2.2.1, b.2.2.2])⟩

theorem final4 (c : Dev nD) : (dats m trivial 0 c).arrAt 4 (cfgM m trivial).N = result4 m c :=
  (dats m trivial 0 c).arrAt_eq_of_cover 4 (result4 m c) (fun t _ => (congrArg _ (after0_4 m trivial c t)).trans
    (funext fun y => (congrFun (outs m c t).1 y).trans (congrArg (result4 m c) (emb4 m t y).symm)))
    fun i => ⟨only m, flush0_4 (adm m trivial) (only m), (emb4 m (only m) i) ▸ View.emb_mem_set _ i⟩

theorem final5 (c : Dev nD) : (dats m trivial 0 c).arrAt 5 (cfgM m trivial).N = result5 m c :=
  (dats m trivial 0 c).arrAt_eq_of_cover 5 (result5 m c) (fun t _ => (congrArg _ (after0_5 m trivial c t)).trans
    (funext fun y => (congrFun (outs m c t).2.1 y).trans (congrArg (result5 m c) (emb5 m t y).symm)))
    fun i => ⟨only m, flush0_5 (adm m trivial) (only m), (emb5 m (only m) i) ▸ View.emb_mem_set _ i⟩

theorem final6 (c : Dev nD) : (dats m trivial 0 c).arrAt 6 (cfgM m trivial).N = result6 m c :=
  (dats m trivial 0 c).arrAt_eq_of_cover 6 (result6 m c) (fun t _ => (congrArg _ (after0_6 m trivial c t)).trans
    (funext fun y => (congrFun (outs m c t).2.2.1 y).trans (congrArg (result6 m c) (emb6 m t y).symm)))
    fun i => ⟨only m, flush0_6 (adm m trivial) (only m), (emb6 m (only m) i) ▸ View.emb_mem_set _ i⟩

theorem final7 (c : Dev nD) : (dats m trivial 0 c).arrAt 7 (cfgM m trivial).N = result7 m c :=
  (dats m trivial 0 c).arrAt_eq_of_cover 7 (result7 m c) (fun t _ => (congrArg _ (after0_7 m trivial c t)).trans
    (funext fun y => (congrFun (outs m c t).2.2.2 y).trans (congrArg (result7 m c) (emb7 m t y).symm)))
    fun i => ⟨only m, flush0_7 (adm m trivial) (only m), (emb7 m (only m) i) ▸ View.emb_mem_set _ i⟩

end Cert.AdamStepIdeal.Product

namespace Cert.AdamStepRefIdeal.Product

open Cert.AdamStepRefIdeal Cert.AdamStepRefIdeal.Read Cert.Adam

theorem grads_eq (p : S8x2x64.Idx → EReal) : (val_main_v0 (F := Ideal) p : S2x64.Idx → EReal) = grads (R := 2) (C := 64) p := by
  funext i
  idx_vars i
  unfold val_main_v0 val_main_cst
  pointwise
  rfl

theorem means_eq (m : S2x64.Idx → EReal) (p : S8x2x64.Idx → EReal) : (val_main_v5 (F := Ideal) m p : S2x64.Idx → EReal) = means (R := 2) (C := 64) m p := by
  funext i
  unfold means
  rw [← grads_eq]
  unfold val_main_v5 val_main_v4 val_main_v3 val_main_v2 val_main_v1 val_main_cst_0 val_main_cst_1
  pointwise
  rfl

theorem squares_eq (v : S2x64.Idx → EReal) (p : S8x2x64.Idx → EReal) : (val_main_v11 (F := Ideal) v p : S2x64.Idx → EReal) = squares (R := 2) (C := 64) v p := by
  funext i
  unfold squares
  rw [← grads_eq]
  unfold val_main_v11 val_main_v10 val_main_v9 val_main_v8 val_main_v7 val_main_v6 val_main_cst_2 val_main_cst_3
  pointwise
  rfl

theorem changes_eq (w m v : S2x64.Idx → EReal) (p : S8x2x64.Idx → EReal) : (val_main_v24 (F := Ideal) w m v p : S2x64.Idx → EReal) = changes (R := 2) (C := 64) w m v p := by
  funext i
  unfold changes
  rw [← means_eq, ← squares_eq]
  unfold val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  pointwise
  rfl

end Cert.AdamStepRefIdeal.Product

end
-- ==== Proof.AdamPart.lean ====
module

public import proofs.«01_k».proof.Proof.Adam
public import Idealize.ShloMosaic.Lib.IdealHost
public import Idealize.ShloMosaic.Lib.Pointwise

/-! # The optimiser's step on a weight cut over the devices -/

@[expose] public section

noncomputable section

open Idealize.ShloMosaic
open scoped BigOperators

namespace Cert.Adam

/-- A word that is not negative and below 8, as the comparisons say it. -/
theorem below_eight (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The sum over the slabs, all but slab `v` replaced by zero, is slab `v`. -/
theorem masked (v : BitVec 32) (q : Fin 8) (hq : v.toNat = q.val) (f : Fin 8 → EReal) :
    ∑ d : Fin 8, Scalar.select (IntOp.cmpi .eq (BitVec.ofNat 32 d.val) v) (f d) 0 = f q := by
  rw [Finset.sum_eq_single q]
  · have e : BitVec.ofNat 32 q.val = v := BitVec.eq_of_toNat_eq (by simp [← hq])
    simp [IntOp.cmpi, Scalar.select, e]
  · intro d _ hd
    have e : BitVec.ofNat 32 d.val ≠ v := fun h => hd (Fin.ext (by
      have := congrArg BitVec.toNat h
      rw [BitVec.toNat_ofNat] at this
      have := d.isLt
      omega))
    simp [IntOp.cmpi, Scalar.select, beq_eq_false_iff_ne.mpr e]
  · exact fun h => absurd (Finset.mem_univ _) h

theorem zero_bits : (FloatOps.ofBits .f32 0#32 : Ideal .f32) = (0 : EReal) := Ideal.ofBits_zero_f32

/-- The one element of an array of one. -/
abbrev here : Shape.Idx ⟨1, ![1]⟩ := fun a => ⟨0, by fin_cases a; decide⟩

theorem only_here (x : Shape.Idx ⟨1, ![1]⟩) : x = here := by
  funext a; apply Fin.ext
  match a with
  | ⟨0, _⟩ => exact Nat.lt_one_iff.mp (x 0).isLt

variable {R C T : ℕ}

/-- Some matrices in one array. -/
abbrev Few (n R C : ℕ) : Shape := ⟨3, ![n, R, C]⟩

/-- The gradient of the device's cut: its own term, its neighbour's, and those of the other three chips. -/
def parts (k : Fin 8) (s : (Few 8 R C).Idx → EReal) (b : (Few 4 R C).Idx → EReal) (p : (Few 3 R C).Idx → EReal) : (Mat R C).Idx → EReal := fun i =>
  s (ix3 k (i 0) (i 1)) + b (ix3 0 (i 0) (i 1)) + p (ix3 0 (i 0) (i 1)) + p (ix3 1 (i 0) (i 1)) + p (ix3 2 (i 0) (i 1))

/-- The same of one block of rows. -/
def tile (s b : (Few 1 R C).Idx → EReal) (p : (Few 3 R C).Idx → EReal) : (Mat R C).Idx → EReal := fun i =>
  s (ix3 0 (i 0) (i 1)) + b (ix3 0 (i 0) (i 1)) + p (ix3 0 (i 0) (i 1)) + p (ix3 1 (i 0) (i 1)) + p (ix3 2 (i 0) (i 1))

/-- The running means and the change of the weights, from the gradient. -/
def meansOf (m g : (Mat R C).Idx → EReal) : (Mat R C).Idx → EReal := fun i => mean (m i) (g i)
def squaresOf (v g : (Mat R C).Idx → EReal) : (Mat R C).Idx → EReal := fun i => square (v i) (g i)
def changesOf (w m v g : (Mat R C).Idx → EReal) : (Mat R C).Idx → EReal := fun i => change (w i) (mean (m i) (g i)) (square (v i) (g i))

/-- The rows `r` of a matrix, of one of several, and of several. -/
def cut (r : Fin T → Fin R) (f : (Mat R C).Idx → EReal) : (Mat T C).Idx → EReal := fun y => f (ix2 (r (y 0)) (y 1))
def cutOne {n : ℕ} (r : Fin T → Fin R) (k : Fin n) (f : (Few n R C).Idx → EReal) : (Few 1 T C).Idx → EReal := fun y => f (ix3 k (r (y 1)) (y 2))
def cutAll {n : ℕ} (r : Fin T → Fin R) (f : (Few n R C).Idx → EReal) : (Few n T C).Idx → EReal := fun y => f (ix3 (y 0) (r (y 1)) (y 2))

theorem tile_cut (r : Fin T → Fin R) (k : Fin 8) (s : (Few 8 R C).Idx → EReal) (b : (Few 4 R C).Idx → EReal) (p : (Few 3 R C).Idx → EReal) :
    tile (cutOne r k s) (cutOne r 0 b) (cutAll r p) = cut r (parts k s b p) := rfl

end Cert.Adam

end
-- ==== Proof.AdamIn.lean ====
module

public import proofs.«01_k».proof.Defs
public import proofs.«01_k».proof.Proof.Gen.Pre_in_slab
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import proofs.«01_k».proof.Proof.AdamPart
public import Idealize.ShloMosaic.Lib.Pointwise
public import Idealize.ShloMosaic.Lib.Tactic

/-! # The optimiser's step on the input projection -/

@[expose] public section

set_option maxRecDepth 16384

noncomputable section

open Idealize.ShloMosaic Idealize.ShloMosaic.TcCoe Idealize.SL.Sem
open Idealize.ShloMosaic.Pipeline (Dat)
open scoped BigOperators

namespace Cert.AdamIn.Product

open Cert.AdamIn Cert.AdamIn.Gen Cert.Adam

/-- The number of the device's slab. -/
abbrev word (m : (ℓ : Loc nD τ sig) → Buf (Elt Bits) ℓ) : BitVec 32 := (m (((0 : Dev nD).tc : Thread nD τ).loc main_arg6) : S1.Idx → BitVec 32) here

theorem slab_at (m : (ℓ : Loc nD τ sig) → Buf (Elt Bits) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Bits) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 2048) i
    | ⟨2, _⟩ => show (0 + 1) * 512 ≤ 512; omega, Or.inl rfl⟩

theorem range (m : (ℓ : Loc nD τ sig) → Buf (Elt Bits) ℓ) (h : Cert.Pre_AdamIn m) : (word m).toNat < 8 := by
  have e := congrFun (h 0) here
  simp only [Cert.Pre_in_slab.fn, andi, cmpi, broadcastInDim, constantI] at e
  exact below_eight _ e

end Cert.AdamIn.Product

namespace Cert.AdamInIdeal.Product

open Cert.AdamInIdeal Cert.AdamInIdeal.Gen Cert.Adam

/-- The number of the device's slab. -/
abbrev word (m : (ℓ : Loc nD τ sig) → Buf (Elt Ideal) ℓ) : BitVec 32 := (m (((0 : Dev nD).tc : Thread nD τ).loc main_arg6) : S1.Idx → BitVec 32) here

theorem slab_at (m : (ℓ : Loc nD τ sig) → Buf (Elt Ideal) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Ideal) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 2048) i
    | ⟨2, _⟩ => show (0 + 1) * 512 ≤ 512; omega, Or.inl rfl⟩

theorem range (m : (ℓ : Loc nD τ sig) → Buf (Elt Ideal) ℓ) (h : Cert.Pre_AdamInIdeal m) : (word m).toNat < 8 := by
  have e := congrFun (h 0) here
  simp only [Cert.Pre_in_slab.fn, andi, cmpi, broadcastInDim, constantI] at e
  exact below_eight _ e

set_option maxHeartbeats 4000000 in
/-- What the body leaves in its outputs, from its inputs. -/
theorem body_eq : ∀ c i a2 h2 a3 h3 a4 h4 a5 h5 a6 h6 a7 h7 a8 h8 a9 h9 a10 h10 a11 h11 x0 x1 x2 x3 x4 x5 xt,
    out0_A_6 (F := Ideal) c i a2 h2 a3 h3 a4 h4 a5 h5 a6 h6 a7 h7 a8 h8 a9 h9 a10 h10 a11 h11 x0 x1 x2 x3 x4 x5 xt = tile (R := 256) (C := 512) x3 x4 x5
    ∧ out0_A_7 (F := Ideal) c i a2 h2 a3 h3 a4 h4 a5 h5 a6 h6 a7 h7 a8 h8 a9 h9 a10 h10 a11 h11 x0 x1 x2 x3 x4 x5 xt = changesOf (R := 256) (C := 512) x0 x1 x2 (tile (R := 256) (C := 512) x3 x4 x5)
    ∧ out0_A_8 (F := Ideal) c i a2 h2 a3 h3 a4 h4 a5 h5 a6 h6 a7 h7 a8 h8 a9 h9 a10 h10 a11 h11 x0 x1 x2 x3 x4 x5 xt = meansOf (R := 256) (C := 512) x1 (tile (R := 256) (C := 512) x3 x4 x5)
    ∧ out0_A_9 (F := Ideal) c i a2 h2 a3 h3 a4 h4 a5 h5 a6 h6 a7 h7 a8 h8 a9 h9 a10 h10 a11 h11 x0 x1 x2 x3 x4 x5 xt = squaresOf (R := 256) (C := 512) x2 (tile (R := 256) (C := 512) x3 x4 x5) := by
  intro c i a2 h2 a3 h3 a4 h4 a5 h5 a6 h6 a7 h7 a8 h8 a9 h9 a10 h10 a11 h11 x0 x1 x2 x3 x4 x5 xt
  refine ⟨?_, ?_, ?_, ?_⟩
  on_goal 1 => (unfold out0_A_6; rw [View.read_writes_eq_canon _ _ _ (fun _ => cover0_A_6 ..)])
  on_goal 2 => (unfold out0_A_7; rw [View.read_writes_eq_canon _ _ _ (fun _ => cover0_A_7 ..)])
  on_goal 3 => (unfold out0_A_8; rw [View.read_writes_eq_canon _ _ _ (fun _ => cover0_A_8 ..)])
  on_goal 4 => (unfold out0_A_9; rw [View.read_writes_eq_canon _ _ _ (fun _ => cover0_A_9 ..)])
  all_goals
    unfold kernelRun0_A
    dsimp only
    try sl_unfold_words
    simp only [View.readAt_eq_ld, h2.read_unread, h3.read_unread, h4.read_unread, h5.read_unread, h6.read_unread, h7.read_unread, View.ld_unit_zero (S := S256x512) zero2]
    rw [View.canon_unit_zero zero2]
    funext j
    idx_vars j
    pointwise [k0_pay1, k0_pay2, k0_pay3, k0_pay4, k0_pay5, k0_pay6]
    rfl

variable (m : (ℓ : Loc nD τ sig) → Buf (Elt Ideal) ℓ) (hO : Ok m) (h : (word m).toNat < 8)

/-- The arguments of a device. -/
abbrev in0 (c : Dev nD) : S2048x512.Idx → EReal := m ((c : Thread nD τ).loc main_arg0)
abbrev in1 (c : Dev nD) : S2048x512.Idx → EReal := m ((c : Thread nD τ).loc main_arg1)
abbrev in2 (c : Dev nD) : S2048x512.Idx → EReal := m ((c : Thread nD τ).loc main_arg2)
abbrev in3 (c : Dev nD) : S8x2048x512.Idx → EReal := m ((c : Thread nD τ).loc main_arg3)
abbrev in4 (c : Dev nD) : S4x2048x512.Idx → EReal := m ((c : Thread nD τ).loc main_arg4)
abbrev in5 (c : Dev nD) : S3x2048x512.Idx → EReal := m ((c : Thread nD τ).loc main_arg5)

theorem index_at : ∀ t : Fin grid0.N, cc0_transform_0 (grid0.coords t) 0 = t.val ∧ t.val < 8 :=
  (by decide +kernel : ∀ t : Fin grid0.N, _)

/-- Row `a` of block `t`, and where the blocks' elements lie. -/
abbrev row (t : Fin (cfgM m hO).N) (a : Fin 256) : Fin 2048 := ⟨t.val * 256 + a.val, by have := (index_at t).2; omega⟩

theorem spot (t : Fin (cfgM m hO).N) (a : Fin 256) : cc0_transform_0 (grid0.coords t) 0 * 256 + 1 * a.val = (row m hO t a).val := by
  rw [(index_at t).1, Nat.one_mul]

theorem side (t : Fin grid0.N) (b : Fin 512) : cc0_transform_0 (grid0.coords t) 1 * 512 + 1 * b.val = b.val := by
  show 0 * 512 + 1 * b.val = b.val
  omega

abbrev slab : Fin 8 := ⟨(word m).toNat, h⟩

theorem emb0 (t : Fin (cfgM m hO).N) (y : S256x512.Idx) : (((cfgM m hO).win 0).blk t).view.emb y = (ix2 (row m hO t (y 0)) (y 1) : S2048x512.Idx) := by
  funext z; apply Fin.ext
  match z with | ⟨0, _⟩ => exact spot m hO t (y 0) | ⟨1, _⟩ => exact side t (y 1)

theorem emb1 (t : Fin (cfgM m hO).N) (y : S256x512.Idx) : (((cfgM m hO).win 1).blk t).view.emb y = (ix2 (row m hO t (y 0)) (y 1) : S2048x512.Idx) := by
  funext z; apply Fin.ext
  match z with | ⟨0, _⟩ => exact spot m hO t (y 0) | ⟨1, _⟩ => exact side t (y 1)

theorem emb2 (t : Fin (cfgM m hO).N) (y : S256x512.Idx) : (((cfgM m hO).win 2).blk t).view.emb y = (ix2 (row m hO t (y 0)) (y 1) : S2048x512.Idx) := by
  funext z; apply Fin.ext
  match z with | ⟨0, _⟩ => exact spot m hO t (y 0) | ⟨1, _⟩ => exact side t (y 1)

theorem emb6 (t : Fin (cfgM m hO).N) (y : S256x512.Idx) : (((cfgM m hO).win 6).blk t).view.emb y = (ix2 (row m hO t (y 0)) (y 1) : S2048x512.Idx) := by
  funext z; apply Fin.ext
  match z with | ⟨0, _⟩ => exact spot m hO t (y 0) | ⟨1, _⟩ => exact side t (y 1)

theorem emb7 (t : Fin (cfgM m hO).N) (y : S256x512.Idx) : (((cfgM m hO).win 7).blk t).view.emb y = (ix2 (row m hO t (y 0)) (y 1) : S2048x512.Idx) := by
  funext z; apply Fin.ext
  match z with | ⟨0, _⟩ => exact spot m hO t (y 0) | ⟨1, _⟩ => exact side t (y 1)

theorem emb8 (t : Fin (cfgM m hO).N) (y : S256x512.Idx) : (((cfgM m hO).win 8).blk t).view.emb y = (ix2 (row m hO t (y 0)) (y 1) : S2048x512.Idx) := by
  funext z; apply Fin.ext
  match z with | ⟨0, _⟩ => exact spot m hO t (y 0) | ⟨1, _⟩ => exact side t (y 1)

theorem emb9 (t : Fin (cfgM m hO).N) (y : S256x512.Idx) : (((cfgM m hO).win 9).blk t).view.emb y = (ix2 (row m hO t (y 0)) (y 1) : S2048x512.Idx) := by
  funext z; apply Fin.ext
  match z with | ⟨0, _⟩ => exact spot m hO t (y 0) | ⟨1, _⟩ => exact side t (y 1)

theorem emb3 (t : Fin (cfgM m hO).N) (y : S1x256x512.Idx) : (((cfgM m hO).win 3).blk t).view.emb y = (ix3 (slab m h) (row m hO t (y 1)) (y 2) : S8x2048x512.Idx) := by
  have h0 : (y 0).val = 0 := Nat.lt_one_iff.mp (y 0).isLt
  funext z; apply Fin.ext
  match z with
  | ⟨0, _⟩ =>
    show cc0_transform_3 _ _ (tbl m) (grid0.coords t) 0 * 1 + 1 * (y 0).val = (word m).toNat
    rw [slab_at m]; omega
  | ⟨1, _⟩ => exact spot m hO t (y 1)
  | ⟨2, _⟩ => exact side t (y 2)

theorem emb4 (t : Fin (cfgM m hO).N) (y : S1x256x512.Idx) : (((cfgM m hO).win 4).blk t).view.emb y = (ix3 0 (row m hO t (y 1)) (y 2) : S4x2048x512.Idx) := by
  have h0 : (y 0).val = 0 := Nat.lt_one_iff.mp (y 0).isLt
  funext z; apply Fin.ext
  match z with
  | ⟨0, _⟩ => show 0 * 1 + 1 * (y 0).val = 0; omega
  | ⟨1, _⟩ => exact spot m hO t (y 1)
  | ⟨2, _⟩ => exact side t (y 2)

theorem emb5 (t : Fin (cfgM m hO).N) (y : S3x256x512.Idx) : (((cfgM m hO).win 5).blk t).view.emb y = (ix3 (y 0) (row m hO t (y 1)) (y 2) : S3x2048x512.Idx) := by
  funext z; apply Fin.ext
  match z with
  | ⟨0, _⟩ => show 0 * 3 + 1 * (y 0).val = (y 0).val; omega
  | ⟨1, _⟩ => exact spot m hO t (y 1)
  | ⟨2, _⟩ => exact side t (y 2)

/-- The inputs' blocks. -/
theorem blocks (c : Dev nD) (t : Fin (cfgM m hO).N) :
    (iblk m hO c 0 t : S256x512.Idx → EReal) = cut (row m hO t) (in0 m c)
    ∧ (iblk m hO c 1 t : S256x512.Idx → EReal) = cut (row m hO t) (in1 m c)
    ∧ (iblk m hO c 2 t : S256x512.Idx → EReal) = cut (row m hO t) (in2 m c)
    ∧ (iblk m hO c 3 t : S1x256x512.Idx → EReal) = cutOne (row m hO t) (slab m h) (in3 m c)
    ∧ (iblk m hO c 4 t : S1x256x512.Idx → EReal) = cutOne (row m hO t) (0 : Fin 4) (in4 m c)
    ∧ (iblk m hO c 5 t : S3x256x512.Idx → EReal) = cutAll (n := 3) (row m hO t) (in5 m c) :=
  ⟨funext fun y => congrArg (in0 m c) (emb0 m hO t y), funext fun y => congrArg (in1 m c) (emb1 m hO t y),
    funext fun y => congrArg (in2 m c) (emb2 m hO t y), funext fun y => congrArg (in3 m c) (emb3 m hO h t y),
    funext fun y => congrArg (in4 m c) (emb4 m hO t y), funext fun y => congrArg (in5 m c) (emb5 m hO t y)⟩

/-- The results of the call. -/
abbrev result6 (c : Dev nD) : Buf (Elt Ideal) ((c : Thread nD τ).loc main_v0_0) := parts (slab m h) (in3 m c) (in4 m c) (in5 m c)
abbrev result7 (c : Dev nD) : Buf (Elt Ideal) ((c : Thread nD τ).loc main_v0_1) := changesOf (in0 m c) (in1 m c) (in2 m c) (parts (slab m h) (in3 m c) (in4 m c) (in5 m c))
abbrev result8 (c : Dev nD) : Buf (Elt Ideal) ((c : Thread nD τ).loc main_v0_2) := meansOf (in1 m c) (parts (slab m h) (in3 m c) (in4 m c) (in5 m c))
abbrev result9 (c : Dev nD) : Buf (Elt Ideal) ((c : Thread nD τ).loc main_v0_3) := squaresOf (in2 m c) (parts (slab m h) (in3 m c) (in4 m c) (in5 m c))

attribute [local irreducible] out0_A_6 out0_A_7 out0_A_8 out0_A_9

theorem outs (c : Dev nD) (t : Fin (cfgM m hO).N) : (outsAt0 m hO c t).1 = cut (row m hO t) (result6 m h c)
    ∧ (outsAt0 m hO c t).2.1 = cut (row m hO t) (result7 m h c)
    ∧ (outsAt0 m hO c t).2.2.1 = cut (row m hO t) (result8 m h c)
    ∧ (outsAt0 m hO c t).2.2.2 = cut (row m hO t) (result9 m h c) := by
  have e := body_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)
  obtain ⟨b0, b1, b2, b3, b4, b5⟩ := blocks m hO h c t
  exact ⟨e.1.trans (by rw [b3, b4, b5]; rfl), e.2.1.trans (by rw [b0, b1, b2, b3, b4, b5]; rfl), e.2.2.1.trans (by rw [b1, b3, b4, b5]; rfl),
    e.2.2.2.trans (by rw [b2, b3, b4, b5]; rfl)⟩

/-- The point and the place in its block of an element of a result. -/
theorem found (i : S2048x512.Idx) : ∃ (t : Fin (cfgM m hO).N) (y : S256x512.Idx), i = ix2 (row m hO t (y 0)) (y 1) := by
  have h0 : (i 0).val < 2048 := (i 0).isLt
  refine ⟨⟨(i 0).val / 256, ?_⟩, ix2 ⟨(i 0).val % 256, Nat.mod_lt _ (by decide)⟩ (i 1), ?_⟩
  · have : grid0.N = 8 := by decide +kernel
    show (i 0).val / 256 < grid0.N
    omega
  · funext z; apply Fin.ext
    match z with
    | ⟨0, _⟩ => show (i 0).val = (i 0).val / 256 * 256 + (i 0).val % 256; omega
    | ⟨1, _⟩ => rfl

theorem final6 (c : Dev nD) : (dats m hO 0 c).arrAt 6 (cfgM m hO).N = result6 m h c :=
  (dats m hO 0 c).arrAt_eq_of_cover 6 (result6 m h c) (fun t _ => (congrArg _ (after0_6 m hO c t)).trans
    (funext fun y => (congrFun (outs m hO h c t).1 y).trans (congrArg (result6 m h c) (emb6 m hO t y).symm)))
    fun i => (found m hO i).elim fun t e => e.elim fun y e => ⟨t, flush0_6 (adm m hO) t, ((emb6 m hO t y).trans e.symm) ▸ View.emb_mem_set _ y⟩

theorem final7 (c : Dev nD) : (dats m hO 0 c).arrAt 7 (cfgM m hO).N = result7 m h c :=
  (dats m hO 0 c).arrAt_eq_of_cover 7 (result7 m h c) (fun t _ => (congrArg _ (after0_7 m hO c t)).trans
    (funext fun y => (congrFun (outs m hO h c t).2.1 y).trans (congrArg (result7 m h c) (emb7 m hO t y).symm)))
    fun i => (found m hO i).elim fun t e => e.elim fun y e => ⟨t, flush0_7 (adm m hO) t, ((emb7 m hO t y).trans e.symm) ▸ View.emb_mem_set _ y⟩

theorem final8 (c : Dev nD) : (dats m hO 0 c).arrAt 8 (cfgM m hO).N = result8 m h c :=
  (dats m hO 0 c).arrAt_eq_of_cover 8 (result8 m h c) (fun t _ => (congrArg _ (after0_8 m hO c t)).trans
    (funext fun y => (congrFun (outs m hO h c t).2.2.1 y).trans (congrArg (result8 m h c) (emb8 m hO t y).symm)))
    fun i => (found m hO i).elim fun t e => e.elim fun y e => ⟨t, flush0_8 (adm m hO) t, ((emb8 m hO t y).trans e.symm) ▸ View.emb_mem_set _ y⟩

theorem final9 (c : Dev nD) : (dats m hO 0 c).arrAt 9 (cfgM m hO).N = result9 m h c :=
  (dats m hO 0 c).arrAt_eq_of_cover 9 (result9 m h c) (fun t _ => (congrArg _ (after0_9 m hO c t)).trans
    (funext fun y => (congrFun (outs m hO h c t).2.2.2 y).trans (congrArg (result9 m h c) (emb9 m hO t y).symm)))
    fun i => (found m hO i).elim fun t e => e.elim fun y e => ⟨t, flush0_9 (adm m hO) t, ((emb9 m hO t y).trans e.symm) ▸ View.emb_mem_set _ y⟩

end Cert.AdamInIdeal.Product

namespace Cert.AdamInRefIdeal.Product

open Cert.AdamInRefIdeal Cert.AdamInRefIdeal.Read Cert.Adam

variable (w m v : S2048x512.Idx → EReal) (s : S8x2048x512.Idx → EReal) (b : S4x2048x512.Idx → EReal) (p : S3x2048x512.Idx → EReal) (k : S1.Idx → BitVec 32) (q : Fin 8) (hq : (k here).toNat = q.val)

include hq

theorem slab_eq (i : S2048x512.Idx) : val_main_v6 (F := Ideal) s k i = s (ix3 q (i 0) (i 1)) := by
  have t : ∀ d : Fin 8, val_main_v5 (F := Ideal) s k (idx_main_v6 i d) = Scalar.select (IntOp.cmpi .eq (BitVec.ofNat 32 d.val) (k here)) (s (ix3 d (i 0) (i 1))) 0 := by
    intro d
    have e : val_main_v2 (F := Ideal) k (idx_main_v3 (idx_main_call0_v1 (idx_main_v6 i d))) = k here := congrArg k (only_here _)
    have z : idx_main_v6 i d = ix3 d (i 0) (i 1) := funext fun a => by match a with | ⟨0, _⟩ => rfl | ⟨1, _⟩ => rfl | ⟨2, _⟩ => rfl
    rw [val_main_v5_apply, val_main_call0_v1_apply, val_main_v4_apply, val_main_v1_apply, val_main_v0_apply, val_main_v3_apply, e,
      val_main_call0_v2_apply, val_main_call0_v0_apply, val_main_cst_apply, zero_bits, z]
    rfl
  rw [val_main_v6_apply, val_main_cst_0_apply, zero_bits, zero_add, Finset.sum_congr rfl fun d _ => t d]
  exact masked (k here) q hq fun d => s (ix3 d (i 0) (i 1))

theorem parts_eq : (val_main_v12 (F := Ideal) s b p k : S2048x512.Idx → EReal) = parts (R := 2048) (C := 512) q s b p := by
  funext i
  have e8 : val_main_v8 (F := Ideal) b i = b (ix3 0 (i 0) (i 1)) := by
    rw [val_main_v8_apply, val_main_v7_apply]
    have h0 : (i 0).val < 2048 := (i 0).isLt
    have h1 : (i 1).val < 512 := (i 1).isLt
    exact congrArg b (funext fun a => Fin.ext (by
      match a with
      | ⟨0, _⟩ => rfl
      | ⟨1, _⟩ => show ((i 0).val * 512 + (i 1).val) / 512 % 2048 = (i 0).val; omega
      | ⟨2, _⟩ => show ((i 0).val * 512 + (i 1).val) % 512 = (i 1).val; omega))
  have e11 (d : Fin 3) : val_main_v10 (F := Ideal) p (idx_main_v11 i d) = p (ix3 d (i 0) (i 1)) :=
    congrArg p (funext fun a => by match a with | ⟨0, _⟩ => rfl | ⟨1, _⟩ => rfl | ⟨2, _⟩ => rfl)
  rw [val_main_v12_apply, val_main_v9_apply, slab_eq s k q hq, e8, val_main_v11_apply, val_main_cst_1_apply, zero_bits, zero_add,
    Finset.sum_congr rfl fun d _ => e11 d, Fin.sum_univ_three]
  show s _ + b _ + (p _ + p _ + p _) = _
  rw [← add_assoc, ← add_assoc]
  rfl

theorem means_eq : (val_main_v17 (F := Ideal) m s b p k : S2048x512.Idx → EReal) = meansOf (R := 2048) (C := 512) m (parts q s b p) := by
  rw [← parts_eq s b p k q hq]
  funext i
  unfold val_main_v17 val_main_v16 val_main_v15 val_main_v14 val_main_v13 val_main_cst_2 val_main_cst_3
  pointwise
  rfl

theorem squares_eq : (val_main_v23 (F := Ideal) v s b p k : S2048x512.Idx → EReal) = squaresOf (R := 2048) (C := 512) v (parts q s b p) := by
  rw [← parts_eq s b p k q hq]
  funext i
  unfold val_main_v23 val_main_v22 val_main_v21 val_main_v20 val_main_v19 val_main_v18 val_main_cst_4 val_main_cst_5
  pointwise
  rfl

theorem changes_eq : (val_main_v36 (F := Ideal) w m v s b p k : S2048x512.Idx → EReal) = changesOf (R := 2048) (C := 512) w m v (parts q s b p) := by
  show _ = fun i => change (w i) (meansOf (R := 2048) (C := 512) m (parts q s b p) i) (squaresOf (R := 2048) (C := 512) v (parts q s b p) i)
  rw [← means_eq m s b p k q hq, ← squares_eq v s b p k q hq]
  funext i
  unfold val_main_v36 val_main_v35 val_main_v34 val_main_v33 val_main_v32 val_main_v31 val_main_v30 val_main_v29 val_main_v28 val_main_v27 val_main_v26 val_main_v25 val_main_v24 val_main_cst_6 val_main_cst_7 val_main_cst_8 val_main_cst_9 val_main_cst_10
  pointwise
  rfl

end Cert.AdamInRefIdeal.Product

end
-- ==== Proof.AdamGlu.lean ====
module

public import proofs.«01_k».proof.Defs
public import proofs.«01_k».proof.Proof.Gen.Pre_glu_slab
public import proofs.«01_k».proof.Proof.Gen.AdamGlu.Frame
public import proofs.«01_k».proof.Proof.Gen.AdamGluIdeal.Frame
public import proofs.«01_k».proof.Proof.Gen.AdamGluRefIdeal.Run
public import proofs.«01_k».proof.Proof.Gen.AdamGluRefIdeal.Read
public import proofs.«01_k».proof.Proof.AdamPart
public import Idealize.ShloMosaic.Lib.Pointwise
public import Idealize.ShloMosaic.Lib.Tactic

/-! # The optimiser's step on the gate's projection -/

@[expose] public section

set_option maxRecDepth 16384

noncomputable section

open Idealize.ShloMosaic Idealize.ShloMosaic.TcCoe Idealize.SL.Sem
open Idealize.ShloMosaic.Pipeline (Dat)
open scoped BigOperators

namespace Cert.AdamGlu.Product

open Cert.AdamGlu Cert.AdamGlu.Gen Cert.Adam

/-- The number of the device's slab. -/
abbrev word (m : (ℓ : Loc nD τ sig) → Buf (Elt Bits) ℓ) : BitVec 32 := (m (((0 : Dev nD).tc : Thread nD τ).loc main_arg6) : S1.Idx → BitVec 32) here

theorem slab_at (m : (ℓ : Loc nD τ sig) → Buf (Elt Bits) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Bits) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 128 ≤ 128) i
    | ⟨2, _⟩ => show (0 + 1) * 1024 ≤ 1024; omega, Or.inl rfl⟩

theorem range (m : (ℓ : Loc nD τ sig) → Buf (Elt Bits) ℓ) (h : Cert.Pre_AdamGlu m) : (word m).toNat < 8 := by
  have e := congrFun (h 0) here
  simp only [Cert.Pre_glu_slab.fn, andi, cmpi, broadcastInDim, constantI] at e
  exact below_eight _ e

end Cert.AdamGlu.Product

namespace Cert.AdamGluIdeal.Product

open Cert.AdamGluIdeal Cert.AdamGluIdeal.Gen Cert.Adam

/-- The number of the device's slab. -/
abbrev word (m : (ℓ : Loc nD τ sig) → Buf (Elt Ideal) ℓ) : BitVec 32 := (m (((0 : Dev nD).tc : Thread nD τ).loc main_arg6) : S1.Idx → BitVec 32) here

theorem slab_at (m : (ℓ : Loc nD τ sig) → Buf (Elt Ideal) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Ideal) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 128 ≤ 128) i
    | ⟨2, _⟩ => show (0 + 1) * 1024 ≤ 1024; omega, Or.inl rfl⟩

theorem range (m : (ℓ : Loc nD τ sig) → Buf (Elt Ideal) ℓ) (h : Cert.Pre_AdamGluIdeal m) : (word m).toNat < 8 := by
  have e := congrFun (h 0) here
  simp only [Cert.Pre_glu_slab.fn, andi, cmpi, broadcastInDim, constantI] at e
  exact below_eight _ e

set_option maxHeartbeats 4000000 in
/-- What the body leaves in its outputs, from its inputs. -/
theorem body_eq : ∀ c i a2 h2 a3 h3 a4 h4 a5 h5 a6 h6 a7 h7 a8 h8 a9 h9 a10 h10 a11 h11 x0 x1 x2 x3 x4 x5 xt,
    out0_A_6 (F := Ideal) c i a2 h2 a3 h3 a4 h4 a5 h5 a6 h6 a7 h7 a8 h8 a9 h9 a10 h10 a11 h11 x0 x1 x2 x3 x4 x5 xt = tile (R := 128) (C := 1024) x3 x4 x5
    ∧ out0_A_7 (F := Ideal) c i a2 h2 a3 h3 a4 h4 a5 h5 a6 h6 a7 h7 a8 h8 a9 h9 a10 h10 a11 h11 x0 x1 x2 x3 x4 x5 xt = changesOf (R := 128) (C := 1024) x0 x1 x2 (tile (R := 128) (C := 1024) x3 x4 x5)
    ∧ out0_A_8 (F := Ideal) c i a2 h2 a3 h3 a4 h4 a5 h5 a6 h6 a7 h7 a8 h8 a9 h9 a10 h10 a11 h11 x0 x1 x2 x3 x4 x5 xt = meansOf (R := 128) (C := 1024) x1 (tile (R := 128) (C := 1024) x3 x4 x5)
    ∧ out0_A_9 (F := Ideal) c i a2 h2 a3 h3 a4 h4 a5 h5 a6 h6 a7 h7 a8 h8 a9 h9 a10 h10 a11 h11 x0 x1 x2 x3 x4 x5 xt = squaresOf (R := 128) (C := 1024) x2 (tile (R := 128) (C := 1024) x3 x4 x5) := by
  intro c i a2 h2 a3 h3 a4 h4 a5 h5 a6 h6 a7 h7 a8 h8 a9 h9 a10 h10 a11 h11 x0 x1 x2 x3 x4 x5 xt
  refine ⟨?_, ?_, ?_, ?_⟩
  on_goal 1 => (unfold out0_A_6; rw [View.read_writes_eq_canon _ _ _ (fun _ => cover0_A_6 ..)])
  on_goal 2 => (unfold out0_A_7; rw [View.read_writes_eq_canon _ _ _ (fun _ => cover0_A_7 ..)])
  on_goal 3 => (unfold out0_A_8; rw [View.read_writes_eq_canon _ _ _ (fun _ => cover0_A_8 ..)])
  on_goal 4 => (unfold out0_A_9; rw [View.read_writes_eq_canon _ _ _ (fun _ => cover0_A_9 ..)])
  all_goals
    unfold kernelRun0_A
    dsimp only
    try sl_unfold_words
    simp only [View.readAt_eq_ld, h2.read_unread, h3.read_unread, h4.read_unread, h5.read_unread, h6.read_unread, h7.read_unread, View.ld_unit_zero (S := S128x1024) zero2]
    rw [View.canon_unit_zero zero2]
    funext j
    idx_vars j
    pointwise [k0_pay1, k0_pay2, k0_pay3, k0_pay4, k0_pay5, k0_pay6]
    rfl

variable (m : (ℓ : Loc nD τ sig) → Buf (Elt Ideal) ℓ) (hO : Ok m) (h : (word m).toNat < 8)

/-- The arguments of a device. -/
abbrev in0 (c : Dev nD) : S128x1024.Idx → EReal := m ((c : Thread nD τ).loc main_arg0)
abbrev in1 (c : Dev nD) : S128x1024.Idx → EReal := m ((c : Thread nD τ).loc main_arg1)
abbrev in2 (c : Dev nD) : S128x1024.Idx → EReal := m ((c : Thread nD τ).loc main_arg2)
abbrev in3 (c : Dev nD) : S8x128x1024.Idx → EReal := m ((c : Thread nD τ).loc main_arg3)
abbrev in4 (c : Dev nD) : S4x128x1024.Idx → EReal := m ((c : Thread nD τ).loc main_arg4)
abbrev in5 (c : Dev nD) : S3x128x1024.Idx → EReal := m ((c : Thread nD τ).loc main_arg5)

theorem index_at : ∀ t : Fin grid0.N, cc0_transform_0 (grid0.coords t) 0 = t.val ∧ t.val < 1 :=
  (by decide +kernel : ∀ t : Fin grid0.N, _)

/-- Row `a` of block `t`, and where the blocks' elements lie. -/
abbrev row (t : Fin (cfgM m hO).N) (a : Fin 128) : Fin 128 := ⟨t.val * 128 + a.val, by have := (index_at t).2; omega⟩

theorem spot (t : Fin (cfgM m hO).N) (a : Fin 128) : cc0_transform_0 (grid0.coords t) 0 * 128 + 1 * a.val = (row m hO t a).val := by
  rw [(index_at t).1, Nat.one_mul]

theorem side (t : Fin grid0.N) (b : Fin 1024) : cc0_transform_0 (grid0.coords t) 1 * 1024 + 1 * b.val = b.val := by
  show 0 * 1024 + 1 * b.val = b.val
  omega

abbrev slab : Fin 8 := ⟨(word m).toNat, h⟩

theorem emb0 (t : Fin (cfgM m hO).N) (y : S128x1024.Idx) : (((cfgM m hO).win 0).blk t).view.emb y = (ix2 (row m hO t (y 0)) (y 1) : S128x1024.Idx) := by
  funext z; apply Fin.ext
  match z with | ⟨0, _⟩ => exact spot m hO t (y 0) | ⟨1, _⟩ => exact side t (y 1)

theorem emb1 (t : Fin (cfgM m hO).N) (y : S128x1024.Idx) : (((cfgM m hO).win 1).blk t).view.emb y = (ix2 (row m hO t (y 0)) (y 1) : S128x1024.Idx) := by
  funext z; apply Fin.ext
  match z with | ⟨0, _⟩ => exact spot m hO t (y 0) | ⟨1, _⟩ => exact side t (y 1)

theorem emb2 (t : Fin (cfgM m hO).N) (y : S128x1024.Idx) : (((cfgM m hO).win 2).blk t).view.emb y = (ix2 (row m hO t (y 0)) (y 1) : S128x1024.Idx) := by
  funext z; apply Fin.ext
  match z with | ⟨0, _⟩ => exact spot m hO t (y 0) | ⟨1, _⟩ => exact side t (y 1)

theorem emb6 (t : Fin (cfgM m hO).N) (y : S128x1024.Idx) : (((cfgM m hO).win 6).blk t).view.emb y = (ix2 (row m hO t (y 0)) (y 1) : S128x1024.Idx) := by
  funext z; apply Fin.ext
  match z with | ⟨0, _⟩ => exact spot m hO t (y 0) | ⟨1, _⟩ => exact side t (y 1)

theorem emb7 (t : Fin (cfgM m hO).N) (y : S128x1024.Idx) : (((cfgM m hO).win 7).blk t).view.emb y = (ix2 (row m hO t (y 0)) (y 1) : S128x1024.Idx) := by
  funext z; apply Fin.ext
  match z with | ⟨0, _⟩ => exact spot m hO t (y 0) | ⟨1, _⟩ => exact side t (y 1)

theorem emb8 (t : Fin (cfgM m hO).N) (y : S128x1024.Idx) : (((cfgM m hO).win 8).blk t).view.emb y = (ix2 (row m hO t (y 0)) (y 1) : S128x1024.Idx) := by
  funext z; apply Fin.ext
  match z with | ⟨0, _⟩ => exact spot m hO t (y 0) | ⟨1, _⟩ => exact side t (y 1)

theorem emb9 (t : Fin (cfgM m hO).N) (y : S128x1024.Idx) : (((cfgM m hO).win 9).blk t).view.emb y = (ix2 (row m hO t (y 0)) (y 1) : S128x1024.Idx) := by
  funext z; apply Fin.ext
  match z with | ⟨0, _⟩ => exact spot m hO t (y 0) | ⟨1, _⟩ => exact side t (y 1)

theorem emb3 (t : Fin (cfgM m hO).N) (y : S1x128x1024.Idx) : (((cfgM m hO).win 3).blk t).view.emb y = (ix3 (slab m h) (row m hO t (y 1)) (y 2) : S8x128x1024.Idx) := by
  have h0 : (y 0).val = 0 := Nat.lt_one_iff.mp (y 0).isLt
  funext z; apply Fin.ext
  match z with
  | ⟨0, _⟩ =>
    show cc0_transform_3 _ _ (tbl m) (grid0.coords t) 0 * 1 + 1 * (y 0).val = (word m).toNat
    rw [slab_at m]; omega
  | ⟨1, _⟩ => exact spot m hO t (y 1)
  | ⟨2, _⟩ => exact side t (y 2)

theorem emb4 (t : Fin (cfgM m hO).N) (y : S1x128x1024.Idx) : (((cfgM m hO).win 4).blk t).view.emb y = (ix3 0 (row m hO t (y 1)) (y 2) : S4x128x1024.Idx) := by
  have h0 : (y 0).val = 0 := Nat.lt_one_iff.mp (y 0).isLt
  funext z; apply Fin.ext
  match z with
  | ⟨0, _⟩ => show 0 * 1 + 1 * (y 0).val = 0; omega
  | ⟨1, _⟩ => exact spot m hO t (y 1)
  | ⟨2, _⟩ => exact side t (y 2)

theorem emb5 (t : Fin (cfgM m hO).N) (y : S3x128x1024.Idx) : (((cfgM m hO).win 5).blk t).view.emb y = (ix3 (y 0) (row m hO t (y 1)) (y 2) : S3x128x1024.Idx) := by
  funext z; apply Fin.ext
  match z with
  | ⟨0, _⟩ => show 0 * 3 + 1 * (y 0).val = (y 0).val; omega
  | ⟨1, _⟩ => exact spot m hO t (y 1)
  | ⟨2, _⟩ => exact side t (y 2)

/-- The inputs' blocks. -/
theorem blocks (c : Dev nD) (t : Fin (cfgM m hO).N) :
    (iblk m hO c 0 t : S128x1024.Idx → EReal) = cut (row m hO t) (in0 m c)
    ∧ (iblk m hO c 1 t : S128x1024.Idx → EReal) = cut (row m hO t) (in1 m c)
    ∧ (iblk m hO c 2 t : S128x1024.Idx → EReal) = cut (row m hO t) (in2 m c)
    ∧ (iblk m hO c 3 t : S1x128x1024.Idx → EReal) = cutOne (row m hO t) (slab m h) (in3 m c)
    ∧ (iblk m hO c 4 t : S1x128x1024.Idx → EReal) = cutOne (row m hO t) (0 : Fin 4) (in4 m c)
    ∧ (iblk m hO c 5 t : S3x128x1024.Idx → EReal) = cutAll (n := 3) (row m hO t) (in5 m c) :=
  ⟨funext fun y => congrArg (in0 m c) (emb0 m hO t y), funext fun y => congrArg (in1 m c) (emb1 m hO t y),
    funext fun y => congrArg (in2 m c) (emb2 m hO t y), funext fun y => congrArg (in3 m c) (emb3 m hO h t y),
    funext fun y => congrArg (in4 m c) (emb4 m hO t y), funext fun y => congrArg (in5 m c) (emb5 m hO t y)⟩

/-- The results of the call. -/
abbrev result6 (c : Dev nD) : Buf (Elt Ideal) ((c : Thread nD τ).loc main_v0_0) := parts (slab m h) (in3 m c) (in4 m c) (in5 m c)
abbrev result7 (c : Dev nD) : Buf (Elt Ideal) ((c : Thread nD τ).loc main_v0_1) := changesOf (in0 m c) (in1 m c) (in2 m c) (parts (slab m h) (in3 m c) (in4 m c) (in5 m c))
abbrev result8 (c : Dev nD) : Buf (Elt Ideal) ((c : Thread nD τ).loc main_v0_2) := meansOf (in1 m c) (parts (slab m h) (in3 m c) (in4 m c) (in5 m c))
abbrev result9 (c : Dev nD) : Buf (Elt Ideal) ((c : Thread nD τ).loc main_v0_3) := squaresOf (in2 m c) (parts (slab m h) (in3 m c) (in4 m c) (in5 m c))

attribute [local irreducible] out0_A_6 out0_A_7 out0_A_8 out0_A_9

theorem outs (c : Dev nD) (t : Fin (cfgM m hO).N) : (outsAt0 m hO c t).1 = cut (row m hO t) (result6 m h c)
    ∧ (outsAt0 m hO c t).2.1 = cut (row m hO t) (result7 m h c)
    ∧ (outsAt0 m hO c t).2.2.1 = cut (row m hO t) (result8 m h c)
    ∧ (outsAt0 m hO c t).2.2.2 = cut (row m hO t) (result9 m h c) := by
  have e := body_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)
  obtain ⟨b0, b1, b2, b3, b4, b5⟩ := blocks m hO h c t
  exact ⟨e.1.trans (by rw [b3, b4, b5]; rfl), e.2.1.trans (by rw [b0, b1, b2, b3, b4, b5]; rfl), e.2.2.1.trans (by rw [b1, b3, b4, b5]; rfl),
    e.2.2.2.trans (by rw [b2, b3, b4, b5]; rfl)⟩

/-- The point and the place in its block of an element of a result. -/
theorem found (i : S128x1024.Idx) : ∃ (t : Fin (cfgM m hO).N) (y : S128x1024.Idx), i = ix2 (row m hO t (y 0)) (y 1) := by
  have h0 : (i 0).val < 128 := (i 0).isLt
  refine ⟨⟨(i 0).val / 128, ?_⟩, ix2 ⟨(i 0).val % 128, Nat.mod_lt _ (by decide)⟩ (i 1), ?_⟩
  · have : grid0.N = 1 := by decide +kernel
    show (i 0).val / 128 < grid0.N
    omega
  · funext z; apply Fin.ext
    match z with
    | ⟨0, _⟩ => show (i 0).val = (i 0).val / 128 * 128 + (i 0).val % 128; omega
    | ⟨1, _⟩ => rfl

theorem final6 (c : Dev nD) : (dats m hO 0 c).arrAt 6 (cfgM m hO).N = result6 m h c :=
  (dats m hO 0 c).arrAt_eq_of_cover 6 (result6 m h c) (fun t _ => (congrArg _ (after0_6 m hO c t)).trans
    (funext fun y => (congrFun (outs m hO h c t).1 y).trans (congrArg (result6 m h c) (emb6 m hO t y).symm)))
    fun i => (found m hO i).elim fun t e => e.elim fun y e => ⟨t, flush0_6 (adm m hO) t, ((emb6 m hO t y).trans e.symm) ▸ View.emb_mem_set _ y⟩

theorem final7 (c : Dev nD) : (dats m hO 0 c).arrAt 7 (cfgM m hO).N = result7 m h c :=
  (dats m hO 0 c).arrAt_eq_of_cover 7 (result7 m h c) (fun t _ => (congrArg _ (after0_7 m hO c t)).trans
    (funext fun y => (congrFun (outs m hO h c t).2.1 y).trans (congrArg (result7 m h c) (emb7 m hO t y).symm)))
    fun i => (found m hO i).elim fun t e => e.elim fun y e => ⟨t, flush0_7 (adm m hO) t, ((emb7 m hO t y).trans e.symm) ▸ View.emb_mem_set _ y⟩

theorem final8 (c : Dev nD) : (dats m hO 0 c).arrAt 8 (cfgM m hO).N = result8 m h c :=
  (dats m hO 0 c).arrAt_eq_of_cover 8 (result8 m h c) (fun t _ => (congrArg _ (after0_8 m hO c t)).trans
    (funext fun y => (congrFun (outs m hO h c t).2.2.1 y).trans (congrArg (result8 m h c) (emb8 m hO t y).symm)))
    fun i => (found m hO i).elim fun t e => e.elim fun y e => ⟨t, flush0_8 (adm m hO) t, ((emb8 m hO t y).trans e.symm) ▸ View.emb_mem_set _ y⟩

theorem final9 (c : Dev nD) : (dats m hO 0 c).arrAt 9 (cfgM m hO).N = result9 m h c :=
  (dats m hO 0 c).arrAt_eq_of_cover 9 (result9 m h c) (fun t _ => (congrArg _ (after0_9 m hO c t)).trans
    (funext fun y => (congrFun (outs m hO h c t).2.2.2 y).trans (congrArg (result9 m h c) (emb9 m hO t y).symm)))
    fun i => (found m hO i).elim fun t e => e.elim fun y e => ⟨t, flush0_9 (adm m hO) t, ((emb9 m hO t y).trans e.symm) ▸ View.emb_mem_set _ y⟩

end Cert.AdamGluIdeal.Product

namespace Cert.AdamGluRefIdeal.Product

open Cert.AdamGluRefIdeal Cert.AdamGluRefIdeal.Read Cert.Adam

variable (w m v : S128x1024.Idx → EReal) (s : S8x128x1024.Idx → EReal) (b : S4x128x1024.Idx → EReal) (p : S3x128x1024.Idx → EReal) (k : S1.Idx → BitVec 32) (q : Fin 8) (hq : (k here).toNat = q.val)

include hq

theorem slab_eq (i : S128x1024.Idx) : val_main_v6 (F := Ideal) s k i = s (ix3 q (i 0) (i 1)) := by
  have t : ∀ d : Fin 8, val_main_v5 (F := Ideal) s k (idx_main_v6 i d) = Scalar.select (IntOp.cmpi .eq (BitVec.ofNat 32 d.val) (k here)) (s (ix3 d (i 0) (i 1))) 0 := by
    intro d
    have e : val_main_v2 (F := Ideal) k (idx_main_v3 (idx_main_call0_v1 (idx_main_v6 i d))) = k here := congrArg k (only_here _)
    have z : idx_main_v6 i d = ix3 d (i 0) (i 1) := funext fun a => by match a with | ⟨0, _⟩ => rfl | ⟨1, _⟩ => rfl | ⟨2, _⟩ => rfl
    rw [val_main_v5_apply, val_main_call0_v1_apply, val_main_v4_apply, val_main_v1_apply, val_main_v0_apply, val_main_v3_apply, e,
      val_main_call0_v2_apply, val_main_call0_v0_apply, val_main_cst_apply, zero_bits, z]
    rfl
  rw [val_main_v6_apply, val_main_cst_0_apply, zero_bits, zero_add, Finset.sum_congr rfl fun d _ => t d]
  exact masked (k here) q hq fun d => s (ix3 d (i 0) (i 1))

theorem parts_eq : (val_main_v12 (F := Ideal) s b p k : S128x1024.Idx → EReal) = parts (R := 128) (C := 1024) q s b p := by
  funext i
  have e8 : val_main_v8 (F := Ideal) b i = b (ix3 0 (i 0) (i 1)) := by
    rw [val_main_v8_apply, val_main_v7_apply]
    have h0 : (i 0).val < 128 := (i 0).isLt
    have h1 : (i 1).val < 1024 := (i 1).isLt
    exact congrArg b (funext fun a => Fin.ext (by
      match a with
      | ⟨0, _⟩ => rfl
      | ⟨1, _⟩ => show ((i 0).val * 1024 + (i 1).val) / 1024 % 128 = (i 0).val; omega
      | ⟨2, _⟩ => show ((i 0).val * 1024 + (i 1).val) % 1024 = (i 1).val; omega))
  have e11 (d : Fin 3) : val_main_v10 (F := Ideal) p (idx_main_v11 i d) = p (ix3 d (i 0) (i 1)) :=
    congrArg p (funext fun a => by match a with | ⟨0, _⟩ => rfl | ⟨1, _⟩ => rfl | ⟨2, _⟩ => rfl)
  rw [val_main_v12_apply, val_main_v9_apply, slab_eq s k q hq, e8, val_main_v11_apply, val_main_cst_1_apply, zero_bits, zero_add,
    Finset.sum_congr rfl fun d _ => e11 d, Fin.sum_univ_three]
  show s _ + b _ + (p _ + p _ + p _) = _
  rw [← add_assoc, ← add_assoc]
  rfl

theorem means_eq : (val_main_v17 (F := Ideal) m s b p k : S128x1024.Idx → EReal) = meansOf (R := 128) (C := 1024) m (parts q s b p) := by
  rw [← parts_eq s b p k q hq]
  funext i
  unfold val_main_v17 val_main_v16 val_main_v15 val_main_v14 val_main_v13 val_main_cst_2 val_main_cst_3
  pointwise
  rfl

theorem squares_eq : (val_main_v23 (F := Ideal) v s b p k : S128x1024.Idx → EReal) = squaresOf (R := 128) (C := 1024) v (parts q s b p) := by
  rw [← parts_eq s b p k q hq]
  funext i
  unfold val_main_v23 val_main_v22 val_main_v21 val_main_v20 val_main_v19 val_main_v18 val_main_cst_4 val_main_cst_5
  pointwise
  rfl

theorem changes_eq : (val_main_v36 (F := Ideal) w m v s b p k : S128x1024.Idx → EReal) = changesOf (R := 128) (C := 1024) w m v (parts q s b p) := by
  show _ = fun i => change (w i) (meansOf (R := 128) (C := 1024) m (parts q s b p) i) (squaresOf (R := 128) (C := 1024) v (parts q s b p) i)
  rw [← means_eq m s b p k q hq, ← squares_eq v s b p k q hq]
  funext i
  unfold val_main_v36 val_main_v35 val_main_v34 val_main_v33 val_main_v32 val_main_v31 val_main_v30 val_main_v29 val_main_v28 val_main_v27 val_main_v26 val_main_v25 val_main_v24 val_main_cst_6 val_main_cst_7 val_main_cst_8 val_main_cst_9 val_main_cst_10
  pointwise
  rfl

end Cert.AdamGluRefIdeal.Product

end
-- ==== Proof.AdamOut.lean ====
module

public import proofs.«01_k».proof.Defs
public import proofs.«01_k».proof.Proof.Gen.Pre_out_slab
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import proofs.«01_k».proof.Proof.AdamPart
public import Idealize.ShloMosaic.Lib.Pointwise
public import Idealize.ShloMosaic.Lib.Tactic

/-! # The optimiser's step on the output projection -/

@[expose] public section

set_option maxRecDepth 16384

noncomputable section

open Idealize.ShloMosaic Idealize.ShloMosaic.TcCoe Idealize.SL.Sem
open Idealize.ShloMosaic.Pipeline (Dat)
open scoped BigOperators

namespace Cert.AdamOut.Product

open Cert.AdamOut Cert.AdamOut.Gen Cert.Adam

/-- The number of the device's slab. -/
abbrev word (m : (ℓ : Loc nD τ sig) → Buf (Elt Bits) ℓ) : BitVec 32 := (m (((0 : Dev nD).tc : Thread nD τ).loc main_arg6) : S1.Idx → BitVec 32) here

theorem slab_at (m : (ℓ : Loc nD τ sig) → Buf (Elt Bits) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Bits) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 256) i
    | ⟨2, _⟩ => show (0 + 1) * 2048 ≤ 2048; omega, Or.inl rfl⟩

theorem range (m : (ℓ : Loc nD τ sig) → Buf (Elt Bits) ℓ) (h : Cert.Pre_AdamOut m) : (word m).toNat < 8 := by
  have e := congrFun (h 0) here
  simp only [Cert.Pre_out_slab.fn, andi, cmpi, broadcastInDim, constantI] at e
  exact below_eight _ e

end Cert.AdamOut.Product

namespace Cert.AdamOutIdeal.Product

open Cert.AdamOutIdeal Cert.AdamOutIdeal.Gen Cert.Adam

/-- The number of the device's slab. -/
abbrev word (m : (ℓ : Loc nD τ sig) → Buf (Elt Ideal) ℓ) : BitVec 32 := (m (((0 : Dev nD).tc : Thread nD τ).loc main_arg6) : S1.Idx → BitVec 32) here

theorem slab_at (m : (ℓ : Loc nD τ sig) → Buf (Elt Ideal) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Ideal) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 256) i
    | ⟨2, _⟩ => show (0 + 1) * 2048 ≤ 2048; omega, Or.inl rfl⟩

theorem range (m : (ℓ : Loc nD τ sig) → Buf (Elt Ideal) ℓ) (h : Cert.Pre_AdamOutIdeal m) : (word m).toNat < 8 := by
  have e := congrFun (h 0) here
  simp only [Cert.Pre_out_slab.fn, andi, cmpi, broadcastInDim, constantI] at e
  exact below_eight _ e

set_option maxHeartbeats 4000000 in
/-- What the body leaves in its outputs, from its inputs. -/
theorem body_eq : ∀ c i a2 h2 a3 h3 a4 h4 a5 h5 a6 h6 a7 h7 a8 h8 a9 h9 a10 h10 a11 h11 x0 x1 x2 x3 x4 x5 xt,
    out0_A_6 (F := Ideal) c i a2 h2 a3 h3 a4 h4 a5 h5 a6 h6 a7 h7 a8 h8 a9 h9 a10 h10 a11 h11 x0 x1 x2 x3 x4 x5 xt = tile (R := 256) (C := 2048) x3 x4 x5
    ∧ out0_A_7 (F := Ideal) c i a2 h2 a3 h3 a4 h4 a5 h5 a6 h6 a7 h7 a8 h8 a9 h9 a10 h10 a11 h11 x0 x1 x2 x3 x4 x5 xt = changesOf (R := 256) (C := 2048) x0 x1 x2 (tile (R := 256) (C := 2048) x3 x4 x5)
    ∧ out0_A_8 (F := Ideal) c i a2 h2 a3 h3 a4 h4 a5 h5 a6 h6 a7 h7 a8 h8 a9 h9 a10 h10 a11 h11 x0 x1 x2 x3 x4 x5 xt = meansOf (R := 256) (C := 2048) x1 (tile (R := 256) (C := 2048) x3 x4 x5)
    ∧ out0_A_9 (F := Ideal) c i a2 h2 a3 h3 a4 h4 a5 h5 a6 h6 a7 h7 a8 h8 a9 h9 a10 h10 a11 h11 x0 x1 x2 x3 x4 x5 xt = squaresOf (R := 256) (C := 2048) x2 (tile (R := 256) (C := 2048) x3 x4 x5) := by
  intro c i a2 h2 a3 h3 a4 h4 a5 h5 a6 h6 a7 h7 a8 h8 a9 h9 a10 h10 a11 h11 x0 x1 x2 x3 x4 x5 xt
  refine ⟨?_, ?_, ?_, ?_⟩
  on_goal 1 => (unfold out0_A_6; rw [View.read_writes_eq_canon _ _ _ (fun _ => cover0_A_6 ..)])
  on_goal 2 => (unfold out0_A_7; rw [View.read_writes_eq_canon _ _ _ (fun _ => cover0_A_7 ..)])
  on_goal 3 => (unfold out0_A_8; rw [View.read_writes_eq_canon _ _ _ (fun _ => cover0_A_8 ..)])
  on_goal 4 => (unfold out0_A_9; rw [View.read_writes_eq_canon _ _ _ (fun _ => cover0_A_9 ..)])
  all_goals
    unfold kernelRun0_A
    dsimp only
    try sl_unfold_words
    simp only [View.readAt_eq_ld, h2.read_unread, h3.read_unread, h4.read_unread, h5.read_unread, h6.read_unread, h7.read_unread, View.ld_unit_zero (S := S256x2048) zero2]
    rw [View.canon_unit_zero zero2]
    funext j
    idx_vars j
    pointwise [k0_pay1, k0_pay2, k0_pay3, k0_pay4, k0_pay5, k0_pay6]
    rfl

variable (m : (ℓ : Loc nD τ sig) → Buf (Elt Ideal) ℓ) (hO : Ok m) (h : (word m).toNat < 8)

/-- The arguments of a device. -/
abbrev in0 (c : Dev nD) : S256x2048.Idx → EReal := m ((c : Thread nD τ).loc main_arg0)
abbrev in1 (c : Dev nD) : S256x2048.Idx → EReal := m ((c : Thread nD τ).loc main_arg1)
abbrev in2 (c : Dev nD) : S256x2048.Idx → EReal := m ((c : Thread nD τ).loc main_arg2)
abbrev in3 (c : Dev nD) : S8x256x2048.Idx → EReal := m ((c : Thread nD τ).loc main_arg3)
abbrev in4 (c : Dev nD) : S4x256x2048.Idx → EReal := m ((c : Thread nD τ).loc main_arg4)
abbrev in5 (c : Dev nD) : S3x256x2048.Idx → EReal := m ((c : Thread nD τ).loc main_arg5)

theorem index_at : ∀ t : Fin grid0.N, cc0_transform_0 (grid0.coords t) 0 = t.val ∧ t.val < 1 :=
  (by decide +kernel : ∀ t : Fin grid0.N, _)

/-- Row `a` of block `t`, and where the blocks' elements lie. -/
abbrev row (t : Fin (cfgM m hO).N) (a : Fin 256) : Fin 256 := ⟨t.val * 256 + a.val, by have := (index_at t).2; omega⟩

theorem spot (t : Fin (cfgM m hO).N) (a : Fin 256) : cc0_transform_0 (grid0.coords t) 0 * 256 + 1 * a.val = (row m hO t a).val := by
  rw [(index_at t).1, Nat.one_mul]

theorem side (t : Fin grid0.N) (b : Fin 2048) : cc0_transform_0 (grid0.coords t) 1 * 2048 + 1 * b.val = b.val := by
  show 0 * 2048 + 1 * b.val = b.val
  omega

abbrev slab : Fin 8 := ⟨(word m).toNat, h⟩

theorem emb0 (t : Fin (cfgM m hO).N) (y : S256x2048.Idx) : (((cfgM m hO).win 0).blk t).view.emb y = (ix2 (row m hO t (y 0)) (y 1) : S256x2048.Idx) := by
  funext z; apply Fin.ext
  match z with | ⟨0, _⟩ => exact spot m hO t (y 0) | ⟨1, _⟩ => exact side t (y 1)

theorem emb1 (t : Fin (cfgM m hO).N) (y : S256x2048.Idx) : (((cfgM m hO).win 1).blk t).view.emb y = (ix2 (row m hO t (y 0)) (y 1) : S256x2048.Idx) := by
  funext z; apply Fin.ext
  match z with | ⟨0, _⟩ => exact spot m hO t (y 0) | ⟨1, _⟩ => exact side t (y 1)

theorem emb2 (t : Fin (cfgM m hO).N) (y : S256x2048.Idx) : (((cfgM m hO).win 2).blk t).view.emb y = (ix2 (row m hO t (y 0)) (y 1) : S256x2048.Idx) := by
  funext z; apply Fin.ext
  match z with | ⟨0, _⟩ => exact spot m hO t (y 0) | ⟨1, _⟩ => exact side t (y 1)

theorem emb6 (t : Fin (cfgM m hO).N) (y : S256x2048.Idx) : (((cfgM m hO).win 6).blk t).view.emb y = (ix2 (row m hO t (y 0)) (y 1) : S256x2048.Idx) := by
  funext z; apply Fin.ext
  match z with | ⟨0, _⟩ => exact spot m hO t (y 0) | ⟨1, _⟩ => exact side t (y 1)

theorem emb7 (t : Fin (cfgM m hO).N) (y : S256x2048.Idx) : (((cfgM m hO).win 7).blk t).view.emb y = (ix2 (row m hO t (y 0)) (y 1) : S256x2048.Idx) := by
  funext z; apply Fin.ext
  match z with | ⟨0, _⟩ => exact spot m hO t (y 0) | ⟨1, _⟩ => exact side t (y 1)

theorem emb8 (t : Fin (cfgM m hO).N) (y : S256x2048.Idx) : (((cfgM m hO).win 8).blk t).view.emb y = (ix2 (row m hO t (y 0)) (y 1) : S256x2048.Idx) := by
  funext z; apply Fin.ext
  match z with | ⟨0, _⟩ => exact spot m hO t (y 0) | ⟨1, _⟩ => exact side t (y 1)

theorem emb9 (t : Fin (cfgM m hO).N) (y : S256x2048.Idx) : (((cfgM m hO).win 9).blk t).view.emb y = (ix2 (row m hO t (y 0)) (y 1) : S256x2048.Idx) := by
  funext z; apply Fin.ext
  match z with | ⟨0, _⟩ => exact spot m hO t (y 0) | ⟨1, _⟩ => exact side t (y 1)

theorem emb3 (t : Fin (cfgM m hO).N) (y : S1x256x2048.Idx) : (((cfgM m hO).win 3).blk t).view.emb y = (ix3 (slab m h) (row m hO t (y 1)) (y 2) : S8x256x2048.Idx) := by
  have h0 : (y 0).val = 0 := Nat.lt_one_iff.mp (y 0).isLt
  funext z; apply Fin.ext
  match z with
  | ⟨0, _⟩ =>
    show cc0_transform_3 _ _ (tbl m) (grid0.coords t) 0 * 1 + 1 * (y 0).val = (word m).toNat
    rw [slab_at m]; omega
  | ⟨1, _⟩ => exact spot m hO t (y 1)
  | ⟨2, _⟩ => exact side t (y 2)

theorem emb4 (t : Fin (cfgM m hO).N) (y : S1x256x2048.Idx) : (((cfgM m hO).win 4).blk t).view.emb y = (ix3 0 (row m hO t (y 1)) (y 2) : S4x256x2048.Idx) := by
  have h0 : (y 0).val = 0 := Nat.lt_one_iff.mp (y 0).isLt
  funext z; apply Fin.ext
  match z with
  | ⟨0, _⟩ => show 0 * 1 + 1 * (y 0).val = 0; omega
  | ⟨1, _⟩ => exact spot m hO t (y 1)
  | ⟨2, _⟩ => exact side t (y 2)

theorem emb5 (t : Fin (cfgM m hO).N) (y : S3x256x2048.Idx) : (((cfgM m hO).win 5).blk t).view.emb y = (ix3 (y 0) (row m hO t (y 1)) (y 2) : S3x256x2048.Idx) := by
  funext z; apply Fin.ext
  match z with
  | ⟨0, _⟩ => show 0 * 3 + 1 * (y 0).val = (y 0).val; omega
  | ⟨1, _⟩ => exact spot m hO t (y 1)
  | ⟨2, _⟩ => exact side t (y 2)

/-- The inputs' blocks. -/
theorem blocks (c : Dev nD) (t : Fin (cfgM m hO).N) :
    (iblk m hO c 0 t : S256x2048.Idx → EReal) = cut (row m hO t) (in0 m c)
    ∧ (iblk m hO c 1 t : S256x2048.Idx → EReal) = cut (row m hO t) (in1 m c)
    ∧ (iblk m hO c 2 t : S256x2048.Idx → EReal) = cut (row m hO t) (in2 m c)
    ∧ (iblk m hO c 3 t : S1x256x2048.Idx → EReal) = cutOne (row m hO t) (slab m h) (in3 m c)
    ∧ (iblk m hO c 4 t : S1x256x2048.Idx → EReal) = cutOne (row m hO t) (0 : Fin 4) (in4 m c)
    ∧ (iblk m hO c 5 t : S3x256x2048.Idx → EReal) = cutAll (n := 3) (row m hO t) (in5 m c) :=
  ⟨funext fun y => congrArg (in0 m c) (emb0 m hO t y), funext fun y => congrArg (in1 m c) (emb1 m hO t y),
    funext fun y => congrArg (in2 m c) (emb2 m hO t y), funext fun y => congrArg (in3 m c) (emb3 m hO h t y),
    funext fun y => congrArg (in4 m c) (emb4 m hO t y), funext fun y => congrArg (in5 m c) (emb5 m hO t y)⟩

/-- The results of the call. -/
abbrev result6 (c : Dev nD) : Buf (Elt Ideal) ((c : Thread nD τ).loc main_v0_0) := parts (slab m h) (in3 m c) (in4 m c) (in5 m c)
abbrev result7 (c : Dev nD) : Buf (Elt Ideal) ((c : Thread nD τ).loc main_v0_1) := changesOf (in0 m c) (in1 m c) (in2 m c) (parts (slab m h) (in3 m c) (in4 m c) (in5 m c))
abbrev result8 (c : Dev nD) : Buf (Elt Ideal) ((c : Thread nD τ).loc main_v0_2) := meansOf (in1 m c) (parts (slab m h) (in3 m c) (in4 m c) (in5 m c))
abbrev result9 (c : Dev nD) : Buf (Elt Ideal) ((c : Thread nD τ).loc main_v0_3) := squaresOf (in2 m c) (parts (slab m h) (in3 m c) (in4 m c) (in5 m c))

attribute [local irreducible] out0_A_6 out0_A_7 out0_A_8 out0_A_9

theorem outs (c : Dev nD) (t : Fin (cfgM m hO).N) : (outsAt0 m hO c t).1 = cut (row m hO t) (result6 m h c)
    ∧ (outsAt0 m hO c t).2.1 = cut (row m hO t) (result7 m h c)
    ∧ (outsAt0 m hO c t).2.2.1 = cut (row m hO t) (result8 m h c)
    ∧ (outsAt0 m hO c t).2.2.2 = cut (row m hO t) (result9 m h c) := by
  have e := body_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)
  obtain ⟨b0, b1, b2, b3, b4, b5⟩ := blocks m hO h c t
  exact ⟨e.1.trans (by rw [b3, b4, b5]; rfl), e.2.1.trans (by rw [b0, b1, b2, b3, b4, b5]; rfl), e.2.2.1.trans (by rw [b1, b3, b4, b5]; rfl),
    e.2.2.2.trans (by rw [b2, b3, b4, b5]; rfl)⟩

/-- The point and the place in its block of an element of a result. -/
theorem found (i : S256x2048.Idx) : ∃ (t : Fin (cfgM m hO).N) (y : S256x2048.Idx), i = ix2 (row m hO t (y 0)) (y 1) := by
  have h0 : (i 0).val < 256 := (i 0).isLt
  refine ⟨⟨(i 0).val / 256, ?_⟩, ix2 ⟨(i 0).val % 256, Nat.mod_lt _ (by decide)⟩ (i 1), ?_⟩
  · have : grid0.N = 1 := by decide +kernel
    show (i 0).val / 256 < grid0.N
    omega
  · funext z; apply Fin.ext
    match z with
    | ⟨0, _⟩ => show (i 0).val = (i 0).val / 256 * 256 + (i 0).val % 256; omega
    | ⟨1, _⟩ => rfl

theorem final6 (c : Dev nD) : (dats m hO 0 c).arrAt 6 (cfgM m hO).N = result6 m h c :=
  (dats m hO 0 c).arrAt_eq_of_cover 6 (result6 m h c) (fun t _ => (congrArg _ (after0_6 m hO c t)).trans
    (funext fun y => (congrFun (outs m hO h c t).1 y).trans (congrArg (result6 m h c) (emb6 m hO t y).symm)))
    fun i => (found m hO i).elim fun t e => e.elim fun y e => ⟨t, flush0_6 (adm m hO) t, ((emb6 m hO t y).trans e.symm) ▸ View.emb_mem_set _ y⟩

theorem final7 (c : Dev nD) : (dats m hO 0 c).arrAt 7 (cfgM m hO).N = result7 m h c :=
  (dats m hO 0 c).arrAt_eq_of_cover 7 (result7 m h c) (fun t _ => (congrArg _ (after0_7 m hO c t)).trans
    (funext fun y => (congrFun (outs m hO h c t).2.1 y).trans (congrArg (result7 m h c) (emb7 m hO t y).symm)))
    fun i => (found m hO i).elim fun t e => e.elim fun y e => ⟨t, flush0_7 (adm m hO) t, ((emb7 m hO t y).trans e.symm) ▸ View.emb_mem_set _ y⟩

theorem final8 (c : Dev nD) : (dats m hO 0 c).arrAt 8 (cfgM m hO).N = result8 m h c :=
  (dats m hO 0 c).arrAt_eq_of_cover 8 (result8 m h c) (fun t _ => (congrArg _ (after0_8 m hO c t)).trans
    (funext fun y => (congrFun (outs m hO h c t).2.2.1 y).trans (congrArg (result8 m h c) (emb8 m hO t y).symm)))
    fun i => (found m hO i).elim fun t e => e.elim fun y e => ⟨t, flush0_8 (adm m hO) t, ((emb8 m hO t y).trans e.symm) ▸ View.emb_mem_set _ y⟩

theorem final9 (c : Dev nD) : (dats m hO 0 c).arrAt 9 (cfgM m hO).N = result9 m h c :=
  (dats m hO 0 c).arrAt_eq_of_cover 9 (result9 m h c) (fun t _ => (congrArg _ (after0_9 m hO c t)).trans
    (funext fun y => (congrFun (outs m hO h c t).2.2.2 y).trans (congrArg (result9 m h c) (emb9 m hO t y).symm)))
    fun i => (found m hO i).elim fun t e => e.elim fun y e => ⟨t, flush0_9 (adm m hO) t, ((emb9 m hO t y).trans e.symm) ▸ View.emb_mem_set _ y⟩

end Cert.AdamOutIdeal.Product

namespace Cert.AdamOutRefIdeal.Product

open Cert.AdamOutRefIdeal Cert.AdamOutRefIdeal.Read Cert.Adam

variable (w m v : S256x2048.Idx → EReal) (s : S8x256x2048.Idx → EReal) (b : S4x256x2048.Idx → EReal) (p : S3x256x2048.Idx → EReal) (k : S1.Idx → BitVec 32) (q : Fin 8) (hq : (k here).toNat = q.val)

include hq

theorem slab_eq (i : S256x2048.Idx) : val_main_v6 (F := Ideal) s k i = s (ix3 q (i 0) (i 1)) := by
  have t : ∀ d : Fin 8, val_main_v5 (F := Ideal) s k (idx_main_v6 i d) = Scalar.select (IntOp.cmpi .eq (BitVec.ofNat 32 d.val) (k here)) (s (ix3 d (i 0) (i 1))) 0 := by
    intro d
    have e : val_main_v2 (F := Ideal) k (idx_main_v3 (idx_main_call0_v1 (idx_main_v6 i d))) = k here := congrArg k (only_here _)
    have z : idx_main_v6 i d = ix3 d (i 0) (i 1) := funext fun a => by match a with | ⟨0, _⟩ => rfl | ⟨1, _⟩ => rfl | ⟨2, _⟩ => rfl
    rw [val_main_v5_apply, val_main_call0_v1_apply, val_main_v4_apply, val_main_v1_apply, val_main_v0_apply, val_main_v3_apply, e,
      val_main_call0_v2_apply, val_main_call0_v0_apply, val_main_cst_apply, zero_bits, z]
    rfl
  rw [val_main_v6_apply, val_main_cst_0_apply, zero_bits, zero_add, Finset.sum_congr rfl fun d _ => t d]
  exact masked (k here) q hq fun d => s (ix3 d (i 0) (i 1))

theorem parts_eq : (val_main_v12 (F := Ideal) s b p k : S256x2048.Idx → EReal) = parts (R := 256) (C := 2048) q s b p := by
  funext i
  have e8 : val_main_v8 (F := Ideal) b i = b (ix3 0 (i 0) (i 1)) := by
    rw [val_main_v8_apply, val_main_v7_apply]
    have h0 : (i 0).val < 256 := (i 0).isLt
    have h1 : (i 1).val < 2048 := (i 1).isLt
    exact congrArg b (funext fun a => Fin.ext (by
      match a with
      | ⟨0, _⟩ => rfl
      | ⟨1, _⟩ => show ((i 0).val * 2048 + (i 1).val) / 2048 % 256 = (i 0).val; omega
      | ⟨2, _⟩ => show ((i 0).val * 2048 + (i 1).val) % 2048 = (i 1).val; omega))
  have e11 (d : Fin 3) : val_main_v10 (F := Ideal) p (idx_main_v11 i d) = p (ix3 d (i 0) (i 1)) :=
    congrArg p (funext fun a => by match a with | ⟨0, _⟩ => rfl | ⟨1, _⟩ => rfl | ⟨2, _⟩ => rfl)
  rw [val_main_v12_apply, val_main_v9_apply, slab_eq s k q hq, e8, val_main_v11_apply, val_main_cst_1_apply, zero_bits, zero_add,
    Finset.sum_congr rfl fun d _ => e11 d, Fin.sum_univ_three]
  show s _ + b _ + (p _ + p _ + p _) = _
  rw [← add_assoc, ← add_assoc]
  rfl

theorem means_eq : (val_main_v17 (F := Ideal) m s b p k : S256x2048.Idx → EReal) = meansOf (R := 256) (C := 2048) m (parts q s b p) := by
  rw [← parts_eq s b p k q hq]
  funext i
  unfold val_main_v17 val_main_v16 val_main_v15 val_main_v14 val_main_v13 val_main_cst_2 val_main_cst_3
  pointwise
  rfl

theorem squares_eq : (val_main_v23 (F := Ideal) v s b p k : S256x2048.Idx → EReal) = squaresOf (R := 256) (C := 2048) v (parts q s b p) := by
  rw [← parts_eq s b p k q hq]
  funext i
  unfold val_main_v23 val_main_v22 val_main_v21 val_main_v20 val_main_v19 val_main_v18 val_main_cst_4 val_main_cst_5
  pointwise
  rfl

theorem changes_eq : (val_main_v36 (F := Ideal) w m v s b p k : S256x2048.Idx → EReal) = changesOf (R := 256) (C := 2048) w m v (parts q s b p) := by
  show _ = fun i => change (w i) (meansOf (R := 256) (C := 2048) m (parts q s b p) i) (squaresOf (R := 256) (C := 2048) v (parts q s b p) i)
  rw [← means_eq m s b p k q hq, ← squares_eq v s b p k q hq]
  funext i
  unfold val_main_v36 val_main_v35 val_main_v34 val_main_v33 val_main_v32 val_main_v31 val_main_v30 val_main_v29 val_main_v28 val_main_v27 val_main_v26 val_main_v25 val_main_v24 val_main_cst_6 val_main_cst_7 val_main_cst_8 val_main_cst_9 val_main_cst_10
  pointwise
  rfl

end Cert.AdamOutRefIdeal.Product

end
-- ==== Proof.AdamGate.lean ====
module

public import proofs.«01_k».proof.Defs
public import proofs.«01_k».proof.Proof.Gen.Pre_gate_slab
public import proofs.«01_k».proof.Proof.Gen.AdamGate.Frame
public import proofs.«01_k».proof.Proof.Gen.AdamGateIdeal.Frame
public import proofs.«01_k».proof.Proof.Gen.AdamGateRefIdeal.Run
public import proofs.«01_k».proof.Proof.Gen.AdamGateRefIdeal.Read
public import proofs.«01_k».proof.Proof.AdamPart
public import Idealize.ShloMosaic.Lib.Pointwise
public import Idealize.ShloMosaic.Lib.Tactic

/-! # The optimiser's step on the feed-forward block's first two matrices -/

@[expose] public section

set_option maxRecDepth 16384

noncomputable section

open Idealize.ShloMosaic Idealize.ShloMosaic.TcCoe Idealize.SL.Sem
open Idealize.ShloMosaic.Pipeline (Dat)
open scoped BigOperators

namespace Cert.AdamGate.Product

open Cert.AdamGate Cert.AdamGate.Gen Cert.Adam

/-- The number of the device's slab. -/
abbrev word (m : (ℓ : Loc nD τ sig) → Buf (Elt Bits) ℓ) : BitVec 32 := (m (((0 : Dev nD).tc : Thread nD τ).loc main_arg6) : S1.Idx → BitVec 32) here

theorem slab_at (m : (ℓ : Loc nD τ sig) → Buf (Elt Bits) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Bits) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 2048) i
    | ⟨2, _⟩ => show (0 + 1) * 704 ≤ 704; omega, Or.inl rfl⟩

theorem range (m : (ℓ : Loc nD τ sig) → Buf (Elt Bits) ℓ) (h : Cert.Pre_AdamGate m) : (word m).toNat < 8 := by
  have e := congrFun (h 0) here
  simp only [Cert.Pre_gate_slab.fn, andi, cmpi, broadcastInDim, constantI] at e
  exact below_eight _ e

end Cert.AdamGate.Product

namespace Cert.AdamGateIdeal.Product

open Cert.AdamGateIdeal Cert.AdamGateIdeal.Gen Cert.Adam

/-- The number of the device's slab. -/
abbrev word (m : (ℓ : Loc nD τ sig) → Buf (Elt Ideal) ℓ) : BitVec 32 := (m (((0 : Dev nD).tc : Thread nD τ).loc main_arg6) : S1.Idx → BitVec 32) here

theorem slab_at (m : (ℓ : Loc nD τ sig) → Buf (Elt Ideal) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Ideal) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 256 ≤ 2048) i
    | ⟨2, _⟩ => show (0 + 1) * 704 ≤ 704; omega, Or.inl rfl⟩

theorem range (m : (ℓ : Loc nD τ sig) → Buf (Elt Ideal) ℓ) (h : Cert.Pre_AdamGateIdeal m) : (word m).toNat < 8 := by
  have e := congrFun (h 0) here
  simp only [Cert.Pre_gate_slab.fn, andi, cmpi, broadcastInDim, constantI] at e
  exact below_eight _ e

set_option maxHeartbeats 4000000 in
/-- What the body leaves in its outputs, from its inputs. -/
theorem body_eq : ∀ c i a2 h2 a3 h3 a4 h4 a5 h5 a6 h6 a7 h7 a8 h8 a9 h9 a10 h10 a11 h11 x0 x1 x2 x3 x4 x5 xt,
    out0_A_6 (F := Ideal) c i a2 h2 a3 h3 a4 h4 a5 h5 a6 h6 a7 h7 a8 h8 a9 h9 a10 h10 a11 h11 x0 x1 x2 x3 x4 x5 xt = tile (R := 256) (C := 704) x3 x4 x5
    ∧ out0_A_7 (F := Ideal) c i a2 h2 a3 h3 a4 h4 a5 h5 a6 h6 a7 h7 a8 h8 a9 h9 a10 h10 a11 h11 x0 x1 x2 x3 x4 x5 xt = changesOf (R := 256) (C := 704) x0 x1 x2 (tile (R := 256) (C := 704) x3 x4 x5)
    ∧ out0_A_8 (F := Ideal) c i a2 h2 a3 h3 a4 h4 a5 h5 a6 h6 a7 h7 a8 h8 a9 h9 a10 h10 a11 h11 x0 x1 x2 x3 x4 x5 xt = meansOf (R := 256) (C := 704) x1 (tile (R := 256) (C := 704) x3 x4 x5)
    ∧ out0_A_9 (F := Ideal) c i a2 h2 a3 h3 a4 h4 a5 h5 a6 h6 a7 h7 a8 h8 a9 h9 a10 h10 a11 h11 x0 x1 x2 x3 x4 x5 xt = squaresOf (R := 256) (C := 704) x2 (tile (R := 256) (C := 704) x3 x4 x5) := by
  intro c i a2 h2 a3 h3 a4 h4 a5 h5 a6 h6 a7 h7 a8 h8 a9 h9 a10 h10 a11 h11 x0 x1 x2 x3 x4 x5 xt
  refine ⟨?_, ?_, ?_, ?_⟩
  on_goal 1 => (unfold out0_A_6; rw [View.read_writes_eq_canon _ _ _ (fun _ => cover0_A_6 ..)])
  on_goal 2 => (unfold out0_A_7; rw [View.read_writes_eq_canon _ _ _ (fun _ => cover0_A_7 ..)])
  on_goal 3 => (unfold out0_A_8; rw [View.read_writes_eq_canon _ _ _ (fun _ => cover0_A_8 ..)])
  on_goal 4 => (unfold out0_A_9; rw [View.read_writes_eq_canon _ _ _ (fun _ => cover0_A_9 ..)])
  all_goals
    unfold kernelRun0_A
    dsimp only
    try sl_unfold_words
    simp only [View.readAt_eq_ld, h2.read_unread, h3.read_unread, h4.read_unread, h5.read_unread, h6.read_unread, h7.read_unread, View.ld_unit_zero (S := S256x704) zero2]
    rw [View.canon_unit_zero zero2]
    funext j
    idx_vars j
    pointwise [k0_pay1, k0_pay2, k0_pay3, k0_pay4, k0_pay5, k0_pay6]
    rfl

variable (m : (ℓ : Loc nD τ sig) → Buf (Elt Ideal) ℓ) (hO : Ok m) (h : (word m).toNat < 8)

/-- The arguments of a device. -/
abbrev in0 (c : Dev nD) : S2048x704.Idx → EReal := m ((c : Thread nD τ).loc main_arg0)
abbrev in1 (c : Dev nD) : S2048x704.Idx → EReal := m ((c : Thread nD τ).loc main_arg1)
abbrev in2 (c : Dev nD) : S2048x704.Idx → EReal := m ((c : Thread nD τ).loc main_arg2)
abbrev in3 (c : Dev nD) : S8x2048x704.Idx → EReal := m ((c : Thread nD τ).loc main_arg3)
abbrev in4 (c : Dev nD) : S4x2048x704.Idx → EReal := m ((c : Thread nD τ).loc main_arg4)
abbrev in5 (c : Dev nD) : S3x2048x704.Idx → EReal := m ((c : Thread nD τ).loc main_arg5)

theorem index_at : ∀ t : Fin grid0.N, cc0_transform_0 (grid0.coords t) 0 = t.val ∧ t.val < 8 :=
  (by decide +kernel : ∀ t : Fin grid0.N, _)

/-- Row `a` of block `t`, and where the blocks' elements lie. -/
abbrev row (t : Fin (cfgM m hO).N) (a : Fin 256) : Fin 2048 := ⟨t.val * 256 + a.val, by have := (index_at t).2; omega⟩

theorem spot (t : Fin (cfgM m hO).N) (a : Fin 256) : cc0_transform_0 (grid0.coords t) 0 * 256 + 1 * a.val = (row m hO t a).val := by
  rw [(index_at t).1, Nat.one_mul]

theorem side (t : Fin grid0.N) (b : Fin 704) : cc0_transform_0 (grid0.coords t) 1 * 704 + 1 * b.val = b.val := by
  show 0 * 704 + 1 * b.val = b.val
  omega

abbrev slab : Fin 8 := ⟨(word m).toNat, h⟩

theorem emb0 (t : Fin (cfgM m hO).N) (y : S256x704.Idx) : (((cfgM m hO).win 0).blk t).view.emb y = (ix2 (row m hO t (y 0)) (y 1) : S2048x704.Idx) := by
  funext z; apply Fin.ext
  match z with | ⟨0, _⟩ => exact spot m hO t (y 0) | ⟨1, _⟩ => exact side t (y 1)

theorem emb1 (t : Fin (cfgM m hO).N) (y : S256x704.Idx) : (((cfgM m hO).win 1).blk t).view.emb y = (ix2 (row m hO t (y 0)) (y 1) : S2048x704.Idx) := by
  funext z; apply Fin.ext
  match z with | ⟨0, _⟩ => exact spot m hO t (y 0) | ⟨1, _⟩ => exact side t (y 1)

theorem emb2 (t : Fin (cfgM m hO).N) (y : S256x704.Idx) : (((cfgM m hO).win 2).blk t).view.emb y = (ix2 (row m hO t (y 0)) (y 1) : S2048x704.Idx) := by
  funext z; apply Fin.ext
  match z with | ⟨0, _⟩ => exact spot m hO t (y 0) | ⟨1, _⟩ => exact side t (y 1)

theorem emb6 (t : Fin (cfgM m hO).N) (y : S256x704.Idx) : (((cfgM m hO).win 6).blk t).view.emb y = (ix2 (row m hO t (y 0)) (y 1) : S2048x704.Idx) := by
  funext z; apply Fin.ext
  match z with | ⟨0, _⟩ => exact spot m hO t (y 0) | ⟨1, _⟩ => exact side t (y 1)

theorem emb7 (t : Fin (cfgM m hO).N) (y : S256x704.Idx) : (((cfgM m hO).win 7).blk t).view.emb y = (ix2 (row m hO t (y 0)) (y 1) : S2048x704.Idx) := by
  funext z; apply Fin.ext
  match z with | ⟨0, _⟩ => exact spot m hO t (y 0) | ⟨1, _⟩ => exact side t (y 1)

theorem emb8 (t : Fin (cfgM m hO).N) (y : S256x704.Idx) : (((cfgM m hO).win 8).blk t).view.emb y = (ix2 (row m hO t (y 0)) (y 1) : S2048x704.Idx) := by
  funext z; apply Fin.ext
  match z with | ⟨0, _⟩ => exact spot m hO t (y 0) | ⟨1, _⟩ => exact side t (y 1)

theorem emb9 (t : Fin (cfgM m hO).N) (y : S256x704.Idx) : (((cfgM m hO).win 9).blk t).view.emb y = (ix2 (row m hO t (y 0)) (y 1) : S2048x704.Idx) := by
  funext z; apply Fin.ext
  match z with | ⟨0, _⟩ => exact spot m hO t (y 0) | ⟨1, _⟩ => exact side t (y 1)

theorem emb3 (t : Fin (cfgM m hO).N) (y : S1x256x704.Idx) : (((cfgM m hO).win 3).blk t).view.emb y = (ix3 (slab m h) (row m hO t (y 1)) (y 2) : S8x2048x704.Idx) := by
  have h0 : (y 0).val = 0 := Nat.lt_one_iff.mp (y 0).isLt
  funext z; apply Fin.ext
  match z with
  | ⟨0, _⟩ =>
    show cc0_transform_3 _ _ (tbl m) (grid0.coords t) 0 * 1 + 1 * (y 0).val = (word m).toNat
    rw [slab_at m]; omega
  | ⟨1, _⟩ => exact spot m hO t (y 1)
  | ⟨2, _⟩ => exact side t (y 2)

theorem emb4 (t : Fin (cfgM m hO).N) (y : S1x256x704.Idx) : (((cfgM m hO).win 4).blk t).view.emb y = (ix3 0 (row m hO t (y 1)) (y 2) : S4x2048x704.Idx) := by
  have h0 : (y 0).val = 0 := Nat.lt_one_iff.mp (y 0).isLt
  funext z; apply Fin.ext
  match z with
  | ⟨0, _⟩ => show 0 * 1 + 1 * (y 0).val = 0; omega
  | ⟨1, _⟩ => exact spot m hO t (y 1)
  | ⟨2, _⟩ => exact side t (y 2)

theorem emb5 (t : Fin (cfgM m hO).N) (y : S3x256x704.Idx) : (((cfgM m hO).win 5).blk t).view.emb y = (ix3 (y 0) (row m hO t (y 1)) (y 2) : S3x2048x704.Idx) := by
  funext z; apply Fin.ext
  match z with
  | ⟨0, _⟩ => show 0 * 3 + 1 * (y 0).val = (y 0).val; omega
  | ⟨1, _⟩ => exact spot m hO t (y 1)
  | ⟨2, _⟩ => exact side t (y 2)

/-- The inputs' blocks. -/
theorem blocks (c : Dev nD) (t : Fin (cfgM m hO).N) :
    (iblk m hO c 0 t : S256x704.Idx → EReal) = cut (row m hO t) (in0 m c)
    ∧ (iblk m hO c 1 t : S256x704.Idx → EReal) = cut (row m hO t) (in1 m c)
    ∧ (iblk m hO c 2 t : S256x704.Idx → EReal) = cut (row m hO t) (in2 m c)
    ∧ (iblk m hO c 3 t : S1x256x704.Idx → EReal) = cutOne (row m hO t) (slab m h) (in3 m c)
    ∧ (iblk m hO c 4 t : S1x256x704.Idx → EReal) = cutOne (row m hO t) (0 : Fin 4) (in4 m c)
    ∧ (iblk m hO c 5 t : S3x256x704.Idx → EReal) = cutAll (n := 3) (row m hO t) (in5 m c) :=
  ⟨funext fun y => congrArg (in0 m c) (emb0 m hO t y), funext fun y => congrArg (in1 m c) (emb1 m hO t y),
    funext fun y => congrArg (in2 m c) (emb2 m hO t y), funext fun y => congrArg (in3 m c) (emb3 m hO h t y),
    funext fun y => congrArg (in4 m c) (emb4 m hO t y), funext fun y => congrArg (in5 m c) (emb5 m hO t y)⟩

/-- The results of the call. -/
abbrev result6 (c : Dev nD) : Buf (Elt Ideal) ((c : Thread nD τ).loc main_v0_0) := parts (slab m h) (in3 m c) (in4 m c) (in5 m c)
abbrev result7 (c : Dev nD) : Buf (Elt Ideal) ((c : Thread nD τ).loc main_v0_1) := changesOf (in0 m c) (in1 m c) (in2 m c) (parts (slab m h) (in3 m c) (in4 m c) (in5 m c))
abbrev result8 (c : Dev nD) : Buf (Elt Ideal) ((c : Thread nD τ).loc main_v0_2) := meansOf (in1 m c) (parts (slab m h) (in3 m c) (in4 m c) (in5 m c))
abbrev result9 (c : Dev nD) : Buf (Elt Ideal) ((c : Thread nD τ).loc main_v0_3) := squaresOf (in2 m c) (parts (slab m h) (in3 m c) (in4 m c) (in5 m c))

attribute [local irreducible] out0_A_6 out0_A_7 out0_A_8 out0_A_9

theorem outs (c : Dev nD) (t : Fin (cfgM m hO).N) : (outsAt0 m hO c t).1 = cut (row m hO t) (result6 m h c)
    ∧ (outsAt0 m hO c t).2.1 = cut (row m hO t) (result7 m h c)
    ∧ (outsAt0 m hO c t).2.2.1 = cut (row m hO t) (result8 m h c)
    ∧ (outsAt0 m hO c t).2.2.2 = cut (row m hO t) (result9 m h c) := by
  have e := body_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)
  obtain ⟨b0, b1, b2, b3, b4, b5⟩ := blocks m hO h c t
  exact ⟨e.1.trans (by rw [b3, b4, b5]; rfl), e.2.1.trans (by rw [b0, b1, b2, b3, b4, b5]; rfl), e.2.2.1.trans (by rw [b1, b3, b4, b5]; rfl),
    e.2.2.2.trans (by rw [b2, b3, b4, b5]; rfl)⟩

/-- The point and the place in its block of an element of a result. -/
theorem found (i : S2048x704.Idx) : ∃ (t : Fin (cfgM m hO).N) (y : S256x704.Idx), i = ix2 (row m hO t (y 0)) (y 1) := by
  have h0 : (i 0).val < 2048 := (i 0).isLt
  refine ⟨⟨(i 0).val / 256, ?_⟩, ix2 ⟨(i 0).val % 256, Nat.mod_lt _ (by decide)⟩ (i 1), ?_⟩
  · have : grid0.N = 8 := by decide +kernel
    show (i 0).val / 256 < grid0.N
    omega
  · funext z; apply Fin.ext
    match z with
    | ⟨0, _⟩ => show (i 0).val = (i 0).val / 256 * 256 + (i 0).val % 256; omega
    | ⟨1, _⟩ => rfl

theorem final6 (c : Dev nD) : (dats m hO 0 c).arrAt 6 (cfgM m hO).N = result6 m h c :=
  (dats m hO 0 c).arrAt_eq_of_cover 6 (result6 m h c) (fun t _ => (congrArg _ (after0_6 m hO c t)).trans
    (funext fun y => (congrFun (outs m hO h c t).1 y).trans (congrArg (result6 m h c) (emb6 m hO t y).symm)))
    fun i => (found m hO i).elim fun t e => e.elim fun y e => ⟨t, flush0_6 (adm m hO) t, ((emb6 m hO t y).trans e.symm) ▸ View.emb_mem_set _ y⟩

theorem final7 (c : Dev nD) : (dats m hO 0 c).arrAt 7 (cfgM m hO).N = result7 m h c :=
  (dats m hO 0 c).arrAt_eq_of_cover 7 (result7 m h c) (fun t _ => (congrArg _ (after0_7 m hO c t)).trans
    (funext fun y => (congrFun (outs m hO h c t).2.1 y).trans (congrArg (result7 m h c) (emb7 m hO t y).symm)))
    fun i => (found m hO i).elim fun t e => e.elim fun y e => ⟨t, flush0_7 (adm m hO) t, ((emb7 m hO t y).trans e.symm) ▸ View.emb_mem_set _ y⟩

theorem final8 (c : Dev nD) : (dats m hO 0 c).arrAt 8 (cfgM m hO).N = result8 m h c :=
  (dats m hO 0 c).arrAt_eq_of_cover 8 (result8 m h c) (fun t _ => (congrArg _ (after0_8 m hO c t)).trans
    (funext fun y => (congrFun (outs m hO h c t).2.2.1 y).trans (congrArg (result8 m h c) (emb8 m hO t y).symm)))
    fun i => (found m hO i).elim fun t e => e.elim fun y e => ⟨t, flush0_8 (adm m hO) t, ((emb8 m hO t y).trans e.symm) ▸ View.emb_mem_set _ y⟩

theorem final9 (c : Dev nD) : (dats m hO 0 c).arrAt 9 (cfgM m hO).N = result9 m h c :=
  (dats m hO 0 c).arrAt_eq_of_cover 9 (result9 m h c) (fun t _ => (congrArg _ (after0_9 m hO c t)).trans
    (funext fun y => (congrFun (outs m hO h c t).2.2.2 y).trans (congrArg (result9 m h c) (emb9 m hO t y).symm)))
    fun i => (found m hO i).elim fun t e => e.elim fun y e => ⟨t, flush0_9 (adm m hO) t, ((emb9 m hO t y).trans e.symm) ▸ View.emb_mem_set _ y⟩

end Cert.AdamGateIdeal.Product

namespace Cert.AdamGateRefIdeal.Product

open Cert.AdamGateRefIdeal Cert.AdamGateRefIdeal.Read Cert.Adam

variable (w m v : S2048x704.Idx → EReal) (s : S8x2048x704.Idx → EReal) (b : S4x2048x704.Idx → EReal) (p : S3x2048x704.Idx → EReal) (k : S1.Idx → BitVec 32) (q : Fin 8) (hq : (k here).toNat = q.val)

include hq

theorem slab_eq (i : S2048x704.Idx) : val_main_v6 (F := Ideal) s k i = s (ix3 q (i 0) (i 1)) := by
  have t : ∀ d : Fin 8, val_main_v5 (F := Ideal) s k (idx_main_v6 i d) = Scalar.select (IntOp.cmpi .eq (BitVec.ofNat 32 d.val) (k here)) (s (ix3 d (i 0) (i 1))) 0 := by
    intro d
    have e : val_main_v2 (F := Ideal) k (idx_main_v3 (idx_main_call0_v1 (idx_main_v6 i d))) = k here := congrArg k (only_here _)
    have z : idx_main_v6 i d = ix3 d (i 0) (i 1) := funext fun a => by match a with | ⟨0, _⟩ => rfl | ⟨1, _⟩ => rfl | ⟨2, _⟩ => rfl
    rw [val_main_v5_apply, val_main_call0_v1_apply, val_main_v4_apply, val_main_v1_apply, val_main_v0_apply, val_main_v3_apply, e,
      val_main_call0_v2_apply, val_main_call0_v0_apply, val_main_cst_apply, zero_bits, z]
    rfl
  rw [val_main_v6_apply, val_main_cst_0_apply, zero_bits, zero_add, Finset.sum_congr rfl fun d _ => t d]
  exact masked (k here) q hq fun d => s (ix3 d (i 0) (i 1))

theorem parts_eq : (val_main_v12 (F := Ideal) s b p k : S2048x704.Idx → EReal) = parts (R := 2048) (C := 704) q s b p := by
  funext i
  have e8 : val_main_v8 (F := Ideal) b i = b (ix3 0 (i 0) (i 1)) := by
    rw [val_main_v8_apply, val_main_v7_apply]
    have h0 : (i 0).val < 2048 := (i 0).isLt
    have h1 : (i 1).val < 704 := (i 1).isLt
    exact congrArg b (funext fun a => Fin.ext (by
      match a with
      | ⟨0, _⟩ => rfl
      | ⟨1, _⟩ => show ((i 0).val * 704 + (i 1).val) / 704 % 2048 = (i 0).val; omega
      | ⟨2, _⟩ => show ((i 0).val * 704 + (i 1).val) % 704 = (i 1).val; omega))
  have e11 (d : Fin 3) : val_main_v10 (F := Ideal) p (idx_main_v11 i d) = p (ix3 d (i 0) (i 1)) :=
    congrArg p (funext fun a => by match a with | ⟨0, _⟩ => rfl | ⟨1, _⟩ => rfl | ⟨2, _⟩ => rfl)
  rw [val_main_v12_apply, val_main_v9_apply, slab_eq s k q hq, e8, val_main_v11_apply, val_main_cst_1_apply, zero_bits, zero_add,
    Finset.sum_congr rfl fun d _ => e11 d, Fin.sum_univ_three]
  show s _ + b _ + (p _ + p _ + p _) = _
  rw [← add_assoc, ← add_assoc]
  rfl

theorem means_eq : (val_main_v17 (F := Ideal) m s b p k : S2048x704.Idx → EReal) = meansOf (R := 2048) (C := 704) m (parts q s b p) := by
  rw [← parts_eq s b p k q hq]
  funext i
  unfold val_main_v17 val_main_v16 val_main_v15 val_main_v14 val_main_v13 val_main_cst_2 val_main_cst_3
  pointwise
  rfl

theorem squares_eq : (val_main_v23 (F := Ideal) v s b p k : S2048x704.Idx → EReal) = squaresOf (R := 2048) (C := 704) v (parts q s b p) := by
  rw [← parts_eq s b p k q hq]
  funext i
  unfold val_main_v23 val_main_v22 val_main_v21 val_main_v20 val_main_v19 val_main_v18 val_main_cst_4 val_main_cst_5
  pointwise
  rfl

theorem changes_eq : (val_main_v36 (F := Ideal) w m v s b p k : S2048x704.Idx → EReal) = changesOf (R := 2048) (C := 704) w m v (parts q s b p) := by
  show _ = fun i => change (w i) (meansOf (R := 2048) (C := 704) m (parts q s b p) i) (squaresOf (R := 2048) (C := 704) v (parts q s b p) i)
  rw [← means_eq m s b p k q hq, ← squares_eq v s b p k q hq]
  funext i
  unfold val_main_v36 val_main_v35 val_main_v34 val_main_v33 val_main_v32 val_main_v31 val_main_v30 val_main_v29 val_main_v28 val_main_v27 val_main_v26 val_main_v25 val_main_v24 val_main_cst_6 val_main_cst_7 val_main_cst_8 val_main_cst_9 val_main_cst_10
  pointwise
  rfl

end Cert.AdamGateRefIdeal.Product

end
-- ==== Proof.AdamDown.lean ====
module

public import proofs.«01_k».proof.Defs
public import proofs.«01_k».proof.Proof.Gen.Pre_down_slab
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.AdamDownRefIdeal.Read
public import proofs.«01_k».proof.Proof.AdamPart
public import Idealize.ShloMosaic.Lib.Pointwise
public import Idealize.ShloMosaic.Lib.Tactic

/-! # The optimiser's step on the feed-forward block's last matrix -/

@[expose] public section

set_option maxRecDepth 16384

noncomputable section

open Idealize.ShloMosaic Idealize.ShloMosaic.TcCoe Idealize.SL.Sem
open Idealize.ShloMosaic.Pipeline (Dat)
open scoped BigOperators

namespace Cert.AdamDown.Product

open Cert.AdamDown Cert.AdamDown.Gen Cert.Adam

/-- The number of the device's slab. -/
abbrev word (m : (ℓ : Loc nD τ sig) → Buf (Elt Bits) ℓ) : BitVec 32 := (m (((0 : Dev nD).tc : Thread nD τ).loc main_arg6) : S1.Idx → BitVec 32) here

theorem slab_at (m : (ℓ : Loc nD τ sig) → Buf (Elt Bits) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Bits) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 64 ≤ 704) i
    | ⟨2, _⟩ => show (0 + 1) * 2048 ≤ 2048; omega, Or.inl rfl⟩

theorem range (m : (ℓ : Loc nD τ sig) → Buf (Elt Bits) ℓ) (h : Cert.Pre_AdamDown m) : (word m).toNat < 8 := by
  have e := congrFun (h 0) here
  simp only [Cert.Pre_down_slab.fn, andi, cmpi, broadcastInDim, constantI] at e
  exact below_eight _ e

end Cert.AdamDown.Product

namespace Cert.AdamDownIdeal.Product

open Cert.AdamDownIdeal Cert.AdamDownIdeal.Gen Cert.Adam

/-- The number of the device's slab. -/
abbrev word (m : (ℓ : Loc nD τ sig) → Buf (Elt Ideal) ℓ) : BitVec 32 := (m (((0 : Dev nD).tc : Thread nD τ).loc main_arg6) : S1.Idx → BitVec 32) here

theorem slab_at (m : (ℓ : Loc nD τ sig) → Buf (Elt Ideal) ℓ) (i : grid0.Coords) : cc0_transform_3 inb_S1_S1_0 numel1_S1 (tbl m) i 0 = (word m).toNat :=
  congrArg (fun x => ((m (((0 : Dev nD).tc : Thread nD τ).loc main_arg6) : S1.Idx → BitVec 32) x).toNat) (only_here _)

/-- The slab's number is in range, so every block lies inside its array. -/
theorem ok (m : (ℓ : Loc nD τ sig) → Buf (Elt Ideal) ℓ) (h : (word m).toNat < 8) : Ok m := fun i => ⟨fun a => by
    match a with
    | ⟨0, _⟩ => exact (congrArg (fun x => (x + 1) * 1 ≤ 8) (slab_at m i)).mpr (by omega)
    | ⟨1, _⟩ => exact (by decide +kernel : ∀ i : grid0.Coords, (cc0_transform_0 i 0 + 1) * 64 ≤ 704) i
    | ⟨2, _⟩ => show (0 + 1) * 2048 ≤ 2048; omega, Or.inl rfl⟩

theorem range (m : (ℓ : Loc nD τ sig) → Buf (Elt Ideal) ℓ) (h : Cert.Pre_AdamDownIdeal m) : (word m).toNat < 8 := by
  have e := congrFun (h 0) here
  simp only [Cert.Pre_down_slab.fn, andi, cmpi, broadcastInDim, constantI] at e
  exact below_eight _ e

set_option maxHeartbeats 4000000 in
/-- What the body leaves in its outputs, from its inputs. -/
theorem body_eq : ∀ c i a2 h2 a3 h3 a4 h4 a5 h5 a6 h6 a7 h7 a8 h8 a9 h9 a10 h10 a11 h11 x0 x1 x2 x3 x4 x5 xt,
    out0_A_6 (F := Ideal) c i a2 h2 a3 h3 a4 h4 a5 h5 a6 h6 a7 h7 a8 h8 a9 h9 a10 h10 a11 h11 x0 x1 x2 x3 x4 x5 xt = tile (R := 64) (C := 2048) x3 x4 x5
    ∧ out0_A_7 (F := Ideal) c i a2 h2 a3 h3 a4 h4 a5 h5 a6 h6 a7 h7 a8 h8 a9 h9 a10 h10 a11 h11 x0 x1 x2 x3 x4 x5 xt = changesOf (R := 64) (C := 2048) x0 x1 x2 (tile (R := 64) (C := 2048) x3 x4 x5)
    ∧ out0_A_8 (F := Ideal) c i a2 h2 a3 h3 a4 h4 a5 h5 a6 h6 a7 h7 a8 h8 a9 h9 a10 h10 a11 h11 x0 x1 x2 x3 x4 x5 xt = meansOf (R := 64) (C := 2048) x1 (tile (R := 64) (C := 2048) x3 x4 x5)
    ∧ out0_A_9 (F := Ideal) c i a2 h2 a3 h3 a4 h4 a5 h5 a6 h6 a7 h7 a8 h8 a9 h9 a10 h10 a11 h11 x0 x1 x2 x3 x4 x5 xt = squaresOf (R := 64) (C := 2048) x2 (tile (R := 64) (C := 2048) x3 x4 x5) := by
  intro c i a2 h2 a3 h3 a4 h4 a5 h5 a6 h6 a7 h7 a8 h8 a9 h9 a10 h10 a11 h11 x0 x1 x2 x3 x4 x5 xt
  refine ⟨?_, ?_, ?_, ?_⟩
  on_goal 1 => (unfold out0_A_6; rw [View.read_writes_eq_canon _ _ _ (fun _ => cover0_A_6 ..)])
  on_goal 2 => (unfold out0_A_7; rw [View.read_writes_eq_canon _ _ _ (fun _ => cover0_A_7 ..)])
  on_goal 3 => (unfold out0_A_8; rw [View.read_writes_eq_canon _ _ _ (fun _ => cover0_A_8 ..)])
  on_goal 4 => (unfold out0_A_9; rw [View.read_writes_eq_canon _ _ _ (fun _ => cover0_A_9 ..)])
  all_goals
    unfold kernelRun0_A
    dsimp only
    try sl_unfold_words
    simp only [View.readAt_eq_ld, h2.read_unread, h3.read_unread, h4.read_unread, h5.read_unread, h6.read_unread, h7.read_unread, View.ld_unit_zero (S := S64x2048) zero2]
    rw [View.canon_unit_zero zero2]
    funext j
    idx_vars j
    pointwise [k0_pay1, k0_pay2, k0_pay3, k0_pay4, k0_pay5, k0_pay6]
    rfl

variable (m : (ℓ : Loc nD τ sig) → Buf (Elt Ideal) ℓ) (hO : Ok m) (h : (word m).toNat < 8)

/-- The arguments of a device. -/
abbrev in0 (c : Dev nD) : S704x2048.Idx → EReal := m ((c : Thread nD τ).loc main_arg0)
abbrev in1 (c : Dev nD) : S704x2048.Idx → EReal := m ((c : Thread nD τ).loc main_arg1)
abbrev in2 (c : Dev nD) : S704x2048.Idx → EReal := m ((c : Thread nD τ).loc main_arg2)
abbrev in3 (c : Dev nD) : S8x704x2048.Idx → EReal := m ((c : Thread nD τ).loc main_arg3)
abbrev in4 (c : Dev nD) : S4x704x2048.Idx → EReal := m ((c : Thread nD τ).loc main_arg4)
abbrev in5 (c : Dev nD) : S3x704x2048.Idx → EReal := m ((c : Thread nD τ).loc main_arg5)

theorem index_at : ∀ t : Fin grid0.N, cc0_transform_0 (grid0.coords t) 0 = t.val ∧ t.val < 11 :=
  (by decide +kernel : ∀ t : Fin grid0.N, _)

/-- Row `a` of block `t`, and where the blocks' elements lie. -/
abbrev row (t : Fin (cfgM m hO).N) (a : Fin 64) : Fin 704 := ⟨t.val * 64 + a.val, by have := (index_at t).2; omega⟩

theorem spot (t : Fin (cfgM m hO).N) (a : Fin 64) : cc0_transform_0 (grid0.coords t) 0 * 64 + 1 * a.val = (row m hO t a).val := by
  rw [(index_at t).1, Nat.one_mul]

theorem side (t : Fin grid0.N) (b : Fin 2048) : cc0_transform_0 (grid0.coords t) 1 * 2048 + 1 * b.val = b.val := by
  show 0 * 2048 + 1 * b.val = b.val
  omega

abbrev slab : Fin 8 := ⟨(word m).toNat, h⟩

theorem emb0 (t : Fin (cfgM m hO).N) (y : S64x2048.Idx) : (((cfgM m hO).win 0).blk t).view.emb y = (ix2 (row m hO t (y 0)) (y 1) : S704x2048.Idx) := by
  funext z; apply Fin.ext
  match z with | ⟨0, _⟩ => exact spot m hO t (y 0) | ⟨1, _⟩ => exact side t (y 1)

theorem emb1 (t : Fin (cfgM m hO).N) (y : S64x2048.Idx) : (((cfgM m hO).win 1).blk t).view.emb y = (ix2 (row m hO t (y 0)) (y 1) : S704x2048.Idx) := by
  funext z; apply Fin.ext
  match z with | ⟨0, _⟩ => exact spot m hO t (y 0) | ⟨1, _⟩ => exact side t (y 1)

theorem emb2 (t : Fin (cfgM m hO).N) (y : S64x2048.Idx) : (((cfgM m hO).win 2).blk t).view.emb y = (ix2 (row m hO t (y 0)) (y 1) : S704x2048.Idx) := by
  funext z; apply Fin.ext
  match z with | ⟨0, _⟩ => exact spot m hO t (y 0) | ⟨1, _⟩ => exact side t (y 1)

theorem emb6 (t : Fin (cfgM m hO).N) (y : S64x2048.Idx) : (((cfgM m hO).win 6).blk t).view.emb y = (ix2 (row m hO t (y 0)) (y 1) : S704x2048.Idx) := by
  funext z; apply Fin.ext
  match z with | ⟨0, _⟩ => exact spot m hO t (y 0) | ⟨1, _⟩ => exact side t (y 1)

theorem emb7 (t : Fin (cfgM m hO).N) (y : S64x2048.Idx) : (((cfgM m hO).win 7).blk t).view.emb y = (ix2 (row m hO t (y 0)) (y 1) : S704x2048.Idx) := by
  funext z; apply Fin.ext
  match z with | ⟨0, _⟩ => exact spot m hO t (y 0) | ⟨1, _⟩ => exact side t (y 1)

theorem emb8 (t : Fin (cfgM m hO).N) (y : S64x2048.Idx) : (((cfgM m hO).win 8).blk t).view.emb y = (ix2 (row m hO t (y 0)) (y 1) : S704x2048.Idx) := by
  funext z; apply Fin.ext
  match z with | ⟨0, _⟩ => exact spot m hO t (y 0) | ⟨1, _⟩ => exact side t (y 1)

theorem emb9 (t : Fin (cfgM m hO).N) (y : S64x2048.Idx) : (((cfgM m hO).win 9).blk t).view.emb y = (ix2 (row m hO t (y 0)) (y 1) : S704x2048.Idx) := by
  funext z; apply Fin.ext
  match z with | ⟨0, _⟩ => exact spot m hO t (y 0) | ⟨1, _⟩ => exact side t (y 1)

theorem emb3 (t : Fin (cfgM m hO).N) (y : S1x64x2048.Idx) : (((cfgM m hO).win 3).blk t).view.emb y = (ix3 (slab m h) (row m hO t (y 1)) (y 2) : S8x704x2048.Idx) := by
  have h0 : (y 0).val = 0 := Nat.lt_one_iff.mp (y 0).isLt
  funext z; apply Fin.ext
  match z with
  | ⟨0, _⟩ =>
    show cc0_transform_3 _ _ (tbl m) (grid0.coords t) 0 * 1 + 1 * (y 0).val = (word m).toNat
    rw [slab_at m]; omega
  | ⟨1, _⟩ => exact spot m hO t (y 1)
  | ⟨2, _⟩ => exact side t (y 2)

theorem emb4 (t : Fin (cfgM m hO).N) (y : S1x64x2048.Idx) : (((cfgM m hO).win 4).blk t).view.emb y = (ix3 0 (row m hO t (y 1)) (y 2) : S4x704x2048.Idx) := by
  have h0 : (y 0).val = 0 := Nat.lt_one_iff.mp (y 0).isLt
  funext z; apply Fin.ext
  match z with
  | ⟨0, _⟩ => show 0 * 1 + 1 * (y 0).val = 0; omega
  | ⟨1, _⟩ => exact spot m hO t (y 1)
  | ⟨2, _⟩ => exact side t (y 2)

theorem emb5 (t : Fin (cfgM m hO).N) (y : S3x64x2048.Idx) : (((cfgM m hO).win 5).blk t).view.emb y = (ix3 (y 0) (row m hO t (y 1)) (y 2) : S3x704x2048.Idx) := by
  funext z; apply Fin.ext
  match z with
  | ⟨0, _⟩ => show 0 * 3 + 1 * (y 0).val = (y 0).val; omega
  | ⟨1, _⟩ => exact spot m hO t (y 1)
  | ⟨2, _⟩ => exact side t (y 2)

/-- The inputs' blocks. -/
theorem blocks (c : Dev nD) (t : Fin (cfgM m hO).N) :
    (iblk m hO c 0 t : S64x2048.Idx → EReal) = cut (row m hO t) (in0 m c)
    ∧ (iblk m hO c 1 t : S64x2048.Idx → EReal) = cut (row m hO t) (in1 m c)
    ∧ (iblk m hO c 2 t : S64x2048.Idx → EReal) = cut (row m hO t) (in2 m c)
    ∧ (iblk m hO c 3 t : S1x64x2048.Idx → EReal) = cutOne (row m hO t) (slab m h) (in3 m c)
    ∧ (iblk m hO c 4 t : S1x64x2048.Idx → EReal) = cutOne (row m hO t) (0 : Fin 4) (in4 m c)
    ∧ (iblk m hO c 5 t : S3x64x2048.Idx → EReal) = cutAll (n := 3) (row m hO t) (in5 m c) :=
  ⟨funext fun y => congrArg (in0 m c) (emb0 m hO t y), funext fun y => congrArg (in1 m c) (emb1 m hO t y),
    funext fun y => congrArg (in2 m c) (emb2 m hO t y), funext fun y => congrArg (in3 m c) (emb3 m hO h t y),
    funext fun y => congrArg (in4 m c) (emb4 m hO t y), funext fun y => congrArg (in5 m c) (emb5 m hO t y)⟩

/-- The results of the call. -/
abbrev result6 (c : Dev nD) : Buf (Elt Ideal) ((c : Thread nD τ).loc main_v0_0) := parts (slab m h) (in3 m c) (in4 m c) (in5 m c)
abbrev result7 (c : Dev nD) : Buf (Elt Ideal) ((c : Thread nD τ).loc main_v0_1) := changesOf (in0 m c) (in1 m c) (in2 m c) (parts (slab m h) (in3 m c) (in4 m c) (in5 m c))
abbrev result8 (c : Dev nD) : Buf (Elt Ideal) ((c : Thread nD τ).loc main_v0_2) := meansOf (in1 m c) (parts (slab m h) (in3 m c) (in4 m c) (in5 m c))
abbrev result9 (c : Dev nD) : Buf (Elt Ideal) ((c : Thread nD τ).loc main_v0_3) := squaresOf (in2 m c) (parts (slab m h) (in3 m c) (in4 m c) (in5 m c))

attribute [local irreducible] out0_A_6 out0_A_7 out0_A_8 out0_A_9

theorem outs (c : Dev nD) (t : Fin (cfgM m hO).N) : (outsAt0 m hO c t).1 = cut (row m hO t) (result6 m h c)
    ∧ (outsAt0 m hO c t).2.1 = cut (row m hO t) (result7 m h c)
    ∧ (outsAt0 m hO c t).2.2.1 = cut (row m hO t) (result8 m h c)
    ∧ (outsAt0 m hO c t).2.2.2 = cut (row m hO t) (result9 m h c) := by
  have e := body_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (tbl m 0)
  obtain ⟨b0, b1, b2, b3, b4, b5⟩ := blocks m hO h c t
  exact ⟨e.1.trans (by rw [b3, b4, b5]; rfl), e.2.1.trans (by rw [b0, b1, b2, b3, b4, b5]; rfl), e.2.2.1.trans (by rw [b1, b3, b4, b5]; rfl),
    e.2.2.2.trans (by rw [b2, b3, b4, b5]; rfl)⟩

/-- The point and the place in its block of an element of a result. -/
theorem found (i : S704x2048.Idx) : ∃ (t : Fin (cfgM m hO).N) (y : S64x2048.Idx), i = ix2 (row m hO t (y 0)) (y 1) := by
  have h0 : (i 0).val < 704 := (i 0).isLt
  refine ⟨⟨(i 0).val / 64, ?_⟩, ix2 ⟨(i 0).val % 64, Nat.mod_lt _ (by decide)⟩ (i 1), ?_⟩
  · have : grid0.N = 11 := by decide +kernel
    show (i 0).val / 64 < grid0.N
    omega
  · funext z; apply Fin.ext
    match z with
    | ⟨0, _⟩ => show (i 0).val = (i 0).val / 64 * 64 + (i 0).val % 64; omega
    | ⟨1, _⟩ => rfl

theorem final6 (c : Dev nD) : (dats m hO 0 c).arrAt 6 (cfgM m hO).N = result6 m h c :=
  (dats m hO 0 c).arrAt_eq_of_cover 6 (result6 m h c) (fun t _ => (congrArg _ (after0_6 m hO c t)).trans
    (funext fun y => (congrFun (outs m hO h c t).1 y).trans (congrArg (result6 m h c) (emb6 m hO t y).symm)))
    fun i => (found m hO i).elim fun t e => e.elim fun y e => ⟨t, flush0_6 (adm m hO) t, ((emb6 m hO t y).trans e.symm) ▸ View.emb_mem_set _ y⟩

theorem final7 (c : Dev nD) : (dats m hO 0 c).arrAt 7 (cfgM m hO).N = result7 m h c :=
  (dats m hO 0 c).arrAt_eq_of_cover 7 (result7 m h c) (fun t _ => (congrArg _ (after0_7 m hO c t)).trans
    (funext fun y => (congrFun (outs m hO h c t).2.1 y).trans (congrArg (result7 m h c) (emb7 m hO t y).symm)))
    fun i => (found m hO i).elim fun t e => e.elim fun y e => ⟨t, flush0_7 (adm m hO) t, ((emb7 m hO t y).trans e.symm) ▸ View.emb_mem_set _ y⟩

theorem final8 (c : Dev nD) : (dats m hO 0 c).arrAt 8 (cfgM m hO).N = result8 m h c :=
  (dats m hO 0 c).arrAt_eq_of_cover 8 (result8 m h c) (fun t _ => (congrArg _ (after0_8 m hO c t)).trans
    (funext fun y => (congrFun (outs m hO h c t).2.2.1 y).trans (congrArg (result8 m h c) (emb8 m hO t y).symm)))
    fun i => (found m hO i).elim fun t e => e.elim fun y e => ⟨t, flush0_8 (adm m hO) t, ((emb8 m hO t y).trans e.symm) ▸ View.emb_mem_set _ y⟩

theorem final9 (c : Dev nD) : (dats m hO 0 c).arrAt 9 (cfgM m hO).N = result9 m h c :=
  (dats m hO 0 c).arrAt_eq_of_cover 9 (result9 m h c) (fun t _ => (congrArg _ (after0_9 m hO c t)).trans
    (funext fun y => (congrFun (outs m hO h c t).2.2.2 y).trans (congrArg (result9 m h c) (emb9 m hO t y).symm)))
    fun i => (found m hO i).elim fun t e => e.elim fun y e => ⟨t, flush0_9 (adm m hO) t, ((emb9 m hO t y).trans e.symm) ▸ View.emb_mem_set _ y⟩

end Cert.AdamDownIdeal.Product

namespace Cert.AdamDownRefIdeal.Product

open Cert.AdamDownRefIdeal Cert.AdamDownRefIdeal.Read Cert.Adam

variable (w m v : S704x2048.Idx → EReal) (s : S8x704x2048.Idx → EReal) (b : S4x704x2048.Idx → EReal) (p : S3x704x2048.Idx → EReal) (k : S1.Idx → BitVec 32) (q : Fin 8) (hq : (k here).toNat = q.val)

include hq

theorem slab_eq (i : S704x2048.Idx) : val_main_v6 (F := Ideal) s k i = s (ix3 q (i 0) (i 1)) := by
  have t : ∀ d : Fin 8, val_main_v5 (F := Ideal) s k (idx_main_v6 i d) = Scalar.select (IntOp.cmpi .eq (BitVec.ofNat 32 d.val) (k here)) (s (ix3 d (i 0) (i 1))) 0 := by
    intro d
    have e : val_main_v2 (F := Ideal) k (idx_main_v3 (idx_main_call0_v1 (idx_main_v6 i d))) = k here := congrArg k (only_here _)
    have z : idx_main_v6 i d = ix3 d (i 0) (i 1) := funext fun a => by match a with | ⟨0, _⟩ => rfl | ⟨1, _⟩ => rfl | ⟨2, _⟩ => rfl
    rw [val_main_v5_apply, val_main_call0_v1_apply, val_main_v4_apply, val_main_v1_apply, val_main_v0_apply, val_main_v3_apply, e,
      val_main_call0_v2_apply, val_main_call0_v0_apply, val_main_cst_apply, zero_bits, z]
    rfl
  rw [val_main_v6_apply, val_main_cst_0_apply, zero_bits, zero_add, Finset.sum_congr rfl fun d _ => t d]
  exact masked (k here) q hq fun d => s (ix3 d (i 0) (i 1))

theorem parts_eq : (val_main_v12 (F := Ideal) s b p k : S704x2048.Idx → EReal) = parts (R := 704) (C := 2048) q s b p := by
  funext i
  have e8 : val_main_v8 (F := Ideal) b i = b (ix3 0 (i 0) (i 1)) := by
    rw [val_main_v8_apply, val_main_v7_apply]
    have h0 : (i 0).val < 704 := (i 0).isLt
    have h1 : (i 1).val < 2048 := (i 1).isLt
    exact congrArg b (funext fun a => Fin.ext (by
      match a with
      | ⟨0, _⟩ => rfl
      | ⟨1, _⟩ => show ((i 0).val * 2048 + (i 1).val) / 2048 % 704 = (i 0).val; omega
      | ⟨2, _⟩ => show ((i 0).val * 2048 + (i 1).val) % 2048 = (i 1).val; omega))
  have e11 (d : Fin 3) : val_main_v10 (F := Ideal) p (idx_main_v11 i d) = p (ix3 d (i 0) (i 1)) :=
    congrArg p (funext fun a => by match a with | ⟨0, _⟩ => rfl | ⟨1, _⟩ => rfl | ⟨2, _⟩ => rfl)
  rw [val_main_v12_apply, val_main_v9_apply, slab_eq s k q hq, e8, val_main_v11_apply, val_main_cst_1_apply, zero_bits, zero_add,
    Finset.sum_congr rfl fun d _ => e11 d, Fin.sum_univ_three]
  show s _ + b _ + (p _ + p _ + p _) = _
  rw [← add_assoc, ← add_assoc]
  rfl

theorem means_eq : (val_main_v17 (F := Ideal) m s b p k : S704x2048.Idx → EReal) = meansOf (R := 704) (C := 2048) m (parts q s b p) := by
  rw [← parts_eq s b p k q hq]
  funext i
  unfold val_main_v17 val_main_v16 val_main_v15 val_main_v14 val_main_v13 val_main_cst_2 val_main_cst_3
  pointwise
  rfl

theorem squares_eq : (val_main_v23 (F := Ideal) v s b p k : S704x2048.Idx → EReal) = squaresOf (R := 704) (C := 2048) v (parts q s b p) := by
  rw [← parts_eq s b p k q hq]
  funext i
  unfold val_main_v23 val_main_v22 val_main_v21 val_main_v20 val_main_v19 val_main_v18 val_main_cst_4 val_main_cst_5
  pointwise
  rfl

theorem changes_eq : (val_main_v36 (F := Ideal) w m v s b p k : S704x2048.Idx → EReal) = changesOf (R := 704) (C := 2048) w m v (parts q s b p) := by
  show _ = fun i => change (w i) (meansOf (R := 704) (C := 2048) m (parts q s b p) i) (squaresOf (R := 704) (C := 2048) v (parts q s b p) i)
  rw [← means_eq m s b p k q hq, ← squares_eq v s b p k q hq]
  funext i
  unfold val_main_v36 val_main_v35 val_main_v34 val_main_v33 val_main_v32 val_main_v31 val_main_v30 val_main_v29 val_main_v28 val_main_v27 val_main_v26 val_main_v25 val_main_v24 val_main_cst_6 val_main_cst_7 val_main_cst_8 val_main_cst_9 val_main_cst_10
  pointwise
  rfl

end Cert.AdamDownRefIdeal.Product

end
-- ==== Proof.ScanFirst.lean ====
module

public import proofs.«01_k».proof.Proof.Gen.KernelIdeal.Loops
public import proofs.«01_k».proof.Proof.Gen.KernelIdeal.Points
public import proofs.«01_k».proof.Proof.Gen.KernelIdeal.Frame

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The grid coordinate is the first: the body then clears the carried states. -/
abbrev isFirst (i : grid0.Coords) : Prop :=
  (Scalar.cmpi .ne (Scalar.extui (Scalar.cmpi .eq (BitVec.ofNat 32 (i 0).val) 0#32)) 0#32) = 1#1

set_option maxHeartbeats 4000000 in
/-- The body at the first grid point: what its stores leave in the three results and in the carried states, as lists of pieces, with the proof that it runs to them from any contents of the scratch. -/
def firstRun (c : Dev nD) (i : grid0.Coords) (arg1 : Memref sig .tc .vmem S512x1024 .f32) (harg1 : arg1.IsWhole) (arg2 : Memref sig .tc .vmem S8x128x512 .bf16) (harg2 : arg2.IsWhole) (arg3 : Memref sig .tc .vmem S8x128x512 .bf16) (harg3 : arg3.IsWhole) (arg4 : Memref sig .tc .vmem S8x8x4096 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S512x4096 .bf16) (harg7 : arg7.IsWhole) (arg8 : Memref sig .tc .vmem S512x4096 .bf16) (harg8 : arg8.IsWhole) (arg9 : Memref sig .tc .vmem S512x1024 .f32) (harg9 : arg9.IsWhole) (arg10 : Memref sig .tc .vmem S2x8x4096 .f32) (harg10 : arg10.IsWhole) (arg11 : Memref sig .tc .vmem S4x512x512 .f32) (harg11 : arg11.IsWhole) (arg12 : Memref sig .tc .vmem S4x512x512 .f32) (harg12 : arg12.IsWhole) (hc : isFirst i)
    (x0 : Vec F S512x1024 .f32) (x1 : Vec F S8x128x512 .bf16) (x2 : Vec F S8x128x512 .bf16) (x3 : Vec F S8x8x4096 .f32) (x4 : Vec F S8x512x128 .bf16) (x5 : Vec F S8x512x128 .bf16) :
    Σ' (L6 : List (View.Piece (Elt F) S512x4096 .bf16)) (L7 : List (View.Piece (Elt F) S512x4096 .bf16)) (L8 : List (View.Piece (Elt F) S512x1024 .f32)), { LS : List (View.Piece (Elt F) S2x8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS) ∗ (∃ d, owns (c : Thread nD τ) arg11 fullShare d) ∗ (∃ d, owns (c : Thread nD τ) arg12 fullShare d)) -∗ K ⟨⟩))
          ⊢ wp frame (wpE (defs₀ (F := F)) Variants.none c none) E (cc0_s5_bwd_1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?go⟩
  case go =>
    simp only [cc0_s5_bwd_1_eq_skeleton]; unfold cc0_s5_bwd_1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]
    · iexists _, _; isplitr; swap; · iexact HS1
      ipureintro; rfl
    iexists _, _; isplitr; swap; · iexact HS2
    ipureintro; rfl

end Cert.KernelIdeal.Scan

end
-- ==== Proof.ScanLater.lean ====
module

public import proofs.«01_k».proof.Proof.Gen.KernelIdeal.Loops
public import proofs.«01_k».proof.Proof.Gen.KernelIdeal.Points
public import proofs.«01_k».proof.Proof.ScanFirst

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at a later grid point, entered with the carried states `xs`: what its stores leave in the three results and in the carried states, with the proof that it runs to them. -/
def laterRun (c : Dev nD) (i : grid0.Coords) (arg1 : Memref sig .tc .vmem S512x1024 .f32) (harg1 : arg1.IsWhole) (arg2 : Memref sig .tc .vmem S8x128x512 .bf16) (harg2 : arg2.IsWhole) (arg3 : Memref sig .tc .vmem S8x128x512 .bf16) (harg3 : arg3.IsWhole) (arg4 : Memref sig .tc .vmem S8x8x4096 .f32) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S512x4096 .bf16) (harg7 : arg7.IsWhole) (arg8 : Memref sig .tc .vmem S512x4096 .bf16) (harg8 : arg8.IsWhole) (arg9 : Memref sig .tc .vmem S512x1024 .f32) (harg9 : arg9.IsWhole) (arg10 : Memref sig .tc .vmem S2x8x4096 .f32) (harg10 : arg10.IsWhole) (arg11 : Memref sig .tc .vmem S4x512x512 .f32) (harg11 : arg11.IsWhole) (arg12 : Memref sig .tc .vmem S4x512x512 .f32) (harg12 : arg12.IsWhole) (hc : ¬isFirst i)
    (x0 : Vec F S512x1024 .f32) (x1 : Vec F S8x128x512 .bf16) (x2 : Vec F S8x128x512 .bf16) (x3 : Vec F S8x8x4096 .f32) (x4 : Vec F S8x512x128 .bf16) (x5 : Vec F S8x512x128 .bf16) (xs : Vec F S2x8x4096 .f32) :
    Σ' (L6 : List (View.Piece (Elt F) S512x4096 .bf16)) (L7 : List (View.Piece (Elt F) S512x4096 .bf16)) (L8 : List (View.Piece (Elt F) S512x1024 .f32)), { LS : List (View.Piece (Elt F) S2x8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS) ∗ (∃ d, owns (c : Thread nD τ) arg11 fullShare d) ∗ (∃ d, owns (c : Thread nD τ) arg12 fullShare d)) -∗ K ⟨⟩))
          ⊢ wp frame (wpE (defs₀ (F := F)) Variants.none c none) E (cc0_s5_bwd_1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?go⟩
  case go =>
    simp only [cc0_s5_bwd_1_eq_skeleton]; unfold cc0_s5_bwd_1_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]
    · iexists _, _; isplitr; swap; · iexact HS1
      ipureintro; rfl
    iexists _, _; isplitr; swap; · iexact HS2
    ipureintro; rfl

end Cert.KernelIdeal.Scan

end
-- ==== Proof.ScanFrame.lean ====
module

public import proofs.«01_k».proof.Proof.ScanLater
public import Idealize.ShloMosaic.Lib.Claim

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Only the first grid point clears the carried states. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [isFirst, e0, e1]
    word_cmp
   : ∀ t : Fin grid0.N, isFirst (grid0.coords t) ↔ t.val = 0)

theorem N_eq : cfg0.N = 8 := N_0
/-- Window 0's staging buffer at point `t`. -/
abbrev mem0 (t : Fin cfg0.N) : Memref sig .tc .vmem S512x1024 .f32 := win0_0.stage (cfg0.slots t 0)
abbrev whole0 (t : Fin cfg0.N) : (mem0 t).IsWhole := hstage0_0 ((cfg0.slots t 0).cast nbuf0_0)
/-- Window 1's staging buffer at point `t`. -/
abbrev mem1 (t : Fin cfg0.N) : Memref sig .tc .vmem S8x128x512 .bf16 := win0_1.stage (cfg0.slots t 1)
abbrev whole1 (t : Fin cfg0.N) : (mem1 t).IsWhole := hstage0_1 ((cfg0.slots t 1).cast nbuf0_1)
/-- Window 2's staging buffer at point `t`. -/
abbrev mem2 (t : Fin cfg0.N) : Memref sig .tc .vmem S8x128x512 .bf16 := win0_2.stage (cfg0.slots t 2)
abbrev whole2 (t : Fin cfg0.N) : (mem2 t).IsWhole := hstage0_2 ((cfg0.slots t 2).cast nbuf0_2)
/-- Window 3's staging buffer at point `t`. -/
abbrev mem3 (t : Fin cfg0.N) : Memref sig .tc .vmem S8x8x4096 .f32 := win0_3.stage (cfg0.slots t 3)
abbrev whole3 (t : Fin cfg0.N) : (mem3 t).IsWhole := hstage0_3 ((cfg0.slots t 3).cast nbuf0_3)
/-- Window 4's staging buffer at point `t`. -/
abbrev mem4 (t : Fin cfg0.N) : Memref sig .tc .vmem S8x512x128 .bf16 := win0_4.stage (cfg0.slots t 4)
abbrev whole4 (t : Fin cfg0.N) : (mem4 t).IsWhole := hstage0_4 ((cfg0.slots t 4).cast nbuf0_4)
/-- Window 5's staging buffer at point `t`. -/
abbrev mem5 (t : Fin cfg0.N) : Memref sig .tc .vmem S8x512x128 .bf16 := win0_5.stage (cfg0.slots t 5)
abbrev whole5 (t : Fin cfg0.N) : (mem5 t).IsWhole := hstage0_5 ((cfg0.slots t 5).cast nbuf0_5)
/-- Window 6's staging buffer at point `t`. -/
abbrev mem6 (t : Fin cfg0.N) : Memref sig .tc .vmem S512x4096 .bf16 := win0_6.stage (cfg0.slots t 6)
abbrev whole6 (t : Fin cfg0.N) : (mem6 t).IsWhole := hstage0_6 ((cfg0.slots t 6).cast nbuf0_6)
/-- Window 7's staging buffer at point `t`. -/
abbrev mem7 (t : Fin cfg0.N) : Memref sig .tc .vmem S512x4096 .bf16 := win0_7.stage (cfg0.slots t 7)
abbrev whole7 (t : Fin cfg0.N) : (mem7 t).IsWhole := hstage0_7 ((cfg0.slots t 7).cast nbuf0_7)
/-- Window 8's staging buffer at point `t`. -/
abbrev mem8 (t : Fin cfg0.N) : Memref sig .tc .vmem S512x1024 .f32 := win0_8.stage (cfg0.slots t 8)
abbrev whole8 (t : Fin cfg0.N) : (mem8 t).IsWhole := hstage0_8 ((cfg0.slots t 8).cast nbuf0_8)
abbrev carry : Memref sig .tc .vmem S2x8x4096 .f32 := Memref.whole cc0_scratch0
abbrev workRe : Memref sig .tc .vmem S4x512x512 .f32 := Memref.whole cc0_scratch1
abbrev workIm : Memref sig .tc .vmem S4x512x512 .f32 := Memref.whole cc0_scratch2
abbrev view6 : View sig .tc .vmem S512x4096 .bf16 := (Memref.whole cc0_stg6_0 : Memref sig .tc .vmem S512x4096 .bf16).view
abbrev view7 : View sig .tc .vmem S512x4096 .bf16 := (Memref.whole cc0_stg7_0 : Memref sig .tc .vmem S512x4096 .bf16).view
abbrev view8 : View sig .tc .vmem S512x1024 .f32 := (Memref.whole cc0_stg8_0 : Memref sig .tc .vmem S512x1024 .f32).view

/-- What the launch hands the body beside the windows: the three scratch buffers and the generator register. -/
theorem rest_eq (c : Dev nD) :
    (Pipeline.ΦA spec0 c : sProp 𝕄)
      = iprop(iprop((∃ d, owns (c : Thread nD τ) carry fullShare d) ∗ (∃ d, owns (c : Thread nD τ) workRe fullShare d) ∗ (∃ d, owns (c : Thread nD τ) workIm fullShare d)) ∗ (∃ r, prngReg c r)) := by
  unfold Pipeline.ΦA; rw [scopedRest0_eq]; simp only [carry, workRe, workIm, owns_whole]; try rfl

variable (m : (ℓ : Loc nD τ sig) → Buf (Elt F) ℓ) (ρ : Dev nD → PrngReg)

/-- The run of the first point on the pipeline's own buffers. -/
def firstAt (c : Dev nD) (t : Fin cfg0.N) (h : t.val = 0) :=
  firstRun (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) carry (Memref.isWhole_whole _) workRe (Memref.isWhole_whole _) workIm (Memref.isWhole_whole _) ((isFirst_iff t).mpr h) (iblk m c 0 t) (iblk m c 1 t) (iblk m c 2 t) (iblk m c 3 t) (iblk m c 4 t) (iblk m c 5 t)

/-- The run of a later point on the pipeline's own buffers, entered with the carried states `xs`. -/
def laterAt (c : Dev nD) (t : Fin cfg0.N) (h : ¬t.val = 0) (xs : Vec F S2x8x4096 .f32) :=
  laterRun (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) carry (Memref.isWhole_whole _) workRe (Memref.isWhole_whole _) workIm (Memref.isWhole_whole _) (fun h' => h ((isFirst_iff t).mp h')) (iblk m c 0 t) (iblk m c 1 t) (iblk m c 2 t) (iblk m c 3 t) (iblk m c 4 t) (iblk m c 5 t) xs

theorem firstCover6 (c : Dev nD) (t : Fin cfg0.N) (h : t.val = 0) (y : S512x4096.Idx) : ∃ pc ∈ (firstAt m c t h).1, y ∈ pc.1.set :=
  View.cover_of_tiledL (firstAt m c t h).1 S512x512.size (by sl_kernel_rfl) y

theorem firstCover7 (c : Dev nD) (t : Fin cfg0.N) (h : t.val = 0) (y : S512x4096.Idx) : ∃ pc ∈ (firstAt m c t h).2.1, y ∈ pc.1.set :=
  View.cover_of_tiledL (firstAt m c t h).2.1 S512x512.size (by sl_kernel_rfl) y

theorem firstCover8 (c : Dev nD) (t : Fin cfg0.N) (h : t.val = 0) (y : S512x1024.Idx) : ∃ pc ∈ (firstAt m c t h).2.2.1, y ∈ pc.1.set :=
  View.cover_of_tiledL (firstAt m c t h).2.2.1 S512x128.size (by sl_kernel_rfl) y

theorem firstCoverS (c : Dev nD) (t : Fin cfg0.N) (h : t.val = 0) (y : S2x8x4096.Idx) : ∃ pc ∈ (firstAt m c t h).2.2.2.1, y ∈ pc.1.set := by
  obtain ⟨pc, hm, hy⟩ := View.cover_of_tiledL (((firstAt m c t h).2.2.2.1).take 16) S1x8x512.size (by sl_kernel_rfl) y
  exact ⟨pc, List.mem_of_mem_take hm, hy⟩

theorem laterCover6 (c : Dev nD) (t : Fin cfg0.N) (h : ¬t.val = 0) (xs : Vec F S2x8x4096 .f32) (y : S512x4096.Idx) : ∃ pc ∈ (laterAt m c t h xs).1, y ∈ pc.1.set :=
  View.cover_of_tiledL (laterAt m c t h xs).1 S512x512.size (by sl_kernel_rfl) y

theorem laterCover7 (c : Dev nD) (t : Fin cfg0.N) (h : ¬t.val = 0) (xs : Vec F S2x8x4096 .f32) (y : S512x4096.Idx) : ∃ pc ∈ (laterAt m c t h xs).2.1, y ∈ pc.1.set :=
  View.cover_of_tiledL (laterAt m c t h xs).2.1 S512x512.size (by sl_kernel_rfl) y

theorem laterCover8 (c : Dev nD) (t : Fin cfg0.N) (h : ¬t.val = 0) (xs : Vec F S2x8x4096 .f32) (y : S512x1024.Idx) : ∃ pc ∈ (laterAt m c t h xs).2.2.1, y ∈ pc.1.set :=
  View.cover_of_tiledL (laterAt m c t h xs).2.2.1 S512x128.size (by sl_kernel_rfl) y

theorem laterCoverS (c : Dev nD) (t : Fin cfg0.N) (h : ¬t.val = 0) (xs : Vec F S2x8x4096 .f32) (y : S2x8x4096.Idx) : ∃ pc ∈ (laterAt m c t h xs).2.2.2.1, y ∈ pc.1.set :=
  View.cover_of_tiledL (laterAt m c t h xs).2.2.2.1 S1x8x512.size (by sl_kernel_rfl) y

/-- What a point leaves: the three blocks of the results, and the carried states. -/
abbrev Left (F : FTy → Type) : Type := Vec F S512x4096 .bf16 × Vec F S512x4096 .bf16 × Vec F S512x1024 .f32 × Vec F S2x8x4096 .f32

/-- The pieces of a run read back, whatever was there before. -/
def readBack (L6 L7 : List (View.Piece (Elt F) S512x4096 .bf16)) (L8 : List (View.Piece (Elt F) S512x1024 .f32)) (LS : List (View.Piece (Elt F) S2x8x4096 .f32)) : Left F :=
  (view6.read (Elt F) (view6.writes (Elt F) view6.junk L6), view7.read (Elt F) (view7.writes (Elt F) view7.junk L7),
    view8.read (Elt F) (view8.writes (Elt F) view8.junk L8), carry.view.read (Elt F) (carry.view.writes (Elt F) carry.view.junk LS))

def firstLeft (c : Dev nD) (t : Fin cfg0.N) (h : t.val = 0) : Left F :=
  readBack (firstAt m c t h).1 (firstAt m c t h).2.1 (firstAt m c t h).2.2.1 (firstAt m c t h).2.2.2.1

def laterLeft (c : Dev nD) (t : Fin cfg0.N) (h : ¬t.val = 0) (xs : Vec F S2x8x4096 .f32) : Left F :=
  readBack (laterAt m c t h xs).1 (laterAt m c t h xs).2.1 (laterAt m c t h xs).2.2.1 (laterAt m c t h xs).2.2.2.1

/-- What each point leaves, the carried states handed from point to point. -/
def leftAt (c : Dev nD) : (n : ℕ) → n < cfg0.N → Left F
  | 0, hn => firstLeft m c ⟨0, hn⟩ rfl
  | n + 1, hn => laterLeft m c ⟨n + 1, hn⟩ (Nat.succ_ne_zero n) (leftAt c n (by omega)).2.2.2

theorem leftAt_first (c : Dev nD) (t : Fin cfg0.N) (h : t.val = 0) : leftAt m c t.val t.isLt = firstLeft m c t h := by
  obtain ⟨n, hn⟩ := t
  obtain rfl : n = 0 := h
  rfl

theorem leftAt_later (c : Dev nD) (t : Fin cfg0.N) (h : ¬t.val = 0) :
    leftAt m c t.val t.isLt = laterLeft m c t h (leftAt m c (t.val - 1) (by have := t.isLt; omega)).2.2.2 := by
  obtain ⟨n, hn⟩ := t
  cases n with
  | zero => exact absurd rfl h
  | succ n => rfl

/-- The invariant before point `n`: what the launch hands over before the first, and later the carried states at what
    the point before left, the other scratch at anything. -/
def inv (c : Dev nD) : (n : ℕ) → n ≤ cfg0.N → sProp 𝕄
  | 0, _ => Pipeline.ΦA spec0 c
  | n + 1, hn => iprop(iprop(owns (c : Thread nD τ) carry fullShare (leftAt m c n hn).2.2.2 ∗ (∃ d, owns (c : Thread nD τ) workRe fullShare d) ∗ (∃ d, owns (c : Thread nD τ) workIm fullShare d)) ∗ (∃ r, prngReg c r))

theorem inv_first (c : Dev nD) (n : ℕ) (h : n ≤ cfg0.N) (hz : n = 0) : inv m c n h = Pipeline.ΦA spec0 c := by
  subst hz; rfl

theorem inv_later (c : Dev nD) (n : ℕ) (h : n ≤ cfg0.N) (hz : ¬n = 0) :
    inv m c n h = iprop(iprop(owns (c : Thread nD τ) carry fullShare (leftAt m c (n - 1) (by omega)).2.2.2 ∗ (∃ d, owns (c : Thread nD τ) workRe fullShare d) ∗ (∃ d, owns (c : Thread nD τ) workIm fullShare d)) ∗ (∃ r, prngReg c r)) := by
  cases n with
  | zero => exact absurd rfl hz
  | succ n => rfl

/-- The pipeline's proof data: arrays as the region finds them, inputs' buffers at their blocks, outputs' at `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t.val t.isLt).1
    | ⟨7, _⟩ => (leftAt m c t.val t.isLt).2.1
    | ⟨8, _⟩ => (leftAt m c t.val t.isLt).2.2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (leftAt m c t.val t.isLt).1 := by dsimp only [dats]
theorem after7 (c : Dev nD) (t : Fin cfg0.N) : (dats m 0 c).after 7 t = (leftAt m c t.val t.isLt).2.1 := by dsimp only [dats]
theorem after8 (c : Dev nD) (t : Fin cfg0.N) : (dats m 0 c).after 8 t = (leftAt m c t.val t.isLt).2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

set_option maxHeartbeats 4000000 in
/-- The body's triple at every point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8]
  rw [show (dats m 0 c).Φ t.castSucc = inv m c t.val (Nat.le_of_lt t.isLt) from rfl,
    show (dats m 0 c).Φ t.succ = inv m c (t.val + 1) t.isLt from rfl,
    inv_later m c (t.val + 1) _ (Nat.succ_ne_zero _)]
  simp only [Nat.add_sub_cancel]
  by_cases h : t.val = 0
  · rw [inv_first m c _ _ h, rest_eq, leftAt_first m c t h]
    unfold firstLeft readBack; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((firstAt m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%e9, HS0⟩, HS1, HS2⟩
    isplitl [HS0 HS1 HS2 Hg]
    · isplitl [HS0 HS1 HS2]
      · isplitl [HS0]
        · unfold owns; iexists _; isplitr
          swap; · iexact HS0
          ipureintro; exact View.read_writes_of_cover _ _ _ _ _ (firstCoverS m c t h)
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (firstCover6 m c t h)
    isplitl [H7]
    · unfold owns; iexists _; isplitr
      swap; · iexact H7
      ipureintro; exact View.read_writes_of_cover _ _ _ _ _ (firstCover7 m c t h)
    unfold owns; iexists _; isplitr
    swap; · iexact H8
    ipureintro; exact View.read_writes_of_cover _ _ _ _ _ (firstCover8 m c t h)
  · rw [inv_later m c _ _ h, leftAt_later m c t h]
    unfold laterLeft readBack; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((laterAt m c t h _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%e9, HS0⟩, HS1, HS2⟩
    isplitl [HS0 HS1 HS2 Hg]
    · isplitl [HS0 HS1 HS2]
      · isplitl [HS0]
        · unfold owns; iexists _; isplitr
          swap; · iexact HS0
          ipureintro; exact View.read_writes_of_cover _ _ _ _ _ (laterCoverS m c t h _)
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (laterCover6 m c t h _)
    isplitl [H7]
    · unfold owns; iexists _; isplitr
      swap; · iexact H7
      ipureintro; exact View.read_writes_of_cover _ _ _ _ _ (laterCover7 m c t h _)
    unfold owns; iexists _; isplitr
    swap; · iexact H8
    ipureintro; exact View.read_writes_of_cover _ _ _ _ _ (laterCover8 m c t h _)

theorem table_row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, table_row]
  exact triple_restated (body_sound m c t) rfl .rfl fun _ => .rfl

theorem enter (c : Dev nD) : (Pipeline.ΦA spec0 c : sProp 𝕄) ⊢ (dats m 0 c).Φ 0 := by
  rw [show (dats m 0 c).Φ 0 = inv m c 0 (Nat.zero_le _) from rfl, inv_first m c 0 _ rfl]
  try exact Idealize.SL.BI.Entails.refl _

theorem leave (c : Dev nD) : (dats m 0 c).Φ (Fin.last cfg0.N) ⊢ (Pipeline.ΦA spec0 c : sProp 𝕄) := by
  rw [show (dats m 0 c).Φ (Fin.last cfg0.N) = inv m c (Fin.last cfg0.N).val (Nat.le_of_lt_succ (Fin.last cfg0.N).isLt) from rfl,
    inv_later m c _ _ (by rw [Fin.val_last, N_eq]; decide), rest_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The run: every execution ends with the pipeline's arrays at what the proof data computes, and the counters at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run m ρ))) ((θ_run defs _ _).mono (fun _ h => h.2) (run m ρ))

end Cert.KernelIdeal.Scan

end
-- ==== Proof.lean ====
/- The claims of `Defs.lean`: the scan of the recurrence's backward pass, the products of the feed-forward
block, those of the output, gate and input projections, the passes over rows, and the optimiser's step. -/
module

public import proofs.«01_k».proof.Defs
public import proofs.«01_k».proof.Proof.Gen.DownDx.Frame
public import proofs.«01_k».proof.Proof.DownDx
public import proofs.«01_k».proof.Proof.Gen.DownDw.Frame
public import proofs.«01_k».proof.Proof.DownDw
public import proofs.«01_k».proof.Proof.Gen.UpGateDx.Frame
public import proofs.«01_k».proof.Proof.UpGateDx
public import proofs.«01_k».proof.Proof.Gen.GateDw.Frame
public import proofs.«01_k».proof.Proof.GateDw
public import proofs.«01_k».proof.Proof.Gen.UpDw.Frame
public import proofs.«01_k».proof.Proof.UpDw
public import proofs.«01_k».proof.Proof.Gen.OutDx.Frame
public import proofs.«01_k».proof.Proof.OutDx
public import proofs.«01_k».proof.Proof.Gen.OutDw.Frame
public import proofs.«01_k».proof.Proof.OutDw
public import proofs.«01_k».proof.Proof.Gen.GluDx.Frame
public import proofs.«01_k».proof.Proof.GluDx
public import proofs.«01_k».proof.Proof.Gen.GluDw.Frame
public import proofs.«01_k».proof.Proof.GluDw
public import proofs.«01_k».proof.Proof.Gen.InProj.Frame
public import proofs.«01_k».proof.Proof.InProj
public import proofs.«01_k».proof.Proof.Gen.GluProj.Frame
public import proofs.«01_k».proof.Proof.GluProj
public import proofs.«01_k».proof.Proof.Gen.GateUp.Frame
public import proofs.«01_k».proof.Proof.GateUp
public import proofs.«01_k».proof.Proof.Gen.FfnDown.Frame
public import proofs.«01_k».proof.Proof.FfnDown
public import proofs.«01_k».proof.Proof.Gen.InDw.Frame
public import proofs.«01_k».proof.Proof.InDw
public import proofs.«01_k».proof.Proof.Gen.InDx.Frame
public import proofs.«01_k».proof.Proof.InDx
public import proofs.«01_k».proof.Proof.Gen.OutProj.Frame
public import proofs.«01_k».proof.Proof.OutProj
public import proofs.«01_k».proof.Proof.Gen.Rms.Frame
public import proofs.«01_k».proof.Proof.Rms
public import proofs.«01_k».proof.Proof.Gen.MixOutIdeal.Value
public import proofs.«01_k».proof.Proof.Gen.MixOut.Frame
public import proofs.«01_k».proof.Proof.Gen.MixOutRefIdeal.Run
public import proofs.«01_k».proof.Proof.Gen.MixOutRefIdeal.Read
public import proofs.«01_k».proof.Proof.MixOut
public import proofs.«01_k».proof.Proof.Gen.Loss.Frame
public import proofs.«01_k».proof.Proof.Loss
public import proofs.«01_k».proof.Proof.Gen.AdamModel.Frame
public import proofs.«01_k».proof.Proof.AdamModel
public import proofs.«01_k».proof.Proof.Gen.AdamHead.Frame
public import proofs.«01_k».proof.Proof.AdamHead
public import proofs.«01_k».proof.Proof.Gen.AdamWidth.Frame
public import proofs.«01_k».proof.Proof.AdamWidth
public import proofs.«01_k».proof.Proof.Gen.AdamBias.Frame
public import proofs.«01_k».proof.Proof.AdamBias
public import proofs.«01_k».proof.Proof.Gen.AdamState.Frame
public import proofs.«01_k».proof.Proof.AdamState
public import proofs.«01_k».proof.Proof.Gen.AdamMatrix.Frame
public import proofs.«01_k».proof.Proof.AdamMatrix
public import proofs.«01_k».proof.Proof.Gen.AdamStep.Frame
public import proofs.«01_k».proof.Proof.AdamStep
public import proofs.«01_k».proof.Proof.AdamIn
public import proofs.«01_k».proof.Proof.AdamGlu
public import proofs.«01_k».proof.Proof.AdamOut
public import proofs.«01_k».proof.Proof.AdamGate
public import proofs.«01_k».proof.Proof.AdamDown
public import proofs.«01_k».proof.Proof.ScanFrame
public import proofs.«01_k».proof.Proof.PrintedScanFrame
public import Idealize.ShloMosaic.Adequacy
public import Idealize.ShloMosaic.Init

@[expose] public section

set_option maxRecDepth 16384

noncomputable section

namespace Cert.Proof

open Idealize.ShloMosaic Idealize.SL.Sem

/-- A host program has no counter to return to zero. -/
theorem DownDx_reference_frame : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- Both programs leave the same array. -/
theorem DownDx_value : Cert.algebraic_DownDxIdeal_DownDxRefIdeal := fun m ρ m' ρ' _ hag =>
  ⟨fun c => Cert.DownDxIdeal.Product.result m c, Cert.DownDxIdeal.Product.run m ρ,
    (θ_run Cert.DownDxRefIdeal.defs _ _).mono (fun _ h c => ⟨(h c).1.trans ((Cert.DownDxRefIdeal.Read.val_main_v5_eq _ _).trans
      ((Cert.DownDxRefIdeal.Product.value_eq _ _).trans (by rw [(hag c).1, (hag c).2]))), (h c).2⟩)
      (Cert.DownDxRefIdeal.Value.run (F := Ideal) m' ρ')⟩

/-- A host program has no counter to return to zero. -/
theorem DownDw_reference_frame : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- Both programs leave the same array. -/
theorem DownDw_value : Cert.algebraic_DownDwIdeal_DownDwRefIdeal := fun m ρ m' ρ' _ hag =>
  ⟨fun c => Cert.DownDwIdeal.Product.result m c, Cert.DownDwIdeal.Product.run m ρ,
    (θ_run Cert.DownDwRefIdeal.defs _ _).mono (fun _ h c => ⟨(h c).1.trans ((Cert.DownDwRefIdeal.Read.val_main_v4_eq _ _).trans
      ((Cert.DownDwRefIdeal.Product.value_eq _ _).trans (by rw [(hag c).1, (hag c).2]))), (h c).2⟩)
      (Cert.DownDwRefIdeal.Value.run (F := Ideal) m' ρ')⟩

/-- A host program has no counter to return to zero. -/
theorem UpGateDx_reference_frame : Cert.quiescent_UpGateDxRefIdeal := fun m ρ _ =>
  (θ_run Cert.UpGateDxRefIdeal.defs _ _).mono (fun r h => ⟨fun c => (h c).2, sem_eq_zero_of_no_sems (by decide) r.2⟩)
    (Cert.UpGateDxRefIdeal.Value.run (F := Ideal) m ρ)

/-- Both programs leave the same array. -/
theorem UpGateDx_value : Cert.algebraic_UpGateDxIdeal_UpGateDxRefIdeal := fun m ρ m' ρ' _ hag =>
  ⟨fun c => Cert.UpGateDxIdeal.Product.result m c, Cert.UpGateDxIdeal.Product.run m ρ,
    (θ_run Cert.UpGateDxRefIdeal.defs _ _).mono (fun _ h c => ⟨(h c).1.trans ((Cert.UpGateDxRefIdeal.Read.val_main_v5_eq _ _ _ _).trans
      ((Cert.UpGateDxRefIdeal.Product.value_eq _ _ _ _).trans (by rw [(hag c).1, (hag c).2.1, (hag c).2.2.1, (hag c).2.2.2]))), (h c).2⟩)
      (Cert.UpGateDxRefIdeal.Value.run (F := Ideal) m' ρ')⟩

/-- A host program has no counter to return to zero. -/
theorem GateDw_reference_frame : Cert.quiescent_GateDwRefIdeal := fun m ρ _ =>
  (θ_run Cert.GateDwRefIdeal.defs _ _).mono (fun r h => ⟨fun c => (h c).2, sem_eq_zero_of_no_sems (by decide) r.2⟩)
    (Cert.GateDwRefIdeal.Value.run (F := Ideal) m ρ)

/-- Both programs leave the same array. -/
theorem GateDw_value : Cert.algebraic_GateDwIdeal_GateDwRefIdeal := fun m ρ m' ρ' _ hag =>
  ⟨fun c => Cert.GateDwIdeal.Product.result m c, Cert.GateDwIdeal.Product.run m ρ,
    (θ_run Cert.GateDwRefIdeal.defs _ _).mono (fun _ h c => ⟨(h c).1.trans ((Cert.GateDwRefIdeal.Read.val_main_v5_eq _ _).trans
      ((Cert.GateDwRefIdeal.Product.value_eq _ _).trans (by rw [(hag c).1, (hag c).2]))), (h c).2⟩)
      (Cert.GateDwRefIdeal.Value.run (F := Ideal) m' ρ')⟩

/-- A host program has no counter to return to zero. -/
theorem UpDw_reference_frame : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- Both programs leave the same array. -/
theorem UpDw_value : Cert.algebraic_UpDwIdeal_UpDwRefIdeal := fun m ρ m' ρ' _ hag =>
  ⟨fun c => Cert.UpDwIdeal.Product.result m c, Cert.UpDwIdeal.Product.run m ρ,
    (θ_run Cert.UpDwRefIdeal.defs _ _).mono (fun _ h c => ⟨(h c).1.trans ((Cert.UpDwRefIdeal.Read.val_main_v5_eq _ _).trans
      ((Cert.UpDwRefIdeal.Product.value_eq _ _).trans (by rw [(hag c).1, (hag c).2]))), (h c).2⟩)
      (Cert.UpDwRefIdeal.Value.run (F := Ideal) m' ρ')⟩

/-- A host program has no counter to return to zero. -/
theorem OutDx_reference_frame : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

/-- Both programs leave the same array. -/
theorem OutDx_value : Cert.algebraic_OutDxIdeal_OutDxRefIdeal := fun m ρ m' ρ' _ hag =>
  ⟨fun c => Cert.OutDxIdeal.Product.result m c, Cert.OutDxIdeal.Product.run m ρ,
    (θ_run Cert.OutDxRefIdeal.defs _ _).mono (fun _ h c => ⟨(h c).1.trans ((Cert.OutDxRefIdeal.Read.val_main_v2_eq _ _).trans
      ((Cert.OutDxRefIdeal.Product.value_eq _ _).trans (by rw [(hag c).1, (hag c).2]))), (h c).2⟩)
      (Cert.OutDxRefIdeal.Value.run (F := Ideal) m' ρ')⟩

/-- A host program has no counter to return to zero. -/
theorem OutDw_reference_frame : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- Both programs leave the same array. -/
theorem OutDw_value : Cert.algebraic_OutDwIdeal_OutDwRefIdeal := fun m ρ m' ρ' _ hag =>
  ⟨fun c => Cert.OutDwIdeal.Product.result m c, Cert.OutDwIdeal.Product.run m ρ,
    (θ_run Cert.OutDwRefIdeal.defs _ _).mono (fun _ h c => ⟨(h c).1.trans ((Cert.OutDwRefIdeal.Read.val_main_v3_eq _ _).trans
      ((Cert.OutDwRefIdeal.Product.value_eq _ _).trans (by rw [(hag c).1, (hag c).2]))), (h c).2⟩)
      (Cert.OutDwRefIdeal.Value.run (F := Ideal) m' ρ')⟩

/-- A host program has no counter to return to zero. -/
theorem GluDx_reference_frame : Cert.quiescent_GluDxRefIdeal := fun m ρ _ =>
  (θ_run Cert.GluDxRefIdeal.defs _ _).mono (fun r h => ⟨fun c => (h c).2, sem_eq_zero_of_no_sems (by decide) r.2⟩)
    (Cert.GluDxRefIdeal.Value.run (F := Ideal) m ρ)

/-- Both programs leave the same array. -/
theorem GluDx_value : Cert.algebraic_GluDxIdeal_GluDxRefIdeal := fun m ρ m' ρ' _ hag =>
  ⟨fun c => Cert.GluDxIdeal.Product.result m c, Cert.GluDxIdeal.Product.run m ρ,
    (θ_run Cert.GluDxRefIdeal.defs _ _).mono (fun _ h c => ⟨(h c).1.trans ((Cert.GluDxRefIdeal.Read.val_main_v3_eq _ _ _).trans
      ((Cert.GluDxRefIdeal.Product.value_eq _ _ _).trans (by rw [(hag c).1, (hag c).2.1, (hag c).2.2]))), (h c).2⟩)
      (Cert.GluDxRefIdeal.Value.run (F := Ideal) m' ρ')⟩

/-- A host program has no counter to return to zero. -/
theorem GluDw_reference_frame : Cert.quiescent_GluDwRefIdeal := fun m ρ _ =>
  (θ_run Cert.GluDwRefIdeal.defs _ _).mono (fun r h => ⟨fun c => (h c).2, sem_eq_zero_of_no_sems (by decide) r.2⟩)
    (Cert.GluDwRefIdeal.Value.run (F := Ideal) m ρ)

/-- Both programs leave the same array. -/
theorem GluDw_value : Cert.algebraic_GluDwIdeal_GluDwRefIdeal := fun m ρ m' ρ' _ hag =>
  ⟨fun c => Cert.GluDwIdeal.Product.result m c, Cert.GluDwIdeal.Product.run m ρ,
    (θ_run Cert.GluDwRefIdeal.defs _ _).mono (fun _ h c => ⟨(h c).1.trans ((Cert.GluDwRefIdeal.Read.val_main_v3_eq _ _).trans
      ((Cert.GluDwRefIdeal.Product.value_eq _ _).trans (by rw [(hag c).1, (hag c).2]))), (h c).2⟩)
      (Cert.GluDwRefIdeal.Value.run (F := Ideal) m' ρ')⟩

/-- A host program has no counter to return to zero. -/
theorem InProj_reference_frame : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Both programs leave the same array. -/
theorem InProj_value : Cert.algebraic_InProjIdeal_InProjRefIdeal := fun m ρ m' ρ' _ hag =>
  ⟨fun c => Cert.InProjIdeal.Product.result m c, Cert.InProjIdeal.Product.run m ρ,
    (θ_run Cert.InProjRefIdeal.defs _ _).mono (fun _ h c => ⟨(h c).1.trans ((Cert.InProjRefIdeal.Read.val_main_v0_eq _ _).trans
      ((Cert.InProjRefIdeal.Product.value_eq _ _).trans (by rw [(hag c).1, (hag c).2]))), (h c).2⟩)
      (Cert.InProjRefIdeal.Value.run (F := Ideal) m' ρ')⟩

/-- A host program has no counter to return to zero. -/
theorem GluProj_reference_frame : Cert.quiescent_GluProjRefIdeal := fun m ρ _ =>
  (θ_run Cert.GluProjRefIdeal.defs _ _).mono (fun r h => ⟨fun c => (h c).2, sem_eq_zero_of_no_sems (by decide) r.2⟩)
    (Cert.GluProjRefIdeal.Value.run (F := Ideal) m ρ)

/-- Both programs leave the same array. -/
theorem GluProj_value : Cert.algebraic_GluProjIdeal_GluProjRefIdeal := fun m ρ m' ρ' _ hag =>
  ⟨fun c => Cert.GluProjIdeal.Product.result m c, Cert.GluProjIdeal.Product.run m ρ,
    (θ_run Cert.GluProjRefIdeal.defs _ _).mono (fun _ h c => ⟨(h c).1.trans ((Cert.GluProjRefIdeal.Read.val_main_v0_eq _ _).trans
      ((Cert.GluProjRefIdeal.Product.value_eq _ _).trans (by rw [(hag c).1, (hag c).2]))), (h c).2⟩)
      (Cert.GluProjRefIdeal.Value.run (F := Ideal) m' ρ')⟩

/-- A host program has no counter to return to zero. -/
theorem GateUp_reference_frame : Cert.quiescent_GateUpRefIdeal := fun m ρ _ =>
  (θ_run Cert.GateUpRefIdeal.defs _ _).mono (fun r h => ⟨fun c => (h c).2.2.2, sem_eq_zero_of_no_sems (by decide) r.2⟩)
    (Cert.GateUpRefIdeal.Value.run (F := Ideal) m ρ)

/-- Both programs leave the same three arrays. -/
theorem GateUp_value : Cert.algebraic_GateUpIdeal_GateUpRefIdeal := fun m ρ m' ρ' _ hag =>
  ⟨fun c => Cert.GateUpIdeal.Product.result3 m c, fun c => Cert.GateUpIdeal.Product.result4 m c, fun c => Cert.GateUpIdeal.Product.result5 m c,
    Cert.GateUpIdeal.Product.run m ρ,
    (θ_run Cert.GateUpRefIdeal.defs _ _).mono (fun _ h c => ⟨(h c).1.trans ((Cert.GateUpRefIdeal.Read.val_main_v6_eq _ _).trans
        ((Cert.GateUpRefIdeal.Product.gate_eq _ _).trans (by rw [(hag c).1, (hag c).2.1]))),
      (h c).2.1.trans ((Cert.GateUpRefIdeal.Read.val_main_v9_eq _ _).trans
        ((Cert.GateUpRefIdeal.Product.up_eq _ _).trans (by rw [(hag c).1, (hag c).2.2]))),
      (h c).2.2.1.trans ((Cert.GateUpRefIdeal.Read.val_main_v13_eq _ _ _).trans
        ((Cert.GateUpRefIdeal.Product.gated_eq _ _ _).trans (by rw [(hag c).1, (hag c).2.1, (hag c).2.2]))), (h c).2.2.2⟩)
      (Cert.GateUpRefIdeal.Value.run (F := Ideal) m' ρ')⟩

/-- A host program has no counter to return to zero. -/
theorem FfnDown_reference_frame : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- Both programs leave the same array. -/
theorem FfnDown_value : Cert.algebraic_FfnDownIdeal_FfnDownRefIdeal := fun m ρ m' ρ' _ hag =>
  ⟨fun c => Cert.FfnDownIdeal.Product.result m c, Cert.FfnDownIdeal.Product.run m ρ,
    (θ_run Cert.FfnDownRefIdeal.defs _ _).mono (fun _ h c => ⟨(h c).1.trans ((Cert.FfnDownRefIdeal.Read.val_main_v0_eq _ _).trans
      ((Cert.FfnDownRefIdeal.Product.value_eq _ _).trans (by rw [(hag c).1, (hag c).2]))), (h c).2⟩)
      (Cert.FfnDownRefIdeal.Value.run (F := Ideal) m' ρ')⟩

/-- A host program has no counter to return to zero. -/
theorem InDw_reference_frame : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- Both programs leave the same array. -/
theorem InDw_value : Cert.algebraic_InDwIdeal_InDwRefIdeal := fun m ρ m' ρ' _ hag =>
  ⟨fun c => Cert.InDwIdeal.Product.result m c, Cert.InDwIdeal.Product.run m ρ,
    (θ_run Cert.InDwRefIdeal.defs _ _).mono (fun _ h c => ⟨(h c).1.trans ((Cert.InDwRefIdeal.Read.val_main_v5_eq _ _).trans
      ((Cert.InDwRefIdeal.Product.value_eq _ _).trans (by rw [(hag c).1, (hag c).2]))), (h c).2⟩)
      (Cert.InDwRefIdeal.Value.run (F := Ideal) m' ρ')⟩

/-- A host program has no counter to return to zero. -/
theorem InDx_reference_frame : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- Both programs leave the same array. -/
theorem InDx_value : Cert.algebraic_InDxIdeal_InDxRefIdeal := fun m ρ m' ρ' _ hag =>
  ⟨fun c => Cert.InDxIdeal.Product.result m c, Cert.InDxIdeal.Product.run m ρ,
    (θ_run Cert.InDxRefIdeal.defs _ _).mono (fun _ h c => ⟨(h c).1.trans ((Cert.InDxRefIdeal.Read.val_main_v2_eq _ _).trans
      ((Cert.InDxRefIdeal.Product.value_eq _ _).trans (by rw [(hag c).1, (hag c).2]))), (h c).2⟩)
      (Cert.InDxRefIdeal.Value.run (F := Ideal) m' ρ')⟩

/-- A host program has no counter to return to zero. -/
theorem OutProj_reference_frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- Both programs leave the same array. -/
theorem OutProj_value : Cert.algebraic_OutProjIdeal_OutProjRefIdeal := fun m ρ m' ρ' _ hag =>
  ⟨fun c => Cert.OutProjIdeal.Product.result m c, Cert.OutProjIdeal.Product.run m ρ,
    (θ_run Cert.OutProjRefIdeal.defs _ _).mono (fun _ h c => ⟨(h c).1.trans ((Cert.OutProjRefIdeal.Read.val_main_v1_eq _ _ _).trans
      ((Cert.OutProjRefIdeal.Product.value_eq _ _ _).trans (by rw [(hag c).1, (hag c).2.1, (hag c).2.2]))), (h c).2⟩)
      (Cert.OutProjRefIdeal.Value.run (F := Ideal) m' ρ')⟩

/-- A host program has no counter to return to zero. -/
theorem Rms_reference_frame : Cert.quiescent_RmsRefIdeal := fun m ρ _ =>
  (θ_run Cert.RmsRefIdeal.defs _ _).mono (fun r h => ⟨fun c => (h c).2.2, sem_eq_zero_of_no_sems (by decide) r.2⟩)
    (Cert.RmsRefIdeal.Value.run (F := Ideal) m ρ)

/-- Both programs leave the same arrays. -/
theorem Rms_value : Cert.algebraic_RmsIdeal_RmsRefIdeal := fun m ρ m' ρ' _ hag =>
  ⟨fun c => Cert.RmsIdeal.Product.result4 m c, fun c => Cert.RmsIdeal.Product.result5 m c,
    Cert.RmsIdeal.Product.run m ρ,
    (θ_run Cert.RmsRefIdeal.defs _ _).mono (fun _ h c => ⟨(h c).1.trans ((Cert.RmsRefIdeal.Read.val_main_v35_eq _ _ _ _).trans
        ((Cert.RmsRefIdeal.Product.rows_eq _ _ _ _).trans (by rw [(hag c).1, (hag c).2.1, (hag c).2.2.1, (hag c).2.2.2]))),
      (h c).2.1.trans ((Cert.RmsRefIdeal.Read.val_main_v18_eq _ _).trans
        ((Cert.RmsRefIdeal.Product.gain_eq _ _).trans (by rw [(hag c).2.1, (hag c).2.2.1]))), (h c).2.2⟩)
      (Cert.RmsRefIdeal.Value.run (F := Ideal) m' ρ')⟩

/-- A host program has no counter to return to zero. -/
theorem MixOut_reference_frame : Cert.quiescent_MixOutRefIdeal := fun m ρ _ =>
  (θ_run Cert.MixOutRefIdeal.defs _ _).mono (fun r h => ⟨fun c => (h c).2.2.2.2.2.2, sem_eq_zero_of_no_sems (by decide) r.2⟩)
    (Cert.MixOutRefIdeal.Value.run (F := Ideal) m ρ)

/-- Both programs leave the same arrays. -/
theorem MixOut_value : Cert.algebraic_MixOutIdeal_MixOutRefIdeal := fun m ρ m' ρ' _ hag =>
  ⟨fun c => Cert.MixOutIdeal.Product.result7 m c, fun c => Cert.MixOutIdeal.Product.result8 m c, fun c => Cert.MixOutIdeal.Product.result9 m c, fun c => Cert.MixOutIdeal.Product.result10 m c, fun c => Cert.MixOutIdeal.Product.result11 m c, fun c => Cert.MixOutIdeal.Product.result12 m c,
    Cert.MixOutIdeal.Product.run m ρ,
    (θ_run Cert.MixOutRefIdeal.defs _ _).mono (fun _ h c => ⟨(h c).1.trans ((Cert.MixOutRefIdeal.Read.val_main_v90_eq _ _).trans
        ((Cert.MixOutRefIdeal.Product.firsts_eq _ _ _).trans (by rw [(hag c).1, (hag c).2.1, (hag c).2.2.2.2.2.1]))),
      (h c).2.1.trans ((Cert.MixOutRefIdeal.Read.val_main_v68_eq _ _).trans
        ((Cert.MixOutRefIdeal.Product.states_eq _ _ _ _ _).trans (by rw [(hag c).1, (hag c).2.2.1, (hag c).2.2.2.1, (hag c).2.2.2.2.1, (hag c).2.2.2.2.2.2]))),
      (h c).2.2.1.trans ((Cert.MixOutRefIdeal.Read.val_main_v91_eq _ _).trans
        ((Cert.MixOutRefIdeal.Product.arguments_eq _ _ _ _ _).trans (by rw [(hag c).1, (hag c).2.2.1, (hag c).2.2.2.1, (hag c).2.2.2.2.1, (hag c).2.2.2.2.2.2]))),
      (h c).2.2.2.1.trans ((Cert.MixOutRefIdeal.Read.val_main_v74_eq _ _).trans
        ((Cert.MixOutRefIdeal.Product.firstSums_eq _ _).trans (by rw [(hag c).1, (hag c).2.1]))),
      (h c).2.2.2.2.1.trans ((Cert.MixOutRefIdeal.Read.val_main_v50_eq _ _ _ _).trans
        ((Cert.MixOutRefIdeal.Product.secondSums_eq _ _ _ _).trans (by rw [(hag c).1, (hag c).2.2.1, (hag c).2.2.2.1, (hag c).2.2.2.2.1]))),
      (h c).2.2.2.2.2.1.trans ((Cert.MixOutRefIdeal.Read.val_main_v71_eq _ _).trans
        ((Cert.MixOutRefIdeal.Product.argumentSums_eq _ _ _ _ _).trans (by rw [(hag c).1, (hag c).2.2.1, (hag c).2.2.2.1, (hag c).2.2.2.2.1, (hag c).2.2.2.2.2.2]))), (h c).2.2.2.2.2.2⟩)
      (Cert.MixOutRefIdeal.Value.run (F := Ideal) m' ρ')⟩

/-- A host program has no counter to return to zero. -/
theorem Loss_reference_frame : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- Both programs leave the same arrays. -/
theorem Loss_value : Cert.algebraic_LossIdeal_LossRefIdeal := fun m ρ m' ρ' _ hag =>
  ⟨fun c => Cert.LossIdeal.Product.result3 m c, fun c => Cert.LossIdeal.Product.result4 m c, fun c => Cert.LossIdeal.Product.result5 m c,
    Cert.LossIdeal.Product.run m ρ,
    (θ_run Cert.LossRefIdeal.defs _ _).mono (fun _ h c => ⟨(h c).1.trans ((Cert.LossRefIdeal.Read.val_main_v15_eq _ _ _).trans
        ((Cert.LossRefIdeal.Product.grads_eq _ _ _).trans (by rw [(hag c).1, (hag c).2.1, (hag c).2.2]))),
      (h c).2.1.trans ((Cert.LossRefIdeal.Read.val_main_v16_eq _ _ _).trans
        ((Cert.LossRefIdeal.Product.grads_eq _ _ _).trans (by rw [(hag c).1, (hag c).2.1, (hag c).2.2]))),
      (h c).2.2.1.trans ((Cert.LossRefIdeal.Read.val_main_v20_eq _ _ _).trans
        ((Cert.LossRefIdeal.Product.squares_eq _ _ _).trans (by rw [(hag c).1, (hag c).2.1, (hag c).2.2]))), (h c).2.2.2⟩)
      (Cert.LossRefIdeal.Value.run (F := Ideal) m' ρ')⟩

/-- A host program has no counter to return to zero. -/
theorem AdamModel_reference_frame : Cert.quiescent_AdamModelRefIdeal := fun m ρ _ =>
  (θ_run Cert.AdamModelRefIdeal.defs _ _).mono (fun r h => ⟨fun c => (h c).2.2.2.2, sem_eq_zero_of_no_sems (by decide) r.2⟩)
    (Cert.AdamModelRefIdeal.Value.run (F := Ideal) m ρ)

/-- Both programs leave the same arrays. -/
theorem AdamModel_value : Cert.algebraic_AdamModelIdeal_AdamModelRefIdeal := fun m ρ m' ρ' _ hag =>
  ⟨fun c => Cert.AdamModelIdeal.Product.result4 m c, fun c => Cert.AdamModelIdeal.Product.result5 m c, fun c => Cert.AdamModelIdeal.Product.result6 m c, fun c => Cert.AdamModelIdeal.Product.result7 m c,
    (θ_run Cert.AdamModelIdeal.defs _ _).mono (fun r q c => ⟨((q.1 c).1 4).trans (Cert.AdamModelIdeal.Product.final4 m c), ((q.1 c).1 5).trans (Cert.AdamModelIdeal.Product.final5 m c), ((q.1 c).1 6).trans (Cert.AdamModelIdeal.Product.final6 m c), ((q.1 c).1 7).trans (Cert.AdamModelIdeal.Product.final7 m c), q.2 c⟩)
      (θ_run_and (Cert.AdamModelIdeal.Gen.run_main m ρ trivial) (Cert.AdamModelIdeal.Gen.unchanged m ρ trivial)),
    (θ_run Cert.AdamModelRefIdeal.defs _ _).mono (fun _ h c => ⟨(h c).1.trans ((Cert.AdamModelRefIdeal.Read.val_main_v0_eq _).trans
        ((Cert.AdamModelRefIdeal.Product.grads_eq _).trans (by rw [(hag c).2.2.2.1]))),
      (h c).2.1.trans ((Cert.AdamModelRefIdeal.Read.val_main_v24_eq _ _ _ _).trans
        ((Cert.AdamModelRefIdeal.Product.changes_eq _ _ _ _).trans (by rw [(hag c).1, (hag c).2.1, (hag c).2.2.1, (hag c).2.2.2.1]))),
      (h c).2.2.1.trans ((Cert.AdamModelRefIdeal.Read.val_main_v5_eq _ _).trans
        ((Cert.AdamModelRefIdeal.Product.means_eq _ _).trans (by rw [(hag c).2.1, (hag c).2.2.2.1]))),
      (h c).2.2.2.1.trans ((Cert.AdamModelRefIdeal.Read.val_main_v11_eq _ _).trans
        ((Cert.AdamModelRefIdeal.Product.squares_eq _ _).trans (by rw [(hag c).2.2.1, (hag c).2.2.2.1]))), (h c).2.2.2.2⟩)
      (Cert.AdamModelRefIdeal.Value.run (F := Ideal) m' ρ')⟩

/-- A host program has no counter to return to zero. -/
theorem AdamHead_reference_frame : Cert.quiescent_AdamHeadRefIdeal := fun m ρ _ =>
  (θ_run Cert.AdamHeadRefIdeal.defs _ _).mono (fun r h => ⟨fun c => (h c).2.2.2.2, sem_eq_zero_of_no_sems (by decide) r.2⟩)
    (Cert.AdamHeadRefIdeal.Value.run (F := Ideal) m ρ)

/-- Both programs leave the same arrays. -/
theorem AdamHead_value : Cert.algebraic_AdamHeadIdeal_AdamHeadRefIdeal := fun m ρ m' ρ' _ hag =>
  ⟨fun c => Cert.AdamHeadIdeal.Product.result4 m c, fun c => Cert.AdamHeadIdeal.Product.result5 m c, fun c => Cert.AdamHeadIdeal.Product.result6 m c, fun c => Cert.AdamHeadIdeal.Product.result7 m c,
    (θ_run Cert.AdamHeadIdeal.defs _ _).mono (fun r q c => ⟨((q.1 c).1 4).trans (Cert.AdamHeadIdeal.Product.final4 m c), ((q.1 c).1 5).trans (Cert.AdamHeadIdeal.Product.final5 m c), ((q.1 c).1 6).trans (Cert.AdamHeadIdeal.Product.final6 m c), ((q.1 c).1 7).trans (Cert.AdamHeadIdeal.Product.final7 m c), q.2 c⟩)
      (θ_run_and (Cert.AdamHeadIdeal.Gen.run_main m ρ trivial) (Cert.AdamHeadIdeal.Gen.unchanged m ρ trivial)),
    (θ_run Cert.AdamHeadRefIdeal.defs _ _).mono (fun _ h c => ⟨(h c).1.trans ((Cert.AdamHeadRefIdeal.Read.val_main_v0_eq _).trans
        ((Cert.AdamHeadRefIdeal.Product.grads_eq _).trans (by rw [(hag c).2.2.2.1]))),
      (h c).2.1.trans ((Cert.AdamHeadRefIdeal.Read.val_main_v24_eq _ _ _ _).trans
        ((Cert.AdamHeadRefIdeal.Product.changes_eq _ _ _ _).trans (by rw [(hag c).1, (hag c).2.1, (hag c).2.2.1, (hag c).2.2.2.1]))),
      (h c).2.2.1.trans ((Cert.AdamHeadRefIdeal.Read.val_main_v5_eq _ _).trans
        ((Cert.AdamHeadRefIdeal.Product.means_eq _ _).trans (by rw [(hag c).2.1, (hag c).2.2.2.1]))),
      (h c).2.2.2.1.trans ((Cert.AdamHeadRefIdeal.Read.val_main_v11_eq _ _).trans
        ((Cert.AdamHeadRefIdeal.Product.squares_eq _ _).trans (by rw [(hag c).2.2.1, (hag c).2.2.2.1]))), (h c).2.2.2.2⟩)
      (Cert.AdamHeadRefIdeal.Value.run (F := Ideal) m' ρ')⟩

/-- A host program has no counter to return to zero. -/
theorem AdamWidth_reference_frame : Cert.quiescent_AdamWidthRefIdeal := fun m ρ _ =>
  (θ_run Cert.AdamWidthRefIdeal.defs _ _).mono (fun r h => ⟨fun c => (h c).2.2.2.2, sem_eq_zero_of_no_sems (by decide) r.2⟩)
    (Cert.AdamWidthRefIdeal.Value.run (F := Ideal) m ρ)

/-- Both programs leave the same arrays. -/
theorem AdamWidth_value : Cert.algebraic_AdamWidthIdeal_AdamWidthRefIdeal := fun m ρ m' ρ' _ hag =>
  ⟨fun c => Cert.AdamWidthIdeal.Product.result4 m c, fun c => Cert.AdamWidthIdeal.Product.result5 m c, fun c => Cert.AdamWidthIdeal.Product.result6 m c, fun c => Cert.AdamWidthIdeal.Product.result7 m c,
    (θ_run Cert.AdamWidthIdeal.defs _ _).mono (fun r q c => ⟨((q.1 c).1 4).trans (Cert.AdamWidthIdeal.Product.final4 m c), ((q.1 c).1 5).trans (Cert.AdamWidthIdeal.Product.final5 m c), ((q.1 c).1 6).trans (Cert.AdamWidthIdeal.Product.final6 m c), ((q.1 c).1 7).trans (Cert.AdamWidthIdeal.Product.final7 m c), q.2 c⟩)
      (θ_run_and (Cert.AdamWidthIdeal.Gen.run_main m ρ trivial) (Cert.AdamWidthIdeal.Gen.unchanged m ρ trivial)),
    (θ_run Cert.AdamWidthRefIdeal.defs _ _).mono (fun _ h c => ⟨(h c).1.trans ((Cert.AdamWidthRefIdeal.Read.val_main_v0_eq _).trans
        ((Cert.AdamWidthRefIdeal.Product.grads_eq _).trans (by rw [(hag c).2.2.2.1]))),
      (h c).2.1.trans ((Cert.AdamWidthRefIdeal.Read.val_main_v24_eq _ _ _ _).trans
        ((Cert.AdamWidthRefIdeal.Product.changes_eq _ _ _ _).trans (by rw [(hag c).1, (hag c).2.1, (hag c).2.2.1, (hag c).2.2.2.1]))),
      (h c).2.2.1.trans ((Cert.AdamWidthRefIdeal.Read.val_main_v5_eq _ _).trans
        ((Cert.AdamWidthRefIdeal.Product.means_eq _ _).trans (by rw [(hag c).2.1, (hag c).2.2.2.1]))),
      (h c).2.2.2.1.trans ((Cert.AdamWidthRefIdeal.Read.val_main_v11_eq _ _).trans
        ((Cert.AdamWidthRefIdeal.Product.squares_eq _ _).trans (by rw [(hag c).2.2.1, (hag c).2.2.2.1]))), (h c).2.2.2.2⟩)
      (Cert.AdamWidthRefIdeal.Value.run (F := Ideal) m' ρ')⟩

/-- A host program has no counter to return to zero. -/
theorem AdamBias_reference_frame : Cert.quiescent_AdamBiasRefIdeal := fun m ρ _ =>
  (θ_run Cert.AdamBiasRefIdeal.defs _ _).mono (fun r h => ⟨fun c => (h c).2.2.2.2, sem_eq_zero_of_no_sems (by decide) r.2⟩)
    (Cert.AdamBiasRefIdeal.Value.run (F := Ideal) m ρ)

/-- Both programs leave the same arrays. -/
theorem AdamBias_value : Cert.algebraic_AdamBiasIdeal_AdamBiasRefIdeal := fun m ρ m' ρ' _ hag =>
  ⟨fun c => Cert.AdamBiasIdeal.Product.result4 m c, fun c => Cert.AdamBiasIdeal.Product.result5 m c, fun c => Cert.AdamBiasIdeal.Product.result6 m c, fun c => Cert.AdamBiasIdeal.Product.result7 m c,
    (θ_run Cert.AdamBiasIdeal.defs _ _).mono (fun r q c => ⟨((q.1 c).1 4).trans (Cert.AdamBiasIdeal.Product.final4 m c), ((q.1 c).1 5).trans (Cert.AdamBiasIdeal.Product.final5 m c), ((q.1 c).1 6).trans (Cert.AdamBiasIdeal.Product.final6 m c), ((q.1 c).1 7).trans (Cert.AdamBiasIdeal.Product.final7 m c), q.2 c⟩)
      (θ_run_and (Cert.AdamBiasIdeal.Gen.run_main m ρ trivial) (Cert.AdamBiasIdeal.Gen.unchanged m ρ trivial)),
    (θ_run Cert.AdamBiasRefIdeal.defs _ _).mono (fun _ h c => ⟨(h c).1.trans ((Cert.AdamBiasRefIdeal.Read.val_main_v0_eq _).trans
        ((Cert.AdamBiasRefIdeal.Product.grads_eq _).trans (by rw [(hag c).2.2.2.1]))),
      (h c).2.1.trans ((Cert.AdamBiasRefIdeal.Read.val_main_v24_eq _ _ _ _).trans
        ((Cert.AdamBiasRefIdeal.Product.changes_eq _ _ _ _).trans (by rw [(hag c).1, (hag c).2.1, (hag c).2.2.1, (hag c).2.2.2.1]))),
      (h c).2.2.1.trans ((Cert.AdamBiasRefIdeal.Read.val_main_v5_eq _ _).trans
        ((Cert.AdamBiasRefIdeal.Product.means_eq _ _).trans (by rw [(hag c).2.1, (hag c).2.2.2.1]))),
      (h c).2.2.2.1.trans ((Cert.AdamBiasRefIdeal.Read.val_main_v11_eq _ _).trans
        ((Cert.AdamBiasRefIdeal.Product.squares_eq _ _).trans (by rw [(hag c).2.2.1, (hag c).2.2.2.1]))), (h c).2.2.2.2⟩)
      (Cert.AdamBiasRefIdeal.Value.run (F := Ideal) m' ρ')⟩

/-- A host program has no counter to return to zero. -/
theorem AdamState_reference_frame : Cert.quiescent_AdamStateRefIdeal := fun m ρ _ =>
  (θ_run Cert.AdamStateRefIdeal.defs _ _).mono (fun r h => ⟨fun c => (h c).2.2.2.2, sem_eq_zero_of_no_sems (by decide) r.2⟩)
    (Cert.AdamStateRefIdeal.Value.run (F := Ideal) m ρ)

/-- Both programs leave the same arrays. -/
theorem AdamState_value : Cert.algebraic_AdamStateIdeal_AdamStateRefIdeal := fun m ρ m' ρ' _ hag =>
  ⟨fun c => Cert.AdamStateIdeal.Product.result4 m c, fun c => Cert.AdamStateIdeal.Product.result5 m c, fun c => Cert.AdamStateIdeal.Product.result6 m c, fun c => Cert.AdamStateIdeal.Product.result7 m c,
    (θ_run Cert.AdamStateIdeal.defs _ _).mono (fun r q c => ⟨((q.1 c).1 4).trans (Cert.AdamStateIdeal.Product.final4 m c), ((q.1 c).1 5).trans (Cert.AdamStateIdeal.Product.final5 m c), ((q.1 c).1 6).trans (Cert.AdamStateIdeal.Product.final6 m c), ((q.1 c).1 7).trans (Cert.AdamStateIdeal.Product.final7 m c), q.2 c⟩)
      (θ_run_and (Cert.AdamStateIdeal.Gen.run_main m ρ trivial) (Cert.AdamStateIdeal.Gen.unchanged m ρ trivial)),
    (θ_run Cert.AdamStateRefIdeal.defs _ _).mono (fun _ h c => ⟨(h c).1.trans ((Cert.AdamStateRefIdeal.Read.val_main_v0_eq _).trans
        ((Cert.AdamStateRefIdeal.Product.grads_eq _).trans (by rw [(hag c).2.2.2.1]))),
      (h c).2.1.trans ((Cert.AdamStateRefIdeal.Read.val_main_v24_eq _ _ _ _).trans
        ((Cert.AdamStateRefIdeal.Product.changes_eq _ _ _ _).trans (by rw [(hag c).1, (hag c).2.1, (hag c).2.2.1, (hag c).2.2.2.1]))),
      (h c).2.2.1.trans ((Cert.AdamStateRefIdeal.Read.val_main_v5_eq _ _).trans
        ((Cert.AdamStateRefIdeal.Product.means_eq _ _).trans (by rw [(hag c).2.1, (hag c).2.2.2.1]))),
      (h c).2.2.2.1.trans ((Cert.AdamStateRefIdeal.Read.val_main_v11_eq _ _).trans
        ((Cert.AdamStateRefIdeal.Product.squares_eq _ _).trans (by rw [(hag c).2.2.1, (hag c).2.2.2.1]))), (h c).2.2.2.2⟩)
      (Cert.AdamStateRefIdeal.Value.run (F := Ideal) m' ρ')⟩

/-- A host program has no counter to return to zero. -/
theorem AdamMatrix_reference_frame : Cert.quiescent_AdamMatrixRefIdeal := fun m ρ _ =>
  (θ_run Cert.AdamMatrixRefIdeal.defs _ _).mono (fun r h => ⟨fun c => (h c).2.2.2.2, sem_eq_zero_of_no_sems (by decide) r.2⟩)
    (Cert.AdamMatrixRefIdeal.Value.run (F := Ideal) m ρ)

/-- Both programs leave the same arrays. -/
theorem AdamMatrix_value : Cert.algebraic_AdamMatrixIdeal_AdamMatrixRefIdeal := fun m ρ m' ρ' _ hag =>
  ⟨fun c => Cert.AdamMatrixIdeal.Product.result4 m c, fun c => Cert.AdamMatrixIdeal.Product.result5 m c, fun c => Cert.AdamMatrixIdeal.Product.result6 m c, fun c => Cert.AdamMatrixIdeal.Product.result7 m c,
    (θ_run Cert.AdamMatrixIdeal.defs _ _).mono (fun r q c => ⟨((q.1 c).1 4).trans (Cert.AdamMatrixIdeal.Product.final4 m c), ((q.1 c).1 5).trans (Cert.AdamMatrixIdeal.Product.final5 m c), ((q.1 c).1 6).trans (Cert.AdamMatrixIdeal.Product.final6 m c), ((q.1 c).1 7).trans (Cert.AdamMatrixIdeal.Product.final7 m c), q.2 c⟩)
      (θ_run_and (Cert.AdamMatrixIdeal.Gen.run_main m ρ trivial) (Cert.AdamMatrixIdeal.Gen.unchanged m ρ trivial)),
    (θ_run Cert.AdamMatrixRefIdeal.defs _ _).mono (fun _ h c => ⟨(h c).1.trans ((Cert.AdamMatrixRefIdeal.Read.val_main_v0_eq _).trans
        ((Cert.AdamMatrixRefIdeal.Product.grads_eq _).trans (by rw [(hag c).2.2.2.1]))),
      (h c).2.1.trans ((Cert.AdamMatrixRefIdeal.Read.val_main_v24_eq _ _ _ _).trans
        ((Cert.AdamMatrixRefIdeal.Product.changes_eq _ _ _ _).trans (by rw [(hag c).1, (hag c).2.1, (hag c).2.2.1, (hag c).2.2.2.1]))),
      (h c).2.2.1.trans ((Cert.AdamMatrixRefIdeal.Read.val_main_v5_eq _ _).trans
        ((Cert.AdamMatrixRefIdeal.Product.means_eq _ _).trans (by rw [(hag c).2.1, (hag c).2.2.2.1]))),
      (h c).2.2.2.1.trans ((Cert.AdamMatrixRefIdeal.Read.val_main_v11_eq _ _).trans
        ((Cert.AdamMatrixRefIdeal.Product.squares_eq _ _).trans (by rw [(hag c).2.2.1, (hag c).2.2.2.1]))), (h c).2.2.2.2⟩)
      (Cert.AdamMatrixRefIdeal.Value.run (F := Ideal) m' ρ')⟩

/-- A host program has no counter to return to zero. -/
theorem AdamStep_reference_frame : Cert.quiescent_AdamStepRefIdeal := fun m ρ _ =>
  (θ_run Cert.AdamStepRefIdeal.defs _ _).mono (fun r h => ⟨fun c => (h c).2.2.2.2, sem_eq_zero_of_no_sems (by decide) r.2⟩)
    (Cert.AdamStepRefIdeal.Value.run (F := Ideal) m ρ)

/-- Both programs leave the same arrays. -/
theorem AdamStep_value : Cert.algebraic_AdamStepIdeal_AdamStepRefIdeal := fun m ρ m' ρ' _ hag =>
  ⟨fun c => Cert.AdamStepIdeal.Product.result4 m c, fun c => Cert.AdamStepIdeal.Product.result5 m c, fun c => Cert.AdamStepIdeal.Product.result6 m c, fun c => Cert.AdamStepIdeal.Product.result7 m c,
    (θ_run Cert.AdamStepIdeal.defs _ _).mono (fun r q c => ⟨((q.1 c).1 4).trans (Cert.AdamStepIdeal.Product.final4 m c), ((q.1 c).1 5).trans (Cert.AdamStepIdeal.Product.final5 m c), ((q.1 c).1 6).trans (Cert.AdamStepIdeal.Product.final6 m c), ((q.1 c).1 7).trans (Cert.AdamStepIdeal.Product.final7 m c), q.2 c⟩)
      (θ_run_and (Cert.AdamStepIdeal.Gen.run_main m ρ trivial) (Cert.AdamStepIdeal.Gen.unchanged m ρ trivial)),
    (θ_run Cert.AdamStepRefIdeal.defs _ _).mono (fun _ h c => ⟨(h c).1.trans ((Cert.AdamStepRefIdeal.Read.val_main_v0_eq _).trans
        ((Cert.AdamStepRefIdeal.Product.grads_eq _).trans (by rw [(hag c).2.2.2.1]))),
      (h c).2.1.trans ((Cert.AdamStepRefIdeal.Read.val_main_v24_eq _ _ _ _).trans
        ((Cert.AdamStepRefIdeal.Product.changes_eq _ _ _ _).trans (by rw [(hag c).1, (hag c).2.1, (hag c).2.2.1, (hag c).2.2.2.1]))),
      (h c).2.2.1.trans ((Cert.AdamStepRefIdeal.Read.val_main_v5_eq _ _).trans
        ((Cert.AdamStepRefIdeal.Product.means_eq _ _).trans (by rw [(hag c).2.1, (hag c).2.2.2.1]))),
      (h c).2.2.2.1.trans ((Cert.AdamStepRefIdeal.Read.val_main_v11_eq _ _).trans
        ((Cert.AdamStepRefIdeal.Product.squares_eq _ _).trans (by rw [(hag c).2.2.1, (hag c).2.2.2.1]))), (h c).2.2.2.2⟩)
      (Cert.AdamStepRefIdeal.Value.run (F := Ideal) m' ρ')⟩

/-- A host program has no counter to return to zero. -/
theorem AdamIn_reference_frame : Cert.quiescent_AdamInRefIdeal := fun m ρ _ =>
  (θ_run Cert.AdamInRefIdeal.defs _ _).mono (fun r h => ⟨fun c => (h c).2.2.2.2, sem_eq_zero_of_no_sems (by decide) r.2⟩) (Cert.AdamInRefIdeal.Value.run (F := Ideal) m ρ)

open Cert.AdamInRefIdeal.Read Cert.AdamInRefIdeal.Product in
/-- Both programs leave the same arrays, where the slab's number is below eight. -/
theorem AdamIn_value : Cert.algebraic_AdamInIdeal_AdamInRefIdeal := fun m ρ m' ρ' pre hag =>
  have h := Cert.AdamInIdeal.Product.range m pre
  have hO := Cert.AdamInIdeal.Product.ok m h
  have hq (c : Dev Cert.AdamInIdeal.nD) : ((m' ((c.tc : Thread Cert.AdamInRefIdeal.nD Cert.AdamInRefIdeal.τ).loc Cert.AdamInRefIdeal.main_arg6) : Cert.AdamInRefIdeal.S1.Idx → BitVec 32) Cert.Adam.here).toNat = (Cert.AdamInIdeal.Product.slab m h).val :=
    (congrArg (fun f : Cert.AdamInRefIdeal.S1.Idx → BitVec 32 => (f Cert.Adam.here).toNat) (hag c).2.2.2.2.2.2).trans (by rw [Subsingleton.elim c 0])
  ⟨fun c => Cert.AdamInIdeal.Product.result6 m h c, fun c => Cert.AdamInIdeal.Product.result7 m h c, fun c => Cert.AdamInIdeal.Product.result8 m h c, fun c => Cert.AdamInIdeal.Product.result9 m h c,
    (θ_run Cert.AdamInIdeal.defs _ _).mono (fun r q c => ⟨((q.1 c).1 6).trans (Cert.AdamInIdeal.Product.final6 m hO h c), ((q.1 c).1 7).trans (Cert.AdamInIdeal.Product.final7 m hO h c), ((q.1 c).1 8).trans (Cert.AdamInIdeal.Product.final8 m hO h c), ((q.1 c).1 9).trans (Cert.AdamInIdeal.Product.final9 m hO h c), q.2 c⟩)
      (θ_run_and (Cert.AdamInIdeal.Gen.run_main m ρ hO) (Cert.AdamInIdeal.Gen.unchanged m ρ hO)),
    (θ_run Cert.AdamInRefIdeal.defs _ _).mono (fun _ r c => by
      obtain ⟨e0, e1, e2, e3, e4, e5, e6⟩ := hag c
      exact ⟨(r c).1.trans ((val_main_v12_eq _ _ _ _).trans ((parts_eq _ _ _ _ _ (hq c)).trans (by rw [e3, e4, e5]))),
        (r c).2.1.trans ((val_main_v36_eq _ _ _ _ _ _ _).trans ((changes_eq _ _ _ _ _ _ _ _ (hq c)).trans (by rw [e0, e1, e2, e3, e4, e5]))),
        (r c).2.2.1.trans ((val_main_v17_eq _ _ _ _ _).trans ((means_eq _ _ _ _ _ _ (hq c)).trans (by rw [e1, e3, e4, e5]))),
        (r c).2.2.2.1.trans ((val_main_v23_eq _ _ _ _ _).trans ((squares_eq _ _ _ _ _ _ (hq c)).trans (by rw [e2, e3, e4, e5]))), (r c).2.2.2.2⟩)
      (Cert.AdamInRefIdeal.Value.run (F := Ideal) m' ρ')⟩

/-- A host program has no counter to return to zero. -/
theorem AdamGlu_reference_frame : Cert.quiescent_AdamGluRefIdeal := fun m ρ _ =>
  (θ_run Cert.AdamGluRefIdeal.defs _ _).mono (fun r h => ⟨fun c => (h c).2.2.2.2, sem_eq_zero_of_no_sems (by decide) r.2⟩) (Cert.AdamGluRefIdeal.Value.run (F := Ideal) m ρ)

open Cert.AdamGluRefIdeal.Read Cert.AdamGluRefIdeal.Product in
/-- Both programs leave the same arrays, where the slab's number is below eight. -/
theorem AdamGlu_value : Cert.algebraic_AdamGluIdeal_AdamGluRefIdeal := fun m ρ m' ρ' pre hag =>
  have h := Cert.AdamGluIdeal.Product.range m pre
  have hO := Cert.AdamGluIdeal.Product.ok m h
  have hq (c : Dev Cert.AdamGluIdeal.nD) : ((m' ((c.tc : Thread Cert.AdamGluRefIdeal.nD Cert.AdamGluRefIdeal.τ).loc Cert.AdamGluRefIdeal.main_arg6) : Cert.AdamGluRefIdeal.S1.Idx → BitVec 32) Cert.Adam.here).toNat = (Cert.AdamGluIdeal.Product.slab m h).val :=
    (congrArg (fun f : Cert.AdamGluRefIdeal.S1.Idx → BitVec 32 => (f Cert.Adam.here).toNat) (hag c).2.2.2.2.2.2).trans (by rw [Subsingleton.elim c 0])
  ⟨fun c => Cert.AdamGluIdeal.Product.result6 m h c, fun c => Cert.AdamGluIdeal.Product.result7 m h c, fun c => Cert.AdamGluIdeal.Product.result8 m h c, fun c => Cert.AdamGluIdeal.Product.result9 m h c,
    (θ_run Cert.AdamGluIdeal.defs _ _).mono (fun r q c => ⟨((q.1 c).1 6).trans (Cert.AdamGluIdeal.Product.final6 m hO h c), ((q.1 c).1 7).trans (Cert.AdamGluIdeal.Product.final7 m hO h c), ((q.1 c).1 8).trans (Cert.AdamGluIdeal.Product.final8 m hO h c), ((q.1 c).1 9).trans (Cert.AdamGluIdeal.Product.final9 m hO h c), q.2 c⟩)
      (θ_run_and (Cert.AdamGluIdeal.Gen.run_main m ρ hO) (Cert.AdamGluIdeal.Gen.unchanged m ρ hO)),
    (θ_run Cert.AdamGluRefIdeal.defs _ _).mono (fun _ r c => by
      obtain ⟨e0, e1, e2, e3, e4, e5, e6⟩ := hag c
      exact ⟨(r c).1.trans ((val_main_v12_eq _ _ _ _).trans ((parts_eq _ _ _ _ _ (hq c)).trans (by rw [e3, e4, e5]))),
        (r c).2.1.trans ((val_main_v36_eq _ _ _ _ _ _ _).trans ((changes_eq _ _ _ _ _ _ _ _ (hq c)).trans (by rw [e0, e1, e2, e3, e4, e5]))),
        (r c).2.2.1.trans ((val_main_v17_eq _ _ _ _ _).trans ((means_eq _ _ _ _ _ _ (hq c)).trans (by rw [e1, e3, e4, e5]))),
        (r c).2.2.2.1.trans ((val_main_v23_eq _ _ _ _ _).trans ((squares_eq _ _ _ _ _ _ (hq c)).trans (by rw [e2, e3, e4, e5]))), (r c).2.2.2.2⟩)
      (Cert.AdamGluRefIdeal.Value.run (F := Ideal) m' ρ')⟩

/-- A host program has no counter to return to zero. -/
theorem AdamOut_reference_frame : Cert.quiescent_AdamOutRefIdeal := fun m ρ _ =>
  (θ_run Cert.AdamOutRefIdeal.defs _ _).mono (fun r h => ⟨fun c => (h c).2.2.2.2, sem_eq_zero_of_no_sems (by decide) r.2⟩) (Cert.AdamOutRefIdeal.Value.run (F := Ideal) m ρ)

open Cert.AdamOutRefIdeal.Read Cert.AdamOutRefIdeal.Product in
/-- Both programs leave the same arrays, where the slab's number is below eight. -/
theorem AdamOut_value : Cert.algebraic_AdamOutIdeal_AdamOutRefIdeal := fun m ρ m' ρ' pre hag =>
  have h := Cert.AdamOutIdeal.Product.range m pre
  have hO := Cert.AdamOutIdeal.Product.ok m h
  have hq (c : Dev Cert.AdamOutIdeal.nD) : ((m' ((c.tc : Thread Cert.AdamOutRefIdeal.nD Cert.AdamOutRefIdeal.τ).loc Cert.AdamOutRefIdeal.main_arg6) : Cert.AdamOutRefIdeal.S1.Idx → BitVec 32) Cert.Adam.here).toNat = (Cert.AdamOutIdeal.Product.slab m h).val :=
    (congrArg (fun f : Cert.AdamOutRefIdeal.S1.Idx → BitVec 32 => (f Cert.Adam.here).toNat) (hag c).2.2.2.2.2.2).trans (by rw [Subsingleton.elim c 0])
  ⟨fun c => Cert.AdamOutIdeal.Product.result6 m h c, fun c => Cert.AdamOutIdeal.Product.result7 m h c, fun c => Cert.AdamOutIdeal.Product.result8 m h c, fun c => Cert.AdamOutIdeal.Product.result9 m h c,
    (θ_run Cert.AdamOutIdeal.defs _ _).mono (fun r q c => ⟨((q.1 c).1 6).trans (Cert.AdamOutIdeal.Product.final6 m hO h c), ((q.1 c).1 7).trans (Cert.AdamOutIdeal.Product.final7 m hO h c), ((q.1 c).1 8).trans (Cert.AdamOutIdeal.Product.final8 m hO h c), ((q.1 c).1 9).trans (Cert.AdamOutIdeal.Product.final9 m hO h c), q.2 c⟩)
      (θ_run_and (Cert.AdamOutIdeal.Gen.run_main m ρ hO) (Cert.AdamOutIdeal.Gen.unchanged m ρ hO)),
    (θ_run Cert.AdamOutRefIdeal.defs _ _).mono (fun _ r c => by
      obtain ⟨e0, e1, e2, e3, e4, e5, e6⟩ := hag c
      exact ⟨(r c).1.trans ((val_main_v12_eq _ _ _ _).trans ((parts_eq _ _ _ _ _ (hq c)).trans (by rw [e3, e4, e5]))),
        (r c).2.1.trans ((val_main_v36_eq _ _ _ _ _ _ _).trans ((changes_eq _ _ _ _ _ _ _ _ (hq c)).trans (by rw [e0, e1, e2, e3, e4, e5]))),
        (r c).2.2.1.trans ((val_main_v17_eq _ _ _ _ _).trans ((means_eq _ _ _ _ _ _ (hq c)).trans (by rw [e1, e3, e4, e5]))),
        (r c).2.2.2.1.trans ((val_main_v23_eq _ _ _ _ _).trans ((squares_eq _ _ _ _ _ _ (hq c)).trans (by rw [e2, e3, e4, e5]))), (r c).2.2.2.2⟩)
      (Cert.AdamOutRefIdeal.Value.run (F := Ideal) m' ρ')⟩

/-- A host program has no counter to return to zero. -/
theorem AdamGate_reference_frame : Cert.quiescent_AdamGateRefIdeal := fun m ρ _ =>
  (θ_run Cert.AdamGateRefIdeal.defs _ _).mono (fun r h => ⟨fun c => (h c).2.2.2.2, sem_eq_zero_of_no_sems (by decide) r.2⟩) (Cert.AdamGateRefIdeal.Value.run (F := Ideal) m ρ)

open Cert.AdamGateRefIdeal.Read Cert.AdamGateRefIdeal.Product in
/-- Both programs leave the same arrays, where the slab's number is below eight. -/
theorem AdamGate_value : Cert.algebraic_AdamGateIdeal_AdamGateRefIdeal := fun m ρ m' ρ' pre hag =>
  have h := Cert.AdamGateIdeal.Product.range m pre
  have hO := Cert.AdamGateIdeal.Product.ok m h
  have hq (c : Dev Cert.AdamGateIdeal.nD) : ((m' ((c.tc : Thread Cert.AdamGateRefIdeal.nD Cert.AdamGateRefIdeal.τ).loc Cert.AdamGateRefIdeal.main_arg6) : Cert.AdamGateRefIdeal.S1.Idx → BitVec 32) Cert.Adam.here).toNat = (Cert.AdamGateIdeal.Product.slab m h).val :=
    (congrArg (fun f : Cert.AdamGateRefIdeal.S1.Idx → BitVec 32 => (f Cert.Adam.here).toNat) (hag c).2.2.2.2.2.2).trans (by rw [Subsingleton.elim c 0])
  ⟨fun c => Cert.AdamGateIdeal.Product.result6 m h c, fun c => Cert.AdamGateIdeal.Product.result7 m h c, fun c => Cert.AdamGateIdeal.Product.result8 m h c, fun c => Cert.AdamGateIdeal.Product.result9 m h c,
    (θ_run Cert.AdamGateIdeal.defs _ _).mono (fun r q c => ⟨((q.1 c).1 6).trans (Cert.AdamGateIdeal.Product.final6 m hO h c), ((q.1 c).1 7).trans (Cert.AdamGateIdeal.Product.final7 m hO h c), ((q.1 c).1 8).trans (Cert.AdamGateIdeal.Product.final8 m hO h c), ((q.1 c).1 9).trans (Cert.AdamGateIdeal.Product.final9 m hO h c), q.2 c⟩)
      (θ_run_and (Cert.AdamGateIdeal.Gen.run_main m ρ hO) (Cert.AdamGateIdeal.Gen.unchanged m ρ hO)),
    (θ_run Cert.AdamGateRefIdeal.defs _ _).mono (fun _ r c => by
      obtain ⟨e0, e1, e2, e3, e4, e5, e6⟩ := hag c
      exact ⟨(r c).1.trans ((val_main_v12_eq _ _ _ _).trans ((parts_eq _ _ _ _ _ (hq c)).trans (by rw [e3, e4, e5]))),
        (r c).2.1.trans ((val_main_v36_eq _ _ _ _ _ _ _).trans ((changes_eq _ _ _ _ _ _ _ _ (hq c)).trans (by rw [e0, e1, e2, e3, e4, e5]))),
        (r c).2.2.1.trans ((val_main_v17_eq _ _ _ _ _).trans ((means_eq _ _ _ _ _ _ (hq c)).trans (by rw [e1, e3, e4, e5]))),
        (r c).2.2.2.1.trans ((val_main_v23_eq _ _ _ _ _).trans ((squares_eq _ _ _ _ _ _ (hq c)).trans (by rw [e2, e3, e4, e5]))), (r c).2.2.2.2⟩)
      (Cert.AdamGateRefIdeal.Value.run (F := Ideal) m' ρ')⟩

/-- A host program has no counter to return to zero. -/
theorem AdamDown_reference_frame : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run (F := Ideal) m ρ)

open Cert.AdamDownRefIdeal.Read Cert.AdamDownRefIdeal.Product in
/-- Both programs leave the same arrays, where the slab's number is below eight. -/
theorem AdamDown_value : Cert.algebraic_AdamDownIdeal_AdamDownRefIdeal := fun m ρ m' ρ' pre hag =>
  have h := Cert.AdamDownIdeal.Product.range m pre
  have hO := Cert.AdamDownIdeal.Product.ok m h
  have hq (c : Dev Cert.AdamDownIdeal.nD) : ((m' ((c.tc : Thread Cert.AdamDownRefIdeal.nD Cert.AdamDownRefIdeal.τ).loc Cert.AdamDownRefIdeal.main_arg6) : Cert.AdamDownRefIdeal.S1.Idx → BitVec 32) Cert.Adam.here).toNat = (Cert.AdamDownIdeal.Product.slab m h).val :=
    (congrArg (fun f : Cert.AdamDownRefIdeal.S1.Idx → BitVec 32 => (f Cert.Adam.here).toNat) (hag c).2.2.2.2.2.2).trans (by rw [Subsingleton.elim c 0])
  ⟨fun c => Cert.AdamDownIdeal.Product.result6 m h c, fun c => Cert.AdamDownIdeal.Product.result7 m h c, fun c => Cert.AdamDownIdeal.Product.result8 m h c, fun c => Cert.AdamDownIdeal.Product.result9 m h c,
    (θ_run Cert.AdamDownIdeal.defs _ _).mono (fun r q c => ⟨((q.1 c).1 6).trans (Cert.AdamDownIdeal.Product.final6 m hO h c), ((q.1 c).1 7).trans (Cert.AdamDownIdeal.Product.final7 m hO h c), ((q.1 c).1 8).trans (Cert.AdamDownIdeal.Product.final8 m hO h c), ((q.1 c).1 9).trans (Cert.AdamDownIdeal.Product.final9 m hO h c), q.2 c⟩)
      (θ_run_and (Cert.AdamDownIdeal.Gen.run_main m ρ hO) (Cert.AdamDownIdeal.Gen.unchanged m ρ hO)),
    (θ_run Cert.AdamDownRefIdeal.defs _ _).mono (fun _ r c => by
      obtain ⟨e0, e1, e2, e3, e4, e5, e6⟩ := hag c
      exact ⟨(r c).1.trans ((val_main_v12_eq _ _ _ _).trans ((parts_eq _ _ _ _ _ (hq c)).trans (by rw [e3, e4, e5]))),
        (r c).2.1.trans ((val_main_v36_eq _ _ _ _ _ _ _).trans ((changes_eq _ _ _ _ _ _ _ _ (hq c)).trans (by rw [e0, e1, e2, e3, e4, e5]))),
        (r c).2.2.1.trans ((val_main_v17_eq _ _ _ _ _).trans ((means_eq _ _ _ _ _ _ (hq c)).trans (by rw [e1, e3, e4, e5]))),
        (r c).2.2.2.1.trans ((val_main_v23_eq _ _ _ _ _).trans ((squares_eq _ _ _ _ _ _ (hq c)).trans (by rw [e2, e3, e4, e5]))), (r c).2.2.2.2⟩)
      (Cert.AdamDownRefIdeal.Value.run (F := Ideal) m' ρ')⟩

theorem claim : Cert.Claim := ⟨Cert.Kernel.Gen.facts,
  Cert.KernelIdeal.Gen.facts,
  Cert.DownDx.Gen.facts,
  Cert.DownDxIdeal.Gen.facts,
  Cert.DownDxRefIdeal.Gen.facts,
  Cert.DownDw.Gen.facts,
  Cert.DownDwIdeal.Gen.facts,
  Cert.DownDwRefIdeal.Gen.facts,
  Cert.UpGateDx.Gen.facts,
  Cert.UpGateDxIdeal.Gen.facts,
  Cert.UpGateDxRefIdeal.Gen.facts,
  Cert.GateDw.Gen.facts,
  Cert.GateDwIdeal.Gen.facts,
  Cert.GateDwRefIdeal.Gen.facts,
  Cert.UpDw.Gen.facts,
  Cert.UpDwIdeal.Gen.facts,
  Cert.UpDwRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.GluDx.Gen.facts,
  Cert.GluDxIdeal.Gen.facts,
  Cert.GluDxRefIdeal.Gen.facts,
  Cert.GluDw.Gen.facts,
  Cert.GluDwIdeal.Gen.facts,
  Cert.GluDwRefIdeal.Gen.facts,
  Cert.InProj.Gen.facts,
  Cert.InProjIdeal.Gen.facts,
  Cert.InProjRefIdeal.Gen.facts,
  Cert.GluProj.Gen.facts,
  Cert.GluProjIdeal.Gen.facts,
  Cert.GluProjRefIdeal.Gen.facts,
  Cert.GateUp.Gen.facts,
  Cert.GateUpIdeal.Gen.facts,
  Cert.GateUpRefIdeal.Gen.facts,
  Cert.FfnDown.Gen.facts,
  Cert.FfnDownIdeal.Gen.facts,
  Cert.FfnDownRefIdeal.Gen.facts,
  Cert.InDw.Gen.facts,
  Cert.InDwIdeal.Gen.facts,
  Cert.InDwRefIdeal.Gen.facts,
  Cert.InDx.Gen.facts,
  Cert.InDxIdeal.Gen.facts,
  Cert.InDxRefIdeal.Gen.facts,
  Cert.OutProj.Gen.facts,
  Cert.OutProjIdeal.Gen.facts,
  Cert.OutProjRefIdeal.Gen.facts,
  Cert.Rms.Gen.facts,
  Cert.RmsIdeal.Gen.facts,
  Cert.RmsRefIdeal.Gen.facts,
  Cert.MixOut.Gen.facts,
  Cert.MixOutIdeal.Gen.facts,
  Cert.MixOutRefIdeal.Gen.facts,
  Cert.Loss.Gen.facts,
  Cert.LossIdeal.Gen.facts,
  Cert.LossRefIdeal.Gen.facts,
  Cert.AdamModel.Gen.facts,
  Cert.AdamModelIdeal.Gen.facts,
  Cert.AdamModelRefIdeal.Gen.facts,
  Cert.AdamHead.Gen.facts,
  Cert.AdamHeadIdeal.Gen.facts,
  Cert.AdamHeadRefIdeal.Gen.facts,
  Cert.AdamWidth.Gen.facts,
  Cert.AdamWidthIdeal.Gen.facts,
  Cert.AdamWidthRefIdeal.Gen.facts,
  Cert.AdamBias.Gen.facts,
  Cert.AdamBiasIdeal.Gen.facts,
  Cert.AdamBiasRefIdeal.Gen.facts,
  Cert.AdamState.Gen.facts,
  Cert.AdamStateIdeal.Gen.facts,
  Cert.AdamStateRefIdeal.Gen.facts,
  Cert.AdamMatrix.Gen.facts,
  Cert.AdamMatrixIdeal.Gen.facts,
  Cert.AdamMatrixRefIdeal.Gen.facts,
  Cert.AdamStep.Gen.facts,
  Cert.AdamStepIdeal.Gen.facts,
  Cert.AdamStepRefIdeal.Gen.facts,
  Cert.AdamIn.Gen.facts,
  Cert.AdamInIdeal.Gen.facts,
  Cert.AdamInRefIdeal.Gen.facts,
  Cert.AdamGlu.Gen.facts,
  Cert.AdamGluIdeal.Gen.facts,
  Cert.AdamGluRefIdeal.Gen.facts,
  Cert.AdamOut.Gen.facts,
  Cert.AdamOutIdeal.Gen.facts,
  Cert.AdamOutRefIdeal.Gen.facts,
  Cert.AdamGate.Gen.facts,
  Cert.AdamGateIdeal.Gen.facts,
  Cert.AdamGateRefIdeal.Gen.facts,
  Cert.AdamDown.Gen.facts,
  Cert.AdamDownIdeal.Gen.facts,
  Cert.AdamDownRefIdeal.Gen.facts,
  Cert.Pre_in_slab.Gen.facts,
  Cert.Pre_glu_slab.Gen.facts,
  Cert.Pre_out_slab.Gen.facts,
  Cert.Pre_gate_slab.Gen.facts,
  Cert.Pre_down_slab.Gen.facts,
  fun m ρ _ => Cert.Kernel.Scan.frame m ρ,
  fun m ρ _ => Cert.KernelIdeal.Scan.frame m ρ,
  fun m ρ _ => Cert.DownDx.Gen.frame m ρ,
  fun m ρ _ => Cert.DownDxIdeal.Gen.frame m ρ,
  DownDx_reference_frame,
  fun m ρ _ => Cert.DownDw.Gen.frame m ρ,
  fun m ρ _ => Cert.DownDwIdeal.Gen.frame m ρ,
  DownDw_reference_frame,
  fun m ρ _ => Cert.UpGateDx.Gen.frame m ρ,
  fun m ρ _ => Cert.UpGateDxIdeal.Gen.frame m ρ,
  UpGateDx_reference_frame,
  fun m ρ _ => Cert.GateDw.Gen.frame m ρ,
  fun m ρ _ => Cert.GateDwIdeal.Gen.frame m ρ,
  GateDw_reference_frame,
  fun m ρ _ => Cert.UpDw.Gen.frame m ρ,
  fun m ρ _ => Cert.UpDwIdeal.Gen.frame m ρ,
  UpDw_reference_frame,
  fun m ρ _ => Cert.OutDx.Gen.frame m ρ,
  fun m ρ _ => Cert.OutDxIdeal.Gen.frame m ρ,
  OutDx_reference_frame,
  fun m ρ _ => Cert.OutDw.Gen.frame m ρ,
  fun m ρ _ => Cert.OutDwIdeal.Gen.frame m ρ,
  OutDw_reference_frame,
  fun m ρ _ => Cert.GluDx.Gen.frame m ρ,
  fun m ρ _ => Cert.GluDxIdeal.Gen.frame m ρ,
  GluDx_reference_frame,
  fun m ρ _ => Cert.GluDw.Gen.frame m ρ,
  fun m ρ _ => Cert.GluDwIdeal.Gen.frame m ρ,
  GluDw_reference_frame,
  fun m ρ _ => Cert.InProj.Gen.frame m ρ,
  fun m ρ _ => Cert.InProjIdeal.Gen.frame m ρ,
  InProj_reference_frame,
  fun m ρ _ => Cert.GluProj.Gen.frame m ρ,
  fun m ρ _ => Cert.GluProjIdeal.Gen.frame m ρ,
  GluProj_reference_frame,
  fun m ρ _ => Cert.GateUp.Gen.frame m ρ,
  fun m ρ _ => Cert.GateUpIdeal.Gen.frame m ρ,
  GateUp_reference_frame,
  fun m ρ _ => Cert.FfnDown.Gen.frame m ρ,
  fun m ρ _ => Cert.FfnDownIdeal.Gen.frame m ρ,
  FfnDown_reference_frame,
  fun m ρ _ => Cert.InDw.Gen.frame m ρ,
  fun m ρ _ => Cert.InDwIdeal.Gen.frame m ρ,
  InDw_reference_frame,
  fun m ρ _ => Cert.InDx.Gen.frame m ρ,
  fun m ρ _ => Cert.InDxIdeal.Gen.frame m ρ,
  InDx_reference_frame,
  fun m ρ _ => Cert.OutProj.Gen.frame m ρ,
  fun m ρ _ => Cert.OutProjIdeal.Gen.frame m ρ,
  OutProj_reference_frame,
  fun m ρ _ => Cert.Rms.Gen.frame m ρ,
  fun m ρ _ => Cert.RmsIdeal.Gen.frame m ρ,
  Rms_reference_frame,
  fun m ρ _ => Cert.MixOut.Gen.frame m ρ,
  fun m ρ _ => Cert.MixOutIdeal.Gen.frame m ρ,
  MixOut_reference_frame,
  fun m ρ _ => Cert.Loss.Gen.frame m ρ,
  fun m ρ _ => Cert.LossIdeal.Gen.frame m ρ,
  Loss_reference_frame,
  fun m ρ _ => Cert.AdamModel.Gen.frame m ρ trivial,
  fun m ρ _ => Cert.AdamModelIdeal.Gen.frame m ρ trivial,
  AdamModel_reference_frame,
  fun m ρ _ => Cert.AdamHead.Gen.frame m ρ trivial,
  fun m ρ _ => Cert.AdamHeadIdeal.Gen.frame m ρ trivial,
  AdamHead_reference_frame,
  fun m ρ _ => Cert.AdamWidth.Gen.frame m ρ trivial,
  fun m ρ _ => Cert.AdamWidthIdeal.Gen.frame m ρ trivial,
  AdamWidth_reference_frame,
  fun m ρ _ => Cert.AdamBias.Gen.frame m ρ trivial,
  fun m ρ _ => Cert.AdamBiasIdeal.Gen.frame m ρ trivial,
  AdamBias_reference_frame,
  fun m ρ _ => Cert.AdamState.Gen.frame m ρ trivial,
  fun m ρ _ => Cert.AdamStateIdeal.Gen.frame m ρ trivial,
  AdamState_reference_frame,
  fun m ρ _ => Cert.AdamMatrix.Gen.frame m ρ trivial,
  fun m ρ _ => Cert.AdamMatrixIdeal.Gen.frame m ρ trivial,
  AdamMatrix_reference_frame,
  fun m ρ _ => Cert.AdamStep.Gen.frame m ρ trivial,
  fun m ρ _ => Cert.AdamStepIdeal.Gen.frame m ρ trivial,
  AdamStep_reference_frame,
  fun m ρ h => Cert.AdamIn.Gen.frame m ρ (Cert.AdamIn.Product.ok m (Cert.AdamIn.Product.range m h)),
  fun m ρ h => Cert.AdamInIdeal.Gen.frame m ρ (Cert.AdamInIdeal.Product.ok m (Cert.AdamInIdeal.Product.range m h)),
  AdamIn_reference_frame,
  fun m ρ _ => AdamIn_reference_frame m ρ trivial,
  fun m ρ h => Cert.AdamGlu.Gen.frame m ρ (Cert.AdamGlu.Product.ok m (Cert.AdamGlu.Product.range m h)),
  fun m ρ h => Cert.AdamGluIdeal.Gen.frame m ρ (Cert.AdamGluIdeal.Product.ok m (Cert.AdamGluIdeal.Product.range m h)),
  AdamGlu_reference_frame,
  fun m ρ _ => AdamGlu_reference_frame m ρ trivial,
  fun m ρ h => Cert.AdamOut.Gen.frame m ρ (Cert.AdamOut.Product.ok m (Cert.AdamOut.Product.range m h)),
  fun m ρ h => Cert.AdamOutIdeal.Gen.frame m ρ (Cert.AdamOutIdeal.Product.ok m (Cert.AdamOutIdeal.Product.range m h)),
  AdamOut_reference_frame,
  fun m ρ _ => AdamOut_reference_frame m ρ trivial,
  fun m ρ h => Cert.AdamGate.Gen.frame m ρ (Cert.AdamGate.Product.ok m (Cert.AdamGate.Product.range m h)),
  fun m ρ h => Cert.AdamGateIdeal.Gen.frame m ρ (Cert.AdamGateIdeal.Product.ok m (Cert.AdamGateIdeal.Product.range m h)),
  AdamGate_reference_frame,
  fun m ρ _ => AdamGate_reference_frame m ρ trivial,
  fun m ρ h => Cert.AdamDown.Gen.frame m ρ (Cert.AdamDown.Product.ok m (Cert.AdamDown.Product.range m h)),
  fun m ρ h => Cert.AdamDownIdeal.Gen.frame m ρ (Cert.AdamDownIdeal.Product.ok m (Cert.AdamDownIdeal.Product.range m h)),
  AdamDown_reference_frame,
  fun m ρ _ => AdamDown_reference_frame m ρ trivial,
  trivial,
  trivial,
  DownDx_value,
  trivial,
  DownDw_value,
  trivial,
  UpGateDx_value,
  trivial,
  GateDw_value,
  trivial,
  UpDw_value,
  trivial,
  OutDx_value,
  trivial,
  OutDw_value,
  trivial,
  GluDx_value,
  trivial,
  GluDw_value,
  trivial,
  InProj_value,
  trivial,
  GluProj_value,
  trivial,
  GateUp_value,
  trivial,
  FfnDown_value,
  trivial,
  InDw_value,
  trivial,
  InDx_value,
  trivial,
  OutProj_value,
  trivial,
  Rms_value,
  trivial,
  MixOut_value,
  trivial,
  Loss_value,
  trivial,
  AdamModel_value,
  trivial,
  AdamHead_value,
  trivial,
  AdamWidth_value,
  trivial,
  AdamBias_value,
  trivial,
  AdamState_value,
  trivial,
  AdamMatrix_value,
  trivial,
  AdamStep_value,
  trivial,
  AdamIn_value,
  trivial,
  AdamGlu_value,
  trivial,
  AdamOut_value,
  trivial,
  AdamGate_value,
  trivial,
  AdamDown_value⟩

end Cert.Proof

end
